-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_picked [hPre_picked : Cert.Pre_picked.Facts] (m : (ℓ : Loc Cert.KernelIdeal.nD Cert.KernelIdeal.τ Cert.KernelIdeal.sig) → Buf (Elt Ideal) ℓ) : Prop :=
  ∀ c : Dev Cert.KernelIdeal.nD,
    (Cert.Pre_picked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_picked [hPre_picked : Cert.Pre_picked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_picked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaReferenceIdeal (m : (ℓ : Loc Cert.GlaReferenceIdeal.nD Cert.GlaReferenceIdeal.τ Cert.GlaReferenceIdeal.sig) → Buf (Elt Ideal) ℓ) : Prop :=
  True

def Pre_Hy (m : (ℓ : Loc Cert.Hy.nD Cert.Hy.τ Cert.Hy.sig) → Buf (Elt Bits) ℓ) : Prop :=
  True

def Pre_HyIdeal (m : (ℓ : Loc Cert.HyIdeal.nD Cert.HyIdeal.τ Cert.HyIdeal.sig) → Buf (Elt Ideal) ℓ) : Prop :=
  True

def Pre_HyReferenceIdeal (m : (ℓ : Loc Cert.HyReferenceIdeal.nD Cert.HyReferenceIdeal.τ Cert.HyReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_picked [hKernelIdeal : Cert.KernelIdeal.Facts] [hPre_picked : Cert.Pre_picked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_picked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_picked [hReferenceIdeal : Cert.ReferenceIdeal.Facts] [hPre_picked : Cert.Pre_picked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_picked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7)
      ∧ r.2.mem ((c.tc : Thread Cert.Gla.nD Cert.Gla.τ).loc Cert.Gla.main_arg8) = m ((c.tc : Thread Cert.Gla.nD Cert.Gla.τ).loc Cert.Gla.main_arg8))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6)
      ∧ r.2.mem ((c.tc : Thread Cert.GlaReferenceIdeal.nD Cert.GlaReferenceIdeal.τ).loc Cert.GlaReferenceIdeal.main_arg7) = m ((c.tc : Thread Cert.GlaReferenceIdeal.nD Cert.GlaReferenceIdeal.τ).loc Cert.GlaReferenceIdeal.main_arg7)
      ∧ r.2.mem ((c.tc : Thread Cert.GlaReferenceIdeal.nD Cert.GlaReferenceIdeal.τ).loc Cert.GlaReferenceIdeal.main_arg8) = m ((c.tc : Thread Cert.GlaReferenceIdeal.nD Cert.GlaReferenceIdeal.τ).loc Cert.GlaReferenceIdeal.main_arg8))
      ∧ r.2.sem = fun _ => 0)

def quiescent_Hy [hHy : Cert.Hy.Facts] : Prop :=
  ∀ (m : (ℓ : Loc Cert.Hy.nD Cert.Hy.τ Cert.Hy.sig) → Buf (Elt Bits) ℓ) (g : Dev Cert.Hy.nD → PrngReg), Pre_Hy m →
    θ_run (Cert.Hy.defs (F := Bits)) (onTc (τ := Cert.Hy.τ) (Cert.Hy.main (F := Bits))) ⟨m, fun _ => 0, g⟩ (fun r => (∀ c : Dev Cert.Hy.nD,
      r.2.mem ((c.tc : Thread Cert.Hy.nD Cert.Hy.τ).loc Cert.Hy.main_arg0) = m ((c.tc : Thread Cert.Hy.nD Cert.Hy.τ).loc Cert.Hy.main_arg0)
      ∧ r.2.mem ((c.tc : Thread Cert.Hy.nD Cert.Hy.τ).loc Cert.Hy.main_arg1) = m ((c.tc : Thread Cert.Hy.nD Cert.Hy.τ).loc Cert.Hy.main_arg1)
      ∧ r.2.mem ((c.tc : Thread Cert.Hy.nD Cert.Hy.τ).loc Cert.Hy.main_arg2) = m ((c.tc : Thread Cert.Hy.nD Cert.Hy.τ).loc Cert.Hy.main_arg2)
      ∧ r.2.mem ((c.tc : Thread Cert.Hy.nD Cert.Hy.τ).loc Cert.Hy.main_arg3) = m ((c.tc : Thread Cert.Hy.nD Cert.Hy.τ).loc Cert.Hy.main_arg3)
      ∧ r.2.mem ((c.tc : Thread Cert.Hy.nD Cert.Hy.τ).loc Cert.Hy.main_arg4) = m ((c.tc : Thread Cert.Hy.nD Cert.Hy.τ).loc Cert.Hy.main_arg4)
      ∧ r.2.mem ((c.tc : Thread Cert.Hy.nD Cert.Hy.τ).loc Cert.Hy.main_arg5) = m ((c.tc : Thread Cert.Hy.nD Cert.Hy.τ).loc Cert.Hy.main_arg5)
      ∧ r.2.mem ((c.tc : Thread Cert.Hy.nD Cert.Hy.τ).loc Cert.Hy.main_arg6) = m ((c.tc : Thread Cert.Hy.nD Cert.Hy.τ).loc Cert.Hy.main_arg6))
      ∧ r.2.sem = fun _ => 0)

def quiescent_HyIdeal [hHyIdeal : Cert.HyIdeal.Facts] : Prop :=
  ∀ (m : (ℓ : Loc Cert.HyIdeal.nD Cert.HyIdeal.τ Cert.HyIdeal.sig) → Buf (Elt Ideal) ℓ) (g : Dev Cert.HyIdeal.nD → PrngReg), Pre_HyIdeal m →
    θ_run (Cert.HyIdeal.defs (F := Ideal)) (onTc (τ := Cert.HyIdeal.τ) (Cert.HyIdeal.main (F := Ideal))) ⟨m, fun _ => 0, g⟩ (fun r => (∀ c : Dev Cert.HyIdeal.nD,
      r.2.mem ((c.tc : Thread Cert.HyIdeal.nD Cert.HyIdeal.τ).loc Cert.HyIdeal.main_arg0) = m ((c.tc : Thread Cert.HyIdeal.nD Cert.HyIdeal.τ).loc Cert.HyIdeal.main_arg0)
      ∧ r.2.mem ((c.tc : Thread Cert.HyIdeal.nD Cert.HyIdeal.τ).loc Cert.HyIdeal.main_arg1) = m ((c.tc : Thread Cert.HyIdeal.nD Cert.HyIdeal.τ).loc Cert.HyIdeal.main_arg1)
      ∧ r.2.mem ((c.tc : Thread Cert.HyIdeal.nD Cert.HyIdeal.τ).loc Cert.HyIdeal.main_arg2) = m ((c.tc : Thread Cert.HyIdeal.nD Cert.HyIdeal.τ).loc Cert.HyIdeal.main_arg2)
      ∧ r.2.mem ((c.tc : Thread Cert.HyIdeal.nD Cert.HyIdeal.τ).loc Cert.HyIdeal.main_arg3) = m ((c.tc : Thread Cert.HyIdeal.nD Cert.HyIdeal.τ).loc Cert.HyIdeal.main_arg3)
      ∧ r.2.mem ((c.tc : Thread Cert.HyIdeal.nD Cert.HyIdeal.τ).loc Cert.HyIdeal.main_arg4) = m ((c.tc : Thread Cert.HyIdeal.nD Cert.HyIdeal.τ).loc Cert.HyIdeal.main_arg4)
      ∧ r.2.mem ((c.tc : Thread Cert.HyIdeal.nD Cert.HyIdeal.τ).loc Cert.HyIdeal.main_arg5) = m ((c.tc : Thread Cert.HyIdeal.nD Cert.HyIdeal.τ).loc Cert.HyIdeal.main_arg5)
      ∧ r.2.mem ((c.tc : Thread Cert.HyIdeal.nD Cert.HyIdeal.τ).loc Cert.HyIdeal.main_arg6) = m ((c.tc : Thread Cert.HyIdeal.nD Cert.HyIdeal.τ).loc Cert.HyIdeal.main_arg6))
      ∧ r.2.sem = fun _ => 0)

def quiescent_HyReferenceIdeal [hHyReferenceIdeal : Cert.HyReferenceIdeal.Facts] : Prop :=
  ∀ (m : (ℓ : Loc Cert.HyReferenceIdeal.nD Cert.HyReferenceIdeal.τ Cert.HyReferenceIdeal.sig) → Buf (Elt Ideal) ℓ) (g : Dev Cert.HyReferenceIdeal.nD → PrngReg), Pre_HyReferenceIdeal m →
    θ_run (Cert.HyReferenceIdeal.defs (F := Ideal)) (onTc (τ := Cert.HyReferenceIdeal.τ) (Cert.HyReferenceIdeal.main (F := Ideal))) ⟨m, fun _ => 0, g⟩ (fun r => (∀ c : Dev Cert.HyReferenceIdeal.nD,
      r.2.mem ((c.tc : Thread Cert.HyReferenceIdeal.nD Cert.HyReferenceIdeal.τ).loc Cert.HyReferenceIdeal.main_arg0) = m ((c.tc : Thread Cert.HyReferenceIdeal.nD Cert.HyReferenceIdeal.τ).loc Cert.HyReferenceIdeal.main_arg0)
      ∧ r.2.mem ((c.tc : Thread Cert.HyReferenceIdeal.nD Cert.HyReferenceIdeal.τ).loc Cert.HyReferenceIdeal.main_arg1) = m ((c.tc : Thread Cert.HyReferenceIdeal.nD Cert.HyReferenceIdeal.τ).loc Cert.HyReferenceIdeal.main_arg1)
      ∧ r.2.mem ((c.tc : Thread Cert.HyReferenceIdeal.nD Cert.HyReferenceIdeal.τ).loc Cert.HyReferenceIdeal.main_arg2) = m ((c.tc : Thread Cert.HyReferenceIdeal.nD Cert.HyReferenceIdeal.τ).loc Cert.HyReferenceIdeal.main_arg2)
      ∧ r.2.mem ((c.tc : Thread Cert.HyReferenceIdeal.nD Cert.HyReferenceIdeal.τ).loc Cert.HyReferenceIdeal.main_arg3) = m ((c.tc : Thread Cert.HyReferenceIdeal.nD Cert.HyReferenceIdeal.τ).loc Cert.HyReferenceIdeal.main_arg3)
      ∧ r.2.mem ((c.tc : Thread Cert.HyReferenceIdeal.nD Cert.HyReferenceIdeal.τ).loc Cert.HyReferenceIdeal.main_arg4) = m ((c.tc : Thread Cert.HyReferenceIdeal.nD Cert.HyReferenceIdeal.τ).loc Cert.HyReferenceIdeal.main_arg4)
      ∧ r.2.mem ((c.tc : Thread Cert.HyReferenceIdeal.nD Cert.HyReferenceIdeal.τ).loc Cert.HyReferenceIdeal.main_arg5) = m ((c.tc : Thread Cert.HyReferenceIdeal.nD Cert.HyReferenceIdeal.τ).loc Cert.HyReferenceIdeal.main_arg5)
      ∧ r.2.mem ((c.tc : Thread Cert.HyReferenceIdeal.nD Cert.HyReferenceIdeal.τ).loc Cert.HyReferenceIdeal.main_arg6) = m ((c.tc : Thread Cert.HyReferenceIdeal.nD Cert.HyReferenceIdeal.τ).loc Cert.HyReferenceIdeal.main_arg6))
      ∧ r.2.sem = fun _ => 0)

def preserves_Kernel_KernelIdeal : Prop :=
  True

def algebraic_KernelIdeal_ReferenceIdeal_pre_picked [hKernelIdeal : Cert.KernelIdeal.Facts] [hReferenceIdeal : Cert.ReferenceIdeal.Facts] [hPre_picked : Cert.Pre_picked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_picked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Gla_GlaIdeal : Prop :=
  True

def algebraic_GlaIdeal_GlaReferenceIdeal [hGlaIdeal : Cert.GlaIdeal.Facts] [hGlaReferenceIdeal : Cert.GlaReferenceIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaIdeal m →
    (∀ c : Dev Cert.GlaIdeal.nD,
      m' ((c.tc : Thread Cert.GlaReferenceIdeal.nD Cert.GlaReferenceIdeal.τ).loc Cert.GlaReferenceIdeal.main_arg0) = m ((c.tc : Thread Cert.GlaIdeal.nD Cert.GlaIdeal.τ).loc Cert.GlaIdeal.main_arg0)
      ∧ m' ((c.tc : Thread Cert.GlaReferenceIdeal.nD Cert.GlaReferenceIdeal.τ).loc Cert.GlaReferenceIdeal.main_arg1) = m ((c.tc : Thread Cert.GlaIdeal.nD Cert.GlaIdeal.τ).loc Cert.GlaIdeal.main_arg1)
      ∧ m' ((c.tc : Thread Cert.GlaReferenceIdeal.nD Cert.GlaReferenceIdeal.τ).loc Cert.GlaReferenceIdeal.main_arg2) = m ((c.tc : Thread Cert.GlaIdeal.nD Cert.GlaIdeal.τ).loc Cert.GlaIdeal.main_arg2)
      ∧ m' ((c.tc : Thread Cert.GlaReferenceIdeal.nD Cert.GlaReferenceIdeal.τ).loc Cert.GlaReferenceIdeal.main_arg3) = m ((c.tc : Thread Cert.GlaIdeal.nD Cert.GlaIdeal.τ).loc Cert.GlaIdeal.main_arg3)
      ∧ m' ((c.tc : Thread Cert.GlaReferenceIdeal.nD Cert.GlaReferenceIdeal.τ).loc Cert.GlaReferenceIdeal.main_arg4) = m ((c.tc : Thread Cert.GlaIdeal.nD Cert.GlaIdeal.τ).loc Cert.GlaIdeal.main_arg4)
      ∧ m' ((c.tc : Thread Cert.GlaReferenceIdeal.nD Cert.GlaReferenceIdeal.τ).loc Cert.GlaReferenceIdeal.main_arg5) = m ((c.tc : Thread Cert.GlaIdeal.nD Cert.GlaIdeal.τ).loc Cert.GlaIdeal.main_arg5)
      ∧ m' ((c.tc : Thread Cert.GlaReferenceIdeal.nD Cert.GlaReferenceIdeal.τ).loc Cert.GlaReferenceIdeal.main_arg6) = m ((c.tc : Thread Cert.GlaIdeal.nD Cert.GlaIdeal.τ).loc Cert.GlaIdeal.main_arg6)
      ∧ m' ((c.tc : Thread Cert.GlaReferenceIdeal.nD Cert.GlaReferenceIdeal.τ).loc Cert.GlaReferenceIdeal.main_arg7) = m ((c.tc : Thread Cert.GlaIdeal.nD Cert.GlaIdeal.τ).loc Cert.GlaIdeal.main_arg7)
      ∧ m' ((c.tc : Thread Cert.GlaReferenceIdeal.nD Cert.GlaReferenceIdeal.τ).loc Cert.GlaReferenceIdeal.main_arg8) = m ((c.tc : Thread Cert.GlaIdeal.nD Cert.GlaIdeal.τ).loc Cert.GlaIdeal.main_arg8)) →
    ∃ (v0 : (c : Dev Cert.GlaIdeal.nD) → Buf (Elt Ideal) ((c.tc : Thread Cert.GlaIdeal.nD Cert.GlaIdeal.τ).loc Cert.GlaIdeal.main_v28_0)) (v1 : (c : Dev Cert.GlaIdeal.nD) → Buf (Elt Ideal) ((c.tc : Thread Cert.GlaIdeal.nD Cert.GlaIdeal.τ).loc Cert.GlaIdeal.main_v28_1)) (v2 : (c : Dev Cert.GlaIdeal.nD) → Buf (Elt Ideal) ((c.tc : Thread Cert.GlaIdeal.nD Cert.GlaIdeal.τ).loc Cert.GlaIdeal.main_v28_2)) (v3 : (c : Dev Cert.GlaIdeal.nD) → Buf (Elt Ideal) ((c.tc : Thread Cert.GlaIdeal.nD Cert.GlaIdeal.τ).loc Cert.GlaIdeal.main_v28_3)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v28_0) = v0 c
          ∧ r.2.mem ((c.tc : Thread Cert.GlaIdeal.nD Cert.GlaIdeal.τ).loc Cert.GlaIdeal.main_v28_1) = v1 c
          ∧ r.2.mem ((c.tc : Thread Cert.GlaIdeal.nD Cert.GlaIdeal.τ).loc Cert.GlaIdeal.main_v28_2) = v2 c
          ∧ r.2.mem ((c.tc : Thread Cert.GlaIdeal.nD Cert.GlaIdeal.τ).loc Cert.GlaIdeal.main_v28_3) = v3 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
          ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v29) = v0 c
          ∧ r.2.mem ((c.tc : Thread Cert.GlaReferenceIdeal.nD Cert.GlaReferenceIdeal.τ).loc Cert.GlaReferenceIdeal.main_v23) = v1 c
          ∧ r.2.mem ((c.tc : Thread Cert.GlaReferenceIdeal.nD Cert.GlaReferenceIdeal.τ).loc Cert.GlaReferenceIdeal.main_v24) = v2 c
          ∧ r.2.mem ((c.tc : Thread Cert.GlaReferenceIdeal.nD Cert.GlaReferenceIdeal.τ).loc Cert.GlaReferenceIdeal.main_v25) = v3 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4)
          ∧ r.2.mem ((c.tc : Thread Cert.GlaReferenceIdeal.nD Cert.GlaReferenceIdeal.τ).loc Cert.GlaReferenceIdeal.main_arg5) = m' ((c.tc : Thread Cert.GlaReferenceIdeal.nD Cert.GlaReferenceIdeal.τ).loc Cert.GlaReferenceIdeal.main_arg5)
          ∧ r.2.mem ((c.tc : Thread Cert.GlaReferenceIdeal.nD Cert.GlaReferenceIdeal.τ).loc Cert.GlaReferenceIdeal.main_arg6) = m' ((c.tc : Thread Cert.GlaReferenceIdeal.nD Cert.GlaReferenceIdeal.τ).loc Cert.GlaReferenceIdeal.main_arg6)
          ∧ r.2.mem ((c.tc : Thread Cert.GlaReferenceIdeal.nD Cert.GlaReferenceIdeal.τ).loc Cert.GlaReferenceIdeal.main_arg7) = m' ((c.tc : Thread Cert.GlaReferenceIdeal.nD Cert.GlaReferenceIdeal.τ).loc Cert.GlaReferenceIdeal.main_arg7)
          ∧ r.2.mem ((c.tc : Thread Cert.GlaReferenceIdeal.nD Cert.GlaReferenceIdeal.τ).loc Cert.GlaReferenceIdeal.main_arg8) = m' ((c.tc : Thread Cert.GlaReferenceIdeal.nD Cert.GlaReferenceIdeal.τ).loc Cert.GlaReferenceIdeal.main_arg8))

def preserves_Hy_HyIdeal : Prop :=
  True

def algebraic_HyIdeal_HyReferenceIdeal [hHyIdeal : Cert.HyIdeal.Facts] [hHyReferenceIdeal : Cert.HyReferenceIdeal.Facts] : Prop :=
  ∀ (m : (ℓ : Loc Cert.HyIdeal.nD Cert.HyIdeal.τ Cert.HyIdeal.sig) → Buf (Elt Ideal) ℓ) (g : Dev Cert.HyIdeal.nD → PrngReg)
    (m' : (ℓ : Loc Cert.HyReferenceIdeal.nD Cert.HyReferenceIdeal.τ Cert.HyReferenceIdeal.sig) → Buf (Elt Ideal) ℓ) (g' : Dev Cert.HyReferenceIdeal.nD → PrngReg), Pre_HyIdeal m →
    (∀ c : Dev Cert.HyIdeal.nD,
      m' ((c.tc : Thread Cert.HyReferenceIdeal.nD Cert.HyReferenceIdeal.τ).loc Cert.HyReferenceIdeal.main_arg0) = m ((c.tc : Thread Cert.HyIdeal.nD Cert.HyIdeal.τ).loc Cert.HyIdeal.main_arg0)
      ∧ m' ((c.tc : Thread Cert.HyReferenceIdeal.nD Cert.HyReferenceIdeal.τ).loc Cert.HyReferenceIdeal.main_arg1) = m ((c.tc : Thread Cert.HyIdeal.nD Cert.HyIdeal.τ).loc Cert.HyIdeal.main_arg1)
      ∧ m' ((c.tc : Thread Cert.HyReferenceIdeal.nD Cert.HyReferenceIdeal.τ).loc Cert.HyReferenceIdeal.main_arg2) = m ((c.tc : Thread Cert.HyIdeal.nD Cert.HyIdeal.τ).loc Cert.HyIdeal.main_arg2)
      ∧ m' ((c.tc : Thread Cert.HyReferenceIdeal.nD Cert.HyReferenceIdeal.τ).loc Cert.HyReferenceIdeal.main_arg3) = m ((c.tc : Thread Cert.HyIdeal.nD Cert.HyIdeal.τ).loc Cert.HyIdeal.main_arg3)
      ∧ m' ((c.tc : Thread Cert.HyReferenceIdeal.nD Cert.HyReferenceIdeal.τ).loc Cert.HyReferenceIdeal.main_arg4) = m ((c.tc : Thread Cert.HyIdeal.nD Cert.HyIdeal.τ).loc Cert.HyIdeal.main_arg4)
      ∧ m' ((c.tc : Thread Cert.HyReferenceIdeal.nD Cert.HyReferenceIdeal.τ).loc Cert.HyReferenceIdeal.main_arg5) = m ((c.tc : Thread Cert.HyIdeal.nD Cert.HyIdeal.τ).loc Cert.HyIdeal.main_arg5)
      ∧ m' ((c.tc : Thread Cert.HyReferenceIdeal.nD Cert.HyReferenceIdeal.τ).loc Cert.HyReferenceIdeal.main_arg6) = m ((c.tc : Thread Cert.HyIdeal.nD Cert.HyIdeal.τ).loc Cert.HyIdeal.main_arg6)) →
    ∃ (v0 : (c : Dev Cert.HyIdeal.nD) → Buf (Elt Ideal) ((c.tc : Thread Cert.HyIdeal.nD Cert.HyIdeal.τ).loc Cert.HyIdeal.main_v5_0)) (v1 : (c : Dev Cert.HyIdeal.nD) → Buf (Elt Ideal) ((c.tc : Thread Cert.HyIdeal.nD Cert.HyIdeal.τ).loc Cert.HyIdeal.main_v5_1)),
      θ_run (Cert.HyIdeal.defs (F := Ideal)) (onTc (τ := Cert.HyIdeal.τ) (Cert.HyIdeal.main (F := Ideal))) ⟨m, fun _ => 0, g⟩ (fun r => ∀ c : Dev Cert.HyIdeal.nD,
          r.2.mem ((c.tc : Thread Cert.HyIdeal.nD Cert.HyIdeal.τ).loc Cert.HyIdeal.main_v5_0) = v0 c
          ∧ r.2.mem ((c.tc : Thread Cert.HyIdeal.nD Cert.HyIdeal.τ).loc Cert.HyIdeal.main_v5_1) = v1 c
          ∧ r.2.mem ((c.tc : Thread Cert.HyIdeal.nD Cert.HyIdeal.τ).loc Cert.HyIdeal.main_arg0) = m ((c.tc : Thread Cert.HyIdeal.nD Cert.HyIdeal.τ).loc Cert.HyIdeal.main_arg0)
          ∧ r.2.mem ((c.tc : Thread Cert.HyIdeal.nD Cert.HyIdeal.τ).loc Cert.HyIdeal.main_arg1) = m ((c.tc : Thread Cert.HyIdeal.nD Cert.HyIdeal.τ).loc Cert.HyIdeal.main_arg1)
          ∧ r.2.mem ((c.tc : Thread Cert.HyIdeal.nD Cert.HyIdeal.τ).loc Cert.HyIdeal.main_arg2) = m ((c.tc : Thread Cert.HyIdeal.nD Cert.HyIdeal.τ).loc Cert.HyIdeal.main_arg2)
          ∧ r.2.mem ((c.tc : Thread Cert.HyIdeal.nD Cert.HyIdeal.τ).loc Cert.HyIdeal.main_arg3) = m ((c.tc : Thread Cert.HyIdeal.nD Cert.HyIdeal.τ).loc Cert.HyIdeal.main_arg3)
          ∧ r.2.mem ((c.tc : Thread Cert.HyIdeal.nD Cert.HyIdeal.τ).loc Cert.HyIdeal.main_arg4) = m ((c.tc : Thread Cert.HyIdeal.nD Cert.HyIdeal.τ).loc Cert.HyIdeal.main_arg4)
          ∧ r.2.mem ((c.tc : Thread Cert.HyIdeal.nD Cert.HyIdeal.τ).loc Cert.HyIdeal.main_arg5) = m ((c.tc : Thread Cert.HyIdeal.nD Cert.HyIdeal.τ).loc Cert.HyIdeal.main_arg5)
          ∧ r.2.mem ((c.tc : Thread Cert.HyIdeal.nD Cert.HyIdeal.τ).loc Cert.HyIdeal.main_arg6) = m ((c.tc : Thread Cert.HyIdeal.nD Cert.HyIdeal.τ).loc Cert.HyIdeal.main_arg6))
      ∧ θ_run (Cert.HyReferenceIdeal.defs (F := Ideal)) (onTc (τ := Cert.HyReferenceIdeal.τ) (Cert.HyReferenceIdeal.main (F := Ideal))) ⟨m', fun _ => 0, g'⟩ (fun r => ∀ c : Dev Cert.HyReferenceIdeal.nD,
          r.2.mem ((c.tc : Thread Cert.HyReferenceIdeal.nD Cert.HyReferenceIdeal.τ).loc Cert.HyReferenceIdeal.main_v46) = v0 c
          ∧ r.2.mem ((c.tc : Thread Cert.HyReferenceIdeal.nD Cert.HyReferenceIdeal.τ).loc Cert.HyReferenceIdeal.main_v49) = v1 c
          ∧ r.2.mem ((c.tc : Thread Cert.HyReferenceIdeal.nD Cert.HyReferenceIdeal.τ).loc Cert.HyReferenceIdeal.main_arg0) = m' ((c.tc : Thread Cert.HyReferenceIdeal.nD Cert.HyReferenceIdeal.τ).loc Cert.HyReferenceIdeal.main_arg0)
          ∧ r.2.mem ((c.tc : Thread Cert.HyReferenceIdeal.nD Cert.HyReferenceIdeal.τ).loc Cert.HyReferenceIdeal.main_arg1) = m' ((c.tc : Thread Cert.HyReferenceIdeal.nD Cert.HyReferenceIdeal.τ).loc Cert.HyReferenceIdeal.main_arg1)
          ∧ r.2.mem ((c.tc : Thread Cert.HyReferenceIdeal.nD Cert.HyReferenceIdeal.τ).loc Cert.HyReferenceIdeal.main_arg2) = m' ((c.tc : Thread Cert.HyReferenceIdeal.nD Cert.HyReferenceIdeal.τ).loc Cert.HyReferenceIdeal.main_arg2)
          ∧ r.2.mem ((c.tc : Thread Cert.HyReferenceIdeal.nD Cert.HyReferenceIdeal.τ).loc Cert.HyReferenceIdeal.main_arg3) = m' ((c.tc : Thread Cert.HyReferenceIdeal.nD Cert.HyReferenceIdeal.τ).loc Cert.HyReferenceIdeal.main_arg3)
          ∧ r.2.mem ((c.tc : Thread Cert.HyReferenceIdeal.nD Cert.HyReferenceIdeal.τ).loc Cert.HyReferenceIdeal.main_arg4) = m' ((c.tc : Thread Cert.HyReferenceIdeal.nD Cert.HyReferenceIdeal.τ).loc Cert.HyReferenceIdeal.main_arg4)
          ∧ r.2.mem ((c.tc : Thread Cert.HyReferenceIdeal.nD Cert.HyReferenceIdeal.τ).loc Cert.HyReferenceIdeal.main_arg5) = m' ((c.tc : Thread Cert.HyReferenceIdeal.nD Cert.HyReferenceIdeal.τ).loc Cert.HyReferenceIdeal.main_arg5)
          ∧ r.2.mem ((c.tc : Thread Cert.HyReferenceIdeal.nD Cert.HyReferenceIdeal.τ).loc Cert.HyReferenceIdeal.main_arg6) = m' ((c.tc : Thread Cert.HyReferenceIdeal.nD Cert.HyReferenceIdeal.τ).loc Cert.HyReferenceIdeal.main_arg6))

def Claim : Prop :=
  ∃ (hKernel : Cert.Kernel.Facts) (hKernelIdeal : Cert.KernelIdeal.Facts) (hReferenceIdeal : Cert.ReferenceIdeal.Facts) (hGla : Cert.Gla.Facts) (hGlaIdeal : Cert.GlaIdeal.Facts) (hGlaReferenceIdeal : Cert.GlaReferenceIdeal.Facts) (hHy : Cert.Hy.Facts) (hHyIdeal : Cert.HyIdeal.Facts) (hHyReferenceIdeal : Cert.HyReferenceIdeal.Facts) (hPre_picked : Cert.Pre_picked.Facts),
    quiescent_Kernel (hKernel := hKernel)
    ∧ quiescent_KernelIdeal (hKernelIdeal := hKernelIdeal)
    ∧ quiescent_KernelIdeal_pre_picked (hKernelIdeal := hKernelIdeal) (hPre_picked := hPre_picked)
    ∧ quiescent_ReferenceIdeal (hReferenceIdeal := hReferenceIdeal)
    ∧ quiescent_ReferenceIdeal_pre_picked (hReferenceIdeal := hReferenceIdeal) (hPre_picked := hPre_picked)
    ∧ quiescent_Gla (hGla := hGla)
    ∧ quiescent_GlaIdeal (hGlaIdeal := hGlaIdeal)
    ∧ quiescent_GlaReferenceIdeal (hGlaReferenceIdeal := hGlaReferenceIdeal)
    ∧ quiescent_Hy (hHy := hHy)
    ∧ quiescent_HyIdeal (hHyIdeal := hHyIdeal)
    ∧ quiescent_HyReferenceIdeal (hHyReferenceIdeal := hHyReferenceIdeal)
    ∧ preserves_Kernel_KernelIdeal
    ∧ algebraic_KernelIdeal_ReferenceIdeal_pre_picked (hKernelIdeal := hKernelIdeal) (hReferenceIdeal := hReferenceIdeal) (hPre_picked := hPre_picked)
    ∧ preserves_Gla_GlaIdeal
    ∧ algebraic_GlaIdeal_GlaReferenceIdeal (hGlaIdeal := hGlaIdeal) (hGlaReferenceIdeal := hGlaReferenceIdeal)
    ∧ preserves_Hy_HyIdeal
    ∧ algebraic_HyIdeal_HyReferenceIdeal (hHyIdeal := hHyIdeal) (hHyReferenceIdeal := hHyReferenceIdeal)
-- ==== Pre_picked.lean ====
abbrev S16x4096x1024 : Shape := ⟨3, ![16, 4096, 1024]⟩
abbrev S16x16x4096 : Shape := ⟨3, ![16, 16, 4096]⟩
abbrev S16x16x512 : Shape := ⟨3, ![16, 16, 512]⟩
abbrev S16x1024x2048 : Shape := ⟨3, ![16, 1024, 2048]⟩
abbrev S16x2048x1024 : Shape := ⟨3, ![16, 2048, 1024]⟩
abbrev S_ : Shape := ⟨0, ![]⟩
abbrev S16x16x511 : Shape := ⟨3, ![16, 16, 511]⟩

class Facts : Prop where
  bcast_S_S16x16x512 : S_.BroadcastsInDim S16x16x512 (![] : Fin 0 → Fin S16x16x512.rank)
  reducesTo_S16x16x512_S_d0_1_2 : S16x16x512.ReducesTo [0, 1, 2] S_
  h_S_ : 0 < S_.numel
  slices_S16x16x512_S16x16x511_0_0_0 : S16x16x512.Slices ![0, 0, 0] S16x16x511
  slices_S16x16x512_S16x16x511_0_0_1 : S16x16x512.Slices ![0, 0, 1] S16x16x511
  reducesTo_S16x16x511_S_d0_1_2 : S16x16x511.ReducesTo [0, 1, 2] S_

variable [Facts]

def fn {F : FTy → Type} [FloatOps F] (main_arg0 : FVec F S16x4096x1024 .f32) (main_arg1 : FVec F S16x16x4096 .f32) (main_arg2 : IVec S16x16x512 32) (main_arg3 : FVec F S16x1024x2048 .f32) (main_arg4 : FVec F S16x1024x2048 .f32) (main_arg5 : FVec F S16x2048x1024 .f32) : IVec S_ 1 :=
  let main_c : IVec S_ 32 := constantI S_ 32 0#32
  let main_v0 : IVec S16x16x512 32 := broadcastInDim S16x16x512 ![] bcast_S_S16x16x512 main_c
  let main_v1 : IVec S16x16x512 1 := cmpi .sge main_arg2 main_v0
  let main_c_0 : IVec S_ 1 := constantI S_ 1 1#1
  let main_v2 : IVec S_ 1 := (fun x v => Host.reduce IntOp.andi x v reducesTo_S16x16x512_S_d0_1_2 h_S_) main_v1 main_c_0
  let main_c_1 : IVec S_ 32 := constantI S_ 32 4096#32
  let main_v3 : IVec S16x16x512 32 := broadcastInDim S16x16x512 ![] bcast_S_S16x16x512 main_c_1
  let main_v4 : IVec S16x16x512 1 := cmpi .slt main_arg2 main_v3
  let main_c_2 : IVec S_ 1 := constantI S_ 1 1#1
  let main_v5 : IVec S_ 1 := (fun x v => Host.reduce IntOp.andi x v reducesTo_S16x16x512_S_d0_1_2 h_S_) main_v4 main_c_2
  let main_v6 : IVec S_ 1 := andi main_v2 main_v5
  let main_v7 : IVec S16x16x511 32 := (extractStridedSlice S16x16x511 ![0, 0, 0] · slices_S16x16x512_S16x16x511_0_0_0) main_arg2
  let main_v8 : IVec S16x16x511 32 := (extractStridedSlice S16x16x511 ![0, 0, 1] · slices_S16x16x512_S16x16x511_0_0_1) main_arg2
  let main_v9 : IVec S16x16x511 1 := cmpi .slt main_v7 main_v8
  let main_c_3 : IVec S_ 1 := constantI S_ 1 1#1
  let main_v10 : IVec S_ 1 := (fun x v => Host.reduce IntOp.andi x v reducesTo_S16x16x511_S_d0_1_2 h_S_) main_v9 main_c_3
  let main_v11 : IVec S_ 1 := andi main_v6 main_v10
  main_v11
-- ==== Kernel.lean ====
abbrev S16x4096x1024 : Shape := ⟨3, ![16, 4096, 1024]⟩
abbrev S16x16x4096 : Shape := ⟨3, ![16, 16, 4096]⟩
abbrev S16x16x512 : Shape := ⟨3, ![16, 16, 512]⟩
abbrev S16x1024x2048 : Shape := ⟨3, ![16, 1024, 2048]⟩
abbrev S16x2048x1024 : Shape := ⟨3, ![16, 2048, 1024]⟩
abbrev S_ : Shape := ⟨0, ![]⟩
abbrev S16 : Shape := ⟨1, ![16]⟩
abbrev S16x1x1 : Shape := ⟨3, ![16, 1, 1]⟩
abbrev S1x16x1 : Shape := ⟨3, ![1, 16, 1]⟩
abbrev S512 : Shape := ⟨1, ![512]⟩
abbrev S16x16x512x1 : Shape := ⟨4, ![16, 16, 512, 1]⟩
abbrev S16x16x512x3 : Shape := ⟨4, ![16, 16, 512, 3]⟩
abbrev S128 : Shape := ⟨1, ![128]⟩
abbrev S16x16x1x512 : Shape := ⟨4, ![16, 16, 1, 512]⟩
abbrev S128x1 : Shape := ⟨2, ![128, 1]⟩
abbrev S1x1x128x1 : Shape := ⟨4, ![1, 1, 128, 1]⟩
abbrev S16x16x128x512 : Shape := ⟨4, ![16, 16, 128, 512]⟩
abbrev S16x16x128 : Shape := ⟨3, ![16, 16, 128]⟩
abbrev S32768 : Shape := ⟨1, ![32768]⟩
abbrev S16x16x1x4096 : Shape := ⟨4, ![16, 16, 1, 4096]⟩
abbrev S16x16x512x1024 : Shape := ⟨4, ![16, 16, 512, 1024]⟩
abbrev S1x4096x1024 : Shape := ⟨3, ![1, 4096, 1024]⟩
abbrev S1x1x1x4096 : Shape := ⟨4, ![1, 1, 1, 4096]⟩
abbrev S1x1024x1024 : Shape := ⟨3, ![1, 1024, 1024]⟩
abbrev S1x1x512x1024 : Shape := ⟨4, ![1, 1, 512, 1024]⟩
abbrev S512x1024 : Shape := ⟨2, ![512, 1024]⟩
abbrev S128x1024 : Shape := ⟨2, ![128, 1024]⟩
abbrev S512x1 : Shape := ⟨2, ![512, 1]⟩
abbrev S1 : Shape := ⟨1, ![1]⟩
abbrev S1x1x1x1536 : Shape := ⟨4, ![1, 1, 1, 1536]⟩
abbrev S1x1536 : Shape := ⟨2, ![1, 1536]⟩
abbrev S128x1536 : Shape := ⟨2, ![128, 1536]⟩
abbrev S1x1536x1024 : Shape := ⟨3, ![1, 1536, 1024]⟩
abbrev S1536x1024 : Shape := ⟨2, ![1536, 1024]⟩
abbrev S1x1x1x256 : Shape := ⟨4, ![1, 1, 1, 256]⟩
abbrev S1x256 : Shape := ⟨2, ![1, 256]⟩
abbrev S128x256 : Shape := ⟨2, ![128, 256]⟩
abbrev S1x256x1024 : Shape := ⟨3, ![1, 256, 1024]⟩
abbrev S256x1024 : Shape := ⟨2, ![256, 1024]⟩
abbrev S1024x1024 : Shape := ⟨2, ![1024, 1024]⟩

abbrev nBuf : Space → Nat
  | .hbm => 62
  | .vmem => 18
  | .smem => 1
  | _ => 0

abbrev bufTy : (tb : Table) → Fin (tcTables nBuf tb) → BufTy
  | .hbm, ⟨0, _⟩ => ⟨S16x4096x1024, .f32⟩
  | .hbm, ⟨1, _⟩ => ⟨S16x16x4096, .f32⟩
  | .hbm, ⟨2, _⟩ => ⟨S16x16x512, .i32⟩
  | .hbm, ⟨3, _⟩ => ⟨S16x1024x2048, .f32⟩
  | .hbm, ⟨4, _⟩ => ⟨S16x1024x2048, .f32⟩
  | .hbm, ⟨5, _⟩ => ⟨S16x2048x1024, .f32⟩
  | .hbm, ⟨6, _⟩ => ⟨S_, .i32⟩
  | .hbm, ⟨7, _⟩ => ⟨S16x16x4096, .i32⟩
  | .hbm, ⟨8, _⟩ => ⟨S16, .i32⟩
  | .hbm, ⟨9, _⟩ => ⟨S16x1x1, .i32⟩
  | .hbm, ⟨10, _⟩ => ⟨S16, .i32⟩
  | .hbm, ⟨11, _⟩ => ⟨S1x16x1, .i32⟩
  | .hbm, ⟨12, _⟩ => ⟨S512, .i32⟩
  | .hbm, ⟨13, _⟩ => ⟨S16x16x512, .i32⟩
  | .hbm, ⟨14, _⟩ => ⟨S_, .i32⟩
  | .hbm, ⟨15, _⟩ => ⟨S16x1x1, .i32⟩
  | .hbm, ⟨16, _⟩ => ⟨S16x1x1, .i1⟩
  | .hbm, ⟨17, _⟩ => ⟨S_, .i32⟩
  | .hbm, ⟨18, _⟩ => ⟨S16x1x1, .i32⟩
  | .hbm, ⟨19, _⟩ => ⟨S16x1x1, .i32⟩
  | .hbm, ⟨20, _⟩ => ⟨S16x1x1, .i32⟩
  | .hbm, ⟨21, _⟩ => ⟨S_, .i32⟩
  | .hbm, ⟨22, _⟩ => ⟨S1x16x1, .i32⟩
  | .hbm, ⟨23, _⟩ => ⟨S1x16x1, .i1⟩
  | .hbm, ⟨24, _⟩ => ⟨S_, .i32⟩
  | .hbm, ⟨25, _⟩ => ⟨S1x16x1, .i32⟩
  | .hbm, ⟨26, _⟩ => ⟨S1x16x1, .i32⟩
  | .hbm, ⟨27, _⟩ => ⟨S1x16x1, .i32⟩
  | .hbm, ⟨28, _⟩ => ⟨S_, .i32⟩
  | .hbm, ⟨29, _⟩ => ⟨S16x16x512, .i32⟩
  | .hbm, ⟨30, _⟩ => ⟨S16x16x512, .i1⟩
  | .hbm, ⟨31, _⟩ => ⟨S_, .i32⟩
  | .hbm, ⟨32, _⟩ => ⟨S16x16x512, .i32⟩
  | .hbm, ⟨33, _⟩ => ⟨S16x16x512, .i32⟩
  | .hbm, ⟨34, _⟩ => ⟨S16x16x512, .i32⟩
  | .hbm, ⟨35, _⟩ => ⟨S16x16x512, .i32⟩
  | .hbm, ⟨36, _⟩ => ⟨S16x16x512, .i32⟩
  | .hbm, ⟨37, _⟩ => ⟨S16x16x512x1, .i32⟩
  | .hbm, ⟨38, _⟩ => ⟨S16x16x512x1, .i32⟩
  | .hbm, ⟨39, _⟩ => ⟨S16x16x512x1, .i32⟩
  | .hbm, ⟨40, _⟩ => ⟨S16x16x512x3, .i32⟩
  | .hbm, ⟨41, _⟩ => ⟨S16x16x4096, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S16x16x1x512, .i32⟩
  | .hbm, ⟨47, _⟩ => ⟨S128x1, .i32⟩
  | .hbm, ⟨48, _⟩ => ⟨S1x1x128x1, .i32⟩
  | .hbm, ⟨49, _⟩ => ⟨S16x16x128x512, .i32⟩
  | .hbm, ⟨50, _⟩ => ⟨S16x16x128x512, .i32⟩
  | .hbm, ⟨51, _⟩ => ⟨S16x16x128x512, .i1⟩
  | .hbm, ⟨52, _⟩ => ⟨S16x16x128x512, .i32⟩
  | .hbm, ⟨53, _⟩ => ⟨S_, .i32⟩
  | .hbm, ⟨54, _⟩ => ⟨S16x16x128, .i32⟩
  | .hbm, ⟨55, _⟩ => ⟨S16x4096x1024, .bf16⟩
  | .hbm, ⟨56, _⟩ => ⟨S16x1024x2048, .bf16⟩
  | .hbm, ⟨57, _⟩ => ⟨S16x1024x2048, .bf16⟩
  | .hbm, ⟨58, _⟩ => ⟨S16x2048x1024, .bf16⟩
  | .hbm, ⟨59, _⟩ => ⟨S16x16x1x4096, .i32⟩
  | .hbm, ⟨60, _⟩ => ⟨S16x16x1x4096, .f32⟩
  | .hbm, ⟨61, _⟩ => ⟨S16x16x512x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x1x1x4096, .i32⟩
  | .local _ .vmem, ⟨3, _⟩ => ⟨S1x1x1x4096, .i32⟩
  | .local _ .vmem, ⟨4, _⟩ => ⟨S1x1x1x4096, .f32⟩
  | .local _ .vmem, ⟨5, _⟩ => ⟨S1x1x1x4096, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S512x1024, .bf16⟩
  | .local _ .vmem, ⟨15, _⟩ => ⟨S512x1024, .f32⟩
  | .local _ .vmem, ⟨16, _⟩ => ⟨S128x1024, .f32⟩
  | .local _ .vmem, ⟨17, _⟩ => ⟨S512x1, .f32⟩
  | .local _ .smem, ⟨0, _⟩ => ⟨S32768, .i32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v44 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 16, 2], ![false, false, false]⟩

abbrev pre0 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) (c0_i32_21 : BitVec 32) : Fin 1 → Nat :=
  let arg0 : BitVec 32 := BitVec.ofNat 32 (i 0).val
  let c16_i32 : BitVec 32 := 16#32
  let v31 : BitVec 32 := Scalar.muli arg0 c16_i32
  let arg1 : BitVec 32 := BitVec.ofNat 32 (i 1).val
  let v32 : BitVec 32 := Scalar.addi v31 arg1
  let c128_i32 : BitVec 32 := 128#32
  let v33 : BitVec 32 := Scalar.muli v32 c128_i32
  let v35 : BitVec 32 := Scalar.addi v33 c0_i32_21
  let c1_i32_22 : BitVec 32 := 1#32
  let v36 : BitVec 32 := Scalar.addi v35 c1_i32_22
  let v37 : Index := Scalar.indexCast v36
  ![v37.toNat]
def k0_off2 (i : grid0.Coords) (c0_i32_27 : BitVec 32) : Fin 1 → Nat :=
  let arg0 : BitVec 32 := BitVec.ofNat 32 (i 0).val
  let c16_i32 : BitVec 32 := 16#32
  let v31 : BitVec 32 := Scalar.muli arg0 c16_i32
  let arg1 : BitVec 32 := BitVec.ofNat 32 (i 1).val
  let v32 : BitVec 32 := Scalar.addi v31 arg1
  let c128_i32 : BitVec 32 := 128#32
  let v33 : BitVec 32 := Scalar.muli v32 c128_i32
  let v42 : BitVec 32 := Scalar.addi v33 c0_i32_27
  let v43 : Index := Scalar.indexCast v42
  ![v43.toNat]
def k0_mult1 (v38 : BitVec 32) (v51 : BitVec 32) (v64 : BitVec 32) (v77 : BitVec 32) (v90 : BitVec 32) (v103 : BitVec 32) (v116 : BitVec 32) (v129 : BitVec 32) (v142 : BitVec 32) (v155 : BitVec 32) (v168 : BitVec 32) (v181 : BitVec 32) (v194 : BitVec 32) (v207 : BitVec 32) (v220 : BitVec 32) (v233 : BitVec 32) : BitVec 32 :=
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c256_i32 : BitVec 32 := 256#32
  let v244 : BitVec 32 := Scalar.muli v243 c256_i32
  v244

def k0_off3 (v38 : BitVec 32) (v51 : BitVec 32) (v64 : BitVec 32) (v77 : BitVec 32) (v90 : BitVec 32) (v103 : BitVec 32) (v116 : BitVec 32) (v129 : BitVec 32) (v142 : BitVec 32) (v155 : BitVec 32) (v168 : BitVec 32) (v181 : BitVec 32) (v194 : BitVec 32) (v207 : BitVec 32) (v220 : BitVec 32) (v233 : BitVec 32) : Fin 4 → Nat :=
  let c0_154 : Index := 0#32
  let c0_155 : Index := 0#32
  let c0_156 : Index := 0#32
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c256_i32 : BitVec 32 := 256#32
  let v244 : BitVec 32 := Scalar.muli v243 c256_i32
  let v245 : BitVec 32 := v244
  let v246 : Index := Scalar.indexCast v245
  ![0, 0, 0, v246.toNat]
def k0_off4 (v38 : BitVec 32) (v51 : BitVec 32) (v64 : BitVec 32) (v77 : BitVec 32) (v90 : BitVec 32) (v103 : BitVec 32) (v116 : BitVec 32) (v129 : BitVec 32) (v142 : BitVec 32) (v155 : BitVec 32) (v168 : BitVec 32) (v181 : BitVec 32) (v194 : BitVec 32) (v207 : BitVec 32) (v220 : BitVec 32) (v233 : BitVec 32) : Fin 3 → Nat :=
  let c0_165 : Index := 0#32
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c256_i32 : BitVec 32 := 256#32
  let v244 : BitVec 32 := Scalar.muli v243 c256_i32
  let v245 : BitVec 32 := v244
  let v267 : Index := Scalar.indexCast v245
  let c0_166 : Index := 0#32
  ![0, v267.toNat, 0]

def k0_chk1 (i : grid0.Coords) (v38 : BitVec 32) (v51 : BitVec 32) (v64 : BitVec 32) (v77 : BitVec 32) (v90 : BitVec 32) (v103 : BitVec 32) (v116 : BitVec 32) (v129 : BitVec 32) (v142 : BitVec 32) (v155 : BitVec 32) (v168 : BitVec 32) (v181 : BitVec 32) (v194 : BitVec 32) (v207 : BitVec 32) (v220 : BitVec 32) (v233 : BitVec 32) : Prop :=
  (∀ (k0_h1 : k0_cond1 i = 1#1), 256 ∣ (k0_mult1 v38 v51 v64 v77 v90 v103 v116 v129 v142 v155 v168 v181 v194 v207 v220 v233).toNat) ∧
  (∀ (k0_h1 : k0_cond1 i = 1#1), ∀ a, (k0_off3 v38 v51 v64 v77 v90 v103 v116 v129 v142 v155 v168 v181 v194 v207 v220 v233) a + S1x1x1x1536.size a ≤ S1x1x1x4096.size a) ∧
  (∀ (k0_h1 : k0_cond1 i = 1#1), ∀ a, (k0_off4 v38 v51 v64 v77 v90 v103 v116 v129 v142 v155 v168 v181 v194 v207 v220 v233) a + S1x1536x1024.size a ≤ S1x4096x1024.size a)
theorem k0_mult1_dvd : ∀ (i : grid0.Coords) (v38 : BitVec 32) (v51 : BitVec 32) (v64 : BitVec 32) (v77 : BitVec 32) (v90 : BitVec 32) (v103 : BitVec 32) (v116 : BitVec 32) (v129 : BitVec 32) (v142 : BitVec 32) (v155 : BitVec 32) (v168 : BitVec 32) (v181 : BitVec 32) (v194 : BitVec 32) (v207 : BitVec 32) (v220 : BitVec 32) (v233 : BitVec 32) (k0_hw1 : k0_chk1 i v38 v51 v64 v77 v90 v103 v116 v129 v142 v155 v168 v181 v194 v207 v220 v233), ∀ (k0_h1 : k0_cond1 i = 1#1), 256 ∣ (k0_mult1 v38 v51 v64 v77 v90 v103 v116 v129 v142 v155 v168 v181 v194 v207 v220 v233).toNat := fun i v38 v51 v64 v77 v90 v103 v116 v129 v142 v155 v168 v181 v194 v207 v220 v233 k0_hw1 k0_h1 => k0_hw1.1 k0_h1
theorem k0_off3_inb : ∀ (i : grid0.Coords) (v38 : BitVec 32) (v51 : BitVec 32) (v64 : BitVec 32) (v77 : BitVec 32) (v90 : BitVec 32) (v103 : BitVec 32) (v116 : BitVec 32) (v129 : BitVec 32) (v142 : BitVec 32) (v155 : BitVec 32) (v168 : BitVec 32) (v181 : BitVec 32) (v194 : BitVec 32) (v207 : BitVec 32) (v220 : BitVec 32) (v233 : BitVec 32) (k0_hw1 : k0_chk1 i v38 v51 v64 v77 v90 v103 v116 v129 v142 v155 v168 v181 v194 v207 v220 v233), ∀ (k0_h1 : k0_cond1 i = 1#1), ∀ a, (k0_off3 v38 v51 v64 v77 v90 v103 v116 v129 v142 v155 v168 v181 v194 v207 v220 v233) a + S1x1x1x1536.size a ≤ S1x1x1x4096.size a := fun i v38 v51 v64 v77 v90 v103 v116 v129 v142 v155 v168 v181 v194 v207 v220 v233 k0_hw1 k0_h1 => k0_hw1.2.1 k0_h1
theorem k0_off4_inb : ∀ (i : grid0.Coords) (v38 : BitVec 32) (v51 : BitVec 32) (v64 : BitVec 32) (v77 : BitVec 32) (v90 : BitVec 32) (v103 : BitVec 32) (v116 : BitVec 32) (v129 : BitVec 32) (v142 : BitVec 32) (v155 : BitVec 32) (v168 : BitVec 32) (v181 : BitVec 32) (v194 : BitVec 32) (v207 : BitVec 32) (v220 : BitVec 32) (v233 : BitVec 32) (k0_hw1 : k0_chk1 i v38 v51 v64 v77 v90 v103 v116 v129 v142 v155 v168 v181 v194 v207 v220 v233), ∀ (k0_h1 : k0_cond1 i = 1#1), ∀ a, (k0_off4 v38 v51 v64 v77 v90 v103 v116 v129 v142 v155 v168 v181 v194 v207 v220 v233) a + S1x1536x1024.size a ≤ S1x4096x1024.size a := fun i v38 v51 v64 v77 v90 v103 v116 v129 v142 v155 v168 v181 v194 v207 v220 v233 k0_hw1 k0_h1 => k0_hw1.2.2 k0_h1

@[reducible] def k0_t1_loop (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) : Scf.Loop 32 :=
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c6_i32_172 : BitVec 32 := 6#32
  let v277 : BitVec 32 := Scalar.addi v243 c6_i32_172
  let v278 : BitVec 32 := Scalar.maxsi v236 v277
  let c0_i32_31 : BitVec 32 := 0#32
  let c128_i32_28 : BitVec 32 := 128#32
  let v45 : BitVec 1 := Scalar.cmpi .slt v44 c128_i32_28
  let c1_i32_29 : BitVec 32 := 1#32
  let c0_i32_30 : BitVec 32 := 0#32
  let v46 : BitVec 32 := Scalar.select v45 c1_i32_29 c0_i32_30
  let v47 : BitVec 32 := Scalar.addi c0_i32_31 v46
  let c128_i32_38 : BitVec 32 := 128#32
  let v58 : BitVec 1 := Scalar.cmpi .slt v57 c128_i32_38
  let c1_i32_39 : BitVec 32 := 1#32
  let c0_i32_40 : BitVec 32 := 0#32
  let v59 : BitVec 32 := Scalar.select v58 c1_i32_39 c0_i32_40
  let v60 : BitVec 32 := Scalar.addi v47 v59
  let c128_i32_46 : BitVec 32 := 128#32
  let v71 : BitVec 1 := Scalar.cmpi .slt v70 c128_i32_46
  let c1_i32_47 : BitVec 32 := 1#32
  let c0_i32_48 : BitVec 32 := 0#32
  let v72 : BitVec 32 := Scalar.select v71 c1_i32_47 c0_i32_48
  let v73 : BitVec 32 := Scalar.addi v60 v72
  let c128_i32_54 : BitVec 32 := 128#32
  let v84 : BitVec 1 := Scalar.cmpi .slt v83 c128_i32_54
  let c1_i32_55 : BitVec 32 := 1#32
  let c0_i32_56 : BitVec 32 := 0#32
  let v85 : BitVec 32 := Scalar.select v84 c1_i32_55 c0_i32_56
  let v86 : BitVec 32 := Scalar.addi v73 v85
  let c128_i32_62 : BitVec 32 := 128#32
  let v97 : BitVec 1 := Scalar.cmpi .slt v96 c128_i32_62
  let c1_i32_63 : BitVec 32 := 1#32
  let c0_i32_64 : BitVec 32 := 0#32
  let v98 : BitVec 32 := Scalar.select v97 c1_i32_63 c0_i32_64
  let v99 : BitVec 32 := Scalar.addi v86 v98
  let c128_i32_70 : BitVec 32 := 128#32
  let v110 : BitVec 1 := Scalar.cmpi .slt v109 c128_i32_70
  let c1_i32_71 : BitVec 32 := 1#32
  let c0_i32_72 : BitVec 32 := 0#32
  let v111 : BitVec 32 := Scalar.select v110 c1_i32_71 c0_i32_72
  let v112 : BitVec 32 := Scalar.addi v99 v111
  let c128_i32_78 : BitVec 32 := 128#32
  let v123 : BitVec 1 := Scalar.cmpi .slt v122 c128_i32_78
  let c1_i32_79 : BitVec 32 := 1#32
  let c0_i32_80 : BitVec 32 := 0#32
  let v124 : BitVec 32 := Scalar.select v123 c1_i32_79 c0_i32_80
  let v125 : BitVec 32 := Scalar.addi v112 v124
  let c128_i32_86 : BitVec 32 := 128#32
  let v136 : BitVec 1 := Scalar.cmpi .slt v135 c128_i32_86
  let c1_i32_87 : BitVec 32 := 1#32
  let c0_i32_88 : BitVec 32 := 0#32
  let v137 : BitVec 32 := Scalar.select v136 c1_i32_87 c0_i32_88
  let v138 : BitVec 32 := Scalar.addi v125 v137
  let c128_i32_94 : BitVec 32 := 128#32
  let v149 : BitVec 1 := Scalar.cmpi .slt v148 c128_i32_94
  let c1_i32_95 : BitVec 32 := 1#32
  let c0_i32_96 : BitVec 32 := 0#32
  let v150 : BitVec 32 := Scalar.select v149 c1_i32_95 c0_i32_96
  let v151 : BitVec 32 := Scalar.addi v138 v150
  let c128_i32_102 : BitVec 32 := 128#32
  let v162 : BitVec 1 := Scalar.cmpi .slt v161 c128_i32_102
  let c1_i32_103 : BitVec 32 := 1#32
  let c0_i32_104 : BitVec 32 := 0#32
  let v163 : BitVec 32 := Scalar.select v162 c1_i32_103 c0_i32_104
  let v164 : BitVec 32 := Scalar.addi v151 v163
  let c128_i32_110 : BitVec 32 := 128#32
  let v175 : BitVec 1 := Scalar.cmpi .slt v174 c128_i32_110
  let c1_i32_111 : BitVec 32 := 1#32
  let c0_i32_112 : BitVec 32 := 0#32
  let v176 : BitVec 32 := Scalar.select v175 c1_i32_111 c0_i32_112
  let v177 : BitVec 32 := Scalar.addi v164 v176
  let c128_i32_118 : BitVec 32 := 128#32
  let v188 : BitVec 1 := Scalar.cmpi .slt v187 c128_i32_118
  let c1_i32_119 : BitVec 32 := 1#32
  let c0_i32_120 : BitVec 32 := 0#32
  let v189 : BitVec 32 := Scalar.select v188 c1_i32_119 c0_i32_120
  let v190 : BitVec 32 := Scalar.addi v177 v189
  let c128_i32_126 : BitVec 32 := 128#32
  let v201 : BitVec 1 := Scalar.cmpi .slt v200 c128_i32_126
  let c1_i32_127 : BitVec 32 := 1#32
  let c0_i32_128 : BitVec 32 := 0#32
  let v202 : BitVec 32 := Scalar.select v201 c1_i32_127 c0_i32_128
  let v203 : BitVec 32 := Scalar.addi v190 v202
  let c128_i32_134 : BitVec 32 := 128#32
  let v214 : BitVec 1 := Scalar.cmpi .slt v213 c128_i32_134
  let c1_i32_135 : BitVec 32 := 1#32
  let c0_i32_136 : BitVec 32 := 0#32
  let v215 : BitVec 32 := Scalar.select v214 c1_i32_135 c0_i32_136
  let v216 : BitVec 32 := Scalar.addi v203 v215
  let c128_i32_142 : BitVec 32 := 128#32
  let v227 : BitVec 1 := Scalar.cmpi .slt v226 c128_i32_142
  let c1_i32_143 : BitVec 32 := 1#32
  let c0_i32_144 : BitVec 32 := 0#32
  let v228 : BitVec 32 := Scalar.select v227 c1_i32_143 c0_i32_144
  let v229 : BitVec 32 := Scalar.addi v216 v228
  let c128_i32_150 : BitVec 32 := 128#32
  let v240 : BitVec 1 := Scalar.cmpi .slt v239 c128_i32_150
  let c1_i32_151 : BitVec 32 := 1#32
  let c0_i32_152 : BitVec 32 := 0#32
  let v241 : BitVec 32 := Scalar.select v240 c1_i32_151 c0_i32_152
  let v242 : BitVec 32 := Scalar.addi v229 v241
  let v279 : BitVec 32 := Scalar.subi v242 v278
  let c1_i32_174 : BitVec 32 := 1#32
  let v281 : BitVec 32 := Scalar.divsi v279 c1_i32_174
  let v282 : BitVec 32 := Scalar.muli v281 c1_i32_174
  let v283 : BitVec 32 := Scalar.addi v278 v282
  let c1_i32_175 : BitVec 32 := 1#32
  ⟨v278, v283, c1_i32_175⟩

def k0_mult2 (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_t1 : Fin (k0_t1_loop v38 v44 v51 v57 v64 v70 v77 v83 v90 v96 v103 v109 v116 v122 v129 v135 v142 v148 v155 v161 v168 v174 v181 v187 v194 v200 v207 v213 v220 v226 v233 v239).trips) : BitVec 32 :=
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c6_i32_172 : BitVec 32 := 6#32
  let v277 : BitVec 32 := Scalar.addi v243 c6_i32_172
  let v278 : BitVec 32 := Scalar.maxsi v236 v277
  let c1_i32_175 : BitVec 32 := 1#32
  let arg15 : BitVec 32 := Scf.iv v278 c1_i32_175 k0_t1
  let c256_i32_704 : BitVec 32 := 256#32
  let v1055 : BitVec 32 := Scalar.muli arg15 c256_i32_704
  v1055
def k0_off5 (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_t1 : Fin (k0_t1_loop v38 v44 v51 v57 v64 v70 v77 v83 v90 v96 v103 v109 v116 v122 v129 v135 v142 v148 v155 v161 v168 v174 v181 v187 v194 v200 v207 v213 v220 v226 v233 v239).trips) : Fin 4 → Nat :=
  let c0_705 : Index := 0#32
  let c0_706 : Index := 0#32
  let c0_707 : Index := 0#32
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c6_i32_172 : BitVec 32 := 6#32
  let v277 : BitVec 32 := Scalar.addi v243 c6_i32_172
  let v278 : BitVec 32 := Scalar.maxsi v236 v277
  let c1_i32_175 : BitVec 32 := 1#32
  let arg15 : BitVec 32 := Scf.iv v278 c1_i32_175 k0_t1
  let c256_i32_704 : BitVec 32 := 256#32
  let v1055 : BitVec 32 := Scalar.muli arg15 c256_i32_704
  let v1056 : BitVec 32 := v1055
  let v1057 : Index := Scalar.indexCast v1056
  ![0, 0, 0, v1057.toNat]
def k0_off6 (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_t1 : Fin (k0_t1_loop v38 v44 v51 v57 v64 v70 v77 v83 v90 v96 v103 v109 v116 v122 v129 v135 v142 v148 v155 v161 v168 v174 v181 v187 v194 v200 v207 v213 v220 v226 v233 v239).trips) : Fin 3 → Nat :=
  let c0_716 : Index := 0#32
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c6_i32_172 : BitVec 32 := 6#32
  let v277 : BitVec 32 := Scalar.addi v243 c6_i32_172
  let v278 : BitVec 32 := Scalar.maxsi v236 v277
  let c1_i32_175 : BitVec 32 := 1#32
  let arg15 : BitVec 32 := Scf.iv v278 c1_i32_175 k0_t1
  let c256_i32_704 : BitVec 32 := 256#32
  let v1055 : BitVec 32 := Scalar.muli arg15 c256_i32_704
  let v1056 : BitVec 32 := v1055
  let v1078 : Index := Scalar.indexCast v1056
  let c0_717 : Index := 0#32
  ![0, v1078.toNat, 0]
@[reducible] def k0_t2_loop (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) : Scf.Loop 32 :=
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c6_i32_172 : BitVec 32 := 6#32
  let v277 : BitVec 32 := Scalar.addi v243 c6_i32_172
  let v278 : BitVec 32 := Scalar.maxsi v236 v277
  let c0_i32_31 : BitVec 32 := 0#32
  let c128_i32_28 : BitVec 32 := 128#32
  let v45 : BitVec 1 := Scalar.cmpi .slt v44 c128_i32_28
  let c1_i32_29 : BitVec 32 := 1#32
  let c0_i32_30 : BitVec 32 := 0#32
  let v46 : BitVec 32 := Scalar.select v45 c1_i32_29 c0_i32_30
  let v47 : BitVec 32 := Scalar.addi c0_i32_31 v46
  let c128_i32_38 : BitVec 32 := 128#32
  let v58 : BitVec 1 := Scalar.cmpi .slt v57 c128_i32_38
  let c1_i32_39 : BitVec 32 := 1#32
  let c0_i32_40 : BitVec 32 := 0#32
  let v59 : BitVec 32 := Scalar.select v58 c1_i32_39 c0_i32_40
  let v60 : BitVec 32 := Scalar.addi v47 v59
  let c128_i32_46 : BitVec 32 := 128#32
  let v71 : BitVec 1 := Scalar.cmpi .slt v70 c128_i32_46
  let c1_i32_47 : BitVec 32 := 1#32
  let c0_i32_48 : BitVec 32 := 0#32
  let v72 : BitVec 32 := Scalar.select v71 c1_i32_47 c0_i32_48
  let v73 : BitVec 32 := Scalar.addi v60 v72
  let c128_i32_54 : BitVec 32 := 128#32
  let v84 : BitVec 1 := Scalar.cmpi .slt v83 c128_i32_54
  let c1_i32_55 : BitVec 32 := 1#32
  let c0_i32_56 : BitVec 32 := 0#32
  let v85 : BitVec 32 := Scalar.select v84 c1_i32_55 c0_i32_56
  let v86 : BitVec 32 := Scalar.addi v73 v85
  let c128_i32_62 : BitVec 32 := 128#32
  let v97 : BitVec 1 := Scalar.cmpi .slt v96 c128_i32_62
  let c1_i32_63 : BitVec 32 := 1#32
  let c0_i32_64 : BitVec 32 := 0#32
  let v98 : BitVec 32 := Scalar.select v97 c1_i32_63 c0_i32_64
  let v99 : BitVec 32 := Scalar.addi v86 v98
  let c128_i32_70 : BitVec 32 := 128#32
  let v110 : BitVec 1 := Scalar.cmpi .slt v109 c128_i32_70
  let c1_i32_71 : BitVec 32 := 1#32
  let c0_i32_72 : BitVec 32 := 0#32
  let v111 : BitVec 32 := Scalar.select v110 c1_i32_71 c0_i32_72
  let v112 : BitVec 32 := Scalar.addi v99 v111
  let c128_i32_78 : BitVec 32 := 128#32
  let v123 : BitVec 1 := Scalar.cmpi .slt v122 c128_i32_78
  let c1_i32_79 : BitVec 32 := 1#32
  let c0_i32_80 : BitVec 32 := 0#32
  let v124 : BitVec 32 := Scalar.select v123 c1_i32_79 c0_i32_80
  let v125 : BitVec 32 := Scalar.addi v112 v124
  let c128_i32_86 : BitVec 32 := 128#32
  let v136 : BitVec 1 := Scalar.cmpi .slt v135 c128_i32_86
  let c1_i32_87 : BitVec 32 := 1#32
  let c0_i32_88 : BitVec 32 := 0#32
  let v137 : BitVec 32 := Scalar.select v136 c1_i32_87 c0_i32_88
  let v138 : BitVec 32 := Scalar.addi v125 v137
  let c128_i32_94 : BitVec 32 := 128#32
  let v149 : BitVec 1 := Scalar.cmpi .slt v148 c128_i32_94
  let c1_i32_95 : BitVec 32 := 1#32
  let c0_i32_96 : BitVec 32 := 0#32
  let v150 : BitVec 32 := Scalar.select v149 c1_i32_95 c0_i32_96
  let v151 : BitVec 32 := Scalar.addi v138 v150
  let c128_i32_102 : BitVec 32 := 128#32
  let v162 : BitVec 1 := Scalar.cmpi .slt v161 c128_i32_102
  let c1_i32_103 : BitVec 32 := 1#32
  let c0_i32_104 : BitVec 32 := 0#32
  let v163 : BitVec 32 := Scalar.select v162 c1_i32_103 c0_i32_104
  let v164 : BitVec 32 := Scalar.addi v151 v163
  let c128_i32_110 : BitVec 32 := 128#32
  let v175 : BitVec 1 := Scalar.cmpi .slt v174 c128_i32_110
  let c1_i32_111 : BitVec 32 := 1#32
  let c0_i32_112 : BitVec 32 := 0#32
  let v176 : BitVec 32 := Scalar.select v175 c1_i32_111 c0_i32_112
  let v177 : BitVec 32 := Scalar.addi v164 v176
  let c128_i32_118 : BitVec 32 := 128#32
  let v188 : BitVec 1 := Scalar.cmpi .slt v187 c128_i32_118
  let c1_i32_119 : BitVec 32 := 1#32
  let c0_i32_120 : BitVec 32 := 0#32
  let v189 : BitVec 32 := Scalar.select v188 c1_i32_119 c0_i32_120
  let v190 : BitVec 32 := Scalar.addi v177 v189
  let c128_i32_126 : BitVec 32 := 128#32
  let v201 : BitVec 1 := Scalar.cmpi .slt v200 c128_i32_126
  let c1_i32_127 : BitVec 32 := 1#32
  let c0_i32_128 : BitVec 32 := 0#32
  let v202 : BitVec 32 := Scalar.select v201 c1_i32_127 c0_i32_128
  let v203 : BitVec 32 := Scalar.addi v190 v202
  let c128_i32_134 : BitVec 32 := 128#32
  let v214 : BitVec 1 := Scalar.cmpi .slt v213 c128_i32_134
  let c1_i32_135 : BitVec 32 := 1#32
  let c0_i32_136 : BitVec 32 := 0#32
  let v215 : BitVec 32 := Scalar.select v214 c1_i32_135 c0_i32_136
  let v216 : BitVec 32 := Scalar.addi v203 v215
  let c128_i32_142 : BitVec 32 := 128#32
  let v227 : BitVec 1 := Scalar.cmpi .slt v226 c128_i32_142
  let c1_i32_143 : BitVec 32 := 1#32
  let c0_i32_144 : BitVec 32 := 0#32
  let v228 : BitVec 32 := Scalar.select v227 c1_i32_143 c0_i32_144
  let v229 : BitVec 32 := Scalar.addi v216 v228
  let c128_i32_150 : BitVec 32 := 128#32
  let v240 : BitVec 1 := Scalar.cmpi .slt v239 c128_i32_150
  let c1_i32_151 : BitVec 32 := 1#32
  let c0_i32_152 : BitVec 32 := 0#32
  let v241 : BitVec 32 := Scalar.select v240 c1_i32_151 c0_i32_152
  let v242 : BitVec 32 := Scalar.addi v229 v241
  let v279 : BitVec 32 := Scalar.subi v242 v278
  let c1_i32_174 : BitVec 32 := 1#32
  let v281 : BitVec 32 := Scalar.divsi v279 c1_i32_174
  let v282 : BitVec 32 := Scalar.muli v281 c1_i32_174
  let v283 : BitVec 32 := Scalar.addi v278 v282
  let v280 : BitVec 32 := Scalar.addi v278 v279
  let c1_i32_176 : BitVec 32 := 1#32
  ⟨v283, v280, c1_i32_176⟩
def k0_mult3 (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_t2 : Fin (k0_t2_loop v38 v44 v51 v57 v64 v70 v77 v83 v90 v96 v103 v109 v116 v122 v129 v135 v142 v148 v155 v161 v168 v174 v181 v187 v194 v200 v207 v213 v220 v226 v233 v239).trips) : BitVec 32 :=
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c6_i32_172 : BitVec 32 := 6#32
  let v277 : BitVec 32 := Scalar.addi v243 c6_i32_172
  let v278 : BitVec 32 := Scalar.maxsi v236 v277
  let c0_i32_31 : BitVec 32 := 0#32
  let c128_i32_28 : BitVec 32 := 128#32
  let v45 : BitVec 1 := Scalar.cmpi .slt v44 c128_i32_28
  let c1_i32_29 : BitVec 32 := 1#32
  let c0_i32_30 : BitVec 32 := 0#32
  let v46 : BitVec 32 := Scalar.select v45 c1_i32_29 c0_i32_30
  let v47 : BitVec 32 := Scalar.addi c0_i32_31 v46
  let c128_i32_38 : BitVec 32 := 128#32
  let v58 : BitVec 1 := Scalar.cmpi .slt v57 c128_i32_38
  let c1_i32_39 : BitVec 32 := 1#32
  let c0_i32_40 : BitVec 32 := 0#32
  let v59 : BitVec 32 := Scalar.select v58 c1_i32_39 c0_i32_40
  let v60 : BitVec 32 := Scalar.addi v47 v59
  let c128_i32_46 : BitVec 32 := 128#32
  let v71 : BitVec 1 := Scalar.cmpi .slt v70 c128_i32_46
  let c1_i32_47 : BitVec 32 := 1#32
  let c0_i32_48 : BitVec 32 := 0#32
  let v72 : BitVec 32 := Scalar.select v71 c1_i32_47 c0_i32_48
  let v73 : BitVec 32 := Scalar.addi v60 v72
  let c128_i32_54 : BitVec 32 := 128#32
  let v84 : BitVec 1 := Scalar.cmpi .slt v83 c128_i32_54
  let c1_i32_55 : BitVec 32 := 1#32
  let c0_i32_56 : BitVec 32 := 0#32
  let v85 : BitVec 32 := Scalar.select v84 c1_i32_55 c0_i32_56
  let v86 : BitVec 32 := Scalar.addi v73 v85
  let c128_i32_62 : BitVec 32 := 128#32
  let v97 : BitVec 1 := Scalar.cmpi .slt v96 c128_i32_62
  let c1_i32_63 : BitVec 32 := 1#32
  let c0_i32_64 : BitVec 32 := 0#32
  let v98 : BitVec 32 := Scalar.select v97 c1_i32_63 c0_i32_64
  let v99 : BitVec 32 := Scalar.addi v86 v98
  let c128_i32_70 : BitVec 32 := 128#32
  let v110 : BitVec 1 := Scalar.cmpi .slt v109 c128_i32_70
  let c1_i32_71 : BitVec 32 := 1#32
  let c0_i32_72 : BitVec 32 := 0#32
  let v111 : BitVec 32 := Scalar.select v110 c1_i32_71 c0_i32_72
  let v112 : BitVec 32 := Scalar.addi v99 v111
  let c128_i32_78 : BitVec 32 := 128#32
  let v123 : BitVec 1 := Scalar.cmpi .slt v122 c128_i32_78
  let c1_i32_79 : BitVec 32 := 1#32
  let c0_i32_80 : BitVec 32 := 0#32
  let v124 : BitVec 32 := Scalar.select v123 c1_i32_79 c0_i32_80
  let v125 : BitVec 32 := Scalar.addi v112 v124
  let c128_i32_86 : BitVec 32 := 128#32
  let v136 : BitVec 1 := Scalar.cmpi .slt v135 c128_i32_86
  let c1_i32_87 : BitVec 32 := 1#32
  let c0_i32_88 : BitVec 32 := 0#32
  let v137 : BitVec 32 := Scalar.select v136 c1_i32_87 c0_i32_88
  let v138 : BitVec 32 := Scalar.addi v125 v137
  let c128_i32_94 : BitVec 32 := 128#32
  let v149 : BitVec 1 := Scalar.cmpi .slt v148 c128_i32_94
  let c1_i32_95 : BitVec 32 := 1#32
  let c0_i32_96 : BitVec 32 := 0#32
  let v150 : BitVec 32 := Scalar.select v149 c1_i32_95 c0_i32_96
  let v151 : BitVec 32 := Scalar.addi v138 v150
  let c128_i32_102 : BitVec 32 := 128#32
  let v162 : BitVec 1 := Scalar.cmpi .slt v161 c128_i32_102
  let c1_i32_103 : BitVec 32 := 1#32
  let c0_i32_104 : BitVec 32 := 0#32
  let v163 : BitVec 32 := Scalar.select v162 c1_i32_103 c0_i32_104
  let v164 : BitVec 32 := Scalar.addi v151 v163
  let c128_i32_110 : BitVec 32 := 128#32
  let v175 : BitVec 1 := Scalar.cmpi .slt v174 c128_i32_110
  let c1_i32_111 : BitVec 32 := 1#32
  let c0_i32_112 : BitVec 32 := 0#32
  let v176 : BitVec 32 := Scalar.select v175 c1_i32_111 c0_i32_112
  let v177 : BitVec 32 := Scalar.addi v164 v176
  let c128_i32_118 : BitVec 32 := 128#32
  let v188 : BitVec 1 := Scalar.cmpi .slt v187 c128_i32_118
  let c1_i32_119 : BitVec 32 := 1#32
  let c0_i32_120 : BitVec 32 := 0#32
  let v189 : BitVec 32 := Scalar.select v188 c1_i32_119 c0_i32_120
  let v190 : BitVec 32 := Scalar.addi v177 v189
  let c128_i32_126 : BitVec 32 := 128#32
  let v201 : BitVec 1 := Scalar.cmpi .slt v200 c128_i32_126
  let c1_i32_127 : BitVec 32 := 1#32
  let c0_i32_128 : BitVec 32 := 0#32
  let v202 : BitVec 32 := Scalar.select v201 c1_i32_127 c0_i32_128
  let v203 : BitVec 32 := Scalar.addi v190 v202
  let c128_i32_134 : BitVec 32 := 128#32
  let v214 : BitVec 1 := Scalar.cmpi .slt v213 c128_i32_134
  let c1_i32_135 : BitVec 32 := 1#32
  let c0_i32_136 : BitVec 32 := 0#32
  let v215 : BitVec 32 := Scalar.select v214 c1_i32_135 c0_i32_136
  let v216 : BitVec 32 := Scalar.addi v203 v215
  let c128_i32_142 : BitVec 32 := 128#32
  let v227 : BitVec 1 := Scalar.cmpi .slt v226 c128_i32_142
  let c1_i32_143 : BitVec 32 := 1#32
  let c0_i32_144 : BitVec 32 := 0#32
  let v228 : BitVec 32 := Scalar.select v227 c1_i32_143 c0_i32_144
  let v229 : BitVec 32 := Scalar.addi v216 v228
  let c128_i32_150 : BitVec 32 := 128#32
  let v240 : BitVec 1 := Scalar.cmpi .slt v239 c128_i32_150
  let c1_i32_151 : BitVec 32 := 1#32
  let c0_i32_152 : BitVec 32 := 0#32
  let v241 : BitVec 32 := Scalar.select v240 c1_i32_151 c0_i32_152
  let v242 : BitVec 32 := Scalar.addi v229 v241
  let v279 : BitVec 32 := Scalar.subi v242 v278
  let c1_i32_174 : BitVec 32 := 1#32
  let v281 : BitVec 32 := Scalar.divsi v279 c1_i32_174
  let v282 : BitVec 32 := Scalar.muli v281 c1_i32_174
  let v283 : BitVec 32 := Scalar.addi v278 v282
  let c1_i32_176 : BitVec 32 := 1#32
  let arg15 : BitVec 32 := Scf.iv v283 c1_i32_176 k0_t2
  let c256_i32_704 : BitVec 32 := 256#32
  let v1055 : BitVec 32 := Scalar.muli arg15 c256_i32_704
  v1055
def k0_off7 (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_t2 : Fin (k0_t2_loop v38 v44 v51 v57 v64 v70 v77 v83 v90 v96 v103 v109 v116 v122 v129 v135 v142 v148 v155 v161 v168 v174 v181 v187 v194 v200 v207 v213 v220 v226 v233 v239).trips) : Fin 4 → Nat :=
  let c0_705 : Index := 0#32
  let c0_706 : Index := 0#32
  let c0_707 : Index := 0#32
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c6_i32_172 : BitVec 32 := 6#32
  let v277 : BitVec 32 := Scalar.addi v243 c6_i32_172
  let v278 : BitVec 32 := Scalar.maxsi v236 v277
  let c0_i32_31 : BitVec 32 := 0#32
  let c128_i32_28 : BitVec 32 := 128#32
  let v45 : BitVec 1 := Scalar.cmpi .slt v44 c128_i32_28
  let c1_i32_29 : BitVec 32 := 1#32
  let c0_i32_30 : BitVec 32 := 0#32
  let v46 : BitVec 32 := Scalar.select v45 c1_i32_29 c0_i32_30
  let v47 : BitVec 32 := Scalar.addi c0_i32_31 v46
  let c128_i32_38 : BitVec 32 := 128#32
  let v58 : BitVec 1 := Scalar.cmpi .slt v57 c128_i32_38
  let c1_i32_39 : BitVec 32 := 1#32
  let c0_i32_40 : BitVec 32 := 0#32
  let v59 : BitVec 32 := Scalar.select v58 c1_i32_39 c0_i32_40
  let v60 : BitVec 32 := Scalar.addi v47 v59
  let c128_i32_46 : BitVec 32 := 128#32
  let v71 : BitVec 1 := Scalar.cmpi .slt v70 c128_i32_46
  let c1_i32_47 : BitVec 32 := 1#32
  let c0_i32_48 : BitVec 32 := 0#32
  let v72 : BitVec 32 := Scalar.select v71 c1_i32_47 c0_i32_48
  let v73 : BitVec 32 := Scalar.addi v60 v72
  let c128_i32_54 : BitVec 32 := 128#32
  let v84 : BitVec 1 := Scalar.cmpi .slt v83 c128_i32_54
  let c1_i32_55 : BitVec 32 := 1#32
  let c0_i32_56 : BitVec 32 := 0#32
  let v85 : BitVec 32 := Scalar.select v84 c1_i32_55 c0_i32_56
  let v86 : BitVec 32 := Scalar.addi v73 v85
  let c128_i32_62 : BitVec 32 := 128#32
  let v97 : BitVec 1 := Scalar.cmpi .slt v96 c128_i32_62
  let c1_i32_63 : BitVec 32 := 1#32
  let c0_i32_64 : BitVec 32 := 0#32
  let v98 : BitVec 32 := Scalar.select v97 c1_i32_63 c0_i32_64
  let v99 : BitVec 32 := Scalar.addi v86 v98
  let c128_i32_70 : BitVec 32 := 128#32
  let v110 : BitVec 1 := Scalar.cmpi .slt v109 c128_i32_70
  let c1_i32_71 : BitVec 32 := 1#32
  let c0_i32_72 : BitVec 32 := 0#32
  let v111 : BitVec 32 := Scalar.select v110 c1_i32_71 c0_i32_72
  let v112 : BitVec 32 := Scalar.addi v99 v111
  let c128_i32_78 : BitVec 32 := 128#32
  let v123 : BitVec 1 := Scalar.cmpi .slt v122 c128_i32_78
  let c1_i32_79 : BitVec 32 := 1#32
  let c0_i32_80 : BitVec 32 := 0#32
  let v124 : BitVec 32 := Scalar.select v123 c1_i32_79 c0_i32_80
  let v125 : BitVec 32 := Scalar.addi v112 v124
  let c128_i32_86 : BitVec 32 := 128#32
  let v136 : BitVec 1 := Scalar.cmpi .slt v135 c128_i32_86
  let c1_i32_87 : BitVec 32 := 1#32
  let c0_i32_88 : BitVec 32 := 0#32
  let v137 : BitVec 32 := Scalar.select v136 c1_i32_87 c0_i32_88
  let v138 : BitVec 32 := Scalar.addi v125 v137
  let c128_i32_94 : BitVec 32 := 128#32
  let v149 : BitVec 1 := Scalar.cmpi .slt v148 c128_i32_94
  let c1_i32_95 : BitVec 32 := 1#32
  let c0_i32_96 : BitVec 32 := 0#32
  let v150 : BitVec 32 := Scalar.select v149 c1_i32_95 c0_i32_96
  let v151 : BitVec 32 := Scalar.addi v138 v150
  let c128_i32_102 : BitVec 32 := 128#32
  let v162 : BitVec 1 := Scalar.cmpi .slt v161 c128_i32_102
  let c1_i32_103 : BitVec 32 := 1#32
  let c0_i32_104 : BitVec 32 := 0#32
  let v163 : BitVec 32 := Scalar.select v162 c1_i32_103 c0_i32_104
  let v164 : BitVec 32 := Scalar.addi v151 v163
  let c128_i32_110 : BitVec 32 := 128#32
  let v175 : BitVec 1 := Scalar.cmpi .slt v174 c128_i32_110
  let c1_i32_111 : BitVec 32 := 1#32
  let c0_i32_112 : BitVec 32 := 0#32
  let v176 : BitVec 32 := Scalar.select v175 c1_i32_111 c0_i32_112
  let v177 : BitVec 32 := Scalar.addi v164 v176
  let c128_i32_118 : BitVec 32 := 128#32
  let v188 : BitVec 1 := Scalar.cmpi .slt v187 c128_i32_118
  let c1_i32_119 : BitVec 32 := 1#32
  let c0_i32_120 : BitVec 32 := 0#32
  let v189 : BitVec 32 := Scalar.select v188 c1_i32_119 c0_i32_120
  let v190 : BitVec 32 := Scalar.addi v177 v189
  let c128_i32_126 : BitVec 32 := 128#32
  let v201 : BitVec 1 := Scalar.cmpi .slt v200 c128_i32_126
  let c1_i32_127 : BitVec 32 := 1#32
  let c0_i32_128 : BitVec 32 := 0#32
  let v202 : BitVec 32 := Scalar.select v201 c1_i32_127 c0_i32_128
  let v203 : BitVec 32 := Scalar.addi v190 v202
  let c128_i32_134 : BitVec 32 := 128#32
  let v214 : BitVec 1 := Scalar.cmpi .slt v213 c128_i32_134
  let c1_i32_135 : BitVec 32 := 1#32
  let c0_i32_136 : BitVec 32 := 0#32
  let v215 : BitVec 32 := Scalar.select v214 c1_i32_135 c0_i32_136
  let v216 : BitVec 32 := Scalar.addi v203 v215
  let c128_i32_142 : BitVec 32 := 128#32
  let v227 : BitVec 1 := Scalar.cmpi .slt v226 c128_i32_142
  let c1_i32_143 : BitVec 32 := 1#32
  let c0_i32_144 : BitVec 32 := 0#32
  let v228 : BitVec 32 := Scalar.select v227 c1_i32_143 c0_i32_144
  let v229 : BitVec 32 := Scalar.addi v216 v228
  let c128_i32_150 : BitVec 32 := 128#32
  let v240 : BitVec 1 := Scalar.cmpi .slt v239 c128_i32_150
  let c1_i32_151 : BitVec 32 := 1#32
  let c0_i32_152 : BitVec 32 := 0#32
  let v241 : BitVec 32 := Scalar.select v240 c1_i32_151 c0_i32_152
  let v242 : BitVec 32 := Scalar.addi v229 v241
  let v279 : BitVec 32 := Scalar.subi v242 v278
  let c1_i32_174 : BitVec 32 := 1#32
  let v281 : BitVec 32 := Scalar.divsi v279 c1_i32_174
  let v282 : BitVec 32 := Scalar.muli v281 c1_i32_174
  let v283 : BitVec 32 := Scalar.addi v278 v282
  let c1_i32_176 : BitVec 32 := 1#32
  let arg15 : BitVec 32 := Scf.iv v283 c1_i32_176 k0_t2
  let c256_i32_704 : BitVec 32 := 256#32
  let v1055 : BitVec 32 := Scalar.muli arg15 c256_i32_704
  let v1056 : BitVec 32 := v1055
  let v1057 : Index := Scalar.indexCast v1056
  ![0, 0, 0, v1057.toNat]
def k0_off8 (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_t2 : Fin (k0_t2_loop v38 v44 v51 v57 v64 v70 v77 v83 v90 v96 v103 v109 v116 v122 v129 v135 v142 v148 v155 v161 v168 v174 v181 v187 v194 v200 v207 v213 v220 v226 v233 v239).trips) : Fin 3 → Nat :=
  let c0_716 : Index := 0#32
  let c0_i32_26 : BitVec 32 := 0#32
  let c0_i32_23 : BitVec 32 := 0#32
  let v39 : BitVec 1 := Scalar.cmpi .sle v38 c0_i32_23
  let c1_i32_24 : BitVec 32 := 1#32
  let c0_i32_25 : BitVec 32 := 0#32
  let v40 : BitVec 32 := Scalar.select v39 c1_i32_24 c0_i32_25
  let v41 : BitVec 32 := Scalar.addi c0_i32_26 v40
  let c0_i32_34 : BitVec 32 := 0#32
  let v52 : BitVec 1 := Scalar.cmpi .sle v51 c0_i32_34
  let c1_i32_35 : BitVec 32 := 1#32
  let c0_i32_36 : BitVec 32 := 0#32
  let v53 : BitVec 32 := Scalar.select v52 c1_i32_35 c0_i32_36
  let v54 : BitVec 32 := Scalar.addi v41 v53
  let c0_i32_42 : BitVec 32 := 0#32
  let v65 : BitVec 1 := Scalar.cmpi .sle v64 c0_i32_42
  let c1_i32_43 : BitVec 32 := 1#32
  let c0_i32_44 : BitVec 32 := 0#32
  let v66 : BitVec 32 := Scalar.select v65 c1_i32_43 c0_i32_44
  let v67 : BitVec 32 := Scalar.addi v54 v66
  let c0_i32_50 : BitVec 32 := 0#32
  let v78 : BitVec 1 := Scalar.cmpi .sle v77 c0_i32_50
  let c1_i32_51 : BitVec 32 := 1#32
  let c0_i32_52 : BitVec 32 := 0#32
  let v79 : BitVec 32 := Scalar.select v78 c1_i32_51 c0_i32_52
  let v80 : BitVec 32 := Scalar.addi v67 v79
  let c0_i32_58 : BitVec 32 := 0#32
  let v91 : BitVec 1 := Scalar.cmpi .sle v90 c0_i32_58
  let c1_i32_59 : BitVec 32 := 1#32
  let c0_i32_60 : BitVec 32 := 0#32
  let v92 : BitVec 32 := Scalar.select v91 c1_i32_59 c0_i32_60
  let v93 : BitVec 32 := Scalar.addi v80 v92
  let c0_i32_66 : BitVec 32 := 0#32
  let v104 : BitVec 1 := Scalar.cmpi .sle v103 c0_i32_66
  let c1_i32_67 : BitVec 32 := 1#32
  let c0_i32_68 : BitVec 32 := 0#32
  let v105 : BitVec 32 := Scalar.select v104 c1_i32_67 c0_i32_68
  let v106 : BitVec 32 := Scalar.addi v93 v105
  let c0_i32_74 : BitVec 32 := 0#32
  let v117 : BitVec 1 := Scalar.cmpi .sle v116 c0_i32_74
  let c1_i32_75 : BitVec 32 := 1#32
  let c0_i32_76 : BitVec 32 := 0#32
  let v118 : BitVec 32 := Scalar.select v117 c1_i32_75 c0_i32_76
  let v119 : BitVec 32 := Scalar.addi v106 v118
  let c0_i32_82 : BitVec 32 := 0#32
  let v130 : BitVec 1 := Scalar.cmpi .sle v129 c0_i32_82
  let c1_i32_83 : BitVec 32 := 1#32
  let c0_i32_84 : BitVec 32 := 0#32
  let v131 : BitVec 32 := Scalar.select v130 c1_i32_83 c0_i32_84
  let v132 : BitVec 32 := Scalar.addi v119 v131
  let c0_i32_90 : BitVec 32 := 0#32
  let v143 : BitVec 1 := Scalar.cmpi .sle v142 c0_i32_90
  let c1_i32_91 : BitVec 32 := 1#32
  let c0_i32_92 : BitVec 32 := 0#32
  let v144 : BitVec 32 := Scalar.select v143 c1_i32_91 c0_i32_92
  let v145 : BitVec 32 := Scalar.addi v132 v144
  let c0_i32_98 : BitVec 32 := 0#32
  let v156 : BitVec 1 := Scalar.cmpi .sle v155 c0_i32_98
  let c1_i32_99 : BitVec 32 := 1#32
  let c0_i32_100 : BitVec 32 := 0#32
  let v157 : BitVec 32 := Scalar.select v156 c1_i32_99 c0_i32_100
  let v158 : BitVec 32 := Scalar.addi v145 v157
  let c0_i32_106 : BitVec 32 := 0#32
  let v169 : BitVec 1 := Scalar.cmpi .sle v168 c0_i32_106
  let c1_i32_107 : BitVec 32 := 1#32
  let c0_i32_108 : BitVec 32 := 0#32
  let v170 : BitVec 32 := Scalar.select v169 c1_i32_107 c0_i32_108
  let v171 : BitVec 32 := Scalar.addi v158 v170
  let c0_i32_114 : BitVec 32 := 0#32
  let v182 : BitVec 1 := Scalar.cmpi .sle v181 c0_i32_114
  let c1_i32_115 : BitVec 32 := 1#32
  let c0_i32_116 : BitVec 32 := 0#32
  let v183 : BitVec 32 := Scalar.select v182 c1_i32_115 c0_i32_116
  let v184 : BitVec 32 := Scalar.addi v171 v183
  let c0_i32_122 : BitVec 32 := 0#32
  let v195 : BitVec 1 := Scalar.cmpi .sle v194 c0_i32_122
  let c1_i32_123 : BitVec 32 := 1#32
  let c0_i32_124 : BitVec 32 := 0#32
  let v196 : BitVec 32 := Scalar.select v195 c1_i32_123 c0_i32_124
  let v197 : BitVec 32 := Scalar.addi v184 v196
  let c0_i32_130 : BitVec 32 := 0#32
  let v208 : BitVec 1 := Scalar.cmpi .sle v207 c0_i32_130
  let c1_i32_131 : BitVec 32 := 1#32
  let c0_i32_132 : BitVec 32 := 0#32
  let v209 : BitVec 32 := Scalar.select v208 c1_i32_131 c0_i32_132
  let v210 : BitVec 32 := Scalar.addi v197 v209
  let c0_i32_138 : BitVec 32 := 0#32
  let v221 : BitVec 1 := Scalar.cmpi .sle v220 c0_i32_138
  let c1_i32_139 : BitVec 32 := 1#32
  let c0_i32_140 : BitVec 32 := 0#32
  let v222 : BitVec 32 := Scalar.select v221 c1_i32_139 c0_i32_140
  let v223 : BitVec 32 := Scalar.addi v210 v222
  let c0_i32_146 : BitVec 32 := 0#32
  let v234 : BitVec 1 := Scalar.cmpi .sle v233 c0_i32_146
  let c1_i32_147 : BitVec 32 := 1#32
  let c0_i32_148 : BitVec 32 := 0#32
  let v235 : BitVec 32 := Scalar.select v234 c1_i32_147 c0_i32_148
  let v236 : BitVec 32 := Scalar.addi v223 v235
  let c10_i32_153 : BitVec 32 := 10#32
  let v243 : BitVec 32 := Scalar.minsi v236 c10_i32_153
  let c6_i32_172 : BitVec 32 := 6#32
  let v277 : BitVec 32 := Scalar.addi v243 c6_i32_172
  let v278 : BitVec 32 := Scalar.maxsi v236 v277
  let c0_i32_31 : BitVec 32 := 0#32
  let c128_i32_28 : BitVec 32 := 128#32
  let v45 : BitVec 1 := Scalar.cmpi .slt v44 c128_i32_28
  let c1_i32_29 : BitVec 32 := 1#32
  let c0_i32_30 : BitVec 32 := 0#32
  let v46 : BitVec 32 := Scalar.select v45 c1_i32_29 c0_i32_30
  let v47 : BitVec 32 := Scalar.addi c0_i32_31 v46
  let c128_i32_38 : BitVec 32 := 128#32
  let v58 : BitVec 1 := Scalar.cmpi .slt v57 c128_i32_38
  let c1_i32_39 : BitVec 32 := 1#32
  let c0_i32_40 : BitVec 32 := 0#32
  let v59 : BitVec 32 := Scalar.select v58 c1_i32_39 c0_i32_40
  let v60 : BitVec 32 := Scalar.addi v47 v59
  let c128_i32_46 : BitVec 32 := 128#32
  let v71 : BitVec 1 := Scalar.cmpi .slt v70 c128_i32_46
  let c1_i32_47 : BitVec 32 := 1#32
  let c0_i32_48 : BitVec 32 := 0#32
  let v72 : BitVec 32 := Scalar.select v71 c1_i32_47 c0_i32_48
  let v73 : BitVec 32 := Scalar.addi v60 v72
  let c128_i32_54 : BitVec 32 := 128#32
  let v84 : BitVec 1 := Scalar.cmpi .slt v83 c128_i32_54
  let c1_i32_55 : BitVec 32 := 1#32
  let c0_i32_56 : BitVec 32 := 0#32
  let v85 : BitVec 32 := Scalar.select v84 c1_i32_55 c0_i32_56
  let v86 : BitVec 32 := Scalar.addi v73 v85
  let c128_i32_62 : BitVec 32 := 128#32
  let v97 : BitVec 1 := Scalar.cmpi .slt v96 c128_i32_62
  let c1_i32_63 : BitVec 32 := 1#32
  let c0_i32_64 : BitVec 32 := 0#32
  let v98 : BitVec 32 := Scalar.select v97 c1_i32_63 c0_i32_64
  let v99 : BitVec 32 := Scalar.addi v86 v98
  let c128_i32_70 : BitVec 32 := 128#32
  let v110 : BitVec 1 := Scalar.cmpi .slt v109 c128_i32_70
  let c1_i32_71 : BitVec 32 := 1#32
  let c0_i32_72 : BitVec 32 := 0#32
  let v111 : BitVec 32 := Scalar.select v110 c1_i32_71 c0_i32_72
  let v112 : BitVec 32 := Scalar.addi v99 v111
  let c128_i32_78 : BitVec 32 := 128#32
  let v123 : BitVec 1 := Scalar.cmpi .slt v122 c128_i32_78
  let c1_i32_79 : BitVec 32 := 1#32
  let c0_i32_80 : BitVec 32 := 0#32
  let v124 : BitVec 32 := Scalar.select v123 c1_i32_79 c0_i32_80
  let v125 : BitVec 32 := Scalar.addi v112 v124
  let c128_i32_86 : BitVec 32 := 128#32
  let v136 : BitVec 1 := Scalar.cmpi .slt v135 c128_i32_86
  let c1_i32_87 : BitVec 32 := 1#32
  let c0_i32_88 : BitVec 32 := 0#32
  let v137 : BitVec 32 := Scalar.select v136 c1_i32_87 c0_i32_88
  let v138 : BitVec 32 := Scalar.addi v125 v137
  let c128_i32_94 : BitVec 32 := 128#32
  let v149 : BitVec 1 := Scalar.cmpi .slt v148 c128_i32_94
  let c1_i32_95 : BitVec 32 := 1#32
  let c0_i32_96 : BitVec 32 := 0#32
  let v150 : BitVec 32 := Scalar.select v149 c1_i32_95 c0_i32_96
  let v151 : BitVec 32 := Scalar.addi v138 v150
  let c128_i32_102 : BitVec 32 := 128#32
  let v162 : BitVec 1 := Scalar.cmpi .slt v161 c128_i32_102
  let c1_i32_103 : BitVec 32 := 1#32
  let c0_i32_104 : BitVec 32 := 0#32
  let v163 : BitVec 32 := Scalar.select v162 c1_i32_103 c0_i32_104
  let v164 : BitVec 32 := Scalar.addi v151 v163
  let c128_i32_110 : BitVec 32 := 128#32
  let v175 : BitVec 1 := Scalar.cmpi .slt v174 c128_i32_110
  let c1_i32_111 : BitVec 32 := 1#32
  let c0_i32_112 : BitVec 32 := 0#32
  let v176 : BitVec 32 := Scalar.select v175 c1_i32_111 c0_i32_112
  let v177 : BitVec 32 := Scalar.addi v164 v176
  let c128_i32_118 : BitVec 32 := 128#32
  let v188 : BitVec 1 := Scalar.cmpi .slt v187 c128_i32_118
  let c1_i32_119 : BitVec 32 := 1#32
  let c0_i32_120 : BitVec 32 := 0#32
  let v189 : BitVec 32 := Scalar.select v188 c1_i32_119 c0_i32_120
  let v190 : BitVec 32 := Scalar.addi v177 v189
  let c128_i32_126 : BitVec 32 := 128#32
  let v201 : BitVec 1 := Scalar.cmpi .slt v200 c128_i32_126
  let c1_i32_127 : BitVec 32 := 1#32
  let c0_i32_128 : BitVec 32 := 0#32
  let v202 : BitVec 32 := Scalar.select v201 c1_i32_127 c0_i32_128
  let v203 : BitVec 32 := Scalar.addi v190 v202
  let c128_i32_134 : BitVec 32 := 128#32
  let v214 : BitVec 1 := Scalar.cmpi .slt v213 c128_i32_134
  let c1_i32_135 : BitVec 32 := 1#32
  let c0_i32_136 : BitVec 32 := 0#32
  let v215 : BitVec 32 := Scalar.select v214 c1_i32_135 c0_i32_136
  let v216 : BitVec 32 := Scalar.addi v203 v215
  let c128_i32_142 : BitVec 32 := 128#32
  let v227 : BitVec 1 := Scalar.cmpi .slt v226 c128_i32_142
  let c1_i32_143 : BitVec 32 := 1#32
  let c0_i32_144 : BitVec 32 := 0#32
  let v228 : BitVec 32 := Scalar.select v227 c1_i32_143 c0_i32_144
  let v229 : BitVec 32 := Scalar.addi v216 v228
  let c128_i32_150 : BitVec 32 := 128#32
  let v240 : BitVec 1 := Scalar.cmpi .slt v239 c128_i32_150
  let c1_i32_151 : BitVec 32 := 1#32
  let c0_i32_152 : BitVec 32 := 0#32
  let v241 : BitVec 32 := Scalar.select v240 c1_i32_151 c0_i32_152
  let v242 : BitVec 32 := Scalar.addi v229 v241
  let v279 : BitVec 32 := Scalar.subi v242 v278
  let c1_i32_174 : BitVec 32 := 1#32
  let v281 : BitVec 32 := Scalar.divsi v279 c1_i32_174
  let v282 : BitVec 32 := Scalar.muli v281 c1_i32_174
  let v283 : BitVec 32 := Scalar.addi v278 v282
  let c1_i32_176 : BitVec 32 := 1#32
  let arg15 : BitVec 32 := Scf.iv v283 c1_i32_176 k0_t2
  let c256_i32_704 : BitVec 32 := 256#32
  let v1055 : BitVec 32 := Scalar.muli arg15 c256_i32_704
  let v1056 : BitVec 32 := v1055
  let v1078 : Index := Scalar.indexCast v1056
  let c0_717 : Index := 0#32
  ![0, v1078.toNat, 0]

def k0_chk2 (i : grid0.Coords) (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) : Prop :=
  (∀ (k0_h1 : k0_cond1 i = 1#1), (k0_t1_loop v38 v44 v51 v57 v64 v70 v77 v83 v90 v96 v103 v109 v116 v122 v129 v135 v142 v148 v155 v161 v168 v174 v181 v187 v194 v200 v207 v213 v220 v226 v233 v239).OK) ∧
  (∀ k0_t1 : Fin (k0_t1_loop v38 v44 v51 v57 v64 v70 v77 v83 v90 v96 v103 v109 v116 v122 v129 v135 v142 v148 v155 v161 v168 v174 v181 v187 v194 v200 v207 v213 v220 v226 v233 v239).trips, ∀ (k0_h1 : k0_cond1 i = 1#1), 256 ∣ (k0_mult2 v38 v44 v51 v57 v64 v70 v77 v83 v90 v96 v103 v109 v116 v122 v129 v135 v142 v148 v155 v161 v168 v174 v181 v187 v194 v200 v207 v213 v220 v226 v233 v239 k0_t1).toNat) ∧
  (∀ k0_t1 : Fin (k0_t1_loop v38 v44 v51 v57 v64 v70 v77 v83 v90 v96 v103 v109 v116 v122 v129 v135 v142 v148 v155 v161 v168 v174 v181 v187 v194 v200 v207 v213 v220 v226 v233 v239).trips, ∀ (k0_h1 : k0_cond1 i = 1#1), ∀ a, (k0_off5 v38 v44 v51 v57 v64 v70 v77 v83 v90 v96 v103 v109 v116 v122 v129 v135 v142 v148 v155 v161 v168 v174 v181 v187 v194 v200 v207 v213 v220 v226 v233 v239 k0_t1) a + S1x1x1x256.size a ≤ S1x1x1x4096.size a) ∧
  (∀ k0_t1 : Fin (k0_t1_loop v38 v44 v51 v57 v64 v70 v77 v83 v90 v96 v103 v109 v116 v122 v129 v135 v142 v148 v155 v161 v168 v174 v181 v187 v194 v200 v207 v213 v220 v226 v233 v239).trips, ∀ (k0_h1 : k0_cond1 i = 1#1), ∀ a, (k0_off6 v38 v44 v51 v57 v64 v70 v77 v83 v90 v96 v103 v109 v116 v122 v129 v135 v142 v148 v155 v161 v168 v174 v181 v187 v194 v200 v207 v213 v220 v226 v233 v239 k0_t1) a + S1x256x1024.size a ≤ S1x4096x1024.size a) ∧
  (∀ (k0_h1 : k0_cond1 i = 1#1), (k0_t2_loop v38 v44 v51 v57 v64 v70 v77 v83 v90 v96 v103 v109 v116 v122 v129 v135 v142 v148 v155 v161 v168 v174 v181 v187 v194 v200 v207 v213 v220 v226 v233 v239).OK) ∧
  (∀ k0_t2 : Fin (k0_t2_loop v38 v44 v51 v57 v64 v70 v77 v83 v90 v96 v103 v109 v116 v122 v129 v135 v142 v148 v155 v161 v168 v174 v181 v187 v194 v200 v207 v213 v220 v226 v233 v239).trips, ∀ (k0_h1 : k0_cond1 i = 1#1), 256 ∣ (k0_mult3 v38 v44 v51 v57 v64 v70 v77 v83 v90 v96 v103 v109 v116 v122 v129 v135 v142 v148 v155 v161 v168 v174 v181 v187 v194 v200 v207 v213 v220 v226 v233 v239 k0_t2).toNat) ∧
  (∀ k0_t2 : Fin (k0_t2_loop v38 v44 v51 v57 v64 v70 v77 v83 v90 v96 v103 v109 v116 v122 v129 v135 v142 v148 v155 v161 v168 v174 v181 v187 v194 v200 v207 v213 v220 v226 v233 v239).trips, ∀ (k0_h1 : k0_cond1 i = 1#1), ∀ a, (k0_off7 v38 v44 v51 v57 v64 v70 v77 v83 v90 v96 v103 v109 v116 v122 v129 v135 v142 v148 v155 v161 v168 v174 v181 v187 v194 v200 v207 v213 v220 v226 v233 v239 k0_t2) a + S1x1x1x256.size a ≤ S1x1x1x4096.size a) ∧
  (∀ k0_t2 : Fin (k0_t2_loop v38 v44 v51 v57 v64 v70 v77 v83 v90 v96 v103 v109 v116 v122 v129 v135 v142 v148 v155 v161 v168 v174 v181 v187 v194 v200 v207 v213 v220 v226 v233 v239).trips, ∀ (k0_h1 : k0_cond1 i = 1#1), ∀ a, (k0_off8 v38 v44 v51 v57 v64 v70 v77 v83 v90 v96 v103 v109 v116 v122 v129 v135 v142 v148 v155 v161 v168 v174 v181 v187 v194 v200 v207 v213 v220 v226 v233 v239 k0_t2) a + S1x256x1024.size a ≤ S1x4096x1024.size a)
theorem k0_t1_ok : ∀ (i : grid0.Coords) (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_hw2 : k0_chk2 i v38 v44 v51 v57 v64 v70 v77 v83 v90 v96 v103 v109 v116 v122 v129 v135 v142 v148 v155 v161 v168 v174 v181 v187 v194 v200 v207 v213 v220 v226 v233 v239), ∀ (k0_h1 : k0_cond1 i = 1#1), (k0_t1_loop v38 v44 v51 v57 v64 v70 v77 v83 v90 v96 v103 v109 v116 v122 v129 v135 v142 v148 v155 v161 v168 v174 v181 v187 v194 v200 v207 v213 v220 v226 v233 v239).OK := fun i v38 v44 v51 v57 v64 v70 v77 v83 v90 v96 v103 v109 v116 v122 v129 v135 v142 v148 v155 v161 v168 v174 v181 v187 v194 v200 v207 v213 v220 v226 v233 v239 k0_hw2 k0_h1 => k0_hw2.1 k0_h1
theorem k0_mult2_dvd : ∀ (i : grid0.Coords) (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_hw2 : k0_chk2 i v38 v44 v51 v57 v64 v70 v77 v83 v90 v96 v103 v109 v116 v122 v129 v135 v142 v148 v155 v161 v168 v174 v181 v187 v194 v200 v207 v213 v220 v226 v233 v239) (k0_t1 : Fin (k0_t1_loop v38 v44 v51 v57 v64 v70 v77 v83 v90 v96 v103 v109 v116 v122 v129 v135 v142 v148 v155 v161 v168 v174 v181 v187 v194 v200 v207 v213 v220 v226 v233 v239).trips), ∀ (k0_h1 : k0_cond1 i = 1#1), 256 ∣ (k0_mult2 v38 v44 v51 v57 v64 v70 v77 v83 v90 v96 v103 v109 v116 v122 v129 v135 v142 v148 v155 v161 v168 v174 v181 v187 v194 v200 v207 v213 v220 v226 v233 v239 k0_t1).toNat := fun i v38 v44 v51 v57 v64 v70 v77 v83 v90 v96 v103 v109 v116 v122 v129 v135 v142 v148 v155 v161 v168 v174 v181 v187 v194 v200 v207 v213 v220 v226 v233 v239 k0_hw2 k0_t1 k0_h1 => k0_hw2.2.1 k0_t1 k0_h1
theorem k0_off5_inb : ∀ (i : grid0.Coords) (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_hw2 : k0_chk2 i v38 v44 v51 v57 v64 v70 v77 v83 v90 v96 v103 v109 v116 v122 v129 v135 v142 v148 v155 v161 v168 v174 v181 v187 v194 v200 v207 v213 v220 v226 v233 v239) (k0_t1 : Fin (k0_t1_loop v38 v44 v51 v57 v64 v70 v77 v83 v90 v96 v103 v109 v116 v122 v129 v135 v142 v148 v155 v161 v168 v174 v181 v187 v194 v200 v207 v213 v220 v226 v233 v239).trips), ∀ (k0_h1 : k0_cond1 i = 1#1), ∀ a, (k0_off5 v38 v44 v51 v57 v64 v70 v77 v83 v90 v96 v103 v109 v116 v122 v129 v135 v142 v148 v155 v161 v168 v174 v181 v187 v194 v200 v207 v213 v220 v226 v233 v239 k0_t1) a + S1x1x1x256.size a ≤ S1x1x1x4096.size a := fun i v38 v44 v51 v57 v64 v70 v77 v83 v90 v96 v103 v109 v116 v122 v129 v135 v142 v148 v155 v161 v168 v174 v181 v187 v194 v200 v207 v213 v220 v226 v233 v239 k0_hw2 k0_t1 k0_h1 => k0_hw2.2.2.1 k0_t1 k0_h1
theorem k0_off6_inb : ∀ (i : grid0.Coords) (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_hw2 : k0_chk2 i v38 v44 v51 v57 v64 v70 v77 v83 v90 v96 v103 v109 v116 v122 v129 v135 v142 v148 v155 v161 v168 v174 v181 v187 v194 v200 v207 v213 v220 v226 v233 v239) (k0_t1 : Fin (k0_t1_loop v38 v44 v51 v57 v64 v70 v77 v83 v90 v96 v103 v109 v116 v122 v129 v135 v142 v148 v155 v161 v168 v174 v181 v187 v194 v200 v207 v213 v220 v226 v233 v239).trips), ∀ (k0_h1 : k0_cond1 i = 1#1), ∀ a, (k0_off6 v38 v44 v51 v57 v64 v70 v77 v83 v90 v96 v103 v109 v116 v122 v129 v135 v142 v148 v155 v161 v168 v174 v181 v187 v194 v200 v207 v213 v220 v226 v233 v239 k0_t1) a + S1x256x1024.size a ≤ S1x4096x1024.size a := fun i v38 v44 v51 v57 v64 v70 v77 v83 v90 v96 v103 v109 v116 v122 v129 v135 v142 v148 v155 v161 v168 v174 v181 v187 v194 v200 v207 v213 v220 v226 v233 v239 k0_hw2 k0_t1 k0_h1 => k0_hw2.2.2.2.1 k0_t1 k0_h1
theorem k0_t2_ok : ∀ (i : grid0.Coords) (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_hw2 : k0_chk2 i v38 v44 v51 v57 v64 v70 v77 v83 v90 v96 v103 v109 v116 v122 v129 v135 v142 v148 v155 v161 v168 v174 v181 v187 v194 v200 v207 v213 v220 v226 v233 v239), ∀ (k0_h1 : k0_cond1 i = 1#1), (k0_t2_loop v38 v44 v51 v57 v64 v70 v77 v83 v90 v96 v103 v109 v116 v122 v129 v135 v142 v148 v155 v161 v168 v174 v181 v187 v194 v200 v207 v213 v220 v226 v233 v239).OK := fun i v38 v44 v51 v57 v64 v70 v77 v83 v90 v96 v103 v109 v116 v122 v129 v135 v142 v148 v155 v161 v168 v174 v181 v187 v194 v200 v207 v213 v220 v226 v233 v239 k0_hw2 k0_h1 => k0_hw2.2.2.2.2.1 k0_h1
theorem k0_mult3_dvd : ∀ (i : grid0.Coords) (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_hw2 : k0_chk2 i v38 v44 v51 v57 v64 v70 v77 v83 v90 v96 v103 v109 v116 v122 v129 v135 v142 v148 v155 v161 v168 v174 v181 v187 v194 v200 v207 v213 v220 v226 v233 v239) (k0_t2 : Fin (k0_t2_loop v38 v44 v51 v57 v64 v70 v77 v83 v90 v96 v103 v109 v116 v122 v129 v135 v142 v148 v155 v161 v168 v174 v181 v187 v194 v200 v207 v213 v220 v226 v233 v239).trips), ∀ (k0_h1 : k0_cond1 i = 1#1), 256 ∣ (k0_mult3 v38 v44 v51 v57 v64 v70 v77 v83 v90 v96 v103 v109 v116 v122 v129 v135 v142 v148 v155 v161 v168 v174 v181 v187 v194 v200 v207 v213 v220 v226 v233 v239 k0_t2).toNat := fun i v38 v44 v51 v57 v64 v70 v77 v83 v90 v96 v103 v109 v116 v122 v129 v135 v142 v148 v155 v161 v168 v174 v181 v187 v194 v200 v207 v213 v220 v226 v233 v239 k0_hw2 k0_t2 k0_h1 => k0_hw2.2.2.2.2.2.1 k0_t2 k0_h1
theorem k0_off7_inb : ∀ (i : grid0.Coords) (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_hw2 : k0_chk2 i v38 v44 v51 v57 v64 v70 v77 v83 v90 v96 v103 v109 v116 v122 v129 v135 v142 v148 v155 v161 v168 v174 v181 v187 v194 v200 v207 v213 v220 v226 v233 v239) (k0_t2 : Fin (k0_t2_loop v38 v44 v51 v57 v64 v70 v77 v83 v90 v96 v103 v109 v116 v122 v129 v135 v142 v148 v155 v161 v168 v174 v181 v187 v194 v200 v207 v213 v220 v226 v233 v239).trips), ∀ (k0_h1 : k0_cond1 i = 1#1), ∀ a, (k0_off7 v38 v44 v51 v57 v64 v70 v77 v83 v90 v96 v103 v109 v116 v122 v129 v135 v142 v148 v155 v161 v168 v174 v181 v187 v194 v200 v207 v213 v220 v226 v233 v239 k0_t2) a + S1x1x1x256.size a ≤ S1x1x1x4096.size a := fun i v38 v44 v51 v57 v64 v70 v77 v83 v90 v96 v103 v109 v116 v122 v129 v135 v142 v148 v155 v161 v168 v174 v181 v187 v194 v200 v207 v213 v220 v226 v233 v239 k0_hw2 k0_t2 k0_h1 => k0_hw2.2.2.2.2.2.2.1 k0_t2 k0_h1
theorem k0_off8_inb : ∀ (i : grid0.Coords) (v38 : BitVec 32) (v44 : BitVec 32) (v51 : BitVec 32) (v57 : BitVec 32) (v64 : BitVec 32) (v70 : BitVec 32) (v77 : BitVec 32) (v83 : BitVec 32) (v90 : BitVec 32) (v96 : BitVec 32) (v103 : BitVec 32) (v109 : BitVec 32) (v116 : BitVec 32) (v122 : BitVec 32) (v129 : BitVec 32) (v135 : BitVec 32) (v142 : BitVec 32) (v148 : BitVec 32) (v155 : BitVec 32) (v161 : BitVec 32) (v168 : BitVec 32) (v174 : BitVec 32) (v181 : BitVec 32) (v187 : BitVec 32) (v194 : BitVec 32) (v200 : BitVec 32) (v207 : BitVec 32) (v213 : BitVec 32) (v220 : BitVec 32) (v226 : BitVec 32) (v233 : BitVec 32) (v239 : BitVec 32) (k0_hw2 : k0_chk2 i v38 v44 v51 v57 v64 v70 v77 v83 v90 v96 v103 v109 v116 v122 v129 v135 v142 v148 v155 v161 v168 v174 v181 v187 v194 v200 v207 v213 v220 v226 v233 v239) (k0_t2 : Fin (k0_t2_loop v38 v44 v51 v57 v64 v70 v77 v83 v90 v96 v103 v109 v116 v122 v129 v135 v142 v148 v155 v161 v168 v174 v181 v187 v194 v200 v207 v213 v220 v226 v233 v239).trips), ∀ (k0_h1 : k0_cond1 i = 1#1), ∀ a, (k0_off8 v38 v44 v51 v57 v64 v70 v77 v83 v90 v96 v103 v109 v116 v122 v129 v135 v142 v148 v155 v161 v168 v174 v181 v187 v194 v200 v207 v213 v220 v226 v233 v239 k0_t2) a + S1x256x1024.size a ≤ S1x4096x1024.size a := fun i v38 v44 v51 v57 v64 v70 v77 v83 v90 v96 v103 v109 v116 v122 v129 v135 v142 v148 v155 v161 v168 v174 v181 v187 v194 v200 v207 v213 v220 v226 v233 v239 k0_hw2 k0_t2 k0_h1 => k0_hw2.2.2.2.2.2.2.2 k0_t2 k0_h1

def k0_off9 (i : grid0.Coords) (c0_i32_181 : BitVec 32) : Fin 1 → Nat :=
  let arg0 : BitVec 32 := BitVec.ofNat 32 (i 0).val
  let c16_i32 : BitVec 32 := 16#32
  let v31 : BitVec 32 := Scalar.muli arg0 c16_i32
  let arg1 : BitVec 32 := BitVec.ofNat 32 (i 1).val
  let v32 : BitVec 32 := Scalar.addi v31 arg1
  let c128_i32 : BitVec 32 := 128#32
  let v33 : BitVec 32 := Scalar.muli v32 c128_i32
  let v289 : BitVec 32 := Scalar.addi v33 c0_i32_181
  let c1_i32_182 : BitVec 32 := 1#32
  let v290 : BitVec 32 := Scalar.addi v289 c1_i32_182
  let v291 : Index := Scalar.indexCast v290
  ![v291.toNat]
def k0_off10 (i : grid0.Coords) (c0_i32_187 : BitVec 32) : Fin 1 → Nat :=
  let arg0 : BitVec 32 := BitVec.ofNat 32 (i 0).val
  let c16_i32 : BitVec 32 := 16#32
  let v31 : BitVec 32 := Scalar.muli arg0 c16_i32
  let arg1 : BitVec 32 := BitVec.ofNat 32 (i 1).val
  let v32 : BitVec 32 := Scalar.addi v31 arg1
  let c128_i32 : BitVec 32 := 128#32
  let v33 : BitVec 32 := Scalar.muli v32 c128_i32
  let v296 : BitVec 32 := Scalar.addi v33 c0_i32_187
  let v297 : Index := Scalar.indexCast v296
  ![v297.toNat]
def k0_mult4 (v292 : BitVec 32) (v305 : BitVec 32) (v318 : BitVec 32) (v331 : BitVec 32) (v344 : BitVec 32) (v357 : BitVec 32) (v370 : BitVec 32) (v383 : BitVec 32) (v396 : BitVec 32) (v409 : BitVec 32) (v422 : BitVec 32) (v435 : BitVec 32) (v448 : BitVec 32) (v461 : BitVec 32) (v474 : BitVec 32) (v487 : BitVec 32) : BitVec 32 :=
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c256_i32_328 : BitVec 32 := 256#32
  let v498 : BitVec 32 := Scalar.muli v497 c256_i32_328
  v498

def k0_off11 (v292 : BitVec 32) (v305 : BitVec 32) (v318 : BitVec 32) (v331 : BitVec 32) (v344 : BitVec 32) (v357 : BitVec 32) (v370 : BitVec 32) (v383 : BitVec 32) (v396 : BitVec 32) (v409 : BitVec 32) (v422 : BitVec 32) (v435 : BitVec 32) (v448 : BitVec 32) (v461 : BitVec 32) (v474 : BitVec 32) (v487 : BitVec 32) : Fin 4 → Nat :=
  let c0_329 : Index := 0#32
  let c0_330 : Index := 0#32
  let c0_331 : Index := 0#32
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c256_i32_328 : BitVec 32 := 256#32
  let v498 : BitVec 32 := Scalar.muli v497 c256_i32_328
  let v499 : BitVec 32 := v498
  let v500 : Index := Scalar.indexCast v499
  ![0, 0, 0, v500.toNat]
def k0_off12 (v292 : BitVec 32) (v305 : BitVec 32) (v318 : BitVec 32) (v331 : BitVec 32) (v344 : BitVec 32) (v357 : BitVec 32) (v370 : BitVec 32) (v383 : BitVec 32) (v396 : BitVec 32) (v409 : BitVec 32) (v422 : BitVec 32) (v435 : BitVec 32) (v448 : BitVec 32) (v461 : BitVec 32) (v474 : BitVec 32) (v487 : BitVec 32) : Fin 3 → Nat :=
  let c0_340 : Index := 0#32
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c256_i32_328 : BitVec 32 := 256#32
  let v498 : BitVec 32 := Scalar.muli v497 c256_i32_328
  let v499 : BitVec 32 := v498
  let v521 : Index := Scalar.indexCast v499
  let c0_341 : Index := 0#32
  ![0, v521.toNat, 0]

def k0_chk3 (i : grid0.Coords) (v292 : BitVec 32) (v305 : BitVec 32) (v318 : BitVec 32) (v331 : BitVec 32) (v344 : BitVec 32) (v357 : BitVec 32) (v370 : BitVec 32) (v383 : BitVec 32) (v396 : BitVec 32) (v409 : BitVec 32) (v422 : BitVec 32) (v435 : BitVec 32) (v448 : BitVec 32) (v461 : BitVec 32) (v474 : BitVec 32) (v487 : BitVec 32) : Prop :=
  (∀ (k0_h1 : k0_cond1 i = 1#1), 256 ∣ (k0_mult4 v292 v305 v318 v331 v344 v357 v370 v383 v396 v409 v422 v435 v448 v461 v474 v487).toNat) ∧
  (∀ (k0_h1 : k0_cond1 i = 1#1), ∀ a, (k0_off11 v292 v305 v318 v331 v344 v357 v370 v383 v396 v409 v422 v435 v448 v461 v474 v487) a + S1x1x1x1536.size a ≤ S1x1x1x4096.size a) ∧
  (∀ (k0_h1 : k0_cond1 i = 1#1), ∀ a, (k0_off12 v292 v305 v318 v331 v344 v357 v370 v383 v396 v409 v422 v435 v448 v461 v474 v487) a + S1x1536x1024.size a ≤ S1x4096x1024.size a)
theorem k0_mult4_dvd : ∀ (i : grid0.Coords) (v292 : BitVec 32) (v305 : BitVec 32) (v318 : BitVec 32) (v331 : BitVec 32) (v344 : BitVec 32) (v357 : BitVec 32) (v370 : BitVec 32) (v383 : BitVec 32) (v396 : BitVec 32) (v409 : BitVec 32) (v422 : BitVec 32) (v435 : BitVec 32) (v448 : BitVec 32) (v461 : BitVec 32) (v474 : BitVec 32) (v487 : BitVec 32) (k0_hw3 : k0_chk3 i v292 v305 v318 v331 v344 v357 v370 v383 v396 v409 v422 v435 v448 v461 v474 v487), ∀ (k0_h1 : k0_cond1 i = 1#1), 256 ∣ (k0_mult4 v292 v305 v318 v331 v344 v357 v370 v383 v396 v409 v422 v435 v448 v461 v474 v487).toNat := fun i v292 v305 v318 v331 v344 v357 v370 v383 v396 v409 v422 v435 v448 v461 v474 v487 k0_hw3 k0_h1 => k0_hw3.1 k0_h1
theorem k0_off11_inb : ∀ (i : grid0.Coords) (v292 : BitVec 32) (v305 : BitVec 32) (v318 : BitVec 32) (v331 : BitVec 32) (v344 : BitVec 32) (v357 : BitVec 32) (v370 : BitVec 32) (v383 : BitVec 32) (v396 : BitVec 32) (v409 : BitVec 32) (v422 : BitVec 32) (v435 : BitVec 32) (v448 : BitVec 32) (v461 : BitVec 32) (v474 : BitVec 32) (v487 : BitVec 32) (k0_hw3 : k0_chk3 i v292 v305 v318 v331 v344 v357 v370 v383 v396 v409 v422 v435 v448 v461 v474 v487), ∀ (k0_h1 : k0_cond1 i = 1#1), ∀ a, (k0_off11 v292 v305 v318 v331 v344 v357 v370 v383 v396 v409 v422 v435 v448 v461 v474 v487) a + S1x1x1x1536.size a ≤ S1x1x1x4096.size a := fun i v292 v305 v318 v331 v344 v357 v370 v383 v396 v409 v422 v435 v448 v461 v474 v487 k0_hw3 k0_h1 => k0_hw3.2.1 k0_h1
theorem k0_off12_inb : ∀ (i : grid0.Coords) (v292 : BitVec 32) (v305 : BitVec 32) (v318 : BitVec 32) (v331 : BitVec 32) (v344 : BitVec 32) (v357 : BitVec 32) (v370 : BitVec 32) (v383 : BitVec 32) (v396 : BitVec 32) (v409 : BitVec 32) (v422 : BitVec 32) (v435 : BitVec 32) (v448 : BitVec 32) (v461 : BitVec 32) (v474 : BitVec 32) (v487 : BitVec 32) (k0_hw3 : k0_chk3 i v292 v305 v318 v331 v344 v357 v370 v383 v396 v409 v422 v435 v448 v461 v474 v487), ∀ (k0_h1 : k0_cond1 i = 1#1), ∀ a, (k0_off12 v292 v305 v318 v331 v344 v357 v370 v383 v396 v409 v422 v435 v448 v461 v474 v487) a + S1x1536x1024.size a ≤ S1x4096x1024.size a := fun i v292 v305 v318 v331 v344 v357 v370 v383 v396 v409 v422 v435 v448 v461 v474 v487 k0_hw3 k0_h1 => k0_hw3.2.2 k0_h1

@[reducible] def k0_t3_loop (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) : Scf.Loop 32 :=
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c6_i32_346 : BitVec 32 := 6#32
  let v531 : BitVec 32 := Scalar.addi v497 c6_i32_346
  let v532 : BitVec 32 := Scalar.maxsi v490 v531
  let c0_i32_191 : BitVec 32 := 0#32
  let c256_i32_188 : BitVec 32 := 256#32
  let v299 : BitVec 1 := Scalar.cmpi .slt v298 c256_i32_188
  let c1_i32_189 : BitVec 32 := 1#32
  let c0_i32_190 : BitVec 32 := 0#32
  let v300 : BitVec 32 := Scalar.select v299 c1_i32_189 c0_i32_190
  let v301 : BitVec 32 := Scalar.addi c0_i32_191 v300
  let c256_i32_198 : BitVec 32 := 256#32
  let v312 : BitVec 1 := Scalar.cmpi .slt v311 c256_i32_198
  let c1_i32_199 : BitVec 32 := 1#32
  let c0_i32_200 : BitVec 32 := 0#32
  let v313 : BitVec 32 := Scalar.select v312 c1_i32_199 c0_i32_200
  let v314 : BitVec 32 := Scalar.addi v301 v313
  let c256_i32_207 : BitVec 32 := 256#32
  let v325 : BitVec 1 := Scalar.cmpi .slt v324 c256_i32_207
  let c1_i32_208 : BitVec 32 := 1#32
  let c0_i32_209 : BitVec 32 := 0#32
  let v326 : BitVec 32 := Scalar.select v325 c1_i32_208 c0_i32_209
  let v327 : BitVec 32 := Scalar.addi v314 v326
  let c256_i32_216 : BitVec 32 := 256#32
  let v338 : BitVec 1 := Scalar.cmpi .slt v337 c256_i32_216
  let c1_i32_217 : BitVec 32 := 1#32
  let c0_i32_218 : BitVec 32 := 0#32
  let v339 : BitVec 32 := Scalar.select v338 c1_i32_217 c0_i32_218
  let v340 : BitVec 32 := Scalar.addi v327 v339
  let c256_i32_225 : BitVec 32 := 256#32
  let v351 : BitVec 1 := Scalar.cmpi .slt v350 c256_i32_225
  let c1_i32_226 : BitVec 32 := 1#32
  let c0_i32_227 : BitVec 32 := 0#32
  let v352 : BitVec 32 := Scalar.select v351 c1_i32_226 c0_i32_227
  let v353 : BitVec 32 := Scalar.addi v340 v352
  let c256_i32_234 : BitVec 32 := 256#32
  let v364 : BitVec 1 := Scalar.cmpi .slt v363 c256_i32_234
  let c1_i32_235 : BitVec 32 := 1#32
  let c0_i32_236 : BitVec 32 := 0#32
  let v365 : BitVec 32 := Scalar.select v364 c1_i32_235 c0_i32_236
  let v366 : BitVec 32 := Scalar.addi v353 v365
  let c256_i32_243 : BitVec 32 := 256#32
  let v377 : BitVec 1 := Scalar.cmpi .slt v376 c256_i32_243
  let c1_i32_244 : BitVec 32 := 1#32
  let c0_i32_245 : BitVec 32 := 0#32
  let v378 : BitVec 32 := Scalar.select v377 c1_i32_244 c0_i32_245
  let v379 : BitVec 32 := Scalar.addi v366 v378
  let c256_i32_252 : BitVec 32 := 256#32
  let v390 : BitVec 1 := Scalar.cmpi .slt v389 c256_i32_252
  let c1_i32_253 : BitVec 32 := 1#32
  let c0_i32_254 : BitVec 32 := 0#32
  let v391 : BitVec 32 := Scalar.select v390 c1_i32_253 c0_i32_254
  let v392 : BitVec 32 := Scalar.addi v379 v391
  let c256_i32_261 : BitVec 32 := 256#32
  let v403 : BitVec 1 := Scalar.cmpi .slt v402 c256_i32_261
  let c1_i32_262 : BitVec 32 := 1#32
  let c0_i32_263 : BitVec 32 := 0#32
  let v404 : BitVec 32 := Scalar.select v403 c1_i32_262 c0_i32_263
  let v405 : BitVec 32 := Scalar.addi v392 v404
  let c256_i32_270 : BitVec 32 := 256#32
  let v416 : BitVec 1 := Scalar.cmpi .slt v415 c256_i32_270
  let c1_i32_271 : BitVec 32 := 1#32
  let c0_i32_272 : BitVec 32 := 0#32
  let v417 : BitVec 32 := Scalar.select v416 c1_i32_271 c0_i32_272
  let v418 : BitVec 32 := Scalar.addi v405 v417
  let c256_i32_279 : BitVec 32 := 256#32
  let v429 : BitVec 1 := Scalar.cmpi .slt v428 c256_i32_279
  let c1_i32_280 : BitVec 32 := 1#32
  let c0_i32_281 : BitVec 32 := 0#32
  let v430 : BitVec 32 := Scalar.select v429 c1_i32_280 c0_i32_281
  let v431 : BitVec 32 := Scalar.addi v418 v430
  let c256_i32_288 : BitVec 32 := 256#32
  let v442 : BitVec 1 := Scalar.cmpi .slt v441 c256_i32_288
  let c1_i32_289 : BitVec 32 := 1#32
  let c0_i32_290 : BitVec 32 := 0#32
  let v443 : BitVec 32 := Scalar.select v442 c1_i32_289 c0_i32_290
  let v444 : BitVec 32 := Scalar.addi v431 v443
  let c256_i32_297 : BitVec 32 := 256#32
  let v455 : BitVec 1 := Scalar.cmpi .slt v454 c256_i32_297
  let c1_i32_298 : BitVec 32 := 1#32
  let c0_i32_299 : BitVec 32 := 0#32
  let v456 : BitVec 32 := Scalar.select v455 c1_i32_298 c0_i32_299
  let v457 : BitVec 32 := Scalar.addi v444 v456
  let c256_i32_306 : BitVec 32 := 256#32
  let v468 : BitVec 1 := Scalar.cmpi .slt v467 c256_i32_306
  let c1_i32_307 : BitVec 32 := 1#32
  let c0_i32_308 : BitVec 32 := 0#32
  let v469 : BitVec 32 := Scalar.select v468 c1_i32_307 c0_i32_308
  let v470 : BitVec 32 := Scalar.addi v457 v469
  let c256_i32_315 : BitVec 32 := 256#32
  let v481 : BitVec 1 := Scalar.cmpi .slt v480 c256_i32_315
  let c1_i32_316 : BitVec 32 := 1#32
  let c0_i32_317 : BitVec 32 := 0#32
  let v482 : BitVec 32 := Scalar.select v481 c1_i32_316 c0_i32_317
  let v483 : BitVec 32 := Scalar.addi v470 v482
  let c256_i32_324 : BitVec 32 := 256#32
  let v494 : BitVec 1 := Scalar.cmpi .slt v493 c256_i32_324
  let c1_i32_325 : BitVec 32 := 1#32
  let c0_i32_326 : BitVec 32 := 0#32
  let v495 : BitVec 32 := Scalar.select v494 c1_i32_325 c0_i32_326
  let v496 : BitVec 32 := Scalar.addi v483 v495
  let v533 : BitVec 32 := Scalar.subi v496 v532
  let c1_i32_348 : BitVec 32 := 1#32
  let v535 : BitVec 32 := Scalar.divsi v533 c1_i32_348
  let v536 : BitVec 32 := Scalar.muli v535 c1_i32_348
  let v537 : BitVec 32 := Scalar.addi v532 v536
  let c1_i32_349 : BitVec 32 := 1#32
  ⟨v532, v537, c1_i32_349⟩

def k0_mult5 (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_t3 : Fin (k0_t3_loop v292 v298 v305 v311 v318 v324 v331 v337 v344 v350 v357 v363 v370 v376 v383 v389 v396 v402 v409 v415 v422 v428 v435 v441 v448 v454 v461 v467 v474 v480 v487 v493).trips) : BitVec 32 :=
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c6_i32_346 : BitVec 32 := 6#32
  let v531 : BitVec 32 := Scalar.addi v497 c6_i32_346
  let v532 : BitVec 32 := Scalar.maxsi v490 v531
  let c1_i32_349 : BitVec 32 := 1#32
  let arg15 : BitVec 32 := Scf.iv v532 c1_i32_349 k0_t3
  let c256_i32_704 : BitVec 32 := 256#32
  let v1055 : BitVec 32 := Scalar.muli arg15 c256_i32_704
  v1055
def k0_off13 (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_t3 : Fin (k0_t3_loop v292 v298 v305 v311 v318 v324 v331 v337 v344 v350 v357 v363 v370 v376 v383 v389 v396 v402 v409 v415 v422 v428 v435 v441 v448 v454 v461 v467 v474 v480 v487 v493).trips) : Fin 4 → Nat :=
  let c0_705 : Index := 0#32
  let c0_706 : Index := 0#32
  let c0_707 : Index := 0#32
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c6_i32_346 : BitVec 32 := 6#32
  let v531 : BitVec 32 := Scalar.addi v497 c6_i32_346
  let v532 : BitVec 32 := Scalar.maxsi v490 v531
  let c1_i32_349 : BitVec 32 := 1#32
  let arg15 : BitVec 32 := Scf.iv v532 c1_i32_349 k0_t3
  let c256_i32_704 : BitVec 32 := 256#32
  let v1055 : BitVec 32 := Scalar.muli arg15 c256_i32_704
  let v1056 : BitVec 32 := v1055
  let v1057 : Index := Scalar.indexCast v1056
  ![0, 0, 0, v1057.toNat]
def k0_off14 (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_t3 : Fin (k0_t3_loop v292 v298 v305 v311 v318 v324 v331 v337 v344 v350 v357 v363 v370 v376 v383 v389 v396 v402 v409 v415 v422 v428 v435 v441 v448 v454 v461 v467 v474 v480 v487 v493).trips) : Fin 3 → Nat :=
  let c0_716 : Index := 0#32
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c6_i32_346 : BitVec 32 := 6#32
  let v531 : BitVec 32 := Scalar.addi v497 c6_i32_346
  let v532 : BitVec 32 := Scalar.maxsi v490 v531
  let c1_i32_349 : BitVec 32 := 1#32
  let arg15 : BitVec 32 := Scf.iv v532 c1_i32_349 k0_t3
  let c256_i32_704 : BitVec 32 := 256#32
  let v1055 : BitVec 32 := Scalar.muli arg15 c256_i32_704
  let v1056 : BitVec 32 := v1055
  let v1078 : Index := Scalar.indexCast v1056
  let c0_717 : Index := 0#32
  ![0, v1078.toNat, 0]
@[reducible] def k0_t4_loop (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) : Scf.Loop 32 :=
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c6_i32_346 : BitVec 32 := 6#32
  let v531 : BitVec 32 := Scalar.addi v497 c6_i32_346
  let v532 : BitVec 32 := Scalar.maxsi v490 v531
  let c0_i32_191 : BitVec 32 := 0#32
  let c256_i32_188 : BitVec 32 := 256#32
  let v299 : BitVec 1 := Scalar.cmpi .slt v298 c256_i32_188
  let c1_i32_189 : BitVec 32 := 1#32
  let c0_i32_190 : BitVec 32 := 0#32
  let v300 : BitVec 32 := Scalar.select v299 c1_i32_189 c0_i32_190
  let v301 : BitVec 32 := Scalar.addi c0_i32_191 v300
  let c256_i32_198 : BitVec 32 := 256#32
  let v312 : BitVec 1 := Scalar.cmpi .slt v311 c256_i32_198
  let c1_i32_199 : BitVec 32 := 1#32
  let c0_i32_200 : BitVec 32 := 0#32
  let v313 : BitVec 32 := Scalar.select v312 c1_i32_199 c0_i32_200
  let v314 : BitVec 32 := Scalar.addi v301 v313
  let c256_i32_207 : BitVec 32 := 256#32
  let v325 : BitVec 1 := Scalar.cmpi .slt v324 c256_i32_207
  let c1_i32_208 : BitVec 32 := 1#32
  let c0_i32_209 : BitVec 32 := 0#32
  let v326 : BitVec 32 := Scalar.select v325 c1_i32_208 c0_i32_209
  let v327 : BitVec 32 := Scalar.addi v314 v326
  let c256_i32_216 : BitVec 32 := 256#32
  let v338 : BitVec 1 := Scalar.cmpi .slt v337 c256_i32_216
  let c1_i32_217 : BitVec 32 := 1#32
  let c0_i32_218 : BitVec 32 := 0#32
  let v339 : BitVec 32 := Scalar.select v338 c1_i32_217 c0_i32_218
  let v340 : BitVec 32 := Scalar.addi v327 v339
  let c256_i32_225 : BitVec 32 := 256#32
  let v351 : BitVec 1 := Scalar.cmpi .slt v350 c256_i32_225
  let c1_i32_226 : BitVec 32 := 1#32
  let c0_i32_227 : BitVec 32 := 0#32
  let v352 : BitVec 32 := Scalar.select v351 c1_i32_226 c0_i32_227
  let v353 : BitVec 32 := Scalar.addi v340 v352
  let c256_i32_234 : BitVec 32 := 256#32
  let v364 : BitVec 1 := Scalar.cmpi .slt v363 c256_i32_234
  let c1_i32_235 : BitVec 32 := 1#32
  let c0_i32_236 : BitVec 32 := 0#32
  let v365 : BitVec 32 := Scalar.select v364 c1_i32_235 c0_i32_236
  let v366 : BitVec 32 := Scalar.addi v353 v365
  let c256_i32_243 : BitVec 32 := 256#32
  let v377 : BitVec 1 := Scalar.cmpi .slt v376 c256_i32_243
  let c1_i32_244 : BitVec 32 := 1#32
  let c0_i32_245 : BitVec 32 := 0#32
  let v378 : BitVec 32 := Scalar.select v377 c1_i32_244 c0_i32_245
  let v379 : BitVec 32 := Scalar.addi v366 v378
  let c256_i32_252 : BitVec 32 := 256#32
  let v390 : BitVec 1 := Scalar.cmpi .slt v389 c256_i32_252
  let c1_i32_253 : BitVec 32 := 1#32
  let c0_i32_254 : BitVec 32 := 0#32
  let v391 : BitVec 32 := Scalar.select v390 c1_i32_253 c0_i32_254
  let v392 : BitVec 32 := Scalar.addi v379 v391
  let c256_i32_261 : BitVec 32 := 256#32
  let v403 : BitVec 1 := Scalar.cmpi .slt v402 c256_i32_261
  let c1_i32_262 : BitVec 32 := 1#32
  let c0_i32_263 : BitVec 32 := 0#32
  let v404 : BitVec 32 := Scalar.select v403 c1_i32_262 c0_i32_263
  let v405 : BitVec 32 := Scalar.addi v392 v404
  let c256_i32_270 : BitVec 32 := 256#32
  let v416 : BitVec 1 := Scalar.cmpi .slt v415 c256_i32_270
  let c1_i32_271 : BitVec 32 := 1#32
  let c0_i32_272 : BitVec 32 := 0#32
  let v417 : BitVec 32 := Scalar.select v416 c1_i32_271 c0_i32_272
  let v418 : BitVec 32 := Scalar.addi v405 v417
  let c256_i32_279 : BitVec 32 := 256#32
  let v429 : BitVec 1 := Scalar.cmpi .slt v428 c256_i32_279
  let c1_i32_280 : BitVec 32 := 1#32
  let c0_i32_281 : BitVec 32 := 0#32
  let v430 : BitVec 32 := Scalar.select v429 c1_i32_280 c0_i32_281
  let v431 : BitVec 32 := Scalar.addi v418 v430
  let c256_i32_288 : BitVec 32 := 256#32
  let v442 : BitVec 1 := Scalar.cmpi .slt v441 c256_i32_288
  let c1_i32_289 : BitVec 32 := 1#32
  let c0_i32_290 : BitVec 32 := 0#32
  let v443 : BitVec 32 := Scalar.select v442 c1_i32_289 c0_i32_290
  let v444 : BitVec 32 := Scalar.addi v431 v443
  let c256_i32_297 : BitVec 32 := 256#32
  let v455 : BitVec 1 := Scalar.cmpi .slt v454 c256_i32_297
  let c1_i32_298 : BitVec 32 := 1#32
  let c0_i32_299 : BitVec 32 := 0#32
  let v456 : BitVec 32 := Scalar.select v455 c1_i32_298 c0_i32_299
  let v457 : BitVec 32 := Scalar.addi v444 v456
  let c256_i32_306 : BitVec 32 := 256#32
  let v468 : BitVec 1 := Scalar.cmpi .slt v467 c256_i32_306
  let c1_i32_307 : BitVec 32 := 1#32
  let c0_i32_308 : BitVec 32 := 0#32
  let v469 : BitVec 32 := Scalar.select v468 c1_i32_307 c0_i32_308
  let v470 : BitVec 32 := Scalar.addi v457 v469
  let c256_i32_315 : BitVec 32 := 256#32
  let v481 : BitVec 1 := Scalar.cmpi .slt v480 c256_i32_315
  let c1_i32_316 : BitVec 32 := 1#32
  let c0_i32_317 : BitVec 32 := 0#32
  let v482 : BitVec 32 := Scalar.select v481 c1_i32_316 c0_i32_317
  let v483 : BitVec 32 := Scalar.addi v470 v482
  let c256_i32_324 : BitVec 32 := 256#32
  let v494 : BitVec 1 := Scalar.cmpi .slt v493 c256_i32_324
  let c1_i32_325 : BitVec 32 := 1#32
  let c0_i32_326 : BitVec 32 := 0#32
  let v495 : BitVec 32 := Scalar.select v494 c1_i32_325 c0_i32_326
  let v496 : BitVec 32 := Scalar.addi v483 v495
  let v533 : BitVec 32 := Scalar.subi v496 v532
  let c1_i32_348 : BitVec 32 := 1#32
  let v535 : BitVec 32 := Scalar.divsi v533 c1_i32_348
  let v536 : BitVec 32 := Scalar.muli v535 c1_i32_348
  let v537 : BitVec 32 := Scalar.addi v532 v536
  let v534 : BitVec 32 := Scalar.addi v532 v533
  let c1_i32_350 : BitVec 32 := 1#32
  ⟨v537, v534, c1_i32_350⟩
def k0_mult6 (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_t4 : Fin (k0_t4_loop v292 v298 v305 v311 v318 v324 v331 v337 v344 v350 v357 v363 v370 v376 v383 v389 v396 v402 v409 v415 v422 v428 v435 v441 v448 v454 v461 v467 v474 v480 v487 v493).trips) : BitVec 32 :=
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c6_i32_346 : BitVec 32 := 6#32
  let v531 : BitVec 32 := Scalar.addi v497 c6_i32_346
  let v532 : BitVec 32 := Scalar.maxsi v490 v531
  let c0_i32_191 : BitVec 32 := 0#32
  let c256_i32_188 : BitVec 32 := 256#32
  let v299 : BitVec 1 := Scalar.cmpi .slt v298 c256_i32_188
  let c1_i32_189 : BitVec 32 := 1#32
  let c0_i32_190 : BitVec 32 := 0#32
  let v300 : BitVec 32 := Scalar.select v299 c1_i32_189 c0_i32_190
  let v301 : BitVec 32 := Scalar.addi c0_i32_191 v300
  let c256_i32_198 : BitVec 32 := 256#32
  let v312 : BitVec 1 := Scalar.cmpi .slt v311 c256_i32_198
  let c1_i32_199 : BitVec 32 := 1#32
  let c0_i32_200 : BitVec 32 := 0#32
  let v313 : BitVec 32 := Scalar.select v312 c1_i32_199 c0_i32_200
  let v314 : BitVec 32 := Scalar.addi v301 v313
  let c256_i32_207 : BitVec 32 := 256#32
  let v325 : BitVec 1 := Scalar.cmpi .slt v324 c256_i32_207
  let c1_i32_208 : BitVec 32 := 1#32
  let c0_i32_209 : BitVec 32 := 0#32
  let v326 : BitVec 32 := Scalar.select v325 c1_i32_208 c0_i32_209
  let v327 : BitVec 32 := Scalar.addi v314 v326
  let c256_i32_216 : BitVec 32 := 256#32
  let v338 : BitVec 1 := Scalar.cmpi .slt v337 c256_i32_216
  let c1_i32_217 : BitVec 32 := 1#32
  let c0_i32_218 : BitVec 32 := 0#32
  let v339 : BitVec 32 := Scalar.select v338 c1_i32_217 c0_i32_218
  let v340 : BitVec 32 := Scalar.addi v327 v339
  let c256_i32_225 : BitVec 32 := 256#32
  let v351 : BitVec 1 := Scalar.cmpi .slt v350 c256_i32_225
  let c1_i32_226 : BitVec 32 := 1#32
  let c0_i32_227 : BitVec 32 := 0#32
  let v352 : BitVec 32 := Scalar.select v351 c1_i32_226 c0_i32_227
  let v353 : BitVec 32 := Scalar.addi v340 v352
  let c256_i32_234 : BitVec 32 := 256#32
  let v364 : BitVec 1 := Scalar.cmpi .slt v363 c256_i32_234
  let c1_i32_235 : BitVec 32 := 1#32
  let c0_i32_236 : BitVec 32 := 0#32
  let v365 : BitVec 32 := Scalar.select v364 c1_i32_235 c0_i32_236
  let v366 : BitVec 32 := Scalar.addi v353 v365
  let c256_i32_243 : BitVec 32 := 256#32
  let v377 : BitVec 1 := Scalar.cmpi .slt v376 c256_i32_243
  let c1_i32_244 : BitVec 32 := 1#32
  let c0_i32_245 : BitVec 32 := 0#32
  let v378 : BitVec 32 := Scalar.select v377 c1_i32_244 c0_i32_245
  let v379 : BitVec 32 := Scalar.addi v366 v378
  let c256_i32_252 : BitVec 32 := 256#32
  let v390 : BitVec 1 := Scalar.cmpi .slt v389 c256_i32_252
  let c1_i32_253 : BitVec 32 := 1#32
  let c0_i32_254 : BitVec 32 := 0#32
  let v391 : BitVec 32 := Scalar.select v390 c1_i32_253 c0_i32_254
  let v392 : BitVec 32 := Scalar.addi v379 v391
  let c256_i32_261 : BitVec 32 := 256#32
  let v403 : BitVec 1 := Scalar.cmpi .slt v402 c256_i32_261
  let c1_i32_262 : BitVec 32 := 1#32
  let c0_i32_263 : BitVec 32 := 0#32
  let v404 : BitVec 32 := Scalar.select v403 c1_i32_262 c0_i32_263
  let v405 : BitVec 32 := Scalar.addi v392 v404
  let c256_i32_270 : BitVec 32 := 256#32
  let v416 : BitVec 1 := Scalar.cmpi .slt v415 c256_i32_270
  let c1_i32_271 : BitVec 32 := 1#32
  let c0_i32_272 : BitVec 32 := 0#32
  let v417 : BitVec 32 := Scalar.select v416 c1_i32_271 c0_i32_272
  let v418 : BitVec 32 := Scalar.addi v405 v417
  let c256_i32_279 : BitVec 32 := 256#32
  let v429 : BitVec 1 := Scalar.cmpi .slt v428 c256_i32_279
  let c1_i32_280 : BitVec 32 := 1#32
  let c0_i32_281 : BitVec 32 := 0#32
  let v430 : BitVec 32 := Scalar.select v429 c1_i32_280 c0_i32_281
  let v431 : BitVec 32 := Scalar.addi v418 v430
  let c256_i32_288 : BitVec 32 := 256#32
  let v442 : BitVec 1 := Scalar.cmpi .slt v441 c256_i32_288
  let c1_i32_289 : BitVec 32 := 1#32
  let c0_i32_290 : BitVec 32 := 0#32
  let v443 : BitVec 32 := Scalar.select v442 c1_i32_289 c0_i32_290
  let v444 : BitVec 32 := Scalar.addi v431 v443
  let c256_i32_297 : BitVec 32 := 256#32
  let v455 : BitVec 1 := Scalar.cmpi .slt v454 c256_i32_297
  let c1_i32_298 : BitVec 32 := 1#32
  let c0_i32_299 : BitVec 32 := 0#32
  let v456 : BitVec 32 := Scalar.select v455 c1_i32_298 c0_i32_299
  let v457 : BitVec 32 := Scalar.addi v444 v456
  let c256_i32_306 : BitVec 32 := 256#32
  let v468 : BitVec 1 := Scalar.cmpi .slt v467 c256_i32_306
  let c1_i32_307 : BitVec 32 := 1#32
  let c0_i32_308 : BitVec 32 := 0#32
  let v469 : BitVec 32 := Scalar.select v468 c1_i32_307 c0_i32_308
  let v470 : BitVec 32 := Scalar.addi v457 v469
  let c256_i32_315 : BitVec 32 := 256#32
  let v481 : BitVec 1 := Scalar.cmpi .slt v480 c256_i32_315
  let c1_i32_316 : BitVec 32 := 1#32
  let c0_i32_317 : BitVec 32 := 0#32
  let v482 : BitVec 32 := Scalar.select v481 c1_i32_316 c0_i32_317
  let v483 : BitVec 32 := Scalar.addi v470 v482
  let c256_i32_324 : BitVec 32 := 256#32
  let v494 : BitVec 1 := Scalar.cmpi .slt v493 c256_i32_324
  let c1_i32_325 : BitVec 32 := 1#32
  let c0_i32_326 : BitVec 32 := 0#32
  let v495 : BitVec 32 := Scalar.select v494 c1_i32_325 c0_i32_326
  let v496 : BitVec 32 := Scalar.addi v483 v495
  let v533 : BitVec 32 := Scalar.subi v496 v532
  let c1_i32_348 : BitVec 32 := 1#32
  let v535 : BitVec 32 := Scalar.divsi v533 c1_i32_348
  let v536 : BitVec 32 := Scalar.muli v535 c1_i32_348
  let v537 : BitVec 32 := Scalar.addi v532 v536
  let c1_i32_350 : BitVec 32 := 1#32
  let arg15 : BitVec 32 := Scf.iv v537 c1_i32_350 k0_t4
  let c256_i32_704 : BitVec 32 := 256#32
  let v1055 : BitVec 32 := Scalar.muli arg15 c256_i32_704
  v1055
def k0_off15 (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_t4 : Fin (k0_t4_loop v292 v298 v305 v311 v318 v324 v331 v337 v344 v350 v357 v363 v370 v376 v383 v389 v396 v402 v409 v415 v422 v428 v435 v441 v448 v454 v461 v467 v474 v480 v487 v493).trips) : Fin 4 → Nat :=
  let c0_705 : Index := 0#32
  let c0_706 : Index := 0#32
  let c0_707 : Index := 0#32
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c6_i32_346 : BitVec 32 := 6#32
  let v531 : BitVec 32 := Scalar.addi v497 c6_i32_346
  let v532 : BitVec 32 := Scalar.maxsi v490 v531
  let c0_i32_191 : BitVec 32 := 0#32
  let c256_i32_188 : BitVec 32 := 256#32
  let v299 : BitVec 1 := Scalar.cmpi .slt v298 c256_i32_188
  let c1_i32_189 : BitVec 32 := 1#32
  let c0_i32_190 : BitVec 32 := 0#32
  let v300 : BitVec 32 := Scalar.select v299 c1_i32_189 c0_i32_190
  let v301 : BitVec 32 := Scalar.addi c0_i32_191 v300
  let c256_i32_198 : BitVec 32 := 256#32
  let v312 : BitVec 1 := Scalar.cmpi .slt v311 c256_i32_198
  let c1_i32_199 : BitVec 32 := 1#32
  let c0_i32_200 : BitVec 32 := 0#32
  let v313 : BitVec 32 := Scalar.select v312 c1_i32_199 c0_i32_200
  let v314 : BitVec 32 := Scalar.addi v301 v313
  let c256_i32_207 : BitVec 32 := 256#32
  let v325 : BitVec 1 := Scalar.cmpi .slt v324 c256_i32_207
  let c1_i32_208 : BitVec 32 := 1#32
  let c0_i32_209 : BitVec 32 := 0#32
  let v326 : BitVec 32 := Scalar.select v325 c1_i32_208 c0_i32_209
  let v327 : BitVec 32 := Scalar.addi v314 v326
  let c256_i32_216 : BitVec 32 := 256#32
  let v338 : BitVec 1 := Scalar.cmpi .slt v337 c256_i32_216
  let c1_i32_217 : BitVec 32 := 1#32
  let c0_i32_218 : BitVec 32 := 0#32
  let v339 : BitVec 32 := Scalar.select v338 c1_i32_217 c0_i32_218
  let v340 : BitVec 32 := Scalar.addi v327 v339
  let c256_i32_225 : BitVec 32 := 256#32
  let v351 : BitVec 1 := Scalar.cmpi .slt v350 c256_i32_225
  let c1_i32_226 : BitVec 32 := 1#32
  let c0_i32_227 : BitVec 32 := 0#32
  let v352 : BitVec 32 := Scalar.select v351 c1_i32_226 c0_i32_227
  let v353 : BitVec 32 := Scalar.addi v340 v352
  let c256_i32_234 : BitVec 32 := 256#32
  let v364 : BitVec 1 := Scalar.cmpi .slt v363 c256_i32_234
  let c1_i32_235 : BitVec 32 := 1#32
  let c0_i32_236 : BitVec 32 := 0#32
  let v365 : BitVec 32 := Scalar.select v364 c1_i32_235 c0_i32_236
  let v366 : BitVec 32 := Scalar.addi v353 v365
  let c256_i32_243 : BitVec 32 := 256#32
  let v377 : BitVec 1 := Scalar.cmpi .slt v376 c256_i32_243
  let c1_i32_244 : BitVec 32 := 1#32
  let c0_i32_245 : BitVec 32 := 0#32
  let v378 : BitVec 32 := Scalar.select v377 c1_i32_244 c0_i32_245
  let v379 : BitVec 32 := Scalar.addi v366 v378
  let c256_i32_252 : BitVec 32 := 256#32
  let v390 : BitVec 1 := Scalar.cmpi .slt v389 c256_i32_252
  let c1_i32_253 : BitVec 32 := 1#32
  let c0_i32_254 : BitVec 32 := 0#32
  let v391 : BitVec 32 := Scalar.select v390 c1_i32_253 c0_i32_254
  let v392 : BitVec 32 := Scalar.addi v379 v391
  let c256_i32_261 : BitVec 32 := 256#32
  let v403 : BitVec 1 := Scalar.cmpi .slt v402 c256_i32_261
  let c1_i32_262 : BitVec 32 := 1#32
  let c0_i32_263 : BitVec 32 := 0#32
  let v404 : BitVec 32 := Scalar.select v403 c1_i32_262 c0_i32_263
  let v405 : BitVec 32 := Scalar.addi v392 v404
  let c256_i32_270 : BitVec 32 := 256#32
  let v416 : BitVec 1 := Scalar.cmpi .slt v415 c256_i32_270
  let c1_i32_271 : BitVec 32 := 1#32
  let c0_i32_272 : BitVec 32 := 0#32
  let v417 : BitVec 32 := Scalar.select v416 c1_i32_271 c0_i32_272
  let v418 : BitVec 32 := Scalar.addi v405 v417
  let c256_i32_279 : BitVec 32 := 256#32
  let v429 : BitVec 1 := Scalar.cmpi .slt v428 c256_i32_279
  let c1_i32_280 : BitVec 32 := 1#32
  let c0_i32_281 : BitVec 32 := 0#32
  let v430 : BitVec 32 := Scalar.select v429 c1_i32_280 c0_i32_281
  let v431 : BitVec 32 := Scalar.addi v418 v430
  let c256_i32_288 : BitVec 32 := 256#32
  let v442 : BitVec 1 := Scalar.cmpi .slt v441 c256_i32_288
  let c1_i32_289 : BitVec 32 := 1#32
  let c0_i32_290 : BitVec 32 := 0#32
  let v443 : BitVec 32 := Scalar.select v442 c1_i32_289 c0_i32_290
  let v444 : BitVec 32 := Scalar.addi v431 v443
  let c256_i32_297 : BitVec 32 := 256#32
  let v455 : BitVec 1 := Scalar.cmpi .slt v454 c256_i32_297
  let c1_i32_298 : BitVec 32 := 1#32
  let c0_i32_299 : BitVec 32 := 0#32
  let v456 : BitVec 32 := Scalar.select v455 c1_i32_298 c0_i32_299
  let v457 : BitVec 32 := Scalar.addi v444 v456
  let c256_i32_306 : BitVec 32 := 256#32
  let v468 : BitVec 1 := Scalar.cmpi .slt v467 c256_i32_306
  let c1_i32_307 : BitVec 32 := 1#32
  let c0_i32_308 : BitVec 32 := 0#32
  let v469 : BitVec 32 := Scalar.select v468 c1_i32_307 c0_i32_308
  let v470 : BitVec 32 := Scalar.addi v457 v469
  let c256_i32_315 : BitVec 32 := 256#32
  let v481 : BitVec 1 := Scalar.cmpi .slt v480 c256_i32_315
  let c1_i32_316 : BitVec 32 := 1#32
  let c0_i32_317 : BitVec 32 := 0#32
  let v482 : BitVec 32 := Scalar.select v481 c1_i32_316 c0_i32_317
  let v483 : BitVec 32 := Scalar.addi v470 v482
  let c256_i32_324 : BitVec 32 := 256#32
  let v494 : BitVec 1 := Scalar.cmpi .slt v493 c256_i32_324
  let c1_i32_325 : BitVec 32 := 1#32
  let c0_i32_326 : BitVec 32 := 0#32
  let v495 : BitVec 32 := Scalar.select v494 c1_i32_325 c0_i32_326
  let v496 : BitVec 32 := Scalar.addi v483 v495
  let v533 : BitVec 32 := Scalar.subi v496 v532
  let c1_i32_348 : BitVec 32 := 1#32
  let v535 : BitVec 32 := Scalar.divsi v533 c1_i32_348
  let v536 : BitVec 32 := Scalar.muli v535 c1_i32_348
  let v537 : BitVec 32 := Scalar.addi v532 v536
  let c1_i32_350 : BitVec 32 := 1#32
  let arg15 : BitVec 32 := Scf.iv v537 c1_i32_350 k0_t4
  let c256_i32_704 : BitVec 32 := 256#32
  let v1055 : BitVec 32 := Scalar.muli arg15 c256_i32_704
  let v1056 : BitVec 32 := v1055
  let v1057 : Index := Scalar.indexCast v1056
  ![0, 0, 0, v1057.toNat]
def k0_off16 (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_t4 : Fin (k0_t4_loop v292 v298 v305 v311 v318 v324 v331 v337 v344 v350 v357 v363 v370 v376 v383 v389 v396 v402 v409 v415 v422 v428 v435 v441 v448 v454 v461 v467 v474 v480 v487 v493).trips) : Fin 3 → Nat :=
  let c0_716 : Index := 0#32
  let c0_i32_186 : BitVec 32 := 0#32
  let c128_i32_183 : BitVec 32 := 128#32
  let v293 : BitVec 1 := Scalar.cmpi .sle v292 c128_i32_183
  let c1_i32_184 : BitVec 32 := 1#32
  let c0_i32_185 : BitVec 32 := 0#32
  let v294 : BitVec 32 := Scalar.select v293 c1_i32_184 c0_i32_185
  let v295 : BitVec 32 := Scalar.addi c0_i32_186 v294
  let c128_i32_194 : BitVec 32 := 128#32
  let v306 : BitVec 1 := Scalar.cmpi .sle v305 c128_i32_194
  let c1_i32_195 : BitVec 32 := 1#32
  let c0_i32_196 : BitVec 32 := 0#32
  let v307 : BitVec 32 := Scalar.select v306 c1_i32_195 c0_i32_196
  let v308 : BitVec 32 := Scalar.addi v295 v307
  let c128_i32_203 : BitVec 32 := 128#32
  let v319 : BitVec 1 := Scalar.cmpi .sle v318 c128_i32_203
  let c1_i32_204 : BitVec 32 := 1#32
  let c0_i32_205 : BitVec 32 := 0#32
  let v320 : BitVec 32 := Scalar.select v319 c1_i32_204 c0_i32_205
  let v321 : BitVec 32 := Scalar.addi v308 v320
  let c128_i32_212 : BitVec 32 := 128#32
  let v332 : BitVec 1 := Scalar.cmpi .sle v331 c128_i32_212
  let c1_i32_213 : BitVec 32 := 1#32
  let c0_i32_214 : BitVec 32 := 0#32
  let v333 : BitVec 32 := Scalar.select v332 c1_i32_213 c0_i32_214
  let v334 : BitVec 32 := Scalar.addi v321 v333
  let c128_i32_221 : BitVec 32 := 128#32
  let v345 : BitVec 1 := Scalar.cmpi .sle v344 c128_i32_221
  let c1_i32_222 : BitVec 32 := 1#32
  let c0_i32_223 : BitVec 32 := 0#32
  let v346 : BitVec 32 := Scalar.select v345 c1_i32_222 c0_i32_223
  let v347 : BitVec 32 := Scalar.addi v334 v346
  let c128_i32_230 : BitVec 32 := 128#32
  let v358 : BitVec 1 := Scalar.cmpi .sle v357 c128_i32_230
  let c1_i32_231 : BitVec 32 := 1#32
  let c0_i32_232 : BitVec 32 := 0#32
  let v359 : BitVec 32 := Scalar.select v358 c1_i32_231 c0_i32_232
  let v360 : BitVec 32 := Scalar.addi v347 v359
  let c128_i32_239 : BitVec 32 := 128#32
  let v371 : BitVec 1 := Scalar.cmpi .sle v370 c128_i32_239
  let c1_i32_240 : BitVec 32 := 1#32
  let c0_i32_241 : BitVec 32 := 0#32
  let v372 : BitVec 32 := Scalar.select v371 c1_i32_240 c0_i32_241
  let v373 : BitVec 32 := Scalar.addi v360 v372
  let c128_i32_248 : BitVec 32 := 128#32
  let v384 : BitVec 1 := Scalar.cmpi .sle v383 c128_i32_248
  let c1_i32_249 : BitVec 32 := 1#32
  let c0_i32_250 : BitVec 32 := 0#32
  let v385 : BitVec 32 := Scalar.select v384 c1_i32_249 c0_i32_250
  let v386 : BitVec 32 := Scalar.addi v373 v385
  let c128_i32_257 : BitVec 32 := 128#32
  let v397 : BitVec 1 := Scalar.cmpi .sle v396 c128_i32_257
  let c1_i32_258 : BitVec 32 := 1#32
  let c0_i32_259 : BitVec 32 := 0#32
  let v398 : BitVec 32 := Scalar.select v397 c1_i32_258 c0_i32_259
  let v399 : BitVec 32 := Scalar.addi v386 v398
  let c128_i32_266 : BitVec 32 := 128#32
  let v410 : BitVec 1 := Scalar.cmpi .sle v409 c128_i32_266
  let c1_i32_267 : BitVec 32 := 1#32
  let c0_i32_268 : BitVec 32 := 0#32
  let v411 : BitVec 32 := Scalar.select v410 c1_i32_267 c0_i32_268
  let v412 : BitVec 32 := Scalar.addi v399 v411
  let c128_i32_275 : BitVec 32 := 128#32
  let v423 : BitVec 1 := Scalar.cmpi .sle v422 c128_i32_275
  let c1_i32_276 : BitVec 32 := 1#32
  let c0_i32_277 : BitVec 32 := 0#32
  let v424 : BitVec 32 := Scalar.select v423 c1_i32_276 c0_i32_277
  let v425 : BitVec 32 := Scalar.addi v412 v424
  let c128_i32_284 : BitVec 32 := 128#32
  let v436 : BitVec 1 := Scalar.cmpi .sle v435 c128_i32_284
  let c1_i32_285 : BitVec 32 := 1#32
  let c0_i32_286 : BitVec 32 := 0#32
  let v437 : BitVec 32 := Scalar.select v436 c1_i32_285 c0_i32_286
  let v438 : BitVec 32 := Scalar.addi v425 v437
  let c128_i32_293 : BitVec 32 := 128#32
  let v449 : BitVec 1 := Scalar.cmpi .sle v448 c128_i32_293
  let c1_i32_294 : BitVec 32 := 1#32
  let c0_i32_295 : BitVec 32 := 0#32
  let v450 : BitVec 32 := Scalar.select v449 c1_i32_294 c0_i32_295
  let v451 : BitVec 32 := Scalar.addi v438 v450
  let c128_i32_302 : BitVec 32 := 128#32
  let v462 : BitVec 1 := Scalar.cmpi .sle v461 c128_i32_302
  let c1_i32_303 : BitVec 32 := 1#32
  let c0_i32_304 : BitVec 32 := 0#32
  let v463 : BitVec 32 := Scalar.select v462 c1_i32_303 c0_i32_304
  let v464 : BitVec 32 := Scalar.addi v451 v463
  let c128_i32_311 : BitVec 32 := 128#32
  let v475 : BitVec 1 := Scalar.cmpi .sle v474 c128_i32_311
  let c1_i32_312 : BitVec 32 := 1#32
  let c0_i32_313 : BitVec 32 := 0#32
  let v476 : BitVec 32 := Scalar.select v475 c1_i32_312 c0_i32_313
  let v477 : BitVec 32 := Scalar.addi v464 v476
  let c128_i32_320 : BitVec 32 := 128#32
  let v488 : BitVec 1 := Scalar.cmpi .sle v487 c128_i32_320
  let c1_i32_321 : BitVec 32 := 1#32
  let c0_i32_322 : BitVec 32 := 0#32
  let v489 : BitVec 32 := Scalar.select v488 c1_i32_321 c0_i32_322
  let v490 : BitVec 32 := Scalar.addi v477 v489
  let c10_i32_327 : BitVec 32 := 10#32
  let v497 : BitVec 32 := Scalar.minsi v490 c10_i32_327
  let c6_i32_346 : BitVec 32 := 6#32
  let v531 : BitVec 32 := Scalar.addi v497 c6_i32_346
  let v532 : BitVec 32 := Scalar.maxsi v490 v531
  let c0_i32_191 : BitVec 32 := 0#32
  let c256_i32_188 : BitVec 32 := 256#32
  let v299 : BitVec 1 := Scalar.cmpi .slt v298 c256_i32_188
  let c1_i32_189 : BitVec 32 := 1#32
  let c0_i32_190 : BitVec 32 := 0#32
  let v300 : BitVec 32 := Scalar.select v299 c1_i32_189 c0_i32_190
  let v301 : BitVec 32 := Scalar.addi c0_i32_191 v300
  let c256_i32_198 : BitVec 32 := 256#32
  let v312 : BitVec 1 := Scalar.cmpi .slt v311 c256_i32_198
  let c1_i32_199 : BitVec 32 := 1#32
  let c0_i32_200 : BitVec 32 := 0#32
  let v313 : BitVec 32 := Scalar.select v312 c1_i32_199 c0_i32_200
  let v314 : BitVec 32 := Scalar.addi v301 v313
  let c256_i32_207 : BitVec 32 := 256#32
  let v325 : BitVec 1 := Scalar.cmpi .slt v324 c256_i32_207
  let c1_i32_208 : BitVec 32 := 1#32
  let c0_i32_209 : BitVec 32 := 0#32
  let v326 : BitVec 32 := Scalar.select v325 c1_i32_208 c0_i32_209
  let v327 : BitVec 32 := Scalar.addi v314 v326
  let c256_i32_216 : BitVec 32 := 256#32
  let v338 : BitVec 1 := Scalar.cmpi .slt v337 c256_i32_216
  let c1_i32_217 : BitVec 32 := 1#32
  let c0_i32_218 : BitVec 32 := 0#32
  let v339 : BitVec 32 := Scalar.select v338 c1_i32_217 c0_i32_218
  let v340 : BitVec 32 := Scalar.addi v327 v339
  let c256_i32_225 : BitVec 32 := 256#32
  let v351 : BitVec 1 := Scalar.cmpi .slt v350 c256_i32_225
  let c1_i32_226 : BitVec 32 := 1#32
  let c0_i32_227 : BitVec 32 := 0#32
  let v352 : BitVec 32 := Scalar.select v351 c1_i32_226 c0_i32_227
  let v353 : BitVec 32 := Scalar.addi v340 v352
  let c256_i32_234 : BitVec 32 := 256#32
  let v364 : BitVec 1 := Scalar.cmpi .slt v363 c256_i32_234
  let c1_i32_235 : BitVec 32 := 1#32
  let c0_i32_236 : BitVec 32 := 0#32
  let v365 : BitVec 32 := Scalar.select v364 c1_i32_235 c0_i32_236
  let v366 : BitVec 32 := Scalar.addi v353 v365
  let c256_i32_243 : BitVec 32 := 256#32
  let v377 : BitVec 1 := Scalar.cmpi .slt v376 c256_i32_243
  let c1_i32_244 : BitVec 32 := 1#32
  let c0_i32_245 : BitVec 32 := 0#32
  let v378 : BitVec 32 := Scalar.select v377 c1_i32_244 c0_i32_245
  let v379 : BitVec 32 := Scalar.addi v366 v378
  let c256_i32_252 : BitVec 32 := 256#32
  let v390 : BitVec 1 := Scalar.cmpi .slt v389 c256_i32_252
  let c1_i32_253 : BitVec 32 := 1#32
  let c0_i32_254 : BitVec 32 := 0#32
  let v391 : BitVec 32 := Scalar.select v390 c1_i32_253 c0_i32_254
  let v392 : BitVec 32 := Scalar.addi v379 v391
  let c256_i32_261 : BitVec 32 := 256#32
  let v403 : BitVec 1 := Scalar.cmpi .slt v402 c256_i32_261
  let c1_i32_262 : BitVec 32 := 1#32
  let c0_i32_263 : BitVec 32 := 0#32
  let v404 : BitVec 32 := Scalar.select v403 c1_i32_262 c0_i32_263
  let v405 : BitVec 32 := Scalar.addi v392 v404
  let c256_i32_270 : BitVec 32 := 256#32
  let v416 : BitVec 1 := Scalar.cmpi .slt v415 c256_i32_270
  let c1_i32_271 : BitVec 32 := 1#32
  let c0_i32_272 : BitVec 32 := 0#32
  let v417 : BitVec 32 := Scalar.select v416 c1_i32_271 c0_i32_272
  let v418 : BitVec 32 := Scalar.addi v405 v417
  let c256_i32_279 : BitVec 32 := 256#32
  let v429 : BitVec 1 := Scalar.cmpi .slt v428 c256_i32_279
  let c1_i32_280 : BitVec 32 := 1#32
  let c0_i32_281 : BitVec 32 := 0#32
  let v430 : BitVec 32 := Scalar.select v429 c1_i32_280 c0_i32_281
  let v431 : BitVec 32 := Scalar.addi v418 v430
  let c256_i32_288 : BitVec 32 := 256#32
  let v442 : BitVec 1 := Scalar.cmpi .slt v441 c256_i32_288
  let c1_i32_289 : BitVec 32 := 1#32
  let c0_i32_290 : BitVec 32 := 0#32
  let v443 : BitVec 32 := Scalar.select v442 c1_i32_289 c0_i32_290
  let v444 : BitVec 32 := Scalar.addi v431 v443
  let c256_i32_297 : BitVec 32 := 256#32
  let v455 : BitVec 1 := Scalar.cmpi .slt v454 c256_i32_297
  let c1_i32_298 : BitVec 32 := 1#32
  let c0_i32_299 : BitVec 32 := 0#32
  let v456 : BitVec 32 := Scalar.select v455 c1_i32_298 c0_i32_299
  let v457 : BitVec 32 := Scalar.addi v444 v456
  let c256_i32_306 : BitVec 32 := 256#32
  let v468 : BitVec 1 := Scalar.cmpi .slt v467 c256_i32_306
  let c1_i32_307 : BitVec 32 := 1#32
  let c0_i32_308 : BitVec 32 := 0#32
  let v469 : BitVec 32 := Scalar.select v468 c1_i32_307 c0_i32_308
  let v470 : BitVec 32 := Scalar.addi v457 v469
  let c256_i32_315 : BitVec 32 := 256#32
  let v481 : BitVec 1 := Scalar.cmpi .slt v480 c256_i32_315
  let c1_i32_316 : BitVec 32 := 1#32
  let c0_i32_317 : BitVec 32 := 0#32
  let v482 : BitVec 32 := Scalar.select v481 c1_i32_316 c0_i32_317
  let v483 : BitVec 32 := Scalar.addi v470 v482
  let c256_i32_324 : BitVec 32 := 256#32
  let v494 : BitVec 1 := Scalar.cmpi .slt v493 c256_i32_324
  let c1_i32_325 : BitVec 32 := 1#32
  let c0_i32_326 : BitVec 32 := 0#32
  let v495 : BitVec 32 := Scalar.select v494 c1_i32_325 c0_i32_326
  let v496 : BitVec 32 := Scalar.addi v483 v495
  let v533 : BitVec 32 := Scalar.subi v496 v532
  let c1_i32_348 : BitVec 32 := 1#32
  let v535 : BitVec 32 := Scalar.divsi v533 c1_i32_348
  let v536 : BitVec 32 := Scalar.muli v535 c1_i32_348
  let v537 : BitVec 32 := Scalar.addi v532 v536
  let c1_i32_350 : BitVec 32 := 1#32
  let arg15 : BitVec 32 := Scf.iv v537 c1_i32_350 k0_t4
  let c256_i32_704 : BitVec 32 := 256#32
  let v1055 : BitVec 32 := Scalar.muli arg15 c256_i32_704
  let v1056 : BitVec 32 := v1055
  let v1078 : Index := Scalar.indexCast v1056
  let c0_717 : Index := 0#32
  ![0, v1078.toNat, 0]

def k0_chk4 (i : grid0.Coords) (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) : Prop :=
  (∀ (k0_h1 : k0_cond1 i = 1#1), (k0_t3_loop v292 v298 v305 v311 v318 v324 v331 v337 v344 v350 v357 v363 v370 v376 v383 v389 v396 v402 v409 v415 v422 v428 v435 v441 v448 v454 v461 v467 v474 v480 v487 v493).OK) ∧
  (∀ k0_t3 : Fin (k0_t3_loop v292 v298 v305 v311 v318 v324 v331 v337 v344 v350 v357 v363 v370 v376 v383 v389 v396 v402 v409 v415 v422 v428 v435 v441 v448 v454 v461 v467 v474 v480 v487 v493).trips, ∀ (k0_h1 : k0_cond1 i = 1#1), 256 ∣ (k0_mult5 v292 v298 v305 v311 v318 v324 v331 v337 v344 v350 v357 v363 v370 v376 v383 v389 v396 v402 v409 v415 v422 v428 v435 v441 v448 v454 v461 v467 v474 v480 v487 v493 k0_t3).toNat) ∧
  (∀ k0_t3 : Fin (k0_t3_loop v292 v298 v305 v311 v318 v324 v331 v337 v344 v350 v357 v363 v370 v376 v383 v389 v396 v402 v409 v415 v422 v428 v435 v441 v448 v454 v461 v467 v474 v480 v487 v493).trips, ∀ (k0_h1 : k0_cond1 i = 1#1), ∀ a, (k0_off13 v292 v298 v305 v311 v318 v324 v331 v337 v344 v350 v357 v363 v370 v376 v383 v389 v396 v402 v409 v415 v422 v428 v435 v441 v448 v454 v461 v467 v474 v480 v487 v493 k0_t3) a + S1x1x1x256.size a ≤ S1x1x1x4096.size a) ∧
  (∀ k0_t3 : Fin (k0_t3_loop v292 v298 v305 v311 v318 v324 v331 v337 v344 v350 v357 v363 v370 v376 v383 v389 v396 v402 v409 v415 v422 v428 v435 v441 v448 v454 v461 v467 v474 v480 v487 v493).trips, ∀ (k0_h1 : k0_cond1 i = 1#1), ∀ a, (k0_off14 v292 v298 v305 v311 v318 v324 v331 v337 v344 v350 v357 v363 v370 v376 v383 v389 v396 v402 v409 v415 v422 v428 v435 v441 v448 v454 v461 v467 v474 v480 v487 v493 k0_t3) a + S1x256x1024.size a ≤ S1x4096x1024.size a) ∧
  (∀ (k0_h1 : k0_cond1 i = 1#1), (k0_t4_loop v292 v298 v305 v311 v318 v324 v331 v337 v344 v350 v357 v363 v370 v376 v383 v389 v396 v402 v409 v415 v422 v428 v435 v441 v448 v454 v461 v467 v474 v480 v487 v493).OK) ∧
  (∀ k0_t4 : Fin (k0_t4_loop v292 v298 v305 v311 v318 v324 v331 v337 v344 v350 v357 v363 v370 v376 v383 v389 v396 v402 v409 v415 v422 v428 v435 v441 v448 v454 v461 v467 v474 v480 v487 v493).trips, ∀ (k0_h1 : k0_cond1 i = 1#1), 256 ∣ (k0_mult6 v292 v298 v305 v311 v318 v324 v331 v337 v344 v350 v357 v363 v370 v376 v383 v389 v396 v402 v409 v415 v422 v428 v435 v441 v448 v454 v461 v467 v474 v480 v487 v493 k0_t4).toNat) ∧
  (∀ k0_t4 : Fin (k0_t4_loop v292 v298 v305 v311 v318 v324 v331 v337 v344 v350 v357 v363 v370 v376 v383 v389 v396 v402 v409 v415 v422 v428 v435 v441 v448 v454 v461 v467 v474 v480 v487 v493).trips, ∀ (k0_h1 : k0_cond1 i = 1#1), ∀ a, (k0_off15 v292 v298 v305 v311 v318 v324 v331 v337 v344 v350 v357 v363 v370 v376 v383 v389 v396 v402 v409 v415 v422 v428 v435 v441 v448 v454 v461 v467 v474 v480 v487 v493 k0_t4) a + S1x1x1x256.size a ≤ S1x1x1x4096.size a) ∧
  (∀ k0_t4 : Fin (k0_t4_loop v292 v298 v305 v311 v318 v324 v331 v337 v344 v350 v357 v363 v370 v376 v383 v389 v396 v402 v409 v415 v422 v428 v435 v441 v448 v454 v461 v467 v474 v480 v487 v493).trips, ∀ (k0_h1 : k0_cond1 i = 1#1), ∀ a, (k0_off16 v292 v298 v305 v311 v318 v324 v331 v337 v344 v350 v357 v363 v370 v376 v383 v389 v396 v402 v409 v415 v422 v428 v435 v441 v448 v454 v461 v467 v474 v480 v487 v493 k0_t4) a + S1x256x1024.size a ≤ S1x4096x1024.size a)
theorem k0_t3_ok : ∀ (i : grid0.Coords) (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_hw4 : k0_chk4 i v292 v298 v305 v311 v318 v324 v331 v337 v344 v350 v357 v363 v370 v376 v383 v389 v396 v402 v409 v415 v422 v428 v435 v441 v448 v454 v461 v467 v474 v480 v487 v493), ∀ (k0_h1 : k0_cond1 i = 1#1), (k0_t3_loop v292 v298 v305 v311 v318 v324 v331 v337 v344 v350 v357 v363 v370 v376 v383 v389 v396 v402 v409 v415 v422 v428 v435 v441 v448 v454 v461 v467 v474 v480 v487 v493).OK := fun i v292 v298 v305 v311 v318 v324 v331 v337 v344 v350 v357 v363 v370 v376 v383 v389 v396 v402 v409 v415 v422 v428 v435 v441 v448 v454 v461 v467 v474 v480 v487 v493 k0_hw4 k0_h1 => k0_hw4.1 k0_h1
theorem k0_mult5_dvd : ∀ (i : grid0.Coords) (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_hw4 : k0_chk4 i v292 v298 v305 v311 v318 v324 v331 v337 v344 v350 v357 v363 v370 v376 v383 v389 v396 v402 v409 v415 v422 v428 v435 v441 v448 v454 v461 v467 v474 v480 v487 v493) (k0_t3 : Fin (k0_t3_loop v292 v298 v305 v311 v318 v324 v331 v337 v344 v350 v357 v363 v370 v376 v383 v389 v396 v402 v409 v415 v422 v428 v435 v441 v448 v454 v461 v467 v474 v480 v487 v493).trips), ∀ (k0_h1 : k0_cond1 i = 1#1), 256 ∣ (k0_mult5 v292 v298 v305 v311 v318 v324 v331 v337 v344 v350 v357 v363 v370 v376 v383 v389 v396 v402 v409 v415 v422 v428 v435 v441 v448 v454 v461 v467 v474 v480 v487 v493 k0_t3).toNat := fun i v292 v298 v305 v311 v318 v324 v331 v337 v344 v350 v357 v363 v370 v376 v383 v389 v396 v402 v409 v415 v422 v428 v435 v441 v448 v454 v461 v467 v474 v480 v487 v493 k0_hw4 k0_t3 k0_h1 => k0_hw4.2.1 k0_t3 k0_h1
theorem k0_off13_inb : ∀ (i : grid0.Coords) (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_hw4 : k0_chk4 i v292 v298 v305 v311 v318 v324 v331 v337 v344 v350 v357 v363 v370 v376 v383 v389 v396 v402 v409 v415 v422 v428 v435 v441 v448 v454 v461 v467 v474 v480 v487 v493) (k0_t3 : Fin (k0_t3_loop v292 v298 v305 v311 v318 v324 v331 v337 v344 v350 v357 v363 v370 v376 v383 v389 v396 v402 v409 v415 v422 v428 v435 v441 v448 v454 v461 v467 v474 v480 v487 v493).trips), ∀ (k0_h1 : k0_cond1 i = 1#1), ∀ a, (k0_off13 v292 v298 v305 v311 v318 v324 v331 v337 v344 v350 v357 v363 v370 v376 v383 v389 v396 v402 v409 v415 v422 v428 v435 v441 v448 v454 v461 v467 v474 v480 v487 v493 k0_t3) a + S1x1x1x256.size a ≤ S1x1x1x4096.size a := fun i v292 v298 v305 v311 v318 v324 v331 v337 v344 v350 v357 v363 v370 v376 v383 v389 v396 v402 v409 v415 v422 v428 v435 v441 v448 v454 v461 v467 v474 v480 v487 v493 k0_hw4 k0_t3 k0_h1 => k0_hw4.2.2.1 k0_t3 k0_h1
theorem k0_off14_inb : ∀ (i : grid0.Coords) (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_hw4 : k0_chk4 i v292 v298 v305 v311 v318 v324 v331 v337 v344 v350 v357 v363 v370 v376 v383 v389 v396 v402 v409 v415 v422 v428 v435 v441 v448 v454 v461 v467 v474 v480 v487 v493) (k0_t3 : Fin (k0_t3_loop v292 v298 v305 v311 v318 v324 v331 v337 v344 v350 v357 v363 v370 v376 v383 v389 v396 v402 v409 v415 v422 v428 v435 v441 v448 v454 v461 v467 v474 v480 v487 v493).trips), ∀ (k0_h1 : k0_cond1 i = 1#1), ∀ a, (k0_off14 v292 v298 v305 v311 v318 v324 v331 v337 v344 v350 v357 v363 v370 v376 v383 v389 v396 v402 v409 v415 v422 v428 v435 v441 v448 v454 v461 v467 v474 v480 v487 v493 k0_t3) a + S1x256x1024.size a ≤ S1x4096x1024.size a := fun i v292 v298 v305 v311 v318 v324 v331 v337 v344 v350 v357 v363 v370 v376 v383 v389 v396 v402 v409 v415 v422 v428 v435 v441 v448 v454 v461 v467 v474 v480 v487 v493 k0_hw4 k0_t3 k0_h1 => k0_hw4.2.2.2.1 k0_t3 k0_h1
theorem k0_t4_ok : ∀ (i : grid0.Coords) (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_hw4 : k0_chk4 i v292 v298 v305 v311 v318 v324 v331 v337 v344 v350 v357 v363 v370 v376 v383 v389 v396 v402 v409 v415 v422 v428 v435 v441 v448 v454 v461 v467 v474 v480 v487 v493), ∀ (k0_h1 : k0_cond1 i = 1#1), (k0_t4_loop v292 v298 v305 v311 v318 v324 v331 v337 v344 v350 v357 v363 v370 v376 v383 v389 v396 v402 v409 v415 v422 v428 v435 v441 v448 v454 v461 v467 v474 v480 v487 v493).OK := fun i v292 v298 v305 v311 v318 v324 v331 v337 v344 v350 v357 v363 v370 v376 v383 v389 v396 v402 v409 v415 v422 v428 v435 v441 v448 v454 v461 v467 v474 v480 v487 v493 k0_hw4 k0_h1 => k0_hw4.2.2.2.2.1 k0_h1
theorem k0_mult6_dvd : ∀ (i : grid0.Coords) (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_hw4 : k0_chk4 i v292 v298 v305 v311 v318 v324 v331 v337 v344 v350 v357 v363 v370 v376 v383 v389 v396 v402 v409 v415 v422 v428 v435 v441 v448 v454 v461 v467 v474 v480 v487 v493) (k0_t4 : Fin (k0_t4_loop v292 v298 v305 v311 v318 v324 v331 v337 v344 v350 v357 v363 v370 v376 v383 v389 v396 v402 v409 v415 v422 v428 v435 v441 v448 v454 v461 v467 v474 v480 v487 v493).trips), ∀ (k0_h1 : k0_cond1 i = 1#1), 256 ∣ (k0_mult6 v292 v298 v305 v311 v318 v324 v331 v337 v344 v350 v357 v363 v370 v376 v383 v389 v396 v402 v409 v415 v422 v428 v435 v441 v448 v454 v461 v467 v474 v480 v487 v493 k0_t4).toNat := fun i v292 v298 v305 v311 v318 v324 v331 v337 v344 v350 v357 v363 v370 v376 v383 v389 v396 v402 v409 v415 v422 v428 v435 v441 v448 v454 v461 v467 v474 v480 v487 v493 k0_hw4 k0_t4 k0_h1 => k0_hw4.2.2.2.2.2.1 k0_t4 k0_h1
theorem k0_off15_inb : ∀ (i : grid0.Coords) (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_hw4 : k0_chk4 i v292 v298 v305 v311 v318 v324 v331 v337 v344 v350 v357 v363 v370 v376 v383 v389 v396 v402 v409 v415 v422 v428 v435 v441 v448 v454 v461 v467 v474 v480 v487 v493) (k0_t4 : Fin (k0_t4_loop v292 v298 v305 v311 v318 v324 v331 v337 v344 v350 v357 v363 v370 v376 v383 v389 v396 v402 v409 v415 v422 v428 v435 v441 v448 v454 v461 v467 v474 v480 v487 v493).trips), ∀ (k0_h1 : k0_cond1 i = 1#1), ∀ a, (k0_off15 v292 v298 v305 v311 v318 v324 v331 v337 v344 v350 v357 v363 v370 v376 v383 v389 v396 v402 v409 v415 v422 v428 v435 v441 v448 v454 v461 v467 v474 v480 v487 v493 k0_t4) a + S1x1x1x256.size a ≤ S1x1x1x4096.size a := fun i v292 v298 v305 v311 v318 v324 v331 v337 v344 v350 v357 v363 v370 v376 v383 v389 v396 v402 v409 v415 v422 v428 v435 v441 v448 v454 v461 v467 v474 v480 v487 v493 k0_hw4 k0_t4 k0_h1 => k0_hw4.2.2.2.2.2.2.1 k0_t4 k0_h1
theorem k0_off16_inb : ∀ (i : grid0.Coords) (v292 : BitVec 32) (v298 : BitVec 32) (v305 : BitVec 32) (v311 : BitVec 32) (v318 : BitVec 32) (v324 : BitVec 32) (v331 : BitVec 32) (v337 : BitVec 32) (v344 : BitVec 32) (v350 : BitVec 32) (v357 : BitVec 32) (v363 : BitVec 32) (v370 : BitVec 32) (v376 : BitVec 32) (v383 : BitVec 32) (v389 : BitVec 32) (v396 : BitVec 32) (v402 : BitVec 32) (v409 : BitVec 32) (v415 : BitVec 32) (v422 : BitVec 32) (v428 : BitVec 32) (v435 : BitVec 32) (v441 : BitVec 32) (v448 : BitVec 32) (v454 : BitVec 32) (v461 : BitVec 32) (v467 : BitVec 32) (v474 : BitVec 32) (v480 : BitVec 32) (v487 : BitVec 32) (v493 : BitVec 32) (k0_hw4 : k0_chk4 i v292 v298 v305 v311 v318 v324 v331 v337 v344 v350 v357 v363 v370 v376 v383 v389 v396 v402 v409 v415 v422 v428 v435 v441 v448 v454 v461 v467 v474 v480 v487 v493) (k0_t4 : Fin (k0_t4_loop v292 v298 v305 v311 v318 v324 v331 v337 v344 v350 v357 v363 v370 v376 v383 v389 v396 v402 v409 v415 v422 v428 v435 v441 v448 v454 v461 v467 v474 v480 v487 v493).trips), ∀ (k0_h1 : k0_cond1 i = 1#1), ∀ a, (k0_off16 v292 v298 v305 v311 v318 v324 v331 v337 v344 v350 v357 v363 v370 v376 v383 v389 v396 v402 v409 v415 v422 v428 v435 v441 v448 v454 v461 v467 v474 v480 v487 v493 k0_t4) a + S1x256x1024.size a ≤ S1x4096x1024.size a := fun i v292 v298 v305 v311 v318 v324 v331 v337 v344 v350 v357 v363 v370 v376 v383 v389 v396 v402 v409 v415 v422 v428 v435 v441 v448 v454 v461 v467 v474 v480 v487 v493 k0_hw4 k0_t4 k0_h1 => k0_hw4.2.2.2.2.2.2.2 k0_t4 k0_h1

def k0_off17 (i : grid0.Coords) (c0_i32_355 : BitVec 32) : Fin 1 → Nat :=
  let arg0 : BitVec 32 := BitVec.ofNat 32 (i 0).val
  let c16_i32 : BitVec 32 := 16#32
  let v31 : BitVec 32 := Scalar.muli arg0 c16_i32
  let arg1 : BitVec 32 := BitVec.ofNat 32 (i 1).val
  let v32 : BitVec 32 := Scalar.addi v31 arg1
  let c128_i32 : BitVec 32 := 128#32
  let v33 : BitVec 32 := Scalar.muli v32 c128_i32
  let v543 : BitVec 32 := Scalar.addi v33 c0_i32_355
  let c1_i32_356 : BitVec 32 := 1#32
  let v544 : BitVec 32 := Scalar.addi v543 c1_i32_356
  let v545 : Index := Scalar.indexCast v544
  ![v545.toNat]
def k0_off18 (i : grid0.Coords) (c0_i32_361 : BitVec 32) : Fin 1 → Nat :=
  let arg0 : BitVec 32 := BitVec.ofNat 32 (i 0).val
  let c16_i32 : BitVec 32 := 16#32
  let v31 : BitVec 32 := Scalar.muli arg0 c16_i32
  let arg1 : BitVec 32 := BitVec.ofNat 32 (i 1).val
  let v32 : BitVec 32 := Scalar.addi v31 arg1
  let c128_i32 : BitVec 32 := 128#32
  let v33 : BitVec 32 := Scalar.muli v32 c128_i32
  let v550 : BitVec 32 := Scalar.addi v33 c0_i32_361
  let v551 : Index := Scalar.indexCast v550
  ![v551.toNat]
def k0_mult7 (v546 : BitVec 32) (v559 : BitVec 32) (v572 : BitVec 32) (v585 : BitVec 32) (v598 : BitVec 32) (v611 : BitVec 32) (v624 : BitVec 32) (v637 : BitVec 32) (v650 : BitVec 32) (v663 : BitVec 32) (v676 : BitVec 32) (v689 : BitVec 32) (v702 : BitVec 32) (v715 : BitVec 32) (v728 : BitVec 32) (v741 : BitVec 32) : BitVec 32 :=
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c256_i32_501 : BitVec 32 := 256#32
  let v752 : BitVec 32 := Scalar.muli v751 c256_i32_501
  v752

def k0_off19 (v546 : BitVec 32) (v559 : BitVec 32) (v572 : BitVec 32) (v585 : BitVec 32) (v598 : BitVec 32) (v611 : BitVec 32) (v624 : BitVec 32) (v637 : BitVec 32) (v650 : BitVec 32) (v663 : BitVec 32) (v676 : BitVec 32) (v689 : BitVec 32) (v702 : BitVec 32) (v715 : BitVec 32) (v728 : BitVec 32) (v741 : BitVec 32) : Fin 4 → Nat :=
  let c0_502 : Index := 0#32
  let c0_503 : Index := 0#32
  let c0_504 : Index := 0#32
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c256_i32_501 : BitVec 32 := 256#32
  let v752 : BitVec 32 := Scalar.muli v751 c256_i32_501
  let v753 : BitVec 32 := v752
  let v754 : Index := Scalar.indexCast v753
  ![0, 0, 0, v754.toNat]
def k0_off20 (v546 : BitVec 32) (v559 : BitVec 32) (v572 : BitVec 32) (v585 : BitVec 32) (v598 : BitVec 32) (v611 : BitVec 32) (v624 : BitVec 32) (v637 : BitVec 32) (v650 : BitVec 32) (v663 : BitVec 32) (v676 : BitVec 32) (v689 : BitVec 32) (v702 : BitVec 32) (v715 : BitVec 32) (v728 : BitVec 32) (v741 : BitVec 32) : Fin 3 → Nat :=
  let c0_513 : Index := 0#32
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c256_i32_501 : BitVec 32 := 256#32
  let v752 : BitVec 32 := Scalar.muli v751 c256_i32_501
  let v753 : BitVec 32 := v752
  let v775 : Index := Scalar.indexCast v753
  let c0_514 : Index := 0#32
  ![0, v775.toNat, 0]

def k0_chk5 (i : grid0.Coords) (v546 : BitVec 32) (v559 : BitVec 32) (v572 : BitVec 32) (v585 : BitVec 32) (v598 : BitVec 32) (v611 : BitVec 32) (v624 : BitVec 32) (v637 : BitVec 32) (v650 : BitVec 32) (v663 : BitVec 32) (v676 : BitVec 32) (v689 : BitVec 32) (v702 : BitVec 32) (v715 : BitVec 32) (v728 : BitVec 32) (v741 : BitVec 32) : Prop :=
  (∀ (k0_h1 : k0_cond1 i = 1#1), 256 ∣ (k0_mult7 v546 v559 v572 v585 v598 v611 v624 v637 v650 v663 v676 v689 v702 v715 v728 v741).toNat) ∧
  (∀ (k0_h1 : k0_cond1 i = 1#1), ∀ a, (k0_off19 v546 v559 v572 v585 v598 v611 v624 v637 v650 v663 v676 v689 v702 v715 v728 v741) a + S1x1x1x1536.size a ≤ S1x1x1x4096.size a) ∧
  (∀ (k0_h1 : k0_cond1 i = 1#1), ∀ a, (k0_off20 v546 v559 v572 v585 v598 v611 v624 v637 v650 v663 v676 v689 v702 v715 v728 v741) a + S1x1536x1024.size a ≤ S1x4096x1024.size a)
theorem k0_mult7_dvd : ∀ (i : grid0.Coords) (v546 : BitVec 32) (v559 : BitVec 32) (v572 : BitVec 32) (v585 : BitVec 32) (v598 : BitVec 32) (v611 : BitVec 32) (v624 : BitVec 32) (v637 : BitVec 32) (v650 : BitVec 32) (v663 : BitVec 32) (v676 : BitVec 32) (v689 : BitVec 32) (v702 : BitVec 32) (v715 : BitVec 32) (v728 : BitVec 32) (v741 : BitVec 32) (k0_hw5 : k0_chk5 i v546 v559 v572 v585 v598 v611 v624 v637 v650 v663 v676 v689 v702 v715 v728 v741), ∀ (k0_h1 : k0_cond1 i = 1#1), 256 ∣ (k0_mult7 v546 v559 v572 v585 v598 v611 v624 v637 v650 v663 v676 v689 v702 v715 v728 v741).toNat := fun i v546 v559 v572 v585 v598 v611 v624 v637 v650 v663 v676 v689 v702 v715 v728 v741 k0_hw5 k0_h1 => k0_hw5.1 k0_h1
theorem k0_off19_inb : ∀ (i : grid0.Coords) (v546 : BitVec 32) (v559 : BitVec 32) (v572 : BitVec 32) (v585 : BitVec 32) (v598 : BitVec 32) (v611 : BitVec 32) (v624 : BitVec 32) (v637 : BitVec 32) (v650 : BitVec 32) (v663 : BitVec 32) (v676 : BitVec 32) (v689 : BitVec 32) (v702 : BitVec 32) (v715 : BitVec 32) (v728 : BitVec 32) (v741 : BitVec 32) (k0_hw5 : k0_chk5 i v546 v559 v572 v585 v598 v611 v624 v637 v650 v663 v676 v689 v702 v715 v728 v741), ∀ (k0_h1 : k0_cond1 i = 1#1), ∀ a, (k0_off19 v546 v559 v572 v585 v598 v611 v624 v637 v650 v663 v676 v689 v702 v715 v728 v741) a + S1x1x1x1536.size a ≤ S1x1x1x4096.size a := fun i v546 v559 v572 v585 v598 v611 v624 v637 v650 v663 v676 v689 v702 v715 v728 v741 k0_hw5 k0_h1 => k0_hw5.2.1 k0_h1
theorem k0_off20_inb : ∀ (i : grid0.Coords) (v546 : BitVec 32) (v559 : BitVec 32) (v572 : BitVec 32) (v585 : BitVec 32) (v598 : BitVec 32) (v611 : BitVec 32) (v624 : BitVec 32) (v637 : BitVec 32) (v650 : BitVec 32) (v663 : BitVec 32) (v676 : BitVec 32) (v689 : BitVec 32) (v702 : BitVec 32) (v715 : BitVec 32) (v728 : BitVec 32) (v741 : BitVec 32) (k0_hw5 : k0_chk5 i v546 v559 v572 v585 v598 v611 v624 v637 v650 v663 v676 v689 v702 v715 v728 v741), ∀ (k0_h1 : k0_cond1 i = 1#1), ∀ a, (k0_off20 v546 v559 v572 v585 v598 v611 v624 v637 v650 v663 v676 v689 v702 v715 v728 v741) a + S1x1536x1024.size a ≤ S1x4096x1024.size a := fun i v546 v559 v572 v585 v598 v611 v624 v637 v650 v663 v676 v689 v702 v715 v728 v741 k0_hw5 k0_h1 => k0_hw5.2.2 k0_h1

@[reducible] def k0_t5_loop (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) : Scf.Loop 32 :=
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c6_i32_519 : BitVec 32 := 6#32
  let v785 : BitVec 32 := Scalar.addi v751 c6_i32_519
  let v786 : BitVec 32 := Scalar.maxsi v744 v785
  let c0_i32_364 : BitVec 32 := 0#32
  let c384_i32 : BitVec 32 := 384#32
  let v553 : BitVec 1 := Scalar.cmpi .slt v552 c384_i32
  let c1_i32_362 : BitVec 32 := 1#32
  let c0_i32_363 : BitVec 32 := 0#32
  let v554 : BitVec 32 := Scalar.select v553 c1_i32_362 c0_i32_363
  let v555 : BitVec 32 := Scalar.addi c0_i32_364 v554
  let c384_i32_371 : BitVec 32 := 384#32
  let v566 : BitVec 1 := Scalar.cmpi .slt v565 c384_i32_371
  let c1_i32_372 : BitVec 32 := 1#32
  let c0_i32_373 : BitVec 32 := 0#32
  let v567 : BitVec 32 := Scalar.select v566 c1_i32_372 c0_i32_373
  let v568 : BitVec 32 := Scalar.addi v555 v567
  let c384_i32_380 : BitVec 32 := 384#32
  let v579 : BitVec 1 := Scalar.cmpi .slt v578 c384_i32_380
  let c1_i32_381 : BitVec 32 := 1#32
  let c0_i32_382 : BitVec 32 := 0#32
  let v580 : BitVec 32 := Scalar.select v579 c1_i32_381 c0_i32_382
  let v581 : BitVec 32 := Scalar.addi v568 v580
  let c384_i32_389 : BitVec 32 := 384#32
  let v592 : BitVec 1 := Scalar.cmpi .slt v591 c384_i32_389
  let c1_i32_390 : BitVec 32 := 1#32
  let c0_i32_391 : BitVec 32 := 0#32
  let v593 : BitVec 32 := Scalar.select v592 c1_i32_390 c0_i32_391
  let v594 : BitVec 32 := Scalar.addi v581 v593
  let c384_i32_398 : BitVec 32 := 384#32
  let v605 : BitVec 1 := Scalar.cmpi .slt v604 c384_i32_398
  let c1_i32_399 : BitVec 32 := 1#32
  let c0_i32_400 : BitVec 32 := 0#32
  let v606 : BitVec 32 := Scalar.select v605 c1_i32_399 c0_i32_400
  let v607 : BitVec 32 := Scalar.addi v594 v606
  let c384_i32_407 : BitVec 32 := 384#32
  let v618 : BitVec 1 := Scalar.cmpi .slt v617 c384_i32_407
  let c1_i32_408 : BitVec 32 := 1#32
  let c0_i32_409 : BitVec 32 := 0#32
  let v619 : BitVec 32 := Scalar.select v618 c1_i32_408 c0_i32_409
  let v620 : BitVec 32 := Scalar.addi v607 v619
  let c384_i32_416 : BitVec 32 := 384#32
  let v631 : BitVec 1 := Scalar.cmpi .slt v630 c384_i32_416
  let c1_i32_417 : BitVec 32 := 1#32
  let c0_i32_418 : BitVec 32 := 0#32
  let v632 : BitVec 32 := Scalar.select v631 c1_i32_417 c0_i32_418
  let v633 : BitVec 32 := Scalar.addi v620 v632
  let c384_i32_425 : BitVec 32 := 384#32
  let v644 : BitVec 1 := Scalar.cmpi .slt v643 c384_i32_425
  let c1_i32_426 : BitVec 32 := 1#32
  let c0_i32_427 : BitVec 32 := 0#32
  let v645 : BitVec 32 := Scalar.select v644 c1_i32_426 c0_i32_427
  let v646 : BitVec 32 := Scalar.addi v633 v645
  let c384_i32_434 : BitVec 32 := 384#32
  let v657 : BitVec 1 := Scalar.cmpi .slt v656 c384_i32_434
  let c1_i32_435 : BitVec 32 := 1#32
  let c0_i32_436 : BitVec 32 := 0#32
  let v658 : BitVec 32 := Scalar.select v657 c1_i32_435 c0_i32_436
  let v659 : BitVec 32 := Scalar.addi v646 v658
  let c384_i32_443 : BitVec 32 := 384#32
  let v670 : BitVec 1 := Scalar.cmpi .slt v669 c384_i32_443
  let c1_i32_444 : BitVec 32 := 1#32
  let c0_i32_445 : BitVec 32 := 0#32
  let v671 : BitVec 32 := Scalar.select v670 c1_i32_444 c0_i32_445
  let v672 : BitVec 32 := Scalar.addi v659 v671
  let c384_i32_452 : BitVec 32 := 384#32
  let v683 : BitVec 1 := Scalar.cmpi .slt v682 c384_i32_452
  let c1_i32_453 : BitVec 32 := 1#32
  let c0_i32_454 : BitVec 32 := 0#32
  let v684 : BitVec 32 := Scalar.select v683 c1_i32_453 c0_i32_454
  let v685 : BitVec 32 := Scalar.addi v672 v684
  let c384_i32_461 : BitVec 32 := 384#32
  let v696 : BitVec 1 := Scalar.cmpi .slt v695 c384_i32_461
  let c1_i32_462 : BitVec 32 := 1#32
  let c0_i32_463 : BitVec 32 := 0#32
  let v697 : BitVec 32 := Scalar.select v696 c1_i32_462 c0_i32_463
  let v698 : BitVec 32 := Scalar.addi v685 v697
  let c384_i32_470 : BitVec 32 := 384#32
  let v709 : BitVec 1 := Scalar.cmpi .slt v708 c384_i32_470
  let c1_i32_471 : BitVec 32 := 1#32
  let c0_i32_472 : BitVec 32 := 0#32
  let v710 : BitVec 32 := Scalar.select v709 c1_i32_471 c0_i32_472
  let v711 : BitVec 32 := Scalar.addi v698 v710
  let c384_i32_479 : BitVec 32 := 384#32
  let v722 : BitVec 1 := Scalar.cmpi .slt v721 c384_i32_479
  let c1_i32_480 : BitVec 32 := 1#32
  let c0_i32_481 : BitVec 32 := 0#32
  let v723 : BitVec 32 := Scalar.select v722 c1_i32_480 c0_i32_481
  let v724 : BitVec 32 := Scalar.addi v711 v723
  let c384_i32_488 : BitVec 32 := 384#32
  let v735 : BitVec 1 := Scalar.cmpi .slt v734 c384_i32_488
  let c1_i32_489 : BitVec 32 := 1#32
  let c0_i32_490 : BitVec 32 := 0#32
  let v736 : BitVec 32 := Scalar.select v735 c1_i32_489 c0_i32_490
  let v737 : BitVec 32 := Scalar.addi v724 v736
  let c384_i32_497 : BitVec 32 := 384#32
  let v748 : BitVec 1 := Scalar.cmpi .slt v747 c384_i32_497
  let c1_i32_498 : BitVec 32 := 1#32
  let c0_i32_499 : BitVec 32 := 0#32
  let v749 : BitVec 32 := Scalar.select v748 c1_i32_498 c0_i32_499
  let v750 : BitVec 32 := Scalar.addi v737 v749
  let v787 : BitVec 32 := Scalar.subi v750 v786
  let c1_i32_521 : BitVec 32 := 1#32
  let v789 : BitVec 32 := Scalar.divsi v787 c1_i32_521
  let v790 : BitVec 32 := Scalar.muli v789 c1_i32_521
  let v791 : BitVec 32 := Scalar.addi v786 v790
  let c1_i32_522 : BitVec 32 := 1#32
  ⟨v786, v791, c1_i32_522⟩

def k0_mult8 (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_t5 : Fin (k0_t5_loop v546 v552 v559 v565 v572 v578 v585 v591 v598 v604 v611 v617 v624 v630 v637 v643 v650 v656 v663 v669 v676 v682 v689 v695 v702 v708 v715 v721 v728 v734 v741 v747).trips) : BitVec 32 :=
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c6_i32_519 : BitVec 32 := 6#32
  let v785 : BitVec 32 := Scalar.addi v751 c6_i32_519
  let v786 : BitVec 32 := Scalar.maxsi v744 v785
  let c1_i32_522 : BitVec 32 := 1#32
  let arg15 : BitVec 32 := Scf.iv v786 c1_i32_522 k0_t5
  let c256_i32_704 : BitVec 32 := 256#32
  let v1055 : BitVec 32 := Scalar.muli arg15 c256_i32_704
  v1055
def k0_off21 (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_t5 : Fin (k0_t5_loop v546 v552 v559 v565 v572 v578 v585 v591 v598 v604 v611 v617 v624 v630 v637 v643 v650 v656 v663 v669 v676 v682 v689 v695 v702 v708 v715 v721 v728 v734 v741 v747).trips) : Fin 4 → Nat :=
  let c0_705 : Index := 0#32
  let c0_706 : Index := 0#32
  let c0_707 : Index := 0#32
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c6_i32_519 : BitVec 32 := 6#32
  let v785 : BitVec 32 := Scalar.addi v751 c6_i32_519
  let v786 : BitVec 32 := Scalar.maxsi v744 v785
  let c1_i32_522 : BitVec 32 := 1#32
  let arg15 : BitVec 32 := Scf.iv v786 c1_i32_522 k0_t5
  let c256_i32_704 : BitVec 32 := 256#32
  let v1055 : BitVec 32 := Scalar.muli arg15 c256_i32_704
  let v1056 : BitVec 32 := v1055
  let v1057 : Index := Scalar.indexCast v1056
  ![0, 0, 0, v1057.toNat]
def k0_off22 (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_t5 : Fin (k0_t5_loop v546 v552 v559 v565 v572 v578 v585 v591 v598 v604 v611 v617 v624 v630 v637 v643 v650 v656 v663 v669 v676 v682 v689 v695 v702 v708 v715 v721 v728 v734 v741 v747).trips) : Fin 3 → Nat :=
  let c0_716 : Index := 0#32
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c6_i32_519 : BitVec 32 := 6#32
  let v785 : BitVec 32 := Scalar.addi v751 c6_i32_519
  let v786 : BitVec 32 := Scalar.maxsi v744 v785
  let c1_i32_522 : BitVec 32 := 1#32
  let arg15 : BitVec 32 := Scf.iv v786 c1_i32_522 k0_t5
  let c256_i32_704 : BitVec 32 := 256#32
  let v1055 : BitVec 32 := Scalar.muli arg15 c256_i32_704
  let v1056 : BitVec 32 := v1055
  let v1078 : Index := Scalar.indexCast v1056
  let c0_717 : Index := 0#32
  ![0, v1078.toNat, 0]
@[reducible] def k0_t6_loop (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) : Scf.Loop 32 :=
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c6_i32_519 : BitVec 32 := 6#32
  let v785 : BitVec 32 := Scalar.addi v751 c6_i32_519
  let v786 : BitVec 32 := Scalar.maxsi v744 v785
  let c0_i32_364 : BitVec 32 := 0#32
  let c384_i32 : BitVec 32 := 384#32
  let v553 : BitVec 1 := Scalar.cmpi .slt v552 c384_i32
  let c1_i32_362 : BitVec 32 := 1#32
  let c0_i32_363 : BitVec 32 := 0#32
  let v554 : BitVec 32 := Scalar.select v553 c1_i32_362 c0_i32_363
  let v555 : BitVec 32 := Scalar.addi c0_i32_364 v554
  let c384_i32_371 : BitVec 32 := 384#32
  let v566 : BitVec 1 := Scalar.cmpi .slt v565 c384_i32_371
  let c1_i32_372 : BitVec 32 := 1#32
  let c0_i32_373 : BitVec 32 := 0#32
  let v567 : BitVec 32 := Scalar.select v566 c1_i32_372 c0_i32_373
  let v568 : BitVec 32 := Scalar.addi v555 v567
  let c384_i32_380 : BitVec 32 := 384#32
  let v579 : BitVec 1 := Scalar.cmpi .slt v578 c384_i32_380
  let c1_i32_381 : BitVec 32 := 1#32
  let c0_i32_382 : BitVec 32 := 0#32
  let v580 : BitVec 32 := Scalar.select v579 c1_i32_381 c0_i32_382
  let v581 : BitVec 32 := Scalar.addi v568 v580
  let c384_i32_389 : BitVec 32 := 384#32
  let v592 : BitVec 1 := Scalar.cmpi .slt v591 c384_i32_389
  let c1_i32_390 : BitVec 32 := 1#32
  let c0_i32_391 : BitVec 32 := 0#32
  let v593 : BitVec 32 := Scalar.select v592 c1_i32_390 c0_i32_391
  let v594 : BitVec 32 := Scalar.addi v581 v593
  let c384_i32_398 : BitVec 32 := 384#32
  let v605 : BitVec 1 := Scalar.cmpi .slt v604 c384_i32_398
  let c1_i32_399 : BitVec 32 := 1#32
  let c0_i32_400 : BitVec 32 := 0#32
  let v606 : BitVec 32 := Scalar.select v605 c1_i32_399 c0_i32_400
  let v607 : BitVec 32 := Scalar.addi v594 v606
  let c384_i32_407 : BitVec 32 := 384#32
  let v618 : BitVec 1 := Scalar.cmpi .slt v617 c384_i32_407
  let c1_i32_408 : BitVec 32 := 1#32
  let c0_i32_409 : BitVec 32 := 0#32
  let v619 : BitVec 32 := Scalar.select v618 c1_i32_408 c0_i32_409
  let v620 : BitVec 32 := Scalar.addi v607 v619
  let c384_i32_416 : BitVec 32 := 384#32
  let v631 : BitVec 1 := Scalar.cmpi .slt v630 c384_i32_416
  let c1_i32_417 : BitVec 32 := 1#32
  let c0_i32_418 : BitVec 32 := 0#32
  let v632 : BitVec 32 := Scalar.select v631 c1_i32_417 c0_i32_418
  let v633 : BitVec 32 := Scalar.addi v620 v632
  let c384_i32_425 : BitVec 32 := 384#32
  let v644 : BitVec 1 := Scalar.cmpi .slt v643 c384_i32_425
  let c1_i32_426 : BitVec 32 := 1#32
  let c0_i32_427 : BitVec 32 := 0#32
  let v645 : BitVec 32 := Scalar.select v644 c1_i32_426 c0_i32_427
  let v646 : BitVec 32 := Scalar.addi v633 v645
  let c384_i32_434 : BitVec 32 := 384#32
  let v657 : BitVec 1 := Scalar.cmpi .slt v656 c384_i32_434
  let c1_i32_435 : BitVec 32 := 1#32
  let c0_i32_436 : BitVec 32 := 0#32
  let v658 : BitVec 32 := Scalar.select v657 c1_i32_435 c0_i32_436
  let v659 : BitVec 32 := Scalar.addi v646 v658
  let c384_i32_443 : BitVec 32 := 384#32
  let v670 : BitVec 1 := Scalar.cmpi .slt v669 c384_i32_443
  let c1_i32_444 : BitVec 32 := 1#32
  let c0_i32_445 : BitVec 32 := 0#32
  let v671 : BitVec 32 := Scalar.select v670 c1_i32_444 c0_i32_445
  let v672 : BitVec 32 := Scalar.addi v659 v671
  let c384_i32_452 : BitVec 32 := 384#32
  let v683 : BitVec 1 := Scalar.cmpi .slt v682 c384_i32_452
  let c1_i32_453 : BitVec 32 := 1#32
  let c0_i32_454 : BitVec 32 := 0#32
  let v684 : BitVec 32 := Scalar.select v683 c1_i32_453 c0_i32_454
  let v685 : BitVec 32 := Scalar.addi v672 v684
  let c384_i32_461 : BitVec 32 := 384#32
  let v696 : BitVec 1 := Scalar.cmpi .slt v695 c384_i32_461
  let c1_i32_462 : BitVec 32 := 1#32
  let c0_i32_463 : BitVec 32 := 0#32
  let v697 : BitVec 32 := Scalar.select v696 c1_i32_462 c0_i32_463
  let v698 : BitVec 32 := Scalar.addi v685 v697
  let c384_i32_470 : BitVec 32 := 384#32
  let v709 : BitVec 1 := Scalar.cmpi .slt v708 c384_i32_470
  let c1_i32_471 : BitVec 32 := 1#32
  let c0_i32_472 : BitVec 32 := 0#32
  let v710 : BitVec 32 := Scalar.select v709 c1_i32_471 c0_i32_472
  let v711 : BitVec 32 := Scalar.addi v698 v710
  let c384_i32_479 : BitVec 32 := 384#32
  let v722 : BitVec 1 := Scalar.cmpi .slt v721 c384_i32_479
  let c1_i32_480 : BitVec 32 := 1#32
  let c0_i32_481 : BitVec 32 := 0#32
  let v723 : BitVec 32 := Scalar.select v722 c1_i32_480 c0_i32_481
  let v724 : BitVec 32 := Scalar.addi v711 v723
  let c384_i32_488 : BitVec 32 := 384#32
  let v735 : BitVec 1 := Scalar.cmpi .slt v734 c384_i32_488
  let c1_i32_489 : BitVec 32 := 1#32
  let c0_i32_490 : BitVec 32 := 0#32
  let v736 : BitVec 32 := Scalar.select v735 c1_i32_489 c0_i32_490
  let v737 : BitVec 32 := Scalar.addi v724 v736
  let c384_i32_497 : BitVec 32 := 384#32
  let v748 : BitVec 1 := Scalar.cmpi .slt v747 c384_i32_497
  let c1_i32_498 : BitVec 32 := 1#32
  let c0_i32_499 : BitVec 32 := 0#32
  let v749 : BitVec 32 := Scalar.select v748 c1_i32_498 c0_i32_499
  let v750 : BitVec 32 := Scalar.addi v737 v749
  let v787 : BitVec 32 := Scalar.subi v750 v786
  let c1_i32_521 : BitVec 32 := 1#32
  let v789 : BitVec 32 := Scalar.divsi v787 c1_i32_521
  let v790 : BitVec 32 := Scalar.muli v789 c1_i32_521
  let v791 : BitVec 32 := Scalar.addi v786 v790
  let v788 : BitVec 32 := Scalar.addi v786 v787
  let c1_i32_523 : BitVec 32 := 1#32
  ⟨v791, v788, c1_i32_523⟩
def k0_mult9 (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_t6 : Fin (k0_t6_loop v546 v552 v559 v565 v572 v578 v585 v591 v598 v604 v611 v617 v624 v630 v637 v643 v650 v656 v663 v669 v676 v682 v689 v695 v702 v708 v715 v721 v728 v734 v741 v747).trips) : BitVec 32 :=
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c6_i32_519 : BitVec 32 := 6#32
  let v785 : BitVec 32 := Scalar.addi v751 c6_i32_519
  let v786 : BitVec 32 := Scalar.maxsi v744 v785
  let c0_i32_364 : BitVec 32 := 0#32
  let c384_i32 : BitVec 32 := 384#32
  let v553 : BitVec 1 := Scalar.cmpi .slt v552 c384_i32
  let c1_i32_362 : BitVec 32 := 1#32
  let c0_i32_363 : BitVec 32 := 0#32
  let v554 : BitVec 32 := Scalar.select v553 c1_i32_362 c0_i32_363
  let v555 : BitVec 32 := Scalar.addi c0_i32_364 v554
  let c384_i32_371 : BitVec 32 := 384#32
  let v566 : BitVec 1 := Scalar.cmpi .slt v565 c384_i32_371
  let c1_i32_372 : BitVec 32 := 1#32
  let c0_i32_373 : BitVec 32 := 0#32
  let v567 : BitVec 32 := Scalar.select v566 c1_i32_372 c0_i32_373
  let v568 : BitVec 32 := Scalar.addi v555 v567
  let c384_i32_380 : BitVec 32 := 384#32
  let v579 : BitVec 1 := Scalar.cmpi .slt v578 c384_i32_380
  let c1_i32_381 : BitVec 32 := 1#32
  let c0_i32_382 : BitVec 32 := 0#32
  let v580 : BitVec 32 := Scalar.select v579 c1_i32_381 c0_i32_382
  let v581 : BitVec 32 := Scalar.addi v568 v580
  let c384_i32_389 : BitVec 32 := 384#32
  let v592 : BitVec 1 := Scalar.cmpi .slt v591 c384_i32_389
  let c1_i32_390 : BitVec 32 := 1#32
  let c0_i32_391 : BitVec 32 := 0#32
  let v593 : BitVec 32 := Scalar.select v592 c1_i32_390 c0_i32_391
  let v594 : BitVec 32 := Scalar.addi v581 v593
  let c384_i32_398 : BitVec 32 := 384#32
  let v605 : BitVec 1 := Scalar.cmpi .slt v604 c384_i32_398
  let c1_i32_399 : BitVec 32 := 1#32
  let c0_i32_400 : BitVec 32 := 0#32
  let v606 : BitVec 32 := Scalar.select v605 c1_i32_399 c0_i32_400
  let v607 : BitVec 32 := Scalar.addi v594 v606
  let c384_i32_407 : BitVec 32 := 384#32
  let v618 : BitVec 1 := Scalar.cmpi .slt v617 c384_i32_407
  let c1_i32_408 : BitVec 32 := 1#32
  let c0_i32_409 : BitVec 32 := 0#32
  let v619 : BitVec 32 := Scalar.select v618 c1_i32_408 c0_i32_409
  let v620 : BitVec 32 := Scalar.addi v607 v619
  let c384_i32_416 : BitVec 32 := 384#32
  let v631 : BitVec 1 := Scalar.cmpi .slt v630 c384_i32_416
  let c1_i32_417 : BitVec 32 := 1#32
  let c0_i32_418 : BitVec 32 := 0#32
  let v632 : BitVec 32 := Scalar.select v631 c1_i32_417 c0_i32_418
  let v633 : BitVec 32 := Scalar.addi v620 v632
  let c384_i32_425 : BitVec 32 := 384#32
  let v644 : BitVec 1 := Scalar.cmpi .slt v643 c384_i32_425
  let c1_i32_426 : BitVec 32 := 1#32
  let c0_i32_427 : BitVec 32 := 0#32
  let v645 : BitVec 32 := Scalar.select v644 c1_i32_426 c0_i32_427
  let v646 : BitVec 32 := Scalar.addi v633 v645
  let c384_i32_434 : BitVec 32 := 384#32
  let v657 : BitVec 1 := Scalar.cmpi .slt v656 c384_i32_434
  let c1_i32_435 : BitVec 32 := 1#32
  let c0_i32_436 : BitVec 32 := 0#32
  let v658 : BitVec 32 := Scalar.select v657 c1_i32_435 c0_i32_436
  let v659 : BitVec 32 := Scalar.addi v646 v658
  let c384_i32_443 : BitVec 32 := 384#32
  let v670 : BitVec 1 := Scalar.cmpi .slt v669 c384_i32_443
  let c1_i32_444 : BitVec 32 := 1#32
  let c0_i32_445 : BitVec 32 := 0#32
  let v671 : BitVec 32 := Scalar.select v670 c1_i32_444 c0_i32_445
  let v672 : BitVec 32 := Scalar.addi v659 v671
  let c384_i32_452 : BitVec 32 := 384#32
  let v683 : BitVec 1 := Scalar.cmpi .slt v682 c384_i32_452
  let c1_i32_453 : BitVec 32 := 1#32
  let c0_i32_454 : BitVec 32 := 0#32
  let v684 : BitVec 32 := Scalar.select v683 c1_i32_453 c0_i32_454
  let v685 : BitVec 32 := Scalar.addi v672 v684
  let c384_i32_461 : BitVec 32 := 384#32
  let v696 : BitVec 1 := Scalar.cmpi .slt v695 c384_i32_461
  let c1_i32_462 : BitVec 32 := 1#32
  let c0_i32_463 : BitVec 32 := 0#32
  let v697 : BitVec 32 := Scalar.select v696 c1_i32_462 c0_i32_463
  let v698 : BitVec 32 := Scalar.addi v685 v697
  let c384_i32_470 : BitVec 32 := 384#32
  let v709 : BitVec 1 := Scalar.cmpi .slt v708 c384_i32_470
  let c1_i32_471 : BitVec 32 := 1#32
  let c0_i32_472 : BitVec 32 := 0#32
  let v710 : BitVec 32 := Scalar.select v709 c1_i32_471 c0_i32_472
  let v711 : BitVec 32 := Scalar.addi v698 v710
  let c384_i32_479 : BitVec 32 := 384#32
  let v722 : BitVec 1 := Scalar.cmpi .slt v721 c384_i32_479
  let c1_i32_480 : BitVec 32 := 1#32
  let c0_i32_481 : BitVec 32 := 0#32
  let v723 : BitVec 32 := Scalar.select v722 c1_i32_480 c0_i32_481
  let v724 : BitVec 32 := Scalar.addi v711 v723
  let c384_i32_488 : BitVec 32 := 384#32
  let v735 : BitVec 1 := Scalar.cmpi .slt v734 c384_i32_488
  let c1_i32_489 : BitVec 32 := 1#32
  let c0_i32_490 : BitVec 32 := 0#32
  let v736 : BitVec 32 := Scalar.select v735 c1_i32_489 c0_i32_490
  let v737 : BitVec 32 := Scalar.addi v724 v736
  let c384_i32_497 : BitVec 32 := 384#32
  let v748 : BitVec 1 := Scalar.cmpi .slt v747 c384_i32_497
  let c1_i32_498 : BitVec 32 := 1#32
  let c0_i32_499 : BitVec 32 := 0#32
  let v749 : BitVec 32 := Scalar.select v748 c1_i32_498 c0_i32_499
  let v750 : BitVec 32 := Scalar.addi v737 v749
  let v787 : BitVec 32 := Scalar.subi v750 v786
  let c1_i32_521 : BitVec 32 := 1#32
  let v789 : BitVec 32 := Scalar.divsi v787 c1_i32_521
  let v790 : BitVec 32 := Scalar.muli v789 c1_i32_521
  let v791 : BitVec 32 := Scalar.addi v786 v790
  let c1_i32_523 : BitVec 32 := 1#32
  let arg15 : BitVec 32 := Scf.iv v791 c1_i32_523 k0_t6
  let c256_i32_704 : BitVec 32 := 256#32
  let v1055 : BitVec 32 := Scalar.muli arg15 c256_i32_704
  v1055
def k0_off23 (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_t6 : Fin (k0_t6_loop v546 v552 v559 v565 v572 v578 v585 v591 v598 v604 v611 v617 v624 v630 v637 v643 v650 v656 v663 v669 v676 v682 v689 v695 v702 v708 v715 v721 v728 v734 v741 v747).trips) : Fin 4 → Nat :=
  let c0_705 : Index := 0#32
  let c0_706 : Index := 0#32
  let c0_707 : Index := 0#32
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c6_i32_519 : BitVec 32 := 6#32
  let v785 : BitVec 32 := Scalar.addi v751 c6_i32_519
  let v786 : BitVec 32 := Scalar.maxsi v744 v785
  let c0_i32_364 : BitVec 32 := 0#32
  let c384_i32 : BitVec 32 := 384#32
  let v553 : BitVec 1 := Scalar.cmpi .slt v552 c384_i32
  let c1_i32_362 : BitVec 32 := 1#32
  let c0_i32_363 : BitVec 32 := 0#32
  let v554 : BitVec 32 := Scalar.select v553 c1_i32_362 c0_i32_363
  let v555 : BitVec 32 := Scalar.addi c0_i32_364 v554
  let c384_i32_371 : BitVec 32 := 384#32
  let v566 : BitVec 1 := Scalar.cmpi .slt v565 c384_i32_371
  let c1_i32_372 : BitVec 32 := 1#32
  let c0_i32_373 : BitVec 32 := 0#32
  let v567 : BitVec 32 := Scalar.select v566 c1_i32_372 c0_i32_373
  let v568 : BitVec 32 := Scalar.addi v555 v567
  let c384_i32_380 : BitVec 32 := 384#32
  let v579 : BitVec 1 := Scalar.cmpi .slt v578 c384_i32_380
  let c1_i32_381 : BitVec 32 := 1#32
  let c0_i32_382 : BitVec 32 := 0#32
  let v580 : BitVec 32 := Scalar.select v579 c1_i32_381 c0_i32_382
  let v581 : BitVec 32 := Scalar.addi v568 v580
  let c384_i32_389 : BitVec 32 := 384#32
  let v592 : BitVec 1 := Scalar.cmpi .slt v591 c384_i32_389
  let c1_i32_390 : BitVec 32 := 1#32
  let c0_i32_391 : BitVec 32 := 0#32
  let v593 : BitVec 32 := Scalar.select v592 c1_i32_390 c0_i32_391
  let v594 : BitVec 32 := Scalar.addi v581 v593
  let c384_i32_398 : BitVec 32 := 384#32
  let v605 : BitVec 1 := Scalar.cmpi .slt v604 c384_i32_398
  let c1_i32_399 : BitVec 32 := 1#32
  let c0_i32_400 : BitVec 32 := 0#32
  let v606 : BitVec 32 := Scalar.select v605 c1_i32_399 c0_i32_400
  let v607 : BitVec 32 := Scalar.addi v594 v606
  let c384_i32_407 : BitVec 32 := 384#32
  let v618 : BitVec 1 := Scalar.cmpi .slt v617 c384_i32_407
  let c1_i32_408 : BitVec 32 := 1#32
  let c0_i32_409 : BitVec 32 := 0#32
  let v619 : BitVec 32 := Scalar.select v618 c1_i32_408 c0_i32_409
  let v620 : BitVec 32 := Scalar.addi v607 v619
  let c384_i32_416 : BitVec 32 := 384#32
  let v631 : BitVec 1 := Scalar.cmpi .slt v630 c384_i32_416
  let c1_i32_417 : BitVec 32 := 1#32
  let c0_i32_418 : BitVec 32 := 0#32
  let v632 : BitVec 32 := Scalar.select v631 c1_i32_417 c0_i32_418
  let v633 : BitVec 32 := Scalar.addi v620 v632
  let c384_i32_425 : BitVec 32 := 384#32
  let v644 : BitVec 1 := Scalar.cmpi .slt v643 c384_i32_425
  let c1_i32_426 : BitVec 32 := 1#32
  let c0_i32_427 : BitVec 32 := 0#32
  let v645 : BitVec 32 := Scalar.select v644 c1_i32_426 c0_i32_427
  let v646 : BitVec 32 := Scalar.addi v633 v645
  let c384_i32_434 : BitVec 32 := 384#32
  let v657 : BitVec 1 := Scalar.cmpi .slt v656 c384_i32_434
  let c1_i32_435 : BitVec 32 := 1#32
  let c0_i32_436 : BitVec 32 := 0#32
  let v658 : BitVec 32 := Scalar.select v657 c1_i32_435 c0_i32_436
  let v659 : BitVec 32 := Scalar.addi v646 v658
  let c384_i32_443 : BitVec 32 := 384#32
  let v670 : BitVec 1 := Scalar.cmpi .slt v669 c384_i32_443
  let c1_i32_444 : BitVec 32 := 1#32
  let c0_i32_445 : BitVec 32 := 0#32
  let v671 : BitVec 32 := Scalar.select v670 c1_i32_444 c0_i32_445
  let v672 : BitVec 32 := Scalar.addi v659 v671
  let c384_i32_452 : BitVec 32 := 384#32
  let v683 : BitVec 1 := Scalar.cmpi .slt v682 c384_i32_452
  let c1_i32_453 : BitVec 32 := 1#32
  let c0_i32_454 : BitVec 32 := 0#32
  let v684 : BitVec 32 := Scalar.select v683 c1_i32_453 c0_i32_454
  let v685 : BitVec 32 := Scalar.addi v672 v684
  let c384_i32_461 : BitVec 32 := 384#32
  let v696 : BitVec 1 := Scalar.cmpi .slt v695 c384_i32_461
  let c1_i32_462 : BitVec 32 := 1#32
  let c0_i32_463 : BitVec 32 := 0#32
  let v697 : BitVec 32 := Scalar.select v696 c1_i32_462 c0_i32_463
  let v698 : BitVec 32 := Scalar.addi v685 v697
  let c384_i32_470 : BitVec 32 := 384#32
  let v709 : BitVec 1 := Scalar.cmpi .slt v708 c384_i32_470
  let c1_i32_471 : BitVec 32 := 1#32
  let c0_i32_472 : BitVec 32 := 0#32
  let v710 : BitVec 32 := Scalar.select v709 c1_i32_471 c0_i32_472
  let v711 : BitVec 32 := Scalar.addi v698 v710
  let c384_i32_479 : BitVec 32 := 384#32
  let v722 : BitVec 1 := Scalar.cmpi .slt v721 c384_i32_479
  let c1_i32_480 : BitVec 32 := 1#32
  let c0_i32_481 : BitVec 32 := 0#32
  let v723 : BitVec 32 := Scalar.select v722 c1_i32_480 c0_i32_481
  let v724 : BitVec 32 := Scalar.addi v711 v723
  let c384_i32_488 : BitVec 32 := 384#32
  let v735 : BitVec 1 := Scalar.cmpi .slt v734 c384_i32_488
  let c1_i32_489 : BitVec 32 := 1#32
  let c0_i32_490 : BitVec 32 := 0#32
  let v736 : BitVec 32 := Scalar.select v735 c1_i32_489 c0_i32_490
  let v737 : BitVec 32 := Scalar.addi v724 v736
  let c384_i32_497 : BitVec 32 := 384#32
  let v748 : BitVec 1 := Scalar.cmpi .slt v747 c384_i32_497
  let c1_i32_498 : BitVec 32 := 1#32
  let c0_i32_499 : BitVec 32 := 0#32
  let v749 : BitVec 32 := Scalar.select v748 c1_i32_498 c0_i32_499
  let v750 : BitVec 32 := Scalar.addi v737 v749
  let v787 : BitVec 32 := Scalar.subi v750 v786
  let c1_i32_521 : BitVec 32 := 1#32
  let v789 : BitVec 32 := Scalar.divsi v787 c1_i32_521
  let v790 : BitVec 32 := Scalar.muli v789 c1_i32_521
  let v791 : BitVec 32 := Scalar.addi v786 v790
  let c1_i32_523 : BitVec 32 := 1#32
  let arg15 : BitVec 32 := Scf.iv v791 c1_i32_523 k0_t6
  let c256_i32_704 : BitVec 32 := 256#32
  let v1055 : BitVec 32 := Scalar.muli arg15 c256_i32_704
  let v1056 : BitVec 32 := v1055
  let v1057 : Index := Scalar.indexCast v1056
  ![0, 0, 0, v1057.toNat]
def k0_off24 (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_t6 : Fin (k0_t6_loop v546 v552 v559 v565 v572 v578 v585 v591 v598 v604 v611 v617 v624 v630 v637 v643 v650 v656 v663 v669 v676 v682 v689 v695 v702 v708 v715 v721 v728 v734 v741 v747).trips) : Fin 3 → Nat :=
  let c0_716 : Index := 0#32
  let c0_i32_360 : BitVec 32 := 0#32
  let c256_i32_357 : BitVec 32 := 256#32
  let v547 : BitVec 1 := Scalar.cmpi .sle v546 c256_i32_357
  let c1_i32_358 : BitVec 32 := 1#32
  let c0_i32_359 : BitVec 32 := 0#32
  let v548 : BitVec 32 := Scalar.select v547 c1_i32_358 c0_i32_359
  let v549 : BitVec 32 := Scalar.addi c0_i32_360 v548
  let c256_i32_367 : BitVec 32 := 256#32
  let v560 : BitVec 1 := Scalar.cmpi .sle v559 c256_i32_367
  let c1_i32_368 : BitVec 32 := 1#32
  let c0_i32_369 : BitVec 32 := 0#32
  let v561 : BitVec 32 := Scalar.select v560 c1_i32_368 c0_i32_369
  let v562 : BitVec 32 := Scalar.addi v549 v561
  let c256_i32_376 : BitVec 32 := 256#32
  let v573 : BitVec 1 := Scalar.cmpi .sle v572 c256_i32_376
  let c1_i32_377 : BitVec 32 := 1#32
  let c0_i32_378 : BitVec 32 := 0#32
  let v574 : BitVec 32 := Scalar.select v573 c1_i32_377 c0_i32_378
  let v575 : BitVec 32 := Scalar.addi v562 v574
  let c256_i32_385 : BitVec 32 := 256#32
  let v586 : BitVec 1 := Scalar.cmpi .sle v585 c256_i32_385
  let c1_i32_386 : BitVec 32 := 1#32
  let c0_i32_387 : BitVec 32 := 0#32
  let v587 : BitVec 32 := Scalar.select v586 c1_i32_386 c0_i32_387
  let v588 : BitVec 32 := Scalar.addi v575 v587
  let c256_i32_394 : BitVec 32 := 256#32
  let v599 : BitVec 1 := Scalar.cmpi .sle v598 c256_i32_394
  let c1_i32_395 : BitVec 32 := 1#32
  let c0_i32_396 : BitVec 32 := 0#32
  let v600 : BitVec 32 := Scalar.select v599 c1_i32_395 c0_i32_396
  let v601 : BitVec 32 := Scalar.addi v588 v600
  let c256_i32_403 : BitVec 32 := 256#32
  let v612 : BitVec 1 := Scalar.cmpi .sle v611 c256_i32_403
  let c1_i32_404 : BitVec 32 := 1#32
  let c0_i32_405 : BitVec 32 := 0#32
  let v613 : BitVec 32 := Scalar.select v612 c1_i32_404 c0_i32_405
  let v614 : BitVec 32 := Scalar.addi v601 v613
  let c256_i32_412 : BitVec 32 := 256#32
  let v625 : BitVec 1 := Scalar.cmpi .sle v624 c256_i32_412
  let c1_i32_413 : BitVec 32 := 1#32
  let c0_i32_414 : BitVec 32 := 0#32
  let v626 : BitVec 32 := Scalar.select v625 c1_i32_413 c0_i32_414
  let v627 : BitVec 32 := Scalar.addi v614 v626
  let c256_i32_421 : BitVec 32 := 256#32
  let v638 : BitVec 1 := Scalar.cmpi .sle v637 c256_i32_421
  let c1_i32_422 : BitVec 32 := 1#32
  let c0_i32_423 : BitVec 32 := 0#32
  let v639 : BitVec 32 := Scalar.select v638 c1_i32_422 c0_i32_423
  let v640 : BitVec 32 := Scalar.addi v627 v639
  let c256_i32_430 : BitVec 32 := 256#32
  let v651 : BitVec 1 := Scalar.cmpi .sle v650 c256_i32_430
  let c1_i32_431 : BitVec 32 := 1#32
  let c0_i32_432 : BitVec 32 := 0#32
  let v652 : BitVec 32 := Scalar.select v651 c1_i32_431 c0_i32_432
  let v653 : BitVec 32 := Scalar.addi v640 v652
  let c256_i32_439 : BitVec 32 := 256#32
  let v664 : BitVec 1 := Scalar.cmpi .sle v663 c256_i32_439
  let c1_i32_440 : BitVec 32 := 1#32
  let c0_i32_441 : BitVec 32 := 0#32
  let v665 : BitVec 32 := Scalar.select v664 c1_i32_440 c0_i32_441
  let v666 : BitVec 32 := Scalar.addi v653 v665
  let c256_i32_448 : BitVec 32 := 256#32
  let v677 : BitVec 1 := Scalar.cmpi .sle v676 c256_i32_448
  let c1_i32_449 : BitVec 32 := 1#32
  let c0_i32_450 : BitVec 32 := 0#32
  let v678 : BitVec 32 := Scalar.select v677 c1_i32_449 c0_i32_450
  let v679 : BitVec 32 := Scalar.addi v666 v678
  let c256_i32_457 : BitVec 32 := 256#32
  let v690 : BitVec 1 := Scalar.cmpi .sle v689 c256_i32_457
  let c1_i32_458 : BitVec 32 := 1#32
  let c0_i32_459 : BitVec 32 := 0#32
  let v691 : BitVec 32 := Scalar.select v690 c1_i32_458 c0_i32_459
  let v692 : BitVec 32 := Scalar.addi v679 v691
  let c256_i32_466 : BitVec 32 := 256#32
  let v703 : BitVec 1 := Scalar.cmpi .sle v702 c256_i32_466
  let c1_i32_467 : BitVec 32 := 1#32
  let c0_i32_468 : BitVec 32 := 0#32
  let v704 : BitVec 32 := Scalar.select v703 c1_i32_467 c0_i32_468
  let v705 : BitVec 32 := Scalar.addi v692 v704
  let c256_i32_475 : BitVec 32 := 256#32
  let v716 : BitVec 1 := Scalar.cmpi .sle v715 c256_i32_475
  let c1_i32_476 : BitVec 32 := 1#32
  let c0_i32_477 : BitVec 32 := 0#32
  let v717 : BitVec 32 := Scalar.select v716 c1_i32_476 c0_i32_477
  let v718 : BitVec 32 := Scalar.addi v705 v717
  let c256_i32_484 : BitVec 32 := 256#32
  let v729 : BitVec 1 := Scalar.cmpi .sle v728 c256_i32_484
  let c1_i32_485 : BitVec 32 := 1#32
  let c0_i32_486 : BitVec 32 := 0#32
  let v730 : BitVec 32 := Scalar.select v729 c1_i32_485 c0_i32_486
  let v731 : BitVec 32 := Scalar.addi v718 v730
  let c256_i32_493 : BitVec 32 := 256#32
  let v742 : BitVec 1 := Scalar.cmpi .sle v741 c256_i32_493
  let c1_i32_494 : BitVec 32 := 1#32
  let c0_i32_495 : BitVec 32 := 0#32
  let v743 : BitVec 32 := Scalar.select v742 c1_i32_494 c0_i32_495
  let v744 : BitVec 32 := Scalar.addi v731 v743
  let c10_i32_500 : BitVec 32 := 10#32
  let v751 : BitVec 32 := Scalar.minsi v744 c10_i32_500
  let c6_i32_519 : BitVec 32 := 6#32
  let v785 : BitVec 32 := Scalar.addi v751 c6_i32_519
  let v786 : BitVec 32 := Scalar.maxsi v744 v785
  let c0_i32_364 : BitVec 32 := 0#32
  let c384_i32 : BitVec 32 := 384#32
  let v553 : BitVec 1 := Scalar.cmpi .slt v552 c384_i32
  let c1_i32_362 : BitVec 32 := 1#32
  let c0_i32_363 : BitVec 32 := 0#32
  let v554 : BitVec 32 := Scalar.select v553 c1_i32_362 c0_i32_363
  let v555 : BitVec 32 := Scalar.addi c0_i32_364 v554
  let c384_i32_371 : BitVec 32 := 384#32
  let v566 : BitVec 1 := Scalar.cmpi .slt v565 c384_i32_371
  let c1_i32_372 : BitVec 32 := 1#32
  let c0_i32_373 : BitVec 32 := 0#32
  let v567 : BitVec 32 := Scalar.select v566 c1_i32_372 c0_i32_373
  let v568 : BitVec 32 := Scalar.addi v555 v567
  let c384_i32_380 : BitVec 32 := 384#32
  let v579 : BitVec 1 := Scalar.cmpi .slt v578 c384_i32_380
  let c1_i32_381 : BitVec 32 := 1#32
  let c0_i32_382 : BitVec 32 := 0#32
  let v580 : BitVec 32 := Scalar.select v579 c1_i32_381 c0_i32_382
  let v581 : BitVec 32 := Scalar.addi v568 v580
  let c384_i32_389 : BitVec 32 := 384#32
  let v592 : BitVec 1 := Scalar.cmpi .slt v591 c384_i32_389
  let c1_i32_390 : BitVec 32 := 1#32
  let c0_i32_391 : BitVec 32 := 0#32
  let v593 : BitVec 32 := Scalar.select v592 c1_i32_390 c0_i32_391
  let v594 : BitVec 32 := Scalar.addi v581 v593
  let c384_i32_398 : BitVec 32 := 384#32
  let v605 : BitVec 1 := Scalar.cmpi .slt v604 c384_i32_398
  let c1_i32_399 : BitVec 32 := 1#32
  let c0_i32_400 : BitVec 32 := 0#32
  let v606 : BitVec 32 := Scalar.select v605 c1_i32_399 c0_i32_400
  let v607 : BitVec 32 := Scalar.addi v594 v606
  let c384_i32_407 : BitVec 32 := 384#32
  let v618 : BitVec 1 := Scalar.cmpi .slt v617 c384_i32_407
  let c1_i32_408 : BitVec 32 := 1#32
  let c0_i32_409 : BitVec 32 := 0#32
  let v619 : BitVec 32 := Scalar.select v618 c1_i32_408 c0_i32_409
  let v620 : BitVec 32 := Scalar.addi v607 v619
  let c384_i32_416 : BitVec 32 := 384#32
  let v631 : BitVec 1 := Scalar.cmpi .slt v630 c384_i32_416
  let c1_i32_417 : BitVec 32 := 1#32
  let c0_i32_418 : BitVec 32 := 0#32
  let v632 : BitVec 32 := Scalar.select v631 c1_i32_417 c0_i32_418
  let v633 : BitVec 32 := Scalar.addi v620 v632
  let c384_i32_425 : BitVec 32 := 384#32
  let v644 : BitVec 1 := Scalar.cmpi .slt v643 c384_i32_425
  let c1_i32_426 : BitVec 32 := 1#32
  let c0_i32_427 : BitVec 32 := 0#32
  let v645 : BitVec 32 := Scalar.select v644 c1_i32_426 c0_i32_427
  let v646 : BitVec 32 := Scalar.addi v633 v645
  let c384_i32_434 : BitVec 32 := 384#32
  let v657 : BitVec 1 := Scalar.cmpi .slt v656 c384_i32_434
  let c1_i32_435 : BitVec 32 := 1#32
  let c0_i32_436 : BitVec 32 := 0#32
  let v658 : BitVec 32 := Scalar.select v657 c1_i32_435 c0_i32_436
  let v659 : BitVec 32 := Scalar.addi v646 v658
  let c384_i32_443 : BitVec 32 := 384#32
  let v670 : BitVec 1 := Scalar.cmpi .slt v669 c384_i32_443
  let c1_i32_444 : BitVec 32 := 1#32
  let c0_i32_445 : BitVec 32 := 0#32
  let v671 : BitVec 32 := Scalar.select v670 c1_i32_444 c0_i32_445
  let v672 : BitVec 32 := Scalar.addi v659 v671
  let c384_i32_452 : BitVec 32 := 384#32
  let v683 : BitVec 1 := Scalar.cmpi .slt v682 c384_i32_452
  let c1_i32_453 : BitVec 32 := 1#32
  let c0_i32_454 : BitVec 32 := 0#32
  let v684 : BitVec 32 := Scalar.select v683 c1_i32_453 c0_i32_454
  let v685 : BitVec 32 := Scalar.addi v672 v684
  let c384_i32_461 : BitVec 32 := 384#32
  let v696 : BitVec 1 := Scalar.cmpi .slt v695 c384_i32_461
  let c1_i32_462 : BitVec 32 := 1#32
  let c0_i32_463 : BitVec 32 := 0#32
  let v697 : BitVec 32 := Scalar.select v696 c1_i32_462 c0_i32_463
  let v698 : BitVec 32 := Scalar.addi v685 v697
  let c384_i32_470 : BitVec 32 := 384#32
  let v709 : BitVec 1 := Scalar.cmpi .slt v708 c384_i32_470
  let c1_i32_471 : BitVec 32 := 1#32
  let c0_i32_472 : BitVec 32 := 0#32
  let v710 : BitVec 32 := Scalar.select v709 c1_i32_471 c0_i32_472
  let v711 : BitVec 32 := Scalar.addi v698 v710
  let c384_i32_479 : BitVec 32 := 384#32
  let v722 : BitVec 1 := Scalar.cmpi .slt v721 c384_i32_479
  let c1_i32_480 : BitVec 32 := 1#32
  let c0_i32_481 : BitVec 32 := 0#32
  let v723 : BitVec 32 := Scalar.select v722 c1_i32_480 c0_i32_481
  let v724 : BitVec 32 := Scalar.addi v711 v723
  let c384_i32_488 : BitVec 32 := 384#32
  let v735 : BitVec 1 := Scalar.cmpi .slt v734 c384_i32_488
  let c1_i32_489 : BitVec 32 := 1#32
  let c0_i32_490 : BitVec 32 := 0#32
  let v736 : BitVec 32 := Scalar.select v735 c1_i32_489 c0_i32_490
  let v737 : BitVec 32 := Scalar.addi v724 v736
  let c384_i32_497 : BitVec 32 := 384#32
  let v748 : BitVec 1 := Scalar.cmpi .slt v747 c384_i32_497
  let c1_i32_498 : BitVec 32 := 1#32
  let c0_i32_499 : BitVec 32 := 0#32
  let v749 : BitVec 32 := Scalar.select v748 c1_i32_498 c0_i32_499
  let v750 : BitVec 32 := Scalar.addi v737 v749
  let v787 : BitVec 32 := Scalar.subi v750 v786
  let c1_i32_521 : BitVec 32 := 1#32
  let v789 : BitVec 32 := Scalar.divsi v787 c1_i32_521
  let v790 : BitVec 32 := Scalar.muli v789 c1_i32_521
  let v791 : BitVec 32 := Scalar.addi v786 v790
  let c1_i32_523 : BitVec 32 := 1#32
  let arg15 : BitVec 32 := Scf.iv v791 c1_i32_523 k0_t6
  let c256_i32_704 : BitVec 32 := 256#32
  let v1055 : BitVec 32 := Scalar.muli arg15 c256_i32_704
  let v1056 : BitVec 32 := v1055
  let v1078 : Index := Scalar.indexCast v1056
  let c0_717 : Index := 0#32
  ![0, v1078.toNat, 0]

def k0_chk6 (i : grid0.Coords) (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) : Prop :=
  (∀ (k0_h1 : k0_cond1 i = 1#1), (k0_t5_loop v546 v552 v559 v565 v572 v578 v585 v591 v598 v604 v611 v617 v624 v630 v637 v643 v650 v656 v663 v669 v676 v682 v689 v695 v702 v708 v715 v721 v728 v734 v741 v747).OK) ∧
  (∀ k0_t5 : Fin (k0_t5_loop v546 v552 v559 v565 v572 v578 v585 v591 v598 v604 v611 v617 v624 v630 v637 v643 v650 v656 v663 v669 v676 v682 v689 v695 v702 v708 v715 v721 v728 v734 v741 v747).trips, ∀ (k0_h1 : k0_cond1 i = 1#1), 256 ∣ (k0_mult8 v546 v552 v559 v565 v572 v578 v585 v591 v598 v604 v611 v617 v624 v630 v637 v643 v650 v656 v663 v669 v676 v682 v689 v695 v702 v708 v715 v721 v728 v734 v741 v747 k0_t5).toNat) ∧
  (∀ k0_t5 : Fin (k0_t5_loop v546 v552 v559 v565 v572 v578 v585 v591 v598 v604 v611 v617 v624 v630 v637 v643 v650 v656 v663 v669 v676 v682 v689 v695 v702 v708 v715 v721 v728 v734 v741 v747).trips, ∀ (k0_h1 : k0_cond1 i = 1#1), ∀ a, (k0_off21 v546 v552 v559 v565 v572 v578 v585 v591 v598 v604 v611 v617 v624 v630 v637 v643 v650 v656 v663 v669 v676 v682 v689 v695 v702 v708 v715 v721 v728 v734 v741 v747 k0_t5) a + S1x1x1x256.size a ≤ S1x1x1x4096.size a) ∧
  (∀ k0_t5 : Fin (k0_t5_loop v546 v552 v559 v565 v572 v578 v585 v591 v598 v604 v611 v617 v624 v630 v637 v643 v650 v656 v663 v669 v676 v682 v689 v695 v702 v708 v715 v721 v728 v734 v741 v747).trips, ∀ (k0_h1 : k0_cond1 i = 1#1), ∀ a, (k0_off22 v546 v552 v559 v565 v572 v578 v585 v591 v598 v604 v611 v617 v624 v630 v637 v643 v650 v656 v663 v669 v676 v682 v689 v695 v702 v708 v715 v721 v728 v734 v741 v747 k0_t5) a + S1x256x1024.size a ≤ S1x4096x1024.size a) ∧
  (∀ (k0_h1 : k0_cond1 i = 1#1), (k0_t6_loop v546 v552 v559 v565 v572 v578 v585 v591 v598 v604 v611 v617 v624 v630 v637 v643 v650 v656 v663 v669 v676 v682 v689 v695 v702 v708 v715 v721 v728 v734 v741 v747).OK) ∧
  (∀ k0_t6 : Fin (k0_t6_loop v546 v552 v559 v565 v572 v578 v585 v591 v598 v604 v611 v617 v624 v630 v637 v643 v650 v656 v663 v669 v676 v682 v689 v695 v702 v708 v715 v721 v728 v734 v741 v747).trips, ∀ (k0_h1 : k0_cond1 i = 1#1), 256 ∣ (k0_mult9 v546 v552 v559 v565 v572 v578 v585 v591 v598 v604 v611 v617 v624 v630 v637 v643 v650 v656 v663 v669 v676 v682 v689 v695 v702 v708 v715 v721 v728 v734 v741 v747 k0_t6).toNat) ∧
  (∀ k0_t6 : Fin (k0_t6_loop v546 v552 v559 v565 v572 v578 v585 v591 v598 v604 v611 v617 v624 v630 v637 v643 v650 v656 v663 v669 v676 v682 v689 v695 v702 v708 v715 v721 v728 v734 v741 v747).trips, ∀ (k0_h1 : k0_cond1 i = 1#1), ∀ a, (k0_off23 v546 v552 v559 v565 v572 v578 v585 v591 v598 v604 v611 v617 v624 v630 v637 v643 v650 v656 v663 v669 v676 v682 v689 v695 v702 v708 v715 v721 v728 v734 v741 v747 k0_t6) a + S1x1x1x256.size a ≤ S1x1x1x4096.size a) ∧
  (∀ k0_t6 : Fin (k0_t6_loop v546 v552 v559 v565 v572 v578 v585 v591 v598 v604 v611 v617 v624 v630 v637 v643 v650 v656 v663 v669 v676 v682 v689 v695 v702 v708 v715 v721 v728 v734 v741 v747).trips, ∀ (k0_h1 : k0_cond1 i = 1#1), ∀ a, (k0_off24 v546 v552 v559 v565 v572 v578 v585 v591 v598 v604 v611 v617 v624 v630 v637 v643 v650 v656 v663 v669 v676 v682 v689 v695 v702 v708 v715 v721 v728 v734 v741 v747 k0_t6) a + S1x256x1024.size a ≤ S1x4096x1024.size a)
theorem k0_t5_ok : ∀ (i : grid0.Coords) (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_hw6 : k0_chk6 i v546 v552 v559 v565 v572 v578 v585 v591 v598 v604 v611 v617 v624 v630 v637 v643 v650 v656 v663 v669 v676 v682 v689 v695 v702 v708 v715 v721 v728 v734 v741 v747), ∀ (k0_h1 : k0_cond1 i = 1#1), (k0_t5_loop v546 v552 v559 v565 v572 v578 v585 v591 v598 v604 v611 v617 v624 v630 v637 v643 v650 v656 v663 v669 v676 v682 v689 v695 v702 v708 v715 v721 v728 v734 v741 v747).OK := fun i v546 v552 v559 v565 v572 v578 v585 v591 v598 v604 v611 v617 v624 v630 v637 v643 v650 v656 v663 v669 v676 v682 v689 v695 v702 v708 v715 v721 v728 v734 v741 v747 k0_hw6 k0_h1 => k0_hw6.1 k0_h1
theorem k0_mult8_dvd : ∀ (i : grid0.Coords) (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_hw6 : k0_chk6 i v546 v552 v559 v565 v572 v578 v585 v591 v598 v604 v611 v617 v624 v630 v637 v643 v650 v656 v663 v669 v676 v682 v689 v695 v702 v708 v715 v721 v728 v734 v741 v747) (k0_t5 : Fin (k0_t5_loop v546 v552 v559 v565 v572 v578 v585 v591 v598 v604 v611 v617 v624 v630 v637 v643 v650 v656 v663 v669 v676 v682 v689 v695 v702 v708 v715 v721 v728 v734 v741 v747).trips), ∀ (k0_h1 : k0_cond1 i = 1#1), 256 ∣ (k0_mult8 v546 v552 v559 v565 v572 v578 v585 v591 v598 v604 v611 v617 v624 v630 v637 v643 v650 v656 v663 v669 v676 v682 v689 v695 v702 v708 v715 v721 v728 v734 v741 v747 k0_t5).toNat := fun i v546 v552 v559 v565 v572 v578 v585 v591 v598 v604 v611 v617 v624 v630 v637 v643 v650 v656 v663 v669 v676 v682 v689 v695 v702 v708 v715 v721 v728 v734 v741 v747 k0_hw6 k0_t5 k0_h1 => k0_hw6.2.1 k0_t5 k0_h1
theorem k0_off21_inb : ∀ (i : grid0.Coords) (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_hw6 : k0_chk6 i v546 v552 v559 v565 v572 v578 v585 v591 v598 v604 v611 v617 v624 v630 v637 v643 v650 v656 v663 v669 v676 v682 v689 v695 v702 v708 v715 v721 v728 v734 v741 v747) (k0_t5 : Fin (k0_t5_loop v546 v552 v559 v565 v572 v578 v585 v591 v598 v604 v611 v617 v624 v630 v637 v643 v650 v656 v663 v669 v676 v682 v689 v695 v702 v708 v715 v721 v728 v734 v741 v747).trips), ∀ (k0_h1 : k0_cond1 i = 1#1), ∀ a, (k0_off21 v546 v552 v559 v565 v572 v578 v585 v591 v598 v604 v611 v617 v624 v630 v637 v643 v650 v656 v663 v669 v676 v682 v689 v695 v702 v708 v715 v721 v728 v734 v741 v747 k0_t5) a + S1x1x1x256.size a ≤ S1x1x1x4096.size a := fun i v546 v552 v559 v565 v572 v578 v585 v591 v598 v604 v611 v617 v624 v630 v637 v643 v650 v656 v663 v669 v676 v682 v689 v695 v702 v708 v715 v721 v728 v734 v741 v747 k0_hw6 k0_t5 k0_h1 => k0_hw6.2.2.1 k0_t5 k0_h1
theorem k0_off22_inb : ∀ (i : grid0.Coords) (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_hw6 : k0_chk6 i v546 v552 v559 v565 v572 v578 v585 v591 v598 v604 v611 v617 v624 v630 v637 v643 v650 v656 v663 v669 v676 v682 v689 v695 v702 v708 v715 v721 v728 v734 v741 v747) (k0_t5 : Fin (k0_t5_loop v546 v552 v559 v565 v572 v578 v585 v591 v598 v604 v611 v617 v624 v630 v637 v643 v650 v656 v663 v669 v676 v682 v689 v695 v702 v708 v715 v721 v728 v734 v741 v747).trips), ∀ (k0_h1 : k0_cond1 i = 1#1), ∀ a, (k0_off22 v546 v552 v559 v565 v572 v578 v585 v591 v598 v604 v611 v617 v624 v630 v637 v643 v650 v656 v663 v669 v676 v682 v689 v695 v702 v708 v715 v721 v728 v734 v741 v747 k0_t5) a + S1x256x1024.size a ≤ S1x4096x1024.size a := fun i v546 v552 v559 v565 v572 v578 v585 v591 v598 v604 v611 v617 v624 v630 v637 v643 v650 v656 v663 v669 v676 v682 v689 v695 v702 v708 v715 v721 v728 v734 v741 v747 k0_hw6 k0_t5 k0_h1 => k0_hw6.2.2.2.1 k0_t5 k0_h1
theorem k0_t6_ok : ∀ (i : grid0.Coords) (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_hw6 : k0_chk6 i v546 v552 v559 v565 v572 v578 v585 v591 v598 v604 v611 v617 v624 v630 v637 v643 v650 v656 v663 v669 v676 v682 v689 v695 v702 v708 v715 v721 v728 v734 v741 v747), ∀ (k0_h1 : k0_cond1 i = 1#1), (k0_t6_loop v546 v552 v559 v565 v572 v578 v585 v591 v598 v604 v611 v617 v624 v630 v637 v643 v650 v656 v663 v669 v676 v682 v689 v695 v702 v708 v715 v721 v728 v734 v741 v747).OK := fun i v546 v552 v559 v565 v572 v578 v585 v591 v598 v604 v611 v617 v624 v630 v637 v643 v650 v656 v663 v669 v676 v682 v689 v695 v702 v708 v715 v721 v728 v734 v741 v747 k0_hw6 k0_h1 => k0_hw6.2.2.2.2.1 k0_h1
theorem k0_mult9_dvd : ∀ (i : grid0.Coords) (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_hw6 : k0_chk6 i v546 v552 v559 v565 v572 v578 v585 v591 v598 v604 v611 v617 v624 v630 v637 v643 v650 v656 v663 v669 v676 v682 v689 v695 v702 v708 v715 v721 v728 v734 v741 v747) (k0_t6 : Fin (k0_t6_loop v546 v552 v559 v565 v572 v578 v585 v591 v598 v604 v611 v617 v624 v630 v637 v643 v650 v656 v663 v669 v676 v682 v689 v695 v702 v708 v715 v721 v728 v734 v741 v747).trips), ∀ (k0_h1 : k0_cond1 i = 1#1), 256 ∣ (k0_mult9 v546 v552 v559 v565 v572 v578 v585 v591 v598 v604 v611 v617 v624 v630 v637 v643 v650 v656 v663 v669 v676 v682 v689 v695 v702 v708 v715 v721 v728 v734 v741 v747 k0_t6).toNat := fun i v546 v552 v559 v565 v572 v578 v585 v591 v598 v604 v611 v617 v624 v630 v637 v643 v650 v656 v663 v669 v676 v682 v689 v695 v702 v708 v715 v721 v728 v734 v741 v747 k0_hw6 k0_t6 k0_h1 => k0_hw6.2.2.2.2.2.1 k0_t6 k0_h1
theorem k0_off23_inb : ∀ (i : grid0.Coords) (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_hw6 : k0_chk6 i v546 v552 v559 v565 v572 v578 v585 v591 v598 v604 v611 v617 v624 v630 v637 v643 v650 v656 v663 v669 v676 v682 v689 v695 v702 v708 v715 v721 v728 v734 v741 v747) (k0_t6 : Fin (k0_t6_loop v546 v552 v559 v565 v572 v578 v585 v591 v598 v604 v611 v617 v624 v630 v637 v643 v650 v656 v663 v669 v676 v682 v689 v695 v702 v708 v715 v721 v728 v734 v741 v747).trips), ∀ (k0_h1 : k0_cond1 i = 1#1), ∀ a, (k0_off23 v546 v552 v559 v565 v572 v578 v585 v591 v598 v604 v611 v617 v624 v630 v637 v643 v650 v656 v663 v669 v676 v682 v689 v695 v702 v708 v715 v721 v728 v734 v741 v747 k0_t6) a + S1x1x1x256.size a ≤ S1x1x1x4096.size a := fun i v546 v552 v559 v565 v572 v578 v585 v591 v598 v604 v611 v617 v624 v630 v637 v643 v650 v656 v663 v669 v676 v682 v689 v695 v702 v708 v715 v721 v728 v734 v741 v747 k0_hw6 k0_t6 k0_h1 => k0_hw6.2.2.2.2.2.2.1 k0_t6 k0_h1
theorem k0_off24_inb : ∀ (i : grid0.Coords) (v546 : BitVec 32) (v552 : BitVec 32) (v559 : BitVec 32) (v565 : BitVec 32) (v572 : BitVec 32) (v578 : BitVec 32) (v585 : BitVec 32) (v591 : BitVec 32) (v598 : BitVec 32) (v604 : BitVec 32) (v611 : BitVec 32) (v617 : BitVec 32) (v624 : BitVec 32) (v630 : BitVec 32) (v637 : BitVec 32) (v643 : BitVec 32) (v650 : BitVec 32) (v656 : BitVec 32) (v663 : BitVec 32) (v669 : BitVec 32) (v676 : BitVec 32) (v682 : BitVec 32) (v689 : BitVec 32) (v695 : BitVec 32) (v702 : BitVec 32) (v708 : BitVec 32) (v715 : BitVec 32) (v721 : BitVec 32) (v728 : BitVec 32) (v734 : BitVec 32) (v741 : BitVec 32) (v747 : BitVec 32) (k0_hw6 : k0_chk6 i v546 v552 v559 v565 v572 v578 v585 v591 v598 v604 v611 v617 v624 v630 v637 v643 v650 v656 v663 v669 v676 v682 v689 v695 v702 v708 v715 v721 v728 v734 v741 v747) (k0_t6 : Fin (k0_t6_loop v546 v552 v559 v565 v572 v578 v585 v591 v598 v604 v611 v617 v624 v630 v637 v643 v650 v656 v663 v669 v676 v682 v689 v695 v702 v708 v715 v721 v728 v734 v741 v747).trips), ∀ (k0_h1 : k0_cond1 i = 1#1), ∀ a, (k0_off24 v546 v552 v559 v565 v572 v578 v585 v591 v598 v604 v611 v617 v624 v630 v637 v643 v650 v656 v663 v669 v676 v682 v689 v695 v702 v708 v715 v721 v728 v734 v741 v747 k0_t6) a + S1x256x1024.size a ≤ S1x4096x1024.size a := fun i v546 v552 v559 v565 v572 v578 v585 v591 v598 v604 v611 v617 v624 v630 v637 v643 v650 v656 v663 v669 v676 v682 v689 v695 v702 v708 v715 v721 v728 v734 v741 v747 k0_hw6 k0_t6 k0_h1 => k0_hw6.2.2.2.2.2.2.2 k0_t6 k0_h1

def k0_off25 (i : grid0.Coords) (c0_i32_528 : BitVec 32) : Fin 1 → Nat :=
  let arg0 : BitVec 32 := BitVec.ofNat 32 (i 0).val
  let c16_i32 : BitVec 32 := 16#32
  let v31 : BitVec 32 := Scalar.muli arg0 c16_i32
  let arg1 : BitVec 32 := BitVec.ofNat 32 (i 1).val
  let v32 : BitVec 32 := Scalar.addi v31 arg1
  let c128_i32 : BitVec 32 := 128#32
  let v33 : BitVec 32 := Scalar.muli v32 c128_i32
  let v797 : BitVec 32 := Scalar.addi v33 c0_i32_528
  let c1_i32_529 : BitVec 32 := 1#32
  let v798 : BitVec 32 := Scalar.addi v797 c1_i32_529
  let v799 : Index := Scalar.indexCast v798
  ![v799.toNat]
def k0_off26 (i : grid0.Coords) (c0_i32_534 : BitVec 32) : Fin 1 → Nat :=
  let arg0 : BitVec 32 := BitVec.ofNat 32 (i 0).val
  let c16_i32 : BitVec 32 := 16#32
  let v31 : BitVec 32 := Scalar.muli arg0 c16_i32
  let arg1 : BitVec 32 := BitVec.ofNat 32 (i 1).val
  let v32 : BitVec 32 := Scalar.addi v31 arg1
  let c128_i32 : BitVec 32 := 128#32
  let v33 : BitVec 32 := Scalar.muli v32 c128_i32
  let v804 : BitVec 32 := Scalar.addi v33 c0_i32_534
  let v805 : Index := Scalar.indexCast v804
  ![v805.toNat]
def k0_mult10 (v800 : BitVec 32) (v813 : BitVec 32) (v826 : BitVec 32) (v839 : BitVec 32) (v852 : BitVec 32) (v865 : BitVec 32) (v878 : BitVec 32) (v891 : BitVec 32) (v904 : BitVec 32) (v917 : BitVec 32) (v930 : BitVec 32) (v943 : BitVec 32) (v956 : BitVec 32) (v969 : BitVec 32) (v982 : BitVec 32) (v995 : BitVec 32) : BitVec 32 :=
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c256_i32_674 : BitVec 32 := 256#32
  let v1006 : BitVec 32 := Scalar.muli v1005 c256_i32_674
  v1006

def k0_off27 (v800 : BitVec 32) (v813 : BitVec 32) (v826 : BitVec 32) (v839 : BitVec 32) (v852 : BitVec 32) (v865 : BitVec 32) (v878 : BitVec 32) (v891 : BitVec 32) (v904 : BitVec 32) (v917 : BitVec 32) (v930 : BitVec 32) (v943 : BitVec 32) (v956 : BitVec 32) (v969 : BitVec 32) (v982 : BitVec 32) (v995 : BitVec 32) : Fin 4 → Nat :=
  let c0_675 : Index := 0#32
  let c0_676 : Index := 0#32
  let c0_677 : Index := 0#32
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c256_i32_674 : BitVec 32 := 256#32
  let v1006 : BitVec 32 := Scalar.muli v1005 c256_i32_674
  let v1007 : BitVec 32 := v1006
  let v1008 : Index := Scalar.indexCast v1007
  ![0, 0, 0, v1008.toNat]
def k0_off28 (v800 : BitVec 32) (v813 : BitVec 32) (v826 : BitVec 32) (v839 : BitVec 32) (v852 : BitVec 32) (v865 : BitVec 32) (v878 : BitVec 32) (v891 : BitVec 32) (v904 : BitVec 32) (v917 : BitVec 32) (v930 : BitVec 32) (v943 : BitVec 32) (v956 : BitVec 32) (v969 : BitVec 32) (v982 : BitVec 32) (v995 : BitVec 32) : Fin 3 → Nat :=
  let c0_686 : Index := 0#32
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c256_i32_674 : BitVec 32 := 256#32
  let v1006 : BitVec 32 := Scalar.muli v1005 c256_i32_674
  let v1007 : BitVec 32 := v1006
  let v1029 : Index := Scalar.indexCast v1007
  let c0_687 : Index := 0#32
  ![0, v1029.toNat, 0]

def k0_chk7 (i : grid0.Coords) (v800 : BitVec 32) (v813 : BitVec 32) (v826 : BitVec 32) (v839 : BitVec 32) (v852 : BitVec 32) (v865 : BitVec 32) (v878 : BitVec 32) (v891 : BitVec 32) (v904 : BitVec 32) (v917 : BitVec 32) (v930 : BitVec 32) (v943 : BitVec 32) (v956 : BitVec 32) (v969 : BitVec 32) (v982 : BitVec 32) (v995 : BitVec 32) : Prop :=
  (∀ (k0_h1 : k0_cond1 i = 1#1), 256 ∣ (k0_mult10 v800 v813 v826 v839 v852 v865 v878 v891 v904 v917 v930 v943 v956 v969 v982 v995).toNat) ∧
  (∀ (k0_h1 : k0_cond1 i = 1#1), ∀ a, (k0_off27 v800 v813 v826 v839 v852 v865 v878 v891 v904 v917 v930 v943 v956 v969 v982 v995) a + S1x1x1x1536.size a ≤ S1x1x1x4096.size a) ∧
  (∀ (k0_h1 : k0_cond1 i = 1#1), ∀ a, (k0_off28 v800 v813 v826 v839 v852 v865 v878 v891 v904 v917 v930 v943 v956 v969 v982 v995) a + S1x1536x1024.size a ≤ S1x4096x1024.size a)
theorem k0_mult10_dvd : ∀ (i : grid0.Coords) (v800 : BitVec 32) (v813 : BitVec 32) (v826 : BitVec 32) (v839 : BitVec 32) (v852 : BitVec 32) (v865 : BitVec 32) (v878 : BitVec 32) (v891 : BitVec 32) (v904 : BitVec 32) (v917 : BitVec 32) (v930 : BitVec 32) (v943 : BitVec 32) (v956 : BitVec 32) (v969 : BitVec 32) (v982 : BitVec 32) (v995 : BitVec 32) (k0_hw7 : k0_chk7 i v800 v813 v826 v839 v852 v865 v878 v891 v904 v917 v930 v943 v956 v969 v982 v995), ∀ (k0_h1 : k0_cond1 i = 1#1), 256 ∣ (k0_mult10 v800 v813 v826 v839 v852 v865 v878 v891 v904 v917 v930 v943 v956 v969 v982 v995).toNat := fun i v800 v813 v826 v839 v852 v865 v878 v891 v904 v917 v930 v943 v956 v969 v982 v995 k0_hw7 k0_h1 => k0_hw7.1 k0_h1
theorem k0_off27_inb : ∀ (i : grid0.Coords) (v800 : BitVec 32) (v813 : BitVec 32) (v826 : BitVec 32) (v839 : BitVec 32) (v852 : BitVec 32) (v865 : BitVec 32) (v878 : BitVec 32) (v891 : BitVec 32) (v904 : BitVec 32) (v917 : BitVec 32) (v930 : BitVec 32) (v943 : BitVec 32) (v956 : BitVec 32) (v969 : BitVec 32) (v982 : BitVec 32) (v995 : BitVec 32) (k0_hw7 : k0_chk7 i v800 v813 v826 v839 v852 v865 v878 v891 v904 v917 v930 v943 v956 v969 v982 v995), ∀ (k0_h1 : k0_cond1 i = 1#1), ∀ a, (k0_off27 v800 v813 v826 v839 v852 v865 v878 v891 v904 v917 v930 v943 v956 v969 v982 v995) a + S1x1x1x1536.size a ≤ S1x1x1x4096.size a := fun i v800 v813 v826 v839 v852 v865 v878 v891 v904 v917 v930 v943 v956 v969 v982 v995 k0_hw7 k0_h1 => k0_hw7.2.1 k0_h1
theorem k0_off28_inb : ∀ (i : grid0.Coords) (v800 : BitVec 32) (v813 : BitVec 32) (v826 : BitVec 32) (v839 : BitVec 32) (v852 : BitVec 32) (v865 : BitVec 32) (v878 : BitVec 32) (v891 : BitVec 32) (v904 : BitVec 32) (v917 : BitVec 32) (v930 : BitVec 32) (v943 : BitVec 32) (v956 : BitVec 32) (v969 : BitVec 32) (v982 : BitVec 32) (v995 : BitVec 32) (k0_hw7 : k0_chk7 i v800 v813 v826 v839 v852 v865 v878 v891 v904 v917 v930 v943 v956 v969 v982 v995), ∀ (k0_h1 : k0_cond1 i = 1#1), ∀ a, (k0_off28 v800 v813 v826 v839 v852 v865 v878 v891 v904 v917 v930 v943 v956 v969 v982 v995) a + S1x1536x1024.size a ≤ S1x4096x1024.size a := fun i v800 v813 v826 v839 v852 v865 v878 v891 v904 v917 v930 v943 v956 v969 v982 v995 k0_hw7 k0_h1 => k0_hw7.2.2 k0_h1

@[reducible] def k0_t7_loop (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) : Scf.Loop 32 :=
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c6_i32_692 : BitVec 32 := 6#32
  let v1039 : BitVec 32 := Scalar.addi v1005 c6_i32_692
  let v1040 : BitVec 32 := Scalar.maxsi v998 v1039
  let c0_i32_537 : BitVec 32 := 0#32
  let c512_i32 : BitVec 32 := 512#32
  let v807 : BitVec 1 := Scalar.cmpi .slt v806 c512_i32
  let c1_i32_535 : BitVec 32 := 1#32
  let c0_i32_536 : BitVec 32 := 0#32
  let v808 : BitVec 32 := Scalar.select v807 c1_i32_535 c0_i32_536
  let v809 : BitVec 32 := Scalar.addi c0_i32_537 v808
  let c512_i32_544 : BitVec 32 := 512#32
  let v820 : BitVec 1 := Scalar.cmpi .slt v819 c512_i32_544
  let c1_i32_545 : BitVec 32 := 1#32
  let c0_i32_546 : BitVec 32 := 0#32
  let v821 : BitVec 32 := Scalar.select v820 c1_i32_545 c0_i32_546
  let v822 : BitVec 32 := Scalar.addi v809 v821
  let c512_i32_553 : BitVec 32 := 512#32
  let v833 : BitVec 1 := Scalar.cmpi .slt v832 c512_i32_553
  let c1_i32_554 : BitVec 32 := 1#32
  let c0_i32_555 : BitVec 32 := 0#32
  let v834 : BitVec 32 := Scalar.select v833 c1_i32_554 c0_i32_555
  let v835 : BitVec 32 := Scalar.addi v822 v834
  let c512_i32_562 : BitVec 32 := 512#32
  let v846 : BitVec 1 := Scalar.cmpi .slt v845 c512_i32_562
  let c1_i32_563 : BitVec 32 := 1#32
  let c0_i32_564 : BitVec 32 := 0#32
  let v847 : BitVec 32 := Scalar.select v846 c1_i32_563 c0_i32_564
  let v848 : BitVec 32 := Scalar.addi v835 v847
  let c512_i32_571 : BitVec 32 := 512#32
  let v859 : BitVec 1 := Scalar.cmpi .slt v858 c512_i32_571
  let c1_i32_572 : BitVec 32 := 1#32
  let c0_i32_573 : BitVec 32 := 0#32
  let v860 : BitVec 32 := Scalar.select v859 c1_i32_572 c0_i32_573
  let v861 : BitVec 32 := Scalar.addi v848 v860
  let c512_i32_580 : BitVec 32 := 512#32
  let v872 : BitVec 1 := Scalar.cmpi .slt v871 c512_i32_580
  let c1_i32_581 : BitVec 32 := 1#32
  let c0_i32_582 : BitVec 32 := 0#32
  let v873 : BitVec 32 := Scalar.select v872 c1_i32_581 c0_i32_582
  let v874 : BitVec 32 := Scalar.addi v861 v873
  let c512_i32_589 : BitVec 32 := 512#32
  let v885 : BitVec 1 := Scalar.cmpi .slt v884 c512_i32_589
  let c1_i32_590 : BitVec 32 := 1#32
  let c0_i32_591 : BitVec 32 := 0#32
  let v886 : BitVec 32 := Scalar.select v885 c1_i32_590 c0_i32_591
  let v887 : BitVec 32 := Scalar.addi v874 v886
  let c512_i32_598 : BitVec 32 := 512#32
  let v898 : BitVec 1 := Scalar.cmpi .slt v897 c512_i32_598
  let c1_i32_599 : BitVec 32 := 1#32
  let c0_i32_600 : BitVec 32 := 0#32
  let v899 : BitVec 32 := Scalar.select v898 c1_i32_599 c0_i32_600
  let v900 : BitVec 32 := Scalar.addi v887 v899
  let c512_i32_607 : BitVec 32 := 512#32
  let v911 : BitVec 1 := Scalar.cmpi .slt v910 c512_i32_607
  let c1_i32_608 : BitVec 32 := 1#32
  let c0_i32_609 : BitVec 32 := 0#32
  let v912 : BitVec 32 := Scalar.select v911 c1_i32_608 c0_i32_609
  let v913 : BitVec 32 := Scalar.addi v900 v912
  let c512_i32_616 : BitVec 32 := 512#32
  let v924 : BitVec 1 := Scalar.cmpi .slt v923 c512_i32_616
  let c1_i32_617 : BitVec 32 := 1#32
  let c0_i32_618 : BitVec 32 := 0#32
  let v925 : BitVec 32 := Scalar.select v924 c1_i32_617 c0_i32_618
  let v926 : BitVec 32 := Scalar.addi v913 v925
  let c512_i32_625 : BitVec 32 := 512#32
  let v937 : BitVec 1 := Scalar.cmpi .slt v936 c512_i32_625
  let c1_i32_626 : BitVec 32 := 1#32
  let c0_i32_627 : BitVec 32 := 0#32
  let v938 : BitVec 32 := Scalar.select v937 c1_i32_626 c0_i32_627
  let v939 : BitVec 32 := Scalar.addi v926 v938
  let c512_i32_634 : BitVec 32 := 512#32
  let v950 : BitVec 1 := Scalar.cmpi .slt v949 c512_i32_634
  let c1_i32_635 : BitVec 32 := 1#32
  let c0_i32_636 : BitVec 32 := 0#32
  let v951 : BitVec 32 := Scalar.select v950 c1_i32_635 c0_i32_636
  let v952 : BitVec 32 := Scalar.addi v939 v951
  let c512_i32_643 : BitVec 32 := 512#32
  let v963 : BitVec 1 := Scalar.cmpi .slt v962 c512_i32_643
  let c1_i32_644 : BitVec 32 := 1#32
  let c0_i32_645 : BitVec 32 := 0#32
  let v964 : BitVec 32 := Scalar.select v963 c1_i32_644 c0_i32_645
  let v965 : BitVec 32 := Scalar.addi v952 v964
  let c512_i32_652 : BitVec 32 := 512#32
  let v976 : BitVec 1 := Scalar.cmpi .slt v975 c512_i32_652
  let c1_i32_653 : BitVec 32 := 1#32
  let c0_i32_654 : BitVec 32 := 0#32
  let v977 : BitVec 32 := Scalar.select v976 c1_i32_653 c0_i32_654
  let v978 : BitVec 32 := Scalar.addi v965 v977
  let c512_i32_661 : BitVec 32 := 512#32
  let v989 : BitVec 1 := Scalar.cmpi .slt v988 c512_i32_661
  let c1_i32_662 : BitVec 32 := 1#32
  let c0_i32_663 : BitVec 32 := 0#32
  let v990 : BitVec 32 := Scalar.select v989 c1_i32_662 c0_i32_663
  let v991 : BitVec 32 := Scalar.addi v978 v990
  let c512_i32_670 : BitVec 32 := 512#32
  let v1002 : BitVec 1 := Scalar.cmpi .slt v1001 c512_i32_670
  let c1_i32_671 : BitVec 32 := 1#32
  let c0_i32_672 : BitVec 32 := 0#32
  let v1003 : BitVec 32 := Scalar.select v1002 c1_i32_671 c0_i32_672
  let v1004 : BitVec 32 := Scalar.addi v991 v1003
  let v1041 : BitVec 32 := Scalar.subi v1004 v1040
  let c1_i32_694 : BitVec 32 := 1#32
  let v1043 : BitVec 32 := Scalar.divsi v1041 c1_i32_694
  let v1044 : BitVec 32 := Scalar.muli v1043 c1_i32_694
  let v1045 : BitVec 32 := Scalar.addi v1040 v1044
  let c1_i32_695 : BitVec 32 := 1#32
  ⟨v1040, v1045, c1_i32_695⟩

def k0_mult11 (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_t7 : Fin (k0_t7_loop v800 v806 v813 v819 v826 v832 v839 v845 v852 v858 v865 v871 v878 v884 v891 v897 v904 v910 v917 v923 v930 v936 v943 v949 v956 v962 v969 v975 v982 v988 v995 v1001).trips) : BitVec 32 :=
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c6_i32_692 : BitVec 32 := 6#32
  let v1039 : BitVec 32 := Scalar.addi v1005 c6_i32_692
  let v1040 : BitVec 32 := Scalar.maxsi v998 v1039
  let c1_i32_695 : BitVec 32 := 1#32
  let arg15 : BitVec 32 := Scf.iv v1040 c1_i32_695 k0_t7
  let c256_i32_704 : BitVec 32 := 256#32
  let v1055 : BitVec 32 := Scalar.muli arg15 c256_i32_704
  v1055
def k0_off29 (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_t7 : Fin (k0_t7_loop v800 v806 v813 v819 v826 v832 v839 v845 v852 v858 v865 v871 v878 v884 v891 v897 v904 v910 v917 v923 v930 v936 v943 v949 v956 v962 v969 v975 v982 v988 v995 v1001).trips) : Fin 4 → Nat :=
  let c0_705 : Index := 0#32
  let c0_706 : Index := 0#32
  let c0_707 : Index := 0#32
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c6_i32_692 : BitVec 32 := 6#32
  let v1039 : BitVec 32 := Scalar.addi v1005 c6_i32_692
  let v1040 : BitVec 32 := Scalar.maxsi v998 v1039
  let c1_i32_695 : BitVec 32 := 1#32
  let arg15 : BitVec 32 := Scf.iv v1040 c1_i32_695 k0_t7
  let c256_i32_704 : BitVec 32 := 256#32
  let v1055 : BitVec 32 := Scalar.muli arg15 c256_i32_704
  let v1056 : BitVec 32 := v1055
  let v1057 : Index := Scalar.indexCast v1056
  ![0, 0, 0, v1057.toNat]
def k0_off30 (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_t7 : Fin (k0_t7_loop v800 v806 v813 v819 v826 v832 v839 v845 v852 v858 v865 v871 v878 v884 v891 v897 v904 v910 v917 v923 v930 v936 v943 v949 v956 v962 v969 v975 v982 v988 v995 v1001).trips) : Fin 3 → Nat :=
  let c0_716 : Index := 0#32
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c6_i32_692 : BitVec 32 := 6#32
  let v1039 : BitVec 32 := Scalar.addi v1005 c6_i32_692
  let v1040 : BitVec 32 := Scalar.maxsi v998 v1039
  let c1_i32_695 : BitVec 32 := 1#32
  let arg15 : BitVec 32 := Scf.iv v1040 c1_i32_695 k0_t7
  let c256_i32_704 : BitVec 32 := 256#32
  let v1055 : BitVec 32 := Scalar.muli arg15 c256_i32_704
  let v1056 : BitVec 32 := v1055
  let v1078 : Index := Scalar.indexCast v1056
  let c0_717 : Index := 0#32
  ![0, v1078.toNat, 0]
@[reducible] def k0_t8_loop (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) : Scf.Loop 32 :=
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c6_i32_692 : BitVec 32 := 6#32
  let v1039 : BitVec 32 := Scalar.addi v1005 c6_i32_692
  let v1040 : BitVec 32 := Scalar.maxsi v998 v1039
  let c0_i32_537 : BitVec 32 := 0#32
  let c512_i32 : BitVec 32 := 512#32
  let v807 : BitVec 1 := Scalar.cmpi .slt v806 c512_i32
  let c1_i32_535 : BitVec 32 := 1#32
  let c0_i32_536 : BitVec 32 := 0#32
  let v808 : BitVec 32 := Scalar.select v807 c1_i32_535 c0_i32_536
  let v809 : BitVec 32 := Scalar.addi c0_i32_537 v808
  let c512_i32_544 : BitVec 32 := 512#32
  let v820 : BitVec 1 := Scalar.cmpi .slt v819 c512_i32_544
  let c1_i32_545 : BitVec 32 := 1#32
  let c0_i32_546 : BitVec 32 := 0#32
  let v821 : BitVec 32 := Scalar.select v820 c1_i32_545 c0_i32_546
  let v822 : BitVec 32 := Scalar.addi v809 v821
  let c512_i32_553 : BitVec 32 := 512#32
  let v833 : BitVec 1 := Scalar.cmpi .slt v832 c512_i32_553
  let c1_i32_554 : BitVec 32 := 1#32
  let c0_i32_555 : BitVec 32 := 0#32
  let v834 : BitVec 32 := Scalar.select v833 c1_i32_554 c0_i32_555
  let v835 : BitVec 32 := Scalar.addi v822 v834
  let c512_i32_562 : BitVec 32 := 512#32
  let v846 : BitVec 1 := Scalar.cmpi .slt v845 c512_i32_562
  let c1_i32_563 : BitVec 32 := 1#32
  let c0_i32_564 : BitVec 32 := 0#32
  let v847 : BitVec 32 := Scalar.select v846 c1_i32_563 c0_i32_564
  let v848 : BitVec 32 := Scalar.addi v835 v847
  let c512_i32_571 : BitVec 32 := 512#32
  let v859 : BitVec 1 := Scalar.cmpi .slt v858 c512_i32_571
  let c1_i32_572 : BitVec 32 := 1#32
  let c0_i32_573 : BitVec 32 := 0#32
  let v860 : BitVec 32 := Scalar.select v859 c1_i32_572 c0_i32_573
  let v861 : BitVec 32 := Scalar.addi v848 v860
  let c512_i32_580 : BitVec 32 := 512#32
  let v872 : BitVec 1 := Scalar.cmpi .slt v871 c512_i32_580
  let c1_i32_581 : BitVec 32 := 1#32
  let c0_i32_582 : BitVec 32 := 0#32
  let v873 : BitVec 32 := Scalar.select v872 c1_i32_581 c0_i32_582
  let v874 : BitVec 32 := Scalar.addi v861 v873
  let c512_i32_589 : BitVec 32 := 512#32
  let v885 : BitVec 1 := Scalar.cmpi .slt v884 c512_i32_589
  let c1_i32_590 : BitVec 32 := 1#32
  let c0_i32_591 : BitVec 32 := 0#32
  let v886 : BitVec 32 := Scalar.select v885 c1_i32_590 c0_i32_591
  let v887 : BitVec 32 := Scalar.addi v874 v886
  let c512_i32_598 : BitVec 32 := 512#32
  let v898 : BitVec 1 := Scalar.cmpi .slt v897 c512_i32_598
  let c1_i32_599 : BitVec 32 := 1#32
  let c0_i32_600 : BitVec 32 := 0#32
  let v899 : BitVec 32 := Scalar.select v898 c1_i32_599 c0_i32_600
  let v900 : BitVec 32 := Scalar.addi v887 v899
  let c512_i32_607 : BitVec 32 := 512#32
  let v911 : BitVec 1 := Scalar.cmpi .slt v910 c512_i32_607
  let c1_i32_608 : BitVec 32 := 1#32
  let c0_i32_609 : BitVec 32 := 0#32
  let v912 : BitVec 32 := Scalar.select v911 c1_i32_608 c0_i32_609
  let v913 : BitVec 32 := Scalar.addi v900 v912
  let c512_i32_616 : BitVec 32 := 512#32
  let v924 : BitVec 1 := Scalar.cmpi .slt v923 c512_i32_616
  let c1_i32_617 : BitVec 32 := 1#32
  let c0_i32_618 : BitVec 32 := 0#32
  let v925 : BitVec 32 := Scalar.select v924 c1_i32_617 c0_i32_618
  let v926 : BitVec 32 := Scalar.addi v913 v925
  let c512_i32_625 : BitVec 32 := 512#32
  let v937 : BitVec 1 := Scalar.cmpi .slt v936 c512_i32_625
  let c1_i32_626 : BitVec 32 := 1#32
  let c0_i32_627 : BitVec 32 := 0#32
  let v938 : BitVec 32 := Scalar.select v937 c1_i32_626 c0_i32_627
  let v939 : BitVec 32 := Scalar.addi v926 v938
  let c512_i32_634 : BitVec 32 := 512#32
  let v950 : BitVec 1 := Scalar.cmpi .slt v949 c512_i32_634
  let c1_i32_635 : BitVec 32 := 1#32
  let c0_i32_636 : BitVec 32 := 0#32
  let v951 : BitVec 32 := Scalar.select v950 c1_i32_635 c0_i32_636
  let v952 : BitVec 32 := Scalar.addi v939 v951
  let c512_i32_643 : BitVec 32 := 512#32
  let v963 : BitVec 1 := Scalar.cmpi .slt v962 c512_i32_643
  let c1_i32_644 : BitVec 32 := 1#32
  let c0_i32_645 : BitVec 32 := 0#32
  let v964 : BitVec 32 := Scalar.select v963 c1_i32_644 c0_i32_645
  let v965 : BitVec 32 := Scalar.addi v952 v964
  let c512_i32_652 : BitVec 32 := 512#32
  let v976 : BitVec 1 := Scalar.cmpi .slt v975 c512_i32_652
  let c1_i32_653 : BitVec 32 := 1#32
  let c0_i32_654 : BitVec 32 := 0#32
  let v977 : BitVec 32 := Scalar.select v976 c1_i32_653 c0_i32_654
  let v978 : BitVec 32 := Scalar.addi v965 v977
  let c512_i32_661 : BitVec 32 := 512#32
  let v989 : BitVec 1 := Scalar.cmpi .slt v988 c512_i32_661
  let c1_i32_662 : BitVec 32 := 1#32
  let c0_i32_663 : BitVec 32 := 0#32
  let v990 : BitVec 32 := Scalar.select v989 c1_i32_662 c0_i32_663
  let v991 : BitVec 32 := Scalar.addi v978 v990
  let c512_i32_670 : BitVec 32 := 512#32
  let v1002 : BitVec 1 := Scalar.cmpi .slt v1001 c512_i32_670
  let c1_i32_671 : BitVec 32 := 1#32
  let c0_i32_672 : BitVec 32 := 0#32
  let v1003 : BitVec 32 := Scalar.select v1002 c1_i32_671 c0_i32_672
  let v1004 : BitVec 32 := Scalar.addi v991 v1003
  let v1041 : BitVec 32 := Scalar.subi v1004 v1040
  let c1_i32_694 : BitVec 32 := 1#32
  let v1043 : BitVec 32 := Scalar.divsi v1041 c1_i32_694
  let v1044 : BitVec 32 := Scalar.muli v1043 c1_i32_694
  let v1045 : BitVec 32 := Scalar.addi v1040 v1044
  let v1042 : BitVec 32 := Scalar.addi v1040 v1041
  let c1_i32_696 : BitVec 32 := 1#32
  ⟨v1045, v1042, c1_i32_696⟩
def k0_mult12 (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_t8 : Fin (k0_t8_loop v800 v806 v813 v819 v826 v832 v839 v845 v852 v858 v865 v871 v878 v884 v891 v897 v904 v910 v917 v923 v930 v936 v943 v949 v956 v962 v969 v975 v982 v988 v995 v1001).trips) : BitVec 32 :=
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c6_i32_692 : BitVec 32 := 6#32
  let v1039 : BitVec 32 := Scalar.addi v1005 c6_i32_692
  let v1040 : BitVec 32 := Scalar.maxsi v998 v1039
  let c0_i32_537 : BitVec 32 := 0#32
  let c512_i32 : BitVec 32 := 512#32
  let v807 : BitVec 1 := Scalar.cmpi .slt v806 c512_i32
  let c1_i32_535 : BitVec 32 := 1#32
  let c0_i32_536 : BitVec 32 := 0#32
  let v808 : BitVec 32 := Scalar.select v807 c1_i32_535 c0_i32_536
  let v809 : BitVec 32 := Scalar.addi c0_i32_537 v808
  let c512_i32_544 : BitVec 32 := 512#32
  let v820 : BitVec 1 := Scalar.cmpi .slt v819 c512_i32_544
  let c1_i32_545 : BitVec 32 := 1#32
  let c0_i32_546 : BitVec 32 := 0#32
  let v821 : BitVec 32 := Scalar.select v820 c1_i32_545 c0_i32_546
  let v822 : BitVec 32 := Scalar.addi v809 v821
  let c512_i32_553 : BitVec 32 := 512#32
  let v833 : BitVec 1 := Scalar.cmpi .slt v832 c512_i32_553
  let c1_i32_554 : BitVec 32 := 1#32
  let c0_i32_555 : BitVec 32 := 0#32
  let v834 : BitVec 32 := Scalar.select v833 c1_i32_554 c0_i32_555
  let v835 : BitVec 32 := Scalar.addi v822 v834
  let c512_i32_562 : BitVec 32 := 512#32
  let v846 : BitVec 1 := Scalar.cmpi .slt v845 c512_i32_562
  let c1_i32_563 : BitVec 32 := 1#32
  let c0_i32_564 : BitVec 32 := 0#32
  let v847 : BitVec 32 := Scalar.select v846 c1_i32_563 c0_i32_564
  let v848 : BitVec 32 := Scalar.addi v835 v847
  let c512_i32_571 : BitVec 32 := 512#32
  let v859 : BitVec 1 := Scalar.cmpi .slt v858 c512_i32_571
  let c1_i32_572 : BitVec 32 := 1#32
  let c0_i32_573 : BitVec 32 := 0#32
  let v860 : BitVec 32 := Scalar.select v859 c1_i32_572 c0_i32_573
  let v861 : BitVec 32 := Scalar.addi v848 v860
  let c512_i32_580 : BitVec 32 := 512#32
  let v872 : BitVec 1 := Scalar.cmpi .slt v871 c512_i32_580
  let c1_i32_581 : BitVec 32 := 1#32
  let c0_i32_582 : BitVec 32 := 0#32
  let v873 : BitVec 32 := Scalar.select v872 c1_i32_581 c0_i32_582
  let v874 : BitVec 32 := Scalar.addi v861 v873
  let c512_i32_589 : BitVec 32 := 512#32
  let v885 : BitVec 1 := Scalar.cmpi .slt v884 c512_i32_589
  let c1_i32_590 : BitVec 32 := 1#32
  let c0_i32_591 : BitVec 32 := 0#32
  let v886 : BitVec 32 := Scalar.select v885 c1_i32_590 c0_i32_591
  let v887 : BitVec 32 := Scalar.addi v874 v886
  let c512_i32_598 : BitVec 32 := 512#32
  let v898 : BitVec 1 := Scalar.cmpi .slt v897 c512_i32_598
  let c1_i32_599 : BitVec 32 := 1#32
  let c0_i32_600 : BitVec 32 := 0#32
  let v899 : BitVec 32 := Scalar.select v898 c1_i32_599 c0_i32_600
  let v900 : BitVec 32 := Scalar.addi v887 v899
  let c512_i32_607 : BitVec 32 := 512#32
  let v911 : BitVec 1 := Scalar.cmpi .slt v910 c512_i32_607
  let c1_i32_608 : BitVec 32 := 1#32
  let c0_i32_609 : BitVec 32 := 0#32
  let v912 : BitVec 32 := Scalar.select v911 c1_i32_608 c0_i32_609
  let v913 : BitVec 32 := Scalar.addi v900 v912
  let c512_i32_616 : BitVec 32 := 512#32
  let v924 : BitVec 1 := Scalar.cmpi .slt v923 c512_i32_616
  let c1_i32_617 : BitVec 32 := 1#32
  let c0_i32_618 : BitVec 32 := 0#32
  let v925 : BitVec 32 := Scalar.select v924 c1_i32_617 c0_i32_618
  let v926 : BitVec 32 := Scalar.addi v913 v925
  let c512_i32_625 : BitVec 32 := 512#32
  let v937 : BitVec 1 := Scalar.cmpi .slt v936 c512_i32_625
  let c1_i32_626 : BitVec 32 := 1#32
  let c0_i32_627 : BitVec 32 := 0#32
  let v938 : BitVec 32 := Scalar.select v937 c1_i32_626 c0_i32_627
  let v939 : BitVec 32 := Scalar.addi v926 v938
  let c512_i32_634 : BitVec 32 := 512#32
  let v950 : BitVec 1 := Scalar.cmpi .slt v949 c512_i32_634
  let c1_i32_635 : BitVec 32 := 1#32
  let c0_i32_636 : BitVec 32 := 0#32
  let v951 : BitVec 32 := Scalar.select v950 c1_i32_635 c0_i32_636
  let v952 : BitVec 32 := Scalar.addi v939 v951
  let c512_i32_643 : BitVec 32 := 512#32
  let v963 : BitVec 1 := Scalar.cmpi .slt v962 c512_i32_643
  let c1_i32_644 : BitVec 32 := 1#32
  let c0_i32_645 : BitVec 32 := 0#32
  let v964 : BitVec 32 := Scalar.select v963 c1_i32_644 c0_i32_645
  let v965 : BitVec 32 := Scalar.addi v952 v964
  let c512_i32_652 : BitVec 32 := 512#32
  let v976 : BitVec 1 := Scalar.cmpi .slt v975 c512_i32_652
  let c1_i32_653 : BitVec 32 := 1#32
  let c0_i32_654 : BitVec 32 := 0#32
  let v977 : BitVec 32 := Scalar.select v976 c1_i32_653 c0_i32_654
  let v978 : BitVec 32 := Scalar.addi v965 v977
  let c512_i32_661 : BitVec 32 := 512#32
  let v989 : BitVec 1 := Scalar.cmpi .slt v988 c512_i32_661
  let c1_i32_662 : BitVec 32 := 1#32
  let c0_i32_663 : BitVec 32 := 0#32
  let v990 : BitVec 32 := Scalar.select v989 c1_i32_662 c0_i32_663
  let v991 : BitVec 32 := Scalar.addi v978 v990
  let c512_i32_670 : BitVec 32 := 512#32
  let v1002 : BitVec 1 := Scalar.cmpi .slt v1001 c512_i32_670
  let c1_i32_671 : BitVec 32 := 1#32
  let c0_i32_672 : BitVec 32 := 0#32
  let v1003 : BitVec 32 := Scalar.select v1002 c1_i32_671 c0_i32_672
  let v1004 : BitVec 32 := Scalar.addi v991 v1003
  let v1041 : BitVec 32 := Scalar.subi v1004 v1040
  let c1_i32_694 : BitVec 32 := 1#32
  let v1043 : BitVec 32 := Scalar.divsi v1041 c1_i32_694
  let v1044 : BitVec 32 := Scalar.muli v1043 c1_i32_694
  let v1045 : BitVec 32 := Scalar.addi v1040 v1044
  let c1_i32_696 : BitVec 32 := 1#32
  let arg15 : BitVec 32 := Scf.iv v1045 c1_i32_696 k0_t8
  let c256_i32_704 : BitVec 32 := 256#32
  let v1055 : BitVec 32 := Scalar.muli arg15 c256_i32_704
  v1055
def k0_off31 (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_t8 : Fin (k0_t8_loop v800 v806 v813 v819 v826 v832 v839 v845 v852 v858 v865 v871 v878 v884 v891 v897 v904 v910 v917 v923 v930 v936 v943 v949 v956 v962 v969 v975 v982 v988 v995 v1001).trips) : Fin 4 → Nat :=
  let c0_705 : Index := 0#32
  let c0_706 : Index := 0#32
  let c0_707 : Index := 0#32
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c6_i32_692 : BitVec 32 := 6#32
  let v1039 : BitVec 32 := Scalar.addi v1005 c6_i32_692
  let v1040 : BitVec 32 := Scalar.maxsi v998 v1039
  let c0_i32_537 : BitVec 32 := 0#32
  let c512_i32 : BitVec 32 := 512#32
  let v807 : BitVec 1 := Scalar.cmpi .slt v806 c512_i32
  let c1_i32_535 : BitVec 32 := 1#32
  let c0_i32_536 : BitVec 32 := 0#32
  let v808 : BitVec 32 := Scalar.select v807 c1_i32_535 c0_i32_536
  let v809 : BitVec 32 := Scalar.addi c0_i32_537 v808
  let c512_i32_544 : BitVec 32 := 512#32
  let v820 : BitVec 1 := Scalar.cmpi .slt v819 c512_i32_544
  let c1_i32_545 : BitVec 32 := 1#32
  let c0_i32_546 : BitVec 32 := 0#32
  let v821 : BitVec 32 := Scalar.select v820 c1_i32_545 c0_i32_546
  let v822 : BitVec 32 := Scalar.addi v809 v821
  let c512_i32_553 : BitVec 32 := 512#32
  let v833 : BitVec 1 := Scalar.cmpi .slt v832 c512_i32_553
  let c1_i32_554 : BitVec 32 := 1#32
  let c0_i32_555 : BitVec 32 := 0#32
  let v834 : BitVec 32 := Scalar.select v833 c1_i32_554 c0_i32_555
  let v835 : BitVec 32 := Scalar.addi v822 v834
  let c512_i32_562 : BitVec 32 := 512#32
  let v846 : BitVec 1 := Scalar.cmpi .slt v845 c512_i32_562
  let c1_i32_563 : BitVec 32 := 1#32
  let c0_i32_564 : BitVec 32 := 0#32
  let v847 : BitVec 32 := Scalar.select v846 c1_i32_563 c0_i32_564
  let v848 : BitVec 32 := Scalar.addi v835 v847
  let c512_i32_571 : BitVec 32 := 512#32
  let v859 : BitVec 1 := Scalar.cmpi .slt v858 c512_i32_571
  let c1_i32_572 : BitVec 32 := 1#32
  let c0_i32_573 : BitVec 32 := 0#32
  let v860 : BitVec 32 := Scalar.select v859 c1_i32_572 c0_i32_573
  let v861 : BitVec 32 := Scalar.addi v848 v860
  let c512_i32_580 : BitVec 32 := 512#32
  let v872 : BitVec 1 := Scalar.cmpi .slt v871 c512_i32_580
  let c1_i32_581 : BitVec 32 := 1#32
  let c0_i32_582 : BitVec 32 := 0#32
  let v873 : BitVec 32 := Scalar.select v872 c1_i32_581 c0_i32_582
  let v874 : BitVec 32 := Scalar.addi v861 v873
  let c512_i32_589 : BitVec 32 := 512#32
  let v885 : BitVec 1 := Scalar.cmpi .slt v884 c512_i32_589
  let c1_i32_590 : BitVec 32 := 1#32
  let c0_i32_591 : BitVec 32 := 0#32
  let v886 : BitVec 32 := Scalar.select v885 c1_i32_590 c0_i32_591
  let v887 : BitVec 32 := Scalar.addi v874 v886
  let c512_i32_598 : BitVec 32 := 512#32
  let v898 : BitVec 1 := Scalar.cmpi .slt v897 c512_i32_598
  let c1_i32_599 : BitVec 32 := 1#32
  let c0_i32_600 : BitVec 32 := 0#32
  let v899 : BitVec 32 := Scalar.select v898 c1_i32_599 c0_i32_600
  let v900 : BitVec 32 := Scalar.addi v887 v899
  let c512_i32_607 : BitVec 32 := 512#32
  let v911 : BitVec 1 := Scalar.cmpi .slt v910 c512_i32_607
  let c1_i32_608 : BitVec 32 := 1#32
  let c0_i32_609 : BitVec 32 := 0#32
  let v912 : BitVec 32 := Scalar.select v911 c1_i32_608 c0_i32_609
  let v913 : BitVec 32 := Scalar.addi v900 v912
  let c512_i32_616 : BitVec 32 := 512#32
  let v924 : BitVec 1 := Scalar.cmpi .slt v923 c512_i32_616
  let c1_i32_617 : BitVec 32 := 1#32
  let c0_i32_618 : BitVec 32 := 0#32
  let v925 : BitVec 32 := Scalar.select v924 c1_i32_617 c0_i32_618
  let v926 : BitVec 32 := Scalar.addi v913 v925
  let c512_i32_625 : BitVec 32 := 512#32
  let v937 : BitVec 1 := Scalar.cmpi .slt v936 c512_i32_625
  let c1_i32_626 : BitVec 32 := 1#32
  let c0_i32_627 : BitVec 32 := 0#32
  let v938 : BitVec 32 := Scalar.select v937 c1_i32_626 c0_i32_627
  let v939 : BitVec 32 := Scalar.addi v926 v938
  let c512_i32_634 : BitVec 32 := 512#32
  let v950 : BitVec 1 := Scalar.cmpi .slt v949 c512_i32_634
  let c1_i32_635 : BitVec 32 := 1#32
  let c0_i32_636 : BitVec 32 := 0#32
  let v951 : BitVec 32 := Scalar.select v950 c1_i32_635 c0_i32_636
  let v952 : BitVec 32 := Scalar.addi v939 v951
  let c512_i32_643 : BitVec 32 := 512#32
  let v963 : BitVec 1 := Scalar.cmpi .slt v962 c512_i32_643
  let c1_i32_644 : BitVec 32 := 1#32
  let c0_i32_645 : BitVec 32 := 0#32
  let v964 : BitVec 32 := Scalar.select v963 c1_i32_644 c0_i32_645
  let v965 : BitVec 32 := Scalar.addi v952 v964
  let c512_i32_652 : BitVec 32 := 512#32
  let v976 : BitVec 1 := Scalar.cmpi .slt v975 c512_i32_652
  let c1_i32_653 : BitVec 32 := 1#32
  let c0_i32_654 : BitVec 32 := 0#32
  let v977 : BitVec 32 := Scalar.select v976 c1_i32_653 c0_i32_654
  let v978 : BitVec 32 := Scalar.addi v965 v977
  let c512_i32_661 : BitVec 32 := 512#32
  let v989 : BitVec 1 := Scalar.cmpi .slt v988 c512_i32_661
  let c1_i32_662 : BitVec 32 := 1#32
  let c0_i32_663 : BitVec 32 := 0#32
  let v990 : BitVec 32 := Scalar.select v989 c1_i32_662 c0_i32_663
  let v991 : BitVec 32 := Scalar.addi v978 v990
  let c512_i32_670 : BitVec 32 := 512#32
  let v1002 : BitVec 1 := Scalar.cmpi .slt v1001 c512_i32_670
  let c1_i32_671 : BitVec 32 := 1#32
  let c0_i32_672 : BitVec 32 := 0#32
  let v1003 : BitVec 32 := Scalar.select v1002 c1_i32_671 c0_i32_672
  let v1004 : BitVec 32 := Scalar.addi v991 v1003
  let v1041 : BitVec 32 := Scalar.subi v1004 v1040
  let c1_i32_694 : BitVec 32 := 1#32
  let v1043 : BitVec 32 := Scalar.divsi v1041 c1_i32_694
  let v1044 : BitVec 32 := Scalar.muli v1043 c1_i32_694
  let v1045 : BitVec 32 := Scalar.addi v1040 v1044
  let c1_i32_696 : BitVec 32 := 1#32
  let arg15 : BitVec 32 := Scf.iv v1045 c1_i32_696 k0_t8
  let c256_i32_704 : BitVec 32 := 256#32
  let v1055 : BitVec 32 := Scalar.muli arg15 c256_i32_704
  let v1056 : BitVec 32 := v1055
  let v1057 : Index := Scalar.indexCast v1056
  ![0, 0, 0, v1057.toNat]
def k0_off32 (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_t8 : Fin (k0_t8_loop v800 v806 v813 v819 v826 v832 v839 v845 v852 v858 v865 v871 v878 v884 v891 v897 v904 v910 v917 v923 v930 v936 v943 v949 v956 v962 v969 v975 v982 v988 v995 v1001).trips) : Fin 3 → Nat :=
  let c0_716 : Index := 0#32
  let c0_i32_533 : BitVec 32 := 0#32
  let c384_i32_530 : BitVec 32 := 384#32
  let v801 : BitVec 1 := Scalar.cmpi .sle v800 c384_i32_530
  let c1_i32_531 : BitVec 32 := 1#32
  let c0_i32_532 : BitVec 32 := 0#32
  let v802 : BitVec 32 := Scalar.select v801 c1_i32_531 c0_i32_532
  let v803 : BitVec 32 := Scalar.addi c0_i32_533 v802
  let c384_i32_540 : BitVec 32 := 384#32
  let v814 : BitVec 1 := Scalar.cmpi .sle v813 c384_i32_540
  let c1_i32_541 : BitVec 32 := 1#32
  let c0_i32_542 : BitVec 32 := 0#32
  let v815 : BitVec 32 := Scalar.select v814 c1_i32_541 c0_i32_542
  let v816 : BitVec 32 := Scalar.addi v803 v815
  let c384_i32_549 : BitVec 32 := 384#32
  let v827 : BitVec 1 := Scalar.cmpi .sle v826 c384_i32_549
  let c1_i32_550 : BitVec 32 := 1#32
  let c0_i32_551 : BitVec 32 := 0#32
  let v828 : BitVec 32 := Scalar.select v827 c1_i32_550 c0_i32_551
  let v829 : BitVec 32 := Scalar.addi v816 v828
  let c384_i32_558 : BitVec 32 := 384#32
  let v840 : BitVec 1 := Scalar.cmpi .sle v839 c384_i32_558
  let c1_i32_559 : BitVec 32 := 1#32
  let c0_i32_560 : BitVec 32 := 0#32
  let v841 : BitVec 32 := Scalar.select v840 c1_i32_559 c0_i32_560
  let v842 : BitVec 32 := Scalar.addi v829 v841
  let c384_i32_567 : BitVec 32 := 384#32
  let v853 : BitVec 1 := Scalar.cmpi .sle v852 c384_i32_567
  let c1_i32_568 : BitVec 32 := 1#32
  let c0_i32_569 : BitVec 32 := 0#32
  let v854 : BitVec 32 := Scalar.select v853 c1_i32_568 c0_i32_569
  let v855 : BitVec 32 := Scalar.addi v842 v854
  let c384_i32_576 : BitVec 32 := 384#32
  let v866 : BitVec 1 := Scalar.cmpi .sle v865 c384_i32_576
  let c1_i32_577 : BitVec 32 := 1#32
  let c0_i32_578 : BitVec 32 := 0#32
  let v867 : BitVec 32 := Scalar.select v866 c1_i32_577 c0_i32_578
  let v868 : BitVec 32 := Scalar.addi v855 v867
  let c384_i32_585 : BitVec 32 := 384#32
  let v879 : BitVec 1 := Scalar.cmpi .sle v878 c384_i32_585
  let c1_i32_586 : BitVec 32 := 1#32
  let c0_i32_587 : BitVec 32 := 0#32
  let v880 : BitVec 32 := Scalar.select v879 c1_i32_586 c0_i32_587
  let v881 : BitVec 32 := Scalar.addi v868 v880
  let c384_i32_594 : BitVec 32 := 384#32
  let v892 : BitVec 1 := Scalar.cmpi .sle v891 c384_i32_594
  let c1_i32_595 : BitVec 32 := 1#32
  let c0_i32_596 : BitVec 32 := 0#32
  let v893 : BitVec 32 := Scalar.select v892 c1_i32_595 c0_i32_596
  let v894 : BitVec 32 := Scalar.addi v881 v893
  let c384_i32_603 : BitVec 32 := 384#32
  let v905 : BitVec 1 := Scalar.cmpi .sle v904 c384_i32_603
  let c1_i32_604 : BitVec 32 := 1#32
  let c0_i32_605 : BitVec 32 := 0#32
  let v906 : BitVec 32 := Scalar.select v905 c1_i32_604 c0_i32_605
  let v907 : BitVec 32 := Scalar.addi v894 v906
  let c384_i32_612 : BitVec 32 := 384#32
  let v918 : BitVec 1 := Scalar.cmpi .sle v917 c384_i32_612
  let c1_i32_613 : BitVec 32 := 1#32
  let c0_i32_614 : BitVec 32 := 0#32
  let v919 : BitVec 32 := Scalar.select v918 c1_i32_613 c0_i32_614
  let v920 : BitVec 32 := Scalar.addi v907 v919
  let c384_i32_621 : BitVec 32 := 384#32
  let v931 : BitVec 1 := Scalar.cmpi .sle v930 c384_i32_621
  let c1_i32_622 : BitVec 32 := 1#32
  let c0_i32_623 : BitVec 32 := 0#32
  let v932 : BitVec 32 := Scalar.select v931 c1_i32_622 c0_i32_623
  let v933 : BitVec 32 := Scalar.addi v920 v932
  let c384_i32_630 : BitVec 32 := 384#32
  let v944 : BitVec 1 := Scalar.cmpi .sle v943 c384_i32_630
  let c1_i32_631 : BitVec 32 := 1#32
  let c0_i32_632 : BitVec 32 := 0#32
  let v945 : BitVec 32 := Scalar.select v944 c1_i32_631 c0_i32_632
  let v946 : BitVec 32 := Scalar.addi v933 v945
  let c384_i32_639 : BitVec 32 := 384#32
  let v957 : BitVec 1 := Scalar.cmpi .sle v956 c384_i32_639
  let c1_i32_640 : BitVec 32 := 1#32
  let c0_i32_641 : BitVec 32 := 0#32
  let v958 : BitVec 32 := Scalar.select v957 c1_i32_640 c0_i32_641
  let v959 : BitVec 32 := Scalar.addi v946 v958
  let c384_i32_648 : BitVec 32 := 384#32
  let v970 : BitVec 1 := Scalar.cmpi .sle v969 c384_i32_648
  let c1_i32_649 : BitVec 32 := 1#32
  let c0_i32_650 : BitVec 32 := 0#32
  let v971 : BitVec 32 := Scalar.select v970 c1_i32_649 c0_i32_650
  let v972 : BitVec 32 := Scalar.addi v959 v971
  let c384_i32_657 : BitVec 32 := 384#32
  let v983 : BitVec 1 := Scalar.cmpi .sle v982 c384_i32_657
  let c1_i32_658 : BitVec 32 := 1#32
  let c0_i32_659 : BitVec 32 := 0#32
  let v984 : BitVec 32 := Scalar.select v983 c1_i32_658 c0_i32_659
  let v985 : BitVec 32 := Scalar.addi v972 v984
  let c384_i32_666 : BitVec 32 := 384#32
  let v996 : BitVec 1 := Scalar.cmpi .sle v995 c384_i32_666
  let c1_i32_667 : BitVec 32 := 1#32
  let c0_i32_668 : BitVec 32 := 0#32
  let v997 : BitVec 32 := Scalar.select v996 c1_i32_667 c0_i32_668
  let v998 : BitVec 32 := Scalar.addi v985 v997
  let c10_i32_673 : BitVec 32 := 10#32
  let v1005 : BitVec 32 := Scalar.minsi v998 c10_i32_673
  let c6_i32_692 : BitVec 32 := 6#32
  let v1039 : BitVec 32 := Scalar.addi v1005 c6_i32_692
  let v1040 : BitVec 32 := Scalar.maxsi v998 v1039
  let c0_i32_537 : BitVec 32 := 0#32
  let c512_i32 : BitVec 32 := 512#32
  let v807 : BitVec 1 := Scalar.cmpi .slt v806 c512_i32
  let c1_i32_535 : BitVec 32 := 1#32
  let c0_i32_536 : BitVec 32 := 0#32
  let v808 : BitVec 32 := Scalar.select v807 c1_i32_535 c0_i32_536
  let v809 : BitVec 32 := Scalar.addi c0_i32_537 v808
  let c512_i32_544 : BitVec 32 := 512#32
  let v820 : BitVec 1 := Scalar.cmpi .slt v819 c512_i32_544
  let c1_i32_545 : BitVec 32 := 1#32
  let c0_i32_546 : BitVec 32 := 0#32
  let v821 : BitVec 32 := Scalar.select v820 c1_i32_545 c0_i32_546
  let v822 : BitVec 32 := Scalar.addi v809 v821
  let c512_i32_553 : BitVec 32 := 512#32
  let v833 : BitVec 1 := Scalar.cmpi .slt v832 c512_i32_553
  let c1_i32_554 : BitVec 32 := 1#32
  let c0_i32_555 : BitVec 32 := 0#32
  let v834 : BitVec 32 := Scalar.select v833 c1_i32_554 c0_i32_555
  let v835 : BitVec 32 := Scalar.addi v822 v834
  let c512_i32_562 : BitVec 32 := 512#32
  let v846 : BitVec 1 := Scalar.cmpi .slt v845 c512_i32_562
  let c1_i32_563 : BitVec 32 := 1#32
  let c0_i32_564 : BitVec 32 := 0#32
  let v847 : BitVec 32 := Scalar.select v846 c1_i32_563 c0_i32_564
  let v848 : BitVec 32 := Scalar.addi v835 v847
  let c512_i32_571 : BitVec 32 := 512#32
  let v859 : BitVec 1 := Scalar.cmpi .slt v858 c512_i32_571
  let c1_i32_572 : BitVec 32 := 1#32
  let c0_i32_573 : BitVec 32 := 0#32
  let v860 : BitVec 32 := Scalar.select v859 c1_i32_572 c0_i32_573
  let v861 : BitVec 32 := Scalar.addi v848 v860
  let c512_i32_580 : BitVec 32 := 512#32
  let v872 : BitVec 1 := Scalar.cmpi .slt v871 c512_i32_580
  let c1_i32_581 : BitVec 32 := 1#32
  let c0_i32_582 : BitVec 32 := 0#32
  let v873 : BitVec 32 := Scalar.select v872 c1_i32_581 c0_i32_582
  let v874 : BitVec 32 := Scalar.addi v861 v873
  let c512_i32_589 : BitVec 32 := 512#32
  let v885 : BitVec 1 := Scalar.cmpi .slt v884 c512_i32_589
  let c1_i32_590 : BitVec 32 := 1#32
  let c0_i32_591 : BitVec 32 := 0#32
  let v886 : BitVec 32 := Scalar.select v885 c1_i32_590 c0_i32_591
  let v887 : BitVec 32 := Scalar.addi v874 v886
  let c512_i32_598 : BitVec 32 := 512#32
  let v898 : BitVec 1 := Scalar.cmpi .slt v897 c512_i32_598
  let c1_i32_599 : BitVec 32 := 1#32
  let c0_i32_600 : BitVec 32 := 0#32
  let v899 : BitVec 32 := Scalar.select v898 c1_i32_599 c0_i32_600
  let v900 : BitVec 32 := Scalar.addi v887 v899
  let c512_i32_607 : BitVec 32 := 512#32
  let v911 : BitVec 1 := Scalar.cmpi .slt v910 c512_i32_607
  let c1_i32_608 : BitVec 32 := 1#32
  let c0_i32_609 : BitVec 32 := 0#32
  let v912 : BitVec 32 := Scalar.select v911 c1_i32_608 c0_i32_609
  let v913 : BitVec 32 := Scalar.addi v900 v912
  let c512_i32_616 : BitVec 32 := 512#32
  let v924 : BitVec 1 := Scalar.cmpi .slt v923 c512_i32_616
  let c1_i32_617 : BitVec 32 := 1#32
  let c0_i32_618 : BitVec 32 := 0#32
  let v925 : BitVec 32 := Scalar.select v924 c1_i32_617 c0_i32_618
  let v926 : BitVec 32 := Scalar.addi v913 v925
  let c512_i32_625 : BitVec 32 := 512#32
  let v937 : BitVec 1 := Scalar.cmpi .slt v936 c512_i32_625
  let c1_i32_626 : BitVec 32 := 1#32
  let c0_i32_627 : BitVec 32 := 0#32
  let v938 : BitVec 32 := Scalar.select v937 c1_i32_626 c0_i32_627
  let v939 : BitVec 32 := Scalar.addi v926 v938
  let c512_i32_634 : BitVec 32 := 512#32
  let v950 : BitVec 1 := Scalar.cmpi .slt v949 c512_i32_634
  let c1_i32_635 : BitVec 32 := 1#32
  let c0_i32_636 : BitVec 32 := 0#32
  let v951 : BitVec 32 := Scalar.select v950 c1_i32_635 c0_i32_636
  let v952 : BitVec 32 := Scalar.addi v939 v951
  let c512_i32_643 : BitVec 32 := 512#32
  let v963 : BitVec 1 := Scalar.cmpi .slt v962 c512_i32_643
  let c1_i32_644 : BitVec 32 := 1#32
  let c0_i32_645 : BitVec 32 := 0#32
  let v964 : BitVec 32 := Scalar.select v963 c1_i32_644 c0_i32_645
  let v965 : BitVec 32 := Scalar.addi v952 v964
  let c512_i32_652 : BitVec 32 := 512#32
  let v976 : BitVec 1 := Scalar.cmpi .slt v975 c512_i32_652
  let c1_i32_653 : BitVec 32 := 1#32
  let c0_i32_654 : BitVec 32 := 0#32
  let v977 : BitVec 32 := Scalar.select v976 c1_i32_653 c0_i32_654
  let v978 : BitVec 32 := Scalar.addi v965 v977
  let c512_i32_661 : BitVec 32 := 512#32
  let v989 : BitVec 1 := Scalar.cmpi .slt v988 c512_i32_661
  let c1_i32_662 : BitVec 32 := 1#32
  let c0_i32_663 : BitVec 32 := 0#32
  let v990 : BitVec 32 := Scalar.select v989 c1_i32_662 c0_i32_663
  let v991 : BitVec 32 := Scalar.addi v978 v990
  let c512_i32_670 : BitVec 32 := 512#32
  let v1002 : BitVec 1 := Scalar.cmpi .slt v1001 c512_i32_670
  let c1_i32_671 : BitVec 32 := 1#32
  let c0_i32_672 : BitVec 32 := 0#32
  let v1003 : BitVec 32 := Scalar.select v1002 c1_i32_671 c0_i32_672
  let v1004 : BitVec 32 := Scalar.addi v991 v1003
  let v1041 : BitVec 32 := Scalar.subi v1004 v1040
  let c1_i32_694 : BitVec 32 := 1#32
  let v1043 : BitVec 32 := Scalar.divsi v1041 c1_i32_694
  let v1044 : BitVec 32 := Scalar.muli v1043 c1_i32_694
  let v1045 : BitVec 32 := Scalar.addi v1040 v1044
  let c1_i32_696 : BitVec 32 := 1#32
  let arg15 : BitVec 32 := Scf.iv v1045 c1_i32_696 k0_t8
  let c256_i32_704 : BitVec 32 := 256#32
  let v1055 : BitVec 32 := Scalar.muli arg15 c256_i32_704
  let v1056 : BitVec 32 := v1055
  let v1078 : Index := Scalar.indexCast v1056
  let c0_717 : Index := 0#32
  ![0, v1078.toNat, 0]

def k0_chk8 (i : grid0.Coords) (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) : Prop :=
  (∀ (k0_h1 : k0_cond1 i = 1#1), (k0_t7_loop v800 v806 v813 v819 v826 v832 v839 v845 v852 v858 v865 v871 v878 v884 v891 v897 v904 v910 v917 v923 v930 v936 v943 v949 v956 v962 v969 v975 v982 v988 v995 v1001).OK) ∧
  (∀ k0_t7 : Fin (k0_t7_loop v800 v806 v813 v819 v826 v832 v839 v845 v852 v858 v865 v871 v878 v884 v891 v897 v904 v910 v917 v923 v930 v936 v943 v949 v956 v962 v969 v975 v982 v988 v995 v1001).trips, ∀ (k0_h1 : k0_cond1 i = 1#1), 256 ∣ (k0_mult11 v800 v806 v813 v819 v826 v832 v839 v845 v852 v858 v865 v871 v878 v884 v891 v897 v904 v910 v917 v923 v930 v936 v943 v949 v956 v962 v969 v975 v982 v988 v995 v1001 k0_t7).toNat) ∧
  (∀ k0_t7 : Fin (k0_t7_loop v800 v806 v813 v819 v826 v832 v839 v845 v852 v858 v865 v871 v878 v884 v891 v897 v904 v910 v917 v923 v930 v936 v943 v949 v956 v962 v969 v975 v982 v988 v995 v1001).trips, ∀ (k0_h1 : k0_cond1 i = 1#1), ∀ a, (k0_off29 v800 v806 v813 v819 v826 v832 v839 v845 v852 v858 v865 v871 v878 v884 v891 v897 v904 v910 v917 v923 v930 v936 v943 v949 v956 v962 v969 v975 v982 v988 v995 v1001 k0_t7) a + S1x1x1x256.size a ≤ S1x1x1x4096.size a) ∧
  (∀ k0_t7 : Fin (k0_t7_loop v800 v806 v813 v819 v826 v832 v839 v845 v852 v858 v865 v871 v878 v884 v891 v897 v904 v910 v917 v923 v930 v936 v943 v949 v956 v962 v969 v975 v982 v988 v995 v1001).trips, ∀ (k0_h1 : k0_cond1 i = 1#1), ∀ a, (k0_off30 v800 v806 v813 v819 v826 v832 v839 v845 v852 v858 v865 v871 v878 v884 v891 v897 v904 v910 v917 v923 v930 v936 v943 v949 v956 v962 v969 v975 v982 v988 v995 v1001 k0_t7) a + S1x256x1024.size a ≤ S1x4096x1024.size a) ∧
  (∀ (k0_h1 : k0_cond1 i = 1#1), (k0_t8_loop v800 v806 v813 v819 v826 v832 v839 v845 v852 v858 v865 v871 v878 v884 v891 v897 v904 v910 v917 v923 v930 v936 v943 v949 v956 v962 v969 v975 v982 v988 v995 v1001).OK) ∧
  (∀ k0_t8 : Fin (k0_t8_loop v800 v806 v813 v819 v826 v832 v839 v845 v852 v858 v865 v871 v878 v884 v891 v897 v904 v910 v917 v923 v930 v936 v943 v949 v956 v962 v969 v975 v982 v988 v995 v1001).trips, ∀ (k0_h1 : k0_cond1 i = 1#1), 256 ∣ (k0_mult12 v800 v806 v813 v819 v826 v832 v839 v845 v852 v858 v865 v871 v878 v884 v891 v897 v904 v910 v917 v923 v930 v936 v943 v949 v956 v962 v969 v975 v982 v988 v995 v1001 k0_t8).toNat) ∧
  (∀ k0_t8 : Fin (k0_t8_loop v800 v806 v813 v819 v826 v832 v839 v845 v852 v858 v865 v871 v878 v884 v891 v897 v904 v910 v917 v923 v930 v936 v943 v949 v956 v962 v969 v975 v982 v988 v995 v1001).trips, ∀ (k0_h1 : k0_cond1 i = 1#1), ∀ a, (k0_off31 v800 v806 v813 v819 v826 v832 v839 v845 v852 v858 v865 v871 v878 v884 v891 v897 v904 v910 v917 v923 v930 v936 v943 v949 v956 v962 v969 v975 v982 v988 v995 v1001 k0_t8) a + S1x1x1x256.size a ≤ S1x1x1x4096.size a) ∧
  (∀ k0_t8 : Fin (k0_t8_loop v800 v806 v813 v819 v826 v832 v839 v845 v852 v858 v865 v871 v878 v884 v891 v897 v904 v910 v917 v923 v930 v936 v943 v949 v956 v962 v969 v975 v982 v988 v995 v1001).trips, ∀ (k0_h1 : k0_cond1 i = 1#1), ∀ a, (k0_off32 v800 v806 v813 v819 v826 v832 v839 v845 v852 v858 v865 v871 v878 v884 v891 v897 v904 v910 v917 v923 v930 v936 v943 v949 v956 v962 v969 v975 v982 v988 v995 v1001 k0_t8) a + S1x256x1024.size a ≤ S1x4096x1024.size a)
theorem k0_t7_ok : ∀ (i : grid0.Coords) (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_hw8 : k0_chk8 i v800 v806 v813 v819 v826 v832 v839 v845 v852 v858 v865 v871 v878 v884 v891 v897 v904 v910 v917 v923 v930 v936 v943 v949 v956 v962 v969 v975 v982 v988 v995 v1001), ∀ (k0_h1 : k0_cond1 i = 1#1), (k0_t7_loop v800 v806 v813 v819 v826 v832 v839 v845 v852 v858 v865 v871 v878 v884 v891 v897 v904 v910 v917 v923 v930 v936 v943 v949 v956 v962 v969 v975 v982 v988 v995 v1001).OK := fun i v800 v806 v813 v819 v826 v832 v839 v845 v852 v858 v865 v871 v878 v884 v891 v897 v904 v910 v917 v923 v930 v936 v943 v949 v956 v962 v969 v975 v982 v988 v995 v1001 k0_hw8 k0_h1 => k0_hw8.1 k0_h1
theorem k0_mult11_dvd : ∀ (i : grid0.Coords) (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_hw8 : k0_chk8 i v800 v806 v813 v819 v826 v832 v839 v845 v852 v858 v865 v871 v878 v884 v891 v897 v904 v910 v917 v923 v930 v936 v943 v949 v956 v962 v969 v975 v982 v988 v995 v1001) (k0_t7 : Fin (k0_t7_loop v800 v806 v813 v819 v826 v832 v839 v845 v852 v858 v865 v871 v878 v884 v891 v897 v904 v910 v917 v923 v930 v936 v943 v949 v956 v962 v969 v975 v982 v988 v995 v1001).trips), ∀ (k0_h1 : k0_cond1 i = 1#1), 256 ∣ (k0_mult11 v800 v806 v813 v819 v826 v832 v839 v845 v852 v858 v865 v871 v878 v884 v891 v897 v904 v910 v917 v923 v930 v936 v943 v949 v956 v962 v969 v975 v982 v988 v995 v1001 k0_t7).toNat := fun i v800 v806 v813 v819 v826 v832 v839 v845 v852 v858 v865 v871 v878 v884 v891 v897 v904 v910 v917 v923 v930 v936 v943 v949 v956 v962 v969 v975 v982 v988 v995 v1001 k0_hw8 k0_t7 k0_h1 => k0_hw8.2.1 k0_t7 k0_h1
theorem k0_off29_inb : ∀ (i : grid0.Coords) (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_hw8 : k0_chk8 i v800 v806 v813 v819 v826 v832 v839 v845 v852 v858 v865 v871 v878 v884 v891 v897 v904 v910 v917 v923 v930 v936 v943 v949 v956 v962 v969 v975 v982 v988 v995 v1001) (k0_t7 : Fin (k0_t7_loop v800 v806 v813 v819 v826 v832 v839 v845 v852 v858 v865 v871 v878 v884 v891 v897 v904 v910 v917 v923 v930 v936 v943 v949 v956 v962 v969 v975 v982 v988 v995 v1001).trips), ∀ (k0_h1 : k0_cond1 i = 1#1), ∀ a, (k0_off29 v800 v806 v813 v819 v826 v832 v839 v845 v852 v858 v865 v871 v878 v884 v891 v897 v904 v910 v917 v923 v930 v936 v943 v949 v956 v962 v969 v975 v982 v988 v995 v1001 k0_t7) a + S1x1x1x256.size a ≤ S1x1x1x4096.size a := fun i v800 v806 v813 v819 v826 v832 v839 v845 v852 v858 v865 v871 v878 v884 v891 v897 v904 v910 v917 v923 v930 v936 v943 v949 v956 v962 v969 v975 v982 v988 v995 v1001 k0_hw8 k0_t7 k0_h1 => k0_hw8.2.2.1 k0_t7 k0_h1
theorem k0_off30_inb : ∀ (i : grid0.Coords) (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_hw8 : k0_chk8 i v800 v806 v813 v819 v826 v832 v839 v845 v852 v858 v865 v871 v878 v884 v891 v897 v904 v910 v917 v923 v930 v936 v943 v949 v956 v962 v969 v975 v982 v988 v995 v1001) (k0_t7 : Fin (k0_t7_loop v800 v806 v813 v819 v826 v832 v839 v845 v852 v858 v865 v871 v878 v884 v891 v897 v904 v910 v917 v923 v930 v936 v943 v949 v956 v962 v969 v975 v982 v988 v995 v1001).trips), ∀ (k0_h1 : k0_cond1 i = 1#1), ∀ a, (k0_off30 v800 v806 v813 v819 v826 v832 v839 v845 v852 v858 v865 v871 v878 v884 v891 v897 v904 v910 v917 v923 v930 v936 v943 v949 v956 v962 v969 v975 v982 v988 v995 v1001 k0_t7) a + S1x256x1024.size a ≤ S1x4096x1024.size a := fun i v800 v806 v813 v819 v826 v832 v839 v845 v852 v858 v865 v871 v878 v884 v891 v897 v904 v910 v917 v923 v930 v936 v943 v949 v956 v962 v969 v975 v982 v988 v995 v1001 k0_hw8 k0_t7 k0_h1 => k0_hw8.2.2.2.1 k0_t7 k0_h1
theorem k0_t8_ok : ∀ (i : grid0.Coords) (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_hw8 : k0_chk8 i v800 v806 v813 v819 v826 v832 v839 v845 v852 v858 v865 v871 v878 v884 v891 v897 v904 v910 v917 v923 v930 v936 v943 v949 v956 v962 v969 v975 v982 v988 v995 v1001), ∀ (k0_h1 : k0_cond1 i = 1#1), (k0_t8_loop v800 v806 v813 v819 v826 v832 v839 v845 v852 v858 v865 v871 v878 v884 v891 v897 v904 v910 v917 v923 v930 v936 v943 v949 v956 v962 v969 v975 v982 v988 v995 v1001).OK := fun i v800 v806 v813 v819 v826 v832 v839 v845 v852 v858 v865 v871 v878 v884 v891 v897 v904 v910 v917 v923 v930 v936 v943 v949 v956 v962 v969 v975 v982 v988 v995 v1001 k0_hw8 k0_h1 => k0_hw8.2.2.2.2.1 k0_h1
theorem k0_mult12_dvd : ∀ (i : grid0.Coords) (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_hw8 : k0_chk8 i v800 v806 v813 v819 v826 v832 v839 v845 v852 v858 v865 v871 v878 v884 v891 v897 v904 v910 v917 v923 v930 v936 v943 v949 v956 v962 v969 v975 v982 v988 v995 v1001) (k0_t8 : Fin (k0_t8_loop v800 v806 v813 v819 v826 v832 v839 v845 v852 v858 v865 v871 v878 v884 v891 v897 v904 v910 v917 v923 v930 v936 v943 v949 v956 v962 v969 v975 v982 v988 v995 v1001).trips), ∀ (k0_h1 : k0_cond1 i = 1#1), 256 ∣ (k0_mult12 v800 v806 v813 v819 v826 v832 v839 v845 v852 v858 v865 v871 v878 v884 v891 v897 v904 v910 v917 v923 v930 v936 v943 v949 v956 v962 v969 v975 v982 v988 v995 v1001 k0_t8).toNat := fun i v800 v806 v813 v819 v826 v832 v839 v845 v852 v858 v865 v871 v878 v884 v891 v897 v904 v910 v917 v923 v930 v936 v943 v949 v956 v962 v969 v975 v982 v988 v995 v1001 k0_hw8 k0_t8 k0_h1 => k0_hw8.2.2.2.2.2.1 k0_t8 k0_h1
theorem k0_off31_inb : ∀ (i : grid0.Coords) (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_hw8 : k0_chk8 i v800 v806 v813 v819 v826 v832 v839 v845 v852 v858 v865 v871 v878 v884 v891 v897 v904 v910 v917 v923 v930 v936 v943 v949 v956 v962 v969 v975 v982 v988 v995 v1001) (k0_t8 : Fin (k0_t8_loop v800 v806 v813 v819 v826 v832 v839 v845 v852 v858 v865 v871 v878 v884 v891 v897 v904 v910 v917 v923 v930 v936 v943 v949 v956 v962 v969 v975 v982 v988 v995 v1001).trips), ∀ (k0_h1 : k0_cond1 i = 1#1), ∀ a, (k0_off31 v800 v806 v813 v819 v826 v832 v839 v845 v852 v858 v865 v871 v878 v884 v891 v897 v904 v910 v917 v923 v930 v936 v943 v949 v956 v962 v969 v975 v982 v988 v995 v1001 k0_t8) a + S1x1x1x256.size a ≤ S1x1x1x4096.size a := fun i v800 v806 v813 v819 v826 v832 v839 v845 v852 v858 v865 v871 v878 v884 v891 v897 v904 v910 v917 v923 v930 v936 v943 v949 v956 v962 v969 v975 v982 v988 v995 v1001 k0_hw8 k0_t8 k0_h1 => k0_hw8.2.2.2.2.2.2.1 k0_t8 k0_h1
theorem k0_off32_inb : ∀ (i : grid0.Coords) (v800 : BitVec 32) (v806 : BitVec 32) (v813 : BitVec 32) (v819 : BitVec 32) (v826 : BitVec 32) (v832 : BitVec 32) (v839 : BitVec 32) (v845 : BitVec 32) (v852 : BitVec 32) (v858 : BitVec 32) (v865 : BitVec 32) (v871 : BitVec 32) (v878 : BitVec 32) (v884 : BitVec 32) (v891 : BitVec 32) (v897 : BitVec 32) (v904 : BitVec 32) (v910 : BitVec 32) (v917 : BitVec 32) (v923 : BitVec 32) (v930 : BitVec 32) (v936 : BitVec 32) (v943 : BitVec 32) (v949 : BitVec 32) (v956 : BitVec 32) (v962 : BitVec 32) (v969 : BitVec 32) (v975 : BitVec 32) (v982 : BitVec 32) (v988 : BitVec 32) (v995 : BitVec 32) (v1001 : BitVec 32) (k0_hw8 : k0_chk8 i v800 v806 v813 v819 v826 v832 v839 v845 v852 v858 v865 v871 v878 v884 v891 v897 v904 v910 v917 v923 v930 v936 v943 v949 v956 v962 v969 v975 v982 v988 v995 v1001) (k0_t8 : Fin (k0_t8_loop v800 v806 v813 v819 v826 v832 v839 v845 v852 v858 v865 v871 v878 v884 v891 v897 v904 v910 v917 v923 v930 v936 v943 v949 v956 v962 v969 v975 v982 v988 v995 v1001).trips), ∀ (k0_h1 : k0_cond1 i = 1#1), ∀ a, (k0_off32 v800 v806 v813 v819 v826 v832 v839 v845 v852 v858 v865 v871 v878 v884 v891 v897 v904 v910 v917 v923 v930 v936 v943 v949 v956 v962 v969 v975 v982 v988 v995 v1001 k0_t8) a + S1x256x1024.size a ≤ S1x4096x1024.size a := fun i v800 v806 v813 v819 v826 v832 v839 v845 v852 v858 v865 v871 v878 v884 v891 v897 v904 v910 v917 v923 v930 v936 v943 v949 v956 v962 v969 v975 v982 v988 v995 v1001 k0_hw8 k0_t8 k0_h1 => k0_hw8.2.2.2.2.2.2.2 k0_t8 k0_h1

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_20 : BitVec 32 := 0#32
  let v30 : BitVec 1 := Scalar.cmpi .ne v29 c0_i32_20
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S16x4096x1024 : Shape := ⟨3, ![16, 4096, 1024]⟩
abbrev S16x16x4096 : Shape := ⟨3, ![16, 16, 4096]⟩
abbrev S16x16x512 : Shape := ⟨3, ![16, 16, 512]⟩
abbrev S16x1024x2048 : Shape := ⟨3, ![16, 1024, 2048]⟩
abbrev S16x2048x1024 : Shape := ⟨3, ![16, 2048, 1024]⟩
abbrev S_ : Shape := ⟨0, ![]⟩
abbrev S16x16x512x1 : Shape := ⟨4, ![16, 16, 512, 1]⟩
abbrev S1 : Shape := ⟨1, ![1]⟩
abbrev S1x1x1x1 : Shape := ⟨4, ![1, 1, 1, 1]⟩
abbrev S16x16x512x1024 : Shape := ⟨4, ![16, 16, 512, 1024]⟩
abbrev S16x2048x16x512 : Shape := ⟨4, ![16, 2048, 16, 512]⟩
abbrev S16x16x512x2048 : Shape := ⟨4, ![16, 16, 512, 2048]⟩
abbrev S16x1024x16x512 : Shape := ⟨4, ![16, 1024, 16, 512]⟩

abbrev nBuf : Space → Nat
  | .hbm => 57
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x16x4096, .f32⟩
  | .hbm, ⟨2, _⟩ => ⟨S16x16x512, .i32⟩
  | .hbm, ⟨3, _⟩ => ⟨S16x1024x2048, .f32⟩
  | .hbm, ⟨4, _⟩ => ⟨S16x1024x2048, .f32⟩
  | .hbm, ⟨5, _⟩ => ⟨S16x2048x1024, .f32⟩
  | .hbm, ⟨6, _⟩ => ⟨S_, .i32⟩
  | .hbm, ⟨7, _⟩ => ⟨S16x16x512, .i32⟩
  | .hbm, ⟨8, _⟩ => ⟨S16x16x512, .i1⟩
  | .hbm, ⟨9, _⟩ => ⟨S_, .i32⟩
  | .hbm, ⟨10, _⟩ => ⟨S16x16x512, .i32⟩
  | .hbm, ⟨11, _⟩ => ⟨S16x16x512, .i32⟩
  | .hbm, ⟨12, _⟩ => ⟨S16x16x512, .i32⟩
  | .hbm, ⟨13, _⟩ => ⟨S16x16x512x1, .i32⟩
  | .hbm, ⟨14, _⟩ => ⟨S1, .i32⟩
  | .hbm, ⟨15, _⟩ => ⟨S_, .i32⟩
  | .hbm, ⟨16, _⟩ => ⟨S16x16x512x1, .i32⟩
  | .hbm, ⟨17, _⟩ => ⟨S16x16x512x1, .i1⟩
  | .hbm, ⟨18, _⟩ => ⟨S1x1x1x1, .i32⟩
  | .hbm, ⟨19, _⟩ => ⟨S16x16x512x1, .i32⟩
  | .hbm, ⟨20, _⟩ => ⟨S16x16x512x1, .i1⟩
  | .hbm, ⟨21, _⟩ => ⟨S16x16x512x1, .i1⟩
  | .hbm, ⟨22, _⟩ => ⟨S_, .i1⟩
  | .hbm, ⟨23, _⟩ => ⟨S16x16x512, .i1⟩
  | .hbm, ⟨24, _⟩ => ⟨S16x16x512, .f32⟩
  | .hbm, ⟨25, _⟩ => ⟨S_, .f32⟩
  | .hbm, ⟨26, _⟩ => ⟨S16x16x512, .f32⟩
  | .hbm, ⟨27, _⟩ => ⟨S16x16x512, .f32⟩
  | .hbm, ⟨28, _⟩ => ⟨S_, .i32⟩
  | .hbm, ⟨29, _⟩ => ⟨S16x16x512, .i32⟩
  | .hbm, ⟨30, _⟩ => ⟨S16x16x512, .i1⟩
  | .hbm, ⟨31, _⟩ => ⟨S_, .i32⟩
  | .hbm, ⟨32, _⟩ => ⟨S16x16x512, .i32⟩
  | .hbm, ⟨33, _⟩ => ⟨S16x16x512, .i32⟩
  | .hbm, ⟨34, _⟩ => ⟨S16x16x512, .i32⟩
  | .hbm, ⟨35, _⟩ => ⟨S16x16x512x1, .i32⟩
  | .hbm, ⟨36, _⟩ => ⟨S16x16x512x1024, .f32⟩
  | .hbm, ⟨37, _⟩ => ⟨S16x2048x16x512, .f32⟩
  | .hbm, ⟨38, _⟩ => ⟨S16x16x512x2048, .f32⟩
  | .hbm, ⟨39, _⟩ => ⟨S16x2048x16x512, .f32⟩
  | .hbm, ⟨40, _⟩ => ⟨S16x16x512x2048, .f32⟩
  | .hbm, ⟨41, _⟩ => ⟨S16x16x512x2048, .f32⟩
  | .hbm, ⟨42, _⟩ => ⟨S16x16x512x2048, .f32⟩
  | .hbm, ⟨43, _⟩ => ⟨S_, .f32⟩
  | .hbm, ⟨44, _⟩ => ⟨S16x16x512x2048, .f32⟩
  | .hbm, ⟨45, _⟩ => ⟨S16x16x512x2048, .f32⟩
  | .hbm, ⟨46, _⟩ => ⟨S_, .f32⟩
  | .hbm, ⟨47, _⟩ => ⟨S16x16x512x2048, .f32⟩
  | .hbm, ⟨48, _⟩ => ⟨S16x16x512x2048, .f32⟩
  | .hbm, ⟨49, _⟩ => ⟨S16x16x512x2048, .f32⟩
  | .hbm, ⟨50, _⟩ => ⟨S16x16x512x2048, .f32⟩
  | .hbm, ⟨51, _⟩ => ⟨S16x1024x16x512, .f32⟩
  | .hbm, ⟨52, _⟩ => ⟨S16x16x512x1024, .f32⟩
  | .hbm, ⟨53, _⟩ => ⟨S16x16x512x1, .f32⟩
  | .hbm, ⟨54, _⟩ => ⟨S16x16x512x1024, .f32⟩
  | .hbm, ⟨55, _⟩ => ⟨S16x16x512x1024, .f32⟩
  | .hbm, ⟨56, _⟩ => ⟨S16x16x512x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_c : Ref sig .tc := ⟨.hbm, 28, rfl⟩
abbrev main_v1 : Ref sig .tc := ⟨.hbm, 29, rfl⟩
abbrev main_v2 : Ref sig .tc := ⟨.hbm, 30, rfl⟩
abbrev main_c_0 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩

abbrev nD : Nat := 1
abbrev τ : Topo := Topo.v7x

variable {F : FTy → Type} [FloatOps F]
-- ==== Gla.lean ====
abbrev S16x4096x1024 : Shape := ⟨3, ![16, 4096, 1024]⟩
abbrev S1024 : Shape := ⟨1, ![1024]⟩
abbrev S16x1024 : Shape := ⟨2, ![16, 1024]⟩
abbrev S1024x3104 : Shape := ⟨2, ![1024, 3104]⟩
abbrev S16x512 : Shape := ⟨2, ![16, 512]⟩
abbrev S512 : Shape := ⟨1, ![512]⟩
abbrev S16x1x1024 : Shape := ⟨3, ![16, 1, 1024]⟩
abbrev S_ : Shape := ⟨0, ![]⟩
abbrev S1024x128 : Shape := ⟨2, ![1024, 128]⟩
abbrev S1024x32 : Shape := ⟨2, ![1024, 32]⟩
abbrev S1 : Shape := ⟨1, ![1]⟩
abbrev S128x1024 : Shape := ⟨2, ![128, 1024]⟩
abbrev S2 : Shape := ⟨1, ![2]⟩
abbrev S1x1024 : Shape := ⟨2, ![1, 1024]⟩
abbrev S1024x3072 : Shape := ⟨2, ![1024, 3072]⟩
abbrev S1x128x1024 : Shape := ⟨3, ![1, 128, 1024]⟩
abbrev S2x128x1024 : Shape := ⟨3, ![2, 128, 1024]⟩
abbrev S16x4096x512 : Shape := ⟨3, ![16, 4096, 512]⟩
abbrev S1x512x1024 : Shape := ⟨3, ![1, 512, 1024]⟩
abbrev S1x1x1024 : Shape := ⟨3, ![1, 1, 1024]⟩
abbrev S1x512x512 : Shape := ⟨3, ![1, 512, 512]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S1024x1024 : Shape := ⟨2, ![1024, 1024]⟩
abbrev S512x128 : Shape := ⟨2, ![512, 128]⟩

abbrev nBuf : Space → Nat
  | .hbm => 50
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x3104, .f32⟩
  | .hbm, ⟨5, _⟩ => ⟨S16x512, .f32⟩
  | .hbm, ⟨6, _⟩ => ⟨S512, .f32⟩
  | .hbm, ⟨7, _⟩ => ⟨S16x512, .f32⟩
  | .hbm, ⟨8, _⟩ => ⟨S512, .f32⟩
  | .hbm, ⟨9, _⟩ => ⟨S16x1x1024, .f32⟩
  | .hbm, ⟨10, _⟩ => ⟨S16x1x1024, .f32⟩
  | .hbm, ⟨11, _⟩ => ⟨S_, .f32⟩
  | .hbm, ⟨12, _⟩ => ⟨S1024x128, .f32⟩
  | .hbm, ⟨13, _⟩ => ⟨S1024x32, .f32⟩
  | .hbm, ⟨14, _⟩ => ⟨S_, .i32⟩
  | .hbm, ⟨15, _⟩ => ⟨S1, .i32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S128x1024, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S128x1024, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S128x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1024x3072, .f32⟩
  | .hbm, ⟨36, _⟩ => ⟨S1024x3072, .bf16⟩
  | .hbm, ⟨37, _⟩ => ⟨S128x1024, .bf16⟩
  | .hbm, ⟨38, _⟩ => ⟨S128x1024, .f32⟩
  | .hbm, ⟨39, _⟩ => ⟨S128x1024, .f32⟩
  | .hbm, ⟨40, _⟩ => ⟨S128x1024, .bf16⟩
  | .hbm, ⟨41, _⟩ => ⟨S1x128x1024, .bf16⟩
  | .hbm, ⟨42, _⟩ => ⟨S1x128x1024, .bf16⟩
  | .hbm, ⟨43, _⟩ => ⟨S2x128x1024, .bf16⟩
  | .hbm, ⟨44, _⟩ => ⟨S16x4096x512, .f32⟩
  | .hbm, ⟨45, _⟩ => ⟨S16x4096x512, .f32⟩
  | .hbm, ⟨46, _⟩ => ⟨S16x4096x1024, .f32⟩
  | .hbm, ⟨47, _⟩ => ⟨S16x4096x1024, .f32⟩
  | .hbm, ⟨48, _⟩ => ⟨S16x4096x512, .f32⟩
  | .hbm, ⟨49, _⟩ => ⟨S16x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x128, .bf16⟩
  | .local _ .vmem, ⟨9, _⟩ => ⟨S2x128x1024, .bf16⟩
  | .local _ .vmem, ⟨10, _⟩ => ⟨S1x1024, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_v28_2 : Ref sig .tc := ⟨.hbm, 46, rfl⟩
abbrev main_v28_3 : Ref sig .tc := ⟨.hbm, 47, rfl⟩
abbrev main_v28_4 : Ref sig .tc := ⟨.hbm, 48, rfl⟩
abbrev main_v28_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== GlaReferenceIdeal.lean ====
abbrev S16x4096x1024 : Shape := ⟨3, ![16, 4096, 1024]⟩
abbrev S1024 : Shape := ⟨1, ![1024]⟩
abbrev S16x1024 : Shape := ⟨2, ![16, 1024]⟩
abbrev S1024x3104 : Shape := ⟨2, ![1024, 3104]⟩
abbrev S16x512 : Shape := ⟨2, ![16, 512]⟩
abbrev S512 : Shape := ⟨1, ![512]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x3104 : Shape := ⟨3, ![16, 4096, 3104]⟩
abbrev S16x4096x512 : Shape := ⟨3, ![16, 4096, 512]⟩
abbrev S16x4096x16 : Shape := ⟨3, ![16, 4096, 16]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x3104, .f32⟩
  | .hbm, ⟨5, _⟩ => ⟨S16x512, .f32⟩
  | .hbm, ⟨6, _⟩ => ⟨S512, .f32⟩
  | .hbm, ⟨7, _⟩ => ⟨S16x512, .f32⟩
  | .hbm, ⟨8, _⟩ => ⟨S512, .f32⟩
  | .hbm, ⟨9, _⟩ => ⟨S16x4096x1024, .f32⟩
  | .hbm, ⟨10, _⟩ => ⟨S_, .f32⟩
  | .hbm, ⟨11, _⟩ => ⟨S16x4096, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S1x1x1024, .f32⟩
  | .hbm, ⟨23, _⟩ => ⟨S16x4096x1024, .f32⟩
  | .hbm, ⟨24, _⟩ => ⟨S16x4096x1024, .f32⟩
  | .hbm, ⟨25, _⟩ => ⟨S16x1x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x4096x1024, .f32⟩
  | .hbm, ⟨30, _⟩ => ⟨S16x4096x1024, .f32⟩
  | .hbm, ⟨31, _⟩ => ⟨S16x1x1024, .f32⟩
  | .hbm, ⟨32, _⟩ => ⟨S16x4096x1024, .f32⟩
  | .hbm, ⟨33, _⟩ => ⟨S16x4096x1024, .f32⟩
  | .hbm, ⟨34, _⟩ => ⟨S16x4096x3104, .f32⟩
  | .hbm, ⟨35, _⟩ => ⟨S16x4096x512, .f32⟩
  | .hbm, ⟨36, _⟩ => ⟨S16x4096x512, .f32⟩
  | .hbm, ⟨37, _⟩ => ⟨S16x4096x1024, .f32⟩
  | .hbm, ⟨38, _⟩ => ⟨S16x4096x1024, .f32⟩
  | .hbm, ⟨39, _⟩ => ⟨S16x4096x16, .f32⟩
  | .hbm, ⟨40, _⟩ => ⟨S16x4096x16, .f32⟩
  | .hbm, ⟨41, _⟩ => ⟨S_, .f32⟩
  | .hbm, ⟨42, _⟩ => ⟨S16x4096x512, .f32⟩
  | .hbm, ⟨43, _⟩ => ⟨S16x4096x512, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Hy.lean ====
abbrev S16x4096x1024 : Shape := ⟨3, ![16, 4096, 1024]⟩
abbrev S1024 : Shape := ⟨1, ![1024]⟩
abbrev S16x1024 : Shape := ⟨2, ![16, 1024]⟩
abbrev S1024x3072 : Shape := ⟨2, ![1024, 3072]⟩
abbrev S3x3072 : Shape := ⟨2, ![3, 3072]⟩
abbrev S3072 : Shape := ⟨1, ![3072]⟩
abbrev S16x1x1024 : Shape := ⟨3, ![16, 1, 1024]⟩
abbrev S1x1024 : Shape := ⟨2, ![1, 1024]⟩
abbrev S1x3072 : Shape := ⟨2, ![1, 3072]⟩
abbrev S1x512x1024 : Shape := ⟨3, ![1, 512, 1024]⟩
abbrev S1x8x1024 : Shape := ⟨3, ![1, 8, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S8 : Shape := ⟨1, ![8]⟩
abbrev S8x1 : Shape := ⟨2, ![8, 1]⟩
abbrev S1024x1024 : Shape := ⟨2, ![1024, 1024]⟩
abbrev S3x1024 : Shape := ⟨2, ![3, 1024]⟩

abbrev nBuf : Space → Nat
  | .hbm => 14
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x3072, .f32⟩
  | .hbm, ⟨5, _⟩ => ⟨S3x3072, .f32⟩
  | .hbm, ⟨6, _⟩ => ⟨S3072, .f32⟩
  | .hbm, ⟨7, _⟩ => ⟨S16x1x1024, .f32⟩
  | .hbm, ⟨8, _⟩ => ⟨S16x1x1024, .f32⟩
  | .hbm, ⟨9, _⟩ => ⟨S1x1024, .f32⟩
  | .hbm, ⟨10, _⟩ => ⟨S1024x3072, .bf16⟩
  | .hbm, ⟨11, _⟩ => ⟨S1x3072, .f32⟩
  | .hbm, ⟨12, _⟩ => ⟨S16x4096x1024, .f32⟩
  | .hbm, ⟨13, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x3072, .bf16⟩
  | .local _ .vmem, ⟨12, _⟩ => ⟨S3x3072, .f32⟩
  | .local _ .vmem, ⟨13, _⟩ => ⟨S1x3072, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== HyReferenceIdeal.lean ====
abbrev S16x4096x1024 : Shape := ⟨3, ![16, 4096, 1024]⟩
abbrev S1024 : Shape := ⟨1, ![1024]⟩
abbrev S16x1024 : Shape := ⟨2, ![16, 1024]⟩
abbrev S1024x3072 : Shape := ⟨2, ![1024, 3072]⟩
abbrev S3x3072 : Shape := ⟨2, ![3, 3072]⟩
abbrev S3072 : Shape := ⟨1, ![3072]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x3072 : Shape := ⟨3, ![16, 4096, 3072]⟩
abbrev S16x4098x3072 : Shape := ⟨3, ![16, 4098, 3072]⟩
abbrev S1x3072 : Shape := ⟨2, ![1, 3072]⟩
abbrev S1x1x3072 : Shape := ⟨3, ![1, 1, 3072]⟩

abbrev nBuf : Space → Nat
  | .hbm => 63
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x3072, .f32⟩
  | .hbm, ⟨5, _⟩ => ⟨S3x3072, .f32⟩
  | .hbm, ⟨6, _⟩ => ⟨S3072, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x1x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x4096x1024, .f32⟩
  | .hbm, ⟨28, _⟩ => ⟨S16x4096x1024, .f32⟩
  | .hbm, ⟨29, _⟩ => ⟨S16x1x1024, .f32⟩
  | .hbm, ⟨30, _⟩ => ⟨S16x4096x1024, .f32⟩
  | .hbm, ⟨31, _⟩ => ⟨S16x4096x1024, .f32⟩
  | .hbm, ⟨32, _⟩ => ⟨S16x4096x3072, .f32⟩
  | .hbm, ⟨33, _⟩ => ⟨S_, .i32⟩
  | .hbm, ⟨34, _⟩ => ⟨S_, .f32⟩
  | .hbm, ⟨35, _⟩ => ⟨S16x4098x3072, .f32⟩
  | .hbm, ⟨36, _⟩ => ⟨S16x4096x3072, .f32⟩
  | .hbm, ⟨37, _⟩ => ⟨S1x3072, .f32⟩
  | .hbm, ⟨38, _⟩ => ⟨S3072, .f32⟩
  | .hbm, ⟨39, _⟩ => ⟨S1x1x3072, .f32⟩
  | .hbm, ⟨40, _⟩ => ⟨S16x4096x3072, .f32⟩
  | .hbm, ⟨41, _⟩ => ⟨S16x4096x3072, .f32⟩
  | .hbm, ⟨42, _⟩ => ⟨S16x4096x3072, .f32⟩
  | .hbm, ⟨43, _⟩ => ⟨S1x3072, .f32⟩
  | .hbm, ⟨44, _⟩ => ⟨S3072, .f32⟩
  | .hbm, ⟨45, _⟩ => ⟨S1x1x3072, .f32⟩
  | .hbm, ⟨46, _⟩ => ⟨S16x4096x3072, .f32⟩
  | .hbm, ⟨47, _⟩ => ⟨S16x4096x3072, .f32⟩
  | .hbm, ⟨48, _⟩ => ⟨S16x4096x3072, .f32⟩
  | .hbm, ⟨49, _⟩ => ⟨S16x4096x3072, .f32⟩
  | .hbm, ⟨50, _⟩ => ⟨S1x3072, .f32⟩
  | .hbm, ⟨51, _⟩ => ⟨S3072, .f32⟩
  | .hbm, ⟨52, _⟩ => ⟨S1x1x3072, .f32⟩
  | .hbm, ⟨53, _⟩ => ⟨S16x4096x3072, .f32⟩
  | .hbm, ⟨54, _⟩ => ⟨S16x4096x3072, .f32⟩
  | .hbm, ⟨55, _⟩ => ⟨S16x4096x3072, .f32⟩
  | .hbm, ⟨56, _⟩ => ⟨S1x1x3072, .f32⟩
  | .hbm, ⟨57, _⟩ => ⟨S16x4096x3072, .f32⟩
  | .hbm, ⟨58, _⟩ => ⟨S16x4096x3072, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Proof.Setup.lean ====
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

/-! The launch of the expert call: its windows' schedule on the grid, the memory the region finds behind the host
    operations, the table in scalar memory, the blocks the windows hold at a point, and the frame claim's post from
    the post of a run. -/

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%40)) is fetched at the points ≡ 0 (mod 32), at any contents of the tables (its index map reads none). -/
theorem fetch0_0 (a : (pcfg0 (F := F)).Adm) : ∀ t : Fin (cfg0 a).N, ((cfg0 a).win 0).fetch t = true ↔ t.val % 32 = 0 :=
  (fun t => Pipeline.Window.fetchOf_reads cc0_transform_0 reads0_0 hreads0_0 0 (by decide) (by decide) (Pipeline.Window.sep_of_coord cc0_transform_0 0 0 (fun _ => rfl) (by decide)) (P := 32) (by decide) t : ∀ t : Fin grid0.N, Pipeline.Window.fetchOf grid0 false cc0_transform_0 t = true ↔ t.val % 32 = 0)
/-- Window 1 (operand 2 (%45)) is fetched at the points ≡ 0 (mod 2), at any contents of the tables (its index map reads none). -/
theorem fetch0_1 (a : (pcfg0 (F := F)).Adm) : ∀ t : Fin (cfg0 a).N, ((cfg0 a).win 1).fetch t = true ↔ t.val % 2 = 0 :=
  (fun t => Pipeline.Window.fetchOf_reads cc0_transform_1 reads0_1 hreads0_1 1 (by decide) (by decide) (Pipeline.Window.sep_of_coord cc0_transform_1 1 1 (fun _ => rfl) (by decide)) (P := 2) (by decide) t : ∀ t : Fin grid0.N, Pipeline.Window.fetchOf grid0 false cc0_transform_1 t = true ↔ t.val % 2 = 0)
/-- Window 2 (operand 3 (%46)) is fetched at the points ≡ 0 (mod 2), at any contents of the tables (its index map reads none). -/
theorem fetch0_2 (a : (pcfg0 (F := F)).Adm) : ∀ t : Fin (cfg0 a).N, ((cfg0 a).win 2).fetch t = true ↔ t.val % 2 = 0 :=
  (fun t => Pipeline.Window.fetchOf_reads cc0_transform_2 reads0_2 hreads0_2 1 (by decide) (by decide) (Pipeline.Window.sep_of_coord cc0_transform_2 1 1 (fun _ => rfl) (by decide)) (P := 2) (by decide) t : ∀ t : Fin grid0.N, Pipeline.Window.fetchOf grid0 false cc0_transform_2 t = true ↔ t.val % 2 = 0)
/-- Window 3 (operand 4 (%41)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 2 (by decide) (by decide) (Pipeline.Window.sep_of_coord cc0_transform_3 2 2 (fun _ => rfl) (by decide)) (P := 1) (by decide) t).mpr (Nat.mod_one _) : ∀ t : Fin grid0.N, Pipeline.Window.fetchOf grid0 false cc0_transform_3 t = true)
/-- Window 4 (operand 5 (%42)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 2 (by decide) (by decide) (Pipeline.Window.sep_of_coord cc0_transform_4 2 2 (fun _ => rfl) (by decide)) (P := 1) (by decide) t).mpr (Nat.mod_one _) : ∀ t : Fin grid0.N, Pipeline.Window.fetchOf grid0 false cc0_transform_4 t = true)
/-- Window 5 (operand 6 (%43)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 2 (by decide) (by decide) (Pipeline.Window.sep_of_coord cc0_transform_5 2 1 (fun _ => rfl) (by decide)) (P := 1) (by decide) t).mpr (Nat.mod_one _) : ∀ t : Fin grid0.N, Pipeline.Window.fetchOf grid0 false cc0_transform_5 t = true)
/-- Window 6 (result 0 (%47)) is written back at the points ≡ 1 (mod 2), at any contents of the tables (its index map reads none). -/
theorem flush0_6 (a : (pcfg0 (F := F)).Adm) : ∀ t : Fin (cfg0 a).N, ((cfg0 a).win 6).flush t = true ↔ t.val % 2 = 1 :=
  (fun t => Pipeline.Window.flushOf_reads cc0_transform_6 reads0_6 hreads0_6 1 (by decide) (by decide) (Pipeline.Window.sep_of_coord cc0_transform_6 1 1 (fun _ => rfl) (by decide)) (P := 2) (m := 1) (by decide) rfl t : ∀ t : Fin grid0.N, Pipeline.Window.flushOf grid0 true cc0_transform_6 t = true ↔ t.val % 2 = 1)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_ffn (grid0.coords t) (Memref.whole main_v44) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S32768 .i32 := Memref.whole main_v44
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 2) — by arithmetic of the point. -/
theorem hcond0_0 : ∀ t : Fin grid0.N, cond0_0 (grid0.coords t) ↔ t.val % 2 = 0 :=
  (fun t => by
    have ht : t.val < 512 := Nat.lt_of_lt_of_eq t.isLt N_0
    have e0 : (grid0.coords t 0).val = t.val / 32 % 16 := Pipeline.Grid.coords_val t 0 (by decide) rfl
    have e1 : (grid0.coords t 1).val = t.val / 2 % 16 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — by arithmetic of the point. -/
theorem hcond0_1 : ∀ t : Fin grid0.N, cond0_1 (grid0.coords t) ↔ t.val % 2 = 1 :=
  (fun t => by
    have ht : t.val < 512 := Nat.lt_of_lt_of_eq t.isLt N_0
    have e0 : (grid0.coords t 0).val = t.val / 32 % 16 := Pipeline.Grid.coords_val t 0 (by decide) rfl
    have e1 : (grid0.coords t 1).val = t.val / 2 % 16 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val % 2 = 1)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- At the points of case A the printed configuration (`Cfg.idle`) calls output 6 idle: the case stores nothing into it. -/
theorem idleAt0_6_A (hO : Ok m) : ∀ t : Fin (cfgM m hO).N, cond0_0 (grid0.coords t) → ¬cond0_1 (grid0.coords t) → (cfgM m hO).idle 6 (grid0.coords t) = true :=
  (by decide +kernel : ∀ t : Fin grid0.N, cond0_0 (grid0.coords t) → ¬cond0_1 (grid0.coords t) → idle0 6 (grid0.coords t) = true)
/-- At the points of case A the pipeline does not write output 6's block back. -/
theorem noFlush0_6_A (hO : Ok m) : ∀ t : Fin (cfgM m hO).N, cond0_0 (grid0.coords t) → ¬cond0_1 (grid0.coords t) → ((cfgM m hO).win 6).flush t = false :=
  (by decide +kernel : ∀ t : Fin grid0.N, cond0_0 (grid0.coords t) → ¬cond0_1 (grid0.coords t) → Pipeline.Window.flushOf grid0 true cc0_transform_6 t = false)
/-- At the points of case B the printed configuration (`Cfg.idle`) calls output 6 live: the case stores into it. -/
theorem liveAt0_6_B (hO : Ok m) : ∀ t : Fin (cfgM m hO).N, ¬cond0_0 (grid0.coords t) → cond0_1 (grid0.coords t) → (cfgM m hO).idle 6 (grid0.coords t) = false :=
  (by decide +kernel : ∀ t : Fin grid0.N, ¬cond0_0 (grid0.coords t) → cond0_1 (grid0.coords t) → idle0 6 (grid0.coords t) = false)

/-! ## The kernel body on any staging memrefs: a subtype the run finds -/

/-- One staging buffer of output window 6, through which its contents are stated (`View.read_writes_of_cover`: the
    choice does not matter). -/
abbrev VO0_6 : View sig .tc .vmem S1x1x512x1024 .bf16 := (Memref.whole cc0_stg6_0 : Memref sig .tc .vmem S1x1x512x1024 .bf16).view
/-- Each window's current staging memref at point `t`, spelled as the pipeline passes it (`bodyAt0`), and its wholeness. -/
abbrev ms0_0 (hO : Ok m) (t : Fin (cfgM m hO).N) : Memref sig .tc .vmem S1x4096x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1x4096 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x4096 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x512x1024 .bf16 := spec0_6.stage ((cfgM m hO).slots t 6)
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S512x1024 .bf16 := Memref.whole cc0_scratch0
abbrev scM0_1 : Memref sig .tc .vmem S512x1024 .f32 := Memref.whole cc0_scratch1
abbrev scM0_2 : Memref sig .tc .vmem S128x1024 .f32 := Memref.whole cc0_scratch2
abbrev scM0_3 : Memref sig .tc .vmem S512x1 .f32 := Memref.whole cc0_scratch3
/-- The scratch `arg11` the kernel carries between points, as a view: what it holds is stated through it. -/
abbrev VS0_0 : View sig .tc .vmem S512x1024 .bf16 := scM0_0.view
/-- The scratch `arg12` the kernel carries between points, as a view: what it holds is stated through it. -/
abbrev VS0_1 : View sig .tc .vmem S512x1024 .f32 := scM0_1.view
/-- The scratch `arg14` the kernel carries between points, as a view: what it holds is stated through it. -/
abbrev VS0_3 : View sig .tc .vmem S512x1 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal

end
-- ==== Proof.Words.lean ====
module

public import proofs.«01_k».proof.Proof.Gen.KernelIdeal.Skeleton

/-! The word arithmetic of the gather: how many tile offsets lie below a block's bounds, the first tile of the
    window, the bounds of the loop over the tiles beyond it, and that every offset computed from them stays
    inside its array, whatever words the table holds. -/

@[expose] public section

open Idealize Idealize.ShloMosaic

namespace Cert.KernelIdeal

/-- How many of the words `ws` have the bit `p`, counted in 32-bit words as the kernel counts. -/
def cnt (p : BitVec 32 → BitVec 1) (ws : List (BitVec 32)) : BitVec 32 :=
  ws.foldl (fun a w => Scalar.addi a (Scalar.select (p w) 1#32 0#32)) 0#32

/-- The count of the words at most `lo`. -/
def cntLe (lo : BitVec 32) (ws : List (BitVec 32)) : BitVec 32 := cnt (fun w => Scalar.cmpi .sle w lo) ws
/-- The count of the words below `hi`. -/
def cntLt (hi : BitVec 32) (ws : List (BitVec 32)) : BitVec 32 := cnt (fun w => Scalar.cmpi .slt w hi) ws

theorem cnt_foldl (p : BitVec 32 → BitVec 1) (ws : List (BitVec 32)) : ∀ a : BitVec 32, a.toNat + ws.length < 2 ^ 32 →
    (ws.foldl (fun a w => Scalar.addi a (Scalar.select (p w) 1#32 0#32)) a).toNat
      = a.toNat + ws.countP (fun w => decide (p w = 1#1)) := by
  induction ws with
  | nil => intro a _; simp
  | cons w ws ih =>
    intro a h
    rw [List.length_cons] at h
    have hs : (Scalar.addi a (Scalar.select (p w) 1#32 0#32)).toNat = a.toNat + (if p w = 1#1 then 1 else 0) := by
      by_cases hp : p w = 1#1
      · rw [if_pos hp, Scalar.select, if_pos (show p w = 1 from hp)]
        show (a + 1#32).toNat = _
        rw [BitVec.toNat_add]
        exact Nat.mod_eq_of_lt (by show a.toNat + 1 < 2 ^ 32; omega)
      · rw [if_neg hp, Scalar.select, if_neg (show ¬ p w = 1 from hp)]
        show (a + 0#32).toNat = _
        simp
    rw [List.foldl_cons, ih _ (by rw [hs]; split <;> omega), hs, List.countP_cons]
    by_cases hp : p w = 1#1 <;> simp [hp] <;> omega

/-- The count as a number. -/
theorem cnt_toNat (p : BitVec 32 → BitVec 1) (ws : List (BitVec 32)) (h : ws.length ≤ 16) :
    (cnt p ws).toNat = ws.countP (fun w => decide (p w = 1#1)) := by
  have := cnt_foldl p ws 0#32 (by simp; omega)
  simpa [cnt] using this

theorem cnt_le (p : BitVec 32 → BitVec 1) (ws : List (BitVec 32)) (h : ws.length ≤ 16) : (cnt p ws).toNat ≤ 16 := by
  rw [cnt_toNat p ws h]; exact List.countP_le_length.trans h

/-- The first tile of the window: the count, at most 10. -/
def win (a : BitVec 32) : BitVec 32 := Scalar.minsi a 10#32
/-- The first tile of the loop over the tiles the window does not hold. -/
def rest (a : BitVec 32) : BitVec 32 := Scalar.maxsi a (Scalar.addi (win a) 6#32)
/-- The loop's upper bound as the kernel computes it, -/
def stop (a b : BitVec 32) : BitVec 32 :=
  Scalar.addi (rest a) (Scalar.muli (Scalar.divsi (Scalar.subi b (rest a)) 1#32) 1#32)
/-- and the upper bound of the loop behind it. -/
def stop' (a b : BitVec 32) : BitVec 32 := Scalar.addi (rest a) (Scalar.subi b (rest a))
/-- The loop over the tiles the window does not hold. -/
@[reducible] def restLoop (a b : BitVec 32) : Scf.Loop 32 := ⟨rest a, stop a b, 1#32⟩
/-- The loop behind it. -/
@[reducible] def deadLoop (a b : BitVec 32) : Scf.Loop 32 := ⟨stop a b, stop' a b, 1#32⟩

theorem toInt_small {x : BitVec 32} (h : x.toNat ≤ 5000) : x.toInt = (x.toNat : Int) := by
  rw [BitVec.toInt_eq_toNat_cond]; split <;> omega

theorem win_toNat {a : BitVec 32} (h : a.toNat ≤ 16) : (win a).toNat = min a.toNat 10 := by
  show (if a.slt 10#32 then a else 10#32).toNat = _
  rw [BitVec.slt_eq_decide, toInt_small (by omega), show (10#32 : BitVec 32).toInt = 10 from rfl]
  by_cases h1 : a.toNat < 10
  · rw [if_pos (by simpa using h1)]; omega
  · rw [if_neg (by simpa using h1)]; show 10 = _; omega

theorem win_add_toNat {a : BitVec 32} (h : a.toNat ≤ 16) : (Scalar.addi (win a) 6#32).toNat = min a.toNat 10 + 6 := by
  show (win a + 6#32).toNat = _
  rw [BitVec.toNat_add, win_toNat h]
  exact Nat.mod_eq_of_lt (by show min a.toNat 10 + 6 < 2 ^ 32; omega)

theorem rest_toNat {a : BitVec 32} (h : a.toNat ≤ 16) : (rest a).toNat = max a.toNat (min a.toNat 10 + 6) := by
  show (if (Scalar.addi (win a) 6#32).slt a then a else Scalar.addi (win a) 6#32).toNat = _
  have h1 := win_add_toNat h
  rw [BitVec.slt_eq_decide, toInt_small (by omega), toInt_small (by omega), h1]
  by_cases h2 : min a.toNat 10 + 6 < a.toNat
  · rw [if_pos (by simp only [decide_eq_true_eq]; omega)]; omega
  · rw [if_neg (by simp only [decide_eq_true_eq]; omega), h1]; omega

theorem stop_eq (a b : BitVec 32) : stop a b = b := by
  show rest a + IntOp.divsi .scalar (b - rest a) 1#32 * 1#32 = b
  have h : IntOp.divsi .scalar (b - rest a) 1#32 = b - rest a := by
    unfold IntOp.divsi
    rw [if_neg (by unfold IntOp.SDivCorner; intro h; rcases h with h | ⟨_, h⟩ <;> exact absurd h (by decide))]
    exact BitVec.sdiv_one
  rw [h, BitVec.mul_one, BitVec.add_comm, BitVec.sub_add_cancel]

theorem stop'_eq (a b : BitVec 32) : stop' a b = b := by
  show rest a + (b - rest a) = b
  rw [BitVec.add_comm, BitVec.sub_add_cancel]

theorem restLoop_trips {a b : BitVec 32} (ha : a.toNat ≤ 16) (hb : b.toNat ≤ 16) :
    (restLoop a b).trips = b.toNat - (rest a).toNat := by
  show Scf.trips (rest a) (stop a b) 1#32 = _
  have hr := rest_toNat ha
  rw [stop_eq, Scf.trips, toInt_small (by omega), toInt_small (by omega), show (1#32 : BitVec 32).toInt = 1 from rfl]
  omega

theorem restLoop_OK {a b : BitVec 32} (ha : a.toNat ≤ 16) (hb : b.toNat ≤ 16) : (restLoop a b).OK := by
  have ht := restLoop_trips ha hb
  have hr := rest_toNat ha
  refine ⟨show 0 < (1#32 : BitVec 32).toInt by decide, ?_⟩
  show (rest a).toInt + ((restLoop a b).trips : Int) * (1#32 : BitVec 32).toInt < 2 ^ 31
  rw [ht, toInt_small (by omega), show (1#32 : BitVec 32).toInt = 1 from rfl]
  omega

/-- The loop behind the tiles' loop makes no trip. -/
theorem deadLoop_trips {a b : BitVec 32} : (deadLoop a b).trips = 0 := by
  show Scf.trips (stop a b) (stop' a b) 1#32 = _
  rw [stop_eq, stop'_eq, Scf.trips, show (1#32 : BitVec 32).toInt = 1 from rfl]
  omega

theorem deadLoop_OK {a b : BitVec 32} (hb : b.toNat ≤ 16) : (deadLoop a b).OK := by
  refine ⟨show 0 < (1#32 : BitVec 32).toInt by decide, ?_⟩
  show (stop a b).toInt + ((deadLoop a b).trips : Int) * (1#32 : BitVec 32).toInt < 2 ^ 31
  rw [deadLoop_trips, stop_eq, toInt_small (by omega)]
  omega

theorem mul256_toNat {x : BitVec 32} (h : x.toNat ≤ 16) : (Scalar.muli x 256#32).toNat = x.toNat * 256 := by
  show (x * 256#32).toNat = _
  rw [BitVec.toNat_mul]
  exact Nat.mod_eq_of_lt (by show x.toNat * 256 < 2 ^ 32; omega)

theorem tile_toNat {a b : BitVec 32} (ha : a.toNat ≤ 16) (hb : b.toNat ≤ 16) (k : Fin (restLoop a b).trips) :
    (Scf.iv (rest a) 1#32 k).toNat = (rest a).toNat + k := by
  have hk : k.val < b.toNat - (rest a).toNat := lt_of_lt_of_eq k.isLt (restLoop_trips ha hb)
  have hr := rest_toNat ha
  show (rest a + BitVec.ofNat 32 k * 1#32).toNat = _
  rw [BitVec.mul_one, BitVec.toNat_add, BitVec.toNat_ofNat, Nat.mod_eq_of_lt (show k.val < 2 ^ 32 by omega)]
  exact Nat.mod_eq_of_lt (by show (rest a).toNat + k.val < 2 ^ 32; omega)

theorem tile_lt {a b : BitVec 32} (ha : a.toNat ≤ 16) (hb : b.toNat ≤ 16) (k : Fin (restLoop a b).trips) :
    (rest a).toNat + k < 16 := by
  have hk : k.val < b.toNat - (rest a).toNat := lt_of_lt_of_eq k.isLt (restLoop_trips ha hb)
  omega

theorem win_dvd {a : BitVec 32} (h : a.toNat ≤ 16) : 256 ∣ (Scalar.muli (win a) 256#32).toNat := by
  rw [mul256_toNat (by rw [win_toNat h]; omega)]; exact Nat.dvd_mul_left ..

theorem win_start_le {a : BitVec 32} (h : a.toNat ≤ 16) : (Scalar.muli (win a) 256#32).toNat ≤ 2560 := by
  have h1 := win_toNat h
  rw [mul256_toNat (by omega)]; omega

theorem tile_dvd {a b : BitVec 32} (ha : a.toNat ≤ 16) (hb : b.toNat ≤ 16) (k : Fin (restLoop a b).trips) :
    256 ∣ (Scalar.muli (Scf.iv (rest a) 1#32 k) 256#32).toNat := by
  have := tile_lt ha hb k
  rw [mul256_toNat (by rw [tile_toNat ha hb]; omega)]; exact Nat.dvd_mul_left ..

theorem tile_start_le {a b : BitVec 32} (ha : a.toNat ≤ 16) (hb : b.toNat ≤ 16) (k : Fin (restLoop a b).trips) :
    (Scalar.muli (Scf.iv (rest a) 1#32 k) 256#32).toNat ≤ 3840 := by
  have := tile_lt ha hb k
  rw [mul256_toNat (by rw [tile_toNat ha hb]; omega), tile_toNat ha hb]; omega

theorem fits4 {n w : Nat} (h : n + w ≤ 4096) : ∀ a, (![0, 0, 0, n] : Fin 4 → Nat) a + (![1, 1, 1, w] : Fin 4 → Nat) a ≤ (![1, 1, 1, 4096] : Fin 4 → Nat) a := by
  intro a; fin_cases a
  · exact Nat.le_refl 1
  · exact Nat.le_refl 1
  · exact Nat.le_refl 1
  · exact h

theorem fits3 {n w : Nat} (h : n + w ≤ 4096) : ∀ a, (![0, n, 0] : Fin 3 → Nat) a + (![1, w, 1024] : Fin 3 → Nat) a ≤ (![1, 4096, 1024] : Fin 3 → Nat) a := by
  intro a; fin_cases a
  · exact Nat.le_refl 1
  · exact h
  · exact Nat.le_refl 1024

/-! Block 0 of the slots: from 0 up to 128. -/
section
variable (v38 v44 v51 v57 v64 v70 v77 v83 v90 v96 v103 v109 v116 v122 v129 v135 v142 v148 v155 v161 v168 v174 v181 v187 v194 v200 v207 v213 v220 v226 v233 v239 : BitVec 32)

theorem k0_t1_loop_eq : k0_t1_loop v38 v44 v51 v57 v64 v70 v77 v83 v90 v96 v103 v109 v116 v122 v129 v135 v142 v148 v155 v161 v168 v174 v181 v187 v194 v200 v207 v213 v220 v226 v233 v239 = restLoop (cntLe 0#32 [v38, v51, v64, v77, v90, v103, v116, v129, v142, v155, v168, v181, v194, v207, v220, v233]) (cntLt 128#32 [v44, v57, v70, v83, v96, v109, v122, v135, v148, v161, v174, v187, v200, v213, v226, v239]) := rfl
theorem k0_t2_loop_eq : k0_t2_loop v38 v44 v51 v57 v64 v70 v77 v83 v90 v96 v103 v109 v116 v122 v129 v135 v142 v148 v155 v161 v168 v174 v181 v187 v194 v200 v207 v213 v220 v226 v233 v239 = deadLoop (cntLe 0#32 [v38, v51, v64, v77, v90, v103, v116, v129, v142, v155, v168, v181, v194, v207, v220, v233]) (cntLt 128#32 [v44, v57, v70, v83, v96, v109, v122, v135, v148, v161, v174, v187, v200, v213, v226, v239]) := rfl
theorem k0_mult1_eq : k0_mult1 v38 v51 v64 v77 v90 v103 v116 v129 v142 v155 v168 v181 v194 v207 v220 v233 = Scalar.muli (win (cntLe 0#32 [v38, v51, v64, v77, v90, v103, v116, v129, v142, v155, v168, v181, v194, v207, v220, v233])) 256#32 := rfl
theorem k0_off3_eq : k0_off3 v38 v51 v64 v77 v90 v103 v116 v129 v142 v155 v168 v181 v194 v207 v220 v233 = ![0, 0, 0, (Scalar.muli (win (cntLe 0#32 [v38, v51, v64, v77, v90, v103, v116, v129, v142, v155, v168, v181, v194, v207, v220, v233])) 256#32).toNat] := rfl
theorem k0_off4_eq : k0_off4 v38 v51 v64 v77 v90 v103 v116 v129 v142 v155 v168 v181 v194 v207 v220 v233 = ![0, (Scalar.muli (win (cntLe 0#32 [v38, v51, v64, v77, v90, v103, v116, v129, v142, v155, v168, v181, v194, v207, v220, v233])) 256#32).toNat, 0] := rfl
theorem k0_mult2_eq (k : Fin (k0_t1_loop v38 v44 v51 v57 v64 v70 v77 v83 v90 v96 v103 v109 v116 v122 v129 v135 v142 v148 v155 v161 v168 v174 v181 v187 v194 v200 v207 v213 v220 v226 v233 v239).trips) :
    k0_mult2 v38 v44 v51 v57 v64 v70 v77 v83 v90 v96 v103 v109 v116 v122 v129 v135 v142 v148 v155 v161 v168 v174 v181 v187 v194 v200 v207 v213 v220 v226 v233 v239 k = Scalar.muli (Scf.iv (rest (cntLe 0#32 [v38, v51, v64, v77, v90, v103, v116, v129, v142, v155, v168, v181, v194, v207, v220, v233])) 1#32 k) 256#32 := rfl
theorem k0_off5_eq (k : Fin (k0_t1_loop v38 v44 v51 v57 v64 v70 v77 v83 v90 v96 v103 v109 v116 v122 v129 v135 v142 v148 v155 v161 v168 v174 v181 v187 v194 v200 v207 v213 v220 v226 v233 v239).trips) :
    k0_off5 v38 v44 v51 v57 v64 v70 v77 v83 v90 v96 v103 v109 v116 v122 v129 v135 v142 v148 v155 v161 v168 v174 v181 v187 v194 v200 v207 v213 v220 v226 v233 v239 k = ![0, 0, 0, (Scalar.muli (Scf.iv (rest (cntLe 0#32 [v38, v51, v64, v77, v90, v103, v116, v129, v142, v155, v168, v181, v194, v207, v220, v233])) 1#32 k) 256#32).toNat] := rfl
theorem k0_off6_eq (k : Fin (k0_t1_loop v38 v44 v51 v57 v64 v70 v77 v83 v90 v96 v103 v109 v116 v122 v129 v135 v142 v148 v155 v161 v168 v174 v181 v187 v194 v200 v207 v213 v220 v226 v233 v239).trips) :
    k0_off6 v38 v44 v51 v57 v64 v70 v77 v83 v90 v96 v103 v109 v116 v122 v129 v135 v142 v148 v155 v161 v168 v174 v181 v187 v194 v200 v207 v213 v220 v226 v233 v239 k = ![0, (Scalar.muli (Scf.iv (rest (cntLe 0#32 [v38, v51, v64, v77, v90, v103, v116, v129, v142, v155, v168, v181, v194, v207, v220, v233])) 1#32 k) 256#32).toNat, 0] := rfl

/-- The window of block 0 lies inside the arrays, whatever the table's words. -/
theorem k0_chk1_all (i : grid0.Coords) : k0_chk1 i v38 v51 v64 v77 v90 v103 v116 v129 v142 v155 v168 v181 v194 v207 v220 v233 := by
  have ha : (cntLe 0#32 [v38, v51, v64, v77, v90, v103, v116, v129, v142, v155, v168, v181, v194, v207, v220, v233]).toNat ≤ 16 := cnt_le _ _ (Nat.le_refl 16)
  have h := win_start_le ha
  unfold k0_chk1
  rw [k0_mult1_eq, k0_off3_eq, k0_off4_eq]
  exact ⟨fun _ => win_dvd ha, fun _ => fits4 (by omega), fun _ => fits3 (by omega)⟩

/-- The loops of block 0 are well formed and their tiles lie inside the arrays, whatever the table's words. -/
theorem k0_chk2_all (i : grid0.Coords) : k0_chk2 i v38 v44 v51 v57 v64 v70 v77 v83 v90 v96 v103 v109 v116 v122 v129 v135 v142 v148 v155 v161 v168 v174 v181 v187 v194 v200 v207 v213 v220 v226 v233 v239 := by
  have ha : (cntLe 0#32 [v38, v51, v64, v77, v90, v103, v116, v129, v142, v155, v168, v181, v194, v207, v220, v233]).toNat ≤ 16 := cnt_le _ _ (Nat.le_refl 16)
  have hb : (cntLt 128#32 [v44, v57, v70, v83, v96, v109, v122, v135, v148, v161, v174, v187, v200, v213, v226, v239]).toNat ≤ 16 := cnt_le _ _ (Nat.le_refl 16)
  have hd : ∀ k : Fin (k0_t2_loop v38 v44 v51 v57 v64 v70 v77 v83 v90 v96 v103 v109 v116 v122 v129 v135 v142 v148 v155 v161 v168 v174 v181 v187 v194 v200 v207 v213 v220 v226 v233 v239).trips, False := fun k =>
    Nat.not_lt_zero k.val (lt_of_lt_of_eq k.isLt deadLoop_trips)
  unfold k0_chk2
  refine ⟨fun _ => restLoop_OK ha hb, fun k _ => ?_, fun k _ => ?_, fun k _ => ?_, fun _ => deadLoop_OK hb,
    fun k => (hd k).elim, fun k => (hd k).elim, fun k => (hd k).elim⟩
  · rw [k0_mult2_eq]; exact tile_dvd ha hb k
  · have h := tile_start_le ha hb k
    rw [k0_off5_eq]; exact fits4 (by omega)
  · have h := tile_start_le ha hb k
    rw [k0_off6_eq]; exact fits3 (by omega)
end

/-! Block 1 of the slots: from 128 up to 256. -/
section
variable (v292 v298 v305 v311 v318 v324 v331 v337 v344 v350 v357 v363 v370 v376 v383 v389 v396 v402 v409 v415 v422 v428 v435 v441 v448 v454 v461 v467 v474 v480 v487 v493 : BitVec 32)

theorem k0_t3_loop_eq : k0_t3_loop v292 v298 v305 v311 v318 v324 v331 v337 v344 v350 v357 v363 v370 v376 v383 v389 v396 v402 v409 v415 v422 v428 v435 v441 v448 v454 v461 v467 v474 v480 v487 v493 = restLoop (cntLe 128#32 [v292, v305, v318, v331, v344, v357, v370, v383, v396, v409, v422, v435, v448, v461, v474, v487]) (cntLt 256#32 [v298, v311, v324, v337, v350, v363, v376, v389, v402, v415, v428, v441, v454, v467, v480, v493]) := rfl
theorem k0_t4_loop_eq : k0_t4_loop v292 v298 v305 v311 v318 v324 v331 v337 v344 v350 v357 v363 v370 v376 v383 v389 v396 v402 v409 v415 v422 v428 v435 v441 v448 v454 v461 v467 v474 v480 v487 v493 = deadLoop (cntLe 128#32 [v292, v305, v318, v331, v344, v357, v370, v383, v396, v409, v422, v435, v448, v461, v474, v487]) (cntLt 256#32 [v298, v311, v324, v337, v350, v363, v376, v389, v402, v415, v428, v441, v454, v467, v480, v493]) := rfl
theorem k0_mult4_eq : k0_mult4 v292 v305 v318 v331 v344 v357 v370 v383 v396 v409 v422 v435 v448 v461 v474 v487 = Scalar.muli (win (cntLe 128#32 [v292, v305, v318, v331, v344, v357, v370, v383, v396, v409, v422, v435, v448, v461, v474, v487])) 256#32 := rfl
theorem k0_off11_eq : k0_off11 v292 v305 v318 v331 v344 v357 v370 v383 v396 v409 v422 v435 v448 v461 v474 v487 = ![0, 0, 0, (Scalar.muli (win (cntLe 128#32 [v292, v305, v318, v331, v344, v357, v370, v383, v396, v409, v422, v435, v448, v461, v474, v487])) 256#32).toNat] := rfl
theorem k0_off12_eq : k0_off12 v292 v305 v318 v331 v344 v357 v370 v383 v396 v409 v422 v435 v448 v461 v474 v487 = ![0, (Scalar.muli (win (cntLe 128#32 [v292, v305, v318, v331, v344, v357, v370, v383, v396, v409, v422, v435, v448, v461, v474, v487])) 256#32).toNat, 0] := rfl
theorem k0_mult5_eq (k : Fin (k0_t3_loop v292 v298 v305 v311 v318 v324 v331 v337 v344 v350 v357 v363 v370 v376 v383 v389 v396 v402 v409 v415 v422 v428 v435 v441 v448 v454 v461 v467 v474 v480 v487 v493).trips) :
    k0_mult5 v292 v298 v305 v311 v318 v324 v331 v337 v344 v350 v357 v363 v370 v376 v383 v389 v396 v402 v409 v415 v422 v428 v435 v441 v448 v454 v461 v467 v474 v480 v487 v493 k = Scalar.muli (Scf.iv (rest (cntLe 128#32 [v292, v305, v318, v331, v344, v357, v370, v383, v396, v409, v422, v435, v448, v461, v474, v487])) 1#32 k) 256#32 := rfl
theorem k0_off13_eq (k : Fin (k0_t3_loop v292 v298 v305 v311 v318 v324 v331 v337 v344 v350 v357 v363 v370 v376 v383 v389 v396 v402 v409 v415 v422 v428 v435 v441 v448 v454 v461 v467 v474 v480 v487 v493).trips) :
    k0_off13 v292 v298 v305 v311 v318 v324 v331 v337 v344 v350 v357 v363 v370 v376 v383 v389 v396 v402 v409 v415 v422 v428 v435 v441 v448 v454 v461 v467 v474 v480 v487 v493 k = ![0, 0, 0, (Scalar.muli (Scf.iv (rest (cntLe 128#32 [v292, v305, v318, v331, v344, v357, v370, v383, v396, v409, v422, v435, v448, v461, v474, v487])) 1#32 k) 256#32).toNat] := rfl
theorem k0_off14_eq (k : Fin (k0_t3_loop v292 v298 v305 v311 v318 v324 v331 v337 v344 v350 v357 v363 v370 v376 v383 v389 v396 v402 v409 v415 v422 v428 v435 v441 v448 v454 v461 v467 v474 v480 v487 v493).trips) :
    k0_off14 v292 v298 v305 v311 v318 v324 v331 v337 v344 v350 v357 v363 v370 v376 v383 v389 v396 v402 v409 v415 v422 v428 v435 v441 v448 v454 v461 v467 v474 v480 v487 v493 k = ![0, (Scalar.muli (Scf.iv (rest (cntLe 128#32 [v292, v305, v318, v331, v344, v357, v370, v383, v396, v409, v422, v435, v448, v461, v474, v487])) 1#32 k) 256#32).toNat, 0] := rfl

/-- The window of block 1 lies inside the arrays, whatever the table's words. -/
theorem k0_chk3_all (i : grid0.Coords) : k0_chk3 i v292 v305 v318 v331 v344 v357 v370 v383 v396 v409 v422 v435 v448 v461 v474 v487 := by
  have ha : (cntLe 128#32 [v292, v305, v318, v331, v344, v357, v370, v383, v396, v409, v422, v435, v448, v461, v474, v487]).toNat ≤ 16 := cnt_le _ _ (Nat.le_refl 16)
  have h := win_start_le ha
  unfold k0_chk3
  rw [k0_mult4_eq, k0_off11_eq, k0_off12_eq]
  exact ⟨fun _ => win_dvd ha, fun _ => fits4 (by omega), fun _ => fits3 (by omega)⟩

/-- The loops of block 1 are well formed and their tiles lie inside the arrays, whatever the table's words. -/
theorem k0_chk4_all (i : grid0.Coords) : k0_chk4 i v292 v298 v305 v311 v318 v324 v331 v337 v344 v350 v357 v363 v370 v376 v383 v389 v396 v402 v409 v415 v422 v428 v435 v441 v448 v454 v461 v467 v474 v480 v487 v493 := by
  have ha : (cntLe 128#32 [v292, v305, v318, v331, v344, v357, v370, v383, v396, v409, v422, v435, v448, v461, v474, v487]).toNat ≤ 16 := cnt_le _ _ (Nat.le_refl 16)
  have hb : (cntLt 256#32 [v298, v311, v324, v337, v350, v363, v376, v389, v402, v415, v428, v441, v454, v467, v480, v493]).toNat ≤ 16 := cnt_le _ _ (Nat.le_refl 16)
  have hd : ∀ k : Fin (k0_t4_loop v292 v298 v305 v311 v318 v324 v331 v337 v344 v350 v357 v363 v370 v376 v383 v389 v396 v402 v409 v415 v422 v428 v435 v441 v448 v454 v461 v467 v474 v480 v487 v493).trips, False := fun k =>
    Nat.not_lt_zero k.val (lt_of_lt_of_eq k.isLt deadLoop_trips)
  unfold k0_chk4
  refine ⟨fun _ => restLoop_OK ha hb, fun k _ => ?_, fun k _ => ?_, fun k _ => ?_, fun _ => deadLoop_OK hb,
    fun k => (hd k).elim, fun k => (hd k).elim, fun k => (hd k).elim⟩
  · rw [k0_mult5_eq]; exact tile_dvd ha hb k
  · have h := tile_start_le ha hb k
    rw [k0_off13_eq]; exact fits4 (by omega)
  · have h := tile_start_le ha hb k
    rw [k0_off14_eq]; exact fits3 (by omega)
end

/-! Block 2 of the slots: from 256 up to 384. -/
section
variable (v546 v552 v559 v565 v572 v578 v585 v591 v598 v604 v611 v617 v624 v630 v637 v643 v650 v656 v663 v669 v676 v682 v689 v695 v702 v708 v715 v721 v728 v734 v741 v747 : BitVec 32)

theorem k0_t5_loop_eq : k0_t5_loop v546 v552 v559 v565 v572 v578 v585 v591 v598 v604 v611 v617 v624 v630 v637 v643 v650 v656 v663 v669 v676 v682 v689 v695 v702 v708 v715 v721 v728 v734 v741 v747 = restLoop (cntLe 256#32 [v546, v559, v572, v585, v598, v611, v624, v637, v650, v663, v676, v689, v702, v715, v728, v741]) (cntLt 384#32 [v552, v565, v578, v591, v604, v617, v630, v643, v656, v669, v682, v695, v708, v721, v734, v747]) := rfl
theorem k0_t6_loop_eq : k0_t6_loop v546 v552 v559 v565 v572 v578 v585 v591 v598 v604 v611 v617 v624 v630 v637 v643 v650 v656 v663 v669 v676 v682 v689 v695 v702 v708 v715 v721 v728 v734 v741 v747 = deadLoop (cntLe 256#32 [v546, v559, v572, v585, v598, v611, v624, v637, v650, v663, v676, v689, v702, v715, v728, v741]) (cntLt 384#32 [v552, v565, v578, v591, v604, v617, v630, v643, v656, v669, v682, v695, v708, v721, v734, v747]) := rfl
theorem k0_mult7_eq : k0_mult7 v546 v559 v572 v585 v598 v611 v624 v637 v650 v663 v676 v689 v702 v715 v728 v741 = Scalar.muli (win (cntLe 256#32 [v546, v559, v572, v585, v598, v611, v624, v637, v650, v663, v676, v689, v702, v715, v728, v741])) 256#32 := rfl
theorem k0_off19_eq : k0_off19 v546 v559 v572 v585 v598 v611 v624 v637 v650 v663 v676 v689 v702 v715 v728 v741 = ![0, 0, 0, (Scalar.muli (win (cntLe 256#32 [v546, v559, v572, v585, v598, v611, v624, v637, v650, v663, v676, v689, v702, v715, v728, v741])) 256#32).toNat] := rfl
theorem k0_off20_eq : k0_off20 v546 v559 v572 v585 v598 v611 v624 v637 v650 v663 v676 v689 v702 v715 v728 v741 = ![0, (Scalar.muli (win (cntLe 256#32 [v546, v559, v572, v585, v598, v611, v624, v637, v650, v663, v676, v689, v702, v715, v728, v741])) 256#32).toNat, 0] := rfl
theorem k0_mult8_eq (k : Fin (k0_t5_loop v546 v552 v559 v565 v572 v578 v585 v591 v598 v604 v611 v617 v624 v630 v637 v643 v650 v656 v663 v669 v676 v682 v689 v695 v702 v708 v715 v721 v728 v734 v741 v747).trips) :
    k0_mult8 v546 v552 v559 v565 v572 v578 v585 v591 v598 v604 v611 v617 v624 v630 v637 v643 v650 v656 v663 v669 v676 v682 v689 v695 v702 v708 v715 v721 v728 v734 v741 v747 k = Scalar.muli (Scf.iv (rest (cntLe 256#32 [v546, v559, v572, v585, v598, v611, v624, v637, v650, v663, v676, v689, v702, v715, v728, v741])) 1#32 k) 256#32 := rfl
theorem k0_off21_eq (k : Fin (k0_t5_loop v546 v552 v559 v565 v572 v578 v585 v591 v598 v604 v611 v617 v624 v630 v637 v643 v650 v656 v663 v669 v676 v682 v689 v695 v702 v708 v715 v721 v728 v734 v741 v747).trips) :
    k0_off21 v546 v552 v559 v565 v572 v578 v585 v591 v598 v604 v611 v617 v624 v630 v637 v643 v650 v656 v663 v669 v676 v682 v689 v695 v702 v708 v715 v721 v728 v734 v741 v747 k = ![0, 0, 0, (Scalar.muli (Scf.iv (rest (cntLe 256#32 [v546, v559, v572, v585, v598, v611, v624, v637, v650, v663, v676, v689, v702, v715, v728, v741])) 1#32 k) 256#32).toNat] := rfl
theorem k0_off22_eq (k : Fin (k0_t5_loop v546 v552 v559 v565 v572 v578 v585 v591 v598 v604 v611 v617 v624 v630 v637 v643 v650 v656 v663 v669 v676 v682 v689 v695 v702 v708 v715 v721 v728 v734 v741 v747).trips) :
    k0_off22 v546 v552 v559 v565 v572 v578 v585 v591 v598 v604 v611 v617 v624 v630 v637 v643 v650 v656 v663 v669 v676 v682 v689 v695 v702 v708 v715 v721 v728 v734 v741 v747 k = ![0, (Scalar.muli (Scf.iv (rest (cntLe 256#32 [v546, v559, v572, v585, v598, v611, v624, v637, v650, v663, v676, v689, v702, v715, v728, v741])) 1#32 k) 256#32).toNat, 0] := rfl

/-- The window of block 2 lies inside the arrays, whatever the table's words. -/
theorem k0_chk5_all (i : grid0.Coords) : k0_chk5 i v546 v559 v572 v585 v598 v611 v624 v637 v650 v663 v676 v689 v702 v715 v728 v741 := by
  have ha : (cntLe 256#32 [v546, v559, v572, v585, v598, v611, v624, v637, v650, v663, v676, v689, v702, v715, v728, v741]).toNat ≤ 16 := cnt_le _ _ (Nat.le_refl 16)
  have h := win_start_le ha
  unfold k0_chk5
  rw [k0_mult7_eq, k0_off19_eq, k0_off20_eq]
  exact ⟨fun _ => win_dvd ha, fun _ => fits4 (by omega), fun _ => fits3 (by omega)⟩

/-- The loops of block 2 are well formed and their tiles lie inside the arrays, whatever the table's words. -/
theorem k0_chk6_all (i : grid0.Coords) : k0_chk6 i v546 v552 v559 v565 v572 v578 v585 v591 v598 v604 v611 v617 v624 v630 v637 v643 v650 v656 v663 v669 v676 v682 v689 v695 v702 v708 v715 v721 v728 v734 v741 v747 := by
  have ha : (cntLe 256#32 [v546, v559, v572, v585, v598, v611, v624, v637, v650, v663, v676, v689, v702, v715, v728, v741]).toNat ≤ 16 := cnt_le _ _ (Nat.le_refl 16)
  have hb : (cntLt 384#32 [v552, v565, v578, v591, v604, v617, v630, v643, v656, v669, v682, v695, v708, v721, v734, v747]).toNat ≤ 16 := cnt_le _ _ (Nat.le_refl 16)
  have hd : ∀ k : Fin (k0_t6_loop v546 v552 v559 v565 v572 v578 v585 v591 v598 v604 v611 v617 v624 v630 v637 v643 v650 v656 v663 v669 v676 v682 v689 v695 v702 v708 v715 v721 v728 v734 v741 v747).trips, False := fun k =>
    Nat.not_lt_zero k.val (lt_of_lt_of_eq k.isLt deadLoop_trips)
  unfold k0_chk6
  refine ⟨fun _ => restLoop_OK ha hb, fun k _ => ?_, fun k _ => ?_, fun k _ => ?_, fun _ => deadLoop_OK hb,
    fun k => (hd k).elim, fun k => (hd k).elim, fun k => (hd k).elim⟩
  · rw [k0_mult8_eq]; exact tile_dvd ha hb k
  · have h := tile_start_le ha hb k
    rw [k0_off21_eq]; exact fits4 (by omega)
  · have h := tile_start_le ha hb k
    rw [k0_off22_eq]; exact fits3 (by omega)
end

/-! Block 3 of the slots: from 384 up to 512. -/
section
variable (v800 v806 v813 v819 v826 v832 v839 v845 v852 v858 v865 v871 v878 v884 v891 v897 v904 v910 v917 v923 v930 v936 v943 v949 v956 v962 v969 v975 v982 v988 v995 v1001 : BitVec 32)

theorem k0_t7_loop_eq : k0_t7_loop v800 v806 v813 v819 v826 v832 v839 v845 v852 v858 v865 v871 v878 v884 v891 v897 v904 v910 v917 v923 v930 v936 v943 v949 v956 v962 v969 v975 v982 v988 v995 v1001 = restLoop (cntLe 384#32 [v800, v813, v826, v839, v852, v865, v878, v891, v904, v917, v930, v943, v956, v969, v982, v995]) (cntLt 512#32 [v806, v819, v832, v845, v858, v871, v884, v897, v910, v923, v936, v949, v962, v975, v988, v1001]) := rfl
theorem k0_t8_loop_eq : k0_t8_loop v800 v806 v813 v819 v826 v832 v839 v845 v852 v858 v865 v871 v878 v884 v891 v897 v904 v910 v917 v923 v930 v936 v943 v949 v956 v962 v969 v975 v982 v988 v995 v1001 = deadLoop (cntLe 384#32 [v800, v813, v826, v839, v852, v865, v878, v891, v904, v917, v930, v943, v956, v969, v982, v995]) (cntLt 512#32 [v806, v819, v832, v845, v858, v871, v884, v897, v910, v923, v936, v949, v962, v975, v988, v1001]) := rfl
theorem k0_mult10_eq : k0_mult10 v800 v813 v826 v839 v852 v865 v878 v891 v904 v917 v930 v943 v956 v969 v982 v995 = Scalar.muli (win (cntLe 384#32 [v800, v813, v826, v839, v852, v865, v878, v891, v904, v917, v930, v943, v956, v969, v982, v995])) 256#32 := rfl
theorem k0_off27_eq : k0_off27 v800 v813 v826 v839 v852 v865 v878 v891 v904 v917 v930 v943 v956 v969 v982 v995 = ![0, 0, 0, (Scalar.muli (win (cntLe 384#32 [v800, v813, v826, v839, v852, v865, v878, v891, v904, v917, v930, v943, v956, v969, v982, v995])) 256#32).toNat] := rfl
theorem k0_off28_eq : k0_off28 v800 v813 v826 v839 v852 v865 v878 v891 v904 v917 v930 v943 v956 v969 v982 v995 = ![0, (Scalar.muli (win (cntLe 384#32 [v800, v813, v826, v839, v852, v865, v878, v891, v904, v917, v930, v943, v956, v969, v982, v995])) 256#32).toNat, 0] := rfl
theorem k0_mult11_eq (k : Fin (k0_t7_loop v800 v806 v813 v819 v826 v832 v839 v845 v852 v858 v865 v871 v878 v884 v891 v897 v904 v910 v917 v923 v930 v936 v943 v949 v956 v962 v969 v975 v982 v988 v995 v1001).trips) :
    k0_mult11 v800 v806 v813 v819 v826 v832 v839 v845 v852 v858 v865 v871 v878 v884 v891 v897 v904 v910 v917 v923 v930 v936 v943 v949 v956 v962 v969 v975 v982 v988 v995 v1001 k = Scalar.muli (Scf.iv (rest (cntLe 384#32 [v800, v813, v826, v839, v852, v865, v878, v891, v904, v917, v930, v943, v956, v969, v982, v995])) 1#32 k) 256#32 := rfl
theorem k0_off29_eq (k : Fin (k0_t7_loop v800 v806 v813 v819 v826 v832 v839 v845 v852 v858 v865 v871 v878 v884 v891 v897 v904 v910 v917 v923 v930 v936 v943 v949 v956 v962 v969 v975 v982 v988 v995 v1001).trips) :
    k0_off29 v800 v806 v813 v819 v826 v832 v839 v845 v852 v858 v865 v871 v878 v884 v891 v897 v904 v910 v917 v923 v930 v936 v943 v949 v956 v962 v969 v975 v982 v988 v995 v1001 k = ![0, 0, 0, (Scalar.muli (Scf.iv (rest (cntLe 384#32 [v800, v813, v826, v839, v852, v865, v878, v891, v904, v917, v930, v943, v956, v969, v982, v995])) 1#32 k) 256#32).toNat] := rfl
theorem k0_off30_eq (k : Fin (k0_t7_loop v800 v806 v813 v819 v826 v832 v839 v845 v852 v858 v865 v871 v878 v884 v891 v897 v904 v910 v917 v923 v930 v936 v943 v949 v956 v962 v969 v975 v982 v988 v995 v1001).trips) :
    k0_off30 v800 v806 v813 v819 v826 v832 v839 v845 v852 v858 v865 v871 v878 v884 v891 v897 v904 v910 v917 v923 v930 v936 v943 v949 v956 v962 v969 v975 v982 v988 v995 v1001 k = ![0, (Scalar.muli (Scf.iv (rest (cntLe 384#32 [v800, v813, v826, v839, v852, v865, v878, v891, v904, v917, v930, v943, v956, v969, v982, v995])) 1#32 k) 256#32).toNat, 0] := rfl

/-- The window of block 3 lies inside the arrays, whatever the table's words. -/
theorem k0_chk7_all (i : grid0.Coords) : k0_chk7 i v800 v813 v826 v839 v852 v865 v878 v891 v904 v917 v930 v943 v956 v969 v982 v995 := by
  have ha : (cntLe 384#32 [v800, v813, v826, v839, v852, v865, v878, v891, v904, v917, v930, v943, v956, v969, v982, v995]).toNat ≤ 16 := cnt_le _ _ (Nat.le_refl 16)
  have h := win_start_le ha
  unfold k0_chk7
  rw [k0_mult10_eq, k0_off27_eq, k0_off28_eq]
  exact ⟨fun _ => win_dvd ha, fun _ => fits4 (by omega), fun _ => fits3 (by omega)⟩

/-- The loops of block 3 are well formed and their tiles lie inside the arrays, whatever the table's words. -/
theorem k0_chk8_all (i : grid0.Coords) : k0_chk8 i v800 v806 v813 v819 v826 v832 v839 v845 v852 v858 v865 v871 v878 v884 v891 v897 v904 v910 v917 v923 v930 v936 v943 v949 v956 v962 v969 v975 v982 v988 v995 v1001 := by
  have ha : (cntLe 384#32 [v800, v813, v826, v839, v852, v865, v878, v891, v904, v917, v930, v943, v956, v969, v982, v995]).toNat ≤ 16 := cnt_le _ _ (Nat.le_refl 16)
  have hb : (cntLt 512#32 [v806, v819, v832, v845, v858, v871, v884, v897, v910, v923, v936, v949, v962, v975, v988, v1001]).toNat ≤ 16 := cnt_le _ _ (Nat.le_refl 16)
  have hd : ∀ k : Fin (k0_t8_loop v800 v806 v813 v819 v826 v832 v839 v845 v852 v858 v865 v871 v878 v884 v891 v897 v904 v910 v917 v923 v930 v936 v943 v949 v956 v962 v969 v975 v982 v988 v995 v1001).trips, False := fun k =>
    Nat.not_lt_zero k.val (lt_of_lt_of_eq k.isLt deadLoop_trips)
  unfold k0_chk8
  refine ⟨fun _ => restLoop_OK ha hb, fun k _ => ?_, fun k _ => ?_, fun k _ => ?_, fun _ => deadLoop_OK hb,
    fun k => (hd k).elim, fun k => (hd k).elim, fun k => (hd k).elim⟩
  · rw [k0_mult11_eq]; exact tile_dvd ha hb k
  · have h := tile_start_le ha hb k
    rw [k0_off29_eq]; exact fits4 (by omega)
  · have h := tile_start_le ha hb k
    rw [k0_off30_eq]; exact fits3 (by omega)
end

end Cert.KernelIdeal
-- ==== Proof.Trips.lean ====
module

public import proofs.«01_k».proof.Proof.Words
public import Idealize.ShloMosaic.Lib.Exec
public import Idealize.ShloMosaic.Lib.Tactic
public import Idealize.ShloMosaic.Lib.Pipeline.Kit
public import Idealize.ShloMosaic.Lib.Pipeline.FrameBody

/-! The gather's loops over the tiles beyond the window, block by block: before trip `k` the rows gathered and the
    gates are the entry's with the first `k` tiles' added, in closed form (`trips`). The loop behind each of them makes
    no trip. -/

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The value after the first `k` of `n` trips, each a function of the trip and the value before it. -/
def trips {n : Nat} {α : Type} (step : Fin n → α → α) (a : α) (k : Nat) : α :=
  Nat.rec a (fun k x => if h : k < n then step ⟨k, h⟩ x else x) k

@[simp] theorem trips_zero {n : Nat} {α : Type} (step : Fin n → α → α) (a : α) : trips step a 0 = a := rfl

theorem trips_succ {n : Nat} {α : Type} (step : Fin n → α → α) (a : α) (k : Fin n) :
    trips step a (k.val + 1) = step k (trips step a k.val) := dif_pos k.isLt

/-- A write through the rectangle of the write before it leaves nothing of that one. -/
theorem writes_same {sp : Space} {s : Shape} {e : EltTy} (v : View sig .tc sp s e) (f : v.ty.Contents (Elt F)) (r : Rect s)
    (a b : r.shape.Idx → Elt F e) (L : List (View.Piece (Elt F) s e)) :
    v.writes (Elt F) f (⟨r, a⟩ :: ⟨r, b⟩ :: L) = v.writes (Elt F) f (⟨r, a⟩ :: L) := by
  show (v.slice r).write (Elt F) ((v.slice r).write (Elt F) (v.writes (Elt F) f L) b Finset.univ) a Finset.univ
    = (v.slice r).write (Elt F) (v.writes (Elt F) f L) a Finset.univ
  funext x
  by_cases hx : x ∈ (v.slice r).setOn Finset.univ
  · obtain ⟨y, -, rfl⟩ := Finset.mem_map.mp hx
    rw [View.write_emb_of_mem _ _ (Finset.mem_univ y), View.write_emb_of_mem _ _ (Finset.mem_univ y)]
  · rw [View.write_of_not_mem _ _ _ hx, View.write_of_not_mem _ _ _ hx, View.write_of_not_mem _ _ _ hx]

/-- The whole of `arg13`. -/
abbrev rXg : Rect S128x1024 := Rect.unit (s := S128x1024) ![0, 0] S128x1024.size inb_S128x1024_S128x1024_0_0

/-! ### Block 0 -/

/-- The gate's rows of block 0. -/
abbrev rG0 : Rect S512x1 := Rect.unit (s := S512x1) ![0, 0] S128x1.size inb_S512x1_S128x1_0_0

section
variable (i : grid0.Coords) (v38 v44 v51 v57 v64 v70 v77 v83 v90 v96 v103 v109 v116 v122 v129 v135 v142 v148 v155 v161 v168 v174 v181 v187 v194 v200 v207 v213 v220 v226 v233 v239 : BitVec 32) (hw : k0_chk2 i v38 v44 v51 v57 v64 v70 v77 v83 v90 v96 v103 v109 v116 v122 v129 v135 v142 v148 v155 v161 v168 v174 v181 v187 v194 v200 v207 v213 v220 v226 v233 v239) (h1 : k0_cond1 i = 1#1)
  (v34 : IVec S128x1 32) (arg4 : Memref sig .tc .vmem S1x4096x1024 .bf16) (arg5 : Memref sig .tc .vmem S1x1x1x4096 .i32) (arg6 : Memref sig .tc .vmem S1x1x1x4096 .f32)
  (X4 : BufTy.Contents (Elt F) arg4.view.ty) (X5 : BufTy.Contents (Elt F) arg5.view.ty) (X6 : BufTy.Contents (Elt F) arg6.view.ty)
/-- One trip of block 0: the tile's rows at the block's slots, added. -/
def stepX0 (k : Fin (k0_t1_loop v38 v44 v51 v57 v64 v70 v77 v83 v90 v96 v103 v109 v116 v122 v129 v135 v142 v148 v155 v161 v168 v174 v181 v187 v194 v200 v207 v213 v220 v226 v233 v239).trips) (a : Vec F S128x1024 .f32) : Vec F S128x1024 .f32 :=
  k0_pay3 v34
    (arg5.view.readAt (Elt F) (Rect.unit (s := S1x1x1x4096) (k0_off5 v38 v44 v51 v57 v64 v70 v77 v83 v90 v96 v103 v109 v116 v122 v129 v135 v142 v148 v155 v161 v168 v174 v181 v187 v194 v200 v207 v213 v220 v226 v233 v239 k) S1x1x1x256.size (k0_off5_inb i v38 v44 v51 v57 v64 v70 v77 v83 v90 v96 v103 v109 v116 v122 v129 v135 v142 v148 v155 v161 v168 v174 v181 v187 v194 v200 v207 v213 v220 v226 v233 v239 hw k h1)).toLoadRect X5)
    (arg4.view.readAt (Elt F) (Rect.unit (s := S1x4096x1024) (k0_off6 v38 v44 v51 v57 v64 v70 v77 v83 v90 v96 v103 v109 v116 v122 v129 v135 v142 v148 v155 v161 v168 v174 v181 v187 v194 v200 v207 v213 v220 v226 v233 v239 k) S1x256x1024.size (k0_off6_inb i v38 v44 v51 v57 v64 v70 v77 v83 v90 v96 v103 v109 v116 v122 v129 v135 v142 v148 v155 v161 v168 v174 v181 v187 v194 v200 v207 v213 v220 v226 v233 v239 hw k h1)).toLoadRect X4) a
/-- One trip of block 0: the tile's gates at the block's slots, added. -/
def stepG0 (k : Fin (k0_t1_loop v38 v44 v51 v57 v64 v70 v77 v83 v90 v96 v103 v109 v116 v122 v129 v135 v142 v148 v155 v161 v168 v174 v181 v187 v194 v200 v207 v213 v220 v226 v233 v239).trips) (a : Vec F S128x1 .f32) : Vec F S128x1 .f32 :=
  k0_pay29 (k0_pay4 v34
    (arg5.view.readAt (Elt F) (Rect.unit (s := S1x1x1x4096) (k0_off5 v38 v44 v51 v57 v64 v70 v77 v83 v90 v96 v103 v109 v116 v122 v129 v135 v142 v148 v155 v161 v168 v174 v181 v187 v194 v200 v207 v213 v220 v226 v233 v239 k) S1x1x1x256.size (k0_off5_inb i v38 v44 v51 v57 v64 v70 v77 v83 v90 v96 v103 v109 v116 v122 v129 v135 v142 v148 v155 v161 v168 v174 v181 v187 v194 v200 v207 v213 v220 v226 v233 v239 hw k h1)).toLoadRect X5)
    (arg6.view.readAt (Elt F) (Rect.unit (s := S1x1x1x4096) (k0_off5 v38 v44 v51 v57 v64 v70 v77 v83 v90 v96 v103 v109 v116 v122 v129 v135 v142 v148 v155 v161 v168 v174 v181 v187 v194 v200 v207 v213 v220 v226 v233 v239 k) S1x1x1x256.size (k0_off5_inb i v38 v44 v51 v57 v64 v70 v77 v83 v90 v96 v103 v109 v116 v122 v129 v135 v142 v148 v155 v161 v168 v174 v181 v187 v194 v200 v207 v213 v220 v226 v233 v239 hw k h1)).toLoadRect X6) a)
end

set_option warn.classDefReducibility false in
/-- The loop of block 0 by its invariant. -/
@[sl_loop] def tileLoop0 (𝒱 : Variants) (c : Dev nD) (bd : Option 𝒱.V) (E : Set ℕ) (i : grid0.Coords) (arg3 : Memref sig .tc .smem S32768 .i32) (harg3 : arg3.IsWhole) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (k0_h1 : k0_cond1 i = 1#1) (v33 : BitVec 32) (v34 : IVec S128x1 32) (v38 : Elt F .i32) (v44 : Elt F .i32) (v51 : Elt F .i32) (v57 : Elt F .i32) (v64 : Elt F .i32) (v70 : Elt F .i32) (v77 : Elt F .i32) (v83 : Elt F .i32) (v90 : Elt F .i32) (v96 : Elt F .i32) (v103 : Elt F .i32) (v109 : Elt F .i32) (v116 : Elt F .i32) (v122 : Elt F .i32) (v129 : Elt F .i32) (v135 : Elt F .i32) (v142 : Elt F .i32) (v148 : Elt F .i32) (v155 : Elt F .i32) (v161 : Elt F .i32) (v168 : Elt F .i32) (v174 : Elt F .i32) (v181 : Elt F .i32) (v187 : Elt F .i32) (v194 : Elt F .i32) (v200 : Elt F .i32) (v207 : Elt F .i32) (v213 : Elt F .i32) (v220 : Elt F .i32) (v226 : Elt F .i32) (v233 : Elt F .i32) (v236 : BitVec 32) (v239 : Elt F .i32) (k0_hw2 : k0_chk2 i v38 v44 v51 v57 v64 v70 v77 v83 v90 v96 v103 v109 v116 v122 v129 v135 v142 v148 v155 v161 v168 v174 v181 v187 v194 v200 v207 v213 v220 v226 v233 v239) (v242 : BitVec 32) (v277 : BitVec 32) (v278 : BitVec 32)
    (X4 : BufTy.Contents (Elt F) arg4.view.ty) (X5 : BufTy.Contents (Elt F) arg5.view.ty) (X6 : BufTy.Contents (Elt F) arg6.view.ty)
    (G13 : BufTy.Contents (Elt F) arg13.view.ty) (L13 : List (View.Piece (Elt F) S128x1024 .f32)) (a13 : Vec F S128x1024 .f32)
    (G14 : BufTy.Contents (Elt F) arg14.view.ty) (L14 : List (View.Piece (Elt F) S512x1 .f32)) (a14 : Vec F S128x1 .f32) :
    Idealize.ShloMosaic.LoopInv (M := 𝕄) Idealize.ShloMosaic.frame (wpE defs₀ 𝒱 (c : Thread nD τ) bd) E
    (k0_t1_loop v38 v44 v51 v57 v64 v70 v77 v83 v90 v96 v103 v109 v116 v122 v129 v135 v142 v148 v155 v161 v168 v174 v181 v187 v194 v200 v207 v213 v220 v226 v233 v239).lb (k0_t1_loop v38 v44 v51 v57 v64 v70 v77 v83 v90 v96 v103 v109 v116 v122 v129 v135 v142 v148 v155 v161 v168 v174 v181 v187 v194 v200 v207 v213 v220 v226 v233 v239).ub (k0_t1_loop v38 v44 v51 v57 v64 v70 v77 v83 v90 v96 v103 v109 v116 v122 v129 v135 v142 v148 v155 v161 v168 v174 v181 v187 v194 v200 v207 v213 v220 v226 v233 v239).st (k0_t1_ok i v38 v44 v51 v57 v64 v70 v77 v83 v90 v96 v103 v109 v116 v122 v129 v135 v142 v148 v155 v161 v168 v174 v181 v187 v194 v200 v207 v213 v220 v226 v233 v239 k0_hw2 k0_h1) () (k0_t1_body (F := F) i arg3 harg3 arg4 harg4 arg5 harg5 arg6 harg6 arg7 harg7 arg8 harg8 arg9 harg9 arg10 harg10 arg11 harg11 arg12 harg12 arg13 harg13 arg14 harg14 k0_h1 v33 v34 v38 v44 v51 v57 v64 v70 v77 v83 v90 v96 v103 v109 v116 v122 v129 v135 v142 v148 v155 v161 v168 v174 v181 v187 v194 v200 v207 v213 v220 v226 v233 v236 v239 k0_hw2 v242 v277 v278) where
  inv k _ := iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ d, (arg13.view.loc (c : Thread nD τ) ↦[arg13.view.set]{fullShare} arg13.view.writes (Elt F) G13 (⟨rXg, d⟩ :: L13)) ∗ ⌜d = trips (stepX0 i v38 v44 v51 v57 v64 v70 v77 v83 v90 v96 v103 v109 v116 v122 v129 v135 v142 v148 v155 v161 v168 v174 v181 v187 v194 v200 v207 v213 v220 v226 v233 v239 k0_hw2 k0_h1 v34 arg4 arg5 X4 X5) a13 k⌝)
    ∗ (∃ d, (arg14.view.loc (c : Thread nD τ) ↦[arg14.view.set]{fullShare} arg14.view.writes (Elt F) G14 (⟨rG0, d⟩ :: L14)) ∗ ⌜d = trips (stepG0 i v38 v44 v51 v57 v64 v70 v77 v83 v90 v96 v103 v109 v116 v122 v129 v135 v142 v148 v155 v161 v168 v174 v181 v187 v194 v200 v207 v213 v220 v226 v233 v239 k0_hw2 k0_h1 v34 arg5 arg6 X5 X6) a14 k⌝))
  step k acc := by
    iintro ⟨H4, H5, H6, ⟨%d13, H13, %h13⟩, ⟨%d14, H14, %h14⟩⟩
    unfold k0_t1_body
    simp only [k0_part1_eq_skeleton]
    sl_exec
    sl_step
    isplitl [H4]; · iexact H4
    isplitl [H5]; · iexact H5
    isplitl [H6]; · iexact H6
    isplitl [H13]
    · iexists _
      isplitl [H13]
      · rw [← writes_same arg13.view G13 rXg _ d13 L13]
        iexact H13
      · ipureintro
        rw [trips_succ, ← h13]
        exact congrArg (k0_pay3 v34 _ _) (View.readCov_cons_toLoadRect arg13.view rXg d13 L13)
    · iexists _
      isplitl [H14]
      · rw [← writes_same arg14.view G14 rG0 _ d14 L14]
        iexact H14
      · ipureintro
        rw [trips_succ, ← h14]
        exact congrArg (fun z => k0_pay29 (k0_pay4 v34 _ _ z)) (View.readCov_cons_toLoadRect arg14.view rG0 d14 L14)

set_option warn.classDefReducibility false in
/-- The loop behind it makes no trip. -/
@[sl_loop] def noLoop0 (𝒱 : Variants) (c : Dev nD) (bd : Option 𝒱.V) (E : Set ℕ) (i : grid0.Coords) (arg3 : Memref sig .tc .smem S32768 .i32) (harg3 : arg3.IsWhole) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (k0_h1 : k0_cond1 i = 1#1) (v33 : BitVec 32) (v34 : IVec S128x1 32) (v38 : Elt F .i32) (v44 : Elt F .i32) (v51 : Elt F .i32) (v57 : Elt F .i32) (v64 : Elt F .i32) (v70 : Elt F .i32) (v77 : Elt F .i32) (v83 : Elt F .i32) (v90 : Elt F .i32) (v96 : Elt F .i32) (v103 : Elt F .i32) (v109 : Elt F .i32) (v116 : Elt F .i32) (v122 : Elt F .i32) (v129 : Elt F .i32) (v135 : Elt F .i32) (v142 : Elt F .i32) (v148 : Elt F .i32) (v155 : Elt F .i32) (v161 : Elt F .i32) (v168 : Elt F .i32) (v174 : Elt F .i32) (v181 : Elt F .i32) (v187 : Elt F .i32) (v194 : Elt F .i32) (v200 : Elt F .i32) (v207 : Elt F .i32) (v213 : Elt F .i32) (v220 : Elt F .i32) (v226 : Elt F .i32) (v233 : Elt F .i32) (v236 : BitVec 32) (v239 : Elt F .i32) (k0_hw2 : k0_chk2 i v38 v44 v51 v57 v64 v70 v77 v83 v90 v96 v103 v109 v116 v122 v129 v135 v142 v148 v155 v161 v168 v174 v181 v187 v194 v200 v207 v213 v220 v226 v233 v239) (v242 : BitVec 32) (v277 : BitVec 32) (v283 : BitVec 32) :
    Idealize.ShloMosaic.LoopInv (M := 𝕄) Idealize.ShloMosaic.frame (wpE defs₀ 𝒱 (c : Thread nD τ) bd) E
    (k0_t2_loop v38 v44 v51 v57 v64 v70 v77 v83 v90 v96 v103 v109 v116 v122 v129 v135 v142 v148 v155 v161 v168 v174 v181 v187 v194 v200 v207 v213 v220 v226 v233 v239).lb (k0_t2_loop v38 v44 v51 v57 v64 v70 v77 v83 v90 v96 v103 v109 v116 v122 v129 v135 v142 v148 v155 v161 v168 v174 v181 v187 v194 v200 v207 v213 v220 v226 v233 v239).ub (k0_t2_loop v38 v44 v51 v57 v64 v70 v77 v83 v90 v96 v103 v109 v116 v122 v129 v135 v142 v148 v155 v161 v168 v174 v181 v187 v194 v200 v207 v213 v220 v226 v233 v239).st (k0_t2_ok i v38 v44 v51 v57 v64 v70 v77 v83 v90 v96 v103 v109 v116 v122 v129 v135 v142 v148 v155 v161 v168 v174 v181 v187 v194 v200 v207 v213 v220 v226 v233 v239 k0_hw2 k0_h1) () (k0_t2_body (F := F) i arg3 harg3 arg4 harg4 arg5 harg5 arg6 harg6 arg7 harg7 arg8 harg8 arg9 harg9 arg10 harg10 arg11 harg11 arg12 harg12 arg13 harg13 arg14 harg14 k0_h1 v33 v34 v38 v44 v51 v57 v64 v70 v77 v83 v90 v96 v103 v109 v116 v122 v129 v135 v142 v148 v155 v161 v168 v174 v181 v187 v194 v200 v207 v213 v220 v226 v233 v236 v239 k0_hw2 v242 v277 v283) where
  inv _ _ := iprop(emp)
  step k acc := (Nat.not_lt_zero k.val (lt_of_lt_of_eq k.isLt deadLoop_trips)).elim

/-! ### Block 1 -/

/-- The gate's rows of block 1. -/
abbrev rG1 : Rect S512x1 := Rect.unit (s := S512x1) ![128, 0] S128x1.size inb_S512x1_S128x1_128_0

section
variable (i : grid0.Coords) (v292 v298 v305 v311 v318 v324 v331 v337 v344 v350 v357 v363 v370 v376 v383 v389 v396 v402 v409 v415 v422 v428 v435 v441 v448 v454 v461 v467 v474 v480 v487 v493 : BitVec 32) (hw : k0_chk4 i v292 v298 v305 v311 v318 v324 v331 v337 v344 v350 v357 v363 v370 v376 v383 v389 v396 v402 v409 v415 v422 v428 v435 v441 v448 v454 v461 v467 v474 v480 v487 v493) (h1 : k0_cond1 i = 1#1)
  (v34 : IVec S128x1 32) (arg4 : Memref sig .tc .vmem S1x4096x1024 .bf16) (arg5 : Memref sig .tc .vmem S1x1x1x4096 .i32) (arg6 : Memref sig .tc .vmem S1x1x1x4096 .f32)
  (X4 : BufTy.Contents (Elt F) arg4.view.ty) (X5 : BufTy.Contents (Elt F) arg5.view.ty) (X6 : BufTy.Contents (Elt F) arg6.view.ty)
/-- One trip of block 1: the tile's rows at the block's slots, added. -/
def stepX1 (k : Fin (k0_t3_loop v292 v298 v305 v311 v318 v324 v331 v337 v344 v350 v357 v363 v370 v376 v383 v389 v396 v402 v409 v415 v422 v428 v435 v441 v448 v454 v461 v467 v474 v480 v487 v493).trips) (a : Vec F S128x1024 .f32) : Vec F S128x1024 .f32 :=
  k0_pay9 v34
    (arg5.view.readAt (Elt F) (Rect.unit (s := S1x1x1x4096) (k0_off13 v292 v298 v305 v311 v318 v324 v331 v337 v344 v350 v357 v363 v370 v376 v383 v389 v396 v402 v409 v415 v422 v428 v435 v441 v448 v454 v461 v467 v474 v480 v487 v493 k) S1x1x1x256.size (k0_off13_inb i v292 v298 v305 v311 v318 v324 v331 v337 v344 v350 v357 v363 v370 v376 v383 v389 v396 v402 v409 v415 v422 v428 v435 v441 v448 v454 v461 v467 v474 v480 v487 v493 hw k h1)).toLoadRect X5)
    (arg4.view.readAt (Elt F) (Rect.unit (s := S1x4096x1024) (k0_off14 v292 v298 v305 v311 v318 v324 v331 v337 v344 v350 v357 v363 v370 v376 v383 v389 v396 v402 v409 v415 v422 v428 v435 v441 v448 v454 v461 v467 v474 v480 v487 v493 k) S1x256x1024.size (k0_off14_inb i v292 v298 v305 v311 v318 v324 v331 v337 v344 v350 v357 v363 v370 v376 v383 v389 v396 v402 v409 v415 v422 v428 v435 v441 v448 v454 v461 v467 v474 v480 v487 v493 hw k h1)).toLoadRect X4) a
/-- One trip of block 1: the tile's gates at the block's slots, added. -/
def stepG1 (k : Fin (k0_t3_loop v292 v298 v305 v311 v318 v324 v331 v337 v344 v350 v357 v363 v370 v376 v383 v389 v396 v402 v409 v415 v422 v428 v435 v441 v448 v454 v461 v467 v474 v480 v487 v493).trips) (a : Vec F S128x1 .f32) : Vec F S128x1 .f32 :=
  k0_pay38 (k0_pay10 v34
    (arg5.view.readAt (Elt F) (Rect.unit (s := S1x1x1x4096) (k0_off13 v292 v298 v305 v311 v318 v324 v331 v337 v344 v350 v357 v363 v370 v376 v383 v389 v396 v402 v409 v415 v422 v428 v435 v441 v448 v454 v461 v467 v474 v480 v487 v493 k) S1x1x1x256.size (k0_off13_inb i v292 v298 v305 v311 v318 v324 v331 v337 v344 v350 v357 v363 v370 v376 v383 v389 v396 v402 v409 v415 v422 v428 v435 v441 v448 v454 v461 v467 v474 v480 v487 v493 hw k h1)).toLoadRect X5)
    (arg6.view.readAt (Elt F) (Rect.unit (s := S1x1x1x4096) (k0_off13 v292 v298 v305 v311 v318 v324 v331 v337 v344 v350 v357 v363 v370 v376 v383 v389 v396 v402 v409 v415 v422 v428 v435 v441 v448 v454 v461 v467 v474 v480 v487 v493 k) S1x1x1x256.size (k0_off13_inb i v292 v298 v305 v311 v318 v324 v331 v337 v344 v350 v357 v363 v370 v376 v383 v389 v396 v402 v409 v415 v422 v428 v435 v441 v448 v454 v461 v467 v474 v480 v487 v493 hw k h1)).toLoadRect X6) a)
end

set_option warn.classDefReducibility false in
/-- The loop of block 1 by its invariant. -/
@[sl_loop] def tileLoop1 (𝒱 : Variants) (c : Dev nD) (bd : Option 𝒱.V) (E : Set ℕ) (i : grid0.Coords) (arg3 : Memref sig .tc .smem S32768 .i32) (harg3 : arg3.IsWhole) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (k0_h1 : k0_cond1 i = 1#1) (v33 : BitVec 32) (v34 : IVec S128x1 32) (v292 : Elt F .i32) (v298 : Elt F .i32) (v305 : Elt F .i32) (v311 : Elt F .i32) (v318 : Elt F .i32) (v324 : Elt F .i32) (v331 : Elt F .i32) (v337 : Elt F .i32) (v344 : Elt F .i32) (v350 : Elt F .i32) (v357 : Elt F .i32) (v363 : Elt F .i32) (v370 : Elt F .i32) (v376 : Elt F .i32) (v383 : Elt F .i32) (v389 : Elt F .i32) (v396 : Elt F .i32) (v402 : Elt F .i32) (v409 : Elt F .i32) (v415 : Elt F .i32) (v422 : Elt F .i32) (v428 : Elt F .i32) (v435 : Elt F .i32) (v441 : Elt F .i32) (v448 : Elt F .i32) (v454 : Elt F .i32) (v461 : Elt F .i32) (v467 : Elt F .i32) (v474 : Elt F .i32) (v480 : Elt F .i32) (v487 : Elt F .i32) (v490 : BitVec 32) (v493 : Elt F .i32) (k0_hw4 : k0_chk4 i v292 v298 v305 v311 v318 v324 v331 v337 v344 v350 v357 v363 v370 v376 v383 v389 v396 v402 v409 v415 v422 v428 v435 v441 v448 v454 v461 v467 v474 v480 v487 v493) (v496 : BitVec 32) (v497 : BitVec 32) (v511 : FVec F S128x1536 .bf16) (v520 : FVec F S128x1 .f32) (v523 : FVec F S1536x1024 .bf16) (v532 : BitVec 32)
    (X4 : BufTy.Contents (Elt F) arg4.view.ty) (X5 : BufTy.Contents (Elt F) arg5.view.ty) (X6 : BufTy.Contents (Elt F) arg6.view.ty)
    (G13 : BufTy.Contents (Elt F) arg13.view.ty) (L13 : List (View.Piece (Elt F) S128x1024 .f32)) (a13 : Vec F S128x1024 .f32)
    (G14 : BufTy.Contents (Elt F) arg14.view.ty) (L14 : List (View.Piece (Elt F) S512x1 .f32)) (a14 : Vec F S128x1 .f32) :
    Idealize.ShloMosaic.LoopInv (M := 𝕄) Idealize.ShloMosaic.frame (wpE defs₀ 𝒱 (c : Thread nD τ) bd) E
    (k0_t3_loop v292 v298 v305 v311 v318 v324 v331 v337 v344 v350 v357 v363 v370 v376 v383 v389 v396 v402 v409 v415 v422 v428 v435 v441 v448 v454 v461 v467 v474 v480 v487 v493).lb (k0_t3_loop v292 v298 v305 v311 v318 v324 v331 v337 v344 v350 v357 v363 v370 v376 v383 v389 v396 v402 v409 v415 v422 v428 v435 v441 v448 v454 v461 v467 v474 v480 v487 v493).ub (k0_t3_loop v292 v298 v305 v311 v318 v324 v331 v337 v344 v350 v357 v363 v370 v376 v383 v389 v396 v402 v409 v415 v422 v428 v435 v441 v448 v454 v461 v467 v474 v480 v487 v493).st (k0_t3_ok i v292 v298 v305 v311 v318 v324 v331 v337 v344 v350 v357 v363 v370 v376 v383 v389 v396 v402 v409 v415 v422 v428 v435 v441 v448 v454 v461 v467 v474 v480 v487 v493 k0_hw4 k0_h1) () (k0_t3_body (F := F) i arg3 harg3 arg4 harg4 arg5 harg5 arg6 harg6 arg7 harg7 arg8 harg8 arg9 harg9 arg10 harg10 arg11 harg11 arg12 harg12 arg13 harg13 arg14 harg14 k0_h1 v33 v34 v292 v298 v305 v311 v318 v324 v331 v337 v344 v350 v357 v363 v370 v376 v383 v389 v396 v402 v409 v415 v422 v428 v435 v441 v448 v454 v461 v467 v474 v480 v487 v490 v493 k0_hw4 v496 v497 v511 v520 v523 v532) where
  inv k _ := iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ d, (arg13.view.loc (c : Thread nD τ) ↦[arg13.view.set]{fullShare} arg13.view.writes (Elt F) G13 (⟨rXg, d⟩ :: L13)) ∗ ⌜d = trips (stepX1 i v292 v298 v305 v311 v318 v324 v331 v337 v344 v350 v357 v363 v370 v376 v383 v389 v396 v402 v409 v415 v422 v428 v435 v441 v448 v454 v461 v467 v474 v480 v487 v493 k0_hw4 k0_h1 v34 arg4 arg5 X4 X5) a13 k⌝)
    ∗ (∃ d, (arg14.view.loc (c : Thread nD τ) ↦[arg14.view.set]{fullShare} arg14.view.writes (Elt F) G14 (⟨rG1, d⟩ :: L14)) ∗ ⌜d = trips (stepG1 i v292 v298 v305 v311 v318 v324 v331 v337 v344 v350 v357 v363 v370 v376 v383 v389 v396 v402 v409 v415 v422 v428 v435 v441 v448 v454 v461 v467 v474 v480 v487 v493 k0_hw4 k0_h1 v34 arg5 arg6 X5 X6) a14 k⌝))
  step k acc := by
    iintro ⟨H4, H5, H6, ⟨%d13, H13, %h13⟩, ⟨%d14, H14, %h14⟩⟩
    unfold k0_t3_body
    simp only [k0_part3_eq_skeleton]
    sl_exec
    sl_step
    isplitl [H4]; · iexact H4
    isplitl [H5]; · iexact H5
    isplitl [H6]; · iexact H6
    isplitl [H13]
    · iexists _
      isplitl [H13]
      · rw [← writes_same arg13.view G13 rXg _ d13 L13]
        iexact H13
      · ipureintro
        rw [trips_succ, ← h13]
        exact congrArg (k0_pay9 v34 _ _) (View.readCov_cons_toLoadRect arg13.view rXg d13 L13)
    · iexists _
      isplitl [H14]
      · rw [← writes_same arg14.view G14 rG1 _ d14 L14]
        iexact H14
      · ipureintro
        rw [trips_succ, ← h14]
        exact congrArg (fun z => k0_pay38 (k0_pay10 v34 _ _ z)) (View.readCov_cons_toLoadRect arg14.view rG1 d14 L14)

set_option warn.classDefReducibility false in
/-- The loop behind it makes no trip. -/
@[sl_loop] def noLoop1 (𝒱 : Variants) (c : Dev nD) (bd : Option 𝒱.V) (E : Set ℕ) (i : grid0.Coords) (arg3 : Memref sig .tc .smem S32768 .i32) (harg3 : arg3.IsWhole) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (k0_h1 : k0_cond1 i = 1#1) (v33 : BitVec 32) (v34 : IVec S128x1 32) (v292 : Elt F .i32) (v298 : Elt F .i32) (v305 : Elt F .i32) (v311 : Elt F .i32) (v318 : Elt F .i32) (v324 : Elt F .i32) (v331 : Elt F .i32) (v337 : Elt F .i32) (v344 : Elt F .i32) (v350 : Elt F .i32) (v357 : Elt F .i32) (v363 : Elt F .i32) (v370 : Elt F .i32) (v376 : Elt F .i32) (v383 : Elt F .i32) (v389 : Elt F .i32) (v396 : Elt F .i32) (v402 : Elt F .i32) (v409 : Elt F .i32) (v415 : Elt F .i32) (v422 : Elt F .i32) (v428 : Elt F .i32) (v435 : Elt F .i32) (v441 : Elt F .i32) (v448 : Elt F .i32) (v454 : Elt F .i32) (v461 : Elt F .i32) (v467 : Elt F .i32) (v474 : Elt F .i32) (v480 : Elt F .i32) (v487 : Elt F .i32) (v490 : BitVec 32) (v493 : Elt F .i32) (k0_hw4 : k0_chk4 i v292 v298 v305 v311 v318 v324 v331 v337 v344 v350 v357 v363 v370 v376 v383 v389 v396 v402 v409 v415 v422 v428 v435 v441 v448 v454 v461 v467 v474 v480 v487 v493) (v496 : BitVec 32) (v497 : BitVec 32) (v511 : FVec F S128x1536 .bf16) (v520 : FVec F S128x1 .f32) (v523 : FVec F S1536x1024 .bf16) (v537 : BitVec 32) :
    Idealize.ShloMosaic.LoopInv (M := 𝕄) Idealize.ShloMosaic.frame (wpE defs₀ 𝒱 (c : Thread nD τ) bd) E
    (k0_t4_loop v292 v298 v305 v311 v318 v324 v331 v337 v344 v350 v357 v363 v370 v376 v383 v389 v396 v402 v409 v415 v422 v428 v435 v441 v448 v454 v461 v467 v474 v480 v487 v493).lb (k0_t4_loop v292 v298 v305 v311 v318 v324 v331 v337 v344 v350 v357 v363 v370 v376 v383 v389 v396 v402 v409 v415 v422 v428 v435 v441 v448 v454 v461 v467 v474 v480 v487 v493).ub (k0_t4_loop v292 v298 v305 v311 v318 v324 v331 v337 v344 v350 v357 v363 v370 v376 v383 v389 v396 v402 v409 v415 v422 v428 v435 v441 v448 v454 v461 v467 v474 v480 v487 v493).st (k0_t4_ok i v292 v298 v305 v311 v318 v324 v331 v337 v344 v350 v357 v363 v370 v376 v383 v389 v396 v402 v409 v415 v422 v428 v435 v441 v448 v454 v461 v467 v474 v480 v487 v493 k0_hw4 k0_h1) () (k0_t4_body (F := F) i arg3 harg3 arg4 harg4 arg5 harg5 arg6 harg6 arg7 harg7 arg8 harg8 arg9 harg9 arg10 harg10 arg11 harg11 arg12 harg12 arg13 harg13 arg14 harg14 k0_h1 v33 v34 v292 v298 v305 v311 v318 v324 v331 v337 v344 v350 v357 v363 v370 v376 v383 v389 v396 v402 v409 v415 v422 v428 v435 v441 v448 v454 v461 v467 v474 v480 v487 v490 v493 k0_hw4 v496 v497 v511 v520 v523 v537) where
  inv _ _ := iprop(emp)
  step k acc := (Nat.not_lt_zero k.val (lt_of_lt_of_eq k.isLt deadLoop_trips)).elim

/-! ### Block 2 -/

/-- The gate's rows of block 2. -/
abbrev rG2 : Rect S512x1 := Rect.unit (s := S512x1) ![256, 0] S128x1.size inb_S512x1_S128x1_256_0

section
variable (i : grid0.Coords) (v546 v552 v559 v565 v572 v578 v585 v591 v598 v604 v611 v617 v624 v630 v637 v643 v650 v656 v663 v669 v676 v682 v689 v695 v702 v708 v715 v721 v728 v734 v741 v747 : BitVec 32) (hw : k0_chk6 i v546 v552 v559 v565 v572 v578 v585 v591 v598 v604 v611 v617 v624 v630 v637 v643 v650 v656 v663 v669 v676 v682 v689 v695 v702 v708 v715 v721 v728 v734 v741 v747) (h1 : k0_cond1 i = 1#1)
  (v34 : IVec S128x1 32) (arg4 : Memref sig .tc .vmem S1x4096x1024 .bf16) (arg5 : Memref sig .tc .vmem S1x1x1x4096 .i32) (arg6 : Memref sig .tc .vmem S1x1x1x4096 .f32)
  (X4 : BufTy.Contents (Elt F) arg4.view.ty) (X5 : BufTy.Contents (Elt F) arg5.view.ty) (X6 : BufTy.Contents (Elt F) arg6.view.ty)
/-- One trip of block 2: the tile's rows at the block's slots, added. -/
def stepX2 (k : Fin (k0_t5_loop v546 v552 v559 v565 v572 v578 v585 v591 v598 v604 v611 v617 v624 v630 v637 v643 v650 v656 v663 v669 v676 v682 v689 v695 v702 v708 v715 v721 v728 v734 v741 v747).trips) (a : Vec F S128x1024 .f32) : Vec F S128x1024 .f32 :=
  k0_pay15 v34
    (arg5.view.readAt (Elt F) (Rect.unit (s := S1x1x1x4096) (k0_off21 v546 v552 v559 v565 v572 v578 v585 v591 v598 v604 v611 v617 v624 v630 v637 v643 v650 v656 v663 v669 v676 v682 v689 v695 v702 v708 v715 v721 v728 v734 v741 v747 k) S1x1x1x256.size (k0_off21_inb i v546 v552 v559 v565 v572 v578 v585 v591 v598 v604 v611 v617 v624 v630 v637 v643 v650 v656 v663 v669 v676 v682 v689 v695 v702 v708 v715 v721 v728 v734 v741 v747 hw k h1)).toLoadRect X5)
    (arg4.view.readAt (Elt F) (Rect.unit (s := S1x4096x1024) (k0_off22 v546 v552 v559 v565 v572 v578 v585 v591 v598 v604 v611 v617 v624 v630 v637 v643 v650 v656 v663 v669 v676 v682 v689 v695 v702 v708 v715 v721 v728 v734 v741 v747 k) S1x256x1024.size (k0_off22_inb i v546 v552 v559 v565 v572 v578 v585 v591 v598 v604 v611 v617 v624 v630 v637 v643 v650 v656 v663 v669 v676 v682 v689 v695 v702 v708 v715 v721 v728 v734 v741 v747 hw k h1)).toLoadRect X4) a
/-- One trip of block 2: the tile's gates at the block's slots, added. -/
def stepG2 (k : Fin (k0_t5_loop v546 v552 v559 v565 v572 v578 v585 v591 v598 v604 v611 v617 v624 v630 v637 v643 v650 v656 v663 v669 v676 v682 v689 v695 v702 v708 v715 v721 v728 v734 v741 v747).trips) (a : Vec F S128x1 .f32) : Vec F S128x1 .f32 :=
  k0_pay45 (k0_pay16 v34
    (arg5.view.readAt (Elt F) (Rect.unit (s := S1x1x1x4096) (k0_off21 v546 v552 v559 v565 v572 v578 v585 v591 v598 v604 v611 v617 v624 v630 v637 v643 v650 v656 v663 v669 v676 v682 v689 v695 v702 v708 v715 v721 v728 v734 v741 v747 k) S1x1x1x256.size (k0_off21_inb i v546 v552 v559 v565 v572 v578 v585 v591 v598 v604 v611 v617 v624 v630 v637 v643 v650 v656 v663 v669 v676 v682 v689 v695 v702 v708 v715 v721 v728 v734 v741 v747 hw k h1)).toLoadRect X5)
    (arg6.view.readAt (Elt F) (Rect.unit (s := S1x1x1x4096) (k0_off21 v546 v552 v559 v565 v572 v578 v585 v591 v598 v604 v611 v617 v624 v630 v637 v643 v650 v656 v663 v669 v676 v682 v689 v695 v702 v708 v715 v721 v728 v734 v741 v747 k) S1x1x1x256.size (k0_off21_inb i v546 v552 v559 v565 v572 v578 v585 v591 v598 v604 v611 v617 v624 v630 v637 v643 v650 v656 v663 v669 v676 v682 v689 v695 v702 v708 v715 v721 v728 v734 v741 v747 hw k h1)).toLoadRect X6) a)
end

set_option warn.classDefReducibility false in
/-- The loop of block 2 by its invariant. -/
@[sl_loop] def tileLoop2 (𝒱 : Variants) (c : Dev nD) (bd : Option 𝒱.V) (E : Set ℕ) (i : grid0.Coords) (arg3 : Memref sig .tc .smem S32768 .i32) (harg3 : arg3.IsWhole) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (k0_h1 : k0_cond1 i = 1#1) (v33 : BitVec 32) (v34 : IVec S128x1 32) (v546 : Elt F .i32) (v552 : Elt F .i32) (v559 : Elt F .i32) (v565 : Elt F .i32) (v572 : Elt F .i32) (v578 : Elt F .i32) (v585 : Elt F .i32) (v591 : Elt F .i32) (v598 : Elt F .i32) (v604 : Elt F .i32) (v611 : Elt F .i32) (v617 : Elt F .i32) (v624 : Elt F .i32) (v630 : Elt F .i32) (v637 : Elt F .i32) (v643 : Elt F .i32) (v650 : Elt F .i32) (v656 : Elt F .i32) (v663 : Elt F .i32) (v669 : Elt F .i32) (v676 : Elt F .i32) (v682 : Elt F .i32) (v689 : Elt F .i32) (v695 : Elt F .i32) (v702 : Elt F .i32) (v708 : Elt F .i32) (v715 : Elt F .i32) (v721 : Elt F .i32) (v728 : Elt F .i32) (v734 : Elt F .i32) (v741 : Elt F .i32) (k0_hw5 : k0_chk5 i v546 v559 v572 v585 v598 v611 v624 v637 v650 v663 v676 v689 v702 v715 v728 v741) (v744 : BitVec 32) (v747 : Elt F .i32) (k0_hw6 : k0_chk6 i v546 v552 v559 v565 v572 v578 v585 v591 v598 v604 v611 v617 v624 v630 v637 v643 v650 v656 v663 v669 v676 v682 v689 v695 v702 v708 v715 v721 v728 v734 v741 v747) (v750 : BitVec 32) (v751 : BitVec 32) (v753 : BitVec 32) (v761 : IVec S128x1536 1) (v765 : FVec F S128x1536 .bf16) (v786 : BitVec 32)
    (X4 : BufTy.Contents (Elt F) arg4.view.ty) (X5 : BufTy.Contents (Elt F) arg5.view.ty) (X6 : BufTy.Contents (Elt F) arg6.view.ty)
    (G13 : BufTy.Contents (Elt F) arg13.view.ty) (L13 : List (View.Piece (Elt F) S128x1024 .f32)) (a13 : Vec F S128x1024 .f32)
    (G14 : BufTy.Contents (Elt F) arg14.view.ty) (L14 : List (View.Piece (Elt F) S512x1 .f32)) (a14 : Vec F S128x1 .f32) :
    Idealize.ShloMosaic.LoopInv (M := 𝕄) Idealize.ShloMosaic.frame (wpE defs₀ 𝒱 (c : Thread nD τ) bd) E
    (k0_t5_loop v546 v552 v559 v565 v572 v578 v585 v591 v598 v604 v611 v617 v624 v630 v637 v643 v650 v656 v663 v669 v676 v682 v689 v695 v702 v708 v715 v721 v728 v734 v741 v747).lb (k0_t5_loop v546 v552 v559 v565 v572 v578 v585 v591 v598 v604 v611 v617 v624 v630 v637 v643 v650 v656 v663 v669 v676 v682 v689 v695 v702 v708 v715 v721 v728 v734 v741 v747).ub (k0_t5_loop v546 v552 v559 v565 v572 v578 v585 v591 v598 v604 v611 v617 v624 v630 v637 v643 v650 v656 v663 v669 v676 v682 v689 v695 v702 v708 v715 v721 v728 v734 v741 v747).st (k0_t5_ok i v546 v552 v559 v565 v572 v578 v585 v591 v598 v604 v611 v617 v624 v630 v637 v643 v650 v656 v663 v669 v676 v682 v689 v695 v702 v708 v715 v721 v728 v734 v741 v747 k0_hw6 k0_h1) () (k0_t5_body (F := F) i arg3 harg3 arg4 harg4 arg5 harg5 arg6 harg6 arg7 harg7 arg8 harg8 arg9 harg9 arg10 harg10 arg11 harg11 arg12 harg12 arg13 harg13 arg14 harg14 k0_h1 v33 v34 v546 v552 v559 v565 v572 v578 v585 v591 v598 v604 v611 v617 v624 v630 v637 v643 v650 v656 v663 v669 v676 v682 v689 v695 v702 v708 v715 v721 v728 v734 v741 k0_hw5 v744 v747 k0_hw6 v750 v751 v753 v761 v765 v786) where
  inv k _ := iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ d, (arg13.view.loc (c : Thread nD τ) ↦[arg13.view.set]{fullShare} arg13.view.writes (Elt F) G13 (⟨rXg, d⟩ :: L13)) ∗ ⌜d = trips (stepX2 i v546 v552 v559 v565 v572 v578 v585 v591 v598 v604 v611 v617 v624 v630 v637 v643 v650 v656 v663 v669 v676 v682 v689 v695 v702 v708 v715 v721 v728 v734 v741 v747 k0_hw6 k0_h1 v34 arg4 arg5 X4 X5) a13 k⌝)
    ∗ (∃ d, (arg14.view.loc (c : Thread nD τ) ↦[arg14.view.set]{fullShare} arg14.view.writes (Elt F) G14 (⟨rG2, d⟩ :: L14)) ∗ ⌜d = trips (stepG2 i v546 v552 v559 v565 v572 v578 v585 v591 v598 v604 v611 v617 v624 v630 v637 v643 v650 v656 v663 v669 v676 v682 v689 v695 v702 v708 v715 v721 v728 v734 v741 v747 k0_hw6 k0_h1 v34 arg5 arg6 X5 X6) a14 k⌝))
  step k acc := by
    iintro ⟨H4, H5, H6, ⟨%d13, H13, %h13⟩, ⟨%d14, H14, %h14⟩⟩
    unfold k0_t5_body
    simp only [k0_part5_eq_skeleton]
    sl_exec
    sl_step
    isplitl [H4]; · iexact H4
    isplitl [H5]; · iexact H5
    isplitl [H6]; · iexact H6
    isplitl [H13]
    · iexists _
      isplitl [H13]
      · rw [← writes_same arg13.view G13 rXg _ d13 L13]
        iexact H13
      · ipureintro
        rw [trips_succ, ← h13]
        exact congrArg (k0_pay15 v34 _ _) (View.readCov_cons_toLoadRect arg13.view rXg d13 L13)
    · iexists _
      isplitl [H14]
      · rw [← writes_same arg14.view G14 rG2 _ d14 L14]
        iexact H14
      · ipureintro
        rw [trips_succ, ← h14]
        exact congrArg (fun z => k0_pay45 (k0_pay16 v34 _ _ z)) (View.readCov_cons_toLoadRect arg14.view rG2 d14 L14)

set_option warn.classDefReducibility false in
/-- The loop behind it makes no trip. -/
@[sl_loop] def noLoop2 (𝒱 : Variants) (c : Dev nD) (bd : Option 𝒱.V) (E : Set ℕ) (i : grid0.Coords) (arg3 : Memref sig .tc .smem S32768 .i32) (harg3 : arg3.IsWhole) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (k0_h1 : k0_cond1 i = 1#1) (v33 : BitVec 32) (v34 : IVec S128x1 32) (v546 : Elt F .i32) (v552 : Elt F .i32) (v559 : Elt F .i32) (v565 : Elt F .i32) (v572 : Elt F .i32) (v578 : Elt F .i32) (v585 : Elt F .i32) (v591 : Elt F .i32) (v598 : Elt F .i32) (v604 : Elt F .i32) (v611 : Elt F .i32) (v617 : Elt F .i32) (v624 : Elt F .i32) (v630 : Elt F .i32) (v637 : Elt F .i32) (v643 : Elt F .i32) (v650 : Elt F .i32) (v656 : Elt F .i32) (v663 : Elt F .i32) (v669 : Elt F .i32) (v676 : Elt F .i32) (v682 : Elt F .i32) (v689 : Elt F .i32) (v695 : Elt F .i32) (v702 : Elt F .i32) (v708 : Elt F .i32) (v715 : Elt F .i32) (v721 : Elt F .i32) (v728 : Elt F .i32) (v734 : Elt F .i32) (v741 : Elt F .i32) (k0_hw5 : k0_chk5 i v546 v559 v572 v585 v598 v611 v624 v637 v650 v663 v676 v689 v702 v715 v728 v741) (v744 : BitVec 32) (v747 : Elt F .i32) (k0_hw6 : k0_chk6 i v546 v552 v559 v565 v572 v578 v585 v591 v598 v604 v611 v617 v624 v630 v637 v643 v650 v656 v663 v669 v676 v682 v689 v695 v702 v708 v715 v721 v728 v734 v741 v747) (v750 : BitVec 32) (v751 : BitVec 32) (v753 : BitVec 32) (v761 : IVec S128x1536 1) (v765 : FVec F S128x1536 .bf16) (v791 : BitVec 32) :
    Idealize.ShloMosaic.LoopInv (M := 𝕄) Idealize.ShloMosaic.frame (wpE defs₀ 𝒱 (c : Thread nD τ) bd) E
    (k0_t6_loop v546 v552 v559 v565 v572 v578 v585 v591 v598 v604 v611 v617 v624 v630 v637 v643 v650 v656 v663 v669 v676 v682 v689 v695 v702 v708 v715 v721 v728 v734 v741 v747).lb (k0_t6_loop v546 v552 v559 v565 v572 v578 v585 v591 v598 v604 v611 v617 v624 v630 v637 v643 v650 v656 v663 v669 v676 v682 v689 v695 v702 v708 v715 v721 v728 v734 v741 v747).ub (k0_t6_loop v546 v552 v559 v565 v572 v578 v585 v591 v598 v604 v611 v617 v624 v630 v637 v643 v650 v656 v663 v669 v676 v682 v689 v695 v702 v708 v715 v721 v728 v734 v741 v747).st (k0_t6_ok i v546 v552 v559 v565 v572 v578 v585 v591 v598 v604 v611 v617 v624 v630 v637 v643 v650 v656 v663 v669 v676 v682 v689 v695 v702 v708 v715 v721 v728 v734 v741 v747 k0_hw6 k0_h1) () (k0_t6_body (F := F) i arg3 harg3 arg4 harg4 arg5 harg5 arg6 harg6 arg7 harg7 arg8 harg8 arg9 harg9 arg10 harg10 arg11 harg11 arg12 harg12 arg13 harg13 arg14 harg14 k0_h1 v33 v34 v546 v552 v559 v565 v572 v578 v585 v591 v598 v604 v611 v617 v624 v630 v637 v643 v650 v656 v663 v669 v676 v682 v689 v695 v702 v708 v715 v721 v728 v734 v741 k0_hw5 v744 v747 k0_hw6 v750 v751 v753 v761 v765 v791) where
  inv _ _ := iprop(emp)
  step k acc := (Nat.not_lt_zero k.val (lt_of_lt_of_eq k.isLt deadLoop_trips)).elim

/-! ### Block 3 -/

/-- The gate's rows of block 3. -/
abbrev rG3 : Rect S512x1 := Rect.unit (s := S512x1) ![384, 0] S128x1.size inb_S512x1_S128x1_384_0

section
variable (i : grid0.Coords) (v800 v806 v813 v819 v826 v832 v839 v845 v852 v858 v865 v871 v878 v884 v891 v897 v904 v910 v917 v923 v930 v936 v943 v949 v956 v962 v969 v975 v982 v988 v995 v1001 : BitVec 32) (hw : k0_chk8 i v800 v806 v813 v819 v826 v832 v839 v845 v852 v858 v865 v871 v878 v884 v891 v897 v904 v910 v917 v923 v930 v936 v943 v949 v956 v962 v969 v975 v982 v988 v995 v1001) (h1 : k0_cond1 i = 1#1)
  (v34 : IVec S128x1 32) (arg4 : Memref sig .tc .vmem S1x4096x1024 .bf16) (arg5 : Memref sig .tc .vmem S1x1x1x4096 .i32) (arg6 : Memref sig .tc .vmem S1x1x1x4096 .f32)
  (X4 : BufTy.Contents (Elt F) arg4.view.ty) (X5 : BufTy.Contents (Elt F) arg5.view.ty) (X6 : BufTy.Contents (Elt F) arg6.view.ty)
/-- One trip of block 3: the tile's rows at the block's slots, added. -/
def stepX3 (k : Fin (k0_t7_loop v800 v806 v813 v819 v826 v832 v839 v845 v852 v858 v865 v871 v878 v884 v891 v897 v904 v910 v917 v923 v930 v936 v943 v949 v956 v962 v969 v975 v982 v988 v995 v1001).trips) (a : Vec F S128x1024 .f32) : Vec F S128x1024 .f32 :=
  k0_pay21 v34
    (arg5.view.readAt (Elt F) (Rect.unit (s := S1x1x1x4096) (k0_off29 v800 v806 v813 v819 v826 v832 v839 v845 v852 v858 v865 v871 v878 v884 v891 v897 v904 v910 v917 v923 v930 v936 v943 v949 v956 v962 v969 v975 v982 v988 v995 v1001 k) S1x1x1x256.size (k0_off29_inb i v800 v806 v813 v819 v826 v832 v839 v845 v852 v858 v865 v871 v878 v884 v891 v897 v904 v910 v917 v923 v930 v936 v943 v949 v956 v962 v969 v975 v982 v988 v995 v1001 hw k h1)).toLoadRect X5)
    (arg4.view.readAt (Elt F) (Rect.unit (s := S1x4096x1024) (k0_off30 v800 v806 v813 v819 v826 v832 v839 v845 v852 v858 v865 v871 v878 v884 v891 v897 v904 v910 v917 v923 v930 v936 v943 v949 v956 v962 v969 v975 v982 v988 v995 v1001 k) S1x256x1024.size (k0_off30_inb i v800 v806 v813 v819 v826 v832 v839 v845 v852 v858 v865 v871 v878 v884 v891 v897 v904 v910 v917 v923 v930 v936 v943 v949 v956 v962 v969 v975 v982 v988 v995 v1001 hw k h1)).toLoadRect X4) a
/-- One trip of block 3: the tile's gates at the block's slots, added. -/
def stepG3 (k : Fin (k0_t7_loop v800 v806 v813 v819 v826 v832 v839 v845 v852 v858 v865 v871 v878 v884 v891 v897 v904 v910 v917 v923 v930 v936 v943 v949 v956 v962 v969 v975 v982 v988 v995 v1001).trips) (a : Vec F S128x1 .f32) : Vec F S128x1 .f32 :=
  k0_pay51 (k0_pay22 v34
    (arg5.view.readAt (Elt F) (Rect.unit (s := S1x1x1x4096) (k0_off29 v800 v806 v813 v819 v826 v832 v839 v845 v852 v858 v865 v871 v878 v884 v891 v897 v904 v910 v917 v923 v930 v936 v943 v949 v956 v962 v969 v975 v982 v988 v995 v1001 k) S1x1x1x256.size (k0_off29_inb i v800 v806 v813 v819 v826 v832 v839 v845 v852 v858 v865 v871 v878 v884 v891 v897 v904 v910 v917 v923 v930 v936 v943 v949 v956 v962 v969 v975 v982 v988 v995 v1001 hw k h1)).toLoadRect X5)
    (arg6.view.readAt (Elt F) (Rect.unit (s := S1x1x1x4096) (k0_off29 v800 v806 v813 v819 v826 v832 v839 v845 v852 v858 v865 v871 v878 v884 v891 v897 v904 v910 v917 v923 v930 v936 v943 v949 v956 v962 v969 v975 v982 v988 v995 v1001 k) S1x1x1x256.size (k0_off29_inb i v800 v806 v813 v819 v826 v832 v839 v845 v852 v858 v865 v871 v878 v884 v891 v897 v904 v910 v917 v923 v930 v936 v943 v949 v956 v962 v969 v975 v982 v988 v995 v1001 hw k h1)).toLoadRect X6) a)
end

set_option warn.classDefReducibility false in
/-- The loop of block 3 by its invariant. -/
@[sl_loop] def tileLoop3 (𝒱 : Variants) (c : Dev nD) (bd : Option 𝒱.V) (E : Set ℕ) (i : grid0.Coords) (arg3 : Memref sig .tc .smem S32768 .i32) (harg3 : arg3.IsWhole) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (k0_h1 : k0_cond1 i = 1#1) (v34 : IVec S128x1 32) (v800 : Elt F .i32) (v806 : Elt F .i32) (v813 : Elt F .i32) (v819 : Elt F .i32) (v826 : Elt F .i32) (v832 : Elt F .i32) (v839 : Elt F .i32) (v845 : Elt F .i32) (v852 : Elt F .i32) (v858 : Elt F .i32) (v865 : Elt F .i32) (v871 : Elt F .i32) (v878 : Elt F .i32) (v884 : Elt F .i32) (v891 : Elt F .i32) (v897 : Elt F .i32) (v904 : Elt F .i32) (v910 : Elt F .i32) (v917 : Elt F .i32) (v923 : Elt F .i32) (v930 : Elt F .i32) (v936 : Elt F .i32) (v943 : Elt F .i32) (v949 : Elt F .i32) (v956 : Elt F .i32) (v962 : Elt F .i32) (v969 : Elt F .i32) (v975 : Elt F .i32) (v982 : Elt F .i32) (v988 : Elt F .i32) (v995 : Elt F .i32) (k0_hw7 : k0_chk7 i v800 v813 v826 v839 v852 v865 v878 v891 v904 v917 v930 v943 v956 v969 v982 v995) (v998 : BitVec 32) (v1001 : Elt F .i32) (k0_hw8 : k0_chk8 i v800 v806 v813 v819 v826 v832 v839 v845 v852 v858 v865 v871 v878 v884 v891 v897 v904 v910 v917 v923 v930 v936 v943 v949 v956 v962 v969 v975 v982 v988 v995 v1001) (v1004 : BitVec 32) (v1005 : BitVec 32) (v1007 : BitVec 32) (v1009 : Vec F S1x1x1x1536 .i32) (v1040 : BitVec 32)
    (X4 : BufTy.Contents (Elt F) arg4.view.ty) (X5 : BufTy.Contents (Elt F) arg5.view.ty) (X6 : BufTy.Contents (Elt F) arg6.view.ty)
    (G13 : BufTy.Contents (Elt F) arg13.view.ty) (L13 : List (View.Piece (Elt F) S128x1024 .f32)) (a13 : Vec F S128x1024 .f32)
    (G14 : BufTy.Contents (Elt F) arg14.view.ty) (L14 : List (View.Piece (Elt F) S512x1 .f32)) (a14 : Vec F S128x1 .f32) :
    Idealize.ShloMosaic.LoopInv (M := 𝕄) Idealize.ShloMosaic.frame (wpE defs₀ 𝒱 (c : Thread nD τ) bd) E
    (k0_t7_loop v800 v806 v813 v819 v826 v832 v839 v845 v852 v858 v865 v871 v878 v884 v891 v897 v904 v910 v917 v923 v930 v936 v943 v949 v956 v962 v969 v975 v982 v988 v995 v1001).lb (k0_t7_loop v800 v806 v813 v819 v826 v832 v839 v845 v852 v858 v865 v871 v878 v884 v891 v897 v904 v910 v917 v923 v930 v936 v943 v949 v956 v962 v969 v975 v982 v988 v995 v1001).ub (k0_t7_loop v800 v806 v813 v819 v826 v832 v839 v845 v852 v858 v865 v871 v878 v884 v891 v897 v904 v910 v917 v923 v930 v936 v943 v949 v956 v962 v969 v975 v982 v988 v995 v1001).st (k0_t7_ok i v800 v806 v813 v819 v826 v832 v839 v845 v852 v858 v865 v871 v878 v884 v891 v897 v904 v910 v917 v923 v930 v936 v943 v949 v956 v962 v969 v975 v982 v988 v995 v1001 k0_hw8 k0_h1) () (k0_t7_body (F := F) i arg3 harg3 arg4 harg4 arg5 harg5 arg6 harg6 arg7 harg7 arg8 harg8 arg9 harg9 arg10 harg10 arg11 harg11 arg12 harg12 arg13 harg13 arg14 harg14 k0_h1 v34 v800 v806 v813 v819 v826 v832 v839 v845 v852 v858 v865 v871 v878 v884 v891 v897 v904 v910 v917 v923 v930 v936 v943 v949 v956 v962 v969 v975 v982 v988 v995 k0_hw7 v998 v1001 k0_hw8 v1004 v1005 v1007 v1009 v1040) where
  inv k _ := iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ d, (arg13.view.loc (c : Thread nD τ) ↦[arg13.view.set]{fullShare} arg13.view.writes (Elt F) G13 (⟨rXg, d⟩ :: L13)) ∗ ⌜d = trips (stepX3 i v800 v806 v813 v819 v826 v832 v839 v845 v852 v858 v865 v871 v878 v884 v891 v897 v904 v910 v917 v923 v930 v936 v943 v949 v956 v962 v969 v975 v982 v988 v995 v1001 k0_hw8 k0_h1 v34 arg4 arg5 X4 X5) a13 k⌝)
    ∗ (∃ d, (arg14.view.loc (c : Thread nD τ) ↦[arg14.view.set]{fullShare} arg14.view.writes (Elt F) G14 (⟨rG3, d⟩ :: L14)) ∗ ⌜d = trips (stepG3 i v800 v806 v813 v819 v826 v832 v839 v845 v852 v858 v865 v871 v878 v884 v891 v897 v904 v910 v917 v923 v930 v936 v943 v949 v956 v962 v969 v975 v982 v988 v995 v1001 k0_hw8 k0_h1 v34 arg5 arg6 X5 X6) a14 k⌝))
  step k acc := by
    iintro ⟨H4, H5, H6, ⟨%d13, H13, %h13⟩, ⟨%d14, H14, %h14⟩⟩
    unfold k0_t7_body
    simp only [k0_part7_eq_skeleton]
    sl_exec
    sl_step
    isplitl [H4]; · iexact H4
    isplitl [H5]; · iexact H5
    isplitl [H6]; · iexact H6
    isplitl [H13]
    · iexists _
      isplitl [H13]
      · rw [← writes_same arg13.view G13 rXg _ d13 L13]
        iexact H13
      · ipureintro
        rw [trips_succ, ← h13]
        exact congrArg (k0_pay21 v34 _ _) (View.readCov_cons_toLoadRect arg13.view rXg d13 L13)
    · iexists _
      isplitl [H14]
      · rw [← writes_same arg14.view G14 rG3 _ d14 L14]
        iexact H14
      · ipureintro
        rw [trips_succ, ← h14]
        exact congrArg (fun z => k0_pay51 (k0_pay22 v34 _ _ z)) (View.readCov_cons_toLoadRect arg14.view rG3 d14 L14)

set_option warn.classDefReducibility false in
/-- The loop behind it makes no trip. -/
@[sl_loop] def noLoop3 (𝒱 : Variants) (c : Dev nD) (bd : Option 𝒱.V) (E : Set ℕ) (i : grid0.Coords) (arg3 : Memref sig .tc .smem S32768 .i32) (harg3 : arg3.IsWhole) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (k0_h1 : k0_cond1 i = 1#1) (v34 : IVec S128x1 32) (v800 : Elt F .i32) (v806 : Elt F .i32) (v813 : Elt F .i32) (v819 : Elt F .i32) (v826 : Elt F .i32) (v832 : Elt F .i32) (v839 : Elt F .i32) (v845 : Elt F .i32) (v852 : Elt F .i32) (v858 : Elt F .i32) (v865 : Elt F .i32) (v871 : Elt F .i32) (v878 : Elt F .i32) (v884 : Elt F .i32) (v891 : Elt F .i32) (v897 : Elt F .i32) (v904 : Elt F .i32) (v910 : Elt F .i32) (v917 : Elt F .i32) (v923 : Elt F .i32) (v930 : Elt F .i32) (v936 : Elt F .i32) (v943 : Elt F .i32) (v949 : Elt F .i32) (v956 : Elt F .i32) (v962 : Elt F .i32) (v969 : Elt F .i32) (v975 : Elt F .i32) (v982 : Elt F .i32) (v988 : Elt F .i32) (v995 : Elt F .i32) (k0_hw7 : k0_chk7 i v800 v813 v826 v839 v852 v865 v878 v891 v904 v917 v930 v943 v956 v969 v982 v995) (v998 : BitVec 32) (v1001 : Elt F .i32) (k0_hw8 : k0_chk8 i v800 v806 v813 v819 v826 v832 v839 v845 v852 v858 v865 v871 v878 v884 v891 v897 v904 v910 v917 v923 v930 v936 v943 v949 v956 v962 v969 v975 v982 v988 v995 v1001) (v1004 : BitVec 32) (v1005 : BitVec 32) (v1007 : BitVec 32) (v1009 : Vec F S1x1x1x1536 .i32) (v1045 : BitVec 32) :
    Idealize.ShloMosaic.LoopInv (M := 𝕄) Idealize.ShloMosaic.frame (wpE defs₀ 𝒱 (c : Thread nD τ) bd) E
    (k0_t8_loop v800 v806 v813 v819 v826 v832 v839 v845 v852 v858 v865 v871 v878 v884 v891 v897 v904 v910 v917 v923 v930 v936 v943 v949 v956 v962 v969 v975 v982 v988 v995 v1001).lb (k0_t8_loop v800 v806 v813 v819 v826 v832 v839 v845 v852 v858 v865 v871 v878 v884 v891 v897 v904 v910 v917 v923 v930 v936 v943 v949 v956 v962 v969 v975 v982 v988 v995 v1001).ub (k0_t8_loop v800 v806 v813 v819 v826 v832 v839 v845 v852 v858 v865 v871 v878 v884 v891 v897 v904 v910 v917 v923 v930 v936 v943 v949 v956 v962 v969 v975 v982 v988 v995 v1001).st (k0_t8_ok i v800 v806 v813 v819 v826 v832 v839 v845 v852 v858 v865 v871 v878 v884 v891 v897 v904 v910 v917 v923 v930 v936 v943 v949 v956 v962 v969 v975 v982 v988 v995 v1001 k0_hw8 k0_h1) () (k0_t8_body (F := F) i arg3 harg3 arg4 harg4 arg5 harg5 arg6 harg6 arg7 harg7 arg8 harg8 arg9 harg9 arg10 harg10 arg11 harg11 arg12 harg12 arg13 harg13 arg14 harg14 k0_h1 v34 v800 v806 v813 v819 v826 v832 v839 v845 v852 v858 v865 v871 v878 v884 v891 v897 v904 v910 v917 v923 v930 v936 v943 v949 v956 v962 v969 v975 v982 v988 v995 k0_hw7 v998 v1001 k0_hw8 v1004 v1005 v1007 v1009 v1045) where
  inv _ _ := iprop(emp)
  step k acc := (Nat.not_lt_zero k.val (lt_of_lt_of_eq k.isLt deadLoop_trips)).elim

end Cert.KernelIdeal

end
-- ==== Proof.RunA.lean ====
module

public import proofs.«01_k».proof.Proof.Setup
public import proofs.«01_k».proof.Proof.Words
public import proofs.«01_k».proof.Proof.Trips
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

/-! The launch of the expert call: its windows' schedule on the grid, the memory the region finds behind the host
    operations, the table in scalar memory, the blocks the windows hold at a point, and the frame claim's post from
    the post of a run. -/

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first) IN CASE A (`scf.if` 0 taken, `scf.if` 1 not taken: points 0, 2, … 510: 256 of 512), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : cond0_0 i) (hc1 : ¬cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) :
    Σ' (L6 : List (View.Piece (Elt F) S1x1x512x1024 .bf16)), Σ' (LS0 : List (View.Piece (Elt F) S512x1024 .bf16)), Σ' (LS1 : List (View.Piece (Elt F) S512x1024 .f32)), Σ' (LS3 : List (View.Piece (Elt F) S512x1 .f32)), { LT2 : List (View.Piece (Elt F) S128x1024 .f32) //
      ∀ (xi6 : Vec F S1x1x512x1024 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare xi6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare xi6 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LT2) ∗ (∃ f, arg14.view.loc (c : Thread nD τ) ↦[arg14.view.set]{fullShare} arg14.view.writes (Elt F) f LS3) ∗ tbPt0 c tbM0_0 xt0) -∗ K ⟨⟩))
          ⊢ wp frame (wpE (defs₀ (F := F)) Variants.none c none) E (cc0_moe_ffn i tbM0_0 htbM0_0 arg4 harg4 arg5 harg5 arg6 harg6 arg7 harg7 arg8 harg8 arg9 harg9 arg10 harg10 arg11 harg11 arg12 harg12 arg13 harg13 arg14 harg14) K } := by
  refine ⟨[], ?_, ?_, ?_, ?_, fun xi6 E K => ?run⟩
  case run =>
    simp only [cc0_moe_ffn_eq_skeleton]; unfold cc0_moe_ffn_skel
    simp only [k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec (disch := first | sl_exact hc0 | sl_exact hc1 | sl_exact k0_chk1_all _ _ _ _ _ _ _ _ _ _ _ _ _ _ _ _ _ | sl_exact k0_chk2_all _ _ _ _ _ _ _ _ _ _ _ _ _ _ _ _ _ _ _ _ _ _ _ _ _ _ _ _ _ _ _ _ _ | sl_exact k0_chk3_all _ _ _ _ _ _ _ _ _ _ _ _ _ _ _ _ _ | sl_exact k0_chk4_all _ _ _ _ _ _ _ _ _ _ _ _ _ _ _ _ _ _ _ _ _ _ _ _ _ _ _ _ _ _ _ _ _ | sl_exact k0_chk5_all _ _ _ _ _ _ _ _ _ _ _ _ _ _ _ _ _ | sl_exact k0_chk6_all _ _ _ _ _ _ _ _ _ _ _ _ _ _ _ _ _ _ _ _ _ _ _ _ _ _ _ _ _ _ _ _ _ | sl_exact k0_chk7_all _ _ _ _ _ _ _ _ _ _ _ _ _ _ _ _ _ | sl_exact k0_chk8_all _ _ _ _ _ _ _ _ _ _ _ _ _ _ _ _ _ _ _ _ _ _ _ _ _ _ _ _ _ _ _ _ _)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [HS0]; · iexists _; iexact HS0
    isplitl [HS1]; · iexists _; iexact HS1
    isplitl [HS2]; · iexists _; iexact HS2
    isplitl [HS3]; · iexists _; iexact HS3
    iexact HT0

end Cert.KernelIdeal

end
-- ==== Proof.RunB.lean ====
module

public import proofs.«01_k».proof.Proof.RunA
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

/-! The body at a point of the second half of an expert: no gather, the half added to what the first half left, the
    gated rows written. -/

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 taken: points 1, 3, … 511: 256 of 512), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : ¬cond0_0 i) (hc1 : cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) (xs0 : Vec F S512x1024 .bf16) (xs1 : Vec F S512x1024 .f32) (xs3 : Vec F S512x1 .f32) :
    Σ' (L6 : List (View.Piece (Elt F) S1x1x512x1024 .bf16)), Σ' (LS0 : List (View.Piece (Elt F) S512x1024 .bf16)), Σ' (LS1 : List (View.Piece (Elt F) S512x1024 .f32)), Σ' (LS3 : List (View.Piece (Elt F) S512x1 .f32)), { LT2 : List (View.Piece (Elt F) S128x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare xs0 ∗ owns (c : Thread nD τ) arg12 fullShare xs1 ∗ (∃ d, owns (c : Thread nD τ) arg13 fullShare d) ∗ owns (c : Thread nD τ) arg14 fullShare xs3 ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L6) ∗ owns (c : Thread nD τ) arg11 fullShare xs0 ∗ (∃ f, arg12.view.loc (c : Thread nD τ) ↦[arg12.view.set]{fullShare} arg12.view.writes (Elt F) f LS1) ∗ (∃ d, owns (c : Thread nD τ) arg13 fullShare d) ∗ owns (c : Thread nD τ) arg14 fullShare xs3 ∗ tbPt0 c tbM0_0 xt0) -∗ K ⟨⟩))
          ⊢ wp frame (wpE (defs₀ (F := F)) Variants.none c none) E (cc0_moe_ffn i tbM0_0 htbM0_0 arg4 harg4 arg5 harg5 arg6 harg6 arg7 harg7 arg8 harg8 arg9 harg9 arg10 harg10 arg11 harg11 arg12 harg12 arg13 harg13 arg14 harg14) K } := by
  refine ⟨?_, [], ?_, [], [], fun E K => ?run⟩
  case run =>
    simp only [cc0_moe_ffn_eq_skeleton]; unfold cc0_moe_ffn_skel
    simp only [k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%fs3, %hfs3, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hfs0; obtain rfl := harg12.eq_unread hfs1; obtain rfl := harg14.eq_unread hfs3
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    isplitl [HS0]
    · iexists _; isplitr; · ipureintro; exact harg11.read_unread _
      iexact HS0
    isplitl [HS1]; · iexists _; iexact HS1
    isplitl [HS2]
    · iexists _, _; isplitr; swap; · iexact HS2
      ipureintro; rfl
    isplitl [HS3]
    · iexists _; isplitr; · ipureintro; exact harg14.read_unread _
      iexact HS3
    iexact HT0

end Cert.KernelIdeal

end
-- ==== Proof.Frame.lean ====
module

public import proofs.«01_k».proof.Proof.RunB
public import Idealize.ShloMosaic.Lib.Claim
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

/-! The run of the whole call: what the buffers hold after each point of the grid, the body obligation at a point, and
    the frame. -/

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : cond0_0 i) (hc1 : ¬cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) : Vec F S1x1x512x1024 .bf16 :=
  VO0_6.read (Elt F) (VO0_6.writes (Elt F) VO0_6.junk (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).1)

/-- Case A's pieces for scratch `arg11`, which the kernel carries between points, cover it: 4 pieces of `S128x1024` tiling it (Lib/Ring.lean `Piece.tiledL`). -/
theorem scover0_A_0 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : cond0_0 i) (hc1 : ¬cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) (y : S512x1024.Idx) :
    ∃ pc ∈ (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.1 S128x1024.size (by sl_kernel_rfl) y

/-- What case A leaves in scratch `arg11`: its pieces read back over junk. -/
def sout0_A_0 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : cond0_0 i) (hc1 : ¬cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) : Vec F S512x1024 .bf16 :=
  VS0_0.read (Elt F) (VS0_0.writes (Elt F) VS0_0.junk (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.1)

/-- Case A's pieces for scratch `arg12`, which the kernel carries between points, cover it: 2 pieces of `S512x1024` tiling it (Lib/Ring.lean `Piece.tiledL`). -/
theorem scover0_A_1 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : cond0_0 i) (hc1 : ¬cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) (y : S512x1024.Idx) :
    ∃ pc ∈ (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.2.1 S512x1024.size (by sl_kernel_rfl) y

/-- What case A leaves in scratch `arg12`: its pieces read back over junk. -/
def sout0_A_1 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : cond0_0 i) (hc1 : ¬cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) : Vec F S512x1024 .f32 :=
  VS0_1.read (Elt F) (VS0_1.writes (Elt F) VS0_1.junk (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.2.1)

/-- Case A's pieces for scratch `arg14`, which the kernel carries between points, cover it: 1 piece of `S512x1` tiling it (Lib/Ring.lean `Piece.tiledL`). -/
theorem scover0_A_3 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : cond0_0 i) (hc1 : ¬cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) (y : S512x1.Idx) :
    ∃ pc ∈ (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.2.2.1 S128x1.size (by sl_kernel_rfl) y

/-- What case A leaves in scratch `arg14`: its pieces read back over junk. -/
def sout0_A_3 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : cond0_0 i) (hc1 : ¬cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) : Vec F S512x1 .f32 :=
  VS0_3.read (Elt F) (VS0_3.writes (Elt F) VS0_3.junk (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.2.2.1)

/-- Case B's pieces for output 6 tile its block (1 store of `S1x1x512x1024`, checked by the kernel's evaluation: Lib/Ring.lean `Piece.tiledL`, linear in the pieces, through a loop's `@[irreducible]` trip theorem too), so they cover it. -/
theorem cover0_B_6 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : ¬cond0_0 i) (hc1 : cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) (xs0 : Vec F S512x1024 .bf16) (xs1 : Vec F S512x1024 .f32) (xs3 : Vec F S512x1 .f32) (y : S1x1x512x1024.Idx) :
    ∃ pc ∈ (kernelRun0_B c i arg4 harg4 arg5 harg5 arg6 harg6 arg7 harg7 arg8 harg8 arg9 harg9 arg10 harg10 arg11 harg11 arg12 harg12 arg13 harg13 arg14 harg14 hc0 hc1 x0 x1 x2 x3 x4 x5 xt0 xs0 xs1 xs3).1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 hc0 hc1 x0 x1 x2 x3 x4 x5 xt0 xs0 xs1 xs3).1 S1x1x512x1024.size (by sl_kernel_rfl) y

/-- What case B leaves in output 6's staging buffer: its pieces read back over junk. -/
def out0_B_6 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : ¬cond0_0 i) (hc1 : cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) (xs0 : Vec F S512x1024 .bf16) (xs1 : Vec F S512x1024 .f32) (xs3 : Vec F S512x1 .f32) : Vec F S1x1x512x1024 .bf16 :=
  VO0_6.read (Elt F) (VO0_6.writes (Elt F) VO0_6.junk (kernelRun0_B c i arg4 harg4 arg5 harg5 arg6 harg6 arg7 harg7 arg8 harg8 arg9 harg9 arg10 harg10 arg11 harg11 arg12 harg12 arg13 harg13 arg14 harg14 hc0 hc1 x0 x1 x2 x3 x4 x5 xt0 xs0 xs1 xs3).1)

/-- Case B stores nothing into scratch `arg11`: it holds what the point before left. -/
def sout0_B_0 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : ¬cond0_0 i) (hc1 : cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) (xs0 : Vec F S512x1024 .bf16) (xs1 : Vec F S512x1024 .f32) (xs3 : Vec F S512x1 .f32) : Vec F S512x1024 .bf16 := xs0

/-- Case B's pieces for scratch `arg12`, which the kernel carries between points, cover it: 1 piece of `S512x1024` tiling it (Lib/Ring.lean `Piece.tiledL`). -/
theorem scover0_B_1 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : ¬cond0_0 i) (hc1 : cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) (xs0 : Vec F S512x1024 .bf16) (xs1 : Vec F S512x1024 .f32) (xs3 : Vec F S512x1 .f32) (y : S512x1024.Idx) :
    ∃ pc ∈ (kernelRun0_B c i arg4 harg4 arg5 harg5 arg6 harg6 arg7 harg7 arg8 harg8 arg9 harg9 arg10 harg10 arg11 harg11 arg12 harg12 arg13 harg13 arg14 harg14 hc0 hc1 x0 x1 x2 x3 x4 x5 xt0 xs0 xs1 xs3).2.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 hc0 hc1 x0 x1 x2 x3 x4 x5 xt0 xs0 xs1 xs3).2.2.1 S512x1024.size (by sl_kernel_rfl) y

/-- What case B leaves in scratch `arg12`: its pieces read back over junk. -/
def sout0_B_1 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : ¬cond0_0 i) (hc1 : cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) (xs0 : Vec F S512x1024 .bf16) (xs1 : Vec F S512x1024 .f32) (xs3 : Vec F S512x1 .f32) : Vec F S512x1024 .f32 :=
  VS0_1.read (Elt F) (VS0_1.writes (Elt F) VS0_1.junk (kernelRun0_B c i arg4 harg4 arg5 harg5 arg6 harg6 arg7 harg7 arg8 harg8 arg9 harg9 arg10 harg10 arg11 harg11 arg12 harg12 arg13 harg13 arg14 harg14 hc0 hc1 x0 x1 x2 x3 x4 x5 xt0 xs0 xs1 xs3).2.2.1)

/-- Case B stores nothing into scratch `arg14`: it holds what the point before left. -/
def sout0_B_3 (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : ¬cond0_0 i) (hc1 : cond0_1 i)
    (x0 : Vec F S1x4096x1024 .bf16) (x1 : Vec F S1x1x1x4096 .i32) (x2 : Vec F S1x1x1x4096 .f32) (x3 : Vec F S1x1024x1024 .bf16) (x4 : Vec F S1x1024x1024 .bf16) (x5 : Vec F S1x1024x1024 .bf16) (xt0 : TbBuf0 (F := F) c tbM0_0) (xs0 : Vec F S512x1024 .bf16) (xs1 : Vec F S512x1024 .f32) (xs3 : Vec F S512x1 .f32) : Vec F S512x1 .f32 := xs3

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x1x512x1024 .bf16 × Vec F S512x1024 .bf16 × Vec F S512x1024 .f32 × Vec F S512x1 .f32
  | 0, hn => (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), sout0_A_3 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0))
  | n + 1, hn =>
    if h0 : (n + 1) % 2 = 0 then
      if h1 : (n + 1) % 2 = 1 then
        False.elim (by have hN : n + 1 < 512 := lt_of_lt_of_eq hn (show (cfgM m hO).N = 512 from N_0); omega)
      else
        (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), sout0_A_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0))
    else
      if h1 : (n + 1) % 2 = 1 then
        (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2, sout0_B_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2)
      else
        False.elim (by have hN : n + 1 < 512 := lt_of_lt_of_eq hn (show (cfgM m hO).N = 512 from N_0); omega)

/-- `outsAt0` at a point of case A: that case's contents. -/
theorem outsAt0_A (hO : Ok m) (c : Dev nD) (t : Fin (cfgM m hO).N) (h0 : t.val % 2 = 0) (h1 : ¬t.val % 2 = 1) :
    outsAt0 m hO c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0), sout0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)) := by
  obtain ⟨n, hn⟩ := t
  cases n with
  | zero => exact rfl
  | succ n => exact (dif_pos h0).trans ((dif_neg h1).trans rfl)

/-- `outsAt0` at a point of case B: that case's contents, over what the point before left. -/
theorem outsAt0_B (hO : Ok m) (c : Dev nD) (t : Fin (cfgM m hO).N) (h0 : ¬t.val % 2 = 0) (h1 : t.val % 2 = 1) :
    outsAt0 m hO c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2.1) ∗ (∃ d, owns (c : Thread nD τ) scM0_2 fullShare d) ∗ owns (c : Thread nD τ) scM0_3 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2.1) ∗ (∃ d, owns (c : Thread nD τ) scM0_2 fullShare d) ∗ owns (c : Thread nD τ) scM0_3 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2.1) ∗ (∃ d, owns (c : Thread nD τ) scM0_2 fullShare d) ∗ owns (c : Thread nD τ) scM0_3 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 512 := lt_of_lt_of_eq t.isLt (show (cfgM m hO).N = 512 from N_0)
  by_cases h0 : t.val % 2 = 0
  · by_cases h1 : t.val % 2 = 1
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [Dat.leavesExact_idle (dats m hO 0 c) 6 t (idleAt0_6_A m hO t ((hcond0_0 t).mpr h0) (fun h => h1 ((hcond0_1 t).mp h))) (noFlush0_6_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_0 sout0_A_1 sout0_A_3; (try dsimp only)
        iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        isplitl [HT0]; · iexact HT0
        iintro ⟨H0, H1, H2, H3, H4, H5, H6, ⟨%es0, HS0⟩, ⟨%es1, HS1⟩, ⟨%fT2, HS2⟩, ⟨%es3, HS3⟩, HT0⟩
        isplitl [HS0 HS1 HS2 HS3 Hg HT0]
        · isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _)
              isplitl [HS2]
              · iexists _; unfold owns; iexists _; isplitr
                swap; · iexact HS2
                ipureintro; rfl
              unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m hO c t, PhiS_pos m hO c _ _ hz, PhiT0_eq]
        rw [outsAt0_A m hO c t h0 h1]
        unfold sout0_A_0 sout0_A_1 sout0_A_3; (try dsimp only)
        iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexact HS2
        isplitl [HS3]; · iexists _; iexact HS3
        isplitl [HT0]; · iexact HT0
        iintro ⟨H0, H1, H2, H3, H4, H5, H6, ⟨%es0, HS0⟩, ⟨%es1, HS1⟩, ⟨%fT2, HS2⟩, ⟨%es3, HS3⟩, HT0⟩
        isplitl [HS0 HS1 HS2 HS3 Hg HT0]
        · isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _)
              isplitl [HS2]
              · iexists _; unfold owns; iexists _; isplitr
                swap; · iexact HS2
                ipureintro; rfl
              unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 2 = 1
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6_B m hO t (fun h => h0 ((hcond0_0 t).mp h)) ((hcond0_1 t).mpr h1)]; try rfl, after0_6]
      by_cases hz : t.val = 0
      · exfalso; have hN : t.val < 512 := lt_of_lt_of_eq t.isLt (show (cfgM m hO).N = 512 from N_0); omega
      · rw [PhiS_castSucc m hO c t, PhiS_pos m hO c _ _ hz, PhiT0_eq]
        rw [outsAt0_B m hO c t h0 h1]
        unfold out0_B_6 sout0_B_0 sout0_B_1 sout0_B_3; (try dsimp only)
        iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexact HS3
        isplitl [HT0]; · iexact HT0
        iintro ⟨H0, H1, H2, H3, H4, H5, ⟨%e6, H6⟩, HS0, ⟨%es1, HS1⟩, HS2, HS3, HT0⟩
        isplitl [HS0 HS1 HS2 HS3 Hg HT0]
        · isplitl [HS0 HS1 HS2 HS3 Hg]
          · isplitl [HS0 HS1 HS2 HS3]
            · isplitl [HS0]
              · iexact HS0
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _)
              isplitl [HS2]
              · iexact HS2
              iexact HS3
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3⟩, Hg⟩, -⟩
  isplitl [HS0 HS1 HS2 HS3]
  · isplitl [HS0]
    · iexists _; iexact HS0
    isplitl [HS1]
    · iexists _; iexact HS1
    isplitl [HS2]
    · iexact HS2
    iexists _; iexact HS3
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 512 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame, for any values: every run ends, with the argument arrays as they were and all counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.KernelIdeal

end
-- ==== Proof.Twin.lean ====
module

public import proofs.«01_k».proof.Defs
public import proofs.«01_k».proof.Proof.Gen.Kernel
public import proofs.«01_k».proof.Proof.Frame

/-! The kernel as printed has the idealized kernel's text, so its frame is the same run taken at the words. -/

@[expose] public section

noncomputable section

namespace Cert.Proof

open Idealize.ShloMosaic Idealize.SL.Sem

/-- The tables the windows read put no condition on the run. -/
theorem ok {F : FTy → Type} [FloatOps F] (m : (ℓ : Loc Cert.KernelIdeal.nD Cert.KernelIdeal.τ Cert.KernelIdeal.sig) → Buf (Elt F) ℓ) :
    Cert.KernelIdeal.Ok m := by
  unfold Cert.KernelIdeal.Ok
  unfold Cert.KernelIdeal.ok0
  trivial

/-- The frame of the kernel as printed: the two programs have the same text, and the run is any values'. -/
theorem frame_kernel : Cert.quiescent_Kernel := fun m ρ _ => by
  refine Eq.mp ?h (Cert.KernelIdeal.frame (F := Bits) m ρ (ok m))
  case h => sl_kernel_rfl

end Cert.Proof

end
-- ==== Proof.Picked.lean ====
module

public import proofs.«01_k».proof.Defs
public import Idealize.ShloMosaic.Lib.ReduceAll
public import Idealize.ShloMosaic.Lib.WordCmp
public import Idealize.ShloMosaic.Lib.Pipeline.Value
public import Idealize.ShloMosaic.Lib.ValueIdx

/-! What the precondition says of the picked tokens. -/

@[expose] public section

noncomputable section

namespace Cert.KernelIdeal

open Idealize.ShloMosaic Idealize.ShloMosaic.ValueIdx

theorem signed_ge (x y : BitVec 32) (h : IntOp.cmpi .sge x y = 1#1) : y.toInt ≤ x.toInt := by
  rw [WordCmp.cmpi_sge_eq, WordCmp.ofBool_decide_eq_one_iff] at h
  exact h

theorem signed_lt (x y : BitVec 32) (h : IntOp.cmpi .slt x y = 1#1) : x.toInt < y.toInt := by
  rw [WordCmp.cmpi_slt_eq, WordCmp.ofBool_decide_eq_one_iff] at h
  exact h

/-- Where `picked` is all ones, every index is a token, and the tokens of an expert ascend. -/
theorem picked_tokens [Cert.Pre_picked.Facts] (x0 : FVec Ideal Cert.Pre_picked.S16x4096x1024 .f32) (x1 : FVec Ideal Cert.Pre_picked.S16x16x4096 .f32)
    (idx : IVec Cert.Pre_picked.S16x16x512 32) (x3 : FVec Ideal Cert.Pre_picked.S16x1024x2048 .f32) (x4 : FVec Ideal Cert.Pre_picked.S16x1024x2048 .f32)
    (x5 : FVec Ideal Cert.Pre_picked.S16x2048x1024 .f32) (h : Cert.Pre_picked.fn (F := Ideal) x0 x1 idx x3 x4 x5 = fun _ => 1#1) :
    ∃ tok : Fin 16 → Fin 16 → Fin 512 → Fin 4096, (∀ b e c, idx (ix3 b e c) = BitVec.ofNat 32 (tok b e c).val) ∧ ∀ b e, StrictMono (tok b e) := by
  have hs : Subsingleton Cert.Pre_picked.S_.Idx := ⟨fun i j => funext fun a => a.elim0⟩
  have h0 := congrFun h (fun a => a.elim0)
  obtain ⟨h12, h3⟩ := IntOp.andi_eq_one.1 h0
  obtain ⟨h1, h2⟩ := IntOp.andi_eq_one.1 h12
  have lo : ∀ i, 0 ≤ (idx i).toInt := fun i => signed_ge (idx i) 0#32 (Host.reduce_andi_all _ _ _ _ _ h1 i)
  have hi : ∀ i, (idx i).toInt < 4096 := fun i => signed_lt (idx i) 4096#32 (Host.reduce_andi_all _ _ _ _ _ h2 i)
  have up : ∀ (b e : Fin 16) (k : Fin 511), (idx (ix3 b e k.castSucc)).toInt < (idx (ix3 b e k.succ)).toInt := by
    intro b e k
    have q := signed_lt _ _ (Host.reduce_andi_all _ _ _ _ _ h3 (ix3 b e k))
    refine lt_of_eq_of_lt ?_ (lt_of_lt_of_eq q ?_)
    · refine congrArg (fun i => (idx i).toInt) ?_
      funext a
      refine Fin.ext ?_
      match a with
      | ⟨0, _⟩ => show b.val = 0 + b.val; omega
      | ⟨1, _⟩ => show e.val = 0 + e.val; omega
      | ⟨2, _⟩ => show k.val = 0 + k.val; omega
    · refine congrArg (fun i => (idx i).toInt) ?_
      funext a
      refine Fin.ext ?_
      match a with
      | ⟨0, _⟩ => show 0 + b.val = b.val; omega
      | ⟨1, _⟩ => show 0 + e.val = e.val; omega
      | ⟨2, _⟩ => show 1 + k.val = k.val + 1; omega
  have nat : ∀ i, ((idx i).toNat : Int) = (idx i).toInt := by
    intro i
    have l := lo i
    rw [BitVec.toInt_eq_toNat_cond] at l ⊢
    have b := (idx i).isLt
    split at l <;> split <;> omega
  refine ⟨fun b e c => ⟨(idx (ix3 b e c)).toNat, ?_⟩, ?_, ?_⟩
  · have := nat (ix3 b e c)
    have := hi (ix3 b e c)
    omega
  · intro b e c
    exact (BitVec.eq_of_toNat_eq (by rw [BitVec.toNat_ofNat, Nat.mod_eq_of_lt (idx (ix3 b e c)).isLt]))
  · intro b e
    refine Fin.strictMono_iff_lt_succ.mpr fun k => ?_
    show (idx (ix3 b e k.castSucc)).toNat < (idx (ix3 b e k.succ)).toNat
    have := nat (ix3 b e k.castSucc)
    have := nat (ix3 b e k.succ)
    have := up b e k
    omega

end Cert.KernelIdeal

end
-- ==== Proof.Gather.lean ====
module

public import proofs.«01_k».proof.Proof.Trips
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value
public import Idealize.ShloMosaic.PureOps.Ideal.Laws

/-! The gather of a block of slots, on extended reals: a one-hot product over a stretch of tokens is the sum of the
    rows whose token has the slot, a masked row sum the sum of their gates. -/

@[expose] public section

noncomputable section

namespace Cert.KernelIdeal

open Gen
open Idealize.ShloMosaic Idealize.ShloMosaic.ValueIdx
open scoped BigOperators

/-- `x` where the words agree, else nothing. -/
def pick (a b : BitVec 32) (x : EReal) : EReal := if a = b then x else 0

theorem select_cmpi_eq {α : Type} (a b : BitVec 32) (x y : α) : Scalar.select (Scalar.cmpi .eq a b) x y = if a = b then x else y := by
  by_cases h : a = b
  · subst h
    rw [if_pos rfl]
    show (if BitVec.ofBool (a == a) = 1 then x else y) = x
    rw [beq_self_eq_true]; rfl
  · rw [if_neg h]
    show (if BitVec.ofBool (a == b) = 1 then x else y) = y
    rw [beq_eq_false_iff_ne.mpr h]; rfl

/-- Which of the `w` tokens has which slot of the block from `r0`. -/
def hitOf {w : Nat} (r0 : BitVec 32) (v : IVec S128x1 32) (s : IVec ⟨4, ![1, 1, 1, w]⟩ 32)
    (hs : (⟨4, ![1, 1, 1, w]⟩ : Shape).ShapeCasts ⟨2, ![1, w]⟩) (hb : (⟨2, ![1, w]⟩ : Shape).Broadcasts ⟨2, ![128, w]⟩)
    (hc : S128x1.Broadcasts ⟨2, ![128, w]⟩) : IVec ⟨2, ![128, w]⟩ 1 :=
  cmpi .eq (broadcastTo ⟨2, ![128, w]⟩ (shapeCast ⟨2, ![1, w]⟩ s hs) hb)
    (broadcastTo ⟨2, ![128, w]⟩ (addi v (broadcast S128x1 r0)) hc)

theorem row_apply {α : Type} {w : Nat} (s : (⟨4, ![1, 1, 1, w]⟩ : Shape).Idx → α)
    (hs : (⟨4, ![1, 1, 1, w]⟩ : Shape).ShapeCasts ⟨2, ![1, w]⟩) (t : Fin w) :
    shapeCast ⟨2, ![1, w]⟩ s hs (ix2 0 t) = s (ix4 0 0 0 t) := by
  refine shapeCast_apply s hs (ix2 0 t) (ix4 0 0 0 t) ?_
  rw [Shape.rowMajor_val_four, Shape.rowMajor_val_two]
  show ((0 * 1 + 0) * 1 + 0) * w + t.val = 0 * w + t.val
  omega

theorem hitOf_apply {w : Nat} (hw : w ≠ 1) (r0 : BitVec 32) (v : IVec S128x1 32) (s : IVec ⟨4, ![1, 1, 1, w]⟩ 32)
    (hs : (⟨4, ![1, 1, 1, w]⟩ : Shape).ShapeCasts ⟨2, ![1, w]⟩) (hb : (⟨2, ![1, w]⟩ : Shape).Broadcasts ⟨2, ![128, w]⟩)
    (hc : S128x1.Broadcasts ⟨2, ![128, w]⟩) (p : Fin 128) (t : Fin w) :
    hitOf r0 v s hs hb hc (ix2 p t) = Scalar.cmpi .eq (s (ix4 0 0 0 t)) (v (ix2 p 0) + r0) := by
  show Scalar.cmpi .eq (broadcastTo ⟨2, ![128, w]⟩ (shapeCast ⟨2, ![1, w]⟩ s hs) hb (ix2 p t))
    (broadcastTo ⟨2, ![128, w]⟩ (addi v (broadcast S128x1 r0)) hc (ix2 p t)) = _
  rw [broadcastTo_1b_ab_apply, row_apply]
  have : broadcastTo ⟨2, ![128, w]⟩ (addi v (broadcast S128x1 r0)) hc (ix2 p t) = addi v (broadcast S128x1 r0) (ix2 p 0) :=
    broadcastTo_apply _ hc (ix2 p t) (ix2 p 0) fun a => by
      match a with
      | ⟨0, _⟩ => rfl
      | ⟨1, _⟩ => rfl
  rw [this]; rfl

/-- The one-hot product over `w` tokens. -/
def rowsOf {w : Nat} (r0 : BitVec 32) (v : IVec S128x1 32) (s : IVec ⟨4, ![1, 1, 1, w]⟩ 32) (h : FVec Ideal ⟨3, ![1, w, 1024]⟩ .bf16)
    (hs : (⟨4, ![1, 1, 1, w]⟩ : Shape).ShapeCasts ⟨2, ![1, w]⟩) (hb : (⟨2, ![1, w]⟩ : Shape).Broadcasts ⟨2, ![128, w]⟩)
    (hc : S128x1.Broadcasts ⟨2, ![128, w]⟩) (hh : (⟨3, ![1, w, 1024]⟩ : Shape).ShapeCasts ⟨2, ![w, 1024]⟩) : FVec Ideal S128x1024 .f32 :=
  FloatOps.matmul (F := Ideal) (DotDims.plain 128 w 1024) none
    (truncf .bf16 (select (hitOf r0 v s hs hb hc) (broadcast ⟨2, ![128, w]⟩ (Scalar.ofBits (F := Ideal) .f32 0x3F800000#32))
      (broadcast ⟨2, ![128, w]⟩ (Scalar.ofBits (F := Ideal) .f32 0x00000000#32))) bitsLt_bf16_f32)
    (shapeCast ⟨2, ![w, 1024]⟩ h hh) (constant S128x1024 .f32 0x00000000#32)

theorem rowsOf_apply {w : Nat} (hw : w ≠ 1) (r0 : BitVec 32) (v : IVec S128x1 32) (s : IVec ⟨4, ![1, 1, 1, w]⟩ 32) (h : FVec Ideal ⟨3, ![1, w, 1024]⟩ .bf16)
    (hs : (⟨4, ![1, 1, 1, w]⟩ : Shape).ShapeCasts ⟨2, ![1, w]⟩) (hb : (⟨2, ![1, w]⟩ : Shape).Broadcasts ⟨2, ![128, w]⟩)
    (hc : S128x1.Broadcasts ⟨2, ![128, w]⟩) (hh : (⟨3, ![1, w, 1024]⟩ : Shape).ShapeCasts ⟨2, ![w, 1024]⟩) (p : Fin 128) (d : Fin 1024) :
    rowsOf r0 v s h hs hb hc hh (ix2 p d) = ∑ t : Fin w, pick (s (ix4 0 0 0 t)) (v (ix2 p 0) + r0) (h (ix3 0 t d)) := by
  unfold rowsOf
  rw [Ideal.matmul_plain_apply, constant_apply, Ideal.ofBits_zero_f32, zero_add]
  refine Finset.sum_congr rfl fun t _ => ?_
  rw [truncf_apply, select_apply, hitOf_apply hw, select_cmpi_eq, shapeCast_1ab_ab_apply, broadcast_apply, broadcast_apply]
  show (if _ then Ideal.ofBits .f32 0x3F800000#32 else Ideal.ofBits .f32 0x00000000#32) * _ = pick _ _ _
  rw [Ideal.ofBits_one_f32, Ideal.ofBits_zero_f32]
  unfold pick
  split
  · exact one_mul _
  · exact zero_mul _

/-- The masked sum of the gates of `w` tokens. -/
def gatesOf {w : Nat} (r0 : BitVec 32) (v : IVec S128x1 32) (s : IVec ⟨4, ![1, 1, 1, w]⟩ 32) (g : FVec Ideal ⟨4, ![1, 1, 1, w]⟩ .f32)
    (hs : (⟨4, ![1, 1, 1, w]⟩ : Shape).ShapeCasts ⟨2, ![1, w]⟩) (hb : (⟨2, ![1, w]⟩ : Shape).Broadcasts ⟨2, ![128, w]⟩)
    (hc : S128x1.Broadcasts ⟨2, ![128, w]⟩) (hi : (⟨2, ![1, w]⟩ : Shape).ShapeCasts ⟨2, ![1, w]⟩)
    (hr : (⟨2, ![128, w]⟩ : Shape).Reduces [1] S128) : FVec Ideal S128x1 .f32 :=
  shapeCast S128x1 (multiReduction .add [1] S128
    (select (hitOf r0 v s hs hb hc) (broadcastTo ⟨2, ![128, w]⟩ (shapeCast ⟨2, ![1, w]⟩ (shapeCast ⟨2, ![1, w]⟩ g hs) hi) hb)
      (broadcast ⟨2, ![128, w]⟩ (Scalar.ofBits (F := Ideal) .f32 0x00000000#32))) 0x00000000#32 hr (.inl rfl) rfl) shapeCasts_S128_S128x1

theorem gatesOf_apply {w : Nat} (hw : w ≠ 1) (r0 : BitVec 32) (v : IVec S128x1 32) (s : IVec ⟨4, ![1, 1, 1, w]⟩ 32) (g : FVec Ideal ⟨4, ![1, 1, 1, w]⟩ .f32)
    (hs : (⟨4, ![1, 1, 1, w]⟩ : Shape).ShapeCasts ⟨2, ![1, w]⟩) (hb : (⟨2, ![1, w]⟩ : Shape).Broadcasts ⟨2, ![128, w]⟩)
    (hc : S128x1.Broadcasts ⟨2, ![128, w]⟩) (hi : (⟨2, ![1, w]⟩ : Shape).ShapeCasts ⟨2, ![1, w]⟩)
    (hr : (⟨2, ![128, w]⟩ : Shape).Reduces [1] S128) (p : Fin 128) :
    gatesOf r0 v s g hs hb hc hi hr (ix2 p 0) = ∑ t : Fin w, pick (s (ix4 0 0 0 t)) (v (ix2 p 0) + r0) (g (ix4 0 0 0 t)) := by
  unfold gatesOf
  rw [shapeCast_a_a1_apply]
  refine (Ideal.multiReduction_add_single _ _ hr _ _ (ix1 p)).trans ?_
  have key : ∀ t : Fin w, select (hitOf r0 v s hs hb hc) (broadcastTo ⟨2, ![128, w]⟩ (shapeCast ⟨2, ![1, w]⟩ (shapeCast ⟨2, ![1, w]⟩ g hs) hi) hb)
      (broadcast ⟨2, ![128, w]⟩ (Scalar.ofBits (F := Ideal) .f32 0x00000000#32)) (ix2 p t) = pick (s (ix4 0 0 0 t)) (v (ix2 p 0) + r0) (g (ix4 0 0 0 t)) := by
    intro t
    rw [select_apply, hitOf_apply hw, select_cmpi_eq, broadcastTo_1b_ab_apply, shapeCast_self, row_apply, broadcast_apply]
    show (if _ then _ else Ideal.ofBits .f32 0x00000000#32) = pick _ _ _
    rw [Ideal.ofBits_zero_f32]; rfl
  refine Finset.sum_congr rfl fun t _ => Eq.trans (congrArg _ ?_) (key t)
  funext a; apply Fin.ext
  match a with
  | ⟨0, _⟩ => rfl
  | ⟨1, _⟩ => rfl

/-- Each trip of a loop adds its part at an index. -/
theorem trips_apply {n : Nat} {ι : Type} (step : Fin n → (ι → EReal) → (ι → EReal)) (a : ι → EReal) (j : ι) (g : ℕ → EReal)
    (h : ∀ (k : Fin n) (x : ι → EReal), step k x j = x j + g k) (k : Nat) (hk : k ≤ n) :
    trips step a k j = a j + ∑ i ∈ Finset.range k, g i := by
  induction k with
  | zero => simp
  | succ k ih =>
    rw [trips_succ step a ⟨k, hk⟩, h, ih (Nat.le_of_lt hk), Finset.sum_range_succ, add_assoc]

/-- The sum over the window's tokens and over `n` tiles of 256 from `r`, put together. -/
theorem window_and_tiles (f : ℕ → EReal) (j r n : ℕ) :
    (∑ t : Fin 1536, f (256 * j + t)) + ∑ k ∈ Finset.range n, ∑ t : Fin 256, f (256 * (r + k) + t)
      = ∑ t ∈ Finset.Ico (256 * j) (256 * j + 1536), f t + ∑ t ∈ Finset.Ico (256 * r) (256 * (r + n)), f t := by
  congr 1
  · rw [Finset.sum_Ico_eq_sum_range, Nat.add_sub_cancel_left, ← Fin.sum_univ_eq_sum_range (fun t => f (256 * j + t))]
  · induction n with
    | zero => simp
    | succ n ih =>
      rw [Finset.sum_range_succ, ih, ← Finset.sum_Ico_consecutive f (show 256 * r ≤ 256 * (r + n) by omega) (show 256 * (r + n) ≤ 256 * (r + (n + 1)) by omega)]
      congr 1
      rw [Finset.sum_Ico_eq_sum_range, show 256 * (r + (n + 1)) - 256 * (r + n) = 256 by omega,
        ← Fin.sum_univ_eq_sum_range (fun t => f (256 * (r + n) + t))]

end Cert.KernelIdeal

end
-- ==== Proof.Blocks.lean ====
module

public import proofs.«01_k».proof.Proof.Gather
public import Idealize.ShloMosaic.Lib.Pipeline.ValueKit.Tiles

/-! What the gather leaves for one block of 128 slots: for each slot the rows (and gates) of the tokens that have it, summed
    over the window's tokens and over the tiles the loop takes. -/

@[expose] public section

set_option maxRecDepth 16384

noncomputable section

namespace Cert.KernelIdeal

open Gen
open Idealize.ShloMosaic Idealize.ShloMosaic.ValueIdx
open scoped BigOperators

/-- Token `t`'s row at column `d` if the token has slot `s`, else nothing. -/
def rowAt (x0 : Vec Ideal S1x4096x1024 .bf16) (x1 : Vec Ideal S1x1x1x4096 .i32) (s : BitVec 32) (d : Fin 1024) (t : ℕ) : EReal :=
  if h : t < 4096 then pick (x1 (ix4 0 0 0 ⟨t, h⟩)) s (x0 (ix3 0 ⟨t, h⟩ d)) else 0

/-- Token `t`'s gate if the token has slot `s`, else nothing. -/
def gateAt (x2 : Vec Ideal S1x1x1x4096 .f32) (x1 : Vec Ideal S1x1x1x4096 .i32) (s : BitVec 32) (t : ℕ) : EReal :=
  if h : t < 4096 then pick (x1 (ix4 0 0 0 ⟨t, h⟩)) s (x2 (ix4 0 0 0 ⟨t, h⟩)) else 0

theorem read4 {e : EltTy} (M : Memref sig .tc .vmem S1x1x1x4096 e) (hM : M.IsWhole) (x : Vec Ideal S1x1x1x4096 e) (off : Fin 4 → ℕ) (w n : ℕ)
    (ho : off = ![0, 0, 0, n]) (inb : ∀ a, off a + (![1, 1, 1, w] : Fin 4 → ℕ) a ≤ S1x1x1x4096.size a) (t : Fin w) (hn : n + t < 4096) :
    M.view.readAt (Elt Ideal) (Rect.unit (s := S1x1x1x4096) off ![1, 1, 1, w] inb).toLoadRect (hM.unread x) (ix4 0 0 0 t) = x (ix4 0 0 0 ⟨n + t, hn⟩) := by
  subst ho
  rw [View.readAt_eq_ld, hM.read_unread]
  refine View.ld_unit_apply_of x _ _ inb (ix4 0 0 0 t) (ix4 0 0 0 ⟨n + t, hn⟩) fun a => ?_
  match a with
  | ⟨0, _⟩ => rfl
  | ⟨1, _⟩ => rfl
  | ⟨2, _⟩ => rfl
  | ⟨3, _⟩ => rfl

theorem read3 {e : EltTy} (M : Memref sig .tc .vmem S1x4096x1024 e) (hM : M.IsWhole) (x : Vec Ideal S1x4096x1024 e) (off : Fin 3 → ℕ) (w n : ℕ)
    (ho : off = ![0, n, 0]) (inb : ∀ a, off a + (![1, w, 1024] : Fin 3 → ℕ) a ≤ S1x4096x1024.size a) (t : Fin w) (d : Fin 1024) (hn : n + t < 4096) :
    M.view.readAt (Elt Ideal) (Rect.unit (s := S1x4096x1024) off ![1, w, 1024] inb).toLoadRect (hM.unread x) (ix3 0 t d) = x (ix3 0 ⟨n + t, hn⟩ d) := by
  subst ho
  rw [View.readAt_eq_ld, hM.read_unread]
  refine View.ld_unit_apply_of x _ _ inb (ix3 0 t d) (ix3 0 ⟨n + t, hn⟩ d) fun a => ?_
  match a with
  | ⟨0, _⟩ => rfl
  | ⟨1, _⟩ => rfl
  | ⟨2, _⟩ => exact (Nat.zero_add _).symm

theorem step_row (x0 : Vec Ideal S1x4096x1024 .bf16) (x1 : Vec Ideal S1x1x1x4096 .i32) (M4 : Memref sig .tc .vmem S1x4096x1024 .bf16) (h4 : M4.IsWhole)
    (M5 : Memref sig .tc .vmem S1x1x1x4096 .i32) (h5 : M5.IsWhole) (w n : ℕ) (off5 : Fin 4 → ℕ) (off4 : Fin 3 → ℕ) (ho5 : off5 = ![0, 0, 0, n]) (ho4 : off4 = ![0, n, 0])
    (i5 : ∀ a, off5 a + (![1, 1, 1, w] : Fin 4 → ℕ) a ≤ S1x1x1x4096.size a) (i4 : ∀ a, off4 a + (![1, w, 1024] : Fin 3 → ℕ) a ≤ S1x4096x1024.size a)
    (hn : n + w ≤ 4096) (s : BitVec 32) (d : Fin 1024) :
    ∑ t : Fin w, pick (M5.view.readAt (Elt Ideal) (Rect.unit (s := S1x1x1x4096) off5 ![1, 1, 1, w] i5).toLoadRect (h5.unread x1) (ix4 0 0 0 t)) s
        (M4.view.readAt (Elt Ideal) (Rect.unit (s := S1x4096x1024) off4 ![1, w, 1024] i4).toLoadRect (h4.unread x0) (ix3 0 t d))
      = ∑ t : Fin w, rowAt x0 x1 s d (n + t) := by
  refine Finset.sum_congr rfl fun t _ => ?_
  have ht : n + t.val < 4096 := by have := t.isLt; omega
  rw [read4 M5 h5 x1 off5 w n ho5 i5 t ht, read3 M4 h4 x0 off4 w n ho4 i4 t d ht, rowAt, dif_pos ht]

theorem step_gate (x2 : Vec Ideal S1x1x1x4096 .f32) (x1 : Vec Ideal S1x1x1x4096 .i32) (M6 : Memref sig .tc .vmem S1x1x1x4096 .f32) (h6 : M6.IsWhole)
    (M5 : Memref sig .tc .vmem S1x1x1x4096 .i32) (h5 : M5.IsWhole) (w n : ℕ) (off5 : Fin 4 → ℕ) (ho5 : off5 = ![0, 0, 0, n])
    (i5 : ∀ a, off5 a + (![1, 1, 1, w] : Fin 4 → ℕ) a ≤ S1x1x1x4096.size a)
    (hn : n + w ≤ 4096) (s : BitVec 32) :
    ∑ t : Fin w, pick (M5.view.readAt (Elt Ideal) (Rect.unit (s := S1x1x1x4096) off5 ![1, 1, 1, w] i5).toLoadRect (h5.unread x1) (ix4 0 0 0 t)) s
        (M6.view.readAt (Elt Ideal) (Rect.unit (s := S1x1x1x4096) off5 ![1, 1, 1, w] i5).toLoadRect (h6.unread x2) (ix4 0 0 0 t))
      = ∑ t : Fin w, gateAt x2 x1 s (n + t) := by
  refine Finset.sum_congr rfl fun t _ => ?_
  have ht : n + t.val < 4096 := by have := t.isLt; omega
  rw [read4 M5 h5 x1 off5 w n ho5 i5 t ht, read4 M6 h6 x2 off5 w n ho5 i5 t ht, gateAt, dif_pos ht]

/-- The sum over the window's tokens and over the loop's tiles, by the counts `a` and `b` that place them. -/
def near (f : ℕ → EReal) (a b : ℕ) : EReal :=
  ∑ t ∈ Finset.Ico (256 * min a 10) (256 * min a 10 + 1536), f t
    + ∑ t ∈ Finset.Ico (256 * max a (min a 10 + 6)) (256 * (max a (min a 10 + 6) + (b - max a (min a 10 + 6)))), f t

theorem near_of {a b : BitVec 32} (ha : a.toNat ≤ 16) (hb : b.toNat ≤ 16) (f : ℕ → EReal) :
    (∑ t : Fin 1536, f ((Scalar.muli (win a) 256#32).toNat + t)) + ∑ k ∈ Finset.range (restLoop a b).trips, ∑ t : Fin 256, f (256 * ((rest a).toNat + k) + t)
      = near f a.toNat b.toNat := by
  have e : (Scalar.muli (win a) 256#32).toNat = 256 * min a.toNat 10 := by
    rw [mul256_toNat (by rw [win_toNat ha]; omega), win_toNat ha, Nat.mul_comm]
  rw [e, restLoop_trips ha hb, window_and_tiles, rest_toNat ha]; rfl

theorem tile_start {a b : BitVec 32} (ha : a.toNat ≤ 16) (hb : b.toNat ≤ 16) (k : Fin (restLoop a b).trips) :
    (Scalar.muli (Scf.iv (rest a) 1#32 k) 256#32).toNat = 256 * ((rest a).toNat + k) := by
  have h := tile_toNat ha hb k
  have h2 := tile_lt ha hb k
  rw [mul256_toNat (by omega), h, Nat.mul_comm]

/-! ### Block 0 -/

theorem payX0 (v34 : IVec S128x1 32) (s : Vec Ideal S1x1x1x256 .i32) (h : Vec Ideal S1x256x1024 .bf16) (x : Vec Ideal S128x1024 .f32) (p : Fin 128) (d : Fin 1024) :
    k0_pay3 v34 s h x (ix2 p d) = x (ix2 p d) + ∑ t : Fin 256, pick (s (ix4 0 0 0 t)) (v34 (ix2 p 0) + 0#32) (h (ix3 0 t d)) := by
  have e : k0_pay3 v34 s h x = shapeCast S128x1024 (addf x (rowsOf (w := 256) 0#32 v34 s h shapeCasts_S1x1x1x256_S1x256 broadcasts_S1x256_S128x256 broadcasts_S128x1_S128x256 shapeCasts_S1x256x1024_S256x1024)) shapeCasts_S128x1024_S128x1024 := rfl
  rw [e, shapeCast_self, addf_apply, rowsOf_apply (by decide)]

theorem payG0 (v34 : IVec S128x1 32) (s : Vec Ideal S1x1x1x256 .i32) (g : Vec Ideal S1x1x1x256 .f32) (x : Vec Ideal S128x1 .f32) (p : Fin 128) :
    k0_pay29 (k0_pay4 v34 s g x) (ix2 p 0) = x (ix2 p 0) + ∑ t : Fin 256, pick (s (ix4 0 0 0 t)) (v34 (ix2 p 0) + 0#32) (g (ix4 0 0 0 t)) := by
  have e : k0_pay29 (k0_pay4 v34 s g x) = shapeCast S128x1 (addf x (gatesOf (w := 256) 0#32 v34 s g shapeCasts_S1x1x1x256_S1x256 broadcasts_S1x256_S128x256 broadcasts_S128x1_S128x256 shapeCasts_S1x256_S1x256 reduces_S128x256_S128)) shapeCasts_S128x1_S128x1 := rfl
  rw [e, shapeCast_self, addf_apply, gatesOf_apply (by decide)]

theorem winX0 (v34 : IVec S128x1 32) (s : Vec Ideal S1x1x1x1536 .i32) (h : Vec Ideal S1x1536x1024 .bf16) (p : Fin 128) (d : Fin 1024) :
    k0_pay27 v34 s h (ix2 p d) = ∑ t : Fin 1536, pick (s (ix4 0 0 0 t)) (v34 (ix2 p 0) + 0#32) (h (ix3 0 t d)) := by
  have e : k0_pay27 v34 s h = shapeCast S128x1024 (rowsOf (w := 1536) 0#32 v34 s h shapeCasts_S1x1x1x1536_S1x1536 broadcasts_S1x1536_S128x1536 broadcasts_S128x1_S128x1536 shapeCasts_S1x1536x1024_S1536x1024) shapeCasts_S128x1024_S128x1024 := rfl
  rw [e, shapeCast_self, rowsOf_apply (by decide)]

theorem winG0 (v34 : IVec S128x1 32) (s : Vec Ideal S1x1x1x1536 .i32) (g : Vec Ideal S1x1x1x1536 .f32) (p : Fin 128) :
    k0_pay28 v34 s g (ix2 p 0) = ∑ t : Fin 1536, pick (s (ix4 0 0 0 t)) (v34 (ix2 p 0) + 0#32) (g (ix4 0 0 0 t)) := by
  have e : k0_pay28 v34 s g = shapeCast S128x1 (gatesOf (w := 1536) 0#32 v34 s g shapeCasts_S1x1x1x1536_S1x1536 broadcasts_S1x1536_S128x1536 broadcasts_S128x1_S128x1536 shapeCasts_S1x1536_S1x1536 reduces_S128x1536_S128) shapeCasts_S128x1_S128x1 := rfl
  rw [e, shapeCast_self, gatesOf_apply (by decide)]

section
variable (i : grid0.Coords) (v38 v44 v51 v57 v64 v70 v77 v83 v90 v96 v103 v109 v116 v122 v129 v135 v142 v148 v155 v161 v168 v174 v181 v187 v194 v200 v207 v213 v220 v226 v233 v239 : BitVec 32) (hw : k0_chk2 i v38 v44 v51 v57 v64 v70 v77 v83 v90 v96 v103 v109 v116 v122 v129 v135 v142 v148 v155 v161 v168 v174 v181 v187 v194 v200 v207 v213 v220 v226 v233 v239) (h1 : k0_cond1 i = 1#1)
  (v34 : IVec S128x1 32) (arg4 : Memref sig .tc .vmem S1x4096x1024 .bf16) (arg5 : Memref sig .tc .vmem S1x1x1x4096 .i32) (arg6 : Memref sig .tc .vmem S1x1x1x4096 .f32)
  (harg4 : arg4.IsWhole) (harg5 : arg5.IsWhole) (harg6 : arg6.IsWhole)
  (x0 : Vec Ideal S1x4096x1024 .bf16) (x1 : Vec Ideal S1x1x1x4096 .i32) (x2 : Vec Ideal S1x1x1x4096 .f32)
  (i5 : ∀ a, k0_off3 v38 v51 v64 v77 v90 v103 v116 v129 v142 v155 v168 v181 v194 v207 v220 v233 a + S1x1x1x1536.size a ≤ S1x1x1x4096.size a) (i4 : ∀ a, k0_off4 v38 v51 v64 v77 v90 v103 v116 v129 v142 v155 v168 v181 v194 v207 v220 v233 a + S1x1536x1024.size a ≤ S1x4096x1024.size a)

/-- The rows of block 0: the window's and then each tile's. -/
def blockX0 : Vec Ideal S128x1024 .f32 :=
  let s : Vec Ideal S1x1x1x1536 .i32 := arg5.view.readAt (Elt Ideal) (Rect.unit (s := S1x1x1x4096) (k0_off3 v38 v51 v64 v77 v90 v103 v116 v129 v142 v155 v168 v181 v194 v207 v220 v233) S1x1x1x1536.size i5).toLoadRect (harg5.unread x1)
  let h : Vec Ideal S1x1536x1024 .bf16 := arg4.view.readAt (Elt Ideal) (Rect.unit (s := S1x4096x1024) (k0_off4 v38 v51 v64 v77 v90 v103 v116 v129 v142 v155 v168 v181 v194 v207 v220 v233) S1x1536x1024.size i4).toLoadRect (harg4.unread x0)
  trips (stepX0 i v38 v44 v51 v57 v64 v70 v77 v83 v90 v96 v103 v109 v116 v122 v129 v135 v142 v148 v155 v161 v168 v174 v181 v187 v194 v200 v207 v213 v220 v226 v233 v239 hw h1 v34 arg4 arg5 (harg4.unread x0) (harg5.unread x1)) (k0_pay27 v34 s h) (k0_t1_loop v38 v44 v51 v57 v64 v70 v77 v83 v90 v96 v103 v109 v116 v122 v129 v135 v142 v148 v155 v161 v168 v174 v181 v187 v194 v200 v207 v213 v220 v226 v233 v239).trips

/-- The gates of block 0: the window's and then each tile's. -/
def blockG0 : Vec Ideal S128x1 .f32 :=
  let s : Vec Ideal S1x1x1x1536 .i32 := arg5.view.readAt (Elt Ideal) (Rect.unit (s := S1x1x1x4096) (k0_off3 v38 v51 v64 v77 v90 v103 v116 v129 v142 v155 v168 v181 v194 v207 v220 v233) S1x1x1x1536.size i5).toLoadRect (harg5.unread x1)
  let g : Vec Ideal S1x1x1x1536 .f32 := arg6.view.readAt (Elt Ideal) (Rect.unit (s := S1x1x1x4096) (k0_off3 v38 v51 v64 v77 v90 v103 v116 v129 v142 v155 v168 v181 v194 v207 v220 v233) S1x1x1x1536.size i5).toLoadRect (harg6.unread x2)
  trips (stepG0 i v38 v44 v51 v57 v64 v70 v77 v83 v90 v96 v103 v109 v116 v122 v129 v135 v142 v148 v155 v161 v168 v174 v181 v187 v194 v200 v207 v213 v220 v226 v233 v239 hw h1 v34 arg5 arg6 (harg5.unread x1) (harg6.unread x2)) (k0_pay28 v34 s g) (k0_t1_loop v38 v44 v51 v57 v64 v70 v77 v83 v90 v96 v103 v109 v116 v122 v129 v135 v142 v148 v155 v161 v168 v174 v181 v187 v194 v200 v207 v213 v220 v226 v233 v239).trips

theorem blockX0_apply (p : Fin 128) (d : Fin 1024) :
    blockX0 i v38 v44 v51 v57 v64 v70 v77 v83 v90 v96 v103 v109 v116 v122 v129 v135 v142 v148 v155 v161 v168 v174 v181 v187 v194 v200 v207 v213 v220 v226 v233 v239 hw h1 v34 arg4 arg5 harg4 harg5 x0 x1 i5 i4 (ix2 p d)
      = near (rowAt x0 x1 (v34 (ix2 p 0) + 0#32) d) (cntLe 0#32 [v38, v51, v64, v77, v90, v103, v116, v129, v142, v155, v168, v181, v194, v207, v220, v233]).toNat (cntLt 128#32 [v44, v57, v70, v83, v96, v109, v122, v135, v148, v161, v174, v187, v200, v213, v226, v239]).toNat := by
  have ha : (cntLe 0#32 [v38, v51, v64, v77, v90, v103, v116, v129, v142, v155, v168, v181, v194, v207, v220, v233]).toNat ≤ 16 := cnt_le _ _ (by simp)
  have hb : (cntLt 128#32 [v44, v57, v70, v83, v96, v109, v122, v135, v148, v161, v174, v187, v200, v213, v226, v239]).toNat ≤ 16 := cnt_le _ _ (by simp)
  unfold blockX0
  dsimp only
  rw [trips_apply (stepX0 i v38 v44 v51 v57 v64 v70 v77 v83 v90 v96 v103 v109 v116 v122 v129 v135 v142 v148 v155 v161 v168 v174 v181 v187 v194 v200 v207 v213 v220 v226 v233 v239 hw h1 v34 arg4 arg5 (harg4.unread x0) (harg5.unread x1)) _ (ix2 p d)
    (fun k => ∑ t : Fin 256, rowAt x0 x1 (v34 (ix2 p 0) + 0#32) d (256 * ((rest (cntLe 0#32 [v38, v51, v64, v77, v90, v103, v116, v129, v142, v155, v168, v181, v194, v207, v220, v233])).toNat + k) + t)) ?_ _ (le_refl _), winX0,
    ← near_of ha hb]
  · congr 1
    exact step_row x0 x1 arg4 harg4 arg5 harg5 1536 _ _ _ (k0_off3_eq v38 v51 v64 v77 v90 v103 v116 v129 v142 v155 v168 v181 v194 v207 v220 v233) (k0_off4_eq v38 v51 v64 v77 v90 v103 v116 v129 v142 v155 v168 v181 v194 v207 v220 v233) i5 i4 (by have := win_start_le ha; omega) _ d
  · intro k x
    unfold stepX0
    rw [payX0]
    congr 1
    have hk := tile_start ha hb k
    refine (step_row x0 x1 arg4 harg4 arg5 harg5 256 _ _ _ (k0_off5_eq v38 v44 v51 v57 v64 v70 v77 v83 v90 v96 v103 v109 v116 v122 v129 v135 v142 v148 v155 v161 v168 v174 v181 v187 v194 v200 v207 v213 v220 v226 v233 v239 k) (k0_off6_eq v38 v44 v51 v57 v64 v70 v77 v83 v90 v96 v103 v109 v116 v122 v129 v135 v142 v148 v155 v161 v168 v174 v181 v187 v194 v200 v207 v213 v220 v226 v233 v239 k) _ _ (by have := tile_start_le ha hb k; omega) _ d).trans ?_
    rw [hk]

theorem blockG0_apply (p : Fin 128) :
    blockG0 i v38 v44 v51 v57 v64 v70 v77 v83 v90 v96 v103 v109 v116 v122 v129 v135 v142 v148 v155 v161 v168 v174 v181 v187 v194 v200 v207 v213 v220 v226 v233 v239 hw h1 v34 arg5 arg6 harg5 harg6 x1 x2 i5 (ix2 p 0)
      = near (gateAt x2 x1 (v34 (ix2 p 0) + 0#32)) (cntLe 0#32 [v38, v51, v64, v77, v90, v103, v116, v129, v142, v155, v168, v181, v194, v207, v220, v233]).toNat (cntLt 128#32 [v44, v57, v70, v83, v96, v109, v122, v135, v148, v161, v174, v187, v200, v213, v226, v239]).toNat := by
  have ha : (cntLe 0#32 [v38, v51, v64, v77, v90, v103, v116, v129, v142, v155, v168, v181, v194, v207, v220, v233]).toNat ≤ 16 := cnt_le _ _ (by simp)
  have hb : (cntLt 128#32 [v44, v57, v70, v83, v96, v109, v122, v135, v148, v161, v174, v187, v200, v213, v226, v239]).toNat ≤ 16 := cnt_le _ _ (by simp)
  unfold blockG0
  dsimp only
  rw [trips_apply (stepG0 i v38 v44 v51 v57 v64 v70 v77 v83 v90 v96 v103 v109 v116 v122 v129 v135 v142 v148 v155 v161 v168 v174 v181 v187 v194 v200 v207 v213 v220 v226 v233 v239 hw h1 v34 arg5 arg6 (harg5.unread x1) (harg6.unread x2)) _ (ix2 p 0)
    (fun k => ∑ t : Fin 256, gateAt x2 x1 (v34 (ix2 p 0) + 0#32) (256 * ((rest (cntLe 0#32 [v38, v51, v64, v77, v90, v103, v116, v129, v142, v155, v168, v181, v194, v207, v220, v233])).toNat + k) + t)) ?_ _ (le_refl _), winG0,
    ← near_of ha hb]
  · congr 1
    exact step_gate x2 x1 arg6 harg6 arg5 harg5 1536 _ _ (k0_off3_eq v38 v51 v64 v77 v90 v103 v116 v129 v142 v155 v168 v181 v194 v207 v220 v233) i5 (by have := win_start_le ha; omega) _
  · intro k x
    unfold stepG0
    rw [payG0]
    congr 1
    have hk := tile_start ha hb k
    refine (step_gate x2 x1 arg6 harg6 arg5 harg5 256 _ _ (k0_off5_eq v38 v44 v51 v57 v64 v70 v77 v83 v90 v96 v103 v109 v116 v122 v129 v135 v142 v148 v155 v161 v168 v174 v181 v187 v194 v200 v207 v213 v220 v226 v233 v239 k) _ (by have := tile_start_le ha hb k; omega) _).trans ?_
    rw [hk]

end

/-! ### Block 1 -/

theorem payX1 (v34 : IVec S128x1 32) (s : Vec Ideal S1x1x1x256 .i32) (h : Vec Ideal S1x256x1024 .bf16) (x : Vec Ideal S128x1024 .f32) (p : Fin 128) (d : Fin 1024) :
    k0_pay9 v34 s h x (ix2 p d) = x (ix2 p d) + ∑ t : Fin 256, pick (s (ix4 0 0 0 t)) (v34 (ix2 p 0) + 128#32) (h (ix3 0 t d)) := by
  have e : k0_pay9 v34 s h x = shapeCast S128x1024 (addf x (rowsOf (w := 256) 128#32 v34 s h shapeCasts_S1x1x1x256_S1x256 broadcasts_S1x256_S128x256 broadcasts_S128x1_S128x256 shapeCasts_S1x256x1024_S256x1024)) shapeCasts_S128x1024_S128x1024 := rfl
  rw [e, shapeCast_self, addf_apply, rowsOf_apply (by decide)]

theorem payG1 (v34 : IVec S128x1 32) (s : Vec Ideal S1x1x1x256 .i32) (g : Vec Ideal S1x1x1x256 .f32) (x : Vec Ideal S128x1 .f32) (p : Fin 128) :
    k0_pay38 (k0_pay10 v34 s g x) (ix2 p 0) = x (ix2 p 0) + ∑ t : Fin 256, pick (s (ix4 0 0 0 t)) (v34 (ix2 p 0) + 128#32) (g (ix4 0 0 0 t)) := by
  have e : k0_pay38 (k0_pay10 v34 s g x) = shapeCast S128x1 (addf x (gatesOf (w := 256) 128#32 v34 s g shapeCasts_S1x1x1x256_S1x256 broadcasts_S1x256_S128x256 broadcasts_S128x1_S128x256 shapeCasts_S1x256_S1x256 reduces_S128x256_S128)) shapeCasts_S128x1_S128x1 := rfl
  rw [e, shapeCast_self, addf_apply, gatesOf_apply (by decide)]

theorem winX1 (v34 : IVec S128x1 32) (s : Vec Ideal S1x1x1x1536 .i32) (h : Vec Ideal S1x1536x1024 .bf16) (p : Fin 128) (d : Fin 1024) :
    k0_pay36 (k0_pay33 v34 s) (k0_pay35 h) (ix2 p d) = ∑ t : Fin 1536, pick (s (ix4 0 0 0 t)) (v34 (ix2 p 0) + 128#32) (h (ix3 0 t d)) := by
  have e : k0_pay36 (k0_pay33 v34 s) (k0_pay35 h) = shapeCast S128x1024 (rowsOf (w := 1536) 128#32 v34 s h shapeCasts_S1x1x1x1536_S1x1536 broadcasts_S1x1536_S128x1536 broadcasts_S128x1_S128x1536 shapeCasts_S1x1536x1024_S1536x1024) shapeCasts_S128x1024_S128x1024 := rfl
  rw [e, shapeCast_self, rowsOf_apply (by decide)]

theorem winG1 (v34 : IVec S128x1 32) (s : Vec Ideal S1x1x1x1536 .i32) (g : Vec Ideal S1x1x1x1536 .f32) (p : Fin 128) :
    k0_pay37 (k0_pay34 v34 s g) (ix2 p 0) = ∑ t : Fin 1536, pick (s (ix4 0 0 0 t)) (v34 (ix2 p 0) + 128#32) (g (ix4 0 0 0 t)) := by
  have e : k0_pay37 (k0_pay34 v34 s g) = shapeCast S128x1 (gatesOf (w := 1536) 128#32 v34 s g shapeCasts_S1x1x1x1536_S1x1536 broadcasts_S1x1536_S128x1536 broadcasts_S128x1_S128x1536 shapeCasts_S1x1536_S1x1536 reduces_S128x1536_S128) shapeCasts_S128x1_S128x1 := rfl
  rw [e, shapeCast_self, gatesOf_apply (by decide)]

section
variable (i : grid0.Coords) (v292 v298 v305 v311 v318 v324 v331 v337 v344 v350 v357 v363 v370 v376 v383 v389 v396 v402 v409 v415 v422 v428 v435 v441 v448 v454 v461 v467 v474 v480 v487 v493 : BitVec 32) (hw : k0_chk4 i v292 v298 v305 v311 v318 v324 v331 v337 v344 v350 v357 v363 v370 v376 v383 v389 v396 v402 v409 v415 v422 v428 v435 v441 v448 v454 v461 v467 v474 v480 v487 v493) (h1 : k0_cond1 i = 1#1)
  (v34 : IVec S128x1 32) (arg4 : Memref sig .tc .vmem S1x4096x1024 .bf16) (arg5 : Memref sig .tc .vmem S1x1x1x4096 .i32) (arg6 : Memref sig .tc .vmem S1x1x1x4096 .f32)
  (harg4 : arg4.IsWhole) (harg5 : arg5.IsWhole) (harg6 : arg6.IsWhole)
  (x0 : Vec Ideal S1x4096x1024 .bf16) (x1 : Vec Ideal S1x1x1x4096 .i32) (x2 : Vec Ideal S1x1x1x4096 .f32)
  (i5 : ∀ a, k0_off11 v292 v305 v318 v331 v344 v357 v370 v383 v396 v409 v422 v435 v448 v461 v474 v487 a + S1x1x1x1536.size a ≤ S1x1x1x4096.size a) (i4 : ∀ a, k0_off12 v292 v305 v318 v331 v344 v357 v370 v383 v396 v409 v422 v435 v448 v461 v474 v487 a + S1x1536x1024.size a ≤ S1x4096x1024.size a)

/-- The rows of block 1: the window's and then each tile's. -/
def blockX1 : Vec Ideal S128x1024 .f32 :=
  let s : Vec Ideal S1x1x1x1536 .i32 := arg5.view.readAt (Elt Ideal) (Rect.unit (s := S1x1x1x4096) (k0_off11 v292 v305 v318 v331 v344 v357 v370 v383 v396 v409 v422 v435 v448 v461 v474 v487) S1x1x1x1536.size i5).toLoadRect (harg5.unread x1)
  let h : Vec Ideal S1x1536x1024 .bf16 := arg4.view.readAt (Elt Ideal) (Rect.unit (s := S1x4096x1024) (k0_off12 v292 v305 v318 v331 v344 v357 v370 v383 v396 v409 v422 v435 v448 v461 v474 v487) S1x1536x1024.size i4).toLoadRect (harg4.unread x0)
  trips (stepX1 i v292 v298 v305 v311 v318 v324 v331 v337 v344 v350 v357 v363 v370 v376 v383 v389 v396 v402 v409 v415 v422 v428 v435 v441 v448 v454 v461 v467 v474 v480 v487 v493 hw h1 v34 arg4 arg5 (harg4.unread x0) (harg5.unread x1)) (k0_pay36 (k0_pay33 v34 s) (k0_pay35 h)) (k0_t3_loop v292 v298 v305 v311 v318 v324 v331 v337 v344 v350 v357 v363 v370 v376 v383 v389 v396 v402 v409 v415 v422 v428 v435 v441 v448 v454 v461 v467 v474 v480 v487 v493).trips

/-- The gates of block 1: the window's and then each tile's. -/
def blockG1 : Vec Ideal S128x1 .f32 :=
  let s : Vec Ideal S1x1x1x1536 .i32 := arg5.view.readAt (Elt Ideal) (Rect.unit (s := S1x1x1x4096) (k0_off11 v292 v305 v318 v331 v344 v357 v370 v383 v396 v409 v422 v435 v448 v461 v474 v487) S1x1x1x1536.size i5).toLoadRect (harg5.unread x1)
  let g : Vec Ideal S1x1x1x1536 .f32 := arg6.view.readAt (Elt Ideal) (Rect.unit (s := S1x1x1x4096) (k0_off11 v292 v305 v318 v331 v344 v357 v370 v383 v396 v409 v422 v435 v448 v461 v474 v487) S1x1x1x1536.size i5).toLoadRect (harg6.unread x2)
  trips (stepG1 i v292 v298 v305 v311 v318 v324 v331 v337 v344 v350 v357 v363 v370 v376 v383 v389 v396 v402 v409 v415 v422 v428 v435 v441 v448 v454 v461 v467 v474 v480 v487 v493 hw h1 v34 arg5 arg6 (harg5.unread x1) (harg6.unread x2)) (k0_pay37 (k0_pay34 v34 s g)) (k0_t3_loop v292 v298 v305 v311 v318 v324 v331 v337 v344 v350 v357 v363 v370 v376 v383 v389 v396 v402 v409 v415 v422 v428 v435 v441 v448 v454 v461 v467 v474 v480 v487 v493).trips

theorem blockX1_apply (p : Fin 128) (d : Fin 1024) :
    blockX1 i v292 v298 v305 v311 v318 v324 v331 v337 v344 v350 v357 v363 v370 v376 v383 v389 v396 v402 v409 v415 v422 v428 v435 v441 v448 v454 v461 v467 v474 v480 v487 v493 hw h1 v34 arg4 arg5 harg4 harg5 x0 x1 i5 i4 (ix2 p d)
      = near (rowAt x0 x1 (v34 (ix2 p 0) + 128#32) d) (cntLe 128#32 [v292, v305, v318, v331, v344, v357, v370, v383, v396, v409, v422, v435, v448, v461, v474, v487]).toNat (cntLt 256#32 [v298, v311, v324, v337, v350, v363, v376, v389, v402, v415, v428, v441, v454, v467, v480, v493]).toNat := by
  have ha : (cntLe 128#32 [v292, v305, v318, v331, v344, v357, v370, v383, v396, v409, v422, v435, v448, v461, v474, v487]).toNat ≤ 16 := cnt_le _ _ (by simp)
  have hb : (cntLt 256#32 [v298, v311, v324, v337, v350, v363, v376, v389, v402, v415, v428, v441, v454, v467, v480, v493]).toNat ≤ 16 := cnt_le _ _ (by simp)
  unfold blockX1
  dsimp only
  rw [trips_apply (stepX1 i v292 v298 v305 v311 v318 v324 v331 v337 v344 v350 v357 v363 v370 v376 v383 v389 v396 v402 v409 v415 v422 v428 v435 v441 v448 v454 v461 v467 v474 v480 v487 v493 hw h1 v34 arg4 arg5 (harg4.unread x0) (harg5.unread x1)) _ (ix2 p d)
    (fun k => ∑ t : Fin 256, rowAt x0 x1 (v34 (ix2 p 0) + 128#32) d (256 * ((rest (cntLe 128#32 [v292, v305, v318, v331, v344, v357, v370, v383, v396, v409, v422, v435, v448, v461, v474, v487])).toNat + k) + t)) ?_ _ (le_refl _), winX1,
    ← near_of ha hb]
  · congr 1
    exact step_row x0 x1 arg4 harg4 arg5 harg5 1536 _ _ _ (k0_off11_eq v292 v305 v318 v331 v344 v357 v370 v383 v396 v409 v422 v435 v448 v461 v474 v487) (k0_off12_eq v292 v305 v318 v331 v344 v357 v370 v383 v396 v409 v422 v435 v448 v461 v474 v487) i5 i4 (by have := win_start_le ha; omega) _ d
  · intro k x
    unfold stepX1
    rw [payX1]
    congr 1
    have hk := tile_start ha hb k
    refine (step_row x0 x1 arg4 harg4 arg5 harg5 256 _ _ _ (k0_off13_eq v292 v298 v305 v311 v318 v324 v331 v337 v344 v350 v357 v363 v370 v376 v383 v389 v396 v402 v409 v415 v422 v428 v435 v441 v448 v454 v461 v467 v474 v480 v487 v493 k) (k0_off14_eq v292 v298 v305 v311 v318 v324 v331 v337 v344 v350 v357 v363 v370 v376 v383 v389 v396 v402 v409 v415 v422 v428 v435 v441 v448 v454 v461 v467 v474 v480 v487 v493 k) _ _ (by have := tile_start_le ha hb k; omega) _ d).trans ?_
    rw [hk]

theorem blockG1_apply (p : Fin 128) :
    blockG1 i v292 v298 v305 v311 v318 v324 v331 v337 v344 v350 v357 v363 v370 v376 v383 v389 v396 v402 v409 v415 v422 v428 v435 v441 v448 v454 v461 v467 v474 v480 v487 v493 hw h1 v34 arg5 arg6 harg5 harg6 x1 x2 i5 (ix2 p 0)
      = near (gateAt x2 x1 (v34 (ix2 p 0) + 128#32)) (cntLe 128#32 [v292, v305, v318, v331, v344, v357, v370, v383, v396, v409, v422, v435, v448, v461, v474, v487]).toNat (cntLt 256#32 [v298, v311, v324, v337, v350, v363, v376, v389, v402, v415, v428, v441, v454, v467, v480, v493]).toNat := by
  have ha : (cntLe 128#32 [v292, v305, v318, v331, v344, v357, v370, v383, v396, v409, v422, v435, v448, v461, v474, v487]).toNat ≤ 16 := cnt_le _ _ (by simp)
  have hb : (cntLt 256#32 [v298, v311, v324, v337, v350, v363, v376, v389, v402, v415, v428, v441, v454, v467, v480, v493]).toNat ≤ 16 := cnt_le _ _ (by simp)
  unfold blockG1
  dsimp only
  rw [trips_apply (stepG1 i v292 v298 v305 v311 v318 v324 v331 v337 v344 v350 v357 v363 v370 v376 v383 v389 v396 v402 v409 v415 v422 v428 v435 v441 v448 v454 v461 v467 v474 v480 v487 v493 hw h1 v34 arg5 arg6 (harg5.unread x1) (harg6.unread x2)) _ (ix2 p 0)
    (fun k => ∑ t : Fin 256, gateAt x2 x1 (v34 (ix2 p 0) + 128#32) (256 * ((rest (cntLe 128#32 [v292, v305, v318, v331, v344, v357, v370, v383, v396, v409, v422, v435, v448, v461, v474, v487])).toNat + k) + t)) ?_ _ (le_refl _), winG1,
    ← near_of ha hb]
  · congr 1
    exact step_gate x2 x1 arg6 harg6 arg5 harg5 1536 _ _ (k0_off11_eq v292 v305 v318 v331 v344 v357 v370 v383 v396 v409 v422 v435 v448 v461 v474 v487) i5 (by have := win_start_le ha; omega) _
  · intro k x
    unfold stepG1
    rw [payG1]
    congr 1
    have hk := tile_start ha hb k
    refine (step_gate x2 x1 arg6 harg6 arg5 harg5 256 _ _ (k0_off13_eq v292 v298 v305 v311 v318 v324 v331 v337 v344 v350 v357 v363 v370 v376 v383 v389 v396 v402 v409 v415 v422 v428 v435 v441 v448 v454 v461 v467 v474 v480 v487 v493 k) _ (by have := tile_start_le ha hb k; omega) _).trans ?_
    rw [hk]

end

/-! ### Block 2 -/

theorem payX2 (v34 : IVec S128x1 32) (s : Vec Ideal S1x1x1x256 .i32) (h : Vec Ideal S1x256x1024 .bf16) (x : Vec Ideal S128x1024 .f32) (p : Fin 128) (d : Fin 1024) :
    k0_pay15 v34 s h x (ix2 p d) = x (ix2 p d) + ∑ t : Fin 256, pick (s (ix4 0 0 0 t)) (v34 (ix2 p 0) + 256#32) (h (ix3 0 t d)) := by
  have e : k0_pay15 v34 s h x = shapeCast S128x1024 (addf x (rowsOf (w := 256) 256#32 v34 s h shapeCasts_S1x1x1x256_S1x256 broadcasts_S1x256_S128x256 broadcasts_S128x1_S128x256 shapeCasts_S1x256x1024_S256x1024)) shapeCasts_S128x1024_S128x1024 := rfl
  rw [e, shapeCast_self, addf_apply, rowsOf_apply (by decide)]

theorem payG2 (v34 : IVec S128x1 32) (s : Vec Ideal S1x1x1x256 .i32) (g : Vec Ideal S1x1x1x256 .f32) (x : Vec Ideal S128x1 .f32) (p : Fin 128) :
    k0_pay45 (k0_pay16 v34 s g x) (ix2 p 0) = x (ix2 p 0) + ∑ t : Fin 256, pick (s (ix4 0 0 0 t)) (v34 (ix2 p 0) + 256#32) (g (ix4 0 0 0 t)) := by
  have e : k0_pay45 (k0_pay16 v34 s g x) = shapeCast S128x1 (addf x (gatesOf (w := 256) 256#32 v34 s g shapeCasts_S1x1x1x256_S1x256 broadcasts_S1x256_S128x256 broadcasts_S128x1_S128x256 shapeCasts_S1x256_S1x256 reduces_S128x256_S128)) shapeCasts_S128x1_S128x1 := rfl
  rw [e, shapeCast_self, addf_apply, gatesOf_apply (by decide)]

theorem winX2 (v34 : IVec S128x1 32) (s : Vec Ideal S1x1x1x1536 .i32) (h : Vec Ideal S1x1536x1024 .bf16) (p : Fin 128) (d : Fin 1024) :
    k0_pay43 (k0_pay42 v34 s) h (ix2 p d) = ∑ t : Fin 1536, pick (s (ix4 0 0 0 t)) (v34 (ix2 p 0) + 256#32) (h (ix3 0 t d)) := by
  have e : k0_pay43 (k0_pay42 v34 s) h = shapeCast S128x1024 (rowsOf (w := 1536) 256#32 v34 s h shapeCasts_S1x1x1x1536_S1x1536 broadcasts_S1x1536_S128x1536 broadcasts_S128x1_S128x1536 shapeCasts_S1x1536x1024_S1536x1024) shapeCasts_S128x1024_S128x1024 := rfl
  rw [e, shapeCast_self, rowsOf_apply (by decide)]

theorem winG2 (v34 : IVec S128x1 32) (s : Vec Ideal S1x1x1x1536 .i32) (g : Vec Ideal S1x1x1x1536 .f32) (p : Fin 128) :
    k0_pay44 (k0_pay41 v34 s) g (ix2 p 0) = ∑ t : Fin 1536, pick (s (ix4 0 0 0 t)) (v34 (ix2 p 0) + 256#32) (g (ix4 0 0 0 t)) := by
  have e : k0_pay44 (k0_pay41 v34 s) g = shapeCast S128x1 (gatesOf (w := 1536) 256#32 v34 s g shapeCasts_S1x1x1x1536_S1x1536 broadcasts_S1x1536_S128x1536 broadcasts_S128x1_S128x1536 shapeCasts_S1x1536_S1x1536 reduces_S128x1536_S128) shapeCasts_S128x1_S128x1 := rfl
  rw [e, shapeCast_self, gatesOf_apply (by decide)]

section
variable (i : grid0.Coords) (v546 v552 v559 v565 v572 v578 v585 v591 v598 v604 v611 v617 v624 v630 v637 v643 v650 v656 v663 v669 v676 v682 v689 v695 v702 v708 v715 v721 v728 v734 v741 v747 : BitVec 32) (hw : k0_chk6 i v546 v552 v559 v565 v572 v578 v585 v591 v598 v604 v611 v617 v624 v630 v637 v643 v650 v656 v663 v669 v676 v682 v689 v695 v702 v708 v715 v721 v728 v734 v741 v747) (h1 : k0_cond1 i = 1#1)
  (v34 : IVec S128x1 32) (arg4 : Memref sig .tc .vmem S1x4096x1024 .bf16) (arg5 : Memref sig .tc .vmem S1x1x1x4096 .i32) (arg6 : Memref sig .tc .vmem S1x1x1x4096 .f32)
  (harg4 : arg4.IsWhole) (harg5 : arg5.IsWhole) (harg6 : arg6.IsWhole)
  (x0 : Vec Ideal S1x4096x1024 .bf16) (x1 : Vec Ideal S1x1x1x4096 .i32) (x2 : Vec Ideal S1x1x1x4096 .f32)
  (i5 : ∀ a, k0_off19 v546 v559 v572 v585 v598 v611 v624 v637 v650 v663 v676 v689 v702 v715 v728 v741 a + S1x1x1x1536.size a ≤ S1x1x1x4096.size a) (i4 : ∀ a, k0_off20 v546 v559 v572 v585 v598 v611 v624 v637 v650 v663 v676 v689 v702 v715 v728 v741 a + S1x1536x1024.size a ≤ S1x4096x1024.size a)

/-- The rows of block 2: the window's and then each tile's. -/
def blockX2 : Vec Ideal S128x1024 .f32 :=
  let s : Vec Ideal S1x1x1x1536 .i32 := arg5.view.readAt (Elt Ideal) (Rect.unit (s := S1x1x1x4096) (k0_off19 v546 v559 v572 v585 v598 v611 v624 v637 v650 v663 v676 v689 v702 v715 v728 v741) S1x1x1x1536.size i5).toLoadRect (harg5.unread x1)
  let h : Vec Ideal S1x1536x1024 .bf16 := arg4.view.readAt (Elt Ideal) (Rect.unit (s := S1x4096x1024) (k0_off20 v546 v559 v572 v585 v598 v611 v624 v637 v650 v663 v676 v689 v702 v715 v728 v741) S1x1536x1024.size i4).toLoadRect (harg4.unread x0)
  trips (stepX2 i v546 v552 v559 v565 v572 v578 v585 v591 v598 v604 v611 v617 v624 v630 v637 v643 v650 v656 v663 v669 v676 v682 v689 v695 v702 v708 v715 v721 v728 v734 v741 v747 hw h1 v34 arg4 arg5 (harg4.unread x0) (harg5.unread x1)) (k0_pay43 (k0_pay42 v34 s) h) (k0_t5_loop v546 v552 v559 v565 v572 v578 v585 v591 v598 v604 v611 v617 v624 v630 v637 v643 v650 v656 v663 v669 v676 v682 v689 v695 v702 v708 v715 v721 v728 v734 v741 v747).trips

/-- The gates of block 2: the window's and then each tile's. -/
def blockG2 : Vec Ideal S128x1 .f32 :=
  let s : Vec Ideal S1x1x1x1536 .i32 := arg5.view.readAt (Elt Ideal) (Rect.unit (s := S1x1x1x4096) (k0_off19 v546 v559 v572 v585 v598 v611 v624 v637 v650 v663 v676 v689 v702 v715 v728 v741) S1x1x1x1536.size i5).toLoadRect (harg5.unread x1)
  let g : Vec Ideal S1x1x1x1536 .f32 := arg6.view.readAt (Elt Ideal) (Rect.unit (s := S1x1x1x4096) (k0_off19 v546 v559 v572 v585 v598 v611 v624 v637 v650 v663 v676 v689 v702 v715 v728 v741) S1x1x1x1536.size i5).toLoadRect (harg6.unread x2)
  trips (stepG2 i v546 v552 v559 v565 v572 v578 v585 v591 v598 v604 v611 v617 v624 v630 v637 v643 v650 v656 v663 v669 v676 v682 v689 v695 v702 v708 v715 v721 v728 v734 v741 v747 hw h1 v34 arg5 arg6 (harg5.unread x1) (harg6.unread x2)) (k0_pay44 (k0_pay41 v34 s) g) (k0_t5_loop v546 v552 v559 v565 v572 v578 v585 v591 v598 v604 v611 v617 v624 v630 v637 v643 v650 v656 v663 v669 v676 v682 v689 v695 v702 v708 v715 v721 v728 v734 v741 v747).trips

theorem blockX2_apply (p : Fin 128) (d : Fin 1024) :
    blockX2 i v546 v552 v559 v565 v572 v578 v585 v591 v598 v604 v611 v617 v624 v630 v637 v643 v650 v656 v663 v669 v676 v682 v689 v695 v702 v708 v715 v721 v728 v734 v741 v747 hw h1 v34 arg4 arg5 harg4 harg5 x0 x1 i5 i4 (ix2 p d)
      = near (rowAt x0 x1 (v34 (ix2 p 0) + 256#32) d) (cntLe 256#32 [v546, v559, v572, v585, v598, v611, v624, v637, v650, v663, v676, v689, v702, v715, v728, v741]).toNat (cntLt 384#32 [v552, v565, v578, v591, v604, v617, v630, v643, v656, v669, v682, v695, v708, v721, v734, v747]).toNat := by
  have ha : (cntLe 256#32 [v546, v559, v572, v585, v598, v611, v624, v637, v650, v663, v676, v689, v702, v715, v728, v741]).toNat ≤ 16 := cnt_le _ _ (by simp)
  have hb : (cntLt 384#32 [v552, v565, v578, v591, v604, v617, v630, v643, v656, v669, v682, v695, v708, v721, v734, v747]).toNat ≤ 16 := cnt_le _ _ (by simp)
  unfold blockX2
  dsimp only
  rw [trips_apply (stepX2 i v546 v552 v559 v565 v572 v578 v585 v591 v598 v604 v611 v617 v624 v630 v637 v643 v650 v656 v663 v669 v676 v682 v689 v695 v702 v708 v715 v721 v728 v734 v741 v747 hw h1 v34 arg4 arg5 (harg4.unread x0) (harg5.unread x1)) _ (ix2 p d)
    (fun k => ∑ t : Fin 256, rowAt x0 x1 (v34 (ix2 p 0) + 256#32) d (256 * ((rest (cntLe 256#32 [v546, v559, v572, v585, v598, v611, v624, v637, v650, v663, v676, v689, v702, v715, v728, v741])).toNat + k) + t)) ?_ _ (le_refl _), winX2,
    ← near_of ha hb]
  · congr 1
    exact step_row x0 x1 arg4 harg4 arg5 harg5 1536 _ _ _ (k0_off19_eq v546 v559 v572 v585 v598 v611 v624 v637 v650 v663 v676 v689 v702 v715 v728 v741) (k0_off20_eq v546 v559 v572 v585 v598 v611 v624 v637 v650 v663 v676 v689 v702 v715 v728 v741) i5 i4 (by have := win_start_le ha; omega) _ d
  · intro k x
    unfold stepX2
    rw [payX2]
    congr 1
    have hk := tile_start ha hb k
    refine (step_row x0 x1 arg4 harg4 arg5 harg5 256 _ _ _ (k0_off21_eq v546 v552 v559 v565 v572 v578 v585 v591 v598 v604 v611 v617 v624 v630 v637 v643 v650 v656 v663 v669 v676 v682 v689 v695 v702 v708 v715 v721 v728 v734 v741 v747 k) (k0_off22_eq v546 v552 v559 v565 v572 v578 v585 v591 v598 v604 v611 v617 v624 v630 v637 v643 v650 v656 v663 v669 v676 v682 v689 v695 v702 v708 v715 v721 v728 v734 v741 v747 k) _ _ (by have := tile_start_le ha hb k; omega) _ d).trans ?_
    rw [hk]

theorem blockG2_apply (p : Fin 128) :
    blockG2 i v546 v552 v559 v565 v572 v578 v585 v591 v598 v604 v611 v617 v624 v630 v637 v643 v650 v656 v663 v669 v676 v682 v689 v695 v702 v708 v715 v721 v728 v734 v741 v747 hw h1 v34 arg5 arg6 harg5 harg6 x1 x2 i5 (ix2 p 0)
      = near (gateAt x2 x1 (v34 (ix2 p 0) + 256#32)) (cntLe 256#32 [v546, v559, v572, v585, v598, v611, v624, v637, v650, v663, v676, v689, v702, v715, v728, v741]).toNat (cntLt 384#32 [v552, v565, v578, v591, v604, v617, v630, v643, v656, v669, v682, v695, v708, v721, v734, v747]).toNat := by
  have ha : (cntLe 256#32 [v546, v559, v572, v585, v598, v611, v624, v637, v650, v663, v676, v689, v702, v715, v728, v741]).toNat ≤ 16 := cnt_le _ _ (by simp)
  have hb : (cntLt 384#32 [v552, v565, v578, v591, v604, v617, v630, v643, v656, v669, v682, v695, v708, v721, v734, v747]).toNat ≤ 16 := cnt_le _ _ (by simp)
  unfold blockG2
  dsimp only
  rw [trips_apply (stepG2 i v546 v552 v559 v565 v572 v578 v585 v591 v598 v604 v611 v617 v624 v630 v637 v643 v650 v656 v663 v669 v676 v682 v689 v695 v702 v708 v715 v721 v728 v734 v741 v747 hw h1 v34 arg5 arg6 (harg5.unread x1) (harg6.unread x2)) _ (ix2 p 0)
    (fun k => ∑ t : Fin 256, gateAt x2 x1 (v34 (ix2 p 0) + 256#32) (256 * ((rest (cntLe 256#32 [v546, v559, v572, v585, v598, v611, v624, v637, v650, v663, v676, v689, v702, v715, v728, v741])).toNat + k) + t)) ?_ _ (le_refl _), winG2,
    ← near_of ha hb]
  · congr 1
    exact step_gate x2 x1 arg6 harg6 arg5 harg5 1536 _ _ (k0_off19_eq v546 v559 v572 v585 v598 v611 v624 v637 v650 v663 v676 v689 v702 v715 v728 v741) i5 (by have := win_start_le ha; omega) _
  · intro k x
    unfold stepG2
    rw [payG2]
    congr 1
    have hk := tile_start ha hb k
    refine (step_gate x2 x1 arg6 harg6 arg5 harg5 256 _ _ (k0_off21_eq v546 v552 v559 v565 v572 v578 v585 v591 v598 v604 v611 v617 v624 v630 v637 v643 v650 v656 v663 v669 v676 v682 v689 v695 v702 v708 v715 v721 v728 v734 v741 v747 k) _ (by have := tile_start_le ha hb k; omega) _).trans ?_
    rw [hk]

end

/-! ### Block 3 -/

theorem payX3 (v34 : IVec S128x1 32) (s : Vec Ideal S1x1x1x256 .i32) (h : Vec Ideal S1x256x1024 .bf16) (x : Vec Ideal S128x1024 .f32) (p : Fin 128) (d : Fin 1024) :
    k0_pay21 v34 s h x (ix2 p d) = x (ix2 p d) + ∑ t : Fin 256, pick (s (ix4 0 0 0 t)) (v34 (ix2 p 0) + 384#32) (h (ix3 0 t d)) := by
  have e : k0_pay21 v34 s h x = shapeCast S128x1024 (addf x (rowsOf (w := 256) 384#32 v34 s h shapeCasts_S1x1x1x256_S1x256 broadcasts_S1x256_S128x256 broadcasts_S128x1_S128x256 shapeCasts_S1x256x1024_S256x1024)) shapeCasts_S128x1024_S128x1024 := rfl
  rw [e, shapeCast_self, addf_apply, rowsOf_apply (by decide)]

theorem payG3 (v34 : IVec S128x1 32) (s : Vec Ideal S1x1x1x256 .i32) (g : Vec Ideal S1x1x1x256 .f32) (x : Vec Ideal S128x1 .f32) (p : Fin 128) :
    k0_pay51 (k0_pay22 v34 s g x) (ix2 p 0) = x (ix2 p 0) + ∑ t : Fin 256, pick (s (ix4 0 0 0 t)) (v34 (ix2 p 0) + 384#32) (g (ix4 0 0 0 t)) := by
  have e : k0_pay51 (k0_pay22 v34 s g x) = shapeCast S128x1 (addf x (gatesOf (w := 256) 384#32 v34 s g shapeCasts_S1x1x1x256_S1x256 broadcasts_S1x256_S128x256 broadcasts_S128x1_S128x256 shapeCasts_S1x256_S1x256 reduces_S128x256_S128)) shapeCasts_S128x1_S128x1 := rfl
  rw [e, shapeCast_self, addf_apply, gatesOf_apply (by decide)]

theorem winX3 (v34 : IVec S128x1 32) (s : Vec Ideal S1x1x1x1536 .i32) (h : Vec Ideal S1x1536x1024 .bf16) (p : Fin 128) (d : Fin 1024) :
    k0_pay49 v34 s h (ix2 p d) = ∑ t : Fin 1536, pick (s (ix4 0 0 0 t)) (v34 (ix2 p 0) + 384#32) (h (ix3 0 t d)) := by
  have e : k0_pay49 v34 s h = shapeCast S128x1024 (rowsOf (w := 1536) 384#32 v34 s h shapeCasts_S1x1x1x1536_S1x1536 broadcasts_S1x1536_S128x1536 broadcasts_S128x1_S128x1536 shapeCasts_S1x1536x1024_S1536x1024) shapeCasts_S128x1024_S128x1024 := rfl
  rw [e, shapeCast_self, rowsOf_apply (by decide)]

theorem winG3 (v34 : IVec S128x1 32) (s : Vec Ideal S1x1x1x1536 .i32) (g : Vec Ideal S1x1x1x1536 .f32) (p : Fin 128) :
    k0_pay50 v34 s g (ix2 p 0) = ∑ t : Fin 1536, pick (s (ix4 0 0 0 t)) (v34 (ix2 p 0) + 384#32) (g (ix4 0 0 0 t)) := by
  have e : k0_pay50 v34 s g = shapeCast S128x1 (gatesOf (w := 1536) 384#32 v34 s g shapeCasts_S1x1x1x1536_S1x1536 broadcasts_S1x1536_S128x1536 broadcasts_S128x1_S128x1536 shapeCasts_S1x1536_S1x1536 reduces_S128x1536_S128) shapeCasts_S128x1_S128x1 := rfl
  rw [e, shapeCast_self, gatesOf_apply (by decide)]

section
variable (i : grid0.Coords) (v800 v806 v813 v819 v826 v832 v839 v845 v852 v858 v865 v871 v878 v884 v891 v897 v904 v910 v917 v923 v930 v936 v943 v949 v956 v962 v969 v975 v982 v988 v995 v1001 : BitVec 32) (hw : k0_chk8 i v800 v806 v813 v819 v826 v832 v839 v845 v852 v858 v865 v871 v878 v884 v891 v897 v904 v910 v917 v923 v930 v936 v943 v949 v956 v962 v969 v975 v982 v988 v995 v1001) (h1 : k0_cond1 i = 1#1)
  (v34 : IVec S128x1 32) (arg4 : Memref sig .tc .vmem S1x4096x1024 .bf16) (arg5 : Memref sig .tc .vmem S1x1x1x4096 .i32) (arg6 : Memref sig .tc .vmem S1x1x1x4096 .f32)
  (harg4 : arg4.IsWhole) (harg5 : arg5.IsWhole) (harg6 : arg6.IsWhole)
  (x0 : Vec Ideal S1x4096x1024 .bf16) (x1 : Vec Ideal S1x1x1x4096 .i32) (x2 : Vec Ideal S1x1x1x4096 .f32)
  (i5 : ∀ a, k0_off27 v800 v813 v826 v839 v852 v865 v878 v891 v904 v917 v930 v943 v956 v969 v982 v995 a + S1x1x1x1536.size a ≤ S1x1x1x4096.size a) (i4 : ∀ a, k0_off28 v800 v813 v826 v839 v852 v865 v878 v891 v904 v917 v930 v943 v956 v969 v982 v995 a + S1x1536x1024.size a ≤ S1x4096x1024.size a)

/-- The rows of block 3: the window's and then each tile's. -/
def blockX3 : Vec Ideal S128x1024 .f32 :=
  let s : Vec Ideal S1x1x1x1536 .i32 := arg5.view.readAt (Elt Ideal) (Rect.unit (s := S1x1x1x4096) (k0_off27 v800 v813 v826 v839 v852 v865 v878 v891 v904 v917 v930 v943 v956 v969 v982 v995) S1x1x1x1536.size i5).toLoadRect (harg5.unread x1)
  let h : Vec Ideal S1x1536x1024 .bf16 := arg4.view.readAt (Elt Ideal) (Rect.unit (s := S1x4096x1024) (k0_off28 v800 v813 v826 v839 v852 v865 v878 v891 v904 v917 v930 v943 v956 v969 v982 v995) S1x1536x1024.size i4).toLoadRect (harg4.unread x0)
  trips (stepX3 i v800 v806 v813 v819 v826 v832 v839 v845 v852 v858 v865 v871 v878 v884 v891 v897 v904 v910 v917 v923 v930 v936 v943 v949 v956 v962 v969 v975 v982 v988 v995 v1001 hw h1 v34 arg4 arg5 (harg4.unread x0) (harg5.unread x1)) (k0_pay49 v34 s h) (k0_t7_loop v800 v806 v813 v819 v826 v832 v839 v845 v852 v858 v865 v871 v878 v884 v891 v897 v904 v910 v917 v923 v930 v936 v943 v949 v956 v962 v969 v975 v982 v988 v995 v1001).trips

/-- The gates of block 3: the window's and then each tile's. -/
def blockG3 : Vec Ideal S128x1 .f32 :=
  let s : Vec Ideal S1x1x1x1536 .i32 := arg5.view.readAt (Elt Ideal) (Rect.unit (s := S1x1x1x4096) (k0_off27 v800 v813 v826 v839 v852 v865 v878 v891 v904 v917 v930 v943 v956 v969 v982 v995) S1x1x1x1536.size i5).toLoadRect (harg5.unread x1)
  let g : Vec Ideal S1x1x1x1536 .f32 := arg6.view.readAt (Elt Ideal) (Rect.unit (s := S1x1x1x4096) (k0_off27 v800 v813 v826 v839 v852 v865 v878 v891 v904 v917 v930 v943 v956 v969 v982 v995) S1x1x1x1536.size i5).toLoadRect (harg6.unread x2)
  trips (stepG3 i v800 v806 v813 v819 v826 v832 v839 v845 v852 v858 v865 v871 v878 v884 v891 v897 v904 v910 v917 v923 v930 v936 v943 v949 v956 v962 v969 v975 v982 v988 v995 v1001 hw h1 v34 arg5 arg6 (harg5.unread x1) (harg6.unread x2)) (k0_pay50 v34 s g) (k0_t7_loop v800 v806 v813 v819 v826 v832 v839 v845 v852 v858 v865 v871 v878 v884 v891 v897 v904 v910 v917 v923 v930 v936 v943 v949 v956 v962 v969 v975 v982 v988 v995 v1001).trips

theorem blockX3_apply (p : Fin 128) (d : Fin 1024) :
    blockX3 i v800 v806 v813 v819 v826 v832 v839 v845 v852 v858 v865 v871 v878 v884 v891 v897 v904 v910 v917 v923 v930 v936 v943 v949 v956 v962 v969 v975 v982 v988 v995 v1001 hw h1 v34 arg4 arg5 harg4 harg5 x0 x1 i5 i4 (ix2 p d)
      = near (rowAt x0 x1 (v34 (ix2 p 0) + 384#32) d) (cntLe 384#32 [v800, v813, v826, v839, v852, v865, v878, v891, v904, v917, v930, v943, v956, v969, v982, v995]).toNat (cntLt 512#32 [v806, v819, v832, v845, v858, v871, v884, v897, v910, v923, v936, v949, v962, v975, v988, v1001]).toNat := by
  have ha : (cntLe 384#32 [v800, v813, v826, v839, v852, v865, v878, v891, v904, v917, v930, v943, v956, v969, v982, v995]).toNat ≤ 16 := cnt_le _ _ (by simp)
  have hb : (cntLt 512#32 [v806, v819, v832, v845, v858, v871, v884, v897, v910, v923, v936, v949, v962, v975, v988, v1001]).toNat ≤ 16 := cnt_le _ _ (by simp)
  unfold blockX3
  dsimp only
  rw [trips_apply (stepX3 i v800 v806 v813 v819 v826 v832 v839 v845 v852 v858 v865 v871 v878 v884 v891 v897 v904 v910 v917 v923 v930 v936 v943 v949 v956 v962 v969 v975 v982 v988 v995 v1001 hw h1 v34 arg4 arg5 (harg4.unread x0) (harg5.unread x1)) _ (ix2 p d)
    (fun k => ∑ t : Fin 256, rowAt x0 x1 (v34 (ix2 p 0) + 384#32) d (256 * ((rest (cntLe 384#32 [v800, v813, v826, v839, v852, v865, v878, v891, v904, v917, v930, v943, v956, v969, v982, v995])).toNat + k) + t)) ?_ _ (le_refl _), winX3,
    ← near_of ha hb]
  · congr 1
    exact step_row x0 x1 arg4 harg4 arg5 harg5 1536 _ _ _ (k0_off27_eq v800 v813 v826 v839 v852 v865 v878 v891 v904 v917 v930 v943 v956 v969 v982 v995) (k0_off28_eq v800 v813 v826 v839 v852 v865 v878 v891 v904 v917 v930 v943 v956 v969 v982 v995) i5 i4 (by have := win_start_le ha; omega) _ d
  · intro k x
    unfold stepX3
    rw [payX3]
    congr 1
    have hk := tile_start ha hb k
    refine (step_row x0 x1 arg4 harg4 arg5 harg5 256 _ _ _ (k0_off29_eq v800 v806 v813 v819 v826 v832 v839 v845 v852 v858 v865 v871 v878 v884 v891 v897 v904 v910 v917 v923 v930 v936 v943 v949 v956 v962 v969 v975 v982 v988 v995 v1001 k) (k0_off30_eq v800 v806 v813 v819 v826 v832 v839 v845 v852 v858 v865 v871 v878 v884 v891 v897 v904 v910 v917 v923 v930 v936 v943 v949 v956 v962 v969 v975 v982 v988 v995 v1001 k) _ _ (by have := tile_start_le ha hb k; omega) _ d).trans ?_
    rw [hk]

theorem blockG3_apply (p : Fin 128) :
    blockG3 i v800 v806 v813 v819 v826 v832 v839 v845 v852 v858 v865 v871 v878 v884 v891 v897 v904 v910 v917 v923 v930 v936 v943 v949 v956 v962 v969 v975 v982 v988 v995 v1001 hw h1 v34 arg5 arg6 harg5 harg6 x1 x2 i5 (ix2 p 0)
      = near (gateAt x2 x1 (v34 (ix2 p 0) + 384#32)) (cntLe 384#32 [v800, v813, v826, v839, v852, v865, v878, v891, v904, v917, v930, v943, v956, v969, v982, v995]).toNat (cntLt 512#32 [v806, v819, v832, v845, v858, v871, v884, v897, v910, v923, v936, v949, v962, v975, v988, v1001]).toNat := by
  have ha : (cntLe 384#32 [v800, v813, v826, v839, v852, v865, v878, v891, v904, v917, v930, v943, v956, v969, v982, v995]).toNat ≤ 16 := cnt_le _ _ (by simp)
  have hb : (cntLt 512#32 [v806, v819, v832, v845, v858, v871, v884, v897, v910, v923, v936, v949, v962, v975, v988, v1001]).toNat ≤ 16 := cnt_le _ _ (by simp)
  unfold blockG3
  dsimp only
  rw [trips_apply (stepG3 i v800 v806 v813 v819 v826 v832 v839 v845 v852 v858 v865 v871 v878 v884 v891 v897 v904 v910 v917 v923 v930 v936 v943 v949 v956 v962 v969 v975 v982 v988 v995 v1001 hw h1 v34 arg5 arg6 (harg5.unread x1) (harg6.unread x2)) _ (ix2 p 0)
    (fun k => ∑ t : Fin 256, gateAt x2 x1 (v34 (ix2 p 0) + 384#32) (256 * ((rest (cntLe 384#32 [v800, v813, v826, v839, v852, v865, v878, v891, v904, v917, v930, v943, v956, v969, v982, v995])).toNat + k) + t)) ?_ _ (le_refl _), winG3,
    ← near_of ha hb]
  · congr 1
    exact step_gate x2 x1 arg6 harg6 arg5 harg5 1536 _ _ (k0_off27_eq v800 v813 v826 v839 v852 v865 v878 v891 v904 v917 v930 v943 v956 v969 v982 v995) i5 (by have := win_start_le ha; omega) _
  · intro k x
    unfold stepG3
    rw [payG3]
    congr 1
    have hk := tile_start ha hb k
    refine (step_gate x2 x1 arg6 harg6 arg5 harg5 256 _ _ (k0_off29_eq v800 v806 v813 v819 v826 v832 v839 v845 v852 v858 v865 v871 v878 v884 v891 v897 v904 v910 v917 v923 v930 v936 v943 v949 v956 v962 v969 v975 v982 v988 v995 v1001 k) _ (by have := tile_start_le ha hb k; omega) _).trans ?_
    rw [hk]

end

end Cert.KernelIdeal

end
-- ==== Proof.Count.lean ====
module

public import proofs.«01_k».proof.Proof.Blocks
public import Idealize.ShloMosaic.Lib.WordCmp

/-! Where an expert's tokens lie: the table counts the tokens before each tile, so the token of a slot is in the window or
    in a tile the loop takes, and in one of them only. -/

@[expose] public section

noncomputable section

namespace Cert.KernelIdeal

open Gen
open Idealize.ShloMosaic Idealize.ShloMosaic.ValueIdx
open scoped BigOperators

/-- How many of the tokens lie before tile `j`. -/
def below (tok : Fin 512 → Fin 4096) (j : ℕ) : ℕ := (Finset.univ.filter fun c : Fin 512 => (tok c).val < 256 * j).card

theorem below_le (tok : Fin 512 → Fin 4096) (j : ℕ) : below tok j ≤ 512 :=
  (Finset.card_le_univ _).trans (by simp)

theorem below_mono (tok : Fin 512 → Fin 4096) {j k : ℕ} (h : j ≤ k) : below tok j ≤ below tok k :=
  Finset.card_le_card fun c hc => by
    simp only [Finset.mem_filter, Finset.mem_univ, true_and] at hc ⊢
    omega

theorem below_le_slot {tok : Fin 512 → Fin 4096} (hm : StrictMono tok) (c : Fin 512) : below tok ((tok c).val / 256) ≤ c.val := by
  rw [← Fin.card_Iio c]
  refine Finset.card_le_card fun d hd => ?_
  simp only [Finset.mem_filter, Finset.mem_univ, true_and] at hd
  refine Finset.mem_Iio.mpr (hm.lt_iff_lt.mp ?_)
  show (tok d).val < (tok c).val
  omega

theorem slot_lt_below {tok : Fin 512 → Fin 4096} (hm : StrictMono tok) (c : Fin 512) : c.val < below tok ((tok c).val / 256 + 1) := by
  have h : (Finset.Iic c).card ≤ below tok ((tok c).val / 256 + 1) := Finset.card_le_card fun d hd => by
    have : (tok d).val ≤ (tok c).val := hm.monotone (Finset.mem_Iic.mp hd)
    simp only [Finset.mem_filter, Finset.mem_univ, true_and]
    omega
  rw [Fin.card_Iic] at h
  omega

theorem countP_range_card (p : ℕ → Bool) (n : ℕ) : (List.range n).countP p = ((Finset.range n).filter fun j => p j = true).card := by
  induction n with
  | zero => simp
  | succ n ih =>
    rw [List.range_succ, List.countP_append, ih, Finset.range_add_one, Finset.filter_insert]
    by_cases h : p n = true
    · rw [if_pos h, Finset.card_insert_of_notMem (by simp), List.countP_singleton, if_pos h]
    · rw [if_neg h, List.countP_singleton, if_neg h, Nat.add_zero]

/-- What the table and the slots of one expert's tokens say: `W j` counts the tokens before tile `j`, token `t` has slot `c` exactly
    if it is the `c`-th of them. -/
structure Routed (W : ℕ → BitVec 32) (x1 : Vec Ideal S1x1x1x4096 .i32) (tok : Fin 512 → Fin 4096) : Prop where
  slot : ∀ (t : Fin 4096) (c : Fin 512), x1 (ix4 0 0 0 t) = BitVec.ofNat 32 c.val ↔ t = tok c
  cut : ∀ j, j ≤ 16 → W j = BitVec.ofNat 32 (below tok j)
  mono : StrictMono tok

section
variable {W : ℕ → BitVec 32} {x1 : Vec Ideal S1x1x1x4096 .i32} {tok : Fin 512 → Fin 4096} (R : Routed W x1 tok)
include R

theorem Routed.le_iff {lo : ℕ} (hlo : lo ≤ 512) {j : ℕ} (hj : j ≤ 16) :
    (decide (Scalar.cmpi .sle (W j) (BitVec.ofNat 32 lo) = 1#1) = true) ↔ below tok j ≤ lo := by
  have h := below_le tok j
  rw [decide_eq_true_iff, R.cut j hj]
  show BitVec.ofBool (decide ((BitVec.ofNat 32 (below tok j)).toInt ≤ (BitVec.ofNat 32 lo).toInt)) = 1#1 ↔ _
  rw [WordCmp.toInt_ofNat_of_lt (by omega), WordCmp.toInt_ofNat_of_lt (by omega), WordCmp.ofBool_decide_eq_one_iff]
  omega

theorem Routed.lt_iff {hi : ℕ} (hhi : hi ≤ 512) {j : ℕ} (hj : j ≤ 16) :
    (decide (Scalar.cmpi .slt (W j) (BitVec.ofNat 32 hi) = 1#1) = true) ↔ below tok j < hi := by
  have h := below_le tok j
  rw [decide_eq_true_iff, R.cut j hj]
  show BitVec.ofBool (decide ((BitVec.ofNat 32 (below tok j)).toInt < (BitVec.ofNat 32 hi).toInt)) = 1#1 ↔ _
  rw [WordCmp.toInt_ofNat_of_lt (by omega), WordCmp.toInt_ofNat_of_lt (by omega), WordCmp.ofBool_decide_eq_one_iff]
  omega

/-- The tiles before the first slot's are before every slot's of the block. -/
theorem Routed.first_le {lo : ℕ} (c : Fin 512) (hlo : lo ≤ c.val) :
    (cntLe (BitVec.ofNat 32 lo) ((List.range 16).map fun j => W (j + 1))).toNat ≤ (tok c).val / 256 := by
  have hc := c.isLt
  unfold cntLe
  rw [cnt_toNat _ _ (by simp), List.countP_map, countP_range_card]
  refine le_trans (Finset.card_le_card (t := Finset.range ((tok c).val / 256)) fun j hj => ?_) (by simp)
  obtain ⟨hj16, hp⟩ := Finset.mem_filter.mp hj
  have hj16 := Finset.mem_range.mp hj16
  have hp := (R.le_iff (lo := lo) (by omega) (j := j + 1) (by omega)).mp hp
  refine Finset.mem_range.mpr ?_
  by_contra hn
  have h1 := slot_lt_below R.mono c
  have h2 := below_mono tok (show (tok c).val / 256 + 1 ≤ j + 1 by omega)
  omega

/-- The tiles up to the last slot's are up to every slot's of the block. -/
theorem Routed.lt_last {hi : ℕ} (hhi : hi ≤ 512) (c : Fin 512) (hc : c.val < hi) :
    (tok c).val / 256 < (cntLt (BitVec.ofNat 32 hi) ((List.range 16).map fun j => W j)).toNat := by
  have ht := (tok c).isLt
  unfold cntLt
  rw [cnt_toNat _ _ (by simp), List.countP_map, countP_range_card]
  refine lt_of_lt_of_le (b := (Finset.range ((tok c).val / 256 + 1)).card) (by simp) (Finset.card_le_card fun j hj => ?_)
  have hj := Finset.mem_range.mp hj
  refine Finset.mem_filter.mpr ⟨Finset.mem_range.mpr (by omega), ?_⟩
  refine (R.lt_iff (hi := hi) hhi (j := j) (by omega)).mpr ?_
  have h1 := below_le_slot R.mono c
  have h2 := below_mono tok (show j ≤ (tok c).val / 256 by omega)
  omega

end

/-- A function that is nothing but at `t₀` sums to its value there, where `t₀`'s tile is between the counts. -/
theorem near_single (f : ℕ → EReal) (a b t₀ : ℕ) (h0 : ∀ t, t ≠ t₀ → f t = 0) (ha : a ≤ t₀ / 256) (hb : t₀ / 256 < b) : near f a b = f t₀ := by
  have one : ∀ m n : ℕ, ∑ t ∈ Finset.Ico m n, f t = if m ≤ t₀ ∧ t₀ < n then f t₀ else 0 := by
    intro m n
    split
    · rename_i h
      exact Finset.sum_eq_single_of_mem t₀ (Finset.mem_Ico.mpr h) fun t _ ht => h0 t ht
    · rename_i h
      exact Finset.sum_eq_zero fun t ht => h0 t fun e => h (e ▸ Finset.mem_Ico.mp ht)
  unfold near
  rw [one, one]
  by_cases hw : t₀ < 256 * min a 10 + 1536
  · rw [if_pos ⟨by omega, hw⟩, if_neg (by omega), add_zero]
  · rw [if_neg (by omega), if_pos ⟨by omega, by omega⟩, zero_add]

theorem Routed.row {W : ℕ → BitVec 32} {x1 : Vec Ideal S1x1x1x4096 .i32} {tok : Fin 512 → Fin 4096} (R : Routed W x1 tok)
    (x0 : Vec Ideal S1x4096x1024 .bf16) (d : Fin 1024) (c : Fin 512) {lo hi : ℕ} (hlo : lo ≤ c.val) (hhi : c.val < hi) (hi5 : hi ≤ 512) :
    near (rowAt x0 x1 (BitVec.ofNat 32 c.val) d) (cntLe (BitVec.ofNat 32 lo) ((List.range 16).map fun j => W (j + 1))).toNat
      (cntLt (BitVec.ofNat 32 hi) ((List.range 16).map fun j => W j)).toNat = x0 (ix3 0 (tok c) d) := by
  rw [near_single _ _ _ (tok c).val ?_ (R.first_le c hlo) (R.lt_last hi5 c hhi)]
  · rw [rowAt, dif_pos (tok c).isLt, pick, if_pos ((R.slot _ c).mpr rfl)]
  · intro t ht
    unfold rowAt
    split
    · rename_i h
      rw [pick, if_neg fun e => ht (congrArg Fin.val ((R.slot ⟨t, h⟩ c).mp e))]
    · rfl

theorem Routed.gate {W : ℕ → BitVec 32} {x1 : Vec Ideal S1x1x1x4096 .i32} {tok : Fin 512 → Fin 4096} (R : Routed W x1 tok)
    (x2 : Vec Ideal S1x1x1x4096 .f32) (c : Fin 512) {lo hi : ℕ} (hlo : lo ≤ c.val) (hhi : c.val < hi) (hi5 : hi ≤ 512) :
    near (gateAt x2 x1 (BitVec.ofNat 32 c.val)) (cntLe (BitVec.ofNat 32 lo) ((List.range 16).map fun j => W (j + 1))).toNat
      (cntLt (BitVec.ofNat 32 hi) ((List.range 16).map fun j => W j)).toNat = x2 (ix4 0 0 0 (tok c)) := by
  rw [near_single _ _ _ (tok c).val ?_ (R.first_le c hlo) (R.lt_last hi5 c hhi)]
  · rw [gateAt, dif_pos (tok c).isLt, pick, if_pos ((R.slot _ c).mpr rfl)]
  · intro t ht
    unfold gateAt
    split
    · rename_i h
      rw [pick, if_neg fun e => ht (congrArg Fin.val ((R.slot ⟨t, h⟩ c).mp e))]
    · rfl

end Cert.KernelIdeal

end
-- ==== Proof.Expert.lean ====
module

public import proofs.«01_k».proof.Proof.Gather
public import Idealize.ShloMosaic.Lib.Pipeline.ValueKit.Tiles
public import Idealize.ShloMosaic.Lib.Pipeline.ValueKit.Acc

/-! What the expert adds for one slot, on extended reals: the row through the two first weights, `h · logistic h · u`, and through
    the second weight's rows; and the gate at the store. -/

@[expose] public section

noncomputable section

namespace Cert.KernelIdeal

open Gen
open Idealize.ShloMosaic Idealize.ShloMosaic.ValueIdx
open scoped BigOperators

/-- One hidden element from a row `x` and the columns `a`, `b` of the two first weights. -/
def hidden (x a b : Fin 1024 → EReal) : EReal :=
  (∑ d, x d * a d) * Ideal.logistic (∑ d, x d * a d) * (∑ d, x d * b d)

/-- What one half of the hidden elements adds to output `o` of a slot with row `x`. -/
def half (x : Fin 1024 → EReal) (x3 x4 x5 : Vec Ideal S1x1024x1024 .bf16) (o : Fin 1024) : EReal :=
  ∑ k : Fin 1024, hidden x (fun d => x3 (ix3 0 d k)) (fun d => x4 (ix3 0 d k)) * x5 (ix3 0 k o)

theorem k0_pay54_apply (y : S512x1024.Idx) : k0_pay54 (F := Ideal) y = 0 := by
  have e : k0_pay54 (F := Ideal) = shapeCast S512x1024 (broadcast S512x1024 (Scalar.ofBits (F := Ideal) .f32 0x00000000#32)) shapeCasts_S512x1024_S512x1024 := rfl
  rw [e, shapeCast_self, broadcast_apply]
  exact Ideal.ofBits_zero_f32

/-- The product of 512 rows with one expert's weight matrix. -/
theorem mm_apply (x : FVec Ideal S512x1024 .bf16) (w : FVec Ideal S1x1024x1024 .bf16) (c : Fin 512) (o : Fin 1024) :
    matmul (φ₂ := .bf16) dot_S512x1024_S1024x1024_S512x1024_1_0_0_1_n_n none x (shapeCast S1024x1024 w shapeCasts_S1x1024x1024_S1024x1024 : FVec Ideal S1024x1024 .bf16)
      (constant (F := Ideal) S512x1024 .f32 0x00000000#32) (ix2 c o) = ∑ d : Fin 1024, x (ix2 c d) * w (ix3 0 d o) := by
  refine (Ideal.matmul_plain_apply none x (shapeCast S1024x1024 w shapeCasts_S1x1024x1024_S1024x1024) (constant (F := Ideal) S512x1024 .f32 0x00000000#32) c o).trans ?_
  rw [constant_apply, Ideal.ofBits_zero_f32, zero_add]
  refine Finset.sum_congr rfl fun d _ => ?_
  rw [shapeCast_1ab_ab_apply]

theorem k0_pay55_apply (v3 : Vec Ideal S512x1024 .bf16) (x3 x4 : Vec Ideal S1x1024x1024 .bf16) (v20 : Vec Ideal S512x1024 .f32) (x5 : Vec Ideal S1x1024x1024 .bf16)
    (c : Fin 512) (o : Fin 1024) :
    k0_pay55 v3 x3 x4 v20 x5 (ix2 c o) = v20 (ix2 c o) + half (fun d => v3 (ix2 c d)) x3 x4 x5 o := by
  unfold k0_pay55
  rw [shapeCast_self, addf_apply, mm_apply]
  congr 1
  refine Finset.sum_congr rfl fun k _ => ?_
  congr 1
  rw [truncf_apply, mulf_apply, mulf_apply, mm_apply, divf_apply, addf_apply, broadcast_apply]
  unfold hidden
  congr 2
  have key : ∀ g : EReal, Ideal.div (Ideal.ofBits .f32 0x3F800000#32) (Ideal.ofBits .f32 0x3F800000#32 + Ideal.exp (Ideal.ofBits .f32 0x00000000#32 - g)) = Ideal.logistic g := by
    intro g
    rw [Ideal.ofBits_one_f32, Ideal.ofBits_zero_f32, sub_eq_add_neg, zero_add]
    rfl
  · refine (key _).trans ?_
    rw [mm_apply]
  · exact mm_apply v3 x4 c k

theorem k0_pay1_apply (v31 : Vec Ideal S512x1024 .f32) (v32 : Vec Ideal S512x1 .f32) (c : Fin 512) (o : Fin 1024) :
    k0_pay1 v31 v32 (ix4 0 0 c o) = v31 (ix2 c o) * v32 (ix2 c 0) := by
  unfold k0_pay1
  rw [shapeCast_apply _ shapeCasts_S512x1024_S1x1x512x1024 (ix4 0 0 c o) (ix2 c o) (by
    rw [Shape.rowMajor_val_four, Shape.rowMajor_val_two]
    show c.val * 1024 + o.val = ((0 * 1 + 0) * 512 + c.val) * 1024 + o.val
    omega), truncf_apply, mulf_apply]
  have : broadcastTo S512x1024 v32 broadcasts_S512x1_S512x1024 (ix2 c o) = v32 (ix2 c 0) :=
    broadcastTo_apply _ broadcasts_S512x1_S512x1024 (ix2 c o) (ix2 c 0) fun a => by
      match a with
      | ⟨0, _⟩ => rfl
      | ⟨1, _⟩ => rfl
  rw [this]

end Cert.KernelIdeal

end
-- ==== Proof.Body.lean ====
module

public import proofs.«01_k».proof.Proof.Frame
public import proofs.«01_k».proof.Proof.Count
public import proofs.«01_k».proof.Proof.Expert

/-! What a point leaves, on extended reals: at a first half the picked rows, their gates and the first half's part; at a second half the
    output block. -/

@[expose] public section

set_option maxRecDepth 16384

noncomputable section

namespace Cert.KernelIdeal

open Gen
open Idealize.ShloMosaic Idealize.ShloMosaic.ValueIdx Idealize.ShloMosaic.TcCoe Idealize.ShloMosaic.Tactic
open scoped BigOperators

theorem read_whole {sp : Space} {s : Shape} {e : EltTy} (M : Memref sig .tc sp s e) (hM : M.IsWhole) (x : Vec Ideal s e) (off : Fin s.rank → ℕ) (h0 : ∀ a, off a = 0)
    (inb : ∀ a, off a + s.size a ≤ s.size a) : M.view.readAt (Elt Ideal) (Rect.unit off s.size inb).toLoadRect (hM.unread x) = x := by
  funext j
  rw [View.readAt_eq_ld, hM.read_unread]
  exact View.ld_unit_apply_of x off s.size inb j j fun a => by rw [h0, Nat.zero_add]

/-- The table's word `k` of the row of point `i`'s expert. -/
def word {c : Dev nD} (xt0 : TbBuf0 (F := Ideal) c tbM0_0) (i : grid0.Coords) (k : ℕ) : BitVec 32 :=
  if h : 2048 * (i 0).val + 128 * (i 1).val + k < 32768 then (xt0 : Vec Ideal S32768 .i32) (ix1 ⟨_, h⟩) else 0

theorem word_read (c : Dev nD) (xt0 : TbBuf0 (F := Ideal) c tbM0_0) (i : grid0.Coords) (k : ℕ) (hk : k ≤ 16) (off : Fin 1 → ℕ)
    (ho : off = ![2048 * (i 0).val + 128 * (i 1).val + k]) (inb : ∀ a, off a + S1.size a ≤ S32768.size a) (h : 0 < (Rect.unit (s := S32768) off S1.size inb).toLoadRect.shape.numel) :
    View.readAt (Elt Ideal) tbM0_0.view (Rect.unit (s := S32768) off S1.size inb).toLoadRect xt0 (Shape.Idx.first h) = word xt0 i k := by
  subst ho
  have h0 : (i 0).val < 16 := (i 0).isLt
  have h1 : (i 1).val < 16 := (i 1).isLt
  rw [word, dif_pos (by omega), View.readAt_eq_ld]
  refine View.ld_unit_apply_of (tbM0_0.view.read (Elt Ideal) xt0) _ _ inb (Shape.Idx.first h) (ix1 ⟨2048 * (i 0).val + 128 * (i 1).val + k, by omega⟩) fun a => ?_
  match a with
  | ⟨0, _⟩ => rfl

theorem slotWord (p : Fin 128) (lo : ℕ) : kernelRun0_A.sl.v34 (ix2 p 0) + BitVec.ofNat 32 lo = BitVec.ofNat 32 (lo + p.val) := by
  have : kernelRun0_A.sl.v34 (ix2 p 0) = BitVec.ofNat 32 p.val := by
    show BitVec.ofNat 32 (0 * 128 + p.val) = _
    rw [Nat.zero_mul, Nat.zero_add]
  rw [this, ← BitVec.ofNat_add, Nat.add_comm]

/-! ### Block 0 -/

theorem in5_0 (v38 v51 v64 v77 v90 v103 v116 v129 v142 v155 v168 v181 v194 v207 v220 v233 : BitVec 32) : ∀ a, k0_off3 v38 v51 v64 v77 v90 v103 v116 v129 v142 v155 v168 v181 v194 v207 v220 v233 a + S1x1x1x1536.size a ≤ S1x1x1x4096.size a := by
  have := win_start_le (a := cntLe 0#32 [v38, v51, v64, v77, v90, v103, v116, v129, v142, v155, v168, v181, v194, v207, v220, v233]) (cnt_le _ _ (by simp))
  rw [k0_off3_eq]; exact fits4 (by omega)

theorem in4_0 (v38 v51 v64 v77 v90 v103 v116 v129 v142 v155 v168 v181 v194 v207 v220 v233 : BitVec 32) : ∀ a, k0_off4 v38 v51 v64 v77 v90 v103 v116 v129 v142 v155 v168 v181 v194 v207 v220 v233 a + S1x1536x1024.size a ≤ S1x4096x1024.size a := by
  have := win_start_le (a := cntLe 0#32 [v38, v51, v64, v77, v90, v103, v116, v129, v142, v155, v168, v181, v194, v207, v220, v233]) (cnt_le _ _ (by simp))
  rw [k0_off4_eq]; exact fits3 (by omega)

theorem wordsA0 (c : Dev nD) (i : grid0.Coords) (hc0 : cond0_0 i) (xt0 : TbBuf0 (F := Ideal) c tbM0_0) :
    [(kernelRun0_A.sl.r c i hc0 xt0), (kernelRun0_A.sl.r_2 c i hc0 xt0), (kernelRun0_A.sl.r_4 c i hc0 xt0), (kernelRun0_A.sl.r_6 c i hc0 xt0), (kernelRun0_A.sl.r_8 c i hc0 xt0), (kernelRun0_A.sl.r_10 c i hc0 xt0), (kernelRun0_A.sl.r_12 c i hc0 xt0), (kernelRun0_A.sl.r_14 c i hc0 xt0), (kernelRun0_A.sl.r_16 c i hc0 xt0), (kernelRun0_A.sl.r_18 c i hc0 xt0), (kernelRun0_A.sl.r_20 c i hc0 xt0), (kernelRun0_A.sl.r_22 c i hc0 xt0), (kernelRun0_A.sl.r_24 c i hc0 xt0), (kernelRun0_A.sl.r_26 c i hc0 xt0), (kernelRun0_A.sl.r_28 c i hc0 xt0), (kernelRun0_A.sl.r_30 c i hc0 xt0)] = (List.range 16).map fun j => word xt0 i (j + 1) :=
  congrArg₂ List.cons (word_read c xt0 i 1 (by decide) _ (k0_off1_eq i ⟨0, by decide⟩) _ _) (congrArg₂ List.cons (word_read c xt0 i 2 (by decide) _ (k0_off1_eq i ⟨1, by decide⟩) _ _) (congrArg₂ List.cons (word_read c xt0 i 3 (by decide) _ (k0_off1_eq i ⟨2, by decide⟩) _ _) (congrArg₂ List.cons (word_read c xt0 i 4 (by decide) _ (k0_off1_eq i ⟨3, by decide⟩) _ _) (congrArg₂ List.cons (word_read c xt0 i 5 (by decide) _ (k0_off1_eq i ⟨4, by decide⟩) _ _) (congrArg₂ List.cons (word_read c xt0 i 6 (by decide) _ (k0_off1_eq i ⟨5, by decide⟩) _ _) (congrArg₂ List.cons (word_read c xt0 i 7 (by decide) _ (k0_off1_eq i ⟨6, by decide⟩) _ _) (congrArg₂ List.cons (word_read c xt0 i 8 (by decide) _ (k0_off1_eq i ⟨7, by decide⟩) _ _) (congrArg₂ List.cons (word_read c xt0 i 9 (by decide) _ (k0_off1_eq i ⟨8, by decide⟩) _ _) (congrArg₂ List.cons (word_read c xt0 i 10 (by decide) _ (k0_off1_eq i ⟨9, by decide⟩) _ _) (congrArg₂ List.cons (word_read c xt0 i 11 (by decide) _ (k0_off1_eq i ⟨10, by decide⟩) _ _) (congrArg₂ List.cons (word_read c xt0 i 12 (by decide) _ (k0_off1_eq i ⟨11, by decide⟩) _ _) (congrArg₂ List.cons (word_read c xt0 i 13 (by decide) _ (k0_off1_eq i ⟨12, by decide⟩) _ _) (congrArg₂ List.cons (word_read c xt0 i 14 (by decide) _ (k0_off1_eq i ⟨13, by decide⟩) _ _) (congrArg₂ List.cons (word_read c xt0 i 15 (by decide) _ (k0_off1_eq i ⟨14, by decide⟩) _ _) (congrArg₂ List.cons (word_read c xt0 i 16 (by decide) _ (k0_off1_eq i ⟨15, by decide⟩) _ _) (rfl))))))))))))))))

theorem wordsB0 (c : Dev nD) (i : grid0.Coords) (hc0 : cond0_0 i) (xt0 : TbBuf0 (F := Ideal) c tbM0_0) :
    [(kernelRun0_A.sl.r_1 c i hc0 xt0), (kernelRun0_A.sl.r_3 c i hc0 xt0), (kernelRun0_A.sl.r_5 c i hc0 xt0), (kernelRun0_A.sl.r_7 c i hc0 xt0), (kernelRun0_A.sl.r_9 c i hc0 xt0), (kernelRun0_A.sl.r_11 c i hc0 xt0), (kernelRun0_A.sl.r_13 c i hc0 xt0), (kernelRun0_A.sl.r_15 c i hc0 xt0), (kernelRun0_A.sl.r_17 c i hc0 xt0), (kernelRun0_A.sl.r_19 c i hc0 xt0), (kernelRun0_A.sl.r_21 c i hc0 xt0), (kernelRun0_A.sl.r_23 c i hc0 xt0), (kernelRun0_A.sl.r_25 c i hc0 xt0), (kernelRun0_A.sl.r_27 c i hc0 xt0), (kernelRun0_A.sl.r_29 c i hc0 xt0), (kernelRun0_A.sl.r_31 c i hc0 xt0)] = (List.range 16).map fun j => word xt0 i j :=
  congrArg₂ List.cons (word_read c xt0 i 0 (by decide) _ (k0_off2_eq i ⟨0, by decide⟩) _ _) (congrArg₂ List.cons (word_read c xt0 i 1 (by decide) _ (k0_off2_eq i ⟨1, by decide⟩) _ _) (congrArg₂ List.cons (word_read c xt0 i 2 (by decide) _ (k0_off2_eq i ⟨2, by decide⟩) _ _) (congrArg₂ List.cons (word_read c xt0 i 3 (by decide) _ (k0_off2_eq i ⟨3, by decide⟩) _ _) (congrArg₂ List.cons (word_read c xt0 i 4 (by decide) _ (k0_off2_eq i ⟨4, by decide⟩) _ _) (congrArg₂ List.cons (word_read c xt0 i 5 (by decide) _ (k0_off2_eq i ⟨5, by decide⟩) _ _) (congrArg₂ List.cons (word_read c xt0 i 6 (by decide) _ (k0_off2_eq i ⟨6, by decide⟩) _ _) (congrArg₂ List.cons (word_read c xt0 i 7 (by decide) _ (k0_off2_eq i ⟨7, by decide⟩) _ _) (congrArg₂ List.cons (word_read c xt0 i 8 (by decide) _ (k0_off2_eq i ⟨8, by decide⟩) _ _) (congrArg₂ List.cons (word_read c xt0 i 9 (by decide) _ (k0_off2_eq i ⟨9, by decide⟩) _ _) (congrArg₂ List.cons (word_read c xt0 i 10 (by decide) _ (k0_off2_eq i ⟨10, by decide⟩) _ _) (congrArg₂ List.cons (word_read c xt0 i 11 (by decide) _ (k0_off2_eq i ⟨11, by decide⟩) _ _) (congrArg₂ List.cons (word_read c xt0 i 12 (by decide) _ (k0_off2_eq i ⟨12, by decide⟩) _ _) (congrArg₂ List.cons (word_read c xt0 i 13 (by decide) _ (k0_off2_eq i ⟨13, by decide⟩) _ _) (congrArg₂ List.cons (word_read c xt0 i 14 (by decide) _ (k0_off2_eq i ⟨14, by decide⟩) _ _) (congrArg₂ List.cons (word_read c xt0 i 15 (by decide) _ (k0_off2_eq i ⟨15, by decide⟩) _ _) (rfl))))))))))))))))

section
variable (c : Dev nD) (i : grid0.Coords) (arg4 : Memref sig .tc .vmem S1x4096x1024 .bf16) (harg4 : arg4.IsWhole) (arg5 : Memref sig .tc .vmem S1x1x1x4096 .i32) (harg5 : arg5.IsWhole)
  (arg6 : Memref sig .tc .vmem S1x1x1x4096 .f32) (harg6 : arg6.IsWhole) (arg13 : Memref sig .tc .vmem S128x1024 .f32) (hc0 : cond0_0 i)
  (x0 : Vec Ideal S1x4096x1024 .bf16) (x1 : Vec Ideal S1x1x1x4096 .i32) (x2 : Vec Ideal S1x1x1x4096 .f32) (xt0 : TbBuf0 (F := Ideal) c tbM0_0)
  {tok : Fin 512 → Fin 4096} (R : Routed (word xt0 i) x1 tok)

theorem v284_eq : kernelRun0_A.sl.v284 c i arg4 harg4 arg5 harg5 arg13 hc0 x0 x1 xt0 = blockX0 i (kernelRun0_A.sl.r c i hc0 xt0) (kernelRun0_A.sl.r_1 c i hc0 xt0) (kernelRun0_A.sl.r_2 c i hc0 xt0) (kernelRun0_A.sl.r_3 c i hc0 xt0) (kernelRun0_A.sl.r_4 c i hc0 xt0) (kernelRun0_A.sl.r_5 c i hc0 xt0) (kernelRun0_A.sl.r_6 c i hc0 xt0) (kernelRun0_A.sl.r_7 c i hc0 xt0) (kernelRun0_A.sl.r_8 c i hc0 xt0) (kernelRun0_A.sl.r_9 c i hc0 xt0) (kernelRun0_A.sl.r_10 c i hc0 xt0) (kernelRun0_A.sl.r_11 c i hc0 xt0) (kernelRun0_A.sl.r_12 c i hc0 xt0) (kernelRun0_A.sl.r_13 c i hc0 xt0) (kernelRun0_A.sl.r_14 c i hc0 xt0) (kernelRun0_A.sl.r_15 c i hc0 xt0) (kernelRun0_A.sl.r_16 c i hc0 xt0) (kernelRun0_A.sl.r_17 c i hc0 xt0) (kernelRun0_A.sl.r_18 c i hc0 xt0) (kernelRun0_A.sl.r_19 c i hc0 xt0) (kernelRun0_A.sl.r_20 c i hc0 xt0) (kernelRun0_A.sl.r_21 c i hc0 xt0) (kernelRun0_A.sl.r_22 c i hc0 xt0) (kernelRun0_A.sl.r_23 c i hc0 xt0) (kernelRun0_A.sl.r_24 c i hc0 xt0) (kernelRun0_A.sl.r_25 c i hc0 xt0) (kernelRun0_A.sl.r_26 c i hc0 xt0) (kernelRun0_A.sl.r_27 c i hc0 xt0) (kernelRun0_A.sl.r_28 c i hc0 xt0) (kernelRun0_A.sl.r_29 c i hc0 xt0) (kernelRun0_A.sl.r_30 c i hc0 xt0) (kernelRun0_A.sl.r_31 c i hc0 xt0) (k0_chk2_all (kernelRun0_A.sl.r c i hc0 xt0) (kernelRun0_A.sl.r_1 c i hc0 xt0) (kernelRun0_A.sl.r_2 c i hc0 xt0) (kernelRun0_A.sl.r_3 c i hc0 xt0) (kernelRun0_A.sl.r_4 c i hc0 xt0) (kernelRun0_A.sl.r_5 c i hc0 xt0) (kernelRun0_A.sl.r_6 c i hc0 xt0) (kernelRun0_A.sl.r_7 c i hc0 xt0) (kernelRun0_A.sl.r_8 c i hc0 xt0) (kernelRun0_A.sl.r_9 c i hc0 xt0) (kernelRun0_A.sl.r_10 c i hc0 xt0) (kernelRun0_A.sl.r_11 c i hc0 xt0) (kernelRun0_A.sl.r_12 c i hc0 xt0) (kernelRun0_A.sl.r_13 c i hc0 xt0) (kernelRun0_A.sl.r_14 c i hc0 xt0) (kernelRun0_A.sl.r_15 c i hc0 xt0) (kernelRun0_A.sl.r_16 c i hc0 xt0) (kernelRun0_A.sl.r_17 c i hc0 xt0) (kernelRun0_A.sl.r_18 c i hc0 xt0) (kernelRun0_A.sl.r_19 c i hc0 xt0) (kernelRun0_A.sl.r_20 c i hc0 xt0) (kernelRun0_A.sl.r_21 c i hc0 xt0) (kernelRun0_A.sl.r_22 c i hc0 xt0) (kernelRun0_A.sl.r_23 c i hc0 xt0) (kernelRun0_A.sl.r_24 c i hc0 xt0) (kernelRun0_A.sl.r_25 c i hc0 xt0) (kernelRun0_A.sl.r_26 c i hc0 xt0) (kernelRun0_A.sl.r_27 c i hc0 xt0) (kernelRun0_A.sl.r_28 c i hc0 xt0) (kernelRun0_A.sl.r_29 c i hc0 xt0) (kernelRun0_A.sl.r_30 c i hc0 xt0) (kernelRun0_A.sl.r_31 c i hc0 xt0) i) hc0 kernelRun0_A.sl.v34 arg4 arg5 harg4 harg5 x0 x1 (in5_0 (kernelRun0_A.sl.r c i hc0 xt0) (kernelRun0_A.sl.r_2 c i hc0 xt0) (kernelRun0_A.sl.r_4 c i hc0 xt0) (kernelRun0_A.sl.r_6 c i hc0 xt0) (kernelRun0_A.sl.r_8 c i hc0 xt0) (kernelRun0_A.sl.r_10 c i hc0 xt0) (kernelRun0_A.sl.r_12 c i hc0 xt0) (kernelRun0_A.sl.r_14 c i hc0 xt0) (kernelRun0_A.sl.r_16 c i hc0 xt0) (kernelRun0_A.sl.r_18 c i hc0 xt0) (kernelRun0_A.sl.r_20 c i hc0 xt0) (kernelRun0_A.sl.r_22 c i hc0 xt0) (kernelRun0_A.sl.r_24 c i hc0 xt0) (kernelRun0_A.sl.r_26 c i hc0 xt0) (kernelRun0_A.sl.r_28 c i hc0 xt0) (kernelRun0_A.sl.r_30 c i hc0 xt0)) (in4_0 (kernelRun0_A.sl.r c i hc0 xt0) (kernelRun0_A.sl.r_2 c i hc0 xt0) (kernelRun0_A.sl.r_4 c i hc0 xt0) (kernelRun0_A.sl.r_6 c i hc0 xt0) (kernelRun0_A.sl.r_8 c i hc0 xt0) (kernelRun0_A.sl.r_10 c i hc0 xt0) (kernelRun0_A.sl.r_12 c i hc0 xt0) (kernelRun0_A.sl.r_14 c i hc0 xt0) (kernelRun0_A.sl.r_16 c i hc0 xt0) (kernelRun0_A.sl.r_18 c i hc0 xt0) (kernelRun0_A.sl.r_20 c i hc0 xt0) (kernelRun0_A.sl.r_22 c i hc0 xt0) (kernelRun0_A.sl.r_24 c i hc0 xt0) (kernelRun0_A.sl.r_26 c i hc0 xt0) (kernelRun0_A.sl.r_28 c i hc0 xt0) (kernelRun0_A.sl.r_30 c i hc0 xt0)) := by
  unfold kernelRun0_A.sl.v284
  refine (View.readCov_cons_toLoadRect arg13.view rXg _ _).trans ?_
  sl_kernel_rfl

include R in
theorem rows0 (p : Fin 128) (d : Fin 1024) (h : 0 + p.val < 512) :
    kernelRun0_A.sl.v284 c i arg4 harg4 arg5 harg5 arg13 hc0 x0 x1 xt0 (ix2 p d) = x0 (ix3 0 (tok ⟨0 + p.val, h⟩) d) := by
  rw [v284_eq, blockX0_apply, slotWord, wordsA0, wordsB0]
  exact R.row x0 d ⟨0 + p.val, h⟩ (lo := 0) (hi := 128) (Nat.le_add_right _ _) (by have := p.isLt; show 0 + p.val < 128; omega) (by decide)

include R in
theorem gates0 (p : Fin 128) (h : 0 + p.val < 512) :
    blockG0 i (kernelRun0_A.sl.r c i hc0 xt0) (kernelRun0_A.sl.r_1 c i hc0 xt0) (kernelRun0_A.sl.r_2 c i hc0 xt0) (kernelRun0_A.sl.r_3 c i hc0 xt0) (kernelRun0_A.sl.r_4 c i hc0 xt0) (kernelRun0_A.sl.r_5 c i hc0 xt0) (kernelRun0_A.sl.r_6 c i hc0 xt0) (kernelRun0_A.sl.r_7 c i hc0 xt0) (kernelRun0_A.sl.r_8 c i hc0 xt0) (kernelRun0_A.sl.r_9 c i hc0 xt0) (kernelRun0_A.sl.r_10 c i hc0 xt0) (kernelRun0_A.sl.r_11 c i hc0 xt0) (kernelRun0_A.sl.r_12 c i hc0 xt0) (kernelRun0_A.sl.r_13 c i hc0 xt0) (kernelRun0_A.sl.r_14 c i hc0 xt0) (kernelRun0_A.sl.r_15 c i hc0 xt0) (kernelRun0_A.sl.r_16 c i hc0 xt0) (kernelRun0_A.sl.r_17 c i hc0 xt0) (kernelRun0_A.sl.r_18 c i hc0 xt0) (kernelRun0_A.sl.r_19 c i hc0 xt0) (kernelRun0_A.sl.r_20 c i hc0 xt0) (kernelRun0_A.sl.r_21 c i hc0 xt0) (kernelRun0_A.sl.r_22 c i hc0 xt0) (kernelRun0_A.sl.r_23 c i hc0 xt0) (kernelRun0_A.sl.r_24 c i hc0 xt0) (kernelRun0_A.sl.r_25 c i hc0 xt0) (kernelRun0_A.sl.r_26 c i hc0 xt0) (kernelRun0_A.sl.r_27 c i hc0 xt0) (kernelRun0_A.sl.r_28 c i hc0 xt0) (kernelRun0_A.sl.r_29 c i hc0 xt0) (kernelRun0_A.sl.r_30 c i hc0 xt0) (kernelRun0_A.sl.r_31 c i hc0 xt0) (k0_chk2_all (kernelRun0_A.sl.r c i hc0 xt0) (kernelRun0_A.sl.r_1 c i hc0 xt0) (kernelRun0_A.sl.r_2 c i hc0 xt0) (kernelRun0_A.sl.r_3 c i hc0 xt0) (kernelRun0_A.sl.r_4 c i hc0 xt0) (kernelRun0_A.sl.r_5 c i hc0 xt0) (kernelRun0_A.sl.r_6 c i hc0 xt0) (kernelRun0_A.sl.r_7 c i hc0 xt0) (kernelRun0_A.sl.r_8 c i hc0 xt0) (kernelRun0_A.sl.r_9 c i hc0 xt0) (kernelRun0_A.sl.r_10 c i hc0 xt0) (kernelRun0_A.sl.r_11 c i hc0 xt0) (kernelRun0_A.sl.r_12 c i hc0 xt0) (kernelRun0_A.sl.r_13 c i hc0 xt0) (kernelRun0_A.sl.r_14 c i hc0 xt0) (kernelRun0_A.sl.r_15 c i hc0 xt0) (kernelRun0_A.sl.r_16 c i hc0 xt0) (kernelRun0_A.sl.r_17 c i hc0 xt0) (kernelRun0_A.sl.r_18 c i hc0 xt0) (kernelRun0_A.sl.r_19 c i hc0 xt0) (kernelRun0_A.sl.r_20 c i hc0 xt0) (kernelRun0_A.sl.r_21 c i hc0 xt0) (kernelRun0_A.sl.r_22 c i hc0 xt0) (kernelRun0_A.sl.r_23 c i hc0 xt0) (kernelRun0_A.sl.r_24 c i hc0 xt0) (kernelRun0_A.sl.r_25 c i hc0 xt0) (kernelRun0_A.sl.r_26 c i hc0 xt0) (kernelRun0_A.sl.r_27 c i hc0 xt0) (kernelRun0_A.sl.r_28 c i hc0 xt0) (kernelRun0_A.sl.r_29 c i hc0 xt0) (kernelRun0_A.sl.r_30 c i hc0 xt0) (kernelRun0_A.sl.r_31 c i hc0 xt0) i) hc0 kernelRun0_A.sl.v34 arg5 arg6 harg5 harg6 x1 x2 (in5_0 (kernelRun0_A.sl.r c i hc0 xt0) (kernelRun0_A.sl.r_2 c i hc0 xt0) (kernelRun0_A.sl.r_4 c i hc0 xt0) (kernelRun0_A.sl.r_6 c i hc0 xt0) (kernelRun0_A.sl.r_8 c i hc0 xt0) (kernelRun0_A.sl.r_10 c i hc0 xt0) (kernelRun0_A.sl.r_12 c i hc0 xt0) (kernelRun0_A.sl.r_14 c i hc0 xt0) (kernelRun0_A.sl.r_16 c i hc0 xt0) (kernelRun0_A.sl.r_18 c i hc0 xt0) (kernelRun0_A.sl.r_20 c i hc0 xt0) (kernelRun0_A.sl.r_22 c i hc0 xt0) (kernelRun0_A.sl.r_24 c i hc0 xt0) (kernelRun0_A.sl.r_26 c i hc0 xt0) (kernelRun0_A.sl.r_28 c i hc0 xt0) (kernelRun0_A.sl.r_30 c i hc0 xt0)) (ix2 p 0) = x2 (ix4 0 0 0 (tok ⟨0 + p.val, h⟩)) := by
  rw [blockG0_apply, slotWord, wordsA0, wordsB0]
  exact R.gate x2 ⟨0 + p.val, h⟩ (lo := 0) (hi := 128) (Nat.le_add_right _ _) (by have := p.isLt; show 0 + p.val < 128; omega) (by decide)

end

/-! ### Block 1 -/

theorem in5_1 (v292 v305 v318 v331 v344 v357 v370 v383 v396 v409 v422 v435 v448 v461 v474 v487 : BitVec 32) : ∀ a, k0_off11 v292 v305 v318 v331 v344 v357 v370 v383 v396 v409 v422 v435 v448 v461 v474 v487 a + S1x1x1x1536.size a ≤ S1x1x1x4096.size a := by
  have := win_start_le (a := cntLe 128#32 [v292, v305, v318, v331, v344, v357, v370, v383, v396, v409, v422, v435, v448, v461, v474, v487]) (cnt_le _ _ (by simp))
  rw [k0_off11_eq]; exact fits4 (by omega)

theorem in4_1 (v292 v305 v318 v331 v344 v357 v370 v383 v396 v409 v422 v435 v448 v461 v474 v487 : BitVec 32) : ∀ a, k0_off12 v292 v305 v318 v331 v344 v357 v370 v383 v396 v409 v422 v435 v448 v461 v474 v487 a + S1x1536x1024.size a ≤ S1x4096x1024.size a := by
  have := win_start_le (a := cntLe 128#32 [v292, v305, v318, v331, v344, v357, v370, v383, v396, v409, v422, v435, v448, v461, v474, v487]) (cnt_le _ _ (by simp))
  rw [k0_off12_eq]; exact fits3 (by omega)

theorem wordsA1 (c : Dev nD) (i : grid0.Coords) (hc0 : cond0_0 i) (xt0 : TbBuf0 (F := Ideal) c tbM0_0) :
    [(kernelRun0_A.sl.r_32 c i hc0 xt0), (kernelRun0_A.sl.r_34 c i hc0 xt0), (kernelRun0_A.sl.r_36 c i hc0 xt0), (kernelRun0_A.sl.r_38 c i hc0 xt0), (kernelRun0_A.sl.r_40 c i hc0 xt0), (kernelRun0_A.sl.r_42 c i hc0 xt0), (kernelRun0_A.sl.r_44 c i hc0 xt0), (kernelRun0_A.sl.r_46 c i hc0 xt0), (kernelRun0_A.sl.r_48 c i hc0 xt0), (kernelRun0_A.sl.r_50 c i hc0 xt0), (kernelRun0_A.sl.r_52 c i hc0 xt0), (kernelRun0_A.sl.r_54 c i hc0 xt0), (kernelRun0_A.sl.r_56 c i hc0 xt0), (kernelRun0_A.sl.r_58 c i hc0 xt0), (kernelRun0_A.sl.r_60 c i hc0 xt0), (kernelRun0_A.sl.r_62 c i hc0 xt0)] = (List.range 16).map fun j => word xt0 i (j + 1) :=
  congrArg₂ List.cons (word_read c xt0 i 1 (by decide) _ (k0_off9_eq i ⟨0, by decide⟩) _ _) (congrArg₂ List.cons (word_read c xt0 i 2 (by decide) _ (k0_off9_eq i ⟨1, by decide⟩) _ _) (congrArg₂ List.cons (word_read c xt0 i 3 (by decide) _ (k0_off9_eq i ⟨2, by decide⟩) _ _) (congrArg₂ List.cons (word_read c xt0 i 4 (by decide) _ (k0_off9_eq i ⟨3, by decide⟩) _ _) (congrArg₂ List.cons (word_read c xt0 i 5 (by decide) _ (k0_off9_eq i ⟨4, by decide⟩) _ _) (congrArg₂ List.cons (word_read c xt0 i 6 (by decide) _ (k0_off9_eq i ⟨5, by decide⟩) _ _) (congrArg₂ List.cons (word_read c xt0 i 7 (by decide) _ (k0_off9_eq i ⟨6, by decide⟩) _ _) (congrArg₂ List.cons (word_read c xt0 i 8 (by decide) _ (k0_off9_eq i ⟨7, by decide⟩) _ _) (congrArg₂ List.cons (word_read c xt0 i 9 (by decide) _ (k0_off9_eq i ⟨8, by decide⟩) _ _) (congrArg₂ List.cons (word_read c xt0 i 10 (by decide) _ (k0_off9_eq i ⟨9, by decide⟩) _ _) (congrArg₂ List.cons (word_read c xt0 i 11 (by decide) _ (k0_off9_eq i ⟨10, by decide⟩) _ _) (congrArg₂ List.cons (word_read c xt0 i 12 (by decide) _ (k0_off9_eq i ⟨11, by decide⟩) _ _) (congrArg₂ List.cons (word_read c xt0 i 13 (by decide) _ (k0_off9_eq i ⟨12, by decide⟩) _ _) (congrArg₂ List.cons (word_read c xt0 i 14 (by decide) _ (k0_off9_eq i ⟨13, by decide⟩) _ _) (congrArg₂ List.cons (word_read c xt0 i 15 (by decide) _ (k0_off9_eq i ⟨14, by decide⟩) _ _) (congrArg₂ List.cons (word_read c xt0 i 16 (by decide) _ (k0_off9_eq i ⟨15, by decide⟩) _ _) (rfl))))))))))))))))

theorem wordsB1 (c : Dev nD) (i : grid0.Coords) (hc0 : cond0_0 i) (xt0 : TbBuf0 (F := Ideal) c tbM0_0) :
    [(kernelRun0_A.sl.r_33 c i hc0 xt0), (kernelRun0_A.sl.r_35 c i hc0 xt0), (kernelRun0_A.sl.r_37 c i hc0 xt0), (kernelRun0_A.sl.r_39 c i hc0 xt0), (kernelRun0_A.sl.r_41 c i hc0 xt0), (kernelRun0_A.sl.r_43 c i hc0 xt0), (kernelRun0_A.sl.r_45 c i hc0 xt0), (kernelRun0_A.sl.r_47 c i hc0 xt0), (kernelRun0_A.sl.r_49 c i hc0 xt0), (kernelRun0_A.sl.r_51 c i hc0 xt0), (kernelRun0_A.sl.r_53 c i hc0 xt0), (kernelRun0_A.sl.r_55 c i hc0 xt0), (kernelRun0_A.sl.r_57 c i hc0 xt0), (kernelRun0_A.sl.r_59 c i hc0 xt0), (kernelRun0_A.sl.r_61 c i hc0 xt0), (kernelRun0_A.sl.r_63 c i hc0 xt0)] = (List.range 16).map fun j => word xt0 i j :=
  congrArg₂ List.cons (word_read c xt0 i 0 (by decide) _ (k0_off10_eq i ⟨0, by decide⟩) _ _) (congrArg₂ List.cons (word_read c xt0 i 1 (by decide) _ (k0_off10_eq i ⟨1, by decide⟩) _ _) (congrArg₂ List.cons (word_read c xt0 i 2 (by decide) _ (k0_off10_eq i ⟨2, by decide⟩) _ _) (congrArg₂ List.cons (word_read c xt0 i 3 (by decide) _ (k0_off10_eq i ⟨3, by decide⟩) _ _) (congrArg₂ List.cons (word_read c xt0 i 4 (by decide) _ (k0_off10_eq i ⟨4, by decide⟩) _ _) (congrArg₂ List.cons (word_read c xt0 i 5 (by decide) _ (k0_off10_eq i ⟨5, by decide⟩) _ _) (congrArg₂ List.cons (word_read c xt0 i 6 (by decide) _ (k0_off10_eq i ⟨6, by decide⟩) _ _) (congrArg₂ List.cons (word_read c xt0 i 7 (by decide) _ (k0_off10_eq i ⟨7, by decide⟩) _ _) (congrArg₂ List.cons (word_read c xt0 i 8 (by decide) _ (k0_off10_eq i ⟨8, by decide⟩) _ _) (congrArg₂ List.cons (word_read c xt0 i 9 (by decide) _ (k0_off10_eq i ⟨9, by decide⟩) _ _) (congrArg₂ List.cons (word_read c xt0 i 10 (by decide) _ (k0_off10_eq i ⟨10, by decide⟩) _ _) (congrArg₂ List.cons (word_read c xt0 i 11 (by decide) _ (k0_off10_eq i ⟨11, by decide⟩) _ _) (congrArg₂ List.cons (word_read c xt0 i 12 (by decide) _ (k0_off10_eq i ⟨12, by decide⟩) _ _) (congrArg₂ List.cons (word_read c xt0 i 13 (by decide) _ (k0_off10_eq i ⟨13, by decide⟩) _ _) (congrArg₂ List.cons (word_read c xt0 i 14 (by decide) _ (k0_off10_eq i ⟨14, by decide⟩) _ _) (congrArg₂ List.cons (word_read c xt0 i 15 (by decide) _ (k0_off10_eq i ⟨15, by decide⟩) _ _) (rfl))))))))))))))))

section
variable (c : Dev nD) (i : grid0.Coords) (arg4 : Memref sig .tc .vmem S1x4096x1024 .bf16) (harg4 : arg4.IsWhole) (arg5 : Memref sig .tc .vmem S1x1x1x4096 .i32) (harg5 : arg5.IsWhole)
  (arg6 : Memref sig .tc .vmem S1x1x1x4096 .f32) (harg6 : arg6.IsWhole) (arg13 : Memref sig .tc .vmem S128x1024 .f32) (hc0 : cond0_0 i)
  (x0 : Vec Ideal S1x4096x1024 .bf16) (x1 : Vec Ideal S1x1x1x4096 .i32) (x2 : Vec Ideal S1x1x1x4096 .f32) (xt0 : TbBuf0 (F := Ideal) c tbM0_0)
  {tok : Fin 512 → Fin 4096} (R : Routed (word xt0 i) x1 tok)

theorem v538_eq : kernelRun0_A.sl.v538 c i arg4 harg4 arg5 harg5 arg13 hc0 x0 x1 xt0 = blockX1 i (kernelRun0_A.sl.r_32 c i hc0 xt0) (kernelRun0_A.sl.r_33 c i hc0 xt0) (kernelRun0_A.sl.r_34 c i hc0 xt0) (kernelRun0_A.sl.r_35 c i hc0 xt0) (kernelRun0_A.sl.r_36 c i hc0 xt0) (kernelRun0_A.sl.r_37 c i hc0 xt0) (kernelRun0_A.sl.r_38 c i hc0 xt0) (kernelRun0_A.sl.r_39 c i hc0 xt0) (kernelRun0_A.sl.r_40 c i hc0 xt0) (kernelRun0_A.sl.r_41 c i hc0 xt0) (kernelRun0_A.sl.r_42 c i hc0 xt0) (kernelRun0_A.sl.r_43 c i hc0 xt0) (kernelRun0_A.sl.r_44 c i hc0 xt0) (kernelRun0_A.sl.r_45 c i hc0 xt0) (kernelRun0_A.sl.r_46 c i hc0 xt0) (kernelRun0_A.sl.r_47 c i hc0 xt0) (kernelRun0_A.sl.r_48 c i hc0 xt0) (kernelRun0_A.sl.r_49 c i hc0 xt0) (kernelRun0_A.sl.r_50 c i hc0 xt0) (kernelRun0_A.sl.r_51 c i hc0 xt0) (kernelRun0_A.sl.r_52 c i hc0 xt0) (kernelRun0_A.sl.r_53 c i hc0 xt0) (kernelRun0_A.sl.r_54 c i hc0 xt0) (kernelRun0_A.sl.r_55 c i hc0 xt0) (kernelRun0_A.sl.r_56 c i hc0 xt0) (kernelRun0_A.sl.r_57 c i hc0 xt0) (kernelRun0_A.sl.r_58 c i hc0 xt0) (kernelRun0_A.sl.r_59 c i hc0 xt0) (kernelRun0_A.sl.r_60 c i hc0 xt0) (kernelRun0_A.sl.r_61 c i hc0 xt0) (kernelRun0_A.sl.r_62 c i hc0 xt0) (kernelRun0_A.sl.r_63 c i hc0 xt0) (k0_chk4_all (kernelRun0_A.sl.r_32 c i hc0 xt0) (kernelRun0_A.sl.r_33 c i hc0 xt0) (kernelRun0_A.sl.r_34 c i hc0 xt0) (kernelRun0_A.sl.r_35 c i hc0 xt0) (kernelRun0_A.sl.r_36 c i hc0 xt0) (kernelRun0_A.sl.r_37 c i hc0 xt0) (kernelRun0_A.sl.r_38 c i hc0 xt0) (kernelRun0_A.sl.r_39 c i hc0 xt0) (kernelRun0_A.sl.r_40 c i hc0 xt0) (kernelRun0_A.sl.r_41 c i hc0 xt0) (kernelRun0_A.sl.r_42 c i hc0 xt0) (kernelRun0_A.sl.r_43 c i hc0 xt0) (kernelRun0_A.sl.r_44 c i hc0 xt0) (kernelRun0_A.sl.r_45 c i hc0 xt0) (kernelRun0_A.sl.r_46 c i hc0 xt0) (kernelRun0_A.sl.r_47 c i hc0 xt0) (kernelRun0_A.sl.r_48 c i hc0 xt0) (kernelRun0_A.sl.r_49 c i hc0 xt0) (kernelRun0_A.sl.r_50 c i hc0 xt0) (kernelRun0_A.sl.r_51 c i hc0 xt0) (kernelRun0_A.sl.r_52 c i hc0 xt0) (kernelRun0_A.sl.r_53 c i hc0 xt0) (kernelRun0_A.sl.r_54 c i hc0 xt0) (kernelRun0_A.sl.r_55 c i hc0 xt0) (kernelRun0_A.sl.r_56 c i hc0 xt0) (kernelRun0_A.sl.r_57 c i hc0 xt0) (kernelRun0_A.sl.r_58 c i hc0 xt0) (kernelRun0_A.sl.r_59 c i hc0 xt0) (kernelRun0_A.sl.r_60 c i hc0 xt0) (kernelRun0_A.sl.r_61 c i hc0 xt0) (kernelRun0_A.sl.r_62 c i hc0 xt0) (kernelRun0_A.sl.r_63 c i hc0 xt0) i) hc0 kernelRun0_A.sl.v34 arg4 arg5 harg4 harg5 x0 x1 (in5_1 (kernelRun0_A.sl.r_32 c i hc0 xt0) (kernelRun0_A.sl.r_34 c i hc0 xt0) (kernelRun0_A.sl.r_36 c i hc0 xt0) (kernelRun0_A.sl.r_38 c i hc0 xt0) (kernelRun0_A.sl.r_40 c i hc0 xt0) (kernelRun0_A.sl.r_42 c i hc0 xt0) (kernelRun0_A.sl.r_44 c i hc0 xt0) (kernelRun0_A.sl.r_46 c i hc0 xt0) (kernelRun0_A.sl.r_48 c i hc0 xt0) (kernelRun0_A.sl.r_50 c i hc0 xt0) (kernelRun0_A.sl.r_52 c i hc0 xt0) (kernelRun0_A.sl.r_54 c i hc0 xt0) (kernelRun0_A.sl.r_56 c i hc0 xt0) (kernelRun0_A.sl.r_58 c i hc0 xt0) (kernelRun0_A.sl.r_60 c i hc0 xt0) (kernelRun0_A.sl.r_62 c i hc0 xt0)) (in4_1 (kernelRun0_A.sl.r_32 c i hc0 xt0) (kernelRun0_A.sl.r_34 c i hc0 xt0) (kernelRun0_A.sl.r_36 c i hc0 xt0) (kernelRun0_A.sl.r_38 c i hc0 xt0) (kernelRun0_A.sl.r_40 c i hc0 xt0) (kernelRun0_A.sl.r_42 c i hc0 xt0) (kernelRun0_A.sl.r_44 c i hc0 xt0) (kernelRun0_A.sl.r_46 c i hc0 xt0) (kernelRun0_A.sl.r_48 c i hc0 xt0) (kernelRun0_A.sl.r_50 c i hc0 xt0) (kernelRun0_A.sl.r_52 c i hc0 xt0) (kernelRun0_A.sl.r_54 c i hc0 xt0) (kernelRun0_A.sl.r_56 c i hc0 xt0) (kernelRun0_A.sl.r_58 c i hc0 xt0) (kernelRun0_A.sl.r_60 c i hc0 xt0) (kernelRun0_A.sl.r_62 c i hc0 xt0)) := by
  unfold kernelRun0_A.sl.v538
  refine (View.readCov_cons_toLoadRect arg13.view rXg _ _).trans ?_
  sl_kernel_rfl

include R in
theorem rows1 (p : Fin 128) (d : Fin 1024) (h : 128 + p.val < 512) :
    kernelRun0_A.sl.v538 c i arg4 harg4 arg5 harg5 arg13 hc0 x0 x1 xt0 (ix2 p d) = x0 (ix3 0 (tok ⟨128 + p.val, h⟩) d) := by
  rw [v538_eq, blockX1_apply, slotWord, wordsA1, wordsB1]
  exact R.row x0 d ⟨128 + p.val, h⟩ (lo := 128) (hi := 256) (Nat.le_add_right _ _) (by have := p.isLt; show 128 + p.val < 256; omega) (by decide)

include R in
theorem gates1 (p : Fin 128) (h : 128 + p.val < 512) :
    blockG1 i (kernelRun0_A.sl.r_32 c i hc0 xt0) (kernelRun0_A.sl.r_33 c i hc0 xt0) (kernelRun0_A.sl.r_34 c i hc0 xt0) (kernelRun0_A.sl.r_35 c i hc0 xt0) (kernelRun0_A.sl.r_36 c i hc0 xt0) (kernelRun0_A.sl.r_37 c i hc0 xt0) (kernelRun0_A.sl.r_38 c i hc0 xt0) (kernelRun0_A.sl.r_39 c i hc0 xt0) (kernelRun0_A.sl.r_40 c i hc0 xt0) (kernelRun0_A.sl.r_41 c i hc0 xt0) (kernelRun0_A.sl.r_42 c i hc0 xt0) (kernelRun0_A.sl.r_43 c i hc0 xt0) (kernelRun0_A.sl.r_44 c i hc0 xt0) (kernelRun0_A.sl.r_45 c i hc0 xt0) (kernelRun0_A.sl.r_46 c i hc0 xt0) (kernelRun0_A.sl.r_47 c i hc0 xt0) (kernelRun0_A.sl.r_48 c i hc0 xt0) (kernelRun0_A.sl.r_49 c i hc0 xt0) (kernelRun0_A.sl.r_50 c i hc0 xt0) (kernelRun0_A.sl.r_51 c i hc0 xt0) (kernelRun0_A.sl.r_52 c i hc0 xt0) (kernelRun0_A.sl.r_53 c i hc0 xt0) (kernelRun0_A.sl.r_54 c i hc0 xt0) (kernelRun0_A.sl.r_55 c i hc0 xt0) (kernelRun0_A.sl.r_56 c i hc0 xt0) (kernelRun0_A.sl.r_57 c i hc0 xt0) (kernelRun0_A.sl.r_58 c i hc0 xt0) (kernelRun0_A.sl.r_59 c i hc0 xt0) (kernelRun0_A.sl.r_60 c i hc0 xt0) (kernelRun0_A.sl.r_61 c i hc0 xt0) (kernelRun0_A.sl.r_62 c i hc0 xt0) (kernelRun0_A.sl.r_63 c i hc0 xt0) (k0_chk4_all (kernelRun0_A.sl.r_32 c i hc0 xt0) (kernelRun0_A.sl.r_33 c i hc0 xt0) (kernelRun0_A.sl.r_34 c i hc0 xt0) (kernelRun0_A.sl.r_35 c i hc0 xt0) (kernelRun0_A.sl.r_36 c i hc0 xt0) (kernelRun0_A.sl.r_37 c i hc0 xt0) (kernelRun0_A.sl.r_38 c i hc0 xt0) (kernelRun0_A.sl.r_39 c i hc0 xt0) (kernelRun0_A.sl.r_40 c i hc0 xt0) (kernelRun0_A.sl.r_41 c i hc0 xt0) (kernelRun0_A.sl.r_42 c i hc0 xt0) (kernelRun0_A.sl.r_43 c i hc0 xt0) (kernelRun0_A.sl.r_44 c i hc0 xt0) (kernelRun0_A.sl.r_45 c i hc0 xt0) (kernelRun0_A.sl.r_46 c i hc0 xt0) (kernelRun0_A.sl.r_47 c i hc0 xt0) (kernelRun0_A.sl.r_48 c i hc0 xt0) (kernelRun0_A.sl.r_49 c i hc0 xt0) (kernelRun0_A.sl.r_50 c i hc0 xt0) (kernelRun0_A.sl.r_51 c i hc0 xt0) (kernelRun0_A.sl.r_52 c i hc0 xt0) (kernelRun0_A.sl.r_53 c i hc0 xt0) (kernelRun0_A.sl.r_54 c i hc0 xt0) (kernelRun0_A.sl.r_55 c i hc0 xt0) (kernelRun0_A.sl.r_56 c i hc0 xt0) (kernelRun0_A.sl.r_57 c i hc0 xt0) (kernelRun0_A.sl.r_58 c i hc0 xt0) (kernelRun0_A.sl.r_59 c i hc0 xt0) (kernelRun0_A.sl.r_60 c i hc0 xt0) (kernelRun0_A.sl.r_61 c i hc0 xt0) (kernelRun0_A.sl.r_62 c i hc0 xt0) (kernelRun0_A.sl.r_63 c i hc0 xt0) i) hc0 kernelRun0_A.sl.v34 arg5 arg6 harg5 harg6 x1 x2 (in5_1 (kernelRun0_A.sl.r_32 c i hc0 xt0) (kernelRun0_A.sl.r_34 c i hc0 xt0) (kernelRun0_A.sl.r_36 c i hc0 xt0) (kernelRun0_A.sl.r_38 c i hc0 xt0) (kernelRun0_A.sl.r_40 c i hc0 xt0) (kernelRun0_A.sl.r_42 c i hc0 xt0) (kernelRun0_A.sl.r_44 c i hc0 xt0) (kernelRun0_A.sl.r_46 c i hc0 xt0) (kernelRun0_A.sl.r_48 c i hc0 xt0) (kernelRun0_A.sl.r_50 c i hc0 xt0) (kernelRun0_A.sl.r_52 c i hc0 xt0) (kernelRun0_A.sl.r_54 c i hc0 xt0) (kernelRun0_A.sl.r_56 c i hc0 xt0) (kernelRun0_A.sl.r_58 c i hc0 xt0) (kernelRun0_A.sl.r_60 c i hc0 xt0) (kernelRun0_A.sl.r_62 c i hc0 xt0)) (ix2 p 0) = x2 (ix4 0 0 0 (tok ⟨128 + p.val, h⟩)) := by
  rw [blockG1_apply, slotWord, wordsA1, wordsB1]
  exact R.gate x2 ⟨128 + p.val, h⟩ (lo := 128) (hi := 256) (Nat.le_add_right _ _) (by have := p.isLt; show 128 + p.val < 256; omega) (by decide)

end

/-! ### Block 2 -/

theorem in5_2 (v546 v559 v572 v585 v598 v611 v624 v637 v650 v663 v676 v689 v702 v715 v728 v741 : BitVec 32) : ∀ a, k0_off19 v546 v559 v572 v585 v598 v611 v624 v637 v650 v663 v676 v689 v702 v715 v728 v741 a + S1x1x1x1536.size a ≤ S1x1x1x4096.size a := by
  have := win_start_le (a := cntLe 256#32 [v546, v559, v572, v585, v598, v611, v624, v637, v650, v663, v676, v689, v702, v715, v728, v741]) (cnt_le _ _ (by simp))
  rw [k0_off19_eq]; exact fits4 (by omega)

theorem in4_2 (v546 v559 v572 v585 v598 v611 v624 v637 v650 v663 v676 v689 v702 v715 v728 v741 : BitVec 32) : ∀ a, k0_off20 v546 v559 v572 v585 v598 v611 v624 v637 v650 v663 v676 v689 v702 v715 v728 v741 a + S1x1536x1024.size a ≤ S1x4096x1024.size a := by
  have := win_start_le (a := cntLe 256#32 [v546, v559, v572, v585, v598, v611, v624, v637, v650, v663, v676, v689, v702, v715, v728, v741]) (cnt_le _ _ (by simp))
  rw [k0_off20_eq]; exact fits3 (by omega)

theorem wordsA2 (c : Dev nD) (i : grid0.Coords) (hc0 : cond0_0 i) (xt0 : TbBuf0 (F := Ideal) c tbM0_0) :
    [(kernelRun0_A.sl.r_67 c i hc0 xt0), (kernelRun0_A.sl.r_69 c i hc0 xt0), (kernelRun0_A.sl.r_71 c i hc0 xt0), (kernelRun0_A.sl.r_73 c i hc0 xt0), (kernelRun0_A.sl.r_75 c i hc0 xt0), (kernelRun0_A.sl.r_77 c i hc0 xt0), (kernelRun0_A.sl.r_79 c i hc0 xt0), (kernelRun0_A.sl.r_81 c i hc0 xt0), (kernelRun0_A.sl.r_83 c i hc0 xt0), (kernelRun0_A.sl.r_85 c i hc0 xt0), (kernelRun0_A.sl.r_87 c i hc0 xt0), (kernelRun0_A.sl.r_89 c i hc0 xt0), (kernelRun0_A.sl.r_91 c i hc0 xt0), (kernelRun0_A.sl.r_93 c i hc0 xt0), (kernelRun0_A.sl.r_95 c i hc0 xt0), (kernelRun0_A.sl.r_97 c i hc0 xt0)] = (List.range 16).map fun j => word xt0 i (j + 1) :=
  congrArg₂ List.cons (word_read c xt0 i 1 (by decide) _ (k0_off17_eq i ⟨0, by decide⟩) _ _) (congrArg₂ List.cons (word_read c xt0 i 2 (by decide) _ (k0_off17_eq i ⟨1, by decide⟩) _ _) (congrArg₂ List.cons (word_read c xt0 i 3 (by decide) _ (k0_off17_eq i ⟨2, by decide⟩) _ _) (congrArg₂ List.cons (word_read c xt0 i 4 (by decide) _ (k0_off17_eq i ⟨3, by decide⟩) _ _) (congrArg₂ List.cons (word_read c xt0 i 5 (by decide) _ (k0_off17_eq i ⟨4, by decide⟩) _ _) (congrArg₂ List.cons (word_read c xt0 i 6 (by decide) _ (k0_off17_eq i ⟨5, by decide⟩) _ _) (congrArg₂ List.cons (word_read c xt0 i 7 (by decide) _ (k0_off17_eq i ⟨6, by decide⟩) _ _) (congrArg₂ List.cons (word_read c xt0 i 8 (by decide) _ (k0_off17_eq i ⟨7, by decide⟩) _ _) (congrArg₂ List.cons (word_read c xt0 i 9 (by decide) _ (k0_off17_eq i ⟨8, by decide⟩) _ _) (congrArg₂ List.cons (word_read c xt0 i 10 (by decide) _ (k0_off17_eq i ⟨9, by decide⟩) _ _) (congrArg₂ List.cons (word_read c xt0 i 11 (by decide) _ (k0_off17_eq i ⟨10, by decide⟩) _ _) (congrArg₂ List.cons (word_read c xt0 i 12 (by decide) _ (k0_off17_eq i ⟨11, by decide⟩) _ _) (congrArg₂ List.cons (word_read c xt0 i 13 (by decide) _ (k0_off17_eq i ⟨12, by decide⟩) _ _) (congrArg₂ List.cons (word_read c xt0 i 14 (by decide) _ (k0_off17_eq i ⟨13, by decide⟩) _ _) (congrArg₂ List.cons (word_read c xt0 i 15 (by decide) _ (k0_off17_eq i ⟨14, by decide⟩) _ _) (congrArg₂ List.cons (word_read c xt0 i 16 (by decide) _ (k0_off17_eq i ⟨15, by decide⟩) _ _) (rfl))))))))))))))))

theorem wordsB2 (c : Dev nD) (i : grid0.Coords) (hc0 : cond0_0 i) (xt0 : TbBuf0 (F := Ideal) c tbM0_0) :
    [(kernelRun0_A.sl.r_68 c i hc0 xt0), (kernelRun0_A.sl.r_70 c i hc0 xt0), (kernelRun0_A.sl.r_72 c i hc0 xt0), (kernelRun0_A.sl.r_74 c i hc0 xt0), (kernelRun0_A.sl.r_76 c i hc0 xt0), (kernelRun0_A.sl.r_78 c i hc0 xt0), (kernelRun0_A.sl.r_80 c i hc0 xt0), (kernelRun0_A.sl.r_82 c i hc0 xt0), (kernelRun0_A.sl.r_84 c i hc0 xt0), (kernelRun0_A.sl.r_86 c i hc0 xt0), (kernelRun0_A.sl.r_88 c i hc0 xt0), (kernelRun0_A.sl.r_90 c i hc0 xt0), (kernelRun0_A.sl.r_92 c i hc0 xt0), (kernelRun0_A.sl.r_94 c i hc0 xt0), (kernelRun0_A.sl.r_96 c i hc0 xt0), (kernelRun0_A.sl.r_98 c i hc0 xt0)] = (List.range 16).map fun j => word xt0 i j :=
  congrArg₂ List.cons (word_read c xt0 i 0 (by decide) _ (k0_off18_eq i ⟨0, by decide⟩) _ _) (congrArg₂ List.cons (word_read c xt0 i 1 (by decide) _ (k0_off18_eq i ⟨1, by decide⟩) _ _) (congrArg₂ List.cons (word_read c xt0 i 2 (by decide) _ (k0_off18_eq i ⟨2, by decide⟩) _ _) (congrArg₂ List.cons (word_read c xt0 i 3 (by decide) _ (k0_off18_eq i ⟨3, by decide⟩) _ _) (congrArg₂ List.cons (word_read c xt0 i 4 (by decide) _ (k0_off18_eq i ⟨4, by decide⟩) _ _) (congrArg₂ List.cons (word_read c xt0 i 5 (by decide) _ (k0_off18_eq i ⟨5, by decide⟩) _ _) (congrArg₂ List.cons (word_read c xt0 i 6 (by decide) _ (k0_off18_eq i ⟨6, by decide⟩) _ _) (congrArg₂ List.cons (word_read c xt0 i 7 (by decide) _ (k0_off18_eq i ⟨7, by decide⟩) _ _) (congrArg₂ List.cons (word_read c xt0 i 8 (by decide) _ (k0_off18_eq i ⟨8, by decide⟩) _ _) (congrArg₂ List.cons (word_read c xt0 i 9 (by decide) _ (k0_off18_eq i ⟨9, by decide⟩) _ _) (congrArg₂ List.cons (word_read c xt0 i 10 (by decide) _ (k0_off18_eq i ⟨10, by decide⟩) _ _) (congrArg₂ List.cons (word_read c xt0 i 11 (by decide) _ (k0_off18_eq i ⟨11, by decide⟩) _ _) (congrArg₂ List.cons (word_read c xt0 i 12 (by decide) _ (k0_off18_eq i ⟨12, by decide⟩) _ _) (congrArg₂ List.cons (word_read c xt0 i 13 (by decide) _ (k0_off18_eq i ⟨13, by decide⟩) _ _) (congrArg₂ List.cons (word_read c xt0 i 14 (by decide) _ (k0_off18_eq i ⟨14, by decide⟩) _ _) (congrArg₂ List.cons (word_read c xt0 i 15 (by decide) _ (k0_off18_eq i ⟨15, by decide⟩) _ _) (rfl))))))))))))))))

section
variable (c : Dev nD) (i : grid0.Coords) (arg4 : Memref sig .tc .vmem S1x4096x1024 .bf16) (harg4 : arg4.IsWhole) (arg5 : Memref sig .tc .vmem S1x1x1x4096 .i32) (harg5 : arg5.IsWhole)
  (arg6 : Memref sig .tc .vmem S1x1x1x4096 .f32) (harg6 : arg6.IsWhole) (arg13 : Memref sig .tc .vmem S128x1024 .f32) (hc0 : cond0_0 i)
  (x0 : Vec Ideal S1x4096x1024 .bf16) (x1 : Vec Ideal S1x1x1x4096 .i32) (x2 : Vec Ideal S1x1x1x4096 .f32) (xt0 : TbBuf0 (F := Ideal) c tbM0_0)
  {tok : Fin 512 → Fin 4096} (R : Routed (word xt0 i) x1 tok)

theorem v792_eq : kernelRun0_A.sl.v792 c i arg4 harg4 arg5 harg5 arg13 hc0 x0 x1 xt0 = blockX2 i (kernelRun0_A.sl.r_67 c i hc0 xt0) (kernelRun0_A.sl.r_68 c i hc0 xt0) (kernelRun0_A.sl.r_69 c i hc0 xt0) (kernelRun0_A.sl.r_70 c i hc0 xt0) (kernelRun0_A.sl.r_71 c i hc0 xt0) (kernelRun0_A.sl.r_72 c i hc0 xt0) (kernelRun0_A.sl.r_73 c i hc0 xt0) (kernelRun0_A.sl.r_74 c i hc0 xt0) (kernelRun0_A.sl.r_75 c i hc0 xt0) (kernelRun0_A.sl.r_76 c i hc0 xt0) (kernelRun0_A.sl.r_77 c i hc0 xt0) (kernelRun0_A.sl.r_78 c i hc0 xt0) (kernelRun0_A.sl.r_79 c i hc0 xt0) (kernelRun0_A.sl.r_80 c i hc0 xt0) (kernelRun0_A.sl.r_81 c i hc0 xt0) (kernelRun0_A.sl.r_82 c i hc0 xt0) (kernelRun0_A.sl.r_83 c i hc0 xt0) (kernelRun0_A.sl.r_84 c i hc0 xt0) (kernelRun0_A.sl.r_85 c i hc0 xt0) (kernelRun0_A.sl.r_86 c i hc0 xt0) (kernelRun0_A.sl.r_87 c i hc0 xt0) (kernelRun0_A.sl.r_88 c i hc0 xt0) (kernelRun0_A.sl.r_89 c i hc0 xt0) (kernelRun0_A.sl.r_90 c i hc0 xt0) (kernelRun0_A.sl.r_91 c i hc0 xt0) (kernelRun0_A.sl.r_92 c i hc0 xt0) (kernelRun0_A.sl.r_93 c i hc0 xt0) (kernelRun0_A.sl.r_94 c i hc0 xt0) (kernelRun0_A.sl.r_95 c i hc0 xt0) (kernelRun0_A.sl.r_96 c i hc0 xt0) (kernelRun0_A.sl.r_97 c i hc0 xt0) (kernelRun0_A.sl.r_98 c i hc0 xt0) (k0_chk6_all (kernelRun0_A.sl.r_67 c i hc0 xt0) (kernelRun0_A.sl.r_68 c i hc0 xt0) (kernelRun0_A.sl.r_69 c i hc0 xt0) (kernelRun0_A.sl.r_70 c i hc0 xt0) (kernelRun0_A.sl.r_71 c i hc0 xt0) (kernelRun0_A.sl.r_72 c i hc0 xt0) (kernelRun0_A.sl.r_73 c i hc0 xt0) (kernelRun0_A.sl.r_74 c i hc0 xt0) (kernelRun0_A.sl.r_75 c i hc0 xt0) (kernelRun0_A.sl.r_76 c i hc0 xt0) (kernelRun0_A.sl.r_77 c i hc0 xt0) (kernelRun0_A.sl.r_78 c i hc0 xt0) (kernelRun0_A.sl.r_79 c i hc0 xt0) (kernelRun0_A.sl.r_80 c i hc0 xt0) (kernelRun0_A.sl.r_81 c i hc0 xt0) (kernelRun0_A.sl.r_82 c i hc0 xt0) (kernelRun0_A.sl.r_83 c i hc0 xt0) (kernelRun0_A.sl.r_84 c i hc0 xt0) (kernelRun0_A.sl.r_85 c i hc0 xt0) (kernelRun0_A.sl.r_86 c i hc0 xt0) (kernelRun0_A.sl.r_87 c i hc0 xt0) (kernelRun0_A.sl.r_88 c i hc0 xt0) (kernelRun0_A.sl.r_89 c i hc0 xt0) (kernelRun0_A.sl.r_90 c i hc0 xt0) (kernelRun0_A.sl.r_91 c i hc0 xt0) (kernelRun0_A.sl.r_92 c i hc0 xt0) (kernelRun0_A.sl.r_93 c i hc0 xt0) (kernelRun0_A.sl.r_94 c i hc0 xt0) (kernelRun0_A.sl.r_95 c i hc0 xt0) (kernelRun0_A.sl.r_96 c i hc0 xt0) (kernelRun0_A.sl.r_97 c i hc0 xt0) (kernelRun0_A.sl.r_98 c i hc0 xt0) i) hc0 kernelRun0_A.sl.v34 arg4 arg5 harg4 harg5 x0 x1 (in5_2 (kernelRun0_A.sl.r_67 c i hc0 xt0) (kernelRun0_A.sl.r_69 c i hc0 xt0) (kernelRun0_A.sl.r_71 c i hc0 xt0) (kernelRun0_A.sl.r_73 c i hc0 xt0) (kernelRun0_A.sl.r_75 c i hc0 xt0) (kernelRun0_A.sl.r_77 c i hc0 xt0) (kernelRun0_A.sl.r_79 c i hc0 xt0) (kernelRun0_A.sl.r_81 c i hc0 xt0) (kernelRun0_A.sl.r_83 c i hc0 xt0) (kernelRun0_A.sl.r_85 c i hc0 xt0) (kernelRun0_A.sl.r_87 c i hc0 xt0) (kernelRun0_A.sl.r_89 c i hc0 xt0) (kernelRun0_A.sl.r_91 c i hc0 xt0) (kernelRun0_A.sl.r_93 c i hc0 xt0) (kernelRun0_A.sl.r_95 c i hc0 xt0) (kernelRun0_A.sl.r_97 c i hc0 xt0)) (in4_2 (kernelRun0_A.sl.r_67 c i hc0 xt0) (kernelRun0_A.sl.r_69 c i hc0 xt0) (kernelRun0_A.sl.r_71 c i hc0 xt0) (kernelRun0_A.sl.r_73 c i hc0 xt0) (kernelRun0_A.sl.r_75 c i hc0 xt0) (kernelRun0_A.sl.r_77 c i hc0 xt0) (kernelRun0_A.sl.r_79 c i hc0 xt0) (kernelRun0_A.sl.r_81 c i hc0 xt0) (kernelRun0_A.sl.r_83 c i hc0 xt0) (kernelRun0_A.sl.r_85 c i hc0 xt0) (kernelRun0_A.sl.r_87 c i hc0 xt0) (kernelRun0_A.sl.r_89 c i hc0 xt0) (kernelRun0_A.sl.r_91 c i hc0 xt0) (kernelRun0_A.sl.r_93 c i hc0 xt0) (kernelRun0_A.sl.r_95 c i hc0 xt0) (kernelRun0_A.sl.r_97 c i hc0 xt0)) := by
  unfold kernelRun0_A.sl.v792
  refine (View.readCov_cons_toLoadRect arg13.view rXg _ _).trans ?_
  sl_kernel_rfl

include R in
theorem rows2 (p : Fin 128) (d : Fin 1024) (h : 256 + p.val < 512) :
    kernelRun0_A.sl.v792 c i arg4 harg4 arg5 harg5 arg13 hc0 x0 x1 xt0 (ix2 p d) = x0 (ix3 0 (tok ⟨256 + p.val, h⟩) d) := by
  rw [v792_eq, blockX2_apply, slotWord, wordsA2, wordsB2]
  exact R.row x0 d ⟨256 + p.val, h⟩ (lo := 256) (hi := 384) (Nat.le_add_right _ _) (by have := p.isLt; show 256 + p.val < 384; omega) (by decide)

include R in
theorem gates2 (p : Fin 128) (h : 256 + p.val < 512) :
    blockG2 i (kernelRun0_A.sl.r_67 c i hc0 xt0) (kernelRun0_A.sl.r_68 c i hc0 xt0) (kernelRun0_A.sl.r_69 c i hc0 xt0) (kernelRun0_A.sl.r_70 c i hc0 xt0) (kernelRun0_A.sl.r_71 c i hc0 xt0) (kernelRun0_A.sl.r_72 c i hc0 xt0) (kernelRun0_A.sl.r_73 c i hc0 xt0) (kernelRun0_A.sl.r_74 c i hc0 xt0) (kernelRun0_A.sl.r_75 c i hc0 xt0) (kernelRun0_A.sl.r_76 c i hc0 xt0) (kernelRun0_A.sl.r_77 c i hc0 xt0) (kernelRun0_A.sl.r_78 c i hc0 xt0) (kernelRun0_A.sl.r_79 c i hc0 xt0) (kernelRun0_A.sl.r_80 c i hc0 xt0) (kernelRun0_A.sl.r_81 c i hc0 xt0) (kernelRun0_A.sl.r_82 c i hc0 xt0) (kernelRun0_A.sl.r_83 c i hc0 xt0) (kernelRun0_A.sl.r_84 c i hc0 xt0) (kernelRun0_A.sl.r_85 c i hc0 xt0) (kernelRun0_A.sl.r_86 c i hc0 xt0) (kernelRun0_A.sl.r_87 c i hc0 xt0) (kernelRun0_A.sl.r_88 c i hc0 xt0) (kernelRun0_A.sl.r_89 c i hc0 xt0) (kernelRun0_A.sl.r_90 c i hc0 xt0) (kernelRun0_A.sl.r_91 c i hc0 xt0) (kernelRun0_A.sl.r_92 c i hc0 xt0) (kernelRun0_A.sl.r_93 c i hc0 xt0) (kernelRun0_A.sl.r_94 c i hc0 xt0) (kernelRun0_A.sl.r_95 c i hc0 xt0) (kernelRun0_A.sl.r_96 c i hc0 xt0) (kernelRun0_A.sl.r_97 c i hc0 xt0) (kernelRun0_A.sl.r_98 c i hc0 xt0) (k0_chk6_all (kernelRun0_A.sl.r_67 c i hc0 xt0) (kernelRun0_A.sl.r_68 c i hc0 xt0) (kernelRun0_A.sl.r_69 c i hc0 xt0) (kernelRun0_A.sl.r_70 c i hc0 xt0) (kernelRun0_A.sl.r_71 c i hc0 xt0) (kernelRun0_A.sl.r_72 c i hc0 xt0) (kernelRun0_A.sl.r_73 c i hc0 xt0) (kernelRun0_A.sl.r_74 c i hc0 xt0) (kernelRun0_A.sl.r_75 c i hc0 xt0) (kernelRun0_A.sl.r_76 c i hc0 xt0) (kernelRun0_A.sl.r_77 c i hc0 xt0) (kernelRun0_A.sl.r_78 c i hc0 xt0) (kernelRun0_A.sl.r_79 c i hc0 xt0) (kernelRun0_A.sl.r_80 c i hc0 xt0) (kernelRun0_A.sl.r_81 c i hc0 xt0) (kernelRun0_A.sl.r_82 c i hc0 xt0) (kernelRun0_A.sl.r_83 c i hc0 xt0) (kernelRun0_A.sl.r_84 c i hc0 xt0) (kernelRun0_A.sl.r_85 c i hc0 xt0) (kernelRun0_A.sl.r_86 c i hc0 xt0) (kernelRun0_A.sl.r_87 c i hc0 xt0) (kernelRun0_A.sl.r_88 c i hc0 xt0) (kernelRun0_A.sl.r_89 c i hc0 xt0) (kernelRun0_A.sl.r_90 c i hc0 xt0) (kernelRun0_A.sl.r_91 c i hc0 xt0) (kernelRun0_A.sl.r_92 c i hc0 xt0) (kernelRun0_A.sl.r_93 c i hc0 xt0) (kernelRun0_A.sl.r_94 c i hc0 xt0) (kernelRun0_A.sl.r_95 c i hc0 xt0) (kernelRun0_A.sl.r_96 c i hc0 xt0) (kernelRun0_A.sl.r_97 c i hc0 xt0) (kernelRun0_A.sl.r_98 c i hc0 xt0) i) hc0 kernelRun0_A.sl.v34 arg5 arg6 harg5 harg6 x1 x2 (in5_2 (kernelRun0_A.sl.r_67 c i hc0 xt0) (kernelRun0_A.sl.r_69 c i hc0 xt0) (kernelRun0_A.sl.r_71 c i hc0 xt0) (kernelRun0_A.sl.r_73 c i hc0 xt0) (kernelRun0_A.sl.r_75 c i hc0 xt0) (kernelRun0_A.sl.r_77 c i hc0 xt0) (kernelRun0_A.sl.r_79 c i hc0 xt0) (kernelRun0_A.sl.r_81 c i hc0 xt0) (kernelRun0_A.sl.r_83 c i hc0 xt0) (kernelRun0_A.sl.r_85 c i hc0 xt0) (kernelRun0_A.sl.r_87 c i hc0 xt0) (kernelRun0_A.sl.r_89 c i hc0 xt0) (kernelRun0_A.sl.r_91 c i hc0 xt0) (kernelRun0_A.sl.r_93 c i hc0 xt0) (kernelRun0_A.sl.r_95 c i hc0 xt0) (kernelRun0_A.sl.r_97 c i hc0 xt0)) (ix2 p 0) = x2 (ix4 0 0 0 (tok ⟨256 + p.val, h⟩)) := by
  rw [blockG2_apply, slotWord, wordsA2, wordsB2]
  exact R.gate x2 ⟨256 + p.val, h⟩ (lo := 256) (hi := 384) (Nat.le_add_right _ _) (by have := p.isLt; show 256 + p.val < 384; omega) (by decide)

end

/-! ### Block 3 -/

theorem in5_3 (v800 v813 v826 v839 v852 v865 v878 v891 v904 v917 v930 v943 v956 v969 v982 v995 : BitVec 32) : ∀ a, k0_off27 v800 v813 v826 v839 v852 v865 v878 v891 v904 v917 v930 v943 v956 v969 v982 v995 a + S1x1x1x1536.size a ≤ S1x1x1x4096.size a := by
  have := win_start_le (a := cntLe 384#32 [v800, v813, v826, v839, v852, v865, v878, v891, v904, v917, v930, v943, v956, v969, v982, v995]) (cnt_le _ _ (by simp))
  rw [k0_off27_eq]; exact fits4 (by omega)

theorem in4_3 (v800 v813 v826 v839 v852 v865 v878 v891 v904 v917 v930 v943 v956 v969 v982 v995 : BitVec 32) : ∀ a, k0_off28 v800 v813 v826 v839 v852 v865 v878 v891 v904 v917 v930 v943 v956 v969 v982 v995 a + S1x1536x1024.size a ≤ S1x4096x1024.size a := by
  have := win_start_le (a := cntLe 384#32 [v800, v813, v826, v839, v852, v865, v878, v891, v904, v917, v930, v943, v956, v969, v982, v995]) (cnt_le _ _ (by simp))
  rw [k0_off28_eq]; exact fits3 (by omega)

theorem wordsA3 (c : Dev nD) (i : grid0.Coords) (hc0 : cond0_0 i) (xt0 : TbBuf0 (F := Ideal) c tbM0_0) :
    [(kernelRun0_A.sl.r_101 c i hc0 xt0), (kernelRun0_A.sl.r_103 c i hc0 xt0), (kernelRun0_A.sl.r_105 c i hc0 xt0), (kernelRun0_A.sl.r_107 c i hc0 xt0), (kernelRun0_A.sl.r_109 c i hc0 xt0), (kernelRun0_A.sl.r_111 c i hc0 xt0), (kernelRun0_A.sl.r_113 c i hc0 xt0), (kernelRun0_A.sl.r_115 c i hc0 xt0), (kernelRun0_A.sl.r_117 c i hc0 xt0), (kernelRun0_A.sl.r_119 c i hc0 xt0), (kernelRun0_A.sl.r_121 c i hc0 xt0), (kernelRun0_A.sl.r_123 c i hc0 xt0), (kernelRun0_A.sl.r_125 c i hc0 xt0), (kernelRun0_A.sl.r_127 c i hc0 xt0), (kernelRun0_A.sl.r_129 c i hc0 xt0), (kernelRun0_A.sl.r_131 c i hc0 xt0)] = (List.range 16).map fun j => word xt0 i (j + 1) :=
  congrArg₂ List.cons (word_read c xt0 i 1 (by decide) _ (k0_off25_eq i ⟨0, by decide⟩) _ _) (congrArg₂ List.cons (word_read c xt0 i 2 (by decide) _ (k0_off25_eq i ⟨1, by decide⟩) _ _) (congrArg₂ List.cons (word_read c xt0 i 3 (by decide) _ (k0_off25_eq i ⟨2, by decide⟩) _ _) (congrArg₂ List.cons (word_read c xt0 i 4 (by decide) _ (k0_off25_eq i ⟨3, by decide⟩) _ _) (congrArg₂ List.cons (word_read c xt0 i 5 (by decide) _ (k0_off25_eq i ⟨4, by decide⟩) _ _) (congrArg₂ List.cons (word_read c xt0 i 6 (by decide) _ (k0_off25_eq i ⟨5, by decide⟩) _ _) (congrArg₂ List.cons (word_read c xt0 i 7 (by decide) _ (k0_off25_eq i ⟨6, by decide⟩) _ _) (congrArg₂ List.cons (word_read c xt0 i 8 (by decide) _ (k0_off25_eq i ⟨7, by decide⟩) _ _) (congrArg₂ List.cons (word_read c xt0 i 9 (by decide) _ (k0_off25_eq i ⟨8, by decide⟩) _ _) (congrArg₂ List.cons (word_read c xt0 i 10 (by decide) _ (k0_off25_eq i ⟨9, by decide⟩) _ _) (congrArg₂ List.cons (word_read c xt0 i 11 (by decide) _ (k0_off25_eq i ⟨10, by decide⟩) _ _) (congrArg₂ List.cons (word_read c xt0 i 12 (by decide) _ (k0_off25_eq i ⟨11, by decide⟩) _ _) (congrArg₂ List.cons (word_read c xt0 i 13 (by decide) _ (k0_off25_eq i ⟨12, by decide⟩) _ _) (congrArg₂ List.cons (word_read c xt0 i 14 (by decide) _ (k0_off25_eq i ⟨13, by decide⟩) _ _) (congrArg₂ List.cons (word_read c xt0 i 15 (by decide) _ (k0_off25_eq i ⟨14, by decide⟩) _ _) (congrArg₂ List.cons (word_read c xt0 i 16 (by decide) _ (k0_off25_eq i ⟨15, by decide⟩) _ _) (rfl))))))))))))))))

theorem wordsB3 (c : Dev nD) (i : grid0.Coords) (hc0 : cond0_0 i) (xt0 : TbBuf0 (F := Ideal) c tbM0_0) :
    [(kernelRun0_A.sl.r_102 c i hc0 xt0), (kernelRun0_A.sl.r_104 c i hc0 xt0), (kernelRun0_A.sl.r_106 c i hc0 xt0), (kernelRun0_A.sl.r_108 c i hc0 xt0), (kernelRun0_A.sl.r_110 c i hc0 xt0), (kernelRun0_A.sl.r_112 c i hc0 xt0), (kernelRun0_A.sl.r_114 c i hc0 xt0), (kernelRun0_A.sl.r_116 c i hc0 xt0), (kernelRun0_A.sl.r_118 c i hc0 xt0), (kernelRun0_A.sl.r_120 c i hc0 xt0), (kernelRun0_A.sl.r_122 c i hc0 xt0), (kernelRun0_A.sl.r_124 c i hc0 xt0), (kernelRun0_A.sl.r_126 c i hc0 xt0), (kernelRun0_A.sl.r_128 c i hc0 xt0), (kernelRun0_A.sl.r_130 c i hc0 xt0), (kernelRun0_A.sl.r_132 c i hc0 xt0)] = (List.range 16).map fun j => word xt0 i j :=
  congrArg₂ List.cons (word_read c xt0 i 0 (by decide) _ (k0_off26_eq i ⟨0, by decide⟩) _ _) (congrArg₂ List.cons (word_read c xt0 i 1 (by decide) _ (k0_off26_eq i ⟨1, by decide⟩) _ _) (congrArg₂ List.cons (word_read c xt0 i 2 (by decide) _ (k0_off26_eq i ⟨2, by decide⟩) _ _) (congrArg₂ List.cons (word_read c xt0 i 3 (by decide) _ (k0_off26_eq i ⟨3, by decide⟩) _ _) (congrArg₂ List.cons (word_read c xt0 i 4 (by decide) _ (k0_off26_eq i ⟨4, by decide⟩) _ _) (congrArg₂ List.cons (word_read c xt0 i 5 (by decide) _ (k0_off26_eq i ⟨5, by decide⟩) _ _) (congrArg₂ List.cons (word_read c xt0 i 6 (by decide) _ (k0_off26_eq i ⟨6, by decide⟩) _ _) (congrArg₂ List.cons (word_read c xt0 i 7 (by decide) _ (k0_off26_eq i ⟨7, by decide⟩) _ _) (congrArg₂ List.cons (word_read c xt0 i 8 (by decide) _ (k0_off26_eq i ⟨8, by decide⟩) _ _) (congrArg₂ List.cons (word_read c xt0 i 9 (by decide) _ (k0_off26_eq i ⟨9, by decide⟩) _ _) (congrArg₂ List.cons (word_read c xt0 i 10 (by decide) _ (k0_off26_eq i ⟨10, by decide⟩) _ _) (congrArg₂ List.cons (word_read c xt0 i 11 (by decide) _ (k0_off26_eq i ⟨11, by decide⟩) _ _) (congrArg₂ List.cons (word_read c xt0 i 12 (by decide) _ (k0_off26_eq i ⟨12, by decide⟩) _ _) (congrArg₂ List.cons (word_read c xt0 i 13 (by decide) _ (k0_off26_eq i ⟨13, by decide⟩) _ _) (congrArg₂ List.cons (word_read c xt0 i 14 (by decide) _ (k0_off26_eq i ⟨14, by decide⟩) _ _) (congrArg₂ List.cons (word_read c xt0 i 15 (by decide) _ (k0_off26_eq i ⟨15, by decide⟩) _ _) (rfl))))))))))))))))

section
variable (c : Dev nD) (i : grid0.Coords) (arg4 : Memref sig .tc .vmem S1x4096x1024 .bf16) (harg4 : arg4.IsWhole) (arg5 : Memref sig .tc .vmem S1x1x1x4096 .i32) (harg5 : arg5.IsWhole)
  (arg6 : Memref sig .tc .vmem S1x1x1x4096 .f32) (harg6 : arg6.IsWhole) (arg13 : Memref sig .tc .vmem S128x1024 .f32) (hc0 : cond0_0 i)
  (x0 : Vec Ideal S1x4096x1024 .bf16) (x1 : Vec Ideal S1x1x1x4096 .i32) (x2 : Vec Ideal S1x1x1x4096 .f32) (xt0 : TbBuf0 (F := Ideal) c tbM0_0)
  {tok : Fin 512 → Fin 4096} (R : Routed (word xt0 i) x1 tok)

theorem v1046_eq : kernelRun0_A.sl.v1046 c i arg4 harg4 arg5 harg5 arg13 hc0 x0 x1 xt0 = blockX3 i (kernelRun0_A.sl.r_101 c i hc0 xt0) (kernelRun0_A.sl.r_102 c i hc0 xt0) (kernelRun0_A.sl.r_103 c i hc0 xt0) (kernelRun0_A.sl.r_104 c i hc0 xt0) (kernelRun0_A.sl.r_105 c i hc0 xt0) (kernelRun0_A.sl.r_106 c i hc0 xt0) (kernelRun0_A.sl.r_107 c i hc0 xt0) (kernelRun0_A.sl.r_108 c i hc0 xt0) (kernelRun0_A.sl.r_109 c i hc0 xt0) (kernelRun0_A.sl.r_110 c i hc0 xt0) (kernelRun0_A.sl.r_111 c i hc0 xt0) (kernelRun0_A.sl.r_112 c i hc0 xt0) (kernelRun0_A.sl.r_113 c i hc0 xt0) (kernelRun0_A.sl.r_114 c i hc0 xt0) (kernelRun0_A.sl.r_115 c i hc0 xt0) (kernelRun0_A.sl.r_116 c i hc0 xt0) (kernelRun0_A.sl.r_117 c i hc0 xt0) (kernelRun0_A.sl.r_118 c i hc0 xt0) (kernelRun0_A.sl.r_119 c i hc0 xt0) (kernelRun0_A.sl.r_120 c i hc0 xt0) (kernelRun0_A.sl.r_121 c i hc0 xt0) (kernelRun0_A.sl.r_122 c i hc0 xt0) (kernelRun0_A.sl.r_123 c i hc0 xt0) (kernelRun0_A.sl.r_124 c i hc0 xt0) (kernelRun0_A.sl.r_125 c i hc0 xt0) (kernelRun0_A.sl.r_126 c i hc0 xt0) (kernelRun0_A.sl.r_127 c i hc0 xt0) (kernelRun0_A.sl.r_128 c i hc0 xt0) (kernelRun0_A.sl.r_129 c i hc0 xt0) (kernelRun0_A.sl.r_130 c i hc0 xt0) (kernelRun0_A.sl.r_131 c i hc0 xt0) (kernelRun0_A.sl.r_132 c i hc0 xt0) (k0_chk8_all (kernelRun0_A.sl.r_101 c i hc0 xt0) (kernelRun0_A.sl.r_102 c i hc0 xt0) (kernelRun0_A.sl.r_103 c i hc0 xt0) (kernelRun0_A.sl.r_104 c i hc0 xt0) (kernelRun0_A.sl.r_105 c i hc0 xt0) (kernelRun0_A.sl.r_106 c i hc0 xt0) (kernelRun0_A.sl.r_107 c i hc0 xt0) (kernelRun0_A.sl.r_108 c i hc0 xt0) (kernelRun0_A.sl.r_109 c i hc0 xt0) (kernelRun0_A.sl.r_110 c i hc0 xt0) (kernelRun0_A.sl.r_111 c i hc0 xt0) (kernelRun0_A.sl.r_112 c i hc0 xt0) (kernelRun0_A.sl.r_113 c i hc0 xt0) (kernelRun0_A.sl.r_114 c i hc0 xt0) (kernelRun0_A.sl.r_115 c i hc0 xt0) (kernelRun0_A.sl.r_116 c i hc0 xt0) (kernelRun0_A.sl.r_117 c i hc0 xt0) (kernelRun0_A.sl.r_118 c i hc0 xt0) (kernelRun0_A.sl.r_119 c i hc0 xt0) (kernelRun0_A.sl.r_120 c i hc0 xt0) (kernelRun0_A.sl.r_121 c i hc0 xt0) (kernelRun0_A.sl.r_122 c i hc0 xt0) (kernelRun0_A.sl.r_123 c i hc0 xt0) (kernelRun0_A.sl.r_124 c i hc0 xt0) (kernelRun0_A.sl.r_125 c i hc0 xt0) (kernelRun0_A.sl.r_126 c i hc0 xt0) (kernelRun0_A.sl.r_127 c i hc0 xt0) (kernelRun0_A.sl.r_128 c i hc0 xt0) (kernelRun0_A.sl.r_129 c i hc0 xt0) (kernelRun0_A.sl.r_130 c i hc0 xt0) (kernelRun0_A.sl.r_131 c i hc0 xt0) (kernelRun0_A.sl.r_132 c i hc0 xt0) i) hc0 kernelRun0_A.sl.v34 arg4 arg5 harg4 harg5 x0 x1 (in5_3 (kernelRun0_A.sl.r_101 c i hc0 xt0) (kernelRun0_A.sl.r_103 c i hc0 xt0) (kernelRun0_A.sl.r_105 c i hc0 xt0) (kernelRun0_A.sl.r_107 c i hc0 xt0) (kernelRun0_A.sl.r_109 c i hc0 xt0) (kernelRun0_A.sl.r_111 c i hc0 xt0) (kernelRun0_A.sl.r_113 c i hc0 xt0) (kernelRun0_A.sl.r_115 c i hc0 xt0) (kernelRun0_A.sl.r_117 c i hc0 xt0) (kernelRun0_A.sl.r_119 c i hc0 xt0) (kernelRun0_A.sl.r_121 c i hc0 xt0) (kernelRun0_A.sl.r_123 c i hc0 xt0) (kernelRun0_A.sl.r_125 c i hc0 xt0) (kernelRun0_A.sl.r_127 c i hc0 xt0) (kernelRun0_A.sl.r_129 c i hc0 xt0) (kernelRun0_A.sl.r_131 c i hc0 xt0)) (in4_3 (kernelRun0_A.sl.r_101 c i hc0 xt0) (kernelRun0_A.sl.r_103 c i hc0 xt0) (kernelRun0_A.sl.r_105 c i hc0 xt0) (kernelRun0_A.sl.r_107 c i hc0 xt0) (kernelRun0_A.sl.r_109 c i hc0 xt0) (kernelRun0_A.sl.r_111 c i hc0 xt0) (kernelRun0_A.sl.r_113 c i hc0 xt0) (kernelRun0_A.sl.r_115 c i hc0 xt0) (kernelRun0_A.sl.r_117 c i hc0 xt0) (kernelRun0_A.sl.r_119 c i hc0 xt0) (kernelRun0_A.sl.r_121 c i hc0 xt0) (kernelRun0_A.sl.r_123 c i hc0 xt0) (kernelRun0_A.sl.r_125 c i hc0 xt0) (kernelRun0_A.sl.r_127 c i hc0 xt0) (kernelRun0_A.sl.r_129 c i hc0 xt0) (kernelRun0_A.sl.r_131 c i hc0 xt0)) := by
  unfold kernelRun0_A.sl.v1046
  refine (View.readCov_cons_toLoadRect arg13.view rXg _ _).trans ?_
  sl_kernel_rfl

include R in
theorem rows3 (p : Fin 128) (d : Fin 1024) (h : 384 + p.val < 512) :
    kernelRun0_A.sl.v1046 c i arg4 harg4 arg5 harg5 arg13 hc0 x0 x1 xt0 (ix2 p d) = x0 (ix3 0 (tok ⟨384 + p.val, h⟩) d) := by
  rw [v1046_eq, blockX3_apply, slotWord, wordsA3, wordsB3]
  exact R.row x0 d ⟨384 + p.val, h⟩ (lo := 384) (hi := 512) (Nat.le_add_right _ _) (by have := p.isLt; show 384 + p.val < 512; omega) (by decide)

include R in
theorem gates3 (p : Fin 128) (h : 384 + p.val < 512) :
    blockG3 i (kernelRun0_A.sl.r_101 c i hc0 xt0) (kernelRun0_A.sl.r_102 c i hc0 xt0) (kernelRun0_A.sl.r_103 c i hc0 xt0) (kernelRun0_A.sl.r_104 c i hc0 xt0) (kernelRun0_A.sl.r_105 c i hc0 xt0) (kernelRun0_A.sl.r_106 c i hc0 xt0) (kernelRun0_A.sl.r_107 c i hc0 xt0) (kernelRun0_A.sl.r_108 c i hc0 xt0) (kernelRun0_A.sl.r_109 c i hc0 xt0) (kernelRun0_A.sl.r_110 c i hc0 xt0) (kernelRun0_A.sl.r_111 c i hc0 xt0) (kernelRun0_A.sl.r_112 c i hc0 xt0) (kernelRun0_A.sl.r_113 c i hc0 xt0) (kernelRun0_A.sl.r_114 c i hc0 xt0) (kernelRun0_A.sl.r_115 c i hc0 xt0) (kernelRun0_A.sl.r_116 c i hc0 xt0) (kernelRun0_A.sl.r_117 c i hc0 xt0) (kernelRun0_A.sl.r_118 c i hc0 xt0) (kernelRun0_A.sl.r_119 c i hc0 xt0) (kernelRun0_A.sl.r_120 c i hc0 xt0) (kernelRun0_A.sl.r_121 c i hc0 xt0) (kernelRun0_A.sl.r_122 c i hc0 xt0) (kernelRun0_A.sl.r_123 c i hc0 xt0) (kernelRun0_A.sl.r_124 c i hc0 xt0) (kernelRun0_A.sl.r_125 c i hc0 xt0) (kernelRun0_A.sl.r_126 c i hc0 xt0) (kernelRun0_A.sl.r_127 c i hc0 xt0) (kernelRun0_A.sl.r_128 c i hc0 xt0) (kernelRun0_A.sl.r_129 c i hc0 xt0) (kernelRun0_A.sl.r_130 c i hc0 xt0) (kernelRun0_A.sl.r_131 c i hc0 xt0) (kernelRun0_A.sl.r_132 c i hc0 xt0) (k0_chk8_all (kernelRun0_A.sl.r_101 c i hc0 xt0) (kernelRun0_A.sl.r_102 c i hc0 xt0) (kernelRun0_A.sl.r_103 c i hc0 xt0) (kernelRun0_A.sl.r_104 c i hc0 xt0) (kernelRun0_A.sl.r_105 c i hc0 xt0) (kernelRun0_A.sl.r_106 c i hc0 xt0) (kernelRun0_A.sl.r_107 c i hc0 xt0) (kernelRun0_A.sl.r_108 c i hc0 xt0) (kernelRun0_A.sl.r_109 c i hc0 xt0) (kernelRun0_A.sl.r_110 c i hc0 xt0) (kernelRun0_A.sl.r_111 c i hc0 xt0) (kernelRun0_A.sl.r_112 c i hc0 xt0) (kernelRun0_A.sl.r_113 c i hc0 xt0) (kernelRun0_A.sl.r_114 c i hc0 xt0) (kernelRun0_A.sl.r_115 c i hc0 xt0) (kernelRun0_A.sl.r_116 c i hc0 xt0) (kernelRun0_A.sl.r_117 c i hc0 xt0) (kernelRun0_A.sl.r_118 c i hc0 xt0) (kernelRun0_A.sl.r_119 c i hc0 xt0) (kernelRun0_A.sl.r_120 c i hc0 xt0) (kernelRun0_A.sl.r_121 c i hc0 xt0) (kernelRun0_A.sl.r_122 c i hc0 xt0) (kernelRun0_A.sl.r_123 c i hc0 xt0) (kernelRun0_A.sl.r_124 c i hc0 xt0) (kernelRun0_A.sl.r_125 c i hc0 xt0) (kernelRun0_A.sl.r_126 c i hc0 xt0) (kernelRun0_A.sl.r_127 c i hc0 xt0) (kernelRun0_A.sl.r_128 c i hc0 xt0) (kernelRun0_A.sl.r_129 c i hc0 xt0) (kernelRun0_A.sl.r_130 c i hc0 xt0) (kernelRun0_A.sl.r_131 c i hc0 xt0) (kernelRun0_A.sl.r_132 c i hc0 xt0) i) hc0 kernelRun0_A.sl.v34 arg5 arg6 harg5 harg6 x1 x2 (in5_3 (kernelRun0_A.sl.r_101 c i hc0 xt0) (kernelRun0_A.sl.r_103 c i hc0 xt0) (kernelRun0_A.sl.r_105 c i hc0 xt0) (kernelRun0_A.sl.r_107 c i hc0 xt0) (kernelRun0_A.sl.r_109 c i hc0 xt0) (kernelRun0_A.sl.r_111 c i hc0 xt0) (kernelRun0_A.sl.r_113 c i hc0 xt0) (kernelRun0_A.sl.r_115 c i hc0 xt0) (kernelRun0_A.sl.r_117 c i hc0 xt0) (kernelRun0_A.sl.r_119 c i hc0 xt0) (kernelRun0_A.sl.r_121 c i hc0 xt0) (kernelRun0_A.sl.r_123 c i hc0 xt0) (kernelRun0_A.sl.r_125 c i hc0 xt0) (kernelRun0_A.sl.r_127 c i hc0 xt0) (kernelRun0_A.sl.r_129 c i hc0 xt0) (kernelRun0_A.sl.r_131 c i hc0 xt0)) (ix2 p 0) = x2 (ix4 0 0 0 (tok ⟨384 + p.val, h⟩)) := by
  rw [blockG3_apply, slotWord, wordsA3, wordsB3]
  exact R.gate x2 ⟨384 + p.val, h⟩ (lo := 384) (hi := 512) (Nat.le_add_right _ _) (by have := p.isLt; show 384 + p.val < 512; omega) (by decide)

end

/-! ### The pieces, together -/

theorem rowsPiece (lo : ℕ) (inb : ∀ a, (![lo, 0] : Fin 2 → ℕ) a + S128x1024.size a ≤ S512x1024.size a) (x0 : Vec Ideal S1x4096x1024 .bf16) (tok : Fin 512 → Fin 4096)
    (v : Vec Ideal S128x1024 .bf16) (h : ∀ (p : Fin 128) (d : Fin 1024) (h : lo + p.val < 512), v (ix2 p d) = x0 (ix3 0 (tok ⟨lo + p.val, h⟩) d))
    (x : (Rect.unit (s := S512x1024) ![lo, 0] S128x1024.size inb).shape.Idx) :
    v x = (fun y : S512x1024.Idx => x0 (ix3 0 (tok (y 0)) (y 1))) ((Rect.unit (s := S512x1024) ![lo, 0] S128x1024.size inb).emb x) := by
  have hlo : lo + 128 ≤ 512 := inb 0
  have hx : x = ix2 (n0 := 128) (n1 := 1024) (x 0) (x 1) := eq_ix2 x
  have e0 : ((Rect.unit (s := S512x1024) ![lo, 0] S128x1024.size inb).emb x) 0 = ⟨lo + (x 0).val, by have : (x 0).val < 128 := (x 0).isLt; show lo + (x 0).val < 512; omega⟩ :=
    Fin.ext (by show lo + 1 * (x 0).val = lo + (x 0).val; omega)
  have e1 : ((Rect.unit (s := S512x1024) ![lo, 0] S128x1024.size inb).emb x) 1 = (x 1 : Fin 1024) := Fin.ext (by show 0 + 1 * (x 1).val = (x 1).val; omega)
  show v x = x0 (ix3 0 (tok (((Rect.unit (s := S512x1024) ![lo, 0] S128x1024.size inb).emb x) 0)) (((Rect.unit (s := S512x1024) ![lo, 0] S128x1024.size inb).emb x) 1))
  rw [e0, e1]
  exact (congrArg v hx).trans (h (x 0) (x 1) _)

theorem gatesPiece (lo : ℕ) (inb : ∀ a, (![lo, 0] : Fin 2 → ℕ) a + S128x1.size a ≤ S512x1.size a) (x2 : Vec Ideal S1x1x1x4096 .f32) (tok : Fin 512 → Fin 4096)
    (v : Vec Ideal S128x1 .f32) (h : ∀ (p : Fin 128) (h : lo + p.val < 512), v (ix2 p 0) = x2 (ix4 0 0 0 (tok ⟨lo + p.val, h⟩)))
    (x : (Rect.unit (s := S512x1) ![lo, 0] S128x1.size inb).shape.Idx) :
    v x = (fun y : S512x1.Idx => x2 (ix4 0 0 0 (tok (y 0)))) ((Rect.unit (s := S512x1) ![lo, 0] S128x1.size inb).emb x) := by
  have hlo : lo + 128 ≤ 512 := inb 0
  have hx : x = ix2 (n0 := 128) (n1 := 1) (x 0) 0 := (eq_ix2 x).trans (congrArg (ix2 (n0 := 128) (n1 := 1) (x 0)) (Subsingleton.elim _ _))
  have e0 : ((Rect.unit (s := S512x1) ![lo, 0] S128x1.size inb).emb x) 0 = ⟨lo + (x 0).val, by have : (x 0).val < 128 := (x 0).isLt; show lo + (x 0).val < 512; omega⟩ :=
    Fin.ext (by show lo + 1 * (x 0).val = lo + (x 0).val; omega)
  show v x = x2 (ix4 0 0 0 (tok (((Rect.unit (s := S512x1) ![lo, 0] S128x1.size inb).emb x) 0)))
  rw [e0]
  exact (congrArg v hx).trans (h (x 0) _)

theorem gates_at (x2 : Vec Ideal S1x1x1x4096 .f32) (tok : Fin 512 → Fin 4096) (g0 g1 g2 g3 : Vec Ideal S128x1 .f32)
    (h0 : ∀ (p : Fin 128) (h : 0 + p.val < 512), g0 (ix2 p 0) = x2 (ix4 0 0 0 (tok ⟨0 + p.val, h⟩)))
    (h1 : ∀ (p : Fin 128) (h : 128 + p.val < 512), g1 (ix2 p 0) = x2 (ix4 0 0 0 (tok ⟨128 + p.val, h⟩)))
    (h2 : ∀ (p : Fin 128) (h : 256 + p.val < 512), g2 (ix2 p 0) = x2 (ix4 0 0 0 (tok ⟨256 + p.val, h⟩)))
    (h3 : ∀ (p : Fin 128) (h : 384 + p.val < 512), g3 (ix2 p 0) = x2 (ix4 0 0 0 (tok ⟨384 + p.val, h⟩)))
    (L : List (View.Piece (Elt Ideal) S512x1 .f32)) (hL : L = [⟨rG3, g3⟩, ⟨rG2, g2⟩, ⟨rG1, g1⟩, ⟨rG0, g0⟩]) (y : S512x1.Idx) (hy : ∃ p ∈ L, y ∈ p.1.set) :
    View.canon L y = x2 (ix4 0 0 0 (tok (y 0))) := by
  refine View.canon_apply_of_pieces (fun y => x2 (ix4 0 0 0 (tok (y 0)))) _ ?_ y hy
  intro p hp x
  rw [hL] at hp
  rcases List.mem_cons.mp hp with rfl | hp
  · exact gatesPiece 384 inb_S512x1_S128x1_384_0 x2 tok _ h3 x
  rcases List.mem_cons.mp hp with rfl | hp
  · exact gatesPiece 256 inb_S512x1_S128x1_256_0 x2 tok _ h2 x
  rcases List.mem_cons.mp hp with rfl | hp
  · exact gatesPiece 128 inb_S512x1_S128x1_128_0 x2 tok _ h1 x
  rcases List.mem_cons.mp hp with rfl | hp
  · exact gatesPiece 0 inb_S512x1_S128x1_0_0 x2 tok _ h0 x
  exact absurd hp (List.not_mem_nil)

theorem trunc0 (v : Vec Ideal S128x1024 .f32) : k0_pay31 v = v := by
  have e : k0_pay31 v = shapeCast S128x1024 (truncf .bf16 v bitsLt_bf16_f32) shapeCasts_S128x1024_S128x1024 := rfl
  rw [e, shapeCast_self]; rfl

theorem trunc1 (v : Vec Ideal S128x1024 .f32) : k0_pay40 v = v := by
  have e : k0_pay40 v = shapeCast S128x1024 (truncf .bf16 v bitsLt_bf16_f32) shapeCasts_S128x1024_S128x1024 := rfl
  rw [e, shapeCast_self]; rfl

theorem trunc2 (v : Vec Ideal S128x1024 .f32) : k0_pay47 v = v := by
  have e : k0_pay47 v = shapeCast S128x1024 (truncf .bf16 v bitsLt_bf16_f32) shapeCasts_S128x1024_S128x1024 := rfl
  rw [e, shapeCast_self]; rfl

theorem trunc3 (v : Vec Ideal S128x1024 .f32) : k0_pay53 v = v := by
  have e : k0_pay53 v = shapeCast S128x1024 (truncf .bf16 v bitsLt_bf16_f32) shapeCasts_S128x1024_S128x1024 := rfl
  rw [e, shapeCast_self]; rfl

section
variable  (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : cond0_0 i) (hc1 : ¬cond0_1 i)
    (x0 : Vec Ideal S1x4096x1024 .bf16) (x1 : Vec Ideal S1x1x1x4096 .i32) (x2 : Vec Ideal S1x1x1x4096 .f32) (x3 : Vec Ideal S1x1024x1024 .bf16) (x4 : Vec Ideal S1x1024x1024 .bf16) (x5 : Vec Ideal S1x1024x1024 .bf16) (xt0 : TbBuf0 (F := Ideal) c tbM0_0)
  {tok : Fin 512 → Fin 4096} (R : Routed (word xt0 i) x1 tok)

theorem piecesG : (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.2.2.1 = [⟨rG3, blockG3 i (kernelRun0_A.sl.r_101 c i hc0 xt0) (kernelRun0_A.sl.r_102 c i hc0 xt0) (kernelRun0_A.sl.r_103 c i hc0 xt0) (kernelRun0_A.sl.r_104 c i hc0 xt0) (kernelRun0_A.sl.r_105 c i hc0 xt0) (kernelRun0_A.sl.r_106 c i hc0 xt0) (kernelRun0_A.sl.r_107 c i hc0 xt0) (kernelRun0_A.sl.r_108 c i hc0 xt0) (kernelRun0_A.sl.r_109 c i hc0 xt0) (kernelRun0_A.sl.r_110 c i hc0 xt0) (kernelRun0_A.sl.r_111 c i hc0 xt0) (kernelRun0_A.sl.r_112 c i hc0 xt0) (kernelRun0_A.sl.r_113 c i hc0 xt0) (kernelRun0_A.sl.r_114 c i hc0 xt0) (kernelRun0_A.sl.r_115 c i hc0 xt0) (kernelRun0_A.sl.r_116 c i hc0 xt0) (kernelRun0_A.sl.r_117 c i hc0 xt0) (kernelRun0_A.sl.r_118 c i hc0 xt0) (kernelRun0_A.sl.r_119 c i hc0 xt0) (kernelRun0_A.sl.r_120 c i hc0 xt0) (kernelRun0_A.sl.r_121 c i hc0 xt0) (kernelRun0_A.sl.r_122 c i hc0 xt0) (kernelRun0_A.sl.r_123 c i hc0 xt0) (kernelRun0_A.sl.r_124 c i hc0 xt0) (kernelRun0_A.sl.r_125 c i hc0 xt0) (kernelRun0_A.sl.r_126 c i hc0 xt0) (kernelRun0_A.sl.r_127 c i hc0 xt0) (kernelRun0_A.sl.r_128 c i hc0 xt0) (kernelRun0_A.sl.r_129 c i hc0 xt0) (kernelRun0_A.sl.r_130 c i hc0 xt0) (kernelRun0_A.sl.r_131 c i hc0 xt0) (kernelRun0_A.sl.r_132 c i hc0 xt0) (k0_chk8_all (kernelRun0_A.sl.r_101 c i hc0 xt0) (kernelRun0_A.sl.r_102 c i hc0 xt0) (kernelRun0_A.sl.r_103 c i hc0 xt0) (kernelRun0_A.sl.r_104 c i hc0 xt0) (kernelRun0_A.sl.r_105 c i hc0 xt0) (kernelRun0_A.sl.r_106 c i hc0 xt0) (kernelRun0_A.sl.r_107 c i hc0 xt0) (kernelRun0_A.sl.r_108 c i hc0 xt0) (kernelRun0_A.sl.r_109 c i hc0 xt0) (kernelRun0_A.sl.r_110 c i hc0 xt0) (kernelRun0_A.sl.r_111 c i hc0 xt0) (kernelRun0_A.sl.r_112 c i hc0 xt0) (kernelRun0_A.sl.r_113 c i hc0 xt0) (kernelRun0_A.sl.r_114 c i hc0 xt0) (kernelRun0_A.sl.r_115 c i hc0 xt0) (kernelRun0_A.sl.r_116 c i hc0 xt0) (kernelRun0_A.sl.r_117 c i hc0 xt0) (kernelRun0_A.sl.r_118 c i hc0 xt0) (kernelRun0_A.sl.r_119 c i hc0 xt0) (kernelRun0_A.sl.r_120 c i hc0 xt0) (kernelRun0_A.sl.r_121 c i hc0 xt0) (kernelRun0_A.sl.r_122 c i hc0 xt0) (kernelRun0_A.sl.r_123 c i hc0 xt0) (kernelRun0_A.sl.r_124 c i hc0 xt0) (kernelRun0_A.sl.r_125 c i hc0 xt0) (kernelRun0_A.sl.r_126 c i hc0 xt0) (kernelRun0_A.sl.r_127 c i hc0 xt0) (kernelRun0_A.sl.r_128 c i hc0 xt0) (kernelRun0_A.sl.r_129 c i hc0 xt0) (kernelRun0_A.sl.r_130 c i hc0 xt0) (kernelRun0_A.sl.r_131 c i hc0 xt0) (kernelRun0_A.sl.r_132 c i hc0 xt0) i) hc0 kernelRun0_A.sl.v34 arg5 arg6 harg5 harg6 x1 x2 (in5_3 (kernelRun0_A.sl.r_101 c i hc0 xt0) (kernelRun0_A.sl.r_103 c i hc0 xt0) (kernelRun0_A.sl.r_105 c i hc0 xt0) (kernelRun0_A.sl.r_107 c i hc0 xt0) (kernelRun0_A.sl.r_109 c i hc0 xt0) (kernelRun0_A.sl.r_111 c i hc0 xt0) (kernelRun0_A.sl.r_113 c i hc0 xt0) (kernelRun0_A.sl.r_115 c i hc0 xt0) (kernelRun0_A.sl.r_117 c i hc0 xt0) (kernelRun0_A.sl.r_119 c i hc0 xt0) (kernelRun0_A.sl.r_121 c i hc0 xt0) (kernelRun0_A.sl.r_123 c i hc0 xt0) (kernelRun0_A.sl.r_125 c i hc0 xt0) (kernelRun0_A.sl.r_127 c i hc0 xt0) (kernelRun0_A.sl.r_129 c i hc0 xt0) (kernelRun0_A.sl.r_131 c i hc0 xt0))⟩, ⟨rG2, blockG2 i (kernelRun0_A.sl.r_67 c i hc0 xt0) (kernelRun0_A.sl.r_68 c i hc0 xt0) (kernelRun0_A.sl.r_69 c i hc0 xt0) (kernelRun0_A.sl.r_70 c i hc0 xt0) (kernelRun0_A.sl.r_71 c i hc0 xt0) (kernelRun0_A.sl.r_72 c i hc0 xt0) (kernelRun0_A.sl.r_73 c i hc0 xt0) (kernelRun0_A.sl.r_74 c i hc0 xt0) (kernelRun0_A.sl.r_75 c i hc0 xt0) (kernelRun0_A.sl.r_76 c i hc0 xt0) (kernelRun0_A.sl.r_77 c i hc0 xt0) (kernelRun0_A.sl.r_78 c i hc0 xt0) (kernelRun0_A.sl.r_79 c i hc0 xt0) (kernelRun0_A.sl.r_80 c i hc0 xt0) (kernelRun0_A.sl.r_81 c i hc0 xt0) (kernelRun0_A.sl.r_82 c i hc0 xt0) (kernelRun0_A.sl.r_83 c i hc0 xt0) (kernelRun0_A.sl.r_84 c i hc0 xt0) (kernelRun0_A.sl.r_85 c i hc0 xt0) (kernelRun0_A.sl.r_86 c i hc0 xt0) (kernelRun0_A.sl.r_87 c i hc0 xt0) (kernelRun0_A.sl.r_88 c i hc0 xt0) (kernelRun0_A.sl.r_89 c i hc0 xt0) (kernelRun0_A.sl.r_90 c i hc0 xt0) (kernelRun0_A.sl.r_91 c i hc0 xt0) (kernelRun0_A.sl.r_92 c i hc0 xt0) (kernelRun0_A.sl.r_93 c i hc0 xt0) (kernelRun0_A.sl.r_94 c i hc0 xt0) (kernelRun0_A.sl.r_95 c i hc0 xt0) (kernelRun0_A.sl.r_96 c i hc0 xt0) (kernelRun0_A.sl.r_97 c i hc0 xt0) (kernelRun0_A.sl.r_98 c i hc0 xt0) (k0_chk6_all (kernelRun0_A.sl.r_67 c i hc0 xt0) (kernelRun0_A.sl.r_68 c i hc0 xt0) (kernelRun0_A.sl.r_69 c i hc0 xt0) (kernelRun0_A.sl.r_70 c i hc0 xt0) (kernelRun0_A.sl.r_71 c i hc0 xt0) (kernelRun0_A.sl.r_72 c i hc0 xt0) (kernelRun0_A.sl.r_73 c i hc0 xt0) (kernelRun0_A.sl.r_74 c i hc0 xt0) (kernelRun0_A.sl.r_75 c i hc0 xt0) (kernelRun0_A.sl.r_76 c i hc0 xt0) (kernelRun0_A.sl.r_77 c i hc0 xt0) (kernelRun0_A.sl.r_78 c i hc0 xt0) (kernelRun0_A.sl.r_79 c i hc0 xt0) (kernelRun0_A.sl.r_80 c i hc0 xt0) (kernelRun0_A.sl.r_81 c i hc0 xt0) (kernelRun0_A.sl.r_82 c i hc0 xt0) (kernelRun0_A.sl.r_83 c i hc0 xt0) (kernelRun0_A.sl.r_84 c i hc0 xt0) (kernelRun0_A.sl.r_85 c i hc0 xt0) (kernelRun0_A.sl.r_86 c i hc0 xt0) (kernelRun0_A.sl.r_87 c i hc0 xt0) (kernelRun0_A.sl.r_88 c i hc0 xt0) (kernelRun0_A.sl.r_89 c i hc0 xt0) (kernelRun0_A.sl.r_90 c i hc0 xt0) (kernelRun0_A.sl.r_91 c i hc0 xt0) (kernelRun0_A.sl.r_92 c i hc0 xt0) (kernelRun0_A.sl.r_93 c i hc0 xt0) (kernelRun0_A.sl.r_94 c i hc0 xt0) (kernelRun0_A.sl.r_95 c i hc0 xt0) (kernelRun0_A.sl.r_96 c i hc0 xt0) (kernelRun0_A.sl.r_97 c i hc0 xt0) (kernelRun0_A.sl.r_98 c i hc0 xt0) i) hc0 kernelRun0_A.sl.v34 arg5 arg6 harg5 harg6 x1 x2 (in5_2 (kernelRun0_A.sl.r_67 c i hc0 xt0) (kernelRun0_A.sl.r_69 c i hc0 xt0) (kernelRun0_A.sl.r_71 c i hc0 xt0) (kernelRun0_A.sl.r_73 c i hc0 xt0) (kernelRun0_A.sl.r_75 c i hc0 xt0) (kernelRun0_A.sl.r_77 c i hc0 xt0) (kernelRun0_A.sl.r_79 c i hc0 xt0) (kernelRun0_A.sl.r_81 c i hc0 xt0) (kernelRun0_A.sl.r_83 c i hc0 xt0) (kernelRun0_A.sl.r_85 c i hc0 xt0) (kernelRun0_A.sl.r_87 c i hc0 xt0) (kernelRun0_A.sl.r_89 c i hc0 xt0) (kernelRun0_A.sl.r_91 c i hc0 xt0) (kernelRun0_A.sl.r_93 c i hc0 xt0) (kernelRun0_A.sl.r_95 c i hc0 xt0) (kernelRun0_A.sl.r_97 c i hc0 xt0))⟩, ⟨rG1, blockG1 i (kernelRun0_A.sl.r_32 c i hc0 xt0) (kernelRun0_A.sl.r_33 c i hc0 xt0) (kernelRun0_A.sl.r_34 c i hc0 xt0) (kernelRun0_A.sl.r_35 c i hc0 xt0) (kernelRun0_A.sl.r_36 c i hc0 xt0) (kernelRun0_A.sl.r_37 c i hc0 xt0) (kernelRun0_A.sl.r_38 c i hc0 xt0) (kernelRun0_A.sl.r_39 c i hc0 xt0) (kernelRun0_A.sl.r_40 c i hc0 xt0) (kernelRun0_A.sl.r_41 c i hc0 xt0) (kernelRun0_A.sl.r_42 c i hc0 xt0) (kernelRun0_A.sl.r_43 c i hc0 xt0) (kernelRun0_A.sl.r_44 c i hc0 xt0) (kernelRun0_A.sl.r_45 c i hc0 xt0) (kernelRun0_A.sl.r_46 c i hc0 xt0) (kernelRun0_A.sl.r_47 c i hc0 xt0) (kernelRun0_A.sl.r_48 c i hc0 xt0) (kernelRun0_A.sl.r_49 c i hc0 xt0) (kernelRun0_A.sl.r_50 c i hc0 xt0) (kernelRun0_A.sl.r_51 c i hc0 xt0) (kernelRun0_A.sl.r_52 c i hc0 xt0) (kernelRun0_A.sl.r_53 c i hc0 xt0) (kernelRun0_A.sl.r_54 c i hc0 xt0) (kernelRun0_A.sl.r_55 c i hc0 xt0) (kernelRun0_A.sl.r_56 c i hc0 xt0) (kernelRun0_A.sl.r_57 c i hc0 xt0) (kernelRun0_A.sl.r_58 c i hc0 xt0) (kernelRun0_A.sl.r_59 c i hc0 xt0) (kernelRun0_A.sl.r_60 c i hc0 xt0) (kernelRun0_A.sl.r_61 c i hc0 xt0) (kernelRun0_A.sl.r_62 c i hc0 xt0) (kernelRun0_A.sl.r_63 c i hc0 xt0) (k0_chk4_all (kernelRun0_A.sl.r_32 c i hc0 xt0) (kernelRun0_A.sl.r_33 c i hc0 xt0) (kernelRun0_A.sl.r_34 c i hc0 xt0) (kernelRun0_A.sl.r_35 c i hc0 xt0) (kernelRun0_A.sl.r_36 c i hc0 xt0) (kernelRun0_A.sl.r_37 c i hc0 xt0) (kernelRun0_A.sl.r_38 c i hc0 xt0) (kernelRun0_A.sl.r_39 c i hc0 xt0) (kernelRun0_A.sl.r_40 c i hc0 xt0) (kernelRun0_A.sl.r_41 c i hc0 xt0) (kernelRun0_A.sl.r_42 c i hc0 xt0) (kernelRun0_A.sl.r_43 c i hc0 xt0) (kernelRun0_A.sl.r_44 c i hc0 xt0) (kernelRun0_A.sl.r_45 c i hc0 xt0) (kernelRun0_A.sl.r_46 c i hc0 xt0) (kernelRun0_A.sl.r_47 c i hc0 xt0) (kernelRun0_A.sl.r_48 c i hc0 xt0) (kernelRun0_A.sl.r_49 c i hc0 xt0) (kernelRun0_A.sl.r_50 c i hc0 xt0) (kernelRun0_A.sl.r_51 c i hc0 xt0) (kernelRun0_A.sl.r_52 c i hc0 xt0) (kernelRun0_A.sl.r_53 c i hc0 xt0) (kernelRun0_A.sl.r_54 c i hc0 xt0) (kernelRun0_A.sl.r_55 c i hc0 xt0) (kernelRun0_A.sl.r_56 c i hc0 xt0) (kernelRun0_A.sl.r_57 c i hc0 xt0) (kernelRun0_A.sl.r_58 c i hc0 xt0) (kernelRun0_A.sl.r_59 c i hc0 xt0) (kernelRun0_A.sl.r_60 c i hc0 xt0) (kernelRun0_A.sl.r_61 c i hc0 xt0) (kernelRun0_A.sl.r_62 c i hc0 xt0) (kernelRun0_A.sl.r_63 c i hc0 xt0) i) hc0 kernelRun0_A.sl.v34 arg5 arg6 harg5 harg6 x1 x2 (in5_1 (kernelRun0_A.sl.r_32 c i hc0 xt0) (kernelRun0_A.sl.r_34 c i hc0 xt0) (kernelRun0_A.sl.r_36 c i hc0 xt0) (kernelRun0_A.sl.r_38 c i hc0 xt0) (kernelRun0_A.sl.r_40 c i hc0 xt0) (kernelRun0_A.sl.r_42 c i hc0 xt0) (kernelRun0_A.sl.r_44 c i hc0 xt0) (kernelRun0_A.sl.r_46 c i hc0 xt0) (kernelRun0_A.sl.r_48 c i hc0 xt0) (kernelRun0_A.sl.r_50 c i hc0 xt0) (kernelRun0_A.sl.r_52 c i hc0 xt0) (kernelRun0_A.sl.r_54 c i hc0 xt0) (kernelRun0_A.sl.r_56 c i hc0 xt0) (kernelRun0_A.sl.r_58 c i hc0 xt0) (kernelRun0_A.sl.r_60 c i hc0 xt0) (kernelRun0_A.sl.r_62 c i hc0 xt0))⟩, ⟨rG0, blockG0 i (kernelRun0_A.sl.r c i hc0 xt0) (kernelRun0_A.sl.r_1 c i hc0 xt0) (kernelRun0_A.sl.r_2 c i hc0 xt0) (kernelRun0_A.sl.r_3 c i hc0 xt0) (kernelRun0_A.sl.r_4 c i hc0 xt0) (kernelRun0_A.sl.r_5 c i hc0 xt0) (kernelRun0_A.sl.r_6 c i hc0 xt0) (kernelRun0_A.sl.r_7 c i hc0 xt0) (kernelRun0_A.sl.r_8 c i hc0 xt0) (kernelRun0_A.sl.r_9 c i hc0 xt0) (kernelRun0_A.sl.r_10 c i hc0 xt0) (kernelRun0_A.sl.r_11 c i hc0 xt0) (kernelRun0_A.sl.r_12 c i hc0 xt0) (kernelRun0_A.sl.r_13 c i hc0 xt0) (kernelRun0_A.sl.r_14 c i hc0 xt0) (kernelRun0_A.sl.r_15 c i hc0 xt0) (kernelRun0_A.sl.r_16 c i hc0 xt0) (kernelRun0_A.sl.r_17 c i hc0 xt0) (kernelRun0_A.sl.r_18 c i hc0 xt0) (kernelRun0_A.sl.r_19 c i hc0 xt0) (kernelRun0_A.sl.r_20 c i hc0 xt0) (kernelRun0_A.sl.r_21 c i hc0 xt0) (kernelRun0_A.sl.r_22 c i hc0 xt0) (kernelRun0_A.sl.r_23 c i hc0 xt0) (kernelRun0_A.sl.r_24 c i hc0 xt0) (kernelRun0_A.sl.r_25 c i hc0 xt0) (kernelRun0_A.sl.r_26 c i hc0 xt0) (kernelRun0_A.sl.r_27 c i hc0 xt0) (kernelRun0_A.sl.r_28 c i hc0 xt0) (kernelRun0_A.sl.r_29 c i hc0 xt0) (kernelRun0_A.sl.r_30 c i hc0 xt0) (kernelRun0_A.sl.r_31 c i hc0 xt0) (k0_chk2_all (kernelRun0_A.sl.r c i hc0 xt0) (kernelRun0_A.sl.r_1 c i hc0 xt0) (kernelRun0_A.sl.r_2 c i hc0 xt0) (kernelRun0_A.sl.r_3 c i hc0 xt0) (kernelRun0_A.sl.r_4 c i hc0 xt0) (kernelRun0_A.sl.r_5 c i hc0 xt0) (kernelRun0_A.sl.r_6 c i hc0 xt0) (kernelRun0_A.sl.r_7 c i hc0 xt0) (kernelRun0_A.sl.r_8 c i hc0 xt0) (kernelRun0_A.sl.r_9 c i hc0 xt0) (kernelRun0_A.sl.r_10 c i hc0 xt0) (kernelRun0_A.sl.r_11 c i hc0 xt0) (kernelRun0_A.sl.r_12 c i hc0 xt0) (kernelRun0_A.sl.r_13 c i hc0 xt0) (kernelRun0_A.sl.r_14 c i hc0 xt0) (kernelRun0_A.sl.r_15 c i hc0 xt0) (kernelRun0_A.sl.r_16 c i hc0 xt0) (kernelRun0_A.sl.r_17 c i hc0 xt0) (kernelRun0_A.sl.r_18 c i hc0 xt0) (kernelRun0_A.sl.r_19 c i hc0 xt0) (kernelRun0_A.sl.r_20 c i hc0 xt0) (kernelRun0_A.sl.r_21 c i hc0 xt0) (kernelRun0_A.sl.r_22 c i hc0 xt0) (kernelRun0_A.sl.r_23 c i hc0 xt0) (kernelRun0_A.sl.r_24 c i hc0 xt0) (kernelRun0_A.sl.r_25 c i hc0 xt0) (kernelRun0_A.sl.r_26 c i hc0 xt0) (kernelRun0_A.sl.r_27 c i hc0 xt0) (kernelRun0_A.sl.r_28 c i hc0 xt0) (kernelRun0_A.sl.r_29 c i hc0 xt0) (kernelRun0_A.sl.r_30 c i hc0 xt0) (kernelRun0_A.sl.r_31 c i hc0 xt0) i) hc0 kernelRun0_A.sl.v34 arg5 arg6 harg5 harg6 x1 x2 (in5_0 (kernelRun0_A.sl.r c i hc0 xt0) (kernelRun0_A.sl.r_2 c i hc0 xt0) (kernelRun0_A.sl.r_4 c i hc0 xt0) (kernelRun0_A.sl.r_6 c i hc0 xt0) (kernelRun0_A.sl.r_8 c i hc0 xt0) (kernelRun0_A.sl.r_10 c i hc0 xt0) (kernelRun0_A.sl.r_12 c i hc0 xt0) (kernelRun0_A.sl.r_14 c i hc0 xt0) (kernelRun0_A.sl.r_16 c i hc0 xt0) (kernelRun0_A.sl.r_18 c i hc0 xt0) (kernelRun0_A.sl.r_20 c i hc0 xt0) (kernelRun0_A.sl.r_22 c i hc0 xt0) (kernelRun0_A.sl.r_24 c i hc0 xt0) (kernelRun0_A.sl.r_26 c i hc0 xt0) (kernelRun0_A.sl.r_28 c i hc0 xt0) (kernelRun0_A.sl.r_30 c i hc0 xt0))⟩] := by
  sl_kernel_rfl

include R in
theorem rows_pieces (y : S512x1024.Idx) (hy : ∃ p ∈ kernelRun0_A.sl.HS0_4 c i arg4 harg4 arg5 harg5 arg13 hc0 x0 x1 xt0, y ∈ p.1.set) :
    View.canon (kernelRun0_A.sl.HS0_4 c i arg4 harg4 arg5 harg5 arg13 hc0 x0 x1 xt0) y = x0 (ix3 0 (tok (y 0)) (y 1)) := by
  refine View.canon_apply_of_pieces (fun y => x0 (ix3 0 (tok (y 0)) (y 1))) _ ?_ y hy
  intro p hp x
  unfold kernelRun0_A.sl.HS0_4 at hp
  rcases List.mem_cons.mp hp with rfl | hp
  · exact rowsPiece 384 inb_S512x1024_S128x1024_384_0 x0 tok _ (by intro p d h; rw [trunc3]; exact rows3 c i arg4 harg4 arg5 harg5 arg13 hc0 x0 x1 xt0 R p d h) x
  rcases List.mem_cons.mp hp with rfl | hp
  · exact rowsPiece 256 inb_S512x1024_S128x1024_256_0 x0 tok _ (by intro p d h; rw [trunc2]; exact rows2 c i arg4 harg4 arg5 harg5 arg13 hc0 x0 x1 xt0 R p d h) x
  rcases List.mem_cons.mp hp with rfl | hp
  · exact rowsPiece 128 inb_S512x1024_S128x1024_128_0 x0 tok _ (by intro p d h; rw [trunc1]; exact rows1 c i arg4 harg4 arg5 harg5 arg13 hc0 x0 x1 xt0 R p d h) x
  rcases List.mem_cons.mp hp with rfl | hp
  · exact rowsPiece 0 inb_S512x1024_S128x1024_0_0 x0 tok _ (by intro p d h; rw [trunc0]; exact rows0 c i arg4 harg4 arg5 harg5 arg13 hc0 x0 x1 xt0 R p d h) x
  exact absurd hp (List.not_mem_nil)

include R in
/-- The picked rows. -/
theorem sout0_A_0_apply (y : S512x1024.Idx) : sout0_A_0 c i arg4 harg4 arg5 harg5 arg6 harg6 arg7 harg7 arg8 harg8 arg9 harg9 arg10 harg10 arg11 harg11 arg12 harg12 arg13 harg13 arg14 harg14 hc0 hc1 x0 x1 x2 x3 x4 x5 xt0 y = x0 (ix3 0 (tok (y 0)) (y 1)) := by
  unfold sout0_A_0
  rw [View.read_writes_eq_canon _ _ _ (scover0_A_0 c i arg4 harg4 arg5 harg5 arg6 harg6 arg7 harg7 arg8 harg8 arg9 harg9 arg10 harg10 arg11 harg11 arg12 harg12 arg13 harg13 arg14 harg14 hc0 hc1 x0 x1 x2 x3 x4 x5 xt0)]
  exact rows_pieces c i arg4 harg4 arg5 harg5 arg13 hc0 x0 x1 xt0 R y (scover0_A_0 c i arg4 harg4 arg5 harg5 arg6 harg6 arg7 harg7 arg8 harg8 arg9 harg9 arg10 harg10 arg11 harg11 arg12 harg12 arg13 harg13 arg14 harg14 hc0 hc1 x0 x1 x2 x3 x4 x5 xt0 y)

include R in
/-- The gates. -/
theorem sout0_A_3_apply (y : S512x1.Idx) : sout0_A_3 c i arg4 harg4 arg5 harg5 arg6 harg6 arg7 harg7 arg8 harg8 arg9 harg9 arg10 harg10 arg11 harg11 arg12 harg12 arg13 harg13 arg14 harg14 hc0 hc1 x0 x1 x2 x3 x4 x5 xt0 y = x2 (ix4 0 0 0 (tok (y 0))) := by
  unfold sout0_A_3
  rw [View.read_writes_eq_canon _ _ _ (scover0_A_3 c i arg4 harg4 arg5 harg5 arg6 harg6 arg7 harg7 arg8 harg8 arg9 harg9 arg10 harg10 arg11 harg11 arg12 harg12 arg13 harg13 arg14 harg14 hc0 hc1 x0 x1 x2 x3 x4 x5 xt0)]
  exact gates_at x2 tok _ _ _ _ (fun p h => gates0 c i arg5 harg5 arg6 harg6 hc0 x1 x2 xt0 R p h) (fun p h => gates1 c i arg5 harg5 arg6 harg6 hc0 x1 x2 xt0 R p h)
    (fun p h => gates2 c i arg5 harg5 arg6 harg6 hc0 x1 x2 xt0 R p h) (fun p h => gates3 c i arg5 harg5 arg6 harg6 hc0 x1 x2 xt0 R p h) _ (piecesG c i arg4 harg4 arg5 harg5 arg6 harg6 arg7 harg7 arg8 harg8 arg9 harg9 arg10 harg10 arg11 harg11 arg12 harg12 arg13 harg13 arg14 harg14 hc0 hc1 x0 x1 x2 x3 x4 x5 xt0) y (scover0_A_3 c i arg4 harg4 arg5 harg5 arg6 harg6 arg7 harg7 arg8 harg8 arg9 harg9 arg10 harg10 arg11 harg11 arg12 harg12 arg13 harg13 arg14 harg14 hc0 hc1 x0 x1 x2 x3 x4 x5 xt0 y)

theorem piecesA : (kernelRun0_A c i arg4 harg4 arg5 harg5 arg6 harg6 arg7 harg7 arg8 harg8 arg9 harg9 arg10 harg10 arg11 harg11 arg12 harg12 arg13 harg13 arg14 harg14 hc0 hc1 x0 x1 x2 x3 x4 x5 xt0).2.2.1 = [⟨Rect.unit (s := S512x1024) ![0, 0] S512x1024.size inb_S512x1024_S512x1024_0_0,
    k0_pay55 (kernelRun0_A.sl.v3 c i arg4 harg4 arg5 harg5 arg11 arg13 hc0 x0 x1 xt0)
      (arg7.view.readAt (Elt Ideal) (Rect.unit (s := S1x1024x1024) ![0, 0, 0] S1x1024x1024.size inb_S1x1024x1024_S1x1024x1024_0_0_0).toLoadRect (harg7.unread x3))
      (arg8.view.readAt (Elt Ideal) (Rect.unit (s := S1x1024x1024) ![0, 0, 0] S1x1024x1024.size inb_S1x1024x1024_S1x1024x1024_0_0_0).toLoadRect (harg8.unread x4))
      (kernelRun0_A.sl.v20 c arg12)
      (arg9.view.readAt (Elt Ideal) (Rect.unit (s := S1x1024x1024) ![0, 0, 0] S1x1024x1024.size inb_S1x1024x1024_S1x1024x1024_0_0_0).toLoadRect (harg9.unread x5))⟩,
    ⟨Rect.unit (s := S512x1024) ![0, 0] S512x1024.size inb_S512x1024_S512x1024_0_0, k0_pay54 (F := Ideal)⟩] := by
  sl_kernel_rfl

include R in
/-- The first half's part. -/
theorem sout0_A_1_apply (s : Fin 512) (o : Fin 1024) : sout0_A_1 c i arg4 harg4 arg5 harg5 arg6 harg6 arg7 harg7 arg8 harg8 arg9 harg9 arg10 harg10 arg11 harg11 arg12 harg12 arg13 harg13 arg14 harg14 hc0 hc1 x0 x1 x2 x3 x4 x5 xt0 (ix2 s o) = half (fun d => x0 (ix3 0 (tok s) d)) x3 x4 x5 o := by
  unfold sout0_A_1
  rw [View.read_writes_eq_canon _ _ _ (scover0_A_1 c i arg4 harg4 arg5 harg5 arg6 harg6 arg7 harg7 arg8 harg8 arg9 harg9 arg10 harg10 arg11 harg11 arg12 harg12 arg13 harg13 arg14 harg14 hc0 hc1 x0 x1 x2 x3 x4 x5 xt0), piecesA, View.canon_cons_unit_lit _ _ _ (fun a => by fin_cases a <;> rfl), k0_pay55_apply,
    read_whole arg7 harg7 x3 _ (fun a => by fin_cases a <;> rfl), read_whole arg8 harg8 x4 _ (fun a => by fin_cases a <;> rfl), read_whole arg9 harg9 x5 _ (fun a => by fin_cases a <;> rfl)]
  have h20 : kernelRun0_A.sl.v20 (F := Ideal) c arg12 (ix2 s o) = 0 := by
    unfold kernelRun0_A.sl.v20 kernelRun0_A.sl.HS1_1
    rw [View.readCov_cons_toLoadRect]; exact k0_pay54_apply _
  have h3 : ∀ d : Fin 1024, kernelRun0_A.sl.v3 c i arg4 harg4 arg5 harg5 arg11 arg13 hc0 x0 x1 xt0 (ix2 s d) = x0 (ix3 0 (tok s) d) := by
    intro d
    unfold kernelRun0_A.sl.v3
    rw [View.readCov_eq_canon']
    have e : (Rect.unit (s := S512x1024) ![0, 0] S512x1024.size inb_S512x1024_S512x1024_0_0).toLoadRect.idx (ix2 s d) = ix2 s d := by
      funext a
      refine Fin.ext ?_
      match a with
      | ⟨0, _⟩ => show 0 + 1 * s.val = s.val; omega
      | ⟨1, _⟩ => show 0 + 1 * d.val = d.val; omega
    refine (congrArg (View.canon _) e).trans ?_
    exact rows_pieces c i arg4 harg4 arg5 harg5 arg13 hc0 x0 x1 xt0 R (ix2 s d) (scover0_A_0 c i arg4 harg4 arg5 harg5 arg6 harg6 arg7 harg7 arg8 harg8 arg9 harg9 arg10 harg10 arg11 harg11 arg12 harg12 arg13 harg13 arg14 harg14 hc0 hc1 x0 x1 x2 x3 x4 x5 xt0 (ix2 s d))
  rw [h20, zero_add]
  exact congrArg (fun x => half x x3 x4 x5 o) (funext h3)

end

section
variable  (c : Dev nD) (i : grid0.Coords) (arg4 : Memref sig .tc .vmem S1x4096x1024 .bf16) (harg4 : arg4.IsWhole) (arg5 : Memref sig .tc .vmem S1x1x1x4096 .i32) (harg5 : arg5.IsWhole) (arg6 : Memref sig .tc .vmem S1x1x1x4096 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S1x1x512x1024 .bf16) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S128x1024 .f32) (harg13 : arg13.IsWhole) (arg14 : Memref sig .tc .vmem S512x1 .f32) (harg14 : arg14.IsWhole) (hc0 : ¬cond0_0 i) (hc1 : cond0_1 i)
    (x0 : Vec Ideal S1x4096x1024 .bf16) (x1 : Vec Ideal S1x1x1x4096 .i32) (x2 : Vec Ideal S1x1x1x4096 .f32) (x3 : Vec Ideal S1x1024x1024 .bf16) (x4 : Vec Ideal S1x1024x1024 .bf16) (x5 : Vec Ideal S1x1024x1024 .bf16) (xt0 : TbBuf0 (F := Ideal) c tbM0_0) (xs0 : Vec Ideal S512x1024 .bf16) (xs1 : Vec Ideal S512x1024 .f32) (xs3 : Vec Ideal S512x1 .f32)

theorem pieces6 : (kernelRun0_B c i arg4 harg4 arg5 harg5 arg6 harg6 arg7 harg7 arg8 harg8 arg9 harg9 arg10 harg10 arg11 harg11 arg12 harg12 arg13 harg13 arg14 harg14 hc0 hc1 x0 x1 x2 x3 x4 x5 xt0 xs0 xs1 xs3).1 = [⟨Rect.unit (s := S1x1x512x1024) ![0, 0, 0, 0] S1x1x512x1024.size inb_S1x1x512x1024_S1x1x512x1024_0_0_0_0,
    k0_pay1 (arg12.view.readCov [⟨Rect.unit (s := S512x1024) ![0, 0] S512x1024.size inb_S512x1024_S512x1024_0_0,
      k0_pay55 (arg11.view.readAt (Elt Ideal) (Rect.unit (s := S512x1024) ![0, 0] S512x1024.size inb_S512x1024_S512x1024_0_0).toLoadRect (harg11.unread xs0))
      (arg7.view.readAt (Elt Ideal) (Rect.unit (s := S1x1024x1024) ![0, 0, 0] S1x1024x1024.size inb_S1x1024x1024_S1x1024x1024_0_0_0).toLoadRect (harg7.unread x3))
      (arg8.view.readAt (Elt Ideal) (Rect.unit (s := S1x1024x1024) ![0, 0, 0] S1x1024x1024.size inb_S1x1024x1024_S1x1024x1024_0_0_0).toLoadRect (harg8.unread x4))
      (arg12.view.readAt (Elt Ideal) (Rect.unit (s := S512x1024) ![0, 0] S512x1024.size inb_S512x1024_S512x1024_0_0).toLoadRect (harg12.unread xs1))
      (arg9.view.readAt (Elt Ideal) (Rect.unit (s := S1x1024x1024) ![0, 0, 0] S1x1024x1024.size inb_S1x1024x1024_S1x1024x1024_0_0_0).toLoadRect (harg9.unread x5))⟩]
      (Rect.unit (s := S512x1024) ![0, 0] S512x1024.size inb_S512x1024_S512x1024_0_0).toLoadRect)
      (arg14.view.readAt (Elt Ideal) (Rect.unit (s := S512x1) ![0, 0] S512x1.size inb_S512x1_S512x1_0_0).toLoadRect (harg14.unread xs3))⟩] := by
  sl_kernel_rfl

/-- The output block of a second half. -/
theorem out0_B_6_apply (s : Fin 512) (o : Fin 1024) :
    out0_B_6 c i arg4 harg4 arg5 harg5 arg6 harg6 arg7 harg7 arg8 harg8 arg9 harg9 arg10 harg10 arg11 harg11 arg12 harg12 arg13 harg13 arg14 harg14 hc0 hc1 x0 x1 x2 x3 x4 x5 xt0 xs0 xs1 xs3 (ix4 0 0 s o) = (xs1 (ix2 s o) + half (fun d => xs0 (ix2 s d)) x3 x4 x5 o) * xs3 (ix2 s 0) := by
  unfold out0_B_6
  rw [View.read_writes_eq_canon _ _ _ (cover0_B_6 c i arg4 harg4 arg5 harg5 arg6 harg6 arg7 harg7 arg8 harg8 arg9 harg9 arg10 harg10 arg11 harg11 arg12 harg12 arg13 harg13 arg14 harg14 hc0 hc1 x0 x1 x2 x3 x4 x5 xt0 xs0 xs1 xs3), pieces6, View.canon_cons_unit_lit _ _ _ (fun a => by fin_cases a <;> rfl), k0_pay1_apply, View.readCov_cons_toLoadRect, k0_pay55_apply,
    read_whole arg7 harg7 x3 _ (fun a => by fin_cases a <;> rfl), read_whole arg8 harg8 x4 _ (fun a => by fin_cases a <;> rfl), read_whole arg9 harg9 x5 _ (fun a => by fin_cases a <;> rfl),
    read_whole arg11 harg11 xs0 _ (fun a => by fin_cases a <;> rfl), read_whole arg12 harg12 xs1 _ (fun a => by fin_cases a <;> rfl), read_whole arg14 harg14 xs3 _ (fun a => by fin_cases a <;> rfl)]

end

end Cert.KernelIdeal

end
-- ==== Proof.Host.lean ====
module

public import proofs.«01_k».proof.Proof.Setup
public import proofs.«01_k».proof.Proof.Count
public import Idealize.ShloMosaic.Lib.Pipeline.ValueKit.Tiles
public import Idealize.ShloMosaic.Lib.Routing.OpsSet
public import Idealize.ShloMosaic.Lib.IndicatorCount
public import Idealize.ShloMosaic.Lib.WordCmp

/-! What the operations before the kernel leave: the slot of every token, and how many of an expert's tokens lie before
    each tile. -/

@[expose] public section

set_option maxRecDepth 16384

noncomputable section

namespace Cert.KernelIdeal

open Gen
open Idealize.ShloMosaic Idealize.ShloMosaic.ValueIdx Idealize.ShloMosaic.TcCoe Idealize.ShloMosaic.Tactic
open scoped BigOperators

/-! ## The composed terms -/

/-- The operand's positions the slots are written at: batch, expert, token. -/
def places (idx : IVec S16x16x512 32) : IVec S16x16x512x3 32 :=
  concatenate S16x16x512x3 3
    [⟨S16x16x512x1, broadcastInDim S16x16x512x1 ![0, 1, 2] bcast_S16x16x512_S16x16x512x1_0_1_2 (broadcastInDim S16x16x512 ![0, 1, 2] bcast_S16x1x1_S16x16x512_0_1_2
        (select (cmpi .slt (broadcastInDim S16x1x1 ![0] bcast_S16_S16x1x1_0 (iotaInDim S16 32 0)) (broadcastInDim S16x1x1 ![] bcast_S_S16x1x1 (constantI S_ 32 0#32)))
          (addi (broadcastInDim S16x1x1 ![0] bcast_S16_S16x1x1_0 (iotaInDim S16 32 0)) (broadcastInDim S16x1x1 ![] bcast_S_S16x1x1 (constantI S_ 32 16#32)))
          (broadcastInDim S16x1x1 ![0] bcast_S16_S16x1x1_0 (iotaInDim S16 32 0))))⟩,
     ⟨S16x16x512x1, broadcastInDim S16x16x512x1 ![0, 1, 2] bcast_S16x16x512_S16x16x512x1_0_1_2 (broadcastInDim S16x16x512 ![0, 1, 2] bcast_S1x16x1_S16x16x512_0_1_2
        (select (cmpi .slt (broadcastInDim S1x16x1 ![1] bcast_S16_S1x16x1_1 (iotaInDim S16 32 0)) (broadcastInDim S1x16x1 ![] bcast_S_S1x16x1 (constantI S_ 32 0#32)))
          (addi (broadcastInDim S1x16x1 ![1] bcast_S16_S1x16x1_1 (iotaInDim S16 32 0)) (broadcastInDim S1x16x1 ![] bcast_S_S1x16x1 (constantI S_ 32 16#32)))
          (broadcastInDim S1x16x1 ![1] bcast_S16_S1x16x1_1 (iotaInDim S16 32 0))))⟩,
     ⟨S16x16x512x1, broadcastInDim S16x16x512x1 ![0, 1, 2] bcast_S16x16x512_S16x16x512x1_0_1_2
        (select (cmpi .slt idx (broadcastInDim S16x16x512 ![] bcast_S_S16x16x512 (constantI S_ 32 0#32)))
          (addi idx (broadcastInDim S16x16x512 ![] bcast_S_S16x16x512 (constantI S_ 32 4096#32))) idx)⟩]
    concatenates_S16x16x512x1_S16x16x512x1_S16x16x512x1_S16x16x512x3_d3

/-- The slot of every token, -1 where it has none. -/
def slots (idx : IVec S16x16x512 32) : IVec S16x16x4096 32 :=
  Host.scatter scatter_S16x16x4096_S16x16x512x3_S16x16x512_n_012_012_3 (fun _ b => b)
    (broadcastInDim S16x16x4096 ![] bcast_S_S16x16x4096 (constantI S_ 32 4294967295#32)) (places idx)
    (broadcastInDim S16x16x512 ![2] bcast_S512_S16x16x512_2 (iotaInDim S512 32 0))

/-- Which tokens lie before which tile. -/
def before (idx : IVec S16x16x512 32) : IVec S16x16x128x512 1 :=
  cmpi .slt
    (broadcastInDim S16x16x128x512 ![0, 1, 2, 3] bcast_S16x16x1x512_S16x16x128x512_0_1_2_3 (broadcastInDim S16x16x1x512 ![0, 1, 3] bcast_S16x16x512_S16x16x1x512_0_1_3 idx))
    (broadcastInDim S16x16x128x512 ![0, 1, 2, 3] bcast_S1x1x128x1_S16x16x128x512_0_1_2_3 (broadcastInDim S1x1x128x1 ![2, 3] bcast_S128x1_S1x1x128x1_2_3
      (broadcastInDim S128x1 ![0] bcast_S128_S128x1_0 (muli (iotaInDim S128 32 0) (broadcastInDim S128 ![] bcast_S_S128 (constantI S_ 32 256#32))))))

/-- How many of an expert's tokens lie before each tile. -/
def counts (idx : IVec S16x16x512 32) : IVec S16x16x128 32 :=
  Host.reduce IntOp.addi (extui 32 (before idx) natLt_1_32) (constantI S_ 32 0#32) reducesTo_S16x16x128x512_S16x16x128_d3 h_S_

section
variable (m : (ℓ : Loc nD τ sig) → Buf (Elt Ideal) ℓ) (c : Dev nD)

theorem V_main_v40 : V m c main_v40 = (truncf (F := Ideal) (s := S16x4096x1024) .bf16 (m ((c : Thread nD τ).loc main_arg0)) bitsLt_bf16_f32 : FVec Ideal S16x4096x1024 .bf16) := by
  sl_kernel_rfl

theorem V_main_v41 : V m c main_v41 = (truncf (F := Ideal) (s := S16x1024x2048) .bf16 (m ((c : Thread nD τ).loc main_arg3)) bitsLt_bf16_f32 : FVec Ideal S16x1024x2048 .bf16) := by
  sl_kernel_rfl

theorem V_main_v42 : V m c main_v42 = (truncf (F := Ideal) (s := S16x1024x2048) .bf16 (m ((c : Thread nD τ).loc main_arg4)) bitsLt_bf16_f32 : FVec Ideal S16x1024x2048 .bf16) := by
  sl_kernel_rfl

theorem V_main_v43 : V m c main_v43 = (truncf (F := Ideal) (s := S16x2048x1024) .bf16 (m ((c : Thread nD τ).loc main_arg5)) bitsLt_bf16_f32 : FVec Ideal S16x2048x1024 .bf16) := by
  sl_kernel_rfl

theorem V_main_v44 : V m c main_v44 = (shapeCast S32768 (counts (m ((c : Thread nD τ).loc main_arg2))) shapeCasts_S16x16x128_S32768 : IVec S32768 32) := by
  unfold V
  after_results_simp
  sl_kernel_rfl

theorem V_main_v45 : V m c main_v45 = (shapeCast S16x16x1x4096 (slots (m ((c : Thread nD τ).loc main_arg2))) shapeCasts_S16x16x4096_S16x16x1x4096 : IVec S16x16x1x4096 32) := by
  unfold V
  after_results_simp
  sl_kernel_rfl

theorem V_main_v46 : V m c main_v46 = shapeCast S16x16x1x4096 (m ((c : Thread nD τ).loc main_arg1) : FVec Ideal S16x16x4096 .f32) shapeCasts_S16x16x4096_S16x16x1x4096 := by
  sl_kernel_rfl

end

end Cert.KernelIdeal

end
-- ==== Proof.Entry.lean ====
module

public import proofs.«01_k».proof.Proof.Host
public import proofs.«01_k».proof.Proof.Count
public import Idealize.ShloMosaic.Lib.Pipeline.ValueKit.Tiles
public import Idealize.ShloMosaic.Lib.Routing.OpsSet
public import Idealize.ShloMosaic.Lib.IndicatorCount
public import Idealize.ShloMosaic.Lib.WordCmp

/-! What the operations before the kernel leave: the slot of every token, and how many of an expert's tokens lie before
    each tile. -/

@[expose] public section

set_option maxRecDepth 16384

noncomputable section

namespace Cert.KernelIdeal

open Gen
open Idealize.ShloMosaic Idealize.ShloMosaic.ValueIdx Idealize.ShloMosaic.TcCoe Idealize.ShloMosaic.Tactic
open scoped BigOperators

/-! ## Read at an index -/

/-- A number of at most 4096 is not negative: the wrap leaves it. -/
theorem wrap_small (n : ℕ) (h : n < 2 ^ 31) (a : BitVec 32) : Scalar.select (IntOp.cmpi .slt (BitVec.ofNat 32 n) 0#32) a (BitVec.ofNat 32 n) = BitVec.ofNat 32 n := by
  have h : IntOp.cmpi .slt (BitVec.ofNat 32 n) 0#32 = 0#1 := by
    rw [WordCmp.cmpi_slt_eq, WordCmp.toInt_ofNat_of_lt h]
    have : ¬ ((n : Int) < (0#32 : BitVec 32).toInt) := by
      have e : (0#32 : BitVec 32).toInt = 0 := by decide
      omega
    rw [decide_eq_false this]; rfl
  rw [h]; rfl

section
variable (idx : IVec S16x16x512 32)

theorem places_apply0 (b e : Fin 16) (c : Fin 512) : places idx (ix4 b e c 0) = BitVec.ofNat 32 b.val := by
  refine Eq.trans ?_ (wrap_small b.val (by omega) (BitVec.ofNat 32 b.val + 16#32))
  unfold places
  concat_tiles i h
  · obtain rfl : b = i 0 := Fin.ext h0.symm
    rfl
  all_goals exact absurd (show (0 : ℕ) = _ from h) (by decide)

theorem places_apply1 (b e : Fin 16) (c : Fin 512) : places idx (ix4 b e c 1) = BitVec.ofNat 32 e.val := by
  refine Eq.trans ?_ (wrap_small e.val (by omega) (BitVec.ofNat 32 e.val + 16#32))
  unfold places
  concat_tiles i h
  · exact absurd (show (1 : ℕ) = _ from h) (by decide)
  · obtain rfl : e = i 1 := Fin.ext h1.symm
    rfl
  · exact absurd (show (1 : ℕ) = _ from h) (by decide)

end

theorem word_inj {a b : ℕ} (ha : a < 2 ^ 31) (hb : b < 2 ^ 31) (h : BitVec.ofNat 32 a = BitVec.ofNat 32 b) : a = b := by
  have := congrArg BitVec.toNat h
  simp only [BitVec.toNat_ofNat] at this
  rwa [Nat.mod_eq_of_lt (by omega), Nat.mod_eq_of_lt (by omega)] at this

section
variable (idx : IVec S16x16x512 32) (tok : Fin 16 → Fin 16 → Fin 512 → Fin 4096) (hi : ∀ b e c, idx (ix3 b e c) = BitVec.ofNat 32 (tok b e c).val)
include hi

theorem places_apply2 (b e : Fin 16) (c : Fin 512) : places idx (ix4 b e c 2) = BitVec.ofNat 32 (tok b e c).val := by
  have ht := (tok b e c).isLt
  refine Eq.trans ?_ (wrap_small (tok b e c).val (by omega) (BitVec.ofNat 32 (tok b e c).val + 4096#32))
  rw [← hi]
  unfold places
  concat_tiles i h
  · exact absurd (show (2 : ℕ) = _ from h) (by decide)
  · exact absurd (show (2 : ℕ) = _ from h) (by decide)
  · obtain rfl : b = i 0 := Fin.ext h0.symm
    obtain rfl : e = i 1 := Fin.ext h1.symm
    obtain rfl : c = i 2 := Fin.ext h2.symm
    have key : ∀ k : S16x16x512.Idx, k = ix3 (i 0) (i 1) (i 2) →
        Scalar.select (IntOp.cmpi .slt (idx k) 0#32) (idx k + 4096#32) (idx k) = Scalar.select (IntOp.cmpi .slt (idx (ix3 (i 0) (i 1) (i 2))) 0#32) (idx (ix3 (i 0) (i 1) (i 2)) + 4096#32) (idx (ix3 (i 0) (i 1) (i 2))) := by
      rintro k rfl
      rfl
    exact key _ (eq_ix3 _)

theorem lands (b e : Fin 16) (c : Fin 512) (b' e' : Fin 16) (t : Fin 4096) :
    scatter_S16x16x4096_S16x16x512x3_S16x16x512_n_012_012_3.resultIdx? (ix3 b e c) (places idx) = some (ix3 b' e' t) ↔ b = b' ∧ e = e' ∧ tok b e c = t := by
  rw [Routing.resultIdx?_eq_some]
  have hw : ∀ a, scatter_S16x16x4096_S16x16x512x3_S16x16x512_n_012_012_3.window (ix3 b e c) a = 0 := by
    intro a
    have ha : a = 0 ∨ a = 1 ∨ a = 2 := by
      match a with
      | ⟨0, _⟩ => exact .inl rfl
      | ⟨1, _⟩ => exact .inr (.inl rfl)
      | ⟨2, _⟩ => exact .inr (.inr rfl)
    unfold ScatterDims.window
    rcases ha with rfl | rfl | rfl <;> exact dif_neg (by decide)
  have hs : ∀ q : Fin 3, scatter_S16x16x4096_S16x16x512x3_S16x16x512_n_012_012_3.start (ix3 b e c) (places idx) q = (places idx (ix4 b e c q)).toInt := by
    intro q
    have ha : q = 0 ∨ q = 1 ∨ q = 2 := by
      match q with
      | ⟨0, _⟩ => exact .inl rfl
      | ⟨1, _⟩ => exact .inr (.inl rfl)
      | ⟨2, _⟩ => exact .inr (.inr rfl)
    unfold ScatterDims.start
    rcases ha with rfl | rfl | rfl <;>
    · rw [dif_pos (by decide)]
      refine congrArg (fun k => (places idx k).toInt) ?_
      funext a
      refine Fin.ext ?_
      match a with
      | ⟨0, _⟩ => rfl
      | ⟨1, _⟩ => rfl
      | ⟨2, _⟩ => rfl
      | ⟨3, _⟩ => rfl
  have hb := b.isLt
  have he := e.isLt
  have ht := (tok b e c).isLt
  have h0 := hs 0
  have h1 := hs 1
  have h2 := hs 2
  rw [places_apply0, WordCmp.toInt_ofNat_of_lt (by omega)] at h0
  rw [places_apply1, WordCmp.toInt_ofNat_of_lt (by omega)] at h1
  rw [places_apply2 idx tok hi, WordCmp.toInt_ofNat_of_lt (by omega)] at h2
  constructor
  · intro h
    have r0 := h 0
    have r1 := h 1
    have r2 := h 2
    rw [hw, h0] at r0
    rw [hw, h1] at r1
    rw [hw, h2] at r2
    refine ⟨Fin.ext ?_, Fin.ext ?_, Fin.ext ?_⟩
    · exact Int.ofNat.inj r0
    · exact Int.ofNat.inj r1
    · exact Int.ofNat.inj r2
  · rintro ⟨rfl, rfl, rfl⟩ a
    rw [hw]
    have ha : a = 0 ∨ a = 1 ∨ a = 2 := by
      match a with
      | ⟨0, _⟩ => exact .inl rfl
      | ⟨1, _⟩ => exact .inr (.inl rfl)
      | ⟨2, _⟩ => exact .inr (.inr rfl)
    rcases ha with rfl | rfl | rfl
    · rw [h0]; rfl
    · rw [h1]; rfl
    · rw [h2]; rfl

/-- The slot of a token is the number it has among its expert's tokens. -/
theorem slots_apply (hm : ∀ b e, StrictMono (tok b e)) (b e : Fin 16) (t : Fin 4096) (c : Fin 512) :
    slots idx (ix3 b e t) = BitVec.ofNat 32 c.val ↔ t = tok b e c := by
  have hit : ∀ d : Fin 512, slots idx (ix3 b e (tok b e d)) = BitVec.ofNat 32 d.val := by
    intro d
    refine Routing.scatter_set_hit _ _ _ _ _ _ (fun k hk => ?_) (ix3 b e d) ((lands idx tok hi b e d b e _).mpr ⟨rfl, rfl, rfl⟩)
    rw [eq_ix3 k] at hk ⊢
    obtain ⟨r0, r1, r2⟩ := (lands idx tok hi _ _ _ _ _ _).mp hk
    rw [r0, r1] at r2
    have r3 : k 2 = d := (hm b e).injective r2
    show BitVec.ofNat 32 (k 2).val = _
    rw [r3]
  constructor
  · intro h
    by_cases hx : ∃ d, t = tok b e d
    · obtain ⟨d, rfl⟩ := hx
      rw [hit] at h
      have hd := d.isLt
      have hc := c.isLt
      rw [show d = c from Fin.ext (word_inj (by omega) (by omega) h)]
    · have hmiss : slots idx (ix3 b e t) = 4294967295#32 :=
        Routing.scatter_set_miss _ _ _ _ _ fun k hk => by
          rw [eq_ix3 k] at hk
          obtain ⟨r0, r1, r2⟩ := (lands idx tok hi _ _ _ _ _ _).mp hk
          rw [r0, r1] at r2
          exact hx ⟨_, r2.symm⟩
      rw [hmiss] at h
      have hc := c.isLt
      have := congrArg BitVec.toNat h
      rw [BitVec.toNat_ofNat, BitVec.toNat_ofNat] at this
      omega
  · rintro rfl
    exact hit c

theorem before_apply (b e : Fin 16) (j : Fin 128) (c : Fin 512) : before idx (ix4 b e j c) = 1#1 ↔ (tok b e c).val < 256 * j.val := by
  have e1 : before idx (ix4 b e j c) = IntOp.cmpi .slt (idx (ix3 b e c)) (BitVec.ofNat 32 j.val * 256#32) := by
    refine congrArg (fun w => IntOp.cmpi .slt w (BitVec.ofNat 32 j.val * 256#32)) ?_
    exact congrArg idx (eq_ix3 _)
  have hj := j.isLt
  have ht := (tok b e c).isLt
  have e2 : BitVec.ofNat 32 j.val * 256#32 = BitVec.ofNat 32 (256 * j.val) := by
    rw [Nat.mul_comm, BitVec.ofNat_mul]
  rw [e1, hi, e2, WordCmp.cmpi_slt_eq, WordCmp.toInt_ofNat_of_lt (by omega), WordCmp.toInt_ofNat_of_lt (by omega), WordCmp.ofBool_decide_eq_one_iff]
  omega

theorem counts_apply (b e : Fin 16) (j : Fin 128) : counts idx (ix3 b e j) = BitVec.ofNat 32 (below (tok b e) j.val) := by
  classical
  unfold counts
  rw [Host.reduce_eq_fold]
  refine (IndicatorCount.fold_addi_setWidth_eq_card (before idx) _).trans (congrArg (BitVec.ofNat 32) ?_)
  unfold below
  have hd : ∀ i : S16x16x128x512.Idx, reducesTo_S16x16x128x512_S16x16x128_d3.drop i = ix3 b e j ↔ i 0 = b ∧ i 1 = e ∧ i 2 = j := by
    intro i
    constructor
    · intro h
      have h0 := congrArg Fin.val (congrFun h 0)
      have h1 := congrArg Fin.val (congrFun h 1)
      have h2 := congrArg Fin.val (congrFun h 2)
      rw [Shape.ReducesTo.drop_apply_val] at h0 h1 h2
      exact ⟨Fin.ext h0, Fin.ext h1, Fin.ext h2⟩
    · intro ⟨h0, h1, h2⟩
      funext a
      refine Fin.ext ?_
      rw [Shape.ReducesTo.drop_apply_val]
      match a with
      | ⟨0, _⟩ => exact congrArg Fin.val h0
      | ⟨1, _⟩ => exact congrArg Fin.val h1
      | ⟨2, _⟩ => exact congrArg Fin.val h2
  refine Finset.card_bij' (fun i _ => i 3) (fun c _ => ix4 b e j c) ?_ ?_ ?_ ?_
  · intro i h
    simp only [Finset.mem_filter, Finset.mem_univ, true_and] at h ⊢
    obtain ⟨h0, h1⟩ := h
    obtain ⟨r0, r1, r2⟩ := (hd i).mp h0
    have : i = ix4 b e j (i 3) := by rw [← r0, ← r1, ← r2]; exact eq_ix4 i
    rw [this] at h1
    exact Finset.mem_filter.mpr ⟨Finset.mem_univ _, (before_apply idx tok hi b e j (i 3)).mp h1⟩
  · intro c h
    simp only [Finset.mem_filter, Finset.mem_univ, true_and] at h ⊢
    exact ⟨(hd _).mpr ⟨rfl, rfl, rfl⟩, (before_apply idx tok hi b e j c).mpr h⟩
  · intro i h
    simp only [Finset.mem_filter, Finset.mem_univ, true_and] at h
    obtain ⟨r0, r1, r2⟩ := (hd i).mp h.1
    show ix4 b e j (i 3) = i
    rw [← r0, ← r1, ← r2]; exact (eq_ix4 i).symm
  · intro c h
    rfl

end

end Cert.KernelIdeal

end
-- ==== Proof.Array.lean ====
module

public import proofs.«01_k».proof.Proof.Frame
public import proofs.«01_k».proof.Proof.Entry
public import proofs.«01_k».proof.Proof.Expert

/-! What the windows show of the arrays at a point of the grid. -/

@[expose] public section

set_option maxRecDepth 16384

noncomputable section

namespace Cert.KernelIdeal

open Gen
open Idealize.ShloMosaic Idealize.ShloMosaic.ValueIdx Idealize.ShloMosaic.TcCoe Idealize.ShloMosaic.Tactic
open scoped BigOperators

variable (m : (ℓ : Loc nD τ sig) → Buf (Elt Ideal) ℓ) (hO : Ok m) (c : Dev nD) (t : Fin (cfgM m hO).N)

/-- The half of the hidden positions a point takes. -/
def half_pos (f : Fin 2) (k : Fin 1024) : Fin 2048 := ⟨f.val * 1024 + k.val, by omega⟩

theorem small_toNat {n : ℕ} (i : Fin n) (h : n ≤ 2 ^ 32) : (BitVec.ofNat 32 i.val).toNat = i.val := by
  rw [BitVec.toNat_ofNat]
  exact Nat.mod_eq_of_lt (by omega)

/-- The rows of the point’s batch. -/
theorem iblk0_apply (s : Fin 4096) (d : Fin 1024) : iblk m hO c 0 t ((ix3 0 s d : S1x4096x1024.Idx)) = (m ((c : Thread nD τ).loc main_arg0) : FVec Ideal S16x4096x1024 .f32) (ix3 (grid0.coords t 0) s d) := by
  have e : (((cfgM m hO).win 0).blk t).view.emb ((ix3 0 s d : S1x4096x1024.Idx)) = (ix3 (grid0.coords t 0) s d : S16x4096x1024.Idx) := by
    funext a
    refine Fin.ext ?_
    match a with
    | ⟨0, _⟩ =>
      show (BitVec.ofNat 32 (grid0.coords t 0).val).toNat * 1 + 1 * 0 = (grid0.coords t 0).val
      have h := small_toNat (grid0.coords t 0) ((by decide : (16 : ℕ) ≤ _))
      omega
    | ⟨1, _⟩ => show 0 * 4096 + 1 * s.val = s.val; omega
    | ⟨2, _⟩ => show 0 * 1024 + 1 * d.val = d.val; omega
  unfold iblk
  refine (congrArg (V m c main_v40) e).trans ?_
  refine (congrFun (V_main_v40 m c) _).trans ?_
  rfl

/-- The slots of the tokens of the point’s expert. -/
theorem iblk1_apply (s : Fin 4096) : iblk m hO c 1 t ((ix4 0 0 0 s : S1x1x1x4096.Idx)) = (slots (m ((c : Thread nD τ).loc main_arg2))) (ix3 (grid0.coords t 0) (grid0.coords t 1) s) := by
  have e : (((cfgM m hO).win 1).blk t).view.emb ((ix4 0 0 0 s : S1x1x1x4096.Idx)) = (ix4 (grid0.coords t 0) (grid0.coords t 1) 0 s : S16x16x1x4096.Idx) := by
    funext a
    refine Fin.ext ?_
    match a with
    | ⟨0, _⟩ =>
      show (BitVec.ofNat 32 (grid0.coords t 0).val).toNat * 1 + 1 * 0 = (grid0.coords t 0).val
      have h := small_toNat (grid0.coords t 0) ((by decide : (16 : ℕ) ≤ _))
      omega
    | ⟨1, _⟩ =>
      show (BitVec.ofNat 32 (grid0.coords t 1).val).toNat * 1 + 1 * 0 = (grid0.coords t 1).val
      have h := small_toNat (grid0.coords t 1) ((by decide : (16 : ℕ) ≤ _))
      omega
    | ⟨2, _⟩ => show 0 * 1 + 1 * 0 = 0; omega
    | ⟨3, _⟩ => show 0 * 4096 + 1 * s.val = s.val; omega
  unfold iblk
  refine (congrArg (V m c main_v45) e).trans ?_
  refine (congrFun (V_main_v45 m c) _).trans ?_
  refine shapeCast_apply (slots (m ((c : Thread nD τ).loc main_arg2))) _ _ (ix3 (grid0.coords t 0) (grid0.coords t 1) s) ?_
  refine (Shape.rowMajor_val_three (d := ![16, 16, 4096]) _).trans (Eq.trans ?_ (Shape.rowMajor_val_four (d := ![16, 16, 1, 4096]) _).symm)
  show (((grid0.coords t 0).val) * 16 + (grid0.coords t 1).val) * 4096 + s.val = ((((grid0.coords t 0).val) * 16 + (grid0.coords t 1).val) * 1 + 0) * 4096 + s.val
  omega

/-- The gates of the tokens of the point’s expert. -/
theorem iblk2_apply (s : Fin 4096) : iblk m hO c 2 t ((ix4 0 0 0 s : S1x1x1x4096.Idx)) = (m ((c : Thread nD τ).loc main_arg1) : FVec Ideal S16x16x4096 .f32) (ix3 (grid0.coords t 0) (grid0.coords t 1) s) := by
  have e : (((cfgM m hO).win 2).blk t).view.emb ((ix4 0 0 0 s : S1x1x1x4096.Idx)) = (ix4 (grid0.coords t 0) (grid0.coords t 1) 0 s : S16x16x1x4096.Idx) := by
    funext a
    refine Fin.ext ?_
    match a with
    | ⟨0, _⟩ =>
      show (BitVec.ofNat 32 (grid0.coords t 0).val).toNat * 1 + 1 * 0 = (grid0.coords t 0).val
      have h := small_toNat (grid0.coords t 0) ((by decide : (16 : ℕ) ≤ _))
      omega
    | ⟨1, _⟩ =>
      show (BitVec.ofNat 32 (grid0.coords t 1).val).toNat * 1 + 1 * 0 = (grid0.coords t 1).val
      have h := small_toNat (grid0.coords t 1) ((by decide : (16 : ℕ) ≤ _))
      omega
    | ⟨2, _⟩ => show 0 * 1 + 1 * 0 = 0; omega
    | ⟨3, _⟩ => show 0 * 4096 + 1 * s.val = s.val; omega
  unfold iblk
  refine (congrArg (V m c main_v46) e).trans ?_
  refine (congrFun (V_main_v46 m c) _).trans ?_
  refine shapeCast_apply (m ((c : Thread nD τ).loc main_arg1) : FVec Ideal S16x16x4096 .f32) _ _ (ix3 (grid0.coords t 0) (grid0.coords t 1) s) ?_
  refine (Shape.rowMajor_val_three (d := ![16, 16, 4096]) _).trans (Eq.trans ?_ (Shape.rowMajor_val_four (d := ![16, 16, 1, 4096]) _).symm)
  show (((grid0.coords t 0).val) * 16 + (grid0.coords t 1).val) * 4096 + s.val = ((((grid0.coords t 0).val) * 16 + (grid0.coords t 1).val) * 1 + 0) * 4096 + s.val
  omega

/-- The point’s half of the first weights of its expert. -/
theorem iblk3_apply (d : Fin 1024) (k : Fin 1024) : iblk m hO c 3 t ((ix3 0 d k : S1x1024x1024.Idx)) = (m ((c : Thread nD τ).loc main_arg3) : FVec Ideal S16x1024x2048 .f32) (ix3 (grid0.coords t 1) d (half_pos (grid0.coords t 2) k)) := by
  have e : (((cfgM m hO).win 3).blk t).view.emb ((ix3 0 d k : S1x1024x1024.Idx)) = (ix3 (grid0.coords t 1) d (half_pos (grid0.coords t 2) k) : S16x1024x2048.Idx) := by
    funext a
    refine Fin.ext ?_
    match a with
    | ⟨0, _⟩ =>
      show (BitVec.ofNat 32 (grid0.coords t 1).val).toNat * 1 + 1 * 0 = (grid0.coords t 1).val
      have h := small_toNat (grid0.coords t 1) ((by decide : (16 : ℕ) ≤ _))
      omega
    | ⟨1, _⟩ => show 0 * 1024 + 1 * d.val = d.val; omega
    | ⟨2, _⟩ =>
      show (BitVec.ofNat 32 (grid0.coords t 2).val).toNat * 1024 + 1 * k.val = (grid0.coords t 2).val * 1024 + k.val
      have h := small_toNat (grid0.coords t 2) ((by decide : (2 : ℕ) ≤ _))
      omega
  unfold iblk
  refine (congrArg (V m c main_v41) e).trans ?_
  refine (congrFun (V_main_v41 m c) _).trans ?_
  rfl

/-- The point’s half of the second weights of its expert. -/
theorem iblk4_apply (d : Fin 1024) (k : Fin 1024) : iblk m hO c 4 t ((ix3 0 d k : S1x1024x1024.Idx)) = (m ((c : Thread nD τ).loc main_arg4) : FVec Ideal S16x1024x2048 .f32) (ix3 (grid0.coords t 1) d (half_pos (grid0.coords t 2) k)) := by
  have e : (((cfgM m hO).win 4).blk t).view.emb ((ix3 0 d k : S1x1024x1024.Idx)) = (ix3 (grid0.coords t 1) d (half_pos (grid0.coords t 2) k) : S16x1024x2048.Idx) := by
    funext a
    refine Fin.ext ?_
    match a with
    | ⟨0, _⟩ =>
      show (BitVec.ofNat 32 (grid0.coords t 1).val).toNat * 1 + 1 * 0 = (grid0.coords t 1).val
      have h := small_toNat (grid0.coords t 1) ((by decide : (16 : ℕ) ≤ _))
      omega
    | ⟨1, _⟩ => show 0 * 1024 + 1 * d.val = d.val; omega
    | ⟨2, _⟩ =>
      show (BitVec.ofNat 32 (grid0.coords t 2).val).toNat * 1024 + 1 * k.val = (grid0.coords t 2).val * 1024 + k.val
      have h := small_toNat (grid0.coords t 2) ((by decide : (2 : ℕ) ≤ _))
      omega
  unfold iblk
  refine (congrArg (V m c main_v42) e).trans ?_
  refine (congrFun (V_main_v42 m c) _).trans ?_
  rfl

/-- The point’s half of the last weights of its expert. -/
theorem iblk5_apply (k : Fin 1024) (o : Fin 1024) : iblk m hO c 5 t ((ix3 0 k o : S1x1024x1024.Idx)) = (m ((c : Thread nD τ).loc main_arg5) : FVec Ideal S16x2048x1024 .f32) (ix3 (grid0.coords t 1) (half_pos (grid0.coords t 2) k) o) := by
  have e : (((cfgM m hO).win 5).blk t).view.emb ((ix3 0 k o : S1x1024x1024.Idx)) = (ix3 (grid0.coords t 1) (half_pos (grid0.coords t 2) k) o : S16x2048x1024.Idx) := by
    funext a
    refine Fin.ext ?_
    match a with
    | ⟨0, _⟩ =>
      show (BitVec.ofNat 32 (grid0.coords t 1).val).toNat * 1 + 1 * 0 = (grid0.coords t 1).val
      have h := small_toNat (grid0.coords t 1) ((by decide : (16 : ℕ) ≤ _))
      omega
    | ⟨1, _⟩ =>
      show (BitVec.ofNat 32 (grid0.coords t 2).val).toNat * 1024 + 1 * k.val = (grid0.coords t 2).val * 1024 + k.val
      have h := small_toNat (grid0.coords t 2) ((by decide : (2 : ℕ) ≤ _))
      omega
    | ⟨2, _⟩ => show 0 * 1024 + 1 * o.val = o.val; omega
  unfold iblk
  refine (congrArg (V m c main_v43) e).trans ?_
  refine (congrFun (V_main_v43 m c) _).trans ?_
  rfl

end Cert.KernelIdeal

end
-- ==== Proof.Result.lean ====
module

public import proofs.«01_k».proof.Proof.Body
public import proofs.«01_k».proof.Proof.Array

/-! What the kernel leaves in its result: of every picked token of an expert, the expert's network times the token's gate. -/

@[expose] public section

set_option maxRecDepth 16384

noncomputable section

namespace Cert.KernelIdeal

open Gen
open Idealize.ShloMosaic Idealize.ShloMosaic.ValueIdx Idealize.ShloMosaic.TcCoe Idealize.ShloMosaic.Tactic
open scoped BigOperators

variable (m : (ℓ : Loc nD τ sig) → Buf (Elt Ideal) ℓ) (hO : Ok m) (c : Dev nD)
  (tok : Fin 16 → Fin 16 → Fin 512 → Fin 4096)
  (hi : ∀ b e s, (m ((c : Thread nD τ).loc main_arg2) : IVec S16x16x512 32) (ix3 b e s) = BitVec.ofNat 32 (tok b e s).val)
  (hm : ∀ b e, StrictMono (tok b e))

abbrev rows : FVec Ideal S16x4096x1024 .f32 := m ((c : Thread nD τ).loc main_arg0)
abbrev gates : FVec Ideal S16x16x4096 .f32 := m ((c : Thread nD τ).loc main_arg1)
abbrev wa : FVec Ideal S16x1024x2048 .f32 := m ((c : Thread nD τ).loc main_arg3)
abbrev wb : FVec Ideal S16x1024x2048 .f32 := m ((c : Thread nD τ).loc main_arg4)
abbrev wo : FVec Ideal S16x2048x1024 .f32 := m ((c : Thread nD τ).loc main_arg5)

theorem coords0 (t : Fin grid0.N) : (grid0.coords t 0).val = t.val / 32 % 16 := rfl
theorem coords1 (t : Fin grid0.N) : (grid0.coords t 1).val = t.val / 2 % 16 := rfl
theorem coords2 (t : Fin grid0.N) : (grid0.coords t 2).val = t.val / 1 % 2 := rfl

include hi in
/-- The table's words of an expert count its tokens before each tile. -/
theorem word_tbl (i : grid0.Coords) (j : ℕ) (hj : j ≤ 16) :
    word (c := c) (tbl m 0) i j = BitVec.ofNat 32 (below (tok (i 0) (i 1)) j) := by
  obtain rfl : c = 0 := Subsingleton.elim _ _
  have h0 : (i 0).val < 16 := (i 0).isLt
  have h1 : (i 1).val < 16 := (i 1).isLt
  unfold word
  refine (dif_pos (by omega : 2048 * (i 0).val + 128 * (i 1).val + j < 32768)).trans ?_
  refine (congrFun (V_main_v44 m 0) _).trans ?_
  refine (shapeCast_apply (counts (m (((0 : Dev nD) : Thread nD τ).loc main_arg2))) _ _ (ix3 (i 0) (i 1) ⟨j, by omega⟩) ?_).trans (counts_apply _ tok hi _ _ _)
  refine (Shape.rowMajor_val_three (d := ![16, 16, 128]) _).trans (Eq.trans ?_ (Shape.rowMajor_val_one (d := ![32768]) _).symm)
  show ((i 0).val * 16 + (i 1).val) * 128 + j = 2048 * (i 0).val + 128 * (i 1).val + j
  omega

include hi hm in
/-- The tables the body reads at a point say which tokens its expert picked. -/
theorem routed (t : Fin (cfgM m hO).N) : Routed (word (c := c) (tbl m 0) (grid0.coords t)) (iblk m hO c 1 t) (tok (grid0.coords t 0) (grid0.coords t 1)) where
  slot s k := by
    rw [show (iblk m hO c 1 t : Vec Ideal S1x1x1x4096 .i32) (ix4 0 0 0 s) = _ from iblk1_apply m hO c t s]
    exact slots_apply _ tok hi hm _ _ s k
  cut j hj := word_tbl m c tok hi _ j hj
  mono := hm _ _

/-- One half of the hidden positions' share of the expert's network. -/
def share (b e : Fin 16) (f : Fin 2) (s : Fin 512) (o : Fin 1024) : Ideal .f32 :=
  ∑ k : Fin 1024, hidden (fun d => rows m c (ix3 b (tok b e s) d)) (fun d => wa m c (ix3 e d (half_pos f k))) (fun d => wb m c (ix3 e d (half_pos f k)))
    * wo m c (ix3 e (half_pos f k) o)

theorem half_iblk (t : Fin (cfgM m hO).N) (s : Fin 512) (o : Fin 1024) :
    half (fun d => rows m c (ix3 (grid0.coords t 0) (tok (grid0.coords t 0) (grid0.coords t 1) s) d)) (iblk m hO c 3 t) (iblk m hO c 4 t) (iblk m hO c 5 t) o
      = share m c tok (grid0.coords t 0) (grid0.coords t 1) (grid0.coords t 2) s o := by
  unfold half share
  refine Finset.sum_congr rfl fun k _ => ?_
  exact congrArg₂ (· * ·) (congrArg₂ (hidden _) (funext fun d => iblk3_apply m hO c t d k) (funext fun d => iblk4_apply m hO c t d k)) (iblk5_apply m hO c t k o)

/-- The first entry of a quadruple. -/
theorem part0 {α β γ δ : Type} {p : α × β × γ × δ} {a : α} {b : β} {u : γ} {d : δ} (h : p = (a, b, u, d)) : p.1 = a := by rw [h]

/-- The second entry of a quadruple. -/
theorem part1 {α β γ δ : Type} {p : α × β × γ × δ} {a : α} {b : β} {u : γ} {d : δ} (h : p = (a, b, u, d)) : p.2.1 = b := by rw [h]

/-- The third entry of a quadruple. -/
theorem part2 {α β γ δ : Type} {p : α × β × γ × δ} {a : α} {b : β} {u : γ} {d : δ} (h : p = (a, b, u, d)) : p.2.2.1 = u := by rw [h]

/-- The fourth entry of a quadruple. -/
theorem part3 {α β γ δ : Type} {p : α × β × γ × δ} {a : α} {b : β} {u : γ} {d : δ} (h : p = (a, b, u, d)) : p.2.2.2 = d := by rw [h]

include hi hm in
/-- What a point of the first half carries over: the picked rows, -/
theorem even_rows (t : Fin (cfgM m hO).N) (h0 : t.val % 2 = 0) (s : Fin 512) (d : Fin 1024) :
    (outsAt0 m hO c t.val t.isLt).2.1 (ix2 s d) = rows m c (ix3 (grid0.coords t 0) (tok (grid0.coords t 0) (grid0.coords t 1) s) d) := by
  have h1 : ¬t.val % 2 = 1 := by omega
  refine (congrFun (part1 (outsAt0_A m hO c t h0 h1)) (ix2 s d)).trans ?_
  refine (sout0_A_0_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0) (routed m hO c tok hi hm t) (ix2 s d)).trans ?_
  exact iblk0_apply m hO c t _ d

include hi hm in
/-- the first half's share, -/
theorem even_share (t : Fin (cfgM m hO).N) (h0 : t.val % 2 = 0) (s : Fin 512) (o : Fin 1024) :
    (outsAt0 m hO c t.val t.isLt).2.2.1 (ix2 s o) = share m c tok (grid0.coords t 0) (grid0.coords t 1) (grid0.coords t 2) s o := by
  have h1 : ¬t.val % 2 = 1 := by omega
  refine (congrFun (part2 (outsAt0_A m hO c t h0 h1)) (ix2 s o)).trans ?_
  refine (sout0_A_1_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0) (routed m hO c tok hi hm t) s o).trans ?_
  refine Eq.trans ?_ (half_iblk m hO c tok t s o)
  exact congrArg (fun x => half x (iblk m hO c 3 t) (iblk m hO c 4 t) (iblk m hO c 5 t) o) (funext fun d => iblk0_apply m hO c t _ d)

include hi hm in
/-- and the gates. -/
theorem even_gates (t : Fin (cfgM m hO).N) (h0 : t.val % 2 = 0) (s : Fin 512) :
    (outsAt0 m hO c t.val t.isLt).2.2.2 (ix2 s 0) = gates m c (ix3 (grid0.coords t 0) (grid0.coords t 1) (tok (grid0.coords t 0) (grid0.coords t 1) s)) := by
  have h1 : ¬t.val % 2 = 1 := by omega
  refine (congrFun (part3 (outsAt0_A m hO c t h0 h1)) (ix2 s 0)).trans ?_
  refine (sout0_A_3_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0) (routed m hO c tok hi hm t) (ix2 s 0)).trans ?_
  exact iblk2_apply m hO c t _

/-- The kernel's result. -/
def result : FVec Ideal S16x16x512x1024 .bf16 := fun i =>
  (share m c tok (i 0) (i 1) 0 (i 2) (i 3) + share m c tok (i 0) (i 1) 1 (i 2) (i 3)) * gates m c (ix3 (i 0) (i 1) (tok (i 0) (i 1) (i 2)))

include hi hm in
/-- What a point of the second half leaves in its block. -/
theorem odd_out (t : Fin (cfgM m hO).N) (h1 : t.val % 2 = 1) (s : Fin 512) (o : Fin 1024) :
    (outsAt0 m hO c t.val t.isLt).1 (ix4 0 0 s o) = result m c tok (ix4 (grid0.coords t 0) (grid0.coords t 1) s o) := by
  have hp : t.val - 1 < (cfgM m hO).N := Nat.lt_of_le_of_lt (Nat.sub_le _ _) t.isLt
  have hN : (cfgM m hO).N = 512 := N_0
  have ht := t.isLt
  have e0 : grid0.coords (⟨t.val - 1, hp⟩ : Fin (cfgM m hO).N) 0 = grid0.coords t 0 :=
    Fin.ext (by show (t.val - 1) / 32 % 16 = t.val / 32 % 16; omega)
  have e1 : grid0.coords (⟨t.val - 1, hp⟩ : Fin (cfgM m hO).N) 1 = grid0.coords t 1 :=
    Fin.ext (by show (t.val - 1) / 2 % 16 = t.val / 2 % 16; omega)
  have e2 : grid0.coords (⟨t.val - 1, hp⟩ : Fin (cfgM m hO).N) 2 = (0 : Fin 2) :=
    Fin.ext (by show (t.val - 1) / 1 % 2 = 0; omega)
  have e3 : grid0.coords t 2 = (1 : Fin 2) := Fin.ext (by show t.val / 1 % 2 = 1; omega)
  have r := even_rows m hO c tok hi hm ⟨t.val - 1, hp⟩ (by show (t.val - 1) % 2 = 0; omega) s
  have a := even_share m hO c tok hi hm ⟨t.val - 1, hp⟩ (by show (t.val - 1) % 2 = 0; omega) s o
  have g := even_gates m hO c tok hi hm ⟨t.val - 1, hp⟩ (by show (t.val - 1) % 2 = 0; omega) s
  rw [e0, e1] at g
  rw [e0, e1, e2] at a
  have r' := fun d => (r d).trans (by rw [e0, e1])
  have h0 : ¬t.val % 2 = 0 := by omega
  refine (congrFun (part0 (outsAt0_B m hO c t h0 h1)) (ix4 0 0 s o)).trans ?_
  refine (out0_B_6_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 s o).trans ?_
  refine congrArg₂ (· * ·) (congrArg₂ (· + ·) a ?_) g
  refine Eq.trans ?_ ((half_iblk m hO c tok t s o).trans (by rw [e3]))
  exact congrArg (fun x => half x (iblk m hO c 3 t) (iblk m hO c 4 t) (iblk m hO c 5 t) o) (funext fun d => r' d)

end Cert.KernelIdeal

end
-- ==== Proof.Wanted.lean ====
module

public import proofs.«01_k».proof.Proof.Gen.ReferenceIdeal.Read
public import proofs.«01_k».proof.Proof.Expert
public import Idealize.ShloMosaic.Lib.ReduceAll
public import Idealize.ShloMosaic.Lib.WordCmp

/-! The reference at an index, on extended reals: where every picked token is one of the 4096 tokens, a slot's output is the expert applied to
    the token's row, times the token's gate. -/

@[expose] public section

noncomputable section

namespace Cert.ReferenceIdeal

open Gen Read
open Idealize.ShloMosaic Idealize.ShloMosaic.ValueIdx Idealize.ShloMosaic.TcCoe
open scoped BigOperators

theorem word_toInt (t : Fin 4096) : (BitVec.ofNat 32 t.val).toInt = (t.val : Int) :=
  WordCmp.toInt_ofNat_of_lt (by have := t.isLt; show t.val < 2 ^ 31; omega)

/-- A token index is not negative: the wrap leaves it. -/
theorem wrap_word (t : Fin 4096) (a : BitVec 32) : Scalar.select (IntOp.cmpi .slt (BitVec.ofNat 32 t.val) 0#32) a (BitVec.ofNat 32 t.val) = BitVec.ofNat 32 t.val := by
  have h : IntOp.cmpi .slt (BitVec.ofNat 32 t.val) 0#32 = 0#1 := by
    rw [WordCmp.cmpi_slt_eq, word_toInt]
    have : ¬ ((t.val : Int) < (0#32 : BitVec 32).toInt) := by
      have e : (0#32 : BitVec 32).toInt = 0 := by decide
      omega
    rw [decide_eq_false this]; rfl
  rw [h]; rfl

/-- The gates' gather: row `(b, e)` at the word's token. -/
theorem gather_gate (x : Vec Ideal S16x16x4096 .f32) (idx : IVec S16x16x512x1 32) (b e : Fin 16) (c : Fin 512) (t : Fin 4096) (h : idx (ix4 b e c 0) = BitVec.ofNat 32 t.val) :
    Host.gather gather_S16x16x4096_S16x16x512x1_S16x16x512_n_2_01_01_2_3_111 x idx (ix3 b e c) = x (ix3 b e t) := by
  unfold Host.gather
  congr 1
  funext a
  refine Fin.ext ?_
  show gather_S16x16x4096_S16x16x512x1_S16x16x512_n_2_01_01_2_3_111.start (ix3 b e c) idx a + gather_S16x16x4096_S16x16x512x1_S16x16x512_n_2_01_01_2_3_111.batchCoord (ix3 b e c) a
    + gather_S16x16x4096_S16x16x512x1_S16x16x512_n_2_01_01_2_3_111.offCoord (ix3 b e c) a = _
  rw [GatherDims.offCoord_eq_zero _ _ _ (fun h => by
    have h := (GatherDims.mem_sKept _ _).mp h
    match a, h with
    | ⟨0, _⟩, h => exact h.2 (List.mem_cons_self ..)
    | ⟨1, _⟩, h => exact h.2 (List.mem_cons_of_mem _ (List.mem_cons_self ..))
    | ⟨2, _⟩, h => exact h.1 (List.mem_cons_self ..)), Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_cons_self ..), Nat.zero_add]
    rfl
  · rw [GatherDims.start_batching _ _ _ _ (List.mem_cons_of_mem _ (List.mem_cons_self ..)), Nat.zero_add]
    rfl
  · rw [GatherDims.batchCoord_eq_zero _ _ _ (by decide), Nat.add_zero]
    unfold GatherDims.start
    rw [dif_pos (show (2 : Fin 3) ∈ gather_S16x16x4096_S16x16x512x1_S16x16x512_n_2_01_01_2_3_111.startIndexMap from List.mem_cons_self ..)]
    have hsi : gather_S16x16x4096_S16x16x512x1_S16x16x512_n_2_01_01_2_3_111.siIdx (ix3 b e c)
        ⟨List.idxOf (2 : Fin 3) gather_S16x16x4096_S16x16x512x1_S16x16x512_n_2_01_01_2_3_111.startIndexMap, List.idxOf_lt_length_iff.2 (List.mem_cons_self ..)⟩ = ix4 b e c 0 := by
      funext k; refine Fin.ext ?_
      match k with
      | ⟨0, _⟩ => rfl
      | ⟨1, _⟩ => rfl
      | ⟨2, _⟩ => rfl
      | ⟨3, _⟩ => rfl
    refine (congrArg (fun w => min (idx w).toInt.toNat 4095) hsi).trans ?_
    show min (idx (ix4 b e c 0)).toInt.toNat 4095 = t.val
    rw [h, word_toInt]
    have := t.isLt
    omega

/-- The rows' gather: of batch `b`, the word's token. -/
theorem gather_row (x : Vec Ideal S16x4096x1024 .f32) (idx : IVec S16x16x512x1 32) (b e : Fin 16) (c : Fin 512) (d : Fin 1024) (t : Fin 4096)
    (h : idx (ix4 b e c 0) = BitVec.ofNat 32 t.val) :
    Host.gather gather_S16x4096x1024_S16x16x512x1_S16x16x512x1024_3_1_0_0_1_3_111024 x idx (ix4 b e c d) = x (ix3 b t d) := by
  unfold Host.gather
  congr 1
  funext a
  refine Fin.ext ?_
  show gather_S16x4096x1024_S16x16x512x1_S16x16x512x1024_3_1_0_0_1_3_111024.start (ix4 b e c d) idx a + gather_S16x4096x1024_S16x16x512x1_S16x16x512x1024_3_1_0_0_1_3_111024.batchCoord (ix4 b e c d) a
    + gather_S16x4096x1024_S16x16x512x1_S16x16x512x1024_3_1_0_0_1_3_111024.offCoord (ix4 b e c d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_cons_self ..), Nat.zero_add]
    rfl
  · rw [GatherDims.batchCoord_eq_zero _ _ _ (by decide), Nat.add_zero, GatherDims.offCoord_eq_zero _ _ _ (by decide), Nat.add_zero]
    unfold GatherDims.start
    rw [dif_pos (show (1 : Fin 3) ∈ gather_S16x4096x1024_S16x16x512x1_S16x16x512x1024_3_1_0_0_1_3_111024.startIndexMap from List.mem_cons_self ..)]
    have hsi : gather_S16x4096x1024_S16x16x512x1_S16x16x512x1024_3_1_0_0_1_3_111024.siIdx (ix4 b e c d)
        ⟨List.idxOf (1 : Fin 3) gather_S16x4096x1024_S16x16x512x1_S16x16x512x1024_3_1_0_0_1_3_111024.startIndexMap, List.idxOf_lt_length_iff.2 (List.mem_cons_self ..)⟩ = ix4 b e c 0 := by
      funext k; refine Fin.ext ?_
      match k with
      | ⟨0, _⟩ => rfl
      | ⟨1, _⟩ => rfl
      | ⟨2, _⟩ => rfl
      | ⟨3, _⟩ => rfl
    refine (congrArg (fun w => min (idx w).toInt.toNat 4095) hsi).trans ?_
    show min (idx (ix4 b e c 0)).toInt.toNat 4095 = t.val
    rw [h, word_toInt]
    have := t.isLt
    omega
  · rw [GatherDims.batchCoord_eq_zero _ _ _ (by decide), Nat.add_zero]
    unfold GatherDims.start
    rw [dif_neg (by decide), Nat.zero_add]
    rfl

section
variable (x0 : Vec Ideal S16x4096x1024 .f32) (x1 : Vec Ideal S16x16x4096 .f32) (x2 : Vec Ideal S16x16x512 .i32) (x3 x4 : Vec Ideal S16x1024x2048 .f32) (x5 : Vec Ideal S16x2048x1024 .f32)
  (tok : Fin 16 → Fin 16 → Fin 512 → Fin 4096) (ht : ∀ b e c, x2 (ix3 b e c) = BitVec.ofNat 32 (tok b e c).val)

include ht in
theorem call0_v5_word (b e : Fin 16) (c : Fin 512) : val_main_call0_v5 (F := Ideal) x2 (ix4 b e c 0) = BitVec.ofNat 32 (tok b e c).val := by
  rw [val_main_call0_v5_apply]
  have hi : idx_main_call0_v5 (ix4 b e c 0) = ix3 b e c := by
    funext k; refine Fin.ext ?_
    have hb := b.isLt; have he := e.isLt; have hc := c.isLt
    match k with
    | ⟨0, _⟩ => show (((b.val * 16 + e.val) * 512 + c.val) * 1 + 0) / 8192 = b.val; omega
    | ⟨1, _⟩ => show (((b.val * 16 + e.val) * 512 + c.val) * 1 + 0) / 512 % 16 = e.val; omega
    | ⟨2, _⟩ => show (((b.val * 16 + e.val) * 512 + c.val) * 1 + 0) % 512 = c.val; omega
  rw [hi]
  refine Eq.trans ?_ (wrap_word (tok b e c) (val_main_call0_v3 (F := Ideal) x2 (ix3 b e c)))
  show Scalar.select (IntOp.cmpi .slt (x2 (ix3 b e c)) (val_main_call0_v0 (F := Ideal) (ix3 b e c))) _ (x2 (ix3 b e c)) = _
  rw [ht, val_main_call0_v0_apply]
  rfl

include ht in
theorem v6_word (b e : Fin 16) (c : Fin 512) : val_main_v6 (F := Ideal) x2 (ix4 b e c 0) = BitVec.ofNat 32 (tok b e c).val := by
  rw [val_main_v6_apply]
  have hi : idx_main_v6 (ix4 b e c 0) = ix3 b e c := by
    funext k; refine Fin.ext ?_
    match k with
    | ⟨0, _⟩ => rfl
    | ⟨1, _⟩ => rfl
    | ⟨2, _⟩ => rfl
  rw [hi]
  refine Eq.trans ?_ (wrap_word (tok b e c) (val_main_v4 (F := Ideal) x2 (ix3 b e c)))
  show Scalar.select (IntOp.cmpi .slt (x2 (ix3 b e c)) (val_main_v1 (F := Ideal) (ix3 b e c))) _ (x2 (ix3 b e c)) = _
  rw [ht, val_main_v1_apply]
  rfl

include ht in
/-- Every picked token is in range: the gates' mask is one everywhere. -/
theorem mask_one (j : S16x16x512.Idx) : val_main_call0_v12 (F := Ideal) x2 j = 1#1 := by
  unfold val_main_call0_v12
  refine Host.reduce_andi_one _ _ _ _ j rfl fun i => ?_
  obtain ⟨b, e, c, rfl⟩ : ∃ (b e : Fin 16) (c : Fin 512), i = ix4 b e c 0 :=
    ⟨i 0, i 1, i 2, (eq_ix4 i).trans (congrArg (ix4 (i 0) (i 1) (i 2)) (Subsingleton.elim (α := Fin 1) _ _))⟩
  rw [val_main_call0_v11_apply, val_main_call0_v7_apply, val_main_call0_v10_apply, call0_v5_word x2 tok ht, val_main_call0_v6_apply, val_main_call0_v9_apply, val_main_call0_v8_apply]
  show IntOp.andi (IntOp.cmpi .sge (BitVec.ofNat 32 (tok b e c).val) 0#32) (IntOp.cmpi .sle (BitVec.ofNat 32 (tok b e c).val) 4095#32) = 1#1
  rw [WordCmp.cmpi_sge_eq, WordCmp.cmpi_sle_eq, word_toInt]
  have := (tok b e c).isLt
  have e0 : (0#32 : BitVec 32).toInt = 0 := by decide
  have e1 : (4095#32 : BitVec 32).toInt = 4095 := by decide
  rw [decide_eq_true (by omega), decide_eq_true (by omega)]
  rfl

include ht in
theorem gate_apply (b e : Fin 16) (c : Fin 512) : val_main_v0 (F := Ideal) x1 x2 (ix3 b e c) = x1 (ix3 b e (tok b e c)) := by
  rw [val_main_v0_apply, mask_one x2 tok ht]
  show val_main_call0_v13 (F := Ideal) x1 x2 (ix3 b e c) = _
  exact gather_gate x1 _ b e c (tok b e c) (call0_v5_word x2 tok ht b e c)

include ht in
theorem row_apply (b e : Fin 16) (c : Fin 512) (d : Fin 1024) : val_main_v7 (F := Ideal) x0 x2 (ix4 b e c d) = x0 (ix3 b (tok b e c) d) :=
  gather_row x0 _ b e c d (tok b e c) (v6_word x2 tok ht b e c)

include ht in
theorem v9_apply (b e : Fin 16) (c : Fin 512) (k : Fin 2048) :
    val_main_v9 (F := Ideal) x0 x2 x3 (ix4 b e c k) = ∑ d : Fin 1024, x0 (ix3 b (tok b e c) d) * x3 (ix3 e d k) := by
  rw [val_main_v9_apply, val_main_v8_apply]
  refine Finset.sum_congr rfl fun d _ => ?_
  have hl : lidx_main_v8 (idx_main_v9 (ix4 b e c k)) d = ix3 e d k := by
    funext a; match a with
    | ⟨0, _⟩ => rfl
    | ⟨1, _⟩ => rfl
    | ⟨2, _⟩ => rfl
  have hr : ridx_main_v8 (idx_main_v9 (ix4 b e c k)) d = ix4 b e c d := by
    funext a; match a with
    | ⟨0, _⟩ => rfl
    | ⟨1, _⟩ => rfl
    | ⟨2, _⟩ => rfl
    | ⟨3, _⟩ => rfl
  rw [hl, hr, row_apply x0 x2 tok ht, mul_comm]

include ht in
theorem v11_apply (b e : Fin 16) (c : Fin 512) (k : Fin 2048) :
    val_main_v11 (F := Ideal) x0 x2 x4 (ix4 b e c k) = ∑ d : Fin 1024, x0 (ix3 b (tok b e c) d) * x4 (ix3 e d k) := by
  rw [val_main_v11_apply, val_main_v10_apply]
  refine Finset.sum_congr rfl fun d _ => ?_
  have hl : lidx_main_v10 (idx_main_v11 (ix4 b e c k)) d = ix3 e d k := by
    funext a; match a with
    | ⟨0, _⟩ => rfl
    | ⟨1, _⟩ => rfl
    | ⟨2, _⟩ => rfl
  have hr : ridx_main_v10 (idx_main_v11 (ix4 b e c k)) d = ix4 b e c d := by
    funext a; match a with
    | ⟨0, _⟩ => rfl
    | ⟨1, _⟩ => rfl
    | ⟨2, _⟩ => rfl
    | ⟨3, _⟩ => rfl
  rw [hl, hr, row_apply x0 x2 tok ht, mul_comm]

include ht in
theorem v13_apply (b e : Fin 16) (c : Fin 512) (k : Fin 2048) :
    val_main_v13 (F := Ideal) x0 x2 x3 x4 (ix4 b e c k) = Cert.KernelIdeal.hidden (fun d => x0 (ix3 b (tok b e c) d)) (fun d => x3 (ix3 e d k)) (fun d => x4 (ix3 e d k)) := by
  rw [val_main_v13_apply, val_main_v12_apply, val_main_call1_v5_apply, val_main_call1_v3_apply, val_main_call1_v1_apply, val_main_call1_v0_apply, v11_apply x0 x2 x4 tok ht, v9_apply x0 x2 x3 tok ht,
    val_main_call1_v4_apply, val_main_call1_v2_apply, val_main_call1_cst_apply, val_main_call1_cst_0_apply]
  unfold Cert.KernelIdeal.hidden
  have key : ∀ g : EReal, Ideal.div (Ideal.ofBits .f32 0x3F800000#32) (Ideal.ofBits .f32 0x3F800000#32 + Ideal.exp (-g)) = Ideal.logistic g := by
    intro g
    rw [Ideal.ofBits_one_f32]
    rfl
  exact congrArg₂ (· * ·) (congrArg₂ (· * ·) rfl (key _)) rfl

include ht in
/-- The reference at a slot and an output: the picked row through the expert, times its gate. -/
theorem wanted_apply (b e : Fin 16) (c : Fin 512) (o : Fin 1024) :
    val_main_v19 (F := Ideal) x0 x1 x2 x3 x4 x5 (ix4 b e c o)
      = (∑ k : Fin 2048, Cert.KernelIdeal.hidden (fun d => x0 (ix3 b (tok b e c) d)) (fun d => x3 (ix3 e d k)) (fun d => x4 (ix3 e d k)) * x5 (ix3 e k o)) * x1 (ix3 b e (tok b e c)) := by
  rw [val_main_v19_apply, val_main_v18_apply, val_main_v15_apply, val_main_v14_apply, val_main_v17_apply, val_main_v16_apply]
  have hg : idx_main_v16 (idx_main_v17 (ix4 b e c o)) = ix3 b e c := by
    funext a; match a with
    | ⟨0, _⟩ => rfl
    | ⟨1, _⟩ => rfl
    | ⟨2, _⟩ => rfl
  rw [hg, gate_apply x1 x2 tok ht]
  refine congrArg₂ (· * ·) (Finset.sum_congr rfl fun k _ => ?_) rfl
  have hl : lidx_main_v14 (idx_main_v15 (ix4 b e c o)) k = ix3 e k o := by
    funext a; match a with
    | ⟨0, _⟩ => rfl
    | ⟨1, _⟩ => rfl
    | ⟨2, _⟩ => rfl
  have hr : ridx_main_v14 (idx_main_v15 (ix4 b e c o)) k = ix4 b e c k := by
    funext a; match a with
    | ⟨0, _⟩ => rfl
    | ⟨1, _⟩ => rfl
    | ⟨2, _⟩ => rfl
    | ⟨3, _⟩ => rfl
  rw [hl, hr, v13_apply x0 x2 x3 x4 tok ht, mul_comm]

end

end Cert.ReferenceIdeal

end
-- ==== Proof.Final.lean ====
module

public import proofs.«01_k».proof.Proof.Result
public import proofs.«01_k».proof.Proof.Wanted
public import proofs.«01_k».proof.Proof.Twin
public import Idealize.ShloMosaic.Lib.Pipeline.ValueKit.Geometry

/-! The kernel's result array is the reference's. -/

@[expose] public section

set_option maxRecDepth 16384

noncomputable section

namespace Cert.KernelIdeal

open Gen
open Idealize.ShloMosaic Idealize.ShloMosaic.ValueIdx Idealize.ShloMosaic.TcCoe Idealize.ShloMosaic.Tactic Idealize.SL.Sem
open scoped BigOperators

section array

variable (m : (ℓ : Loc nD τ sig) → Buf (Elt Ideal) ℓ) (hO : Ok m) (c : Dev nD)
  (tok : Fin 16 → Fin 16 → Fin 512 → Fin 4096)
  (hi : ∀ b e s, (m ((c : Thread nD τ).loc main_arg2) : IVec S16x16x512 32) (ix3 b e s) = BitVec.ofNat 32 (tok b e s).val)
  (hm : ∀ b e, StrictMono (tok b e))

/-- Where a point's block of the result lies in the array. -/
theorem result_emb (t : Fin (cfgM m hO).N) (s : Fin 512) (o : Fin 1024) :
    (((cfgM m hO).win 6).blk t).view.emb ((ix4 0 0 s o : S1x1x512x1024.Idx)) = (ix4 (grid0.coords t 0) (grid0.coords t 1) s o : S16x16x512x1024.Idx) := by
  funext a
  refine Fin.ext ?_
  match a with
  | ⟨0, _⟩ =>
    show (BitVec.ofNat 32 (grid0.coords t 0).val).toNat * 1 + 1 * 0 = (grid0.coords t 0).val
    have h := small_toNat (grid0.coords t 0) ((by decide : (16 : ℕ) ≤ _))
    omega
  | ⟨1, _⟩ =>
    show (BitVec.ofNat 32 (grid0.coords t 1).val).toNat * 1 + 1 * 0 = (grid0.coords t 1).val
    have h := small_toNat (grid0.coords t 1) ((by decide : (16 : ℕ) ≤ _))
    omega
  | ⟨2, _⟩ => show 0 * 512 + 1 * s.val = s.val; omega
  | ⟨3, _⟩ => show 0 * 1024 + 1 * o.val = o.val; omega

/-- Every element of the result lies in the block of a point that writes its block back. -/
theorem result_cover (i : S16x16x512x1024.Idx) : ∃ t : Fin (cfgM m hO).N, ((cfgM m hO).win 6).flush t = true ∧ i ∈ (((cfgM m hO).win 6).blk t).view.set := by
  have h0 : (i 0).val < 16 := (i 0).isLt
  have h1 : (i 1).val < 16 := (i 1).isLt
  have hN : (cfgM m hO).N = 512 := N_0
  let t : Fin (cfgM m hO).N := ⟨32 * (i 0).val + 2 * (i 1).val + 1, by omega⟩
  have hf : ((cfgM m hO).win 6).flush t = true := (flush0_6 (adm m hO) t).mpr (by show (32 * (i 0).val + 2 * (i 1).val + 1) % 2 = 1; omega)
  have e0 : grid0.coords t 0 = i 0 := Fin.ext (by show (32 * (i 0).val + 2 * (i 1).val + 1) / 32 % 16 = (i 0).val; omega)
  have e1 : grid0.coords t 1 = i 1 := Fin.ext (by show (32 * (i 0).val + 2 * (i 1).val + 1) / 2 % 16 = (i 1).val; omega)
  have e : (((cfgM m hO).win 6).blk t).view.emb ((ix4 0 0 (i 2) (i 3) : S1x1x512x1024.Idx)) = i := by
    refine (result_emb m hO t (i 2) (i 3)).trans ?_
    rw [e0, e1]
    exact (eq_ix4 i).symm
  exact ⟨t, hf, Eq.mp (congrArg (fun x => x ∈ (((cfgM m hO).win 6).blk t).view.set) e) (View.emb_mem_set (((cfgM m hO).win 6).blk t).view _)⟩

include hi hm in
/-- After the last point the result array holds `result`. -/
theorem final : (dats m hO 0 c).arrAt 6 (cfgM m hO).N = result m c tok := by
  refine Pipeline.Dat.arrAt_eq_of_emb (dats m hO 0 c) 6 (result m c tok) (fun t hf y => ?_) (result_cover m hO)
  have h1 : t.val % 2 = 1 := (flush0_6 (adm m hO) t).mp hf
  obtain ⟨y', hy⟩ : ∃ y' : S1x1x512x1024.Idx, y' = y := ⟨y, rfl⟩
  have ey : y = (ix4 0 0 (y' 2) (y' 3) : S1x1x512x1024.Idx) := by
    refine hy.symm.trans (funext fun a => ?_)
    match a with
    | ⟨0, _⟩ => exact Subsingleton.elim (α := Fin 1) _ _
    | ⟨1, _⟩ => exact Subsingleton.elim (α := Fin 1) _ _
    | ⟨2, _⟩ => rfl
    | ⟨3, _⟩ => rfl
  have w := (odd_out m hO c tok hi hm t h1 (y' 2) (y' 3)).trans (congrArg (result m c tok) (result_emb m hO t (y' 2) (y' 3))).symm
  rw [ey]
  refine Eq.trans ?_ w
  exact congrFun (after0_6 m hO c t) _

/-- The two halves' shares are the whole sum over the hidden positions. -/
theorem halves (g : Fin 2048 → EReal) : ∑ k : Fin 2048, g k = ∑ k : Fin 1024, g (half_pos 0 k) + ∑ k : Fin 1024, g (half_pos 1 k) := by
  refine (Fin.sum_univ_add (a := 1024) (b := 1024) g).trans (congrArg₂ (· + ·) (Finset.sum_congr rfl fun k _ => congrArg g (Fin.ext ?_)) (Finset.sum_congr rfl fun k _ => congrArg g (Fin.ext ?_)))
  · show k.val = 0 * 1024 + k.val; omega
  · show 1024 + k.val = 1 * 1024 + k.val; omega

include hi in
/-- The kernel's result is the reference's. -/
theorem result_eq_wanted : (result m c tok : FVec Ideal S16x16x512x1024 .bf16)
    = Cert.ReferenceIdeal.Read.val_main_v19 (F := Ideal) (rows m c) (gates m c) (m ((c : Thread nD τ).loc main_arg2)) (wa m c) (wb m c) (wo m c) := by
  funext i
  obtain ⟨b, e, s, o, rfl⟩ : ∃ b e s o, i = ix4 b e s o := ⟨i 0, i 1, i 2, i 3, eq_ix4 i⟩
  refine Eq.trans ?_ (Cert.ReferenceIdeal.wanted_apply (rows m c) (gates m c) (m ((c : Thread nD τ).loc main_arg2)) (wa m c) (wb m c) (wo m c) tok hi b e s o).symm
  exact congrArg (· * gates m c (ix3 b e (tok b e s))) (halves (fun k => hidden (fun d => rows m c (ix3 b (tok b e s) d)) (fun d => wa m c (ix3 e d k)) (fun d => wb m c (ix3 e d k)) * wo m c (ix3 e k o))).symm

end array

/-- The run of the idealized kernel on tokens given in range and in order: the result array ends at the reference's value, the
    arguments unchanged. -/
theorem run_value (m : (ℓ : Loc nD τ sig) → Buf (Elt Ideal) ℓ) (ρ : Dev nD → PrngReg)
    (tok : Dev nD → Fin 16 → Fin 16 → Fin 512 → Fin 4096)
    (hi : ∀ c b e s, (m ((c : Thread nD τ).loc main_arg2) : IVec S16x16x512 32) (ix3 b e s) = BitVec.ofNat 32 (tok c b e s).val)
    (hm : ∀ c b e, StrictMono (tok c b e)) :
    θ_run defs (onTc (τ := τ) (main (F := Ideal))) ⟨m, fun _ => 0, ρ⟩ (fun r => ∀ c : Dev nD,
      r.2.mem ((c.tc : Thread nD τ).loc main_v47) = result m c (tok c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hO : Ok m := Cert.Proof.ok m
  have h := θ_run_and (run_main m ρ hO) (unchanged m ρ hO)
  refine (θ_run defs _ _).mono (fun r h c => ⟨?_, h.2 c⟩) h
  exact ((h.1 c).1 6).trans (final m hO c (tok c) (hi c) (hm c))

end Cert.KernelIdeal

end
-- ==== Proof.GlaRow.lean ====
module

public import proofs.«01_k».proof.Proof.Gen.GlaIdeal.Frame
public import Idealize.ShloMosaic.Lib.ValueIdx
public import Idealize.ShloMosaic.Lib.ValueLayoutCasts
public import Idealize.ShloMosaic.Lib.MatmulPlain
public import Idealize.ShloMosaic.Lib.Pipeline.ValueKit.Tiles
public import Idealize.ShloMosaic.Lib.Pipeline.ValueKit.Acc

/-! What the body of the projections leaves of a block of rows, on extended reals: every row is normed and modulated, and
    multiplied with the columns of the weight. -/

@[expose] public section

noncomputable section

namespace Cert.GlaIdeal

open Gen
open Idealize.ShloMosaic Idealize.ShloMosaic.ValueIdx
open scoped BigOperators

/-- One element of a row after the norm and the modulation. -/
def entry (x g sc sh : Fin 1024 → EReal) (d : Fin 1024) : EReal :=
  x d * Ideal.rsqrt (Ideal.div (∑ k : Fin 1024, x k * x k) (Ideal.ofBits .f32 0x44800000#32) + Ideal.ofBits .f32 0x358637BD#32) * g d
    * (Ideal.ofBits .f32 0x3F800000#32 + sc d) + sh d

/-- The sum of the squares of each row. -/
theorem squares_apply (x : FVec Ideal S512x1024 .f32) (r : Fin 512) :
    multiReduction .add [1] S512 (mulf x x) 0x00000000#32 reduces_S512x1024_S512 (.inl rfl) rfl (ix1 r) = ∑ k : Fin 1024, x (ix2 r k) * x (ix2 r k) := by
  refine (Ideal.multiReduction_add_single _ _ reduces_S512x1024_S512 _ _ (ix1 r)).trans ?_
  refine Finset.sum_congr rfl fun k _ => Eq.trans (congrArg _ ?_) (mulf_apply x x (ix2 r k))
  funext a; apply Fin.ext
  match a with
  | ⟨0, _⟩ => rfl
  | ⟨1, _⟩ => rfl

/-- A column repeated along the rows. -/
theorem column_apply (v : FVec Ideal S512x1 .f32) (r : Fin 512) (d : Fin 1024) :
    broadcastTo S512x1024 v broadcasts_S512x1_S512x1024 (ix2 r d) = v (ix2 r 0) :=
  broadcastTo_apply _ broadcasts_S512x1_S512x1024 (ix2 r d) (ix2 r 0) fun a => by
    match a with
    | ⟨0, _⟩ => rfl
    | ⟨1, _⟩ => rfl

/-- A block with two leading axes of one, read as a row. -/
theorem line_apply (v : FVec Ideal S1x1x1024 .f32) (d : Fin 1024) :
    shapeCast S1x1024 v shapeCasts_S1x1x1024_S1x1024 (ix2 0 d) = v (ix3 0 0 d) :=
  shapeCast_1ab_ab_apply v shapeCasts_S1x1x1024_S1x1024 0 d

/-- The normed and modulated rows of a block. -/
theorem normed_apply (x : Vec Ideal S1x512x1024 .f32) (g : Vec Ideal S1x1024 .f32) (sc sh : Vec Ideal S1x1x1024 .f32) (r : Fin 512) (d : Fin 1024) :
    k0_pay4 x g sc sh (ix2 r d) = entry (fun k => x (ix3 0 r k)) (fun k => g (ix2 0 k)) (fun k => sc (ix3 0 0 k)) (fun k => sh (ix3 0 0 k)) d := by
  unfold k0_pay4 entry
  rw [truncf_apply, addf_apply, mulf_apply, mulf_apply, mulf_apply, column_apply, broadcastTo_1b_ab_apply, broadcastTo_1b_ab_apply, broadcastTo_1b_ab_apply,
    addf_apply, broadcast_apply, line_apply, line_apply, shapeCast_self, shapeCast_1ab_ab_apply]
  have e : ∀ k, shapeCast S512x1024 x shapeCasts_S1x512x1024_S512x1024 (ix2 r k) = x (ix3 0 r k) := fun k => shapeCast_1ab_ab_apply x shapeCasts_S1x512x1024_S512x1024 r k
  have n := squares_apply (shapeCast S512x1024 x shapeCasts_S1x512x1024_S512x1024) r
  rw [Finset.sum_congr rfl fun k _ => congrArg₂ (· * ·) (e k) (e k)] at n
  have q := congrArg (fun z => x (ix3 0 r d) * Ideal.rsqrt (Ideal.div z (Ideal.ofBits .f32 0x44800000#32) + Ideal.ofBits .f32 0x358637BD#32) * g (ix2 0 d)
    * (Ideal.ofBits .f32 0x3F800000#32 + sc (ix3 0 0 d)) + sh (ix3 0 0 d)) ((shapeCast_a_a1_apply _ shapeCasts_S512_S512x1 r 0).trans n)
  exact q

/-- The product of the normed rows with a band of 512 columns. -/
theorem product512 (x : FVec Ideal S512x1024 .bf16) (w : FVec Ideal S1024x512 .bf16) (r : Fin 512) (o : Fin 512) :
    matmul (φ₂ := .bf16) dot_S512x1024_S1024x512_S512x512_1_0_0_1_n_n none x (shapeCast S1024x512 w shapeCasts_S1024x512_S1024x512 : FVec Ideal S1024x512 .bf16)
      (constant (F := Ideal) S512x512 .f32 0x00000000#32) (ix2 r o) = ∑ d : Fin 1024, x (ix2 r d) * w (ix2 d o) := by
  rw [shapeCast_self]
  refine (Ideal.matmul_plain_apply none x w (constant (F := Ideal) S512x512 .f32 0x00000000#32) r o).trans ?_
  rw [constant_apply, Ideal.ofBits_zero_f32, zero_add]

/-- The product of the normed rows with a band of 1024 columns. -/
theorem product1024 (x : FVec Ideal S512x1024 .bf16) (w : FVec Ideal S1024x1024 .bf16) (r : Fin 512) (o : Fin 1024) :
    matmul (φ₂ := .bf16) dot_S512x1024_S1024x1024_S512x1024_1_0_0_1_n_n none x (shapeCast S1024x1024 w shapeCasts_S1024x1024_S1024x1024 : FVec Ideal S1024x1024 .bf16)
      (constant (F := Ideal) S512x1024 .f32 0x00000000#32) (ix2 r o) = ∑ d : Fin 1024, x (ix2 r d) * w (ix2 d o) := by
  rw [shapeCast_self]
  refine (Ideal.matmul_plain_apply none x w (constant (F := Ideal) S512x1024 .f32 0x00000000#32) r o).trans ?_
  rw [constant_apply, Ideal.ofBits_zero_f32, zero_add]

section blocks

variable (x0 : Vec Ideal S1x512x1024 .f32) (x1 : Vec Ideal S1x1024 .f32) (x2 x3 : Vec Ideal S1x1x1024 .f32) (x4 : Vec Ideal S1024x3072 .bf16)
  (x5 : Vec Ideal S1024x128 .bf16) (x6 : Vec Ideal S2x128x1024 .bf16) (x7 : Vec Ideal S1x1024 .f32) (r : Fin 512)

/-- A normed row of the block. -/
def rowOf (d : Fin 1024) : EReal := entry (fun k => x0 (ix3 0 r k)) (fun k => x1 (ix2 0 k)) (fun k => x3 (ix3 0 0 k)) (fun k => x2 (ix3 0 0 k)) d

/-- The rows the three later bands are multiplied with are the first band's. -/
theorem later_apply (d : Fin 1024) : k0_pay14 x0 x1 x2 x3 x4 x5 x6 x7 (ix2 r d) = rowOf x0 x1 x2 x3 r d := by
  refine Eq.trans ?_ (normed_apply x0 x1 x3 x2 r d)
  have h0 : View.ld x0 r0_0 = x0 := View.ld_unit_lit _ x0 (by decide)
  have h1 : View.ld x1 r0_1 = x1 := View.ld_unit_lit _ x1 (by decide)
  have h2 : View.ld x2 r0_2 = x2 := View.ld_unit_lit _ x2 (by decide)
  have h3 : View.ld x3 r0_2 = x3 := View.ld_unit_lit _ x3 (by decide)
  have e : k0_pay14 x0 x1 x2 x3 x4 x5 x6 x7 = k0_pay4 (View.ld x0 r0_0) (View.ld x1 r0_1) (View.ld x3 r0_2) (View.ld x2 r0_2) := rfl
  rw [e, h0, h1, h2, h3]

/-- The block of `q`. -/
theorem q_block (o : Fin 512) : out0_8 x0 x1 x2 x3 x4 x5 x6 x7 (ix3 0 r o)
    = (∑ d : Fin 1024, rowOf x0 x1 x2 x3 r d * x4 (ix2 d ⟨0 + o.val, by omega⟩)) * Ideal.ofBits .f32 0x3DB504F3#32 := by
  have e : out0_8 x0 x1 x2 x3 x4 x5 x6 x7 = shapeCast S1x512x512 (mulf (matmul (φ₂ := .bf16) dot_S512x1024_S1024x512_S512x512_1_0_0_1_n_n none (k0_pay14 x0 x1 x2 x3 x4 x5 x6 x7)
      (shapeCast S1024x512 (View.ld x4 r0_3) shapeCasts_S1024x512_S1024x512 : FVec Ideal S1024x512 .bf16) (constant (F := Ideal) S512x512 .f32 0x00000000#32))
      (broadcast S512x512 (Scalar.ofBits (F := Ideal) .f32 0x3DB504F3#32))) shapeCasts_S512x512_S1x512x512 := View.canon_cons_unit_lit _ _ [] (by decide)
  rw [e, shapeCast_ab_1ab_apply, mulf_apply, product512, broadcast_apply]
  refine congrArg (· * Ideal.ofBits .f32 0x3DB504F3#32) (Finset.sum_congr rfl fun d _ => congrArg₂ (· * ·) (later_apply x0 x1 x2 x3 x4 x5 x6 x7 r d) ?_)
  refine View.ld_unit_apply_of x4 _ _ _ (ix2 d o) _ fun a => ?_
  match a with
  | ⟨0, _⟩ => exact (Nat.zero_add _).symm
  | ⟨1, _⟩ => rfl

/-- The block of `k`. -/
theorem k_block (o : Fin 512) : out0_9 x0 x1 x2 x3 x4 x5 x6 x7 (ix3 0 r o)
    = ∑ d : Fin 1024, rowOf x0 x1 x2 x3 r d * x4 (ix2 d ⟨512 + o.val, by omega⟩) := by
  have e : out0_9 x0 x1 x2 x3 x4 x5 x6 x7 = shapeCast S1x512x512 (matmul (φ₂ := .bf16) dot_S512x1024_S1024x512_S512x512_1_0_0_1_n_n none (k0_pay14 x0 x1 x2 x3 x4 x5 x6 x7)
      (shapeCast S1024x512 (View.ld x4 r0_5) shapeCasts_S1024x512_S1024x512 : FVec Ideal S1024x512 .bf16) (constant (F := Ideal) S512x512 .f32 0x00000000#32))
      shapeCasts_S512x512_S1x512x512 := View.canon_cons_unit_lit _ _ [] (by decide)
  rw [e, shapeCast_ab_1ab_apply, product512]
  refine Finset.sum_congr rfl fun d _ => congrArg₂ (· * ·) (later_apply x0 x1 x2 x3 x4 x5 x6 x7 r d) ?_
  refine View.ld_unit_apply_of x4 _ _ _ (ix2 d o) _ fun a => ?_
  match a with
  | ⟨0, _⟩ => exact (Nat.zero_add _).symm
  | ⟨1, _⟩ => rfl

/-- The block of `v`. -/
theorem v_block (o : Fin 1024) : out0_10 x0 x1 x2 x3 x4 x5 x6 x7 (ix3 0 r o)
    = ∑ d : Fin 1024, rowOf x0 x1 x2 x3 r d * x4 (ix2 d ⟨1024 + o.val, by omega⟩) := by
  have e : out0_10 x0 x1 x2 x3 x4 x5 x6 x7 = shapeCast S1x512x1024 (matmul (φ₂ := .bf16) dot_S512x1024_S1024x1024_S512x1024_1_0_0_1_n_n none (k0_pay14 x0 x1 x2 x3 x4 x5 x6 x7)
      (shapeCast S1024x1024 (View.ld x4 r0_6) shapeCasts_S1024x1024_S1024x1024 : FVec Ideal S1024x1024 .bf16) (constant (F := Ideal) S512x1024 .f32 0x00000000#32))
      shapeCasts_S512x1024_S1x512x1024 := View.canon_cons_unit_lit _ _ [] (by decide)
  rw [e, shapeCast_ab_1ab_apply, product1024]
  refine Finset.sum_congr rfl fun d _ => congrArg₂ (· * ·) (later_apply x0 x1 x2 x3 x4 x5 x6 x7 r d) ?_
  refine View.ld_unit_apply_of x4 _ _ _ (ix2 d o) _ fun a => ?_
  match a with
  | ⟨0, _⟩ => exact (Nat.zero_add _).symm
  | ⟨1, _⟩ => rfl

/-- The block of `r`. -/
theorem r_block (o : Fin 1024) : out0_11 x0 x1 x2 x3 x4 x5 x6 x7 (ix3 0 r o)
    = ∑ d : Fin 1024, rowOf x0 x1 x2 x3 r d * x4 (ix2 d ⟨2048 + o.val, by omega⟩) := by
  have e : out0_11 x0 x1 x2 x3 x4 x5 x6 x7 = shapeCast S1x512x1024 (matmul (φ₂ := .bf16) dot_S512x1024_S1024x1024_S512x1024_1_0_0_1_n_n none (k0_pay14 x0 x1 x2 x3 x4 x5 x6 x7)
      (shapeCast S1024x1024 (View.ld x4 r0_7) shapeCasts_S1024x1024_S1024x1024 : FVec Ideal S1024x1024 .bf16) (constant (F := Ideal) S512x1024 .f32 0x00000000#32))
      shapeCasts_S512x1024_S1x512x1024 := View.canon_cons_unit_lit _ _ [] (by decide)
  rw [e, shapeCast_ab_1ab_apply, product1024]
  refine Finset.sum_congr rfl fun d _ => congrArg₂ (· * ·) (later_apply x0 x1 x2 x3 x4 x5 x6 x7 r d) ?_
  refine View.ld_unit_apply_of x4 _ _ _ (ix2 d o) _ fun a => ?_
  match a with
  | ⟨0, _⟩ => exact (Nat.zero_add _).symm
  | ⟨1, _⟩ => rfl

end blocks

end Cert.GlaIdeal

end
-- ==== Proof.GlaHost.lean ====
module

public import proofs.«01_k».proof.Proof.GlaRow

/-! What the projections' windows show of the arrays at a point of the grid. -/

@[expose] public section

set_option maxRecDepth 16384

noncomputable section

namespace Cert.GlaIdeal

open Gen
open Idealize.ShloMosaic Idealize.ShloMosaic.ValueIdx Idealize.ShloMosaic.TcCoe Idealize.ShloMosaic.Tactic
open scoped BigOperators

variable (m : (ℓ : Loc nD τ sig) → Buf (Elt Ideal) ℓ) (c : Dev nD)

/-- The shifts the body reads. -/
theorem V_main_v0 : V m c main_v0 = shapeCast S16x1x1024 (m ((c : Thread nD τ).loc main_arg2) : FVec Ideal S16x1024 .f32) shapeCasts_S16x1024_S16x1x1024 := by
  unfold V
  after_results_simp
  sl_kernel_rfl

/-- The scales the body reads. -/
theorem V_main_v1 : V m c main_v1 = shapeCast S16x1x1024 (m ((c : Thread nD τ).loc main_arg3) : FVec Ideal S16x1024 .f32) shapeCasts_S16x1024_S16x1x1024 := by
  unfold V
  after_results_simp
  sl_kernel_rfl

/-- The gain the body reads. -/
theorem V_main_v18 : V m c main_v18 = broadcastInDim S1x1024 ![1] bcast_S1024_S1x1024_1 (m ((c : Thread nD τ).loc main_arg1) : FVec Ideal S1024 .f32) := by
  unfold V
  after_results_simp

/-- The four bands of the weight the body reads. -/
theorem V_main_v20 : V m c main_v20 = (truncf (F := Ideal) (s := S1024x3072) .bf16
    (extractStridedSlice S1024x3072 ![0, 0] (m ((c : Thread nD τ).loc main_arg4) : FVec Ideal S1024x3104 .f32) slices_S1024x3104_S1024x3072_0_0) bitsLt_bf16_f32 : FVec Ideal S1024x3072 .bf16) := by
  unfold V
  after_results_simp

variable (t : Fin cfg0.N)

/-- The row of the array that a row of a point's block is. -/
def rowAt (j : Fin 8) (r : Fin 512) : Fin 4096 := ⟨j.val * 512 + r.val, by omega⟩

/-- A grid coordinate is not changed by its passage through a word. -/
theorem coord_toNat {n : ℕ} (i : Fin n) (h : n ≤ 2 ^ 32) : (BitVec.ofNat 32 i.val).toNat = i.val := by
  rw [BitVec.toNat_ofNat]
  exact Nat.mod_eq_of_lt (by omega)

/-- The rows of the point's block. -/
theorem rows_apply (r : Fin 512) (d : Fin 1024) : iblk m c 0 t ((ix3 0 r d : S1x512x1024.Idx))
    = (m ((c : Thread nD τ).loc main_arg0) : FVec Ideal S16x4096x1024 .f32) (ix3 (grid0.coords t 0) (rowAt (grid0.coords t 1) r) d) := by
  have e : ((cfg0.win 0).blk t).view.emb ((ix3 0 r d : S1x512x1024.Idx)) = (ix3 (grid0.coords t 0) (rowAt (grid0.coords t 1) r) d : S16x4096x1024.Idx) := by
    funext a
    refine Fin.ext ?_
    match a with
    | ⟨0, _⟩ =>
      show (BitVec.ofNat 32 (grid0.coords t 0).val).toNat * 1 + 1 * 0 = (grid0.coords t 0).val
      have h := coord_toNat (grid0.coords t 0) ((by decide : (16 : ℕ) ≤ _))
      omega
    | ⟨1, _⟩ =>
      show (BitVec.ofNat 32 (grid0.coords t 1).val).toNat * 512 + 1 * r.val = (grid0.coords t 1).val * 512 + r.val
      have h := coord_toNat (grid0.coords t 1) ((by decide : (8 : ℕ) ≤ _))
      omega
    | ⟨2, _⟩ => show 0 * 1024 + 1 * d.val = d.val; omega
  unfold iblk
  refine (congrArg (V m c main_arg0) e).trans ?_
  exact congrFun (V_main_arg0 m c) _

/-- The gain. -/
theorem gain_apply (d : Fin 1024) : iblk m c 1 t ((ix2 0 d : S1x1024.Idx)) = (m ((c : Thread nD τ).loc main_arg1) : FVec Ideal S1024 .f32) (ix1 d) := by
  have e : ((cfg0.win 1).blk t).view.emb ((ix2 0 d : S1x1024.Idx)) = (ix2 0 d : S1x1024.Idx) := by
    funext a
    refine Fin.ext ?_
    match a with
    | ⟨0, _⟩ => rfl
    | ⟨1, _⟩ => show 0 * 1024 + 1 * d.val = d.val; omega
  unfold iblk
  refine (congrArg (V m c main_v18) e).trans ?_
  refine (congrFun (V_main_v18 m c) _).trans ?_
  refine broadcastInDim_apply _ bcast_S1024_S1x1024_1 _ (ix2 0 d) (ix1 d) fun a => ?_
  match a with
  | ⟨0, _⟩ => show d.val = if (1024 : Nat) = 1 then 0 else d.val; rw [if_neg (by decide)]

/-- A batch's row of a modulation, as the kernel lays it out. -/
theorem layout_apply (v : FVec Ideal S16x1024 .f32) (b : Fin 16) (d : Fin 1024) :
    shapeCast S16x1x1024 v shapeCasts_S16x1024_S16x1x1024 (ix3 b 0 d) = v (ix2 b d) := by
  refine shapeCast_apply v _ _ (ix2 b d) ?_
  refine (Shape.rowMajor_val_two (d := ![16, 1024]) _).trans (Eq.trans ?_ (Shape.rowMajor_val_three (d := ![16, 1, 1024]) _).symm)
  show b.val * 1024 + d.val = (b.val * 1 + 0) * 1024 + d.val
  omega

/-- The shift of the point's batch. -/
theorem shift_apply (d : Fin 1024) : iblk m c 2 t ((ix3 0 0 d : S1x1x1024.Idx))
    = (m ((c : Thread nD τ).loc main_arg2) : FVec Ideal S16x1024 .f32) (ix2 (grid0.coords t 0) d) := by
  have e : ((cfg0.win 2).blk t).view.emb ((ix3 0 0 d : S1x1x1024.Idx)) = (ix3 (grid0.coords t 0) 0 d : S16x1x1024.Idx) := by
    funext a
    refine Fin.ext ?_
    match a with
    | ⟨0, _⟩ =>
      show (BitVec.ofNat 32 (grid0.coords t 0).val).toNat * 1 + 1 * 0 = (grid0.coords t 0).val
      have h := coord_toNat (grid0.coords t 0) ((by decide : (16 : ℕ) ≤ _))
      omega
    | ⟨1, _⟩ => rfl
    | ⟨2, _⟩ => show 0 * 1024 + 1 * d.val = d.val; omega
  unfold iblk
  refine (congrArg (V m c main_v0) e).trans ?_
  exact (congrFun (V_main_v0 m c) _).trans (layout_apply _ _ d)

/-- The scale of the point's batch. -/
theorem scale_apply (d : Fin 1024) : iblk m c 3 t ((ix3 0 0 d : S1x1x1024.Idx))
    = (m ((c : Thread nD τ).loc main_arg3) : FVec Ideal S16x1024 .f32) (ix2 (grid0.coords t 0) d) := by
  have e : ((cfg0.win 3).blk t).view.emb ((ix3 0 0 d : S1x1x1024.Idx)) = (ix3 (grid0.coords t 0) 0 d : S16x1x1024.Idx) := by
    funext a
    refine Fin.ext ?_
    match a with
    | ⟨0, _⟩ =>
      show (BitVec.ofNat 32 (grid0.coords t 0).val).toNat * 1 + 1 * 0 = (grid0.coords t 0).val
      have h := coord_toNat (grid0.coords t 0) ((by decide : (16 : ℕ) ≤ _))
      omega
    | ⟨1, _⟩ => rfl
    | ⟨2, _⟩ => show 0 * 1024 + 1 * d.val = d.val; omega
  unfold iblk
  refine (congrArg (V m c main_v1) e).trans ?_
  exact (congrFun (V_main_v1 m c) _).trans (layout_apply _ _ d)

/-- The weight's columns. -/
theorem weight_apply (d : Fin 1024) (j : Fin 3072) : iblk m c 4 t ((ix2 d j : S1024x3072.Idx))
    = (m ((c : Thread nD τ).loc main_arg4) : FVec Ideal S1024x3104 .f32) (ix2 d ⟨j.val, by omega⟩) := by
  have e : ((cfg0.win 4).blk t).view.emb ((ix2 d j : S1024x3072.Idx)) = (ix2 d j : S1024x3072.Idx) := by
    funext a
    refine Fin.ext ?_
    match a with
    | ⟨0, _⟩ => show 0 * 1024 + 1 * d.val = d.val; omega
    | ⟨1, _⟩ => show 0 * 3072 + 1 * j.val = j.val; omega
  unfold iblk
  refine (congrArg (V m c main_v20) e).trans ?_
  refine (congrFun (V_main_v20 m c) _).trans ?_
  show extractStridedSlice S1024x3072 ![0, 0] (m ((c : Thread nD τ).loc main_arg4) : FVec Ideal S1024x3104 .f32) slices_S1024x3104_S1024x3072_0_0 (ix2 d j) = _
  refine extractStridedSlice_apply ![0, 0] _ slices_S1024x3104_S1024x3072_0_0 (ix2 d j) (ix2 d ⟨j.val, by omega⟩) fun a => ?_
  match a with
  | ⟨0, _⟩ => show d.val = 0 + d.val; omega
  | ⟨1, _⟩ => show j.val = 0 + j.val; omega

end Cert.GlaIdeal

end
-- ==== Proof.GlaWanted.lean ====
module

public import proofs.«01_k».proof.Proof.GlaRow
public import proofs.«01_k».proof.Proof.Gen.GlaReferenceIdeal.Read

/-! The reference of the projections at an index. -/

@[expose] public section

set_option maxRecDepth 16384

noncomputable section

namespace Cert.GlaReferenceIdeal

open Gen Read
open Idealize.ShloMosaic Idealize.ShloMosaic.ValueIdx
open Cert.GlaIdeal (entry)
open scoped BigOperators

variable (x0 : FVec Ideal S16x4096x1024 .f32) (x1 : FVec Ideal S1024 .f32) (x2 x3 : FVec Ideal S16x1024 .f32) (x4 : FVec Ideal S1024x3104 .f32)
  (b : Fin 16) (s : Fin 4096)

/-- The product of a normed and modulated row of the array with one column of the weight. -/
def projected (j : Fin 3104) : EReal :=
  ∑ d : Fin 1024, entry (fun k => x0 (ix3 b s k)) (fun k => x1 (ix1 k)) (fun k => x3 (ix2 b k)) (fun k => x2 (ix2 b k)) d * x4 (ix2 d j)

/-- The normed and modulated rows. -/
theorem rows_apply (d : Fin 1024) : val_main_v20 (F := Ideal) x0 x1 x2 x3 (ix3 b s d)
    = entry (fun k => x0 (ix3 b s k)) (fun k => x1 (ix1 k)) (fun k => x3 (ix2 b k)) (fun k => x2 (ix2 b k)) d := by
  have hs : val_main_v1 (F := Ideal) x0 (ix2 b s) = ∑ k : Fin 1024, x0 (ix3 b s k) * x0 (ix3 b s k) := by
    rw [val_main_v1_apply]
    have z : val_main_cst (F := Ideal) (Shape.Idx.first h_S_) = 0 := Ideal.ofBits_zero_f32
    rw [z, zero_add]
    refine Finset.sum_congr rfl fun k _ => ?_
    have e : idx_main_v1 (ix2 b s) k = (ix3 b s k : S16x4096x1024.Idx) := by
      funext a
      match a with
      | ⟨0, _⟩ => rfl
      | ⟨1, _⟩ => rfl
      | ⟨2, _⟩ => rfl
    rw [e]
    rfl
  have hr : val_main_v8 (F := Ideal) x0 (ix3 b s d)
      = Ideal.rsqrt (Ideal.div (∑ k : Fin 1024, x0 (ix3 b s k) * x0 (ix3 b s k)) (Ideal.ofBits .f32 0x44800000#32) + Ideal.ofBits .f32 0x358637BD#32) := by
    rw [val_main_v8_apply, val_main_v7_apply, val_main_v6_apply, val_main_v4_apply, val_main_v2_apply, val_main_v3_apply, val_main_v5_apply]
    have e : idx_main_v2 (idx_main_v8 (ix3 b s d)) = (ix2 b s : S16x4096.Idx) := by
      funext a
      match a with
      | ⟨0, _⟩ => rfl
      | ⟨1, _⟩ => rfl
    rw [e, hs]
    rfl
  have hg : val_main_v11 (F := Ideal) x1 (ix3 b s d) = x1 (ix1 d) := by
    rw [val_main_v11_apply, val_main_v10_apply]
    refine congrArg x1 (funext fun a => ?_)
    match a with
    | ⟨0, _⟩ => rfl
  have hc : val_main_v16 (F := Ideal) x3 (ix3 b s d) = Ideal.ofBits .f32 0x3F800000#32 + x3 (ix2 b d) := by
    rw [val_main_v16_apply, val_main_v15_apply, val_main_v14_apply, val_main_v13_apply]
    refine congrArg (Ideal.ofBits .f32 0x3F800000#32 + ·) (congrArg x3 (funext fun a => ?_))
    match a with
    | ⟨0, _⟩ => rfl
    | ⟨1, _⟩ => rfl
  have hh : val_main_v19 (F := Ideal) x2 (ix3 b s d) = x2 (ix2 b d) := by
    rw [val_main_v19_apply, val_main_v18_apply]
    refine congrArg x2 (funext fun a => ?_)
    match a with
    | ⟨0, _⟩ => rfl
    | ⟨1, _⟩ => rfl
  rw [val_main_v20_apply, val_main_v17_apply, val_main_v12_apply, val_main_v9_apply, hr, hg, hc, hh]
  rfl

/-- The product with the whole weight. -/
theorem product_apply (j : Fin 3104) : val_main_v21 (F := Ideal) x0 x1 x2 x3 x4 (ix3 b s j) = projected x0 x1 x2 x3 x4 b s j := by
  rw [val_main_v21_apply]
  refine Finset.sum_congr rfl fun d _ => congrArg₂ (· * ·) ?_ (congrArg x4 (funext fun a => ?_))
  · have e : lidx_main_v21 (ix3 b s j) d = (ix3 b s d : S16x4096x1024.Idx) := by
      funext a
      match a with
      | ⟨0, _⟩ => rfl
      | ⟨1, _⟩ => rfl
      | ⟨2, _⟩ => rfl
    rw [e]
    exact rows_apply x0 x1 x2 x3 b s d
  · match a with
    | ⟨0, _⟩ => rfl
    | ⟨1, _⟩ => rfl

/-- `q` at an index. -/
theorem q_wanted (o : Fin 512) : val_main_v29 (F := Ideal) x0 x1 x2 x3 x4 (ix3 b s o)
    = projected x0 x1 x2 x3 x4 b s ⟨0 + o.val, by omega⟩ * Ideal.ofBits .f32 0x3DB504F3#32 := by
  rw [val_main_v29_apply, val_main_v22_apply, val_main_v28_apply]
  refine congrArg (· * Ideal.ofBits .f32 0x3DB504F3#32) (Eq.trans (congrArg _ (funext fun a => ?_)) (product_apply x0 x1 x2 x3 x4 b s ⟨0 + o.val, by omega⟩))
  match a with
  | ⟨0, _⟩ => rfl
  | ⟨1, _⟩ => rfl
  | ⟨2, _⟩ => exact Fin.ext (Nat.zero_add _).symm

/-- `k` at an index. -/
theorem k_wanted (o : Fin 512) : val_main_v23 (F := Ideal) x0 x1 x2 x3 x4 (ix3 b s o) = projected x0 x1 x2 x3 x4 b s ⟨512 + o.val, by omega⟩ := by
  rw [val_main_v23_apply]
  refine Eq.trans (congrArg _ (funext fun a => ?_)) (product_apply x0 x1 x2 x3 x4 b s ⟨512 + o.val, by omega⟩)
  match a with
  | ⟨0, _⟩ => rfl
  | ⟨1, _⟩ => rfl
  | ⟨2, _⟩ => rfl

/-- `v` at an index. -/
theorem v_wanted (o : Fin 1024) : val_main_v24 (F := Ideal) x0 x1 x2 x3 x4 (ix3 b s o) = projected x0 x1 x2 x3 x4 b s ⟨1024 + o.val, by omega⟩ := by
  rw [val_main_v24_apply]
  refine Eq.trans (congrArg _ (funext fun a => ?_)) (product_apply x0 x1 x2 x3 x4 b s ⟨1024 + o.val, by omega⟩)
  match a with
  | ⟨0, _⟩ => rfl
  | ⟨1, _⟩ => rfl
  | ⟨2, _⟩ => rfl

/-- `r` at an index. -/
theorem r_wanted (o : Fin 1024) : val_main_v25 (F := Ideal) x0 x1 x2 x3 x4 (ix3 b s o) = projected x0 x1 x2 x3 x4 b s ⟨2048 + o.val, by omega⟩ := by
  rw [val_main_v25_apply]
  refine Eq.trans (congrArg _ (funext fun a => ?_)) (product_apply x0 x1 x2 x3 x4 b s ⟨2048 + o.val, by omega⟩)
  match a with
  | ⟨0, _⟩ => rfl
  | ⟨1, _⟩ => rfl
  | ⟨2, _⟩ => rfl

end Cert.GlaReferenceIdeal

end
-- ==== Proof.GlaFinal.lean ====
module

public import proofs.«01_k».proof.Proof.GlaHost
public import proofs.«01_k».proof.Proof.GlaWanted
public import proofs.«01_k».proof.Proof.Gen.GlaIdeal.Value
public import Idealize.ShloMosaic.Lib.Pipeline.ValueKit.Geometry

/-! The projections' result arrays are the reference's. -/

@[expose] public section

set_option maxRecDepth 16384

noncomputable section

namespace Cert.GlaIdeal

open Gen
open Idealize.ShloMosaic Idealize.ShloMosaic.ValueIdx Idealize.ShloMosaic.TcCoe Idealize.ShloMosaic.Tactic Idealize.SL.Sem
open Cert.GlaReferenceIdeal (projected)
open scoped BigOperators

variable (m : (ℓ : Loc nD τ sig) → Buf (Elt Ideal) ℓ) (c : Dev nD)

/-- The arguments the results are made of. -/
abbrev arg0 : FVec Ideal S16x4096x1024 .f32 := m ((c : Thread nD τ).loc main_arg0)
/-- The gain. -/
abbrev arg1 : FVec Ideal S1024 .f32 := m ((c : Thread nD τ).loc main_arg1)
/-- The shifts. -/
abbrev arg2 : FVec Ideal S16x1024 .f32 := m ((c : Thread nD τ).loc main_arg2)
/-- The scales. -/
abbrev arg3 : FVec Ideal S16x1024 .f32 := m ((c : Thread nD τ).loc main_arg3)
/-- The weight. -/
abbrev arg4 : FVec Ideal S1024x3104 .f32 := m ((c : Thread nD τ).loc main_arg4)

/-- A normed row of a point's block is a normed row of the array. -/
theorem row_eq (t : Fin cfg0.N) (r : Fin 512) (d : Fin 1024) : rowOf (iblk m c 0 t) (iblk m c 1 t) (iblk m c 2 t) (iblk m c 3 t) r d
    = entry (fun k => arg0 m c (ix3 (grid0.coords t 0) (rowAt (grid0.coords t 1) r) k)) (fun k => arg1 m c (ix1 k))
      (fun k => arg3 m c (ix2 (grid0.coords t 0) k)) (fun k => arg2 m c (ix2 (grid0.coords t 0) k)) d := by
  have h0 : (fun k => iblk m c 0 t (ix3 0 r k : S1x512x1024.Idx)) = fun k => arg0 m c (ix3 (grid0.coords t 0) (rowAt (grid0.coords t 1) r) k) := funext (rows_apply m c t r)
  have h1 : (fun k => iblk m c 1 t (ix2 0 k : S1x1024.Idx)) = fun k => arg1 m c (ix1 k) := funext (gain_apply m c t)
  have h2 : (fun k => iblk m c 2 t (ix3 0 0 k : S1x1x1024.Idx)) = fun k => arg2 m c (ix2 (grid0.coords t 0) k) := funext (shift_apply m c t)
  have h3 : (fun k => iblk m c 3 t (ix3 0 0 k : S1x1x1024.Idx)) = fun k => arg3 m c (ix2 (grid0.coords t 0) k) := funext (scale_apply m c t)
  unfold rowOf
  exact congr (congr (congr (congr (congrArg entry h0) h1) h3) h2) rfl

/-- A product over a point's block is the product over the array. -/
theorem sum_eq (t : Fin cfg0.N) (r : Fin 512) (j : Fin 3072) :
    (∑ d : Fin 1024, rowOf (iblk m c 0 t) (iblk m c 1 t) (iblk m c 2 t) (iblk m c 3 t) r d * iblk m c 4 t (ix2 d j : S1024x3072.Idx))
      = projected (arg0 m c) (arg1 m c) (arg2 m c) (arg3 m c) (arg4 m c) (grid0.coords t 0) (rowAt (grid0.coords t 1) r) ⟨j.val, by omega⟩ :=
  Finset.sum_congr rfl fun d _ => congrArg₂ (· * ·) (row_eq m c t r d) (weight_apply m c t d j)

/-- Where a point's block of `q` lies in the array. -/
theorem q_emb (t : Fin cfg0.N) (r : Fin 512) (o : Fin 512) :
    ((cfg0.win 8).blk t).view.emb ((ix3 0 r o : S1x512x512.Idx)) = (ix3 (grid0.coords t 0) (rowAt (grid0.coords t 1) r) o : S16x4096x512.Idx) := by
  funext a
  refine Fin.ext ?_
  match a with
  | ⟨0, _⟩ =>
    show (BitVec.ofNat 32 (grid0.coords t 0).val).toNat * 1 + 1 * 0 = (grid0.coords t 0).val
    have h := coord_toNat (grid0.coords t 0) ((by decide : (16 : ℕ) ≤ _))
    omega
  | ⟨1, _⟩ =>
    show (BitVec.ofNat 32 (grid0.coords t 1).val).toNat * 512 + 1 * r.val = (grid0.coords t 1).val * 512 + r.val
    have h := coord_toNat (grid0.coords t 1) ((by decide : (8 : ℕ) ≤ _))
    omega
  | ⟨2, _⟩ => show 0 * 512 + 1 * o.val = o.val; omega

/-- Every element of `q` lies in the block of a point. -/
theorem q_cover (i : S16x4096x512.Idx) : ∃ t : Fin cfg0.N, (cfg0.win 8).flush t = true ∧ i ∈ ((cfg0.win 8).blk t).view.set := by
  have h0 : (i 0).val < 16 := (i 0).isLt
  have h1 : (i 1).val < 4096 := (i 1).isLt
  have hN : cfg0.N = 128 := N_0
  let t : Fin cfg0.N := ⟨8 * (i 0).val + (i 1).val / 512, by omega⟩
  have e0 : grid0.coords t 0 = i 0 := Fin.ext (by show (8 * (i 0).val + (i 1).val / 512) / 8 % 16 = (i 0).val; omega)
  have e1 : rowAt (grid0.coords t 1) ⟨(i 1).val % 512, by omega⟩ = i 1 := Fin.ext (by
    show (8 * (i 0).val + (i 1).val / 512) / 1 % 8 * 512 + (i 1).val % 512 = (i 1).val
    omega)
  have e : ((cfg0.win 8).blk t).view.emb ((ix3 0 ⟨(i 1).val % 512, by omega⟩ (i 2) : S1x512x512.Idx)) = i := by
    refine (q_emb t _ (i 2)).trans ?_
    rw [e0, e1]
    exact (eq_ix3 i).symm
  exact ⟨t, flush0_8 t, Eq.mp (congrArg (fun x => x ∈ ((cfg0.win 8).blk t).view.set) e) (View.emb_mem_set ((cfg0.win 8).blk t).view _)⟩

/-- After the last point `q` is the reference's. -/
theorem q_final : (dats m 0 c).arrAt 8 cfg0.N
    = Cert.GlaReferenceIdeal.Read.val_main_v29 (F := Ideal) (arg0 m c) (arg1 m c) (arg2 m c) (arg3 m c) (arg4 m c) := by
  refine Pipeline.Dat.arrAt_eq_of_emb (dats m 0 c) 8 (Cert.GlaReferenceIdeal.Read.val_main_v29 (F := Ideal) (arg0 m c) (arg1 m c) (arg2 m c) (arg3 m c) (arg4 m c)) (fun t hf y => ?_) q_cover
  obtain ⟨y', hy⟩ : ∃ y' : S1x512x512.Idx, y' = y := ⟨y, rfl⟩
  obtain ⟨r, o, hr⟩ : ∃ (r : Fin 512) (o : Fin 512), y' = (ix3 0 r o : S1x512x512.Idx) := ⟨y' 1, y' 2, by
    funext a
    match a with
    | ⟨0, _⟩ => exact Subsingleton.elim (α := Fin 1) _ _
    | ⟨1, _⟩ => rfl
    | ⟨2, _⟩ => rfl⟩
  have ey : y = (ix3 0 r o : S1x512x512.Idx) := hy.symm.trans hr
  have w1 := (q_block (iblk m c 0 t) (iblk m c 1 t) (iblk m c 2 t) (iblk m c 3 t) (iblk m c 4 t) (iblk m c 5 t) (iblk m c 6 t) (iblk m c 7 t) r o).trans (congrArg (· * Ideal.ofBits .f32 0x3DB504F3#32) (sum_eq m c t r ⟨0 + o.val, by omega⟩))
  have w2 := (Cert.GlaReferenceIdeal.q_wanted (arg0 m c) (arg1 m c) (arg2 m c) (arg3 m c) (arg4 m c) (grid0.coords t 0) (rowAt (grid0.coords t 1) r) o)
  have w3 := congrArg (Cert.GlaReferenceIdeal.Read.val_main_v29 (F := Ideal) (arg0 m c) (arg1 m c) (arg2 m c) (arg3 m c) (arg4 m c)) (q_emb t r o)
  rw [ey]
  exact (congrFun (after0_8 m c t) _).trans (w1.trans (w2.symm.trans w3.symm))

/-- Where a point's block of `k` lies in the array. -/
theorem k_emb (t : Fin cfg0.N) (r : Fin 512) (o : Fin 512) :
    ((cfg0.win 9).blk t).view.emb ((ix3 0 r o : S1x512x512.Idx)) = (ix3 (grid0.coords t 0) (rowAt (grid0.coords t 1) r) o : S16x4096x512.Idx) := by
  funext a
  refine Fin.ext ?_
  match a with
  | ⟨0, _⟩ =>
    show (BitVec.ofNat 32 (grid0.coords t 0).val).toNat * 1 + 1 * 0 = (grid0.coords t 0).val
    have h := coord_toNat (grid0.coords t 0) ((by decide : (16 : ℕ) ≤ _))
    omega
  | ⟨1, _⟩ =>
    show (BitVec.ofNat 32 (grid0.coords t 1).val).toNat * 512 + 1 * r.val = (grid0.coords t 1).val * 512 + r.val
    have h := coord_toNat (grid0.coords t 1) ((by decide : (8 : ℕ) ≤ _))
    omega
  | ⟨2, _⟩ => show 0 * 512 + 1 * o.val = o.val; omega

/-- Every element of `k` lies in the block of a point. -/
theorem k_cover (i : S16x4096x512.Idx) : ∃ t : Fin cfg0.N, (cfg0.win 9).flush t = true ∧ i ∈ ((cfg0.win 9).blk t).view.set := by
  have h0 : (i 0).val < 16 := (i 0).isLt
  have h1 : (i 1).val < 4096 := (i 1).isLt
  have hN : cfg0.N = 128 := N_0
  let t : Fin cfg0.N := ⟨8 * (i 0).val + (i 1).val / 512, by omega⟩
  have e0 : grid0.coords t 0 = i 0 := Fin.ext (by show (8 * (i 0).val + (i 1).val / 512) / 8 % 16 = (i 0).val; omega)
  have e1 : rowAt (grid0.coords t 1) ⟨(i 1).val % 512, by omega⟩ = i 1 := Fin.ext (by
    show (8 * (i 0).val + (i 1).val / 512) / 1 % 8 * 512 + (i 1).val % 512 = (i 1).val
    omega)
  have e : ((cfg0.win 9).blk t).view.emb ((ix3 0 ⟨(i 1).val % 512, by omega⟩ (i 2) : S1x512x512.Idx)) = i := by
    refine (k_emb t _ (i 2)).trans ?_
    rw [e0, e1]
    exact (eq_ix3 i).symm
  exact ⟨t, flush0_9 t, Eq.mp (congrArg (fun x => x ∈ ((cfg0.win 9).blk t).view.set) e) (View.emb_mem_set ((cfg0.win 9).blk t).view _)⟩

/-- After the last point `k` is the reference's. -/
theorem k_final : (dats m 0 c).arrAt 9 cfg0.N
    = Cert.GlaReferenceIdeal.Read.val_main_v23 (F := Ideal) (arg0 m c) (arg1 m c) (arg2 m c) (arg3 m c) (arg4 m c) := by
  refine Pipeline.Dat.arrAt_eq_of_emb (dats m 0 c) 9 (Cert.GlaReferenceIdeal.Read.val_main_v23 (F := Ideal) (arg0 m c) (arg1 m c) (arg2 m c) (arg3 m c) (arg4 m c)) (fun t hf y => ?_) k_cover
  obtain ⟨y', hy⟩ : ∃ y' : S1x512x512.Idx, y' = y := ⟨y, rfl⟩
  obtain ⟨r, o, hr⟩ : ∃ (r : Fin 512) (o : Fin 512), y' = (ix3 0 r o : S1x512x512.Idx) := ⟨y' 1, y' 2, by
    funext a
    match a with
    | ⟨0, _⟩ => exact Subsingleton.elim (α := Fin 1) _ _
    | ⟨1, _⟩ => rfl
    | ⟨2, _⟩ => rfl⟩
  have ey : y = (ix3 0 r o : S1x512x512.Idx) := hy.symm.trans hr
  have w1 := (k_block (iblk m c 0 t) (iblk m c 1 t) (iblk m c 2 t) (iblk m c 3 t) (iblk m c 4 t) (iblk m c 5 t) (iblk m c 6 t) (iblk m c 7 t) r o).trans (sum_eq m c t r ⟨512 + o.val, by omega⟩)
  have w2 := (Cert.GlaReferenceIdeal.k_wanted (arg0 m c) (arg1 m c) (arg2 m c) (arg3 m c) (arg4 m c) (grid0.coords t 0) (rowAt (grid0.coords t 1) r) o)
  have w3 := congrArg (Cert.GlaReferenceIdeal.Read.val_main_v23 (F := Ideal) (arg0 m c) (arg1 m c) (arg2 m c) (arg3 m c) (arg4 m c)) (k_emb t r o)
  rw [ey]
  exact (congrFun (after0_9 m c t) _).trans (w1.trans (w2.symm.trans w3.symm))

/-- Where a point's block of `v` lies in the array. -/
theorem v_emb (t : Fin cfg0.N) (r : Fin 512) (o : Fin 1024) :
    ((cfg0.win 10).blk t).view.emb ((ix3 0 r o : S1x512x1024.Idx)) = (ix3 (grid0.coords t 0) (rowAt (grid0.coords t 1) r) o : S16x4096x1024.Idx) := by
  funext a
  refine Fin.ext ?_
  match a with
  | ⟨0, _⟩ =>
    show (BitVec.ofNat 32 (grid0.coords t 0).val).toNat * 1 + 1 * 0 = (grid0.coords t 0).val
    have h := coord_toNat (grid0.coords t 0) ((by decide : (16 : ℕ) ≤ _))
    omega
  | ⟨1, _⟩ =>
    show (BitVec.ofNat 32 (grid0.coords t 1).val).toNat * 512 + 1 * r.val = (grid0.coords t 1).val * 512 + r.val
    have h := coord_toNat (grid0.coords t 1) ((by decide : (8 : ℕ) ≤ _))
    omega
  | ⟨2, _⟩ => show 0 * 1024 + 1 * o.val = o.val; omega

/-- Every element of `v` lies in the block of a point. -/
theorem v_cover (i : S16x4096x1024.Idx) : ∃ t : Fin cfg0.N, (cfg0.win 10).flush t = true ∧ i ∈ ((cfg0.win 10).blk t).view.set := by
  have h0 : (i 0).val < 16 := (i 0).isLt
  have h1 : (i 1).val < 4096 := (i 1).isLt
  have hN : cfg0.N = 128 := N_0
  let t : Fin cfg0.N := ⟨8 * (i 0).val + (i 1).val / 512, by omega⟩
  have e0 : grid0.coords t 0 = i 0 := Fin.ext (by show (8 * (i 0).val + (i 1).val / 512) / 8 % 16 = (i 0).val; omega)
  have e1 : rowAt (grid0.coords t 1) ⟨(i 1).val % 512, by omega⟩ = i 1 := Fin.ext (by
    show (8 * (i 0).val + (i 1).val / 512) / 1 % 8 * 512 + (i 1).val % 512 = (i 1).val
    omega)
  have e : ((cfg0.win 10).blk t).view.emb ((ix3 0 ⟨(i 1).val % 512, by omega⟩ (i 2) : S1x512x1024.Idx)) = i := by
    refine (v_emb t _ (i 2)).trans ?_
    rw [e0, e1]
    exact (eq_ix3 i).symm
  exact ⟨t, flush0_10 t, Eq.mp (congrArg (fun x => x ∈ ((cfg0.win 10).blk t).view.set) e) (View.emb_mem_set ((cfg0.win 10).blk t).view _)⟩

/-- After the last point `v` is the reference's. -/
theorem v_final : (dats m 0 c).arrAt 10 cfg0.N
    = Cert.GlaReferenceIdeal.Read.val_main_v24 (F := Ideal) (arg0 m c) (arg1 m c) (arg2 m c) (arg3 m c) (arg4 m c) := by
  refine Pipeline.Dat.arrAt_eq_of_emb (dats m 0 c) 10 (Cert.GlaReferenceIdeal.Read.val_main_v24 (F := Ideal) (arg0 m c) (arg1 m c) (arg2 m c) (arg3 m c) (arg4 m c)) (fun t hf y => ?_) v_cover
  obtain ⟨y', hy⟩ : ∃ y' : S1x512x1024.Idx, y' = y := ⟨y, rfl⟩
  obtain ⟨r, o, hr⟩ : ∃ (r : Fin 512) (o : Fin 1024), y' = (ix3 0 r o : S1x512x1024.Idx) := ⟨y' 1, y' 2, by
    funext a
    match a with
    | ⟨0, _⟩ => exact Subsingleton.elim (α := Fin 1) _ _
    | ⟨1, _⟩ => rfl
    | ⟨2, _⟩ => rfl⟩
  have ey : y = (ix3 0 r o : S1x512x1024.Idx) := hy.symm.trans hr
  have w1 := (v_block (iblk m c 0 t) (iblk m c 1 t) (iblk m c 2 t) (iblk m c 3 t) (iblk m c 4 t) (iblk m c 5 t) (iblk m c 6 t) (iblk m c 7 t) r o).trans (sum_eq m c t r ⟨1024 + o.val, by omega⟩)
  have w2 := (Cert.GlaReferenceIdeal.v_wanted (arg0 m c) (arg1 m c) (arg2 m c) (arg3 m c) (arg4 m c) (grid0.coords t 0) (rowAt (grid0.coords t 1) r) o)
  have w3 := congrArg (Cert.GlaReferenceIdeal.Read.val_main_v24 (F := Ideal) (arg0 m c) (arg1 m c) (arg2 m c) (arg3 m c) (arg4 m c)) (v_emb t r o)
  rw [ey]
  exact (congrFun (after0_10 m c t) _).trans (w1.trans (w2.symm.trans w3.symm))

/-- Where a point's block of `r` lies in the array. -/
theorem r_emb (t : Fin cfg0.N) (r : Fin 512) (o : Fin 1024) :
    ((cfg0.win 11).blk t).view.emb ((ix3 0 r o : S1x512x1024.Idx)) = (ix3 (grid0.coords t 0) (rowAt (grid0.coords t 1) r) o : S16x4096x1024.Idx) := by
  funext a
  refine Fin.ext ?_
  match a with
  | ⟨0, _⟩ =>
    show (BitVec.ofNat 32 (grid0.coords t 0).val).toNat * 1 + 1 * 0 = (grid0.coords t 0).val
    have h := coord_toNat (grid0.coords t 0) ((by decide : (16 : ℕ) ≤ _))
    omega
  | ⟨1, _⟩ =>
    show (BitVec.ofNat 32 (grid0.coords t 1).val).toNat * 512 + 1 * r.val = (grid0.coords t 1).val * 512 + r.val
    have h := coord_toNat (grid0.coords t 1) ((by decide : (8 : ℕ) ≤ _))
    omega
  | ⟨2, _⟩ => show 0 * 1024 + 1 * o.val = o.val; omega

/-- Every element of `r` lies in the block of a point. -/
theorem r_cover (i : S16x4096x1024.Idx) : ∃ t : Fin cfg0.N, (cfg0.win 11).flush t = true ∧ i ∈ ((cfg0.win 11).blk t).view.set := by
  have h0 : (i 0).val < 16 := (i 0).isLt
  have h1 : (i 1).val < 4096 := (i 1).isLt
  have hN : cfg0.N = 128 := N_0
  let t : Fin cfg0.N := ⟨8 * (i 0).val + (i 1).val / 512, by omega⟩
  have e0 : grid0.coords t 0 = i 0 := Fin.ext (by show (8 * (i 0).val + (i 1).val / 512) / 8 % 16 = (i 0).val; omega)
  have e1 : rowAt (grid0.coords t 1) ⟨(i 1).val % 512, by omega⟩ = i 1 := Fin.ext (by
    show (8 * (i 0).val + (i 1).val / 512) / 1 % 8 * 512 + (i 1).val % 512 = (i 1).val
    omega)
  have e : ((cfg0.win 11).blk t).view.emb ((ix3 0 ⟨(i 1).val % 512, by omega⟩ (i 2) : S1x512x1024.Idx)) = i := by
    refine (r_emb t _ (i 2)).trans ?_
    rw [e0, e1]
    exact (eq_ix3 i).symm
  exact ⟨t, flush0_11 t, Eq.mp (congrArg (fun x => x ∈ ((cfg0.win 11).blk t).view.set) e) (View.emb_mem_set ((cfg0.win 11).blk t).view _)⟩

/-- After the last point `r` is the reference's. -/
theorem r_final : (dats m 0 c).arrAt 11 cfg0.N
    = Cert.GlaReferenceIdeal.Read.val_main_v25 (F := Ideal) (arg0 m c) (arg1 m c) (arg2 m c) (arg3 m c) (arg4 m c) := by
  refine Pipeline.Dat.arrAt_eq_of_emb (dats m 0 c) 11 (Cert.GlaReferenceIdeal.Read.val_main_v25 (F := Ideal) (arg0 m c) (arg1 m c) (arg2 m c) (arg3 m c) (arg4 m c)) (fun t hf y => ?_) r_cover
  obtain ⟨y', hy⟩ : ∃ y' : S1x512x1024.Idx, y' = y := ⟨y, rfl⟩
  obtain ⟨r, o, hr⟩ : ∃ (r : Fin 512) (o : Fin 1024), y' = (ix3 0 r o : S1x512x1024.Idx) := ⟨y' 1, y' 2, by
    funext a
    match a with
    | ⟨0, _⟩ => exact Subsingleton.elim (α := Fin 1) _ _
    | ⟨1, _⟩ => rfl
    | ⟨2, _⟩ => rfl⟩
  have ey : y = (ix3 0 r o : S1x512x1024.Idx) := hy.symm.trans hr
  have w1 := (r_block (iblk m c 0 t) (iblk m c 1 t) (iblk m c 2 t) (iblk m c 3 t) (iblk m c 4 t) (iblk m c 5 t) (iblk m c 6 t) (iblk m c 7 t) r o).trans (sum_eq m c t r ⟨2048 + o.val, by omega⟩)
  have w2 := (Cert.GlaReferenceIdeal.r_wanted (arg0 m c) (arg1 m c) (arg2 m c) (arg3 m c) (arg4 m c) (grid0.coords t 0) (rowAt (grid0.coords t 1) r) o)
  have w3 := congrArg (Cert.GlaReferenceIdeal.Read.val_main_v25 (F := Ideal) (arg0 m c) (arg1 m c) (arg2 m c) (arg3 m c) (arg4 m c)) (r_emb t r o)
  rw [ey]
  exact (congrFun (after0_11 m c t) _).trans (w1.trans (w2.symm.trans w3.symm))

end Cert.GlaIdeal

end
-- ==== Proof.HyRow.lean ====
module

public import proofs.«01_k».proof.Proof.Gen.HyIdeal.Frame
public import proofs.«01_k».proof.Proof.GlaRow
public import Idealize.ShloMosaic.Lib.KernelVsHost

/-! What the body of the Hyena projection leaves of a block of rows, on extended reals: every row is normed and
    modulated, multiplied with the columns of the weight, and summed with its two neighbours' products. -/

@[expose] public section

noncomputable section

namespace Cert.HyIdeal

open Gen
open Idealize.ShloMosaic Idealize.ShloMosaic.ValueIdx
open Cert.GlaIdeal (entry)
open scoped BigOperators

/-- The normed and modulated rows of a block are those of the attention's projections. -/
theorem normed_apply (g : Vec Ideal S1x1024 .f32) (sh sc : Vec Ideal S1x1x1024 .f32) (x : Vec Ideal S1x512x1024 .f32) (r : Fin 512) (d : Fin 1024) :
    k0_pay5 g sh sc x (ix2 r d) = entry (fun k => x (ix3 0 r k)) (fun k => g (ix2 0 k)) (fun k => sc (ix3 0 0 k)) (fun k => sh (ix3 0 0 k)) d :=
  Cert.GlaIdeal.normed_apply x g sc sh r d

/-- The sum of the squares of each of eight rows. -/
theorem squares_apply (x : FVec Ideal S8x1024 .f32) (r : Fin 8) :
    multiReduction .add [1] S8 (mulf x x) 0x00000000#32 reduces_S8x1024_S8 (.inl rfl) rfl (ix1 r) = ∑ k : Fin 1024, x (ix2 r k) * x (ix2 r k) := by
  refine (Ideal.multiReduction_add_single _ _ reduces_S8x1024_S8 _ _ (ix1 r)).trans ?_
  refine Finset.sum_congr rfl fun k _ => Eq.trans (congrArg _ ?_) (mulf_apply x x (ix2 r k))
  funext a; apply Fin.ext
  match a with
  | ⟨0, _⟩ => rfl
  | ⟨1, _⟩ => rfl

/-- A column repeated along eight rows. -/
theorem column_apply (v : FVec Ideal S8x1 .f32) (r : Fin 8) (d : Fin 1024) :
    broadcastTo S8x1024 v broadcasts_S8x1_S8x1024 (ix2 r d) = v (ix2 r 0) :=
  broadcastTo_apply _ broadcasts_S8x1_S8x1024 (ix2 r d) (ix2 r 0) fun a => by
    match a with
    | ⟨0, _⟩ => rfl
    | ⟨1, _⟩ => rfl

/-- The normed and modulated rows of a block of eight. -/
theorem normed8_apply (g : Vec Ideal S1x1024 .f32) (sh sc : Vec Ideal S1x1x1024 .f32) (x : Vec Ideal S1x8x1024 .f32) (r : Fin 8) (d : Fin 1024) :
    k0_pay9 (k0_pay2 g) (k0_pay3 sh) (k0_pay4 sc) x (ix2 r d) = entry (fun k => x (ix3 0 r k)) (fun k => g (ix2 0 k)) (fun k => sc (ix3 0 0 k)) (fun k => sh (ix3 0 0 k)) d := by
  unfold k0_pay9 k0_pay2 k0_pay3 k0_pay4 entry
  rw [truncf_apply, addf_apply, mulf_apply, mulf_apply, mulf_apply, column_apply, broadcastTo_1b_ab_apply, broadcastTo_1b_ab_apply, broadcastTo_1b_ab_apply,
    addf_apply, broadcast_apply, Cert.GlaIdeal.line_apply, Cert.GlaIdeal.line_apply, shapeCast_self, shapeCast_1ab_ab_apply]
  have e : ∀ k, shapeCast S8x1024 x shapeCasts_S1x8x1024_S8x1024 (ix2 r k) = x (ix3 0 r k) := fun k => shapeCast_1ab_ab_apply x shapeCasts_S1x8x1024_S8x1024 r k
  have n := squares_apply (shapeCast S8x1024 x shapeCasts_S1x8x1024_S8x1024) r
  rw [Finset.sum_congr rfl fun k _ => congrArg₂ (· * ·) (e k) (e k)] at n
  have q := congrArg (fun z => x (ix3 0 r d) * Ideal.rsqrt (Ideal.div z (Ideal.ofBits .f32 0x44800000#32) + Ideal.ofBits .f32 0x358637BD#32) * g (ix2 0 d)
    * (Ideal.ofBits .f32 0x3F800000#32 + sc (ix3 0 0 d)) + sh (ix3 0 0 d)) ((shapeCast_a_a1_apply _ shapeCasts_S8_S8x1 r 0).trans n)
  exact q

/-- The product of 512 normed rows with a band of the weight's columns. -/
theorem product_apply (x : FVec Ideal S512x1024 .bf16) (w : Vec Ideal S1024x1024 .bf16) (r : Fin 512) (o : Fin 1024) :
    k0_pay11 x w (ix2 r o) = ∑ d : Fin 1024, x (ix2 r d) * w (ix2 d o) := by
  unfold k0_pay11 k0_pay10
  rw [shapeCast_self]
  refine (Ideal.matmul_plain_apply none x w (constant (F := Ideal) S512x1024 .f32 0x00000000#32) r o).trans ?_
  rw [constant_apply, Ideal.ofBits_zero_f32, zero_add]

/-- The product of eight normed rows with a band of the weight's columns. -/
theorem product8_apply (x : FVec Ideal S8x1024 .bf16) (w : FVec Ideal S1024x1024 .bf16) (r : Fin 8) (o : Fin 1024) :
    matmul (φ₂ := .bf16) dot_S8x1024_S1024x1024_S8x1024_1_0_0_1_n_n none x w (constant (F := Ideal) S8x1024 .f32 0x00000000#32) (ix2 r o)
      = ∑ d : Fin 1024, x (ix2 r d) * w (ix2 d o) := by
  refine (Ideal.matmul_plain_apply none x w (constant (F := Ideal) S8x1024 .f32 0x00000000#32) r o).trans ?_
  rw [constant_apply, Ideal.ofBits_zero_f32, zero_add]

/-- Whether the number of a row is a given one. -/
theorem at_row (n : Fin 512) (r : Fin 512) (o : Fin 1024) :
    broadcastTo S512x1024 (shapeCast S512x1 (cmpi .eq (iota .tc S512x1 32 [0] iota_S512x1_d0_w32) (broadcast S512x1 (BitVec.ofNat 32 n.val))) shapeCasts_S512x1_S512x1)
      broadcasts_S512x1_S512x1024 (ix2 r o) = if r = n then 1#1 else 0#1 := by
  refine (broadcastTo_apply _ broadcasts_S512x1_S512x1024 (ix2 r o) (ix2 r 0) fun a => by
    match a with
    | ⟨0, _⟩ => rfl
    | ⟨1, _⟩ => rfl).trans ?_
  rw [shapeCast_self]
  show BitVec.ofBool (iota .tc S512x1 32 [0] iota_S512x1_d0_w32 (ix2 r 0) == BitVec.ofNat 32 n.val) = _
  rw [iota_single_apply]
  show BitVec.ofBool (BitVec.ofNat 32 r.val == BitVec.ofNat 32 n.val) = _
  by_cases h : r = n
  · rw [if_pos h, h, beq_self_eq_true]
    rfl
  · rw [if_neg h, beq_eq_false_iff_ne.mpr]
    · rfl
    · intro e
      have e' := congrArg BitVec.toNat e
      rw [BitVec.toNat_ofNat, BitVec.toNat_ofNat, Nat.mod_eq_of_lt (by omega), Nat.mod_eq_of_lt (by omega)] at e'
      exact h (Fin.ext e')

/-- One of the three taps, repeated along the rows. -/
theorem tap_apply (cw : Vec Ideal S3x1024 .f32) (k : Fin 3) (h : S3x1024.Slices ![k.val, 0] S1x1024) (r : Fin 512) (o : Fin 1024) :
    broadcastTo S512x1024 (extractStridedSlice S1x1024 ![k.val, 0] cw h) broadcasts_S1x1024_S512x1024 (ix2 r o) = cw (ix2 k o) := by
  rw [broadcastTo_1b_ab_apply]
  refine extractStridedSlice_apply ![k.val, 0] cw h (ix2 0 o) (ix2 k o) fun a => ?_
  match a with
  | ⟨0, _⟩ => rfl
  | ⟨1, _⟩ => show o.val = 0 + o.val; omega

/-- The row before, from the row above the block at the block's first row. -/
def beforeRow (p : Fin 512 → EReal) (first : EReal) (r : Fin 512) : EReal := if r = 0 then first else p ⟨r.val - 1, by omega⟩

/-- The row after, from the row below the block at the block's last row. -/
def afterRow (p : Fin 512 → EReal) (last : EReal) (r : Fin 512) : EReal := if h : r = 511 then last else p ⟨r.val + 1, by omega⟩

/-- A choice by a comparison. -/
theorem pick {c : BitVec 1} {a b : EReal} {P : Prop} [Decidable P] (h : c = if P then 1#1 else 0#1) : Scalar.select c a b = if P then a else b := by
  subst h
  by_cases hp : P
  · rw [if_pos hp, if_pos hp]
    exact if_pos rfl
  · rw [if_neg hp, if_neg hp]
    exact if_neg (by decide)

/-- Every row moved one down, the first one from elsewhere. -/
theorem down_apply (p : FVec Ideal S512x1024 .f32) (v : FVec Ideal S1x1024 .f32) (r : Fin 512) (o : Fin 1024) :
    select (broadcastTo S512x1024 (shapeCast S512x1 (cmpi .eq (iota .tc S512x1 32 [0] iota_S512x1_d0_w32) (broadcast S512x1 0#32)) shapeCasts_S512x1_S512x1) broadcasts_S512x1_S512x1024)
      (broadcastTo S512x1024 (shapeCast S1x1024 v shapeCasts_S1x1024_S1x1024) broadcasts_S1x1024_S512x1024) (dynamicRotate 0 1#32 none p rotates_S512x1024_d0) (ix2 r o)
      = beforeRow (fun k => p (ix2 k o)) (v (ix2 0 o)) r := by
  unfold beforeRow
  rw [select_apply]
  refine (pick (at_row 0 r o)).trans ?_
  by_cases h : r = 0
  · rw [if_pos h, if_pos h, broadcastTo_1b_ab_apply, shapeCast_self]
  · rw [if_neg h, if_neg h]
    refine dynamicRotate_apply (0 : Fin 2) 1#32 p rotates_S512x1024_d0 (ix2 r o) (ix2 ⟨r.val - 1, by omega⟩ o) fun b => ?_
    have hr : r.val ≠ 0 := fun e => h (Fin.ext e)
    match b with
    | ⟨0, _⟩ => show r.val - 1 = (r.val + 512 - 1 % 512) % 512; omega
    | ⟨1, _⟩ => rfl

/-- Every row moved one up, the last one from elsewhere. -/
theorem up_apply (p : FVec Ideal S512x1024 .f32) (v : FVec Ideal S1x1024 .f32) (r : Fin 512) (o : Fin 1024) :
    select (broadcastTo S512x1024 (shapeCast S512x1 (cmpi .eq (iota .tc S512x1 32 [0] iota_S512x1_d0_w32) (broadcast S512x1 511#32)) shapeCasts_S512x1_S512x1) broadcasts_S512x1_S512x1024)
      (broadcastTo S512x1024 (shapeCast S1x1024 v shapeCasts_S1x1024_S1x1024) broadcasts_S1x1024_S512x1024) (dynamicRotate 0 511#32 none p rotates_S512x1024_d0) (ix2 r o)
      = afterRow (fun k => p (ix2 k o)) (v (ix2 0 o)) r := by
  unfold afterRow
  rw [select_apply]
  refine (pick (at_row 511 r o)).trans ?_
  by_cases h : r = 511
  · rw [if_pos h, dif_pos h, broadcastTo_1b_ab_apply, shapeCast_self]
  · rw [if_neg h, dif_neg h]
    refine dynamicRotate_apply (0 : Fin 2) 511#32 p rotates_S512x1024_d0 (ix2 r o) (ix2 ⟨r.val + 1, by omega⟩ o) fun b => ?_
    have hr : r.val ≠ 511 := fun e => h (Fin.ext e)
    match b with
    | ⟨0, _⟩ => show r.val + 1 = (r.val + 512 - 511 % 512) % 512; omega
    | ⟨1, _⟩ => rfl

/-- A row of products with its two neighbours, each times its tap, and the bias. -/
theorem conv_apply (p : FVec Ideal S512x1024 .f32) (first : FVec Ideal S1x1024 .f32) (c : BitVec 1) (last : FVec Ideal S1x1024 .f32) (cw : Vec Ideal S3x1024 .f32)
    (cb : Vec Ideal S1x1024 .f32) (r : Fin 512) (o : Fin 1024) :
    k0_pay14 (iota .tc S512x1 32 [0] iota_S512x1_d0_w32) p first c last cw cb (ix2 r o)
      = cw (ix2 0 o) * beforeRow (fun k => p (ix2 k o)) (first (ix2 0 o)) r + cw (ix2 1 o) * p (ix2 r o)
        + cw (ix2 2 o) * afterRow (fun k => p (ix2 k o)) (if c = 1#1 then last (ix2 0 o) else 0) r + cb (ix2 0 o) := by
  unfold k0_pay14
  rw [addf_apply, addf_apply, addf_apply, mulf_apply, mulf_apply, mulf_apply, down_apply, up_apply]
  refine congrArg₂ (· + ·) (congrArg₂ (· + ·) (congrArg₂ (· + ·) (congrArg (· * _) (tap_apply cw 0 _ r o)) (congrArg (· * _) (tap_apply cw 1 _ r o)))
    (congrArg₂ (· * ·) (tap_apply cw 2 _ r o) (congrArg (fun z => afterRow _ z r) ?_))) ?_
  · unfold Scalar.select
    by_cases h : c = 1#1
    · rw [if_pos h]
      exact congrFun (if_pos h) _
    · rw [if_neg h]
      refine (congrFun (if_neg h) _).trans ?_
      exact Ideal.ofBits_zero_f32
  · rw [broadcastTo_1b_ab_apply, shapeCast_self]

end Cert.HyIdeal

end
-- ==== Proof.HyBody.lean ====
module

public import proofs.«01_k».proof.Proof.HyRow

/-! The two result blocks of the Hyena projection's body, at an index. -/

@[expose] public section

noncomputable section

namespace Cert.HyIdeal

open Gen
open Idealize.ShloMosaic Idealize.ShloMosaic.ValueIdx
open Cert.GlaIdeal (entry)
open scoped BigOperators

/-- Whether a tile is not the first. -/
theorem not_first : ∀ n : Fin 8, Scalar.cmpi .sgt (BitVec.ofNat 32 n.val) 0#32 = if 0 < n.val then 1#1 else 0#1 := by decide

/-- Whether a tile is not the last. -/
theorem not_last : ∀ n : Fin 8, Scalar.cmpi .slt (BitVec.ofNat 32 n.val) 7#32 = if n.val < 7 then 1#1 else 0#1 := by decide

/-- The last of eight rows. -/
theorem eighth_apply (M : FVec Ideal S8x1024 .f32) (o : Fin 1024) : extractStridedSlice S1x1024 ![7, 0] M slices_S8x1024_o7_0_S1x1024 (ix2 0 o) = M (ix2 7 o) := by
  refine extractStridedSlice_apply ![7, 0] M slices_S8x1024_o7_0_S1x1024 (ix2 0 o) (ix2 7 o) fun a => ?_
  match a with
  | ⟨0, _⟩ => rfl
  | ⟨1, _⟩ => show o.val = 0 + o.val; omega

/-- The first of eight rows. -/
theorem first_apply (M : FVec Ideal S8x1024 .f32) (o : Fin 1024) : extractStridedSlice S1x1024 ![0, 0] M slices_S8x1024_o0_0_S1x1024 (ix2 0 o) = M (ix2 0 o) := by
  refine extractStridedSlice_apply ![0, 0] M slices_S8x1024_o0_0_S1x1024 (ix2 0 o) (ix2 0 o) fun a => ?_
  match a with
  | ⟨0, _⟩ => rfl
  | ⟨1, _⟩ => show o.val = 0 + o.val; omega

section blocks

variable (i : grid0.Coords) (x0 : Vec Ideal S1x512x1024 .f32) (x1 x2 : Vec Ideal S1x8x1024 .f32) (x3 : Vec Ideal S1x1024 .f32) (x4 x5 : Vec Ideal S1x1x1024 .f32)
  (x6 : Vec Ideal S1024x3072 .bf16) (x7 : Vec Ideal S3x3072 .f32) (x8 : Vec Ideal S1x3072 .f32)

/-- A normed and modulated row. -/
def normedRow (x : Fin 1024 → EReal) (d : Fin 1024) : EReal := entry x (fun k => x3 (ix2 0 k)) (fun k => x5 (ix3 0 0 k)) (fun k => x4 (ix3 0 0 k)) d

/-- A normed and modulated row times a column of the weight. -/
def times (x : Fin 1024 → EReal) (j : Fin 3072) : EReal := ∑ d : Fin 1024, normedRow x3 x4 x5 x d * x6 (ix2 d j)

/-- A row of the block: its product with a column and its neighbours', each times its tap, and the bias. The row above a block is
    its neighbour's last, the row below a block its neighbour's first, and there is none at the two ends of the array. -/
def bandOf (j : Fin 3072) (r : Fin 512) : EReal :=
  x7 (ix2 0 j) * beforeRow (fun q => times x3 x4 x5 x6 (fun k => x0 (ix3 0 q k)) j) (if 0 < (i 1).val then times x3 x4 x5 x6 (fun k => x1 (ix3 0 7 k)) j else 0) r
    + x7 (ix2 1 j) * times x3 x4 x5 x6 (fun k => x0 (ix3 0 r k)) j
    + x7 (ix2 2 j) * afterRow (fun q => times x3 x4 x5 x6 (fun k => x0 (ix3 0 q k)) j) (if (i 1).val < 7 then times x3 x4 x5 x6 (fun k => x2 (ix3 0 0 k)) j else 0) r
    + x8 (ix2 0 j)

/-- The gain, whole. -/
theorem ld3 : View.ld x3 r0_0 = x3 := View.ld_unit_lit _ x3 (by decide)
/-- The shift, whole. -/
theorem ld4 : View.ld x4 r0_1 = x4 := View.ld_unit_lit _ x4 (by decide)
/-- The scale, whole. -/
theorem ld5 : View.ld x5 r0_1 = x5 := View.ld_unit_lit _ x5 (by decide)
/-- The block, whole. -/
theorem ld0 : View.ld x0 r0_2 = x0 := View.ld_unit_lit _ x0 (by decide)
/-- Eight rows, whole. -/
theorem ld8 (x : Vec Ideal S1x8x1024 .f32) : View.ld x r0_3 = x := View.ld_unit_lit _ x (by decide)

variable (W : Vec Ideal S1024x1024 .bf16) (cw : Vec Ideal S3x1024 .f32) (cb : Vec Ideal S1x1024 .f32) (j : Fin 3072) (o : Fin 1024)

/-- The product of a row of the block with a column. -/
theorem inner_apply (hW : ∀ d, W (ix2 d o) = x6 (ix2 d j)) (q : Fin 512) :
    k0_pay11 (k0_pay27 i x0 x1 x2 x3 x4 x5 x6 x7 x8) W (ix2 q o) = times x3 x4 x5 x6 (fun k => x0 (ix3 0 q k)) j := by
  rw [product_apply]
  refine Finset.sum_congr rfl fun d _ => congrArg₂ (· * ·) ?_ (hW d)
  have e : k0_pay27 i x0 x1 x2 x3 x4 x5 x6 x7 x8 = k0_pay5 (View.ld x3 r0_0) (View.ld x4 r0_1) (View.ld x5 r0_1) (View.ld x0 r0_2) := rfl
  rw [e, ld3, ld4, ld5, ld0]
  exact normed_apply x3 x4 x5 x0 q d

/-- The product of one of eight rows with a column. -/
theorem outer_apply (hW : ∀ d, W (ix2 d o) = x6 (ix2 d j)) (x : Vec Ideal S1x8x1024 .f32) (q : Fin 8) :
    matmul (φ₂ := .bf16) dot_S8x1024_S1024x1024_S8x1024_1_0_0_1_n_n none
      (k0_pay9 (k0_pay2 (View.ld x3 r0_0)) (k0_pay3 (View.ld x4 r0_1)) (k0_pay4 (View.ld x5 r0_1)) (View.ld x r0_3)) (k0_pay10 W)
      (constant (F := Ideal) S8x1024 .f32 0x00000000#32) (ix2 q o) = times x3 x4 x5 x6 (fun k => x (ix3 0 q k)) j := by
  rw [ld3, ld4, ld5, ld8, product8_apply]
  refine Finset.sum_congr rfl fun d _ => congrArg₂ (· * ·) (normed8_apply x3 x4 x5 x q d) ?_
  unfold k0_pay10
  rw [shapeCast_self]
  exact hW d

/-- The product of the row above the block. -/
theorem above_apply (hW : ∀ d, W (ix2 d o) = x6 (ix2 d j)) :
    k0_pay12 (BitVec.ofNat 32 (i 1).val) (k0_pay24 i x0 x1 x2 x3 x4 x5 x6 x7 x8) (k0_pay25 i x0 x1 x2 x3 x4 x5 x6 x7 x8) (k0_pay26 i x0 x1 x2 x3 x4 x5 x6 x7 x8)
      (k0_pay28 i x0 x1 x2 x3 x4 x5 x6 x7 x8) (k0_pay29 i x0 x1 x2 x3 x4 x5 x6 x7 x8) W (ix2 0 o)
      = if 0 < (i 1).val then times x3 x4 x5 x6 (fun k => x1 (ix3 0 7 k)) j else 0 := by
  have e : k0_pay12 (BitVec.ofNat 32 (i 1).val) (k0_pay24 i x0 x1 x2 x3 x4 x5 x6 x7 x8) (k0_pay25 i x0 x1 x2 x3 x4 x5 x6 x7 x8) (k0_pay26 i x0 x1 x2 x3 x4 x5 x6 x7 x8)
      (k0_pay28 i x0 x1 x2 x3 x4 x5 x6 x7 x8) (k0_pay29 i x0 x1 x2 x3 x4 x5 x6 x7 x8) W
      = Scalar.select (Scalar.cmpi .sgt (BitVec.ofNat 32 (i 1).val) 0#32)
        (extractStridedSlice S1x1024 ![7, 0] (matmul (φ₂ := .bf16) dot_S8x1024_S1024x1024_S8x1024_1_0_0_1_n_n none
          (k0_pay9 (k0_pay2 (View.ld x3 r0_0)) (k0_pay3 (View.ld x4 r0_1)) (k0_pay4 (View.ld x5 r0_1)) (View.ld x1 r0_3)) (k0_pay10 W)
          (constant (F := Ideal) S8x1024 .f32 0x00000000#32)) slices_S8x1024_o7_0_S1x1024)
        (broadcast S1x1024 (Scalar.ofBits (F := Ideal) .f32 0x00000000#32)) := rfl
  rw [e, show Scalar.cmpi .sgt (BitVec.ofNat 32 (i 1).val) 0#32 = _ from not_first (i 1)]
  unfold Scalar.select
  by_cases h : 0 < (i 1).val
  · rw [if_pos h, if_pos h, if_pos (by rfl)]
    exact (eighth_apply _ o).trans (outer_apply x3 x4 x5 x6 W j o hW x1 7)
  · rw [if_neg h, if_neg h, if_neg (by decide)]
    exact Ideal.ofBits_zero_f32

/-- The product of the row below the block. -/
theorem below_apply (hW : ∀ d, W (ix2 d o) = x6 (ix2 d j)) :
    (if Scalar.cmpi .slt (BitVec.ofNat 32 (i 1).val) 7#32 = 1#1 then k0_pay13 (k0_pay24 i x0 x1 x2 x3 x4 x5 x6 x7 x8) (k0_pay25 i x0 x1 x2 x3 x4 x5 x6 x7 x8)
      (k0_pay26 i x0 x1 x2 x3 x4 x5 x6 x7 x8) (View.ld x2 r0_3) W (ix2 0 o) else (0 : EReal))
      = if (i 1).val < 7 then times x3 x4 x5 x6 (fun k => x2 (ix3 0 0 k)) j else 0 := by
  have e : k0_pay13 (k0_pay24 i x0 x1 x2 x3 x4 x5 x6 x7 x8) (k0_pay25 i x0 x1 x2 x3 x4 x5 x6 x7 x8) (k0_pay26 i x0 x1 x2 x3 x4 x5 x6 x7 x8) (View.ld x2 r0_3) W
      = extractStridedSlice S1x1024 ![0, 0] (matmul (φ₂ := .bf16) dot_S8x1024_S1024x1024_S8x1024_1_0_0_1_n_n none
          (k0_pay9 (k0_pay2 (View.ld x3 r0_0)) (k0_pay3 (View.ld x4 r0_1)) (k0_pay4 (View.ld x5 r0_1)) (View.ld x2 r0_3)) (k0_pay10 W)
          (constant (F := Ideal) S8x1024 .f32 0x00000000#32)) slices_S8x1024_o0_0_S1x1024 := rfl
  rw [show Scalar.cmpi .slt (BitVec.ofNat 32 (i 1).val) 7#32 = _ from not_last (i 1)]
  by_cases h : (i 1).val < 7
  · rw [if_pos h, if_pos h, if_pos rfl, e]
    exact (first_apply _ o).trans (outer_apply x3 x4 x5 x6 W j o hW x2 0)
  · rw [if_neg h, if_neg h, if_neg (by decide)]

/-- One of the three bands of columns. -/
theorem band_apply (hW : ∀ d, W (ix2 d o) = x6 (ix2 d j)) (hcw : ∀ k, cw (ix2 k o) = x7 (ix2 k j)) (hcb : cb (ix2 0 o) = x8 (ix2 0 j)) (r : Fin 512) :
    k0_pay14 (iota .tc S512x1 32 [0] iota_S512x1_d0_w32) (k0_pay11 (k0_pay27 i x0 x1 x2 x3 x4 x5 x6 x7 x8) W)
      (k0_pay12 (BitVec.ofNat 32 (i 1).val) (k0_pay24 i x0 x1 x2 x3 x4 x5 x6 x7 x8) (k0_pay25 i x0 x1 x2 x3 x4 x5 x6 x7 x8) (k0_pay26 i x0 x1 x2 x3 x4 x5 x6 x7 x8)
        (k0_pay28 i x0 x1 x2 x3 x4 x5 x6 x7 x8) (k0_pay29 i x0 x1 x2 x3 x4 x5 x6 x7 x8) W)
      (Scalar.cmpi .slt (BitVec.ofNat 32 (i 1).val) 7#32)
      (k0_pay13 (k0_pay24 i x0 x1 x2 x3 x4 x5 x6 x7 x8) (k0_pay25 i x0 x1 x2 x3 x4 x5 x6 x7 x8) (k0_pay26 i x0 x1 x2 x3 x4 x5 x6 x7 x8) (View.ld x2 r0_3) W)
      cw cb (ix2 r o) = bandOf i x0 x1 x2 x3 x4 x5 x6 x7 x8 j r := by
  have hp := inner_apply i x0 x1 x2 x3 x4 x5 x6 x7 x8 W j o hW
  rw [conv_apply, hcw, hcw, hcw, hcb, above_apply i x0 x1 x2 x3 x4 x5 x6 x7 x8 W j o hW, below_apply i x0 x1 x2 x3 x4 x5 x6 x7 x8 W j o hW, hp r, funext hp]
  rfl

/-- The block of `x0`. -/
theorem x0_block (r : Fin 512) (o : Fin 1024) : out0_9 i x0 x1 x2 x3 x4 x5 x6 x7 x8 (ix3 0 r o) = bandOf i x0 x1 x2 x3 x4 x5 x6 x7 x8 ⟨0 + o.val, by omega⟩ r := by
  have e : out0_9 i x0 x1 x2 x3 x4 x5 x6 x7 x8 = shapeCast S1x512x1024 (k0_pay14 (iota .tc S512x1 32 [0] iota_S512x1_d0_w32) (k0_pay11 (k0_pay27 i x0 x1 x2 x3 x4 x5 x6 x7 x8) (View.ld x6 r0_4))
      (k0_pay12 (BitVec.ofNat 32 (i 1).val) (k0_pay24 i x0 x1 x2 x3 x4 x5 x6 x7 x8) (k0_pay25 i x0 x1 x2 x3 x4 x5 x6 x7 x8) (k0_pay26 i x0 x1 x2 x3 x4 x5 x6 x7 x8)
        (k0_pay28 i x0 x1 x2 x3 x4 x5 x6 x7 x8) (k0_pay29 i x0 x1 x2 x3 x4 x5 x6 x7 x8) (View.ld x6 r0_4))
      (Scalar.cmpi .slt (BitVec.ofNat 32 (i 1).val) 7#32)
      (k0_pay13 (k0_pay24 i x0 x1 x2 x3 x4 x5 x6 x7 x8) (k0_pay25 i x0 x1 x2 x3 x4 x5 x6 x7 x8) (k0_pay26 i x0 x1 x2 x3 x4 x5 x6 x7 x8) (View.ld x2 r0_3) (View.ld x6 r0_4))
      (View.ld x7 r0_5) (View.ld x8 r0_6)) shapeCasts_S512x1024_S1x512x1024 := View.canon_cons_unit_lit _ _ [] (by decide)
  rw [e, shapeCast_ab_1ab_apply]
  refine band_apply i x0 x1 x2 x3 x4 x5 x6 x7 x8 _ _ _ _ o (fun d => ?_) (fun k => ?_) ?_ r
  · refine View.ld_unit_apply_of x6 _ _ _ (ix2 d o) _ fun a => ?_
    match a with
    | ⟨0, _⟩ => exact (Nat.zero_add _).symm
    | ⟨1, _⟩ => rfl
  · refine View.ld_unit_apply_of x7 _ _ _ (ix2 k o) _ fun a => ?_
    match a with
    | ⟨0, _⟩ => exact (Nat.zero_add _).symm
    | ⟨1, _⟩ => rfl
  · refine View.ld_unit_apply_of x8 _ _ _ (ix2 0 o) _ fun a => ?_
    match a with
    | ⟨0, _⟩ => exact (Nat.zero_add _).symm
    | ⟨1, _⟩ => rfl

/-- The block of `u`. -/
theorem u_block (r : Fin 512) (o : Fin 1024) : out0_10 i x0 x1 x2 x3 x4 x5 x6 x7 x8 (ix3 0 r o)
    = bandOf i x0 x1 x2 x3 x4 x5 x6 x7 x8 ⟨2048 + o.val, by omega⟩ r * bandOf i x0 x1 x2 x3 x4 x5 x6 x7 x8 ⟨1024 + o.val, by omega⟩ r := by
  have e : out0_10 i x0 x1 x2 x3 x4 x5 x6 x7 x8 = shapeCast S1x512x1024 (mulf
      (k0_pay14 (iota .tc S512x1 32 [0] iota_S512x1_d0_w32) (k0_pay11 (k0_pay27 i x0 x1 x2 x3 x4 x5 x6 x7 x8) (View.ld x6 r0_10))
        (k0_pay12 (BitVec.ofNat 32 (i 1).val) (k0_pay24 i x0 x1 x2 x3 x4 x5 x6 x7 x8) (k0_pay25 i x0 x1 x2 x3 x4 x5 x6 x7 x8) (k0_pay26 i x0 x1 x2 x3 x4 x5 x6 x7 x8)
          (k0_pay28 i x0 x1 x2 x3 x4 x5 x6 x7 x8) (k0_pay29 i x0 x1 x2 x3 x4 x5 x6 x7 x8) (View.ld x6 r0_10))
        (Scalar.cmpi .slt (BitVec.ofNat 32 (i 1).val) 7#32)
        (k0_pay13 (k0_pay24 i x0 x1 x2 x3 x4 x5 x6 x7 x8) (k0_pay25 i x0 x1 x2 x3 x4 x5 x6 x7 x8) (k0_pay26 i x0 x1 x2 x3 x4 x5 x6 x7 x8) (View.ld x2 r0_3) (View.ld x6 r0_10))
        (View.ld x7 r0_11) (View.ld x8 r0_12))
      (k0_pay14 (iota .tc S512x1 32 [0] iota_S512x1_d0_w32) (k0_pay11 (k0_pay27 i x0 x1 x2 x3 x4 x5 x6 x7 x8) (View.ld x6 r0_7))
        (k0_pay12 (BitVec.ofNat 32 (i 1).val) (k0_pay24 i x0 x1 x2 x3 x4 x5 x6 x7 x8) (k0_pay25 i x0 x1 x2 x3 x4 x5 x6 x7 x8) (k0_pay26 i x0 x1 x2 x3 x4 x5 x6 x7 x8)
          (k0_pay28 i x0 x1 x2 x3 x4 x5 x6 x7 x8) (k0_pay29 i x0 x1 x2 x3 x4 x5 x6 x7 x8) (View.ld x6 r0_7))
        (Scalar.cmpi .slt (BitVec.ofNat 32 (i 1).val) 7#32)
        (k0_pay13 (k0_pay24 i x0 x1 x2 x3 x4 x5 x6 x7 x8) (k0_pay25 i x0 x1 x2 x3 x4 x5 x6 x7 x8) (k0_pay26 i x0 x1 x2 x3 x4 x5 x6 x7 x8) (View.ld x2 r0_3) (View.ld x6 r0_7))
        (View.ld x7 r0_8) (View.ld x8 r0_9))) shapeCasts_S512x1024_S1x512x1024 := View.canon_cons_unit_lit _ _ [] (by decide)
  rw [e, shapeCast_ab_1ab_apply, mulf_apply]
  refine congrArg₂ (· * ·) (band_apply i x0 x1 x2 x3 x4 x5 x6 x7 x8 _ _ _ _ o (fun d => ?_) (fun k => ?_) ?_ r)
    (band_apply i x0 x1 x2 x3 x4 x5 x6 x7 x8 _ _ _ _ o (fun d => ?_) (fun k => ?_) ?_ r)
  · refine View.ld_unit_apply_of x6 _ _ _ (ix2 d o) _ fun a => ?_
    match a with
    | ⟨0, _⟩ => exact (Nat.zero_add _).symm
    | ⟨1, _⟩ => rfl
  · refine View.ld_unit_apply_of x7 _ _ _ (ix2 k o) _ fun a => ?_
    match a with
    | ⟨0, _⟩ => exact (Nat.zero_add _).symm
    | ⟨1, _⟩ => rfl
  · refine View.ld_unit_apply_of x8 _ _ _ (ix2 0 o) _ fun a => ?_
    match a with
    | ⟨0, _⟩ => exact (Nat.zero_add _).symm
    | ⟨1, _⟩ => rfl
  · refine View.ld_unit_apply_of x6 _ _ _ (ix2 d o) _ fun a => ?_
    match a with
    | ⟨0, _⟩ => exact (Nat.zero_add _).symm
    | ⟨1, _⟩ => rfl
  · refine View.ld_unit_apply_of x7 _ _ _ (ix2 k o) _ fun a => ?_
    match a with
    | ⟨0, _⟩ => exact (Nat.zero_add _).symm
    | ⟨1, _⟩ => rfl
  · refine View.ld_unit_apply_of x8 _ _ _ (ix2 0 o) _ fun a => ?_
    match a with
    | ⟨0, _⟩ => exact (Nat.zero_add _).symm
    | ⟨1, _⟩ => rfl

end blocks

end Cert.HyIdeal

end
-- ==== Proof.HyHost.lean ====
module

public import proofs.«01_k».proof.Proof.GlaHost
public import proofs.«01_k».proof.Proof.HyBody

/-! What the Hyena projection's windows show of the arrays at a point of the grid. -/

@[expose] public section

set_option maxRecDepth 16384

noncomputable section

namespace Cert.HyIdeal

open Gen
open Idealize.ShloMosaic Idealize.ShloMosaic.ValueIdx Idealize.ShloMosaic.TcCoe Idealize.ShloMosaic.Tactic
open Cert.GlaIdeal (rowAt coord_toNat)
open scoped BigOperators

variable (m : (ℓ : Loc nD τ sig) → Buf (Elt Ideal) ℓ) (c : Dev nD)

/-- The shifts the body reads. -/
theorem V_main_v0 : V m c main_v0 = shapeCast S16x1x1024 (m ((c : Thread nD τ).loc main_arg2) : FVec Ideal S16x1024 .f32) shapeCasts_S16x1024_S16x1x1024 := by
  unfold V
  after_results_simp
  sl_kernel_rfl

/-- The scales the body reads. -/
theorem V_main_v1 : V m c main_v1 = shapeCast S16x1x1024 (m ((c : Thread nD τ).loc main_arg3) : FVec Ideal S16x1024 .f32) shapeCasts_S16x1024_S16x1x1024 := by
  unfold V
  after_results_simp
  sl_kernel_rfl

/-- The gain the body reads. -/
theorem V_main_v2 : V m c main_v2 = broadcastInDim S1x1024 ![1] bcast_S1024_S1x1024_1 (m ((c : Thread nD τ).loc main_arg1) : FVec Ideal S1024 .f32) := by
  unfold V
  after_results_simp

/-- The weight the body reads. -/
theorem V_main_v3 : V m c main_v3 = (truncf (F := Ideal) (s := S1024x3072) .bf16 (m ((c : Thread nD τ).loc main_arg4) : FVec Ideal S1024x3072 .f32) bitsLt_bf16_f32 : FVec Ideal S1024x3072 .bf16) := by
  unfold V
  after_results_simp

/-- The bias the body reads. -/
theorem V_main_v4 : V m c main_v4 = broadcastInDim S1x3072 ![1] bcast_S3072_S1x3072_1 (m ((c : Thread nD τ).loc main_arg6) : FVec Ideal S3072 .f32) := by
  unfold V
  after_results_simp

variable (t : Fin cfg0.N)

/-- The eight rows that end above a tile, counted in eights. -/
theorem eights_above : ∀ n : Fin 8, 0 < n.val → (Scalar.maxsi (Scalar.subi (Scalar.muli (BitVec.ofNat 32 n.val) 64#32) 1#32) 0#32).toNat = n.val * 64 - 1 := by decide

/-- The eight rows that start below a tile, counted in eights. -/
theorem eights_below : ∀ n : Fin 8, n.val < 7 → (Scalar.minsi (Scalar.muli (Scalar.addi (BitVec.ofNat 32 n.val) 1#32) 64#32) 511#32).toNat = (n.val + 1) * 64 := by decide

/-- The rows of the point's block. -/
theorem rows_apply (r : Fin 512) (d : Fin 1024) : iblk m c 0 t ((ix3 0 r d : S1x512x1024.Idx))
    = (m ((c : Thread nD τ).loc main_arg0) : FVec Ideal S16x4096x1024 .f32) (ix3 (grid0.coords t 0) (rowAt (grid0.coords t 1) r) d) := by
  have e : ((cfg0.win 0).blk t).view.emb ((ix3 0 r d : S1x512x1024.Idx)) = (ix3 (grid0.coords t 0) (rowAt (grid0.coords t 1) r) d : S16x4096x1024.Idx) := by
    funext a
    refine Fin.ext ?_
    match a with
    | ⟨0, _⟩ =>
      show (BitVec.ofNat 32 (grid0.coords t 0).val).toNat * 1 + 1 * 0 = (grid0.coords t 0).val
      have h := coord_toNat (grid0.coords t 0) ((by decide : (16 : ℕ) ≤ _))
      omega
    | ⟨1, _⟩ =>
      show (BitVec.ofNat 32 (grid0.coords t 1).val).toNat * 512 + 1 * r.val = (grid0.coords t 1).val * 512 + r.val
      have h := coord_toNat (grid0.coords t 1) ((by decide : (8 : ℕ) ≤ _))
      omega
    | ⟨2, _⟩ => show 0 * 1024 + 1 * d.val = d.val; omega
  unfold iblk
  refine (congrArg (V m c main_arg0) e).trans ?_
  exact congrFun (V_main_arg0 m c) _

/-- The row above the point's block, where there is one. -/
theorem above_row (h : 0 < (grid0.coords t 1).val) (d : Fin 1024) : iblk m c 1 t ((ix3 0 7 d : S1x8x1024.Idx))
    = (m ((c : Thread nD τ).loc main_arg0) : FVec Ideal S16x4096x1024 .f32) (ix3 (grid0.coords t 0) ⟨(grid0.coords t 1).val * 512 - 1, by have := (grid0.coords t 1).isLt; have : (grid0.coords t 1).val < 8 := this; omega⟩ d) := by
  have e : ((cfg0.win 1).blk t).view.emb ((ix3 0 7 d : S1x8x1024.Idx))
      = (ix3 (grid0.coords t 0) ⟨(grid0.coords t 1).val * 512 - 1, by have := (grid0.coords t 1).isLt; have : (grid0.coords t 1).val < 8 := this; omega⟩ d : S16x4096x1024.Idx) := by
    funext a
    refine Fin.ext ?_
    match a with
    | ⟨0, _⟩ =>
      show (BitVec.ofNat 32 (grid0.coords t 0).val).toNat * 1 + 1 * 0 = (grid0.coords t 0).val
      have h := coord_toNat (grid0.coords t 0) ((by decide : (16 : ℕ) ≤ _))
      omega
    | ⟨1, _⟩ =>
      show (Scalar.maxsi (Scalar.subi (Scalar.muli (BitVec.ofNat 32 (grid0.coords t 1).val) 64#32) 1#32) 0#32).toNat * 8 + 1 * 7 = (grid0.coords t 1).val * 512 - 1
      have h := eights_above (grid0.coords t 1) h
      omega
    | ⟨2, _⟩ => show 0 * 1024 + 1 * d.val = d.val; omega
  unfold iblk
  refine (congrArg (V m c main_arg0) e).trans ?_
  exact congrFun (V_main_arg0 m c) _

/-- The row below the point's block, where there is one. -/
theorem below_row (h : (grid0.coords t 1).val < 7) (d : Fin 1024) : iblk m c 2 t ((ix3 0 0 d : S1x8x1024.Idx))
    = (m ((c : Thread nD τ).loc main_arg0) : FVec Ideal S16x4096x1024 .f32) (ix3 (grid0.coords t 0) ⟨((grid0.coords t 1).val + 1) * 512, by omega⟩ d) := by
  have e : ((cfg0.win 2).blk t).view.emb ((ix3 0 0 d : S1x8x1024.Idx))
      = (ix3 (grid0.coords t 0) ⟨((grid0.coords t 1).val + 1) * 512, by omega⟩ d : S16x4096x1024.Idx) := by
    funext a
    refine Fin.ext ?_
    match a with
    | ⟨0, _⟩ =>
      show (BitVec.ofNat 32 (grid0.coords t 0).val).toNat * 1 + 1 * 0 = (grid0.coords t 0).val
      have h := coord_toNat (grid0.coords t 0) ((by decide : (16 : ℕ) ≤ _))
      omega
    | ⟨1, _⟩ =>
      show (Scalar.minsi (Scalar.muli (Scalar.addi (BitVec.ofNat 32 (grid0.coords t 1).val) 1#32) 64#32) 511#32).toNat * 8 + 1 * 0 = ((grid0.coords t 1).val + 1) * 512
      have h := eights_below (grid0.coords t 1) h
      omega
    | ⟨2, _⟩ => show 0 * 1024 + 1 * d.val = d.val; omega
  unfold iblk
  refine (congrArg (V m c main_arg0) e).trans ?_
  exact congrFun (V_main_arg0 m c) _

/-- The gain. -/
theorem gain_apply (d : Fin 1024) : iblk m c 3 t ((ix2 0 d : S1x1024.Idx)) = (m ((c : Thread nD τ).loc main_arg1) : FVec Ideal S1024 .f32) (ix1 d) := by
  have e : ((cfg0.win 3).blk t).view.emb ((ix2 0 d : S1x1024.Idx)) = (ix2 0 d : S1x1024.Idx) := by
    funext a
    refine Fin.ext ?_
    match a with
    | ⟨0, _⟩ => rfl
    | ⟨1, _⟩ => show 0 * 1024 + 1 * d.val = d.val; omega
  unfold iblk
  refine (congrArg (V m c main_v2) e).trans ?_
  refine (congrFun (V_main_v2 m c) _).trans ?_
  refine broadcastInDim_apply _ bcast_S1024_S1x1024_1 _ (ix2 0 d) (ix1 d) fun a => ?_
  match a with
  | ⟨0, _⟩ => show d.val = if (1024 : Nat) = 1 then 0 else d.val; rw [if_neg (by decide)]

/-- The shift of the point's batch. -/
theorem shift_apply (d : Fin 1024) : iblk m c 4 t ((ix3 0 0 d : S1x1x1024.Idx))
    = (m ((c : Thread nD τ).loc main_arg2) : FVec Ideal S16x1024 .f32) (ix2 (grid0.coords t 0) d) := by
  have e : ((cfg0.win 4).blk t).view.emb ((ix3 0 0 d : S1x1x1024.Idx)) = (ix3 (grid0.coords t 0) 0 d : S16x1x1024.Idx) := by
    funext a
    refine Fin.ext ?_
    match a with
    | ⟨0, _⟩ =>
      show (BitVec.ofNat 32 (grid0.coords t 0).val).toNat * 1 + 1 * 0 = (grid0.coords t 0).val
      have h := coord_toNat (grid0.coords t 0) ((by decide : (16 : ℕ) ≤ _))
      omega
    | ⟨1, _⟩ => rfl
    | ⟨2, _⟩ => show 0 * 1024 + 1 * d.val = d.val; omega
  unfold iblk
  refine (congrArg (V m c main_v0) e).trans ?_
  exact (congrFun (V_main_v0 m c) _).trans (Cert.GlaIdeal.layout_apply _ _ d)

/-- The scale of the point's batch. -/
theorem scale_apply (d : Fin 1024) : iblk m c 5 t ((ix3 0 0 d : S1x1x1024.Idx))
    = (m ((c : Thread nD τ).loc main_arg3) : FVec Ideal S16x1024 .f32) (ix2 (grid0.coords t 0) d) := by
  have e : ((cfg0.win 5).blk t).view.emb ((ix3 0 0 d : S1x1x1024.Idx)) = (ix3 (grid0.coords t 0) 0 d : S16x1x1024.Idx) := by
    funext a
    refine Fin.ext ?_
    match a with
    | ⟨0, _⟩ =>
      show (BitVec.ofNat 32 (grid0.coords t 0).val).toNat * 1 + 1 * 0 = (grid0.coords t 0).val
      have h := coord_toNat (grid0.coords t 0) ((by decide : (16 : ℕ) ≤ _))
      omega
    | ⟨1, _⟩ => rfl
    | ⟨2, _⟩ => show 0 * 1024 + 1 * d.val = d.val; omega
  unfold iblk
  refine (congrArg (V m c main_v1) e).trans ?_
  exact (congrFun (V_main_v1 m c) _).trans (Cert.GlaIdeal.layout_apply _ _ d)

/-- The weight. -/
theorem weight_apply (d : Fin 1024) (j : Fin 3072) : iblk m c 6 t ((ix2 d j : S1024x3072.Idx)) = (m ((c : Thread nD τ).loc main_arg4) : FVec Ideal S1024x3072 .f32) (ix2 d j) := by
  have e : ((cfg0.win 6).blk t).view.emb ((ix2 d j : S1024x3072.Idx)) = (ix2 d j : S1024x3072.Idx) := by
    funext a
    refine Fin.ext ?_
    match a with
    | ⟨0, _⟩ => show 0 * 1024 + 1 * d.val = d.val; omega
    | ⟨1, _⟩ => show 0 * 3072 + 1 * j.val = j.val; omega
  unfold iblk
  refine (congrArg (V m c main_v3) e).trans ?_
  exact congrFun (V_main_v3 m c) _

/-- The taps. -/
theorem taps_apply (k : Fin 3) (j : Fin 3072) : iblk m c 7 t ((ix2 k j : S3x3072.Idx)) = (m ((c : Thread nD τ).loc main_arg5) : FVec Ideal S3x3072 .f32) (ix2 k j) := by
  have e : ((cfg0.win 7).blk t).view.emb ((ix2 k j : S3x3072.Idx)) = (ix2 k j : S3x3072.Idx) := by
    funext a
    refine Fin.ext ?_
    match a with
    | ⟨0, _⟩ => show 0 * 3 + 1 * k.val = k.val; omega
    | ⟨1, _⟩ => show 0 * 3072 + 1 * j.val = j.val; omega
  unfold iblk
  refine (congrArg (V m c main_arg5) e).trans ?_
  exact congrFun (V_main_arg5 m c) _

/-- The bias. -/
theorem bias_apply (j : Fin 3072) : iblk m c 8 t ((ix2 0 j : S1x3072.Idx)) = (m ((c : Thread nD τ).loc main_arg6) : FVec Ideal S3072 .f32) (ix1 j) := by
  have e : ((cfg0.win 8).blk t).view.emb ((ix2 0 j : S1x3072.Idx)) = (ix2 0 j : S1x3072.Idx) := by
    funext a
    refine Fin.ext ?_
    match a with
    | ⟨0, _⟩ => rfl
    | ⟨1, _⟩ => show 0 * 3072 + 1 * j.val = j.val; omega
  unfold iblk
  refine (congrArg (V m c main_v4) e).trans ?_
  refine (congrFun (V_main_v4 m c) _).trans ?_
  refine broadcastInDim_apply _ bcast_S3072_S1x3072_1 _ (ix2 0 j) (ix1 j) fun a => ?_
  match a with
  | ⟨0, _⟩ => show j.val = if (3072 : Nat) = 1 then 0 else j.val; rw [if_neg (by decide)]

end Cert.HyIdeal

end
-- ==== Proof.HyWanted.lean ====
module

public import proofs.«01_k».proof.Proof.GlaWanted
public import proofs.«01_k».proof.Proof.Gen.HyReferenceIdeal.Read
public import Idealize.ShloMosaic.Lib.KernelVsHost

/-! The reference of the Hyena projection at an index. -/

@[expose] public section

set_option maxRecDepth 16384

noncomputable section

namespace Cert.HyReferenceIdeal

open Gen Read
open Idealize.ShloMosaic Idealize.ShloMosaic.ValueIdx
open Cert.GlaIdeal (entry)
open scoped BigOperators

variable (x0 : FVec Ideal S16x4096x1024 .f32) (x1 : FVec Ideal S1024 .f32) (x2 x3 : FVec Ideal S16x1024 .f32) (x4 : FVec Ideal S1024x3072 .f32)
  (x5 : FVec Ideal S3x3072 .f32) (x6 : FVec Ideal S3072 .f32) (b : Fin 16) (s : Fin 4096)

/-- The product of a normed and modulated row of the array with one column of the weight. -/
def projected (s : Fin 4096) (j : Fin 3072) : EReal :=
  ∑ d : Fin 1024, entry (fun k => x0 (ix3 b s k)) (fun k => x1 (ix1 k)) (fun k => x3 (ix2 b k)) (fun k => x2 (ix2 b k)) d * x4 (ix2 d j)

/-- The row above, and zero above the first. -/
def above (j : Fin 3072) : EReal := if s.val = 0 then 0 else projected x0 x1 x2 x3 x4 b ⟨s.val - 1, by omega⟩ j

/-- The row below, and zero below the last. -/
def below (j : Fin 3072) : EReal := if h : s.val = 4095 then 0 else projected x0 x1 x2 x3 x4 b ⟨s.val + 1, by omega⟩ j

/-- The short filter of three taps along the rows, and its bias. -/
def filtered (j : Fin 3072) : EReal :=
  x5 (ix2 0 j) * above x0 x1 x2 x3 x4 b s j + x5 (ix2 1 j) * projected x0 x1 x2 x3 x4 b s j + x5 (ix2 2 j) * below x0 x1 x2 x3 x4 b s j + x6 (ix1 j)

/-- The normed and modulated rows are those of the other projections. -/
theorem rows_apply (d : Fin 1024) : val_main_v20 (F := Ideal) x0 x1 x2 x3 (ix3 b s d)
    = entry (fun k => x0 (ix3 b s k)) (fun k => x1 (ix1 k)) (fun k => x3 (ix2 b k)) (fun k => x2 (ix2 b k)) d :=
  Cert.GlaReferenceIdeal.rows_apply x0 x1 x2 x3 b s d

/-- The product with the weight. -/
theorem product_apply (j : Fin 3072) : val_main_v21 (F := Ideal) x0 x1 x2 x3 x4 (ix3 b s j) = projected x0 x1 x2 x3 x4 b s j := by
  rw [val_main_v21_apply]
  refine Finset.sum_congr rfl fun d _ => congrArg₂ (· * ·) ?_ (congrArg x4 (funext fun a => ?_))
  · have e : lidx_main_v21 (ix3 b s j) d = (ix3 b s d : S16x4096x1024.Idx) := by
      funext a
      match a with
      | ⟨0, _⟩ => rfl
      | ⟨1, _⟩ => rfl
      | ⟨2, _⟩ => rfl
    rw [e]
    exact rows_apply x0 x1 x2 x3 b s d
  · match a with
    | ⟨0, _⟩ => rfl
    | ⟨1, _⟩ => rfl

/-- A row of the padded product is a row of the product. -/
theorem padded_inside (p : Fin 4098) (h : p.val = s.val + 1) (j : Fin 3072) :
    val_main_v22 (F := Ideal) x0 x1 x2 x3 x4 (ix3 b p j) = projected x0 x1 x2 x3 x4 b s j := by
  unfold val_main_v22
  refine (pad_apply_of_inside (s := S16x4096x3072) (t := S16x4098x3072) ![0, 1, 0] ![0, 1, 0] ![0, 0, 0] _ _ pads_S16x4096x3072_S16x4098x3072_000_110_000 h_S_ (ix3 b p j : S16x4098x3072.Idx) (ix3 b s j) fun a => ?_).trans (product_apply x0 x1 x2 x3 x4 b s j)
  match a with
  | ⟨0, _⟩ => show b.val = 0 + b.val * 1; omega
  | ⟨1, _⟩ => show p.val = 1 + s.val * 1; omega
  | ⟨2, _⟩ => show j.val = 0 + j.val * 1; omega

/-- The two rows the padding adds are zero. -/
theorem padded_outside (p : Fin 4098) (h : p.val = 0 ∨ p.val = 4097) (j : Fin 3072) :
    val_main_v22 (F := Ideal) x0 x1 x2 x3 x4 (ix3 b p j) = 0 := by
  unfold val_main_v22
  refine (pad_apply_of_not_inside (s := S16x4096x3072) (t := S16x4098x3072) ![0, 1, 0] ![0, 1, 0] ![0, 0, 0] _ _ pads_S16x4096x3072_S16x4098x3072_000_110_000 h_S_ (ix3 b p j) 1 ?_).trans ?_
  · show ¬(1 ≤ p.val ∧ (p.val - 1) % 1 = 0 ∧ (p.val - 1) / 1 < 4096)
    omega
  · show ((((0#32 : BitVec 32).toInt : ℝ)) : EReal) = 0
    norm_num

/-- The row above. -/
theorem first_tap (j : Fin 3072) : val_main_v23 (F := Ideal) x0 x1 x2 x3 x4 (ix3 b s j) = above x0 x1 x2 x3 x4 b s j := by
  have e : idx_main_v23 (ix3 b s j) = (ix3 b ⟨s.val, by omega⟩ j : S16x4098x3072.Idx) := by
    funext a
    match a with
    | ⟨0, _⟩ => rfl
    | ⟨1, _⟩ => rfl
    | ⟨2, _⟩ => rfl
  rw [val_main_v23_apply, e]
  unfold above
  by_cases h : s.val = 0
  · rw [if_pos h]
    exact padded_outside x0 x1 x2 x3 x4 b _ (Or.inl h) j
  · rw [if_neg h]
    exact padded_inside x0 x1 x2 x3 x4 b ⟨s.val - 1, by omega⟩ _ (by show s.val = s.val - 1 + 1; omega) j

/-- The row itself. -/
theorem second_tap (j : Fin 3072) : val_main_v29 (F := Ideal) x0 x1 x2 x3 x4 (ix3 b s j) = projected x0 x1 x2 x3 x4 b s j := by
  have e : idx_main_v29 (ix3 b s j) = (ix3 b ⟨1 + s.val, by omega⟩ j : S16x4098x3072.Idx) := by
    funext a
    match a with
    | ⟨0, _⟩ => rfl
    | ⟨1, _⟩ => rfl
    | ⟨2, _⟩ => rfl
  rw [val_main_v29_apply, e]
  exact padded_inside x0 x1 x2 x3 x4 b s _ (Nat.add_comm _ _) j

/-- The row below. -/
theorem third_tap (j : Fin 3072) : val_main_v36 (F := Ideal) x0 x1 x2 x3 x4 (ix3 b s j) = below x0 x1 x2 x3 x4 b s j := by
  have e : idx_main_v36 (ix3 b s j) = (ix3 b ⟨2 + s.val, by omega⟩ j : S16x4098x3072.Idx) := by
    funext a
    match a with
    | ⟨0, _⟩ => rfl
    | ⟨1, _⟩ => rfl
    | ⟨2, _⟩ => rfl
  rw [val_main_v36_apply, e]
  unfold below
  by_cases h : s.val = 4095
  · refine Eq.trans ?_ (dif_pos h).symm
    exact padded_outside x0 x1 x2 x3 x4 b _ (Or.inr (by show 2 + s.val = 4097; omega)) j
  · refine Eq.trans ?_ (dif_neg h).symm
    exact padded_inside x0 x1 x2 x3 x4 b ⟨s.val + 1, by omega⟩ _ (by show 2 + s.val = s.val + 1 + 1; omega) j

/-- The first tap's weight. -/
theorem first_weight (j : Fin 3072) : val_main_v27 (F := Ideal) x5 (ix3 b s j) = x5 (ix2 0 j) := by
  rw [val_main_v27_apply, val_main_v26_apply, val_main_v25_apply, val_main_v24_apply]
  refine congrArg x5 (funext fun a => ?_)
  match a with
  | ⟨0, _⟩ => rfl
  | ⟨1, _⟩ => exact Fin.ext (Nat.mod_eq_of_lt j.isLt)

/-- The second tap's weight. -/
theorem second_weight (j : Fin 3072) : val_main_v33 (F := Ideal) x5 (ix3 b s j) = x5 (ix2 1 j) := by
  rw [val_main_v33_apply, val_main_v32_apply, val_main_v31_apply, val_main_v30_apply]
  refine congrArg x5 (funext fun a => ?_)
  match a with
  | ⟨0, _⟩ => rfl
  | ⟨1, _⟩ => exact Fin.ext (Nat.mod_eq_of_lt j.isLt)

/-- The third tap's weight. -/
theorem third_weight (j : Fin 3072) : val_main_v40 (F := Ideal) x5 (ix3 b s j) = x5 (ix2 2 j) := by
  rw [val_main_v40_apply, val_main_v39_apply, val_main_v38_apply, val_main_v37_apply]
  refine congrArg x5 (funext fun a => ?_)
  match a with
  | ⟨0, _⟩ => rfl
  | ⟨1, _⟩ => exact Fin.ext (Nat.mod_eq_of_lt j.isLt)

/-- The bias. -/
theorem bias_apply (j : Fin 3072) : val_main_v44 (F := Ideal) x6 (ix3 b s j) = x6 (ix1 j) := by
  rw [val_main_v44_apply, val_main_v43_apply]
  refine congrArg x6 (funext fun a => ?_)
  match a with
  | ⟨0, _⟩ => rfl

/-- The filtered product. -/
theorem filtered_apply (j : Fin 3072) : val_main_v45 (F := Ideal) x0 x1 x2 x3 x4 x5 x6 (ix3 b s j) = filtered x0 x1 x2 x3 x4 x5 x6 b s j := by
  rw [val_main_v45_apply, val_main_v42_apply, val_main_v35_apply, val_main_v28_apply, val_main_v34_apply, val_main_v41_apply,
    first_tap, second_tap, third_tap, first_weight, second_weight, third_weight, bias_apply]
  unfold filtered
  rw [mul_comm (x5 (ix2 0 j)), mul_comm (x5 (ix2 1 j)), mul_comm (x5 (ix2 2 j))]
  rfl

/-- `x0` at an index. -/
theorem x0_wanted (o : Fin 1024) : val_main_v46 (F := Ideal) x0 x1 x2 x3 x4 x5 x6 (ix3 b s o) = filtered x0 x1 x2 x3 x4 x5 x6 b s ⟨0 + o.val, by omega⟩ := by
  rw [val_main_v46_apply]
  refine Eq.trans (congrArg _ (funext fun a => ?_)) (filtered_apply x0 x1 x2 x3 x4 x5 x6 b s ⟨0 + o.val, by omega⟩)
  match a with
  | ⟨0, _⟩ => rfl
  | ⟨1, _⟩ => rfl
  | ⟨2, _⟩ => exact Fin.ext (Nat.zero_add _).symm

/-- `u` at an index. -/
theorem u_wanted (o : Fin 1024) : val_main_v49 (F := Ideal) x0 x1 x2 x3 x4 x5 x6 (ix3 b s o)
    = filtered x0 x1 x2 x3 x4 x5 x6 b s ⟨2048 + o.val, by omega⟩ * filtered x0 x1 x2 x3 x4 x5 x6 b s ⟨1024 + o.val, by omega⟩ := by
  rw [val_main_v49_apply, val_main_v48_apply, val_main_v47_apply]
  refine congrArg₂ (· * ·) (Eq.trans (congrArg _ (funext fun a => ?_)) (filtered_apply x0 x1 x2 x3 x4 x5 x6 b s ⟨2048 + o.val, by omega⟩))
    (Eq.trans (congrArg _ (funext fun a => ?_)) (filtered_apply x0 x1 x2 x3 x4 x5 x6 b s ⟨1024 + o.val, by omega⟩))
  · match a with
    | ⟨0, _⟩ => rfl
    | ⟨1, _⟩ => rfl
    | ⟨2, _⟩ => rfl
  · match a with
    | ⟨0, _⟩ => rfl
    | ⟨1, _⟩ => rfl
    | ⟨2, _⟩ => rfl

end Cert.HyReferenceIdeal

end
-- ==== Proof.HyFinal.lean ====
module

public import proofs.«01_k».proof.Proof.HyHost
public import proofs.«01_k».proof.Proof.HyWanted
public import proofs.«01_k».proof.Proof.Gen.HyIdeal.Value
public import Idealize.ShloMosaic.Lib.Pipeline.ValueKit.Geometry

/-! The Hyena projection's result arrays are the reference's. -/

@[expose] public section

set_option maxRecDepth 16384

noncomputable section

namespace Cert.HyIdeal

open Gen
open Idealize.ShloMosaic Idealize.ShloMosaic.ValueIdx Idealize.ShloMosaic.TcCoe Idealize.ShloMosaic.Tactic Idealize.SL.Sem
open Cert.GlaIdeal (entry rowAt coord_toNat)
open Cert.HyReferenceIdeal (projected above below filtered)
open scoped BigOperators

variable (m : (ℓ : Loc nD τ sig) → Buf (Elt Ideal) ℓ) (c : Dev nD)

/-- The arguments the results are made of. -/
abbrev arg0 : FVec Ideal S16x4096x1024 .f32 := m ((c : Thread nD τ).loc main_arg0)
/-- The gain. -/
abbrev arg1 : FVec Ideal S1024 .f32 := m ((c : Thread nD τ).loc main_arg1)
/-- The shifts. -/
abbrev arg2 : FVec Ideal S16x1024 .f32 := m ((c : Thread nD τ).loc main_arg2)
/-- The scales. -/
abbrev arg3 : FVec Ideal S16x1024 .f32 := m ((c : Thread nD τ).loc main_arg3)
/-- The weight. -/
abbrev arg4 : FVec Ideal S1024x3072 .f32 := m ((c : Thread nD τ).loc main_arg4)

/-- The taps. -/
abbrev arg5 : FVec Ideal S3x3072 .f32 := m ((c : Thread nD τ).loc main_arg5)
/-- The bias. -/
abbrev arg6 : FVec Ideal S3072 .f32 := m ((c : Thread nD τ).loc main_arg6)

/-- A row of the array, normed, modulated and multiplied at a point, is that row's product. -/
theorem times_eq (t : Fin cfg0.N) (x : Fin 1024 → EReal) (s : Fin 4096) (h : ∀ d, x d = arg0 m c (ix3 (grid0.coords t 0) s d)) (j : Fin 3072) :
    times (iblk m c 3 t) (iblk m c 4 t) (iblk m c 5 t) (iblk m c 6 t) x j
      = projected (arg0 m c) (arg1 m c) (arg2 m c) (arg3 m c) (arg4 m c) (grid0.coords t 0) s j := by
  have h1 : (fun k => iblk m c 3 t (ix2 0 k : S1x1024.Idx)) = fun k => arg1 m c (ix1 k) := funext (gain_apply m c t)
  have h2 : (fun k => iblk m c 4 t (ix3 0 0 k : S1x1x1024.Idx)) = fun k => arg2 m c (ix2 (grid0.coords t 0) k) := funext (shift_apply m c t)
  have h3 : (fun k => iblk m c 5 t (ix3 0 0 k : S1x1x1024.Idx)) = fun k => arg3 m c (ix2 (grid0.coords t 0) k) := funext (scale_apply m c t)
  refine Finset.sum_congr rfl fun d _ => congrArg₂ (· * ·) ?_ (weight_apply m c t d j)
  unfold normedRow
  exact congr (congr (congr (congr (congrArg entry (funext h)) h1) h3) h2) rfl

/-- The row above a row of a point's block. -/
theorem above_eq (t : Fin cfg0.N) (r : Fin 512) (j : Fin 3072) :
    beforeRow (fun q => times (iblk m c 3 t) (iblk m c 4 t) (iblk m c 5 t) (iblk m c 6 t) (fun k => iblk m c 0 t (ix3 0 q k : S1x512x1024.Idx)) j)
      (if 0 < (grid0.coords t 1).val then times (iblk m c 3 t) (iblk m c 4 t) (iblk m c 5 t) (iblk m c 6 t) (fun k => iblk m c 1 t (ix3 0 7 k : S1x8x1024.Idx)) j else 0) r
      = above (arg0 m c) (arg1 m c) (arg2 m c) (arg3 m c) (arg4 m c) (grid0.coords t 0) (rowAt (grid0.coords t 1) r) j := by
  have hc : (grid0.coords t 1).val < 8 := (grid0.coords t 1).isLt
  have hr := r.isLt
  have hv : (rowAt (grid0.coords t 1) r).val = (grid0.coords t 1).val * 512 + r.val := rfl
  unfold beforeRow above
  by_cases h : r = 0
  · have h0 : r.val = 0 := congrArg Fin.val h
    rw [if_pos h]
    by_cases g : 0 < (grid0.coords t 1).val
    · rw [if_pos g, if_neg (by omega)]
      refine (times_eq m c t _ _ (above_row m c t g) j).trans (congrArg (fun s => projected _ _ _ _ _ _ s j) (Fin.ext ?_))
      show (grid0.coords t 1).val * 512 - 1 = (rowAt (grid0.coords t 1) r).val - 1
      omega
    · rw [if_neg g, if_pos (by omega)]
  · have h0 : r.val ≠ 0 := fun e => h (Fin.ext e)
    rw [if_neg h, if_neg (by omega)]
    refine (times_eq m c t _ _ (rows_apply m c t ⟨r.val - 1, by omega⟩) j).trans (congrArg (fun s => projected _ _ _ _ _ _ s j) (Fin.ext ?_))
    show (grid0.coords t 1).val * 512 + (r.val - 1) = (rowAt (grid0.coords t 1) r).val - 1
    omega

/-- The row below a row of a point's block. -/
theorem below_eq (t : Fin cfg0.N) (r : Fin 512) (j : Fin 3072) :
    afterRow (fun q => times (iblk m c 3 t) (iblk m c 4 t) (iblk m c 5 t) (iblk m c 6 t) (fun k => iblk m c 0 t (ix3 0 q k : S1x512x1024.Idx)) j)
      (if (grid0.coords t 1).val < 7 then times (iblk m c 3 t) (iblk m c 4 t) (iblk m c 5 t) (iblk m c 6 t) (fun k => iblk m c 2 t (ix3 0 0 k : S1x8x1024.Idx)) j else 0) r
      = below (arg0 m c) (arg1 m c) (arg2 m c) (arg3 m c) (arg4 m c) (grid0.coords t 0) (rowAt (grid0.coords t 1) r) j := by
  have hc : (grid0.coords t 1).val < 8 := (grid0.coords t 1).isLt
  have hr := r.isLt
  have hv : (rowAt (grid0.coords t 1) r).val = (grid0.coords t 1).val * 512 + r.val := rfl
  unfold afterRow below
  by_cases h : r.val = 511
  · refine (dif_pos (by first | exact h | exact Fin.ext h)).trans ?_
    by_cases g : (grid0.coords t 1).val < 7
    · rw [if_pos g]
      refine Eq.trans ?_ (dif_neg (by omega)).symm
      refine (times_eq m c t _ _ (below_row m c t g) j).trans (congrArg (fun s => projected _ _ _ _ _ _ s j) (Fin.ext ?_))
      show ((grid0.coords t 1).val + 1) * 512 = (rowAt (grid0.coords t 1) r).val + 1
      omega
    · rw [if_neg g]
      refine Eq.trans ?_ (dif_pos (show (rowAt (grid0.coords t 1) r).val = 4095 by omega)).symm
      rfl
  · refine (dif_neg (by first | exact h | exact fun e => h (congrArg Fin.val e))).trans ?_
    refine Eq.trans ?_ (dif_neg (by omega)).symm
    refine (times_eq m c t _ _ (rows_apply m c t ⟨r.val + 1, by omega⟩) j).trans (congrArg (fun s => projected _ _ _ _ _ _ s j) (Fin.ext ?_))
    show (grid0.coords t 1).val * 512 + (r.val + 1) = (rowAt (grid0.coords t 1) r).val + 1
    omega

/-- A filtered row of a point's block is a filtered row of the array. -/
theorem band_eq (t : Fin cfg0.N) (r : Fin 512) (j : Fin 3072) :
    bandOf (grid0.coords t) (iblk m c 0 t) (iblk m c 1 t) (iblk m c 2 t) (iblk m c 3 t) (iblk m c 4 t) (iblk m c 5 t) (iblk m c 6 t) (iblk m c 7 t) (iblk m c 8 t) j r
      = filtered (arg0 m c) (arg1 m c) (arg2 m c) (arg3 m c) (arg4 m c) (arg5 m c) (arg6 m c) (grid0.coords t 0) (rowAt (grid0.coords t 1) r) j :=
  congrArg₂ (· + ·) (congrArg₂ (· + ·) (congrArg₂ (· + ·)
    (congrArg₂ (· * ·) (taps_apply m c t 0 j) (above_eq m c t r j))
    (congrArg₂ (· * ·) (taps_apply m c t 1 j) (times_eq m c t _ _ (rows_apply m c t r) j)))
    (congrArg₂ (· * ·) (taps_apply m c t 2 j) (below_eq m c t r j)))
    (bias_apply m c t j)

/-- Where a point's block of `x0` lies in the array. -/
theorem x0_emb (t : Fin cfg0.N) (r : Fin 512) (o : Fin 1024) :
    ((cfg0.win 9).blk t).view.emb ((ix3 0 r o : S1x512x1024.Idx)) = (ix3 (grid0.coords t 0) (rowAt (grid0.coords t 1) r) o : S16x4096x1024.Idx) := by
  funext a
  refine Fin.ext ?_
  match a with
  | ⟨0, _⟩ =>
    show (BitVec.ofNat 32 (grid0.coords t 0).val).toNat * 1 + 1 * 0 = (grid0.coords t 0).val
    have h := coord_toNat (grid0.coords t 0) ((by decide : (16 : ℕ) ≤ _))
    omega
  | ⟨1, _⟩ =>
    show (BitVec.ofNat 32 (grid0.coords t 1).val).toNat * 512 + 1 * r.val = (grid0.coords t 1).val * 512 + r.val
    have h := coord_toNat (grid0.coords t 1) ((by decide : (8 : ℕ) ≤ _))
    omega
  | ⟨2, _⟩ => show 0 * 1024 + 1 * o.val = o.val; omega

/-- Every element of `x0` lies in the block of a point. -/
theorem x0_cover (i : S16x4096x1024.Idx) : ∃ t : Fin cfg0.N, (cfg0.win 9).flush t = true ∧ i ∈ ((cfg0.win 9).blk t).view.set := by
  have h0 : (i 0).val < 16 := (i 0).isLt
  have h1 : (i 1).val < 4096 := (i 1).isLt
  have hN : cfg0.N = 128 := N_0
  let t : Fin cfg0.N := ⟨8 * (i 0).val + (i 1).val / 512, by omega⟩
  have e0 : grid0.coords t 0 = i 0 := Fin.ext (by show (8 * (i 0).val + (i 1).val / 512) / 8 % 16 = (i 0).val; omega)
  have e1 : rowAt (grid0.coords t 1) ⟨(i 1).val % 512, by omega⟩ = i 1 := Fin.ext (by
    show (8 * (i 0).val + (i 1).val / 512) / 1 % 8 * 512 + (i 1).val % 512 = (i 1).val
    omega)
  have e : ((cfg0.win 9).blk t).view.emb ((ix3 0 ⟨(i 1).val % 512, by omega⟩ (i 2) : S1x512x1024.Idx)) = i := by
    refine (x0_emb t _ (i 2)).trans ?_
    rw [e0, e1]
    exact (eq_ix3 i).symm
  exact ⟨t, flush0_9 t, Eq.mp (congrArg (fun x => x ∈ ((cfg0.win 9).blk t).view.set) e) (View.emb_mem_set ((cfg0.win 9).blk t).view _)⟩

/-- After the last point `x0` is the reference's. -/
theorem x0_final : (dats m 0 c).arrAt 9 cfg0.N
    = Cert.HyReferenceIdeal.Read.val_main_v46 (F := Ideal) (arg0 m c) (arg1 m c) (arg2 m c) (arg3 m c) (arg4 m c) (arg5 m c) (arg6 m c) := by
  refine Pipeline.Dat.arrAt_eq_of_emb (dats m 0 c) 9 (Cert.HyReferenceIdeal.Read.val_main_v46 (F := Ideal) (arg0 m c) (arg1 m c) (arg2 m c) (arg3 m c) (arg4 m c) (arg5 m c) (arg6 m c)) (fun t hf y => ?_) x0_cover
  obtain ⟨y', hy⟩ : ∃ y' : S1x512x1024.Idx, y' = y := ⟨y, rfl⟩
  obtain ⟨r, o, hr⟩ : ∃ (r : Fin 512) (o : Fin 1024), y' = (ix3 0 r o : S1x512x1024.Idx) := ⟨y' 1, y' 2, by
    funext a
    match a with
    | ⟨0, _⟩ => exact Subsingleton.elim (α := Fin 1) _ _
    | ⟨1, _⟩ => rfl
    | ⟨2, _⟩ => rfl⟩
  have ey : y = (ix3 0 r o : S1x512x1024.Idx) := hy.symm.trans hr
  have w1 := (x0_block (grid0.coords t) (iblk m c 0 t) (iblk m c 1 t) (iblk m c 2 t) (iblk m c 3 t) (iblk m c 4 t) (iblk m c 5 t) (iblk m c 6 t) (iblk m c 7 t) (iblk m c 8 t) r o).trans (band_eq m c t r ⟨0 + o.val, by omega⟩)
  have w2 := (Cert.HyReferenceIdeal.x0_wanted (arg0 m c) (arg1 m c) (arg2 m c) (arg3 m c) (arg4 m c) (arg5 m c) (arg6 m c) (grid0.coords t 0) (rowAt (grid0.coords t 1) r) o)
  have w3 := congrArg (Cert.HyReferenceIdeal.Read.val_main_v46 (F := Ideal) (arg0 m c) (arg1 m c) (arg2 m c) (arg3 m c) (arg4 m c) (arg5 m c) (arg6 m c)) (x0_emb t r o)
  rw [ey]
  exact (congrFun (after0_9 m c t) _).trans (w1.trans (w2.symm.trans w3.symm))

/-- Where a point's block of `u` lies in the array. -/
theorem u_emb (t : Fin cfg0.N) (r : Fin 512) (o : Fin 1024) :
    ((cfg0.win 10).blk t).view.emb ((ix3 0 r o : S1x512x1024.Idx)) = (ix3 (grid0.coords t 0) (rowAt (grid0.coords t 1) r) o : S16x4096x1024.Idx) := by
  funext a
  refine Fin.ext ?_
  match a with
  | ⟨0, _⟩ =>
    show (BitVec.ofNat 32 (grid0.coords t 0).val).toNat * 1 + 1 * 0 = (grid0.coords t 0).val
    have h := coord_toNat (grid0.coords t 0) ((by decide : (16 : ℕ) ≤ _))
    omega
  | ⟨1, _⟩ =>
    show (BitVec.ofNat 32 (grid0.coords t 1).val).toNat * 512 + 1 * r.val = (grid0.coords t 1).val * 512 + r.val
    have h := coord_toNat (grid0.coords t 1) ((by decide : (8 : ℕ) ≤ _))
    omega
  | ⟨2, _⟩ => show 0 * 1024 + 1 * o.val = o.val; omega

/-- Every element of `u` lies in the block of a point. -/
theorem u_cover (i : S16x4096x1024.Idx) : ∃ t : Fin cfg0.N, (cfg0.win 10).flush t = true ∧ i ∈ ((cfg0.win 10).blk t).view.set := by
  have h0 : (i 0).val < 16 := (i 0).isLt
  have h1 : (i 1).val < 4096 := (i 1).isLt
  have hN : cfg0.N = 128 := N_0
  let t : Fin cfg0.N := ⟨8 * (i 0).val + (i 1).val / 512, by omega⟩
  have e0 : grid0.coords t 0 = i 0 := Fin.ext (by show (8 * (i 0).val + (i 1).val / 512) / 8 % 16 = (i 0).val; omega)
  have e1 : rowAt (grid0.coords t 1) ⟨(i 1).val % 512, by omega⟩ = i 1 := Fin.ext (by
    show (8 * (i 0).val + (i 1).val / 512) / 1 % 8 * 512 + (i 1).val % 512 = (i 1).val
    omega)
  have e : ((cfg0.win 10).blk t).view.emb ((ix3 0 ⟨(i 1).val % 512, by omega⟩ (i 2) : S1x512x1024.Idx)) = i := by
    refine (u_emb t _ (i 2)).trans ?_
    rw [e0, e1]
    exact (eq_ix3 i).symm
  exact ⟨t, flush0_10 t, Eq.mp (congrArg (fun x => x ∈ ((cfg0.win 10).blk t).view.set) e) (View.emb_mem_set ((cfg0.win 10).blk t).view _)⟩

/-- After the last point `u` is the reference's. -/
theorem u_final : (dats m 0 c).arrAt 10 cfg0.N
    = Cert.HyReferenceIdeal.Read.val_main_v49 (F := Ideal) (arg0 m c) (arg1 m c) (arg2 m c) (arg3 m c) (arg4 m c) (arg5 m c) (arg6 m c) := by
  refine Pipeline.Dat.arrAt_eq_of_emb (dats m 0 c) 10 (Cert.HyReferenceIdeal.Read.val_main_v49 (F := Ideal) (arg0 m c) (arg1 m c) (arg2 m c) (arg3 m c) (arg4 m c) (arg5 m c) (arg6 m c)) (fun t hf y => ?_) u_cover
  obtain ⟨y', hy⟩ : ∃ y' : S1x512x1024.Idx, y' = y := ⟨y, rfl⟩
  obtain ⟨r, o, hr⟩ : ∃ (r : Fin 512) (o : Fin 1024), y' = (ix3 0 r o : S1x512x1024.Idx) := ⟨y' 1, y' 2, by
    funext a
    match a with
    | ⟨0, _⟩ => exact Subsingleton.elim (α := Fin 1) _ _
    | ⟨1, _⟩ => rfl
    | ⟨2, _⟩ => rfl⟩
  have ey : y = (ix3 0 r o : S1x512x1024.Idx) := hy.symm.trans hr
  have w1 := (u_block (grid0.coords t) (iblk m c 0 t) (iblk m c 1 t) (iblk m c 2 t) (iblk m c 3 t) (iblk m c 4 t) (iblk m c 5 t) (iblk m c 6 t) (iblk m c 7 t) (iblk m c 8 t) r o).trans (congrArg₂ (· * ·) (band_eq m c t r ⟨2048 + o.val, by omega⟩) (band_eq m c t r ⟨1024 + o.val, by omega⟩))
  have w2 := (Cert.HyReferenceIdeal.u_wanted (arg0 m c) (arg1 m c) (arg2 m c) (arg3 m c) (arg4 m c) (arg5 m c) (arg6 m c) (grid0.coords t 0) (rowAt (grid0.coords t 1) r) o)
  have w3 := congrArg (Cert.HyReferenceIdeal.Read.val_main_v49 (F := Ideal) (arg0 m c) (arg1 m c) (arg2 m c) (arg3 m c) (arg4 m c) (arg5 m c) (arg6 m c)) (u_emb t r o)
  rw [ey]
  exact (congrFun (after0_10 m c t) _).trans (w1.trans (w2.symm.trans w3.symm))

end Cert.HyIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_picked
public import proofs.«01_k».proof.Proof.Gen.ReferenceIdeal.Run
public import proofs.«01_k».proof.Proof.Gen.ReferenceIdeal.Read
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaReferenceIdeal
public import proofs.«01_k».proof.Proof.Gen.GlaIdeal.Value
public import proofs.«01_k».proof.Proof.Gen.GlaReferenceIdeal.Run
public import proofs.«01_k».proof.Proof.Gen.GlaReferenceIdeal.Read
public import proofs.«01_k».proof.Proof.Gen.Hy
public import proofs.«01_k».proof.Proof.Gen.Hy.Skeleton
public import proofs.«01_k».proof.Proof.Gen.Hy.Launch
public import proofs.«01_k».proof.Proof.Gen.Hy.Points
public import proofs.«01_k».proof.Proof.Gen.Hy.Frame
public import proofs.«01_k».proof.Proof.Gen.HyIdeal
public import proofs.«01_k».proof.Proof.Gen.HyIdeal.Skeleton
public import proofs.«01_k».proof.Proof.Gen.HyIdeal.Launch
public import proofs.«01_k».proof.Proof.Gen.HyIdeal.Points
public import proofs.«01_k».proof.Proof.Gen.HyIdeal.Frame
public import proofs.«01_k».proof.Proof.Gen.HyReferenceIdeal
public import proofs.«01_k».proof.Proof.Gen.HyIdeal.Value
public import proofs.«01_k».proof.Proof.Gen.HyReferenceIdeal.Run
public import proofs.«01_k».proof.Proof.Gen.HyReferenceIdeal.Read
public import proofs.«01_k».proof.Proof.Frame
public import proofs.«01_k».proof.Proof.Twin
public import proofs.«01_k».proof.Proof.Picked
public import proofs.«01_k».proof.Proof.Final
public import proofs.«01_k».proof.Proof.GlaFinal
public import proofs.«01_k».proof.Proof.HyFinal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The frame of the idealized kernel. -/
theorem frame_kernelIdeal : Cert.quiescent_KernelIdeal :=
  fun m ρ _ => Cert.KernelIdeal.frame m ρ (ok m)

/-- The frame of the reference. -/
theorem frame_reference : Cert.quiescent_ReferenceIdeal :=
  fun m ρ _ => (θ_run Cert.ReferenceIdeal.defs _ _).mono (fun _ h => ⟨fun c => (h c).2, sem_eq_zero_of_no_sems rfl _⟩)
    (Cert.ReferenceIdeal.Value.run (F := Ideal) m ρ)

/-- On tokens in range and in order, the idealized kernel and the reference end with equal results. -/
theorem same_result [hK : Cert.KernelIdeal.Facts] [hR : Cert.ReferenceIdeal.Facts] [hP : Cert.Pre_picked.Facts] : Cert.algebraic_KernelIdeal_ReferenceIdeal_pre_picked := by
  intro m g m' g' pre agree
  choose tok hi hm using fun c => Cert.KernelIdeal.picked_tokens _ _ _ _ _ _ (pre c)
  refine ⟨fun c => Cert.KernelIdeal.result m c (tok c), Cert.KernelIdeal.run_value m g tok hi hm, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v19_eq m' c).trans ?_)
  obtain ⟨a0, a1, a2, a3, a4, a5⟩ := agree c
  rw [a0, a1, a2, a3, a4, a5]
  exact (Cert.KernelIdeal.result_eq_wanted m c (tok c) (hi c)).symm

/-- The frame of the reference of the projections. -/
theorem frame_glaReference : Cert.quiescent_GlaReferenceIdeal :=
  fun m ρ _ => (θ_run Cert.GlaReferenceIdeal.defs _ _).mono (fun _ h => ⟨fun c => (h c).2.2.2.2, sem_eq_zero_of_no_sems rfl _⟩)
    (Cert.GlaReferenceIdeal.Value.run (F := Ideal) m ρ)

/-- The idealized projections and their reference end with equal results. -/
theorem same_projections [hK : Cert.GlaIdeal.Facts] [hR : Cert.GlaReferenceIdeal.Facts] : Cert.algebraic_GlaIdeal_GlaReferenceIdeal := by
  intro m g m' g' _ agree
  refine ⟨fun c => (Cert.GlaIdeal.Gen.dats m 0 c).arrAt 8 Cert.GlaIdeal.cfg0.N, fun c => (Cert.GlaIdeal.Gen.dats m 0 c).arrAt 9 Cert.GlaIdeal.cfg0.N,
    fun c => (Cert.GlaIdeal.Gen.dats m 0 c).arrAt 10 Cert.GlaIdeal.cfg0.N, fun c => (Cert.GlaIdeal.Gen.dats m 0 c).arrAt 11 Cert.GlaIdeal.cfg0.N, ?_, ?_⟩
  · exact (θ_run Cert.GlaIdeal.defs _ _).mono (fun r h c => by
      obtain ⟨q, k, v, w, _, _, rest⟩ := h c
      exact ⟨q, k, v, w, rest⟩) (Cert.GlaIdeal.Value.run_blocks (F := Ideal) m g)
  · refine (θ_run Cert.GlaReferenceIdeal.defs _ _).mono (fun r h c => ?_) (Cert.GlaReferenceIdeal.Value.run (F := Ideal) m' g')
    obtain ⟨q, k, v, w, rest⟩ := h c
    obtain ⟨a0, a1, a2, a3, a4, _⟩ := agree c
    refine ⟨?_, ?_, ?_, ?_, rest⟩
    · refine (q.trans (Cert.GlaReferenceIdeal.Read.val_main_v29_eq _ _ _ _ _)).trans ?_
      rw [a0, a1, a2, a3, a4]
      exact (Cert.GlaIdeal.q_final m c).symm
    · refine (k.trans (Cert.GlaReferenceIdeal.Read.val_main_v23_eq _ _ _ _ _)).trans ?_
      rw [a0, a1, a2, a3, a4]
      exact (Cert.GlaIdeal.k_final m c).symm
    · refine (v.trans (Cert.GlaReferenceIdeal.Read.val_main_v24_eq _ _ _ _ _)).trans ?_
      rw [a0, a1, a2, a3, a4]
      exact (Cert.GlaIdeal.v_final m c).symm
    · refine (w.trans (Cert.GlaReferenceIdeal.Read.val_main_v25_eq _ _ _ _ _)).trans ?_
      rw [a0, a1, a2, a3, a4]
      exact (Cert.GlaIdeal.r_final m c).symm

/-- The frame of the reference of the Hyena projection. -/
theorem frame_hyReference : Cert.quiescent_HyReferenceIdeal :=
  fun m ρ _ => (θ_run Cert.HyReferenceIdeal.defs _ _).mono (fun _ h => ⟨fun c => (h c).2.2, sem_eq_zero_of_no_sems rfl _⟩)
    (Cert.HyReferenceIdeal.Value.run (F := Ideal) m ρ)

/-- The idealized Hyena projection and its reference end with equal results. -/
theorem same_filtered [hK : Cert.HyIdeal.Facts] [hR : Cert.HyReferenceIdeal.Facts] : Cert.algebraic_HyIdeal_HyReferenceIdeal := by
  intro m g m' g' _ agree
  refine ⟨fun c => (Cert.HyIdeal.Gen.dats m 0 c).arrAt 9 Cert.HyIdeal.cfg0.N, fun c => (Cert.HyIdeal.Gen.dats m 0 c).arrAt 10 Cert.HyIdeal.cfg0.N, ?_, ?_⟩
  · exact Cert.HyIdeal.Value.run_blocks (F := Ideal) m g
  · refine (θ_run Cert.HyReferenceIdeal.defs _ _).mono (fun r h c => ?_) (Cert.HyReferenceIdeal.Value.run (F := Ideal) m' g')
    obtain ⟨x, u, rest⟩ := h c
    obtain ⟨a0, a1, a2, a3, a4, a5, a6⟩ := agree c
    refine ⟨?_, ?_, rest⟩
    · refine (x.trans (Cert.HyReferenceIdeal.Read.val_main_v46_eq m' c)).trans ?_
      rw [a0, a1, a2, a3, a4, a5, a6]
      exact (Cert.HyIdeal.x0_final m c).symm
    · refine (u.trans (Cert.HyReferenceIdeal.Read.val_main_v49_eq m' c)).trans ?_
      rw [a0, a1, a2, a3, a4, a5, a6]
      exact (Cert.HyIdeal.u_final m c).symm

/-- Everything that is claimed. -/
theorem claim : Cert.Claim := ⟨Cert.Kernel.Gen.facts, Cert.KernelIdeal.Gen.facts, Cert.ReferenceIdeal.Gen.facts, Cert.Gla.Gen.facts, Cert.GlaIdeal.Gen.facts, Cert.GlaReferenceIdeal.Gen.facts,
  Cert.Hy.Gen.facts, Cert.HyIdeal.Gen.facts, Cert.HyReferenceIdeal.Gen.facts,
  Cert.Pre_picked.Gen.facts, frame_kernel, frame_kernelIdeal, fun m g _ => frame_kernelIdeal m g trivial, frame_reference, fun m g _ => frame_reference m g trivial,
  fun m g _ => Cert.Gla.Gen.frame m g, fun m g _ => Cert.GlaIdeal.Gen.frame m g, frame_glaReference,
  fun m g _ => Cert.Hy.Gen.frame m g, fun m g _ => Cert.HyIdeal.Gen.frame m g, frame_hyReference,
  trivial, same_result, trivial, same_projections, trivial, same_filtered⟩

end Cert.Proof

end
